-- ==== Defs.lean ====
def Pre_Kernel [hPre_sorted_in_range : Cert.Pre_sorted_in_range.Facts] (m : (ℓ : Loc Cert.Kernel.nD Cert.Kernel.τ Cert.Kernel.sig) → Buf (Elt Bits) ℓ) : Prop :=
  ∀ c : Dev Cert.Kernel.nD,
    (Cert.Pre_sorted_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_sorted_in_range : Cert.Pre_sorted_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_sorted_in_range : Cert.Pre_sorted_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_sorted_in_range : Cert.Pre_sorted_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_sorted_in_range : Cert.Pre_sorted_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] [hPre_sorted_in_range : Cert.Pre_sorted_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sorted_in_range : Cert.Pre_sorted_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_sorted_in_range : Cert.Pre_sorted_in_range.Facts),
    quiescent_Kernel (hKernel := hKernel) (hPre_sorted_in_range := hPre_sorted_in_range)
    ∧ quiescent_KernelIdeal (hKernelIdeal := hKernelIdeal) (hPre_sorted_in_range := hPre_sorted_in_range)
    ∧ quiescent_ReferenceIdeal (hReferenceIdeal := hReferenceIdeal) (hPre_sorted_in_range := hPre_sorted_in_range)
    ∧ preserves_Kernel_KernelIdeal
    ∧ algebraic_KernelIdeal_ReferenceIdeal (hKernelIdeal := hKernelIdeal) (hReferenceIdeal := hReferenceIdeal) (hPre_sorted_in_range := hPre_sorted_in_range)
-- ==== Pre_sorted_in_range.lean ====
abbrev S320000x128 : Shape := ⟨2, ![320000, 128]⟩
abbrev S1 : Shape := ⟨1, ![1]⟩
abbrev S320000 : Shape := ⟨1, ![320000]⟩
abbrev S_ : Shape := ⟨0, ![]⟩
abbrev S319999 : Shape := ⟨1, ![319999]⟩

class Facts : Prop where
  bcast_S_S320000 : S_.BroadcastsInDim S320000 (![] : Fin 0 → Fin S320000.rank)
  reducesTo_S320000_S_d0 : S320000.ReducesTo [0] S_
  h_S_ : 0 < S_.numel
  slices_S320000_S319999_0 : S320000.Slices ![0] S319999
  slices_S320000_S319999_1 : S320000.Slices ![1] S319999
  reducesTo_S319999_S_d0 : S319999.ReducesTo [0] S_

variable [Facts]

def fn {F : FTy → Type} [FloatOps F] (main_arg0 : FVec F S320000x128 .f32) (main_arg1 : IVec S1 32) (main_arg2 : IVec S320000 32) : IVec S_ 1 :=
  let main_c : IVec S_ 32 := constantI S_ 32 0#32
  let main_v0 : IVec S320000 32 := broadcastInDim S320000 ![] bcast_S_S320000 main_c
  let main_v1 : IVec S320000 1 := cmpi .sge main_arg2 main_v0
  let main_c_0 : IVec S_ 1 := constantI S_ 1 1#1
  let main_v2 : IVec S_ 1 := (fun x v => Host.reduce IntOp.andi x v reducesTo_S320000_S_d0 h_S_) main_v1 main_c_0
  let main_c_1 : IVec S_ 32 := constantI S_ 32 10000#32
  let main_v3 : IVec S320000 32 := broadcastInDim S320000 ![] bcast_S_S320000 main_c_1
  let main_v4 : IVec S320000 1 := cmpi .slt main_arg2 main_v3
  let main_c_2 : IVec S_ 1 := constantI S_ 1 1#1
  let main_v5 : IVec S_ 1 := (fun x v => Host.reduce IntOp.andi x v reducesTo_S320000_S_d0 h_S_) main_v4 main_c_2
  let main_v6 : IVec S_ 1 := andi main_v2 main_v5
  let main_v7 : IVec S319999 32 := (extractStridedSlice S319999 ![0] · slices_S320000_S319999_0) main_arg2
  let main_v8 : IVec S319999 32 := (extractStridedSlice S319999 ![1] · slices_S320000_S319999_1) main_arg2
  let main_v9 : IVec S319999 1 := cmpi .sle main_v7 main_v8
  let main_c_3 : IVec S_ 1 := constantI S_ 1 1#1
  let main_v10 : IVec S_ 1 := (fun x v => Host.reduce IntOp.andi x v reducesTo_S319999_S_d0 h_S_) main_v9 main_c_3
  let main_v11 : IVec S_ 1 := andi main_v6 main_v10
  main_v11
-- ==== Kernel.lean ====
abbrev S320000x128 : Shape := ⟨2, ![320000, 128]⟩
abbrev S1 : Shape := ⟨1, ![1]⟩
abbrev S320000 : Shape := ⟨1, ![320000]⟩
abbrev S33 : Shape := ⟨1, ![33]⟩
abbrev S_ : Shape := ⟨0, ![]⟩
abbrev S1x320000 : Shape := ⟨2, ![1, 320000]⟩
abbrev S33x1 : Shape := ⟨2, ![33, 1]⟩
abbrev S33x320000 : Shape := ⟨2, ![33, 320000]⟩
abbrev S32x16 : Shape := ⟨2, ![32, 16]⟩
abbrev S32 : Shape := ⟨1, ![32]⟩
abbrev S40960000 : Shape := ⟨1, ![40960000]⟩
abbrev S2560000 : Shape := ⟨1, ![2560000]⟩
abbrev S40960 : Shape := ⟨1, ![40960]⟩
abbrev S352 : Shape := ⟨1, ![352]⟩
abbrev S16 : Shape := ⟨1, ![16]⟩
abbrev S81920 : Shape := ⟨1, ![81920]⟩
abbrev S128 : Shape := ⟨1, ![128]⟩
abbrev S8 : Shape := ⟨1, ![8]⟩
abbrev S2 : Shape := ⟨1, ![2]⟩
abbrev S1x16 : Shape := ⟨2, ![1, 16]⟩
abbrev S20480 : Shape := ⟨1, ![20480]⟩
abbrev S160 : Shape := ⟨1, ![160]⟩
abbrev S10000x256 : Shape := ⟨2, ![10000, 256]⟩

abbrev nBuf : Table → Nat
  | .hbm => 28
  | .local .scVector .smem => 1
  | .local .scVector .vmem => 6
  | _ => 0

abbrev bufTy : (tb : Table) → Fin (nBuf tb) → BufTy
  | .hbm, ⟨0, _⟩ => ⟨S320000x128, .f32⟩
  | .hbm, ⟨1, _⟩ => ⟨S1, .i32⟩
  | .hbm, ⟨2, _⟩ => ⟨S320000, .i32⟩
  | .hbm, ⟨3, _⟩ => ⟨S33, .i32⟩
  | .hbm, ⟨4, _⟩ => ⟨S_, .i32⟩
  | .hbm, ⟨5, _⟩ => ⟨S33, .i32⟩
  | .hbm, ⟨6, _⟩ => ⟨S33, .i32⟩
  | .hbm, ⟨7, _⟩ => ⟨S1x320000, .i32⟩
  | .hbm, ⟨8, _⟩ => ⟨S33x1, .i32⟩
  | .hbm, ⟨9, _⟩ => ⟨S33x320000, .i32⟩
  | .hbm, ⟨10, _⟩ => ⟨S33x320000, .i32⟩
  | .hbm, ⟨11, _⟩ => ⟨S33x320000, .i1⟩
  | .hbm, ⟨12, _⟩ => ⟨S33x320000, .i32⟩
  | .hbm, ⟨13, _⟩ => ⟨S_, .i32⟩
  | .hbm, ⟨14, _⟩ => ⟨S33, .i32⟩
  | .hbm, ⟨15, _⟩ => ⟨S_, .i32⟩
  | .hbm, ⟨16, _⟩ => ⟨S32x16, .i32⟩
  | .hbm, ⟨17, _⟩ => ⟨S32, .i32⟩
  | .hbm, ⟨18, _⟩ => ⟨S_, .i32⟩
  | .hbm, ⟨19, _⟩ => ⟨S1, .i32⟩
  | .hbm, ⟨20, _⟩ => ⟨S32x16, .i32⟩
  | .hbm, ⟨21, _⟩ => ⟨S32, .i32⟩
  | .hbm, ⟨22, _⟩ => ⟨S_, .i32⟩
  | .hbm, ⟨23, _⟩ => ⟨S1, .i32⟩
  | .hbm, ⟨24, _⟩ => ⟨S32x16, .i32⟩
  | .hbm, ⟨25, _⟩ => ⟨S40960000, .f32⟩
  | .hbm, ⟨26, _⟩ => ⟨S2560000, .f32⟩
  | .hbm, ⟨27, _⟩ => ⟨S10000x256, .f32⟩
  | .local .scVector .smem, ⟨0, _⟩ => ⟨S8, .i32⟩
  | .local .scVector .vmem, ⟨0, _⟩ => ⟨S40960, .f32⟩
  | .local .scVector .vmem, ⟨1, _⟩ => ⟨S352, .i32⟩
  | .local .scVector .vmem, ⟨2, _⟩ => ⟨S16, .i32⟩
  | .local .scVector .vmem, ⟨3, _⟩ => ⟨S81920, .f32⟩
  | .local .scVector .vmem, ⟨4, _⟩ => ⟨S128, .f32⟩
  | .local .scVector .vmem, ⟨5, _⟩ => ⟨S128, .f32⟩
  | _, _ => ⟨S320000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v17_scv : Ref sig .scVector := ⟨.hbm, 25, rfl⟩
abbrev main_arg2_scv : Ref sig .scVector := ⟨.hbm, 2, rfl⟩
abbrev main_v16_scv : Ref sig .scVector := ⟨.hbm, 24, rfl⟩
abbrev main_v18_scv : Ref sig .scVector := ⟨.hbm, 26, rfl⟩
abbrev cc0_scratch6 : Ref sig .scVector := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30_r0 : BitVec 32 := 0#32
  ![v1.toNat, 0]
def k0_off2 (v5 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c0_i32_31 : BitVec 32 := 0#32
  let v72 : BitVec 32 := Scalar.addi v25 c0_i32_31
  let c2_i32_32 : BitVec 32 := 2#32
  let c0_i32_33 : BitVec 32 := 0#32
  let v73 : BitVec 1 := Scalar.cmpi .eq c2_i32_32 c0_i32_33
  let c1_i32_34 : BitVec 32 := 1#32
  let v74 : BitVec 32 := Scalar.select v73 c1_i32_34 c2_i32_32
  let v75 : BitVec 32 := Scalar.remsi v72 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c20480_i32_38 : BitVec 32 := 20480#32
  let v84 : BitVec 32 := Scalar.muli v82 c20480_i32_38
  ![v84.toNat]
def k0_cond1 (v5 : BitVec 32) (v7 : BitVec 32) : BitVec 1 :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c0_i32_13 : BitVec 32 := 0#32
  let v45 : BitVec 32 := Scalar.addi v25 c0_i32_13
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v46 : BitVec 1 := Scalar.cmpi .slt v45 v44
  let v47 : BitVec 32 := Scalar.extui v46
  let c0_i32_14 : BitVec 32 := 0#32
  let v48 : BitVec 1 := Scalar.cmpi .ne v47 c0_i32_14
  v48

def k0_off3 (v5 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c0_i32_30 : BitVec 32 := 0#32
  let v71 : BitVec 32 := Scalar.addi v25 c0_i32_30
  let c20480_i32 : BitVec 32 := 20480#32
  let v83 : BitVec 32 := Scalar.muli v71 c20480_i32
  ![v83.toNat]
def k0_off4 (v5 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c0_i32_31 : BitVec 32 := 0#32
  let v72 : BitVec 32 := Scalar.addi v25 c0_i32_31
  let c2_i32_32 : BitVec 32 := 2#32
  let c0_i32_33 : BitVec 32 := 0#32
  let v73 : BitVec 1 := Scalar.cmpi .eq c2_i32_32 c0_i32_33
  let c1_i32_34 : BitVec 32 := 1#32
  let v74 : BitVec 32 := Scalar.select v73 c1_i32_34 c2_i32_32
  let v75 : BitVec 32 := Scalar.remsi v72 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  ![v82.toNat]
def k0_off5 (v5 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c0_i32_31 : BitVec 32 := 0#32
  let v72 : BitVec 32 := Scalar.addi v25 c0_i32_31
  let c2_i32_32 : BitVec 32 := 2#32
  let c0_i32_33 : BitVec 32 := 0#32
  let v73 : BitVec 1 := Scalar.cmpi .eq c2_i32_32 c0_i32_33
  let c1_i32_34 : BitVec 32 := 1#32
  let v74 : BitVec 32 := Scalar.select v73 c1_i32_34 c2_i32_32
  let v75 : BitVec 32 := Scalar.remsi v72 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c176_i32 : BitVec 32 := 176#32
  let v92 : BitVec 32 := Scalar.muli v82 c176_i32
  ![v92.toNat]
def k0_off6 (v5 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c0_i32_30 : BitVec 32 := 0#32
  let v71 : BitVec 32 := Scalar.addi v25 c0_i32_30
  let c160_i32_39 : BitVec 32 := 160#32
  let v91 : BitVec 32 := Scalar.muli v71 c160_i32_39
  ![v91.toNat]
@[reducible] def k0_t1_loop : Scf.Loop 32 :=
  let c0_i32_16 : BitVec 32 := 0#32
  let c320_i32 : BitVec 32 := 320#32
  let v49 : BitVec 32 := Scalar.addi c0_i32_16 c320_i32
  let c1_i32_17 : BitVec 32 := 1#32
  ⟨c0_i32_16, v49, c1_i32_17⟩
def k0_off7 (k0_t1 : Fin k0_t1_loop.trips) (c0_i32_30 : BitVec 32) : Fin 1 → Nat :=
  let c0_i32_16 : BitVec 32 := 0#32
  let c1_i32_17 : BitVec 32 := 1#32
  let arg15 : BitVec 32 := Scf.iv c0_i32_16 c1_i32_17 k0_t1
  let c256_i32 : BitVec 32 := 256#32
  let v71 : BitVec 32 := Scalar.muli arg15 c256_i32
  let v72 : BitVec 32 := Scalar.addi v71 c0_i32_30
  let v73 : Index := Scalar.indexCast v72
  ![v73.toNat]
@[reducible] def k0_t2_loop (v5 : BitVec 32) (v7 : BitVec 32) : Scf.Loop 32 :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_22 : BitVec 32 := 1#32
  ⟨v25, v57, c1_i32_22⟩
def k0_off8 (v5 : BitVec 32) (v7 : BitVec 32) (k0_t2 : Fin (k0_t2_loop v5 v7).trips) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c2_i32_91 : BitVec 32 := 2#32
  let v207 : BitVec 32 := Scalar.addi arg15 c2_i32_91
  let c1_i32_92 : BitVec 32 := 1#32
  let v208 : BitVec 32 := Scalar.subi v207 c1_i32_92
  let c2_i32_93 : BitVec 32 := 2#32
  let c0_i32_94 : BitVec 32 := 0#32
  let v209 : BitVec 1 := Scalar.cmpi .eq c2_i32_93 c0_i32_94
  let c1_i32_95 : BitVec 32 := 1#32
  let v210 : BitVec 32 := Scalar.select v209 c1_i32_95 c2_i32_93
  let v211 : BitVec 32 := Scalar.remsi v208 v210
  let c0_i32_97 : BitVec 32 := 0#32
  let v213 : BitVec 1 := Scalar.cmpi .slt v211 c0_i32_97
  let c0_i32_98 : BitVec 32 := 0#32
  let v214 : BitVec 1 := Scalar.cmpi .slt v210 c0_i32_98
  let v215 : BitVec 1 := Scalar.xori v213 v214
  let c0_i32_96 : BitVec 32 := 0#32
  let v212 : BitVec 1 := Scalar.cmpi .ne v211 c0_i32_96
  let v216 : BitVec 1 := Scalar.andi v215 v212
  let v217 : BitVec 32 := Scalar.addi v211 v210
  let v218 : BitVec 32 := Scalar.select v216 v217 v211
  let c20480_i32_100 : BitVec 32 := 20480#32
  let v220 : BitVec 32 := Scalar.muli v218 c20480_i32_100
  ![v220.toNat]
def k0_cond2 (v5 : BitVec 32) (v7 : BitVec 32) (k0_t2 : Fin (k0_t2_loop v5 v7).trips) : BitVec 1 :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c2_i32_37 : BitVec 32 := 2#32
  let v82 : BitVec 32 := Scalar.addi arg15 c2_i32_37
  let c1_i32_38 : BitVec 32 := 1#32
  let v83 : BitVec 32 := Scalar.subi v82 c1_i32_38
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v84 : BitVec 1 := Scalar.cmpi .slt v83 v44
  let v85 : BitVec 32 := Scalar.extui v84
  let c0_i32_39 : BitVec 32 := 0#32
  let v86 : BitVec 1 := Scalar.cmpi .ne v85 c0_i32_39
  v86

def k0_off9 (v5 : BitVec 32) (v7 : BitVec 32) (k0_t2 : Fin (k0_t2_loop v5 v7).trips) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c2_i32_89 : BitVec 32 := 2#32
  let v205 : BitVec 32 := Scalar.addi arg15 c2_i32_89
  let c1_i32_90 : BitVec 32 := 1#32
  let v206 : BitVec 32 := Scalar.subi v205 c1_i32_90
  let c20480_i32_99 : BitVec 32 := 20480#32
  let v219 : BitVec 32 := Scalar.muli v206 c20480_i32_99
  ![v219.toNat]
def k0_off10 (v5 : BitVec 32) (v7 : BitVec 32) (k0_t2 : Fin (k0_t2_loop v5 v7).trips) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c2_i32_91 : BitVec 32 := 2#32
  let v207 : BitVec 32 := Scalar.addi arg15 c2_i32_91
  let c1_i32_92 : BitVec 32 := 1#32
  let v208 : BitVec 32 := Scalar.subi v207 c1_i32_92
  let c2_i32_93 : BitVec 32 := 2#32
  let c0_i32_94 : BitVec 32 := 0#32
  let v209 : BitVec 1 := Scalar.cmpi .eq c2_i32_93 c0_i32_94
  let c1_i32_95 : BitVec 32 := 1#32
  let v210 : BitVec 32 := Scalar.select v209 c1_i32_95 c2_i32_93
  let v211 : BitVec 32 := Scalar.remsi v208 v210
  let c0_i32_97 : BitVec 32 := 0#32
  let v213 : BitVec 1 := Scalar.cmpi .slt v211 c0_i32_97
  let c0_i32_98 : BitVec 32 := 0#32
  let v214 : BitVec 1 := Scalar.cmpi .slt v210 c0_i32_98
  let v215 : BitVec 1 := Scalar.xori v213 v214
  let c0_i32_96 : BitVec 32 := 0#32
  let v212 : BitVec 1 := Scalar.cmpi .ne v211 c0_i32_96
  let v216 : BitVec 1 := Scalar.andi v215 v212
  let v217 : BitVec 32 := Scalar.addi v211 v210
  let v218 : BitVec 32 := Scalar.select v216 v217 v211
  ![v218.toNat]
def k0_off11 (v5 : BitVec 32) (v7 : BitVec 32) (k0_t2 : Fin (k0_t2_loop v5 v7).trips) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c2_i32_91 : BitVec 32 := 2#32
  let v207 : BitVec 32 := Scalar.addi arg15 c2_i32_91
  let c1_i32_92 : BitVec 32 := 1#32
  let v208 : BitVec 32 := Scalar.subi v207 c1_i32_92
  let c2_i32_93 : BitVec 32 := 2#32
  let c0_i32_94 : BitVec 32 := 0#32
  let v209 : BitVec 1 := Scalar.cmpi .eq c2_i32_93 c0_i32_94
  let c1_i32_95 : BitVec 32 := 1#32
  let v210 : BitVec 32 := Scalar.select v209 c1_i32_95 c2_i32_93
  let v211 : BitVec 32 := Scalar.remsi v208 v210
  let c0_i32_97 : BitVec 32 := 0#32
  let v213 : BitVec 1 := Scalar.cmpi .slt v211 c0_i32_97
  let c0_i32_98 : BitVec 32 := 0#32
  let v214 : BitVec 1 := Scalar.cmpi .slt v210 c0_i32_98
  let v215 : BitVec 1 := Scalar.xori v213 v214
  let c0_i32_96 : BitVec 32 := 0#32
  let v212 : BitVec 1 := Scalar.cmpi .ne v211 c0_i32_96
  let v216 : BitVec 1 := Scalar.andi v215 v212
  let v217 : BitVec 32 := Scalar.addi v211 v210
  let v218 : BitVec 32 := Scalar.select v216 v217 v211
  let c176_i32_102 : BitVec 32 := 176#32
  let v228 : BitVec 32 := Scalar.muli v218 c176_i32_102
  ![v228.toNat]
def k0_off12 (v5 : BitVec 32) (v7 : BitVec 32) (k0_t2 : Fin (k0_t2_loop v5 v7).trips) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c2_i32_89 : BitVec 32 := 2#32
  let v205 : BitVec 32 := Scalar.addi arg15 c2_i32_89
  let c1_i32_90 : BitVec 32 := 1#32
  let v206 : BitVec 32 := Scalar.subi v205 c1_i32_90
  let c160_i32_101 : BitVec 32 := 160#32
  let v227 : BitVec 32 := Scalar.muli v206 c160_i32_101
  ![v227.toNat]
def k0_off13 (v5 : BitVec 32) (v7 : BitVec 32) (k0_t2 : Fin (k0_t2_loop v5 v7).trips) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_40 : BitVec 32 := 20480#32
  let v88 : BitVec 32 := Scalar.muli v80 c20480_i32_40
  ![v88.toNat]
def k0_off14 (v5 : BitVec 32) (v7 : BitVec 32) (k0_t2 : Fin (k0_t2_loop v5 v7).trips) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c20480_i32 : BitVec 32 := 20480#32
  let v87 : BitVec 32 := Scalar.muli arg15 c20480_i32
  ![v87.toNat]
def k0_off15 (v5 : BitVec 32) (v7 : BitVec 32) (k0_t2 : Fin (k0_t2_loop v5 v7).trips) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  ![v80.toNat]
def k0_off16 (v5 : BitVec 32) (v7 : BitVec 32) (k0_t2 : Fin (k0_t2_loop v5 v7).trips) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c176_i32 : BitVec 32 := 176#32
  let v96 : BitVec 32 := Scalar.muli v80 c176_i32
  ![v96.toNat]
def k0_off17 (v5 : BitVec 32) (v7 : BitVec 32) (k0_t2 : Fin (k0_t2_loop v5 v7).trips) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c160_i32_41 : BitVec 32 := 160#32
  let v95 : BitVec 32 := Scalar.muli arg15 c160_i32_41
  ![v95.toNat]
@[reducible] def k0_t3_loop (v5 : BitVec 32) (v7 : BitVec 32) (k0_t2 : Fin (k0_t2_loop v5 v7).trips) : Scf.Loop 32 :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c160_i32_36 : BitVec 32 := 160#32
  let v81 : BitVec 32 := Scalar.muli arg15 c160_i32_36
  let v103 : BitVec 32 := Scalar.maxsi v5 v81
  let v104 : BitVec 32 := Scalar.subi v103 v81
  let c160_i32_42 : BitVec 32 := 160#32
  let v105 : BitVec 32 := Scalar.addi v81 c160_i32_42
  let v106 : BitVec 32 := Scalar.minsi v7 v105
  let v107 : BitVec 32 := Scalar.subi v106 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let v131 : BitVec 32 := Scalar.subi v130 v104
  let c1_i32_55 : BitVec 32 := 1#32
  let v133 : BitVec 32 := Scalar.divsi v131 c1_i32_55
  let v134 : BitVec 32 := Scalar.muli v133 c1_i32_55
  let v135 : BitVec 32 := Scalar.addi v104 v134
  let c1_i32_56 : BitVec 32 := 1#32
  ⟨v104, v135, c1_i32_56⟩
def k0_off18 (v5 : BitVec 32) (v7 : BitVec 32) (k0_t2 : Fin (k0_t2_loop v5 v7).trips) (k0_t3 : Fin (k0_t3_loop v5 v7 k0_t2).trips) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c176_i32_44 : BitVec 32 := 176#32
  let v109 : BitVec 32 := Scalar.muli v80 c176_i32_44
  let c160_i32_36 : BitVec 32 := 160#32
  let v81 : BitVec 32 := Scalar.muli arg15 c160_i32_36
  let v103 : BitVec 32 := Scalar.maxsi v5 v81
  let v104 : BitVec 32 := Scalar.subi v103 v81
  let c1_i32_56 : BitVec 32 := 1#32
  let arg17 : BitVec 32 := Scf.iv v104 c1_i32_56 k0_t3
  let v205 : BitVec 32 := Scalar.addi v109 arg17
  let v206 : Index := Scalar.indexCast v205
  ![v206.toNat]
def k0_off19 (i : grid0.Coords) (v212 : BitVec 32) (c0_i32_146 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_144 : BitVec 32 := 320#32
  let v412 : BitVec 32 := Scalar.muli v1 c320_i32_144
  let v413 : BitVec 32 := Scalar.subi v212 v412
  let c256_i32 : BitVec 32 := 256#32
  let v416 : BitVec 32 := Scalar.muli v413 c256_i32
  let v417 : BitVec 32 := Scalar.addi v416 c0_i32_146
  let v418 : Index := Scalar.indexCast v417
  ![v418.toNat]
def k0_cond3 (v210 : BitVec 32) (v212 : BitVec 32) : BitVec 1 :=
  let v213 : BitVec 1 := Scalar.cmpi .ne v210 v212
  let c0_i32_90 : BitVec 32 := 0#32
  let v214 : BitVec 1 := Scalar.cmpi .sge v212 c0_i32_90
  let v215 : BitVec 1 := Scalar.andi v213 v214
  let v216 : BitVec 32 := Scalar.extui v215
  let c0_i32_91 : BitVec 32 := 0#32
  let v217 : BitVec 1 := Scalar.cmpi .ne v216 c0_i32_91
  v217

def k0_off20 (i : grid0.Coords) (v212 : BitVec 32) (c0_i32_150 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_144 : BitVec 32 := 320#32
  let v412 : BitVec 32 := Scalar.muli v1 c320_i32_144
  let v413 : BitVec 32 := Scalar.subi v212 v412
  let c256_i32_148 : BitVec 32 := 256#32
  let v424 : BitVec 32 := Scalar.muli v413 c256_i32_148
  let c128_i32_149 : BitVec 32 := 128#32
  let v425 : BitVec 32 := Scalar.addi v424 c128_i32_149
  let v426 : BitVec 32 := Scalar.addi v425 c0_i32_150
  let v427 : Index := Scalar.indexCast v426
  ![v427.toNat]

def k0_chk2 (i : grid0.Coords) (v210 : BitVec 32) (v212 : BitVec 32) : Prop :=
  (∀ (k0_h3 : k0_cond3 v210 v212 = 1#1), ∀ (r : Fin 8), ∀ a, (k0_off19 i v212 (BitVec.ofNat 32 (16 * r.val))) a + S16.size a ≤ S81920.size a) ∧
  (∀ (k0_h3 : k0_cond3 v210 v212 = 1#1), ∀ (r : Fin 8), ∀ a, (k0_off20 i v212 (BitVec.ofNat 32 (16 * r.val))) a + S16.size a ≤ S81920.size a)
theorem k0_off19_inb : ∀ (i : grid0.Coords) (v210 : BitVec 32) (v212 : BitVec 32) (k0_hw2 : k0_chk2 i v210 v212), ∀ (k0_h3 : k0_cond3 v210 v212 = 1#1), ∀ (r : Fin 8), ∀ a, (k0_off19 i v212 (BitVec.ofNat 32 (16 * r.val))) a + S16.size a ≤ S81920.size a := fun i v210 v212 k0_hw2 k0_h3 r => k0_hw2.1 k0_h3 r
theorem k0_off20_inb : ∀ (i : grid0.Coords) (v210 : BitVec 32) (v212 : BitVec 32) (k0_hw2 : k0_chk2 i v210 v212), ∀ (k0_h3 : k0_cond3 v210 v212 = 1#1), ∀ (r : Fin 8), ∀ a, (k0_off20 i v212 (BitVec.ofNat 32 (16 * r.val))) a + S16.size a ≤ S81920.size a := fun i v210 v212 k0_hw2 k0_h3 r => k0_hw2.2 k0_h3 r

def k0_off21 (v5 : BitVec 32) (v7 : BitVec 32) (k0_t2 : Fin (k0_t2_loop v5 v7).trips) (k0_t3 : Fin (k0_t3_loop v5 v7 k0_t2).trips) (c0_i32_92 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let v103 : BitVec 32 := Scalar.maxsi v5 v81
  let v104 : BitVec 32 := Scalar.subi v103 v81
  let c1_i32_56 : BitVec 32 := 1#32
  let arg17 : BitVec 32 := Scf.iv v104 c1_i32_56 k0_t3
  let c128_i32 : BitVec 32 := 128#32
  let v218 : BitVec 32 := Scalar.muli arg17 c128_i32
  let v219 : BitVec 32 := Scalar.addi v108 v218
  let v220 : BitVec 32 := Scalar.addi v219 c0_i32_92
  let v221 : Index := Scalar.indexCast v220
  ![v221.toNat]
@[reducible] def k0_t4_loop (v5 : BitVec 32) (v7 : BitVec 32) (k0_t2 : Fin (k0_t2_loop v5 v7).trips) : Scf.Loop 32 :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c160_i32_36 : BitVec 32 := 160#32
  let v81 : BitVec 32 := Scalar.muli arg15 c160_i32_36
  let v103 : BitVec 32 := Scalar.maxsi v5 v81
  let v104 : BitVec 32 := Scalar.subi v103 v81
  let c160_i32_42 : BitVec 32 := 160#32
  let v105 : BitVec 32 := Scalar.addi v81 c160_i32_42
  let v106 : BitVec 32 := Scalar.minsi v7 v105
  let v107 : BitVec 32 := Scalar.subi v106 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let v131 : BitVec 32 := Scalar.subi v130 v104
  let c1_i32_55 : BitVec 32 := 1#32
  let v133 : BitVec 32 := Scalar.divsi v131 c1_i32_55
  let v134 : BitVec 32 := Scalar.muli v133 c1_i32_55
  let v135 : BitVec 32 := Scalar.addi v104 v134
  let v132 : BitVec 32 := Scalar.addi v104 v131
  let c1_i32_57 : BitVec 32 := 1#32
  ⟨v135, v132, c1_i32_57⟩
def k0_off22 (v5 : BitVec 32) (v7 : BitVec 32) (k0_t2 : Fin (k0_t2_loop v5 v7).trips) (k0_t4 : Fin (k0_t4_loop v5 v7 k0_t2).trips) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c176_i32_44 : BitVec 32 := 176#32
  let v109 : BitVec 32 := Scalar.muli v80 c176_i32_44
  let c160_i32_36 : BitVec 32 := 160#32
  let v81 : BitVec 32 := Scalar.muli arg15 c160_i32_36
  let v103 : BitVec 32 := Scalar.maxsi v5 v81
  let v104 : BitVec 32 := Scalar.subi v103 v81
  let c160_i32_42 : BitVec 32 := 160#32
  let v105 : BitVec 32 := Scalar.addi v81 c160_i32_42
  let v106 : BitVec 32 := Scalar.minsi v7 v105
  let v107 : BitVec 32 := Scalar.subi v106 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let v131 : BitVec 32 := Scalar.subi v130 v104
  let c1_i32_55 : BitVec 32 := 1#32
  let v133 : BitVec 32 := Scalar.divsi v131 c1_i32_55
  let v134 : BitVec 32 := Scalar.muli v133 c1_i32_55
  let v135 : BitVec 32 := Scalar.addi v104 v134
  let c1_i32_57 : BitVec 32 := 1#32
  let arg17 : BitVec 32 := Scf.iv v135 c1_i32_57 k0_t4
  let v205 : BitVec 32 := Scalar.addi v109 arg17
  let v206 : Index := Scalar.indexCast v205
  ![v206.toNat]
def k0_off23 (i : grid0.Coords) (v212 : BitVec 32) (c0_i32_146 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_144 : BitVec 32 := 320#32
  let v412 : BitVec 32 := Scalar.muli v1 c320_i32_144
  let v413 : BitVec 32 := Scalar.subi v212 v412
  let c256_i32 : BitVec 32 := 256#32
  let v416 : BitVec 32 := Scalar.muli v413 c256_i32
  let v417 : BitVec 32 := Scalar.addi v416 c0_i32_146
  let v418 : Index := Scalar.indexCast v417
  ![v418.toNat]
def k0_cond4 (v210 : BitVec 32) (v212 : BitVec 32) : BitVec 1 :=
  let v213 : BitVec 1 := Scalar.cmpi .ne v210 v212
  let c0_i32_90 : BitVec 32 := 0#32
  let v214 : BitVec 1 := Scalar.cmpi .sge v212 c0_i32_90
  let v215 : BitVec 1 := Scalar.andi v213 v214
  let v216 : BitVec 32 := Scalar.extui v215
  let c0_i32_91 : BitVec 32 := 0#32
  let v217 : BitVec 1 := Scalar.cmpi .ne v216 c0_i32_91
  v217

def k0_off24 (i : grid0.Coords) (v212 : BitVec 32) (c0_i32_150 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_144 : BitVec 32 := 320#32
  let v412 : BitVec 32 := Scalar.muli v1 c320_i32_144
  let v413 : BitVec 32 := Scalar.subi v212 v412
  let c256_i32_148 : BitVec 32 := 256#32
  let v424 : BitVec 32 := Scalar.muli v413 c256_i32_148
  let c128_i32_149 : BitVec 32 := 128#32
  let v425 : BitVec 32 := Scalar.addi v424 c128_i32_149
  let v426 : BitVec 32 := Scalar.addi v425 c0_i32_150
  let v427 : Index := Scalar.indexCast v426
  ![v427.toNat]

def k0_chk3 (i : grid0.Coords) (v210 : BitVec 32) (v212 : BitVec 32) : Prop :=
  (∀ (k0_h4 : k0_cond4 v210 v212 = 1#1), ∀ (r : Fin 8), ∀ a, (k0_off23 i v212 (BitVec.ofNat 32 (16 * r.val))) a + S16.size a ≤ S81920.size a) ∧
  (∀ (k0_h4 : k0_cond4 v210 v212 = 1#1), ∀ (r : Fin 8), ∀ a, (k0_off24 i v212 (BitVec.ofNat 32 (16 * r.val))) a + S16.size a ≤ S81920.size a)
theorem k0_off23_inb : ∀ (i : grid0.Coords) (v210 : BitVec 32) (v212 : BitVec 32) (k0_hw3 : k0_chk3 i v210 v212), ∀ (k0_h4 : k0_cond4 v210 v212 = 1#1), ∀ (r : Fin 8), ∀ a, (k0_off23 i v212 (BitVec.ofNat 32 (16 * r.val))) a + S16.size a ≤ S81920.size a := fun i v210 v212 k0_hw3 k0_h4 r => k0_hw3.1 k0_h4 r
theorem k0_off24_inb : ∀ (i : grid0.Coords) (v210 : BitVec 32) (v212 : BitVec 32) (k0_hw3 : k0_chk3 i v210 v212), ∀ (k0_h4 : k0_cond4 v210 v212 = 1#1), ∀ (r : Fin 8), ∀ a, (k0_off24 i v212 (BitVec.ofNat 32 (16 * r.val))) a + S16.size a ≤ S81920.size a := fun i v210 v212 k0_hw3 k0_h4 r => k0_hw3.2 k0_h4 r

def k0_off25 (v5 : BitVec 32) (v7 : BitVec 32) (k0_t2 : Fin (k0_t2_loop v5 v7).trips) (k0_t4 : Fin (k0_t4_loop v5 v7 k0_t2).trips) (c0_i32_92 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let v103 : BitVec 32 := Scalar.maxsi v5 v81
  let v104 : BitVec 32 := Scalar.subi v103 v81
  let c160_i32_42 : BitVec 32 := 160#32
  let v105 : BitVec 32 := Scalar.addi v81 c160_i32_42
  let v106 : BitVec 32 := Scalar.minsi v7 v105
  let v107 : BitVec 32 := Scalar.subi v106 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let v131 : BitVec 32 := Scalar.subi v130 v104
  let c1_i32_55 : BitVec 32 := 1#32
  let v133 : BitVec 32 := Scalar.divsi v131 c1_i32_55
  let v134 : BitVec 32 := Scalar.muli v133 c1_i32_55
  let v135 : BitVec 32 := Scalar.addi v104 v134
  let c1_i32_57 : BitVec 32 := 1#32
  let arg17 : BitVec 32 := Scf.iv v135 c1_i32_57 k0_t4
  let c128_i32 : BitVec 32 := 128#32
  let v218 : BitVec 32 := Scalar.muli arg17 c128_i32
  let v219 : BitVec 32 := Scalar.addi v108 v218
  let v220 : BitVec 32 := Scalar.addi v219 c0_i32_92
  let v221 : Index := Scalar.indexCast v220
  ![v221.toNat]
@[reducible] def k0_t5_loop (v5 : BitVec 32) (v7 : BitVec 32) (k0_t2 : Fin (k0_t2_loop v5 v7).trips) : Scf.Loop 32 :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c0_i32_66 : BitVec 32 := 0#32
  let v156 : BitVec 1 := Scalar.cmpi .sgt v107 c0_i32_66
  let v157 : BitVec 32 := Scalar.extui v156
  let c0_i32_67 : BitVec 32 := 0#32
  let v158 : BitVec 1 := Scalar.cmpi .slt v107 c0_i32_67
  let v159 : BitVec 32 := Scalar.extui v158
  let v160 : BitVec 32 := Scalar.subi v157 v159
  let c16_i32_65 : BitVec 32 := 16#32
  let c0_i32_68 : BitVec 32 := 0#32
  let v161 : BitVec 1 := Scalar.cmpi .sgt c16_i32_65 c0_i32_68
  let v162 : BitVec 32 := Scalar.extui v161
  let c0_i32_69 : BitVec 32 := 0#32
  let v163 : BitVec 1 := Scalar.cmpi .slt c16_i32_65 c0_i32_69
  let v164 : BitVec 32 := Scalar.extui v163
  let v165 : BitVec 32 := Scalar.subi v162 v164
  let v166 : BitVec 1 := Scalar.cmpi .ne v160 v165
  let v167 : BitVec 32 := Scalar.remsi v107 c16_i32_65
  let c0_i32_70 : BitVec 32 := 0#32
  let v168 : BitVec 1 := Scalar.cmpi .ne v167 c0_i32_70
  let v169 : BitVec 1 := Scalar.andi v166 v168
  let v155 : BitVec 32 := Scalar.divsi v107 c16_i32_65
  let c1_i32_71 : BitVec 32 := 1#32
  let v170 : BitVec 32 := Scalar.subi v155 c1_i32_71
  let v171 : BitVec 32 := Scalar.select v169 v170 v155
  let v172 : BitVec 32 := Scalar.subi v171 v154
  let c1_i32_73 : BitVec 32 := 1#32
  let v174 : BitVec 32 := Scalar.divsi v172 c1_i32_73
  let v175 : BitVec 32 := Scalar.muli v174 c1_i32_73
  let v176 : BitVec 32 := Scalar.addi v154 v175
  let c1_i32_74 : BitVec 32 := 1#32
  ⟨v154, v176, c1_i32_74⟩
def k0_off26 (v5 : BitVec 32) (v7 : BitVec 32) (k0_t2 : Fin (k0_t2_loop v5 v7).trips) (k0_t5 : Fin (k0_t5_loop v5 v7 k0_t2).trips) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c176_i32_44 : BitVec 32 := 176#32
  let v109 : BitVec 32 := Scalar.muli v80 c176_i32_44
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c1_i32_74 : BitVec 32 := 1#32
  let arg17 : BitVec 32 := Scf.iv v154 c1_i32_74 k0_t5
  let c16_i32_89 : BitVec 32 := 16#32
  let v205 : BitVec 32 := Scalar.muli arg17 c16_i32_89
  let v206 : BitVec 32 := Scalar.addi v109 v205
  let v207 : Index := Scalar.indexCast v206
  ![v207.toNat]
def k0_off27 (v5 : BitVec 32) (v7 : BitVec 32) (k0_t2 : Fin (k0_t2_loop v5 v7).trips) (k0_t5 : Fin (k0_t5_loop v5 v7 k0_t2).trips) (c0_i32_94 : BitVec 32) (c0_i32_95 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c1_i32_74 : BitVec 32 := 1#32
  let arg17 : BitVec 32 := Scf.iv v154 c1_i32_74 k0_t5
  let c16_i32_89 : BitVec 32 := 16#32
  let v205 : BitVec 32 := Scalar.muli arg17 c16_i32_89
  let v220 : BitVec 32 := Scalar.addi v205 c0_i32_94
  let c128_i32 : BitVec 32 := 128#32
  let v221 : BitVec 32 := Scalar.muli v220 c128_i32
  let v222 : BitVec 32 := Scalar.addi v108 v221
  let v223 : BitVec 32 := Scalar.addi v222 c0_i32_95
  let v224 : Index := Scalar.indexCast v223
  ![v224.toNat]
def k0_cond5 (v211 : BitVec 32) (v213 : BitVec 32) : BitVec 1 :=
  let v214 : BitVec 1 := Scalar.cmpi .eq v213 v211
  let v215 : BitVec 32 := Scalar.extui v214
  let c0_i32_91 : BitVec 32 := 0#32
  let v216 : BitVec 1 := Scalar.cmpi .ne v215 c0_i32_91
  v216

def k0_off28 (v5 : BitVec 32) (v7 : BitVec 32) (k0_t2 : Fin (k0_t2_loop v5 v7).trips) (k0_t5 : Fin (k0_t5_loop v5 v7 k0_t2).trips) (c0_i32_104 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c1_i32_74 : BitVec 32 := 1#32
  let arg17 : BitVec 32 := Scf.iv v154 c1_i32_74 k0_t5
  let c16_i32_89 : BitVec 32 := 16#32
  let v205 : BitVec 32 := Scalar.muli arg17 c16_i32_89
  let c0_i32_103 : BitVec 32 := 0#32
  let v255 : BitVec 32 := Scalar.addi v205 c0_i32_103
  let c128_i32 : BitVec 32 := 128#32
  let v256 : BitVec 32 := Scalar.muli v255 c128_i32
  let v257 : BitVec 32 := Scalar.addi v108 v256
  let v258 : BitVec 32 := Scalar.addi v257 c0_i32_104
  let v259 : Index := Scalar.indexCast v258
  ![v259.toNat]
def k0_cond6 (v211 : BitVec 32) (v213 : BitVec 32) : BitVec 1 :=
  let v217 : BitVec 1 := Scalar.cmpi .ne v213 v211
  let v218 : BitVec 32 := Scalar.extui v217
  let c0_i32_92 : BitVec 32 := 0#32
  let v219 : BitVec 1 := Scalar.cmpi .ne v218 c0_i32_92
  v219

def k0_off29 (i : grid0.Coords) (v211 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v211 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond7 (v211 : BitVec 32) (v253 : BitVec 32) : BitVec 1 :=
  let v254 : BitVec 1 := Scalar.cmpi .ne v253 v211
  let c0_i32_120 : BitVec 32 := 0#32
  let v311 : BitVec 1 := Scalar.cmpi .sge v211 c0_i32_120
  let v312 : BitVec 1 := Scalar.andi v254 v311
  let v313 : BitVec 32 := Scalar.extui v312
  let c0_i32_121 : BitVec 32 := 0#32
  let v314 : BitVec 1 := Scalar.cmpi .ne v313 c0_i32_121
  v314

def k0_off30 (i : grid0.Coords) (v211 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v211 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk5 (i : grid0.Coords) (v211 : BitVec 32) (v213 : BitVec 32) (v253 : BitVec 32) : Prop :=
  (∀ (k0_h6 : k0_cond6 v211 v213 = 1#1), ∀ (k0_h7 : k0_cond7 v211 v253 = 1#1), ∀ (r : Fin 8), ∀ a, (k0_off29 i v211 (BitVec.ofNat 32 (16 * r.val))) a + S16.size a ≤ S81920.size a) ∧
  (∀ (k0_h6 : k0_cond6 v211 v213 = 1#1), ∀ (k0_h7 : k0_cond7 v211 v253 = 1#1), ∀ (r : Fin 8), ∀ a, (k0_off30 i v211 (BitVec.ofNat 32 (16 * r.val))) a + S16.size a ≤ S81920.size a)
theorem k0_off29_inb : ∀ (i : grid0.Coords) (v211 : BitVec 32) (v213 : BitVec 32) (v253 : BitVec 32) (k0_hw5 : k0_chk5 i v211 v213 v253), ∀ (k0_h6 : k0_cond6 v211 v213 = 1#1), ∀ (k0_h7 : k0_cond7 v211 v253 = 1#1), ∀ (r : Fin 8), ∀ a, (k0_off29 i v211 (BitVec.ofNat 32 (16 * r.val))) a + S16.size a ≤ S81920.size a := fun i v211 v213 v253 k0_hw5 k0_h6 k0_h7 r => k0_hw5.1 k0_h6 k0_h7 r
theorem k0_off30_inb : ∀ (i : grid0.Coords) (v211 : BitVec 32) (v213 : BitVec 32) (v253 : BitVec 32) (k0_hw5 : k0_chk5 i v211 v213 v253), ∀ (k0_h6 : k0_cond6 v211 v213 = 1#1), ∀ (k0_h7 : k0_cond7 v211 v253 = 1#1), ∀ (r : Fin 8), ∀ a, (k0_off30 i v211 (BitVec.ofNat 32 (16 * r.val))) a + S16.size a ≤ S81920.size a := fun i v211 v213 v253 k0_hw5 k0_h6 k0_h7 r => k0_hw5.2 k0_h6 k0_h7 r

def k0_off31 (v5 : BitVec 32) (v7 : BitVec 32) (k0_t2 : Fin (k0_t2_loop v5 v7).trips) (k0_t5 : Fin (k0_t5_loop v5 v7 k0_t2).trips) (c0_i32_124 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c1_i32_74 : BitVec 32 := 1#32
  let arg17 : BitVec 32 := Scf.iv v154 c1_i32_74 k0_t5
  let c16_i32_89 : BitVec 32 := 16#32
  let v205 : BitVec 32 := Scalar.muli arg17 c16_i32_89
  let c1_i32_122 : BitVec 32 := 1#32
  let v350 : BitVec 32 := Scalar.addi v205 c1_i32_122
  let c128_i32_123 : BitVec 32 := 128#32
  let v351 : BitVec 32 := Scalar.muli v350 c128_i32_123
  let v352 : BitVec 32 := Scalar.addi v108 v351
  let v353 : BitVec 32 := Scalar.addi v352 c0_i32_124
  let v354 : Index := Scalar.indexCast v353
  ![v354.toNat]
def k0_off32 (i : grid0.Coords) (v253 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v253 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond8 (v253 : BitVec 32) (v348 : BitVec 32) : BitVec 1 :=
  let v349 : BitVec 1 := Scalar.cmpi .ne v348 v253
  let c0_i32_146 : BitVec 32 := 0#32
  let v406 : BitVec 1 := Scalar.cmpi .sge v253 c0_i32_146
  let v407 : BitVec 1 := Scalar.andi v349 v406
  let v408 : BitVec 32 := Scalar.extui v407
  let c0_i32_147 : BitVec 32 := 0#32
  let v409 : BitVec 1 := Scalar.cmpi .ne v408 c0_i32_147
  v409

def k0_off33 (i : grid0.Coords) (v253 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v253 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk6 (i : grid0.Coords) (v211 : BitVec 32) (v213 : BitVec 32) (v253 : BitVec 32) (v348 : BitVec 32) : Prop :=
  (∀ (k0_h6 : k0_cond6 v211 v213 = 1#1), ∀ (k0_h8 : k0_cond8 v253 v348 = 1#1), ∀ (r : Fin 8), ∀ a, (k0_off32 i v253 (BitVec.ofNat 32 (16 * r.val))) a + S16.size a ≤ S81920.size a) ∧
  (∀ (k0_h6 : k0_cond6 v211 v213 = 1#1), ∀ (k0_h8 : k0_cond8 v253 v348 = 1#1), ∀ (r : Fin 8), ∀ a, (k0_off33 i v253 (BitVec.ofNat 32 (16 * r.val))) a + S16.size a ≤ S81920.size a)
theorem k0_off32_inb : ∀ (i : grid0.Coords) (v211 : BitVec 32) (v213 : BitVec 32) (v253 : BitVec 32) (v348 : BitVec 32) (k0_hw6 : k0_chk6 i v211 v213 v253 v348), ∀ (k0_h6 : k0_cond6 v211 v213 = 1#1), ∀ (k0_h8 : k0_cond8 v253 v348 = 1#1), ∀ (r : Fin 8), ∀ a, (k0_off32 i v253 (BitVec.ofNat 32 (16 * r.val))) a + S16.size a ≤ S81920.size a := fun i v211 v213 v253 v348 k0_hw6 k0_h6 k0_h8 r => k0_hw6.1 k0_h6 k0_h8 r
theorem k0_off33_inb : ∀ (i : grid0.Coords) (v211 : BitVec 32) (v213 : BitVec 32) (v253 : BitVec 32) (v348 : BitVec 32) (k0_hw6 : k0_chk6 i v211 v213 v253 v348), ∀ (k0_h6 : k0_cond6 v211 v213 = 1#1), ∀ (k0_h8 : k0_cond8 v253 v348 = 1#1), ∀ (r : Fin 8), ∀ a, (k0_off33 i v253 (BitVec.ofNat 32 (16 * r.val))) a + S16.size a ≤ S81920.size a := fun i v211 v213 v253 v348 k0_hw6 k0_h6 k0_h8 r => k0_hw6.2 k0_h6 k0_h8 r

def k0_off34 (v5 : BitVec 32) (v7 : BitVec 32) (k0_t2 : Fin (k0_t2_loop v5 v7).trips) (k0_t5 : Fin (k0_t5_loop v5 v7 k0_t2).trips) (c0_i32_150 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c1_i32_74 : BitVec 32 := 1#32
  let arg17 : BitVec 32 := Scf.iv v154 c1_i32_74 k0_t5
  let c16_i32_89 : BitVec 32 := 16#32
  let v205 : BitVec 32 := Scalar.muli arg17 c16_i32_89
  let c2_i32_148 : BitVec 32 := 2#32
  let v445 : BitVec 32 := Scalar.addi v205 c2_i32_148
  let c128_i32_149 : BitVec 32 := 128#32
  let v446 : BitVec 32 := Scalar.muli v445 c128_i32_149
  let v447 : BitVec 32 := Scalar.addi v108 v446
  let v448 : BitVec 32 := Scalar.addi v447 c0_i32_150
  let v449 : Index := Scalar.indexCast v448
  ![v449.toNat]
def k0_off35 (i : grid0.Coords) (v348 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v348 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond9 (v348 : BitVec 32) (v443 : BitVec 32) : BitVec 1 :=
  let v444 : BitVec 1 := Scalar.cmpi .ne v443 v348
  let c0_i32_172 : BitVec 32 := 0#32
  let v501 : BitVec 1 := Scalar.cmpi .sge v348 c0_i32_172
  let v502 : BitVec 1 := Scalar.andi v444 v501
  let v503 : BitVec 32 := Scalar.extui v502
  let c0_i32_173 : BitVec 32 := 0#32
  let v504 : BitVec 1 := Scalar.cmpi .ne v503 c0_i32_173
  v504

def k0_off36 (i : grid0.Coords) (v348 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v348 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk7 (i : grid0.Coords) (v211 : BitVec 32) (v213 : BitVec 32) (v348 : BitVec 32) (v443 : BitVec 32) : Prop :=
  (∀ (k0_h6 : k0_cond6 v211 v213 = 1#1), ∀ (k0_h9 : k0_cond9 v348 v443 = 1#1), ∀ (r : Fin 8), ∀ a, (k0_off35 i v348 (BitVec.ofNat 32 (16 * r.val))) a + S16.size a ≤ S81920.size a) ∧
  (∀ (k0_h6 : k0_cond6 v211 v213 = 1#1), ∀ (k0_h9 : k0_cond9 v348 v443 = 1#1), ∀ (r : Fin 8), ∀ a, (k0_off36 i v348 (BitVec.ofNat 32 (16 * r.val))) a + S16.size a ≤ S81920.size a)
theorem k0_off35_inb : ∀ (i : grid0.Coords) (v211 : BitVec 32) (v213 : BitVec 32) (v348 : BitVec 32) (v443 : BitVec 32) (k0_hw7 : k0_chk7 i v211 v213 v348 v443), ∀ (k0_h6 : k0_cond6 v211 v213 = 1#1), ∀ (k0_h9 : k0_cond9 v348 v443 = 1#1), ∀ (r : Fin 8), ∀ a, (k0_off35 i v348 (BitVec.ofNat 32 (16 * r.val))) a + S16.size a ≤ S81920.size a := fun i v211 v213 v348 v443 k0_hw7 k0_h6 k0_h9 r => k0_hw7.1 k0_h6 k0_h9 r
theorem k0_off36_inb : ∀ (i : grid0.Coords) (v211 : BitVec 32) (v213 : BitVec 32) (v348 : BitVec 32) (v443 : BitVec 32) (k0_hw7 : k0_chk7 i v211 v213 v348 v443), ∀ (k0_h6 : k0_cond6 v211 v213 = 1#1), ∀ (k0_h9 : k0_cond9 v348 v443 = 1#1), ∀ (r : Fin 8), ∀ a, (k0_off36 i v348 (BitVec.ofNat 32 (16 * r.val))) a + S16.size a ≤ S81920.size a := fun i v211 v213 v348 v443 k0_hw7 k0_h6 k0_h9 r => k0_hw7.2 k0_h6 k0_h9 r

def k0_off37 (v5 : BitVec 32) (v7 : BitVec 32) (k0_t2 : Fin (k0_t2_loop v5 v7).trips) (k0_t5 : Fin (k0_t5_loop v5 v7 k0_t2).trips) (c0_i32_175 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c1_i32_74 : BitVec 32 := 1#32
  let arg17 : BitVec 32 := Scf.iv v154 c1_i32_74 k0_t5
  let c16_i32_89 : BitVec 32 := 16#32
  let v205 : BitVec 32 := Scalar.muli arg17 c16_i32_89
  let c3_i32 : BitVec 32 := 3#32
  let v540 : BitVec 32 := Scalar.addi v205 c3_i32
  let c128_i32_174 : BitVec 32 := 128#32
  let v541 : BitVec 32 := Scalar.muli v540 c128_i32_174
  let v542 : BitVec 32 := Scalar.addi v108 v541
  let v543 : BitVec 32 := Scalar.addi v542 c0_i32_175
  let v544 : Index := Scalar.indexCast v543
  ![v544.toNat]
def k0_off38 (i : grid0.Coords) (v443 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v443 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond10 (v443 : BitVec 32) (v538 : BitVec 32) : BitVec 1 :=
  let v539 : BitVec 1 := Scalar.cmpi .ne v538 v443
  let c0_i32_197 : BitVec 32 := 0#32
  let v596 : BitVec 1 := Scalar.cmpi .sge v443 c0_i32_197
  let v597 : BitVec 1 := Scalar.andi v539 v596
  let v598 : BitVec 32 := Scalar.extui v597
  let c0_i32_198 : BitVec 32 := 0#32
  let v599 : BitVec 1 := Scalar.cmpi .ne v598 c0_i32_198
  v599

def k0_off39 (i : grid0.Coords) (v443 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v443 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk8 (i : grid0.Coords) (v211 : BitVec 32) (v213 : BitVec 32) (v443 : BitVec 32) (v538 : BitVec 32) : Prop :=
  (∀ (k0_h6 : k0_cond6 v211 v213 = 1#1), ∀ (k0_h10 : k0_cond10 v443 v538 = 1#1), ∀ (r : Fin 8), ∀ a, (k0_off38 i v443 (BitVec.ofNat 32 (16 * r.val))) a + S16.size a ≤ S81920.size a) ∧
  (∀ (k0_h6 : k0_cond6 v211 v213 = 1#1), ∀ (k0_h10 : k0_cond10 v443 v538 = 1#1), ∀ (r : Fin 8), ∀ a, (k0_off39 i v443 (BitVec.ofNat 32 (16 * r.val))) a + S16.size a ≤ S81920.size a)
theorem k0_off38_inb : ∀ (i : grid0.Coords) (v211 : BitVec 32) (v213 : BitVec 32) (v443 : BitVec 32) (v538 : BitVec 32) (k0_hw8 : k0_chk8 i v211 v213 v443 v538), ∀ (k0_h6 : k0_cond6 v211 v213 = 1#1), ∀ (k0_h10 : k0_cond10 v443 v538 = 1#1), ∀ (r : Fin 8), ∀ a, (k0_off38 i v443 (BitVec.ofNat 32 (16 * r.val))) a + S16.size a ≤ S81920.size a := fun i v211 v213 v443 v538 k0_hw8 k0_h6 k0_h10 r => k0_hw8.1 k0_h6 k0_h10 r
theorem k0_off39_inb : ∀ (i : grid0.Coords) (v211 : BitVec 32) (v213 : BitVec 32) (v443 : BitVec 32) (v538 : BitVec 32) (k0_hw8 : k0_chk8 i v211 v213 v443 v538), ∀ (k0_h6 : k0_cond6 v211 v213 = 1#1), ∀ (k0_h10 : k0_cond10 v443 v538 = 1#1), ∀ (r : Fin 8), ∀ a, (k0_off39 i v443 (BitVec.ofNat 32 (16 * r.val))) a + S16.size a ≤ S81920.size a := fun i v211 v213 v443 v538 k0_hw8 k0_h6 k0_h10 r => k0_hw8.2 k0_h6 k0_h10 r

def k0_off40 (v5 : BitVec 32) (v7 : BitVec 32) (k0_t2 : Fin (k0_t2_loop v5 v7).trips) (k0_t5 : Fin (k0_t5_loop v5 v7 k0_t2).trips) (c0_i32_200 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c1_i32_74 : BitVec 32 := 1#32
  let arg17 : BitVec 32 := Scf.iv v154 c1_i32_74 k0_t5
  let c16_i32_89 : BitVec 32 := 16#32
  let v205 : BitVec 32 := Scalar.muli arg17 c16_i32_89
  let c4_i32 : BitVec 32 := 4#32
  let v635 : BitVec 32 := Scalar.addi v205 c4_i32
  let c128_i32_199 : BitVec 32 := 128#32
  let v636 : BitVec 32 := Scalar.muli v635 c128_i32_199
  let v637 : BitVec 32 := Scalar.addi v108 v636
  let v638 : BitVec 32 := Scalar.addi v637 c0_i32_200
  let v639 : Index := Scalar.indexCast v638
  ![v639.toNat]
def k0_off41 (i : grid0.Coords) (v538 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v538 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond11 (v538 : BitVec 32) (v633 : BitVec 32) : BitVec 1 :=
  let v634 : BitVec 1 := Scalar.cmpi .ne v633 v538
  let c0_i32_222 : BitVec 32 := 0#32
  let v691 : BitVec 1 := Scalar.cmpi .sge v538 c0_i32_222
  let v692 : BitVec 1 := Scalar.andi v634 v691
  let v693 : BitVec 32 := Scalar.extui v692
  let c0_i32_223 : BitVec 32 := 0#32
  let v694 : BitVec 1 := Scalar.cmpi .ne v693 c0_i32_223
  v694

def k0_off42 (i : grid0.Coords) (v538 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v538 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk9 (i : grid0.Coords) (v211 : BitVec 32) (v213 : BitVec 32) (v538 : BitVec 32) (v633 : BitVec 32) : Prop :=
  (∀ (k0_h6 : k0_cond6 v211 v213 = 1#1), ∀ (k0_h11 : k0_cond11 v538 v633 = 1#1), ∀ (r : Fin 8), ∀ a, (k0_off41 i v538 (BitVec.ofNat 32 (16 * r.val))) a + S16.size a ≤ S81920.size a) ∧
  (∀ (k0_h6 : k0_cond6 v211 v213 = 1#1), ∀ (k0_h11 : k0_cond11 v538 v633 = 1#1), ∀ (r : Fin 8), ∀ a, (k0_off42 i v538 (BitVec.ofNat 32 (16 * r.val))) a + S16.size a ≤ S81920.size a)
theorem k0_off41_inb : ∀ (i : grid0.Coords) (v211 : BitVec 32) (v213 : BitVec 32) (v538 : BitVec 32) (v633 : BitVec 32) (k0_hw9 : k0_chk9 i v211 v213 v538 v633), ∀ (k0_h6 : k0_cond6 v211 v213 = 1#1), ∀ (k0_h11 : k0_cond11 v538 v633 = 1#1), ∀ (r : Fin 8), ∀ a, (k0_off41 i v538 (BitVec.ofNat 32 (16 * r.val))) a + S16.size a ≤ S81920.size a := fun i v211 v213 v538 v633 k0_hw9 k0_h6 k0_h11 r => k0_hw9.1 k0_h6 k0_h11 r
theorem k0_off42_inb : ∀ (i : grid0.Coords) (v211 : BitVec 32) (v213 : BitVec 32) (v538 : BitVec 32) (v633 : BitVec 32) (k0_hw9 : k0_chk9 i v211 v213 v538 v633), ∀ (k0_h6 : k0_cond6 v211 v213 = 1#1), ∀ (k0_h11 : k0_cond11 v538 v633 = 1#1), ∀ (r : Fin 8), ∀ a, (k0_off42 i v538 (BitVec.ofNat 32 (16 * r.val))) a + S16.size a ≤ S81920.size a := fun i v211 v213 v538 v633 k0_hw9 k0_h6 k0_h11 r => k0_hw9.2 k0_h6 k0_h11 r

def k0_off43 (v5 : BitVec 32) (v7 : BitVec 32) (k0_t2 : Fin (k0_t2_loop v5 v7).trips) (k0_t5 : Fin (k0_t5_loop v5 v7 k0_t2).trips) (c0_i32_225 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c1_i32_74 : BitVec 32 := 1#32
  let arg17 : BitVec 32 := Scf.iv v154 c1_i32_74 k0_t5
  let c16_i32_89 : BitVec 32 := 16#32
  let v205 : BitVec 32 := Scalar.muli arg17 c16_i32_89
  let c5_i32 : BitVec 32 := 5#32
  let v730 : BitVec 32 := Scalar.addi v205 c5_i32
  let c128_i32_224 : BitVec 32 := 128#32
  let v731 : BitVec 32 := Scalar.muli v730 c128_i32_224
  let v732 : BitVec 32 := Scalar.addi v108 v731
  let v733 : BitVec 32 := Scalar.addi v732 c0_i32_225
  let v734 : Index := Scalar.indexCast v733
  ![v734.toNat]
def k0_off44 (i : grid0.Coords) (v633 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v633 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond12 (v633 : BitVec 32) (v728 : BitVec 32) : BitVec 1 :=
  let v729 : BitVec 1 := Scalar.cmpi .ne v728 v633
  let c0_i32_247 : BitVec 32 := 0#32
  let v786 : BitVec 1 := Scalar.cmpi .sge v633 c0_i32_247
  let v787 : BitVec 1 := Scalar.andi v729 v786
  let v788 : BitVec 32 := Scalar.extui v787
  let c0_i32_248 : BitVec 32 := 0#32
  let v789 : BitVec 1 := Scalar.cmpi .ne v788 c0_i32_248
  v789

def k0_off45 (i : grid0.Coords) (v633 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v633 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk10 (i : grid0.Coords) (v211 : BitVec 32) (v213 : BitVec 32) (v633 : BitVec 32) (v728 : BitVec 32) : Prop :=
  (∀ (k0_h6 : k0_cond6 v211 v213 = 1#1), ∀ (k0_h12 : k0_cond12 v633 v728 = 1#1), ∀ (r : Fin 8), ∀ a, (k0_off44 i v633 (BitVec.ofNat 32 (16 * r.val))) a + S16.size a ≤ S81920.size a) ∧
  (∀ (k0_h6 : k0_cond6 v211 v213 = 1#1), ∀ (k0_h12 : k0_cond12 v633 v728 = 1#1), ∀ (r : Fin 8), ∀ a, (k0_off45 i v633 (BitVec.ofNat 32 (16 * r.val))) a + S16.size a ≤ S81920.size a)
theorem k0_off44_inb : ∀ (i : grid0.Coords) (v211 : BitVec 32) (v213 : BitVec 32) (v633 : BitVec 32) (v728 : BitVec 32) (k0_hw10 : k0_chk10 i v211 v213 v633 v728), ∀ (k0_h6 : k0_cond6 v211 v213 = 1#1), ∀ (k0_h12 : k0_cond12 v633 v728 = 1#1), ∀ (r : Fin 8), ∀ a, (k0_off44 i v633 (BitVec.ofNat 32 (16 * r.val))) a + S16.size a ≤ S81920.size a := fun i v211 v213 v633 v728 k0_hw10 k0_h6 k0_h12 r => k0_hw10.1 k0_h6 k0_h12 r
theorem k0_off45_inb : ∀ (i : grid0.Coords) (v211 : BitVec 32) (v213 : BitVec 32) (v633 : BitVec 32) (v728 : BitVec 32) (k0_hw10 : k0_chk10 i v211 v213 v633 v728), ∀ (k0_h6 : k0_cond6 v211 v213 = 1#1), ∀ (k0_h12 : k0_cond12 v633 v728 = 1#1), ∀ (r : Fin 8), ∀ a, (k0_off45 i v633 (BitVec.ofNat 32 (16 * r.val))) a + S16.size a ≤ S81920.size a := fun i v211 v213 v633 v728 k0_hw10 k0_h6 k0_h12 r => k0_hw10.2 k0_h6 k0_h12 r

def k0_off46 (v5 : BitVec 32) (v7 : BitVec 32) (k0_t2 : Fin (k0_t2_loop v5 v7).trips) (k0_t5 : Fin (k0_t5_loop v5 v7 k0_t2).trips) (c0_i32_250 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c1_i32_74 : BitVec 32 := 1#32
  let arg17 : BitVec 32 := Scf.iv v154 c1_i32_74 k0_t5
  let c16_i32_89 : BitVec 32 := 16#32
  let v205 : BitVec 32 := Scalar.muli arg17 c16_i32_89
  let c6_i32 : BitVec 32 := 6#32
  let v825 : BitVec 32 := Scalar.addi v205 c6_i32
  let c128_i32_249 : BitVec 32 := 128#32
  let v826 : BitVec 32 := Scalar.muli v825 c128_i32_249
  let v827 : BitVec 32 := Scalar.addi v108 v826
  let v828 : BitVec 32 := Scalar.addi v827 c0_i32_250
  let v829 : Index := Scalar.indexCast v828
  ![v829.toNat]
def k0_off47 (i : grid0.Coords) (v728 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v728 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond13 (v728 : BitVec 32) (v823 : BitVec 32) : BitVec 1 :=
  let v824 : BitVec 1 := Scalar.cmpi .ne v823 v728
  let c0_i32_272 : BitVec 32 := 0#32
  let v881 : BitVec 1 := Scalar.cmpi .sge v728 c0_i32_272
  let v882 : BitVec 1 := Scalar.andi v824 v881
  let v883 : BitVec 32 := Scalar.extui v882
  let c0_i32_273 : BitVec 32 := 0#32
  let v884 : BitVec 1 := Scalar.cmpi .ne v883 c0_i32_273
  v884

def k0_off48 (i : grid0.Coords) (v728 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v728 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk11 (i : grid0.Coords) (v211 : BitVec 32) (v213 : BitVec 32) (v728 : BitVec 32) (v823 : BitVec 32) : Prop :=
  (∀ (k0_h6 : k0_cond6 v211 v213 = 1#1), ∀ (k0_h13 : k0_cond13 v728 v823 = 1#1), ∀ (r : Fin 8), ∀ a, (k0_off47 i v728 (BitVec.ofNat 32 (16 * r.val))) a + S16.size a ≤ S81920.size a) ∧
  (∀ (k0_h6 : k0_cond6 v211 v213 = 1#1), ∀ (k0_h13 : k0_cond13 v728 v823 = 1#1), ∀ (r : Fin 8), ∀ a, (k0_off48 i v728 (BitVec.ofNat 32 (16 * r.val))) a + S16.size a ≤ S81920.size a)
theorem k0_off47_inb : ∀ (i : grid0.Coords) (v211 : BitVec 32) (v213 : BitVec 32) (v728 : BitVec 32) (v823 : BitVec 32) (k0_hw11 : k0_chk11 i v211 v213 v728 v823), ∀ (k0_h6 : k0_cond6 v211 v213 = 1#1), ∀ (k0_h13 : k0_cond13 v728 v823 = 1#1), ∀ (r : Fin 8), ∀ a, (k0_off47 i v728 (BitVec.ofNat 32 (16 * r.val))) a + S16.size a ≤ S81920.size a := fun i v211 v213 v728 v823 k0_hw11 k0_h6 k0_h13 r => k0_hw11.1 k0_h6 k0_h13 r
theorem k0_off48_inb : ∀ (i : grid0.Coords) (v211 : BitVec 32) (v213 : BitVec 32) (v728 : BitVec 32) (v823 : BitVec 32) (k0_hw11 : k0_chk11 i v211 v213 v728 v823), ∀ (k0_h6 : k0_cond6 v211 v213 = 1#1), ∀ (k0_h13 : k0_cond13 v728 v823 = 1#1), ∀ (r : Fin 8), ∀ a, (k0_off48 i v728 (BitVec.ofNat 32 (16 * r.val))) a + S16.size a ≤ S81920.size a := fun i v211 v213 v728 v823 k0_hw11 k0_h6 k0_h13 r => k0_hw11.2 k0_h6 k0_h13 r

def k0_off49 (v5 : BitVec 32) (v7 : BitVec 32) (k0_t2 : Fin (k0_t2_loop v5 v7).trips) (k0_t5 : Fin (k0_t5_loop v5 v7 k0_t2).trips) (c0_i32_275 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c1_i32_74 : BitVec 32 := 1#32
  let arg17 : BitVec 32 := Scf.iv v154 c1_i32_74 k0_t5
  let c16_i32_89 : BitVec 32 := 16#32
  let v205 : BitVec 32 := Scalar.muli arg17 c16_i32_89
  let c7_i32 : BitVec 32 := 7#32
  let v920 : BitVec 32 := Scalar.addi v205 c7_i32
  let c128_i32_274 : BitVec 32 := 128#32
  let v921 : BitVec 32 := Scalar.muli v920 c128_i32_274
  let v922 : BitVec 32 := Scalar.addi v108 v921
  let v923 : BitVec 32 := Scalar.addi v922 c0_i32_275
  let v924 : Index := Scalar.indexCast v923
  ![v924.toNat]
def k0_off50 (i : grid0.Coords) (v823 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v823 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond14 (v823 : BitVec 32) (v918 : BitVec 32) : BitVec 1 :=
  let v919 : BitVec 1 := Scalar.cmpi .ne v918 v823
  let c0_i32_297 : BitVec 32 := 0#32
  let v976 : BitVec 1 := Scalar.cmpi .sge v823 c0_i32_297
  let v977 : BitVec 1 := Scalar.andi v919 v976
  let v978 : BitVec 32 := Scalar.extui v977
  let c0_i32_298 : BitVec 32 := 0#32
  let v979 : BitVec 1 := Scalar.cmpi .ne v978 c0_i32_298
  v979

def k0_off51 (i : grid0.Coords) (v823 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v823 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk12 (i : grid0.Coords) (v211 : BitVec 32) (v213 : BitVec 32) (v823 : BitVec 32) (v918 : BitVec 32) : Prop :=
  (∀ (k0_h6 : k0_cond6 v211 v213 = 1#1), ∀ (k0_h14 : k0_cond14 v823 v918 = 1#1), ∀ (r : Fin 8), ∀ a, (k0_off50 i v823 (BitVec.ofNat 32 (16 * r.val))) a + S16.size a ≤ S81920.size a) ∧
  (∀ (k0_h6 : k0_cond6 v211 v213 = 1#1), ∀ (k0_h14 : k0_cond14 v823 v918 = 1#1), ∀ (r : Fin 8), ∀ a, (k0_off51 i v823 (BitVec.ofNat 32 (16 * r.val))) a + S16.size a ≤ S81920.size a)
theorem k0_off50_inb : ∀ (i : grid0.Coords) (v211 : BitVec 32) (v213 : BitVec 32) (v823 : BitVec 32) (v918 : BitVec 32) (k0_hw12 : k0_chk12 i v211 v213 v823 v918), ∀ (k0_h6 : k0_cond6 v211 v213 = 1#1), ∀ (k0_h14 : k0_cond14 v823 v918 = 1#1), ∀ (r : Fin 8), ∀ a, (k0_off50 i v823 (BitVec.ofNat 32 (16 * r.val))) a + S16.size a ≤ S81920.size a := fun i v211 v213 v823 v918 k0_hw12 k0_h6 k0_h14 r => k0_hw12.1 k0_h6 k0_h14 r
theorem k0_off51_inb : ∀ (i : grid0.Coords) (v211 : BitVec 32) (v213 : BitVec 32) (v823 : BitVec 32) (v918 : BitVec 32) (k0_hw12 : k0_chk12 i v211 v213 v823 v918), ∀ (k0_h6 : k0_cond6 v211 v213 = 1#1), ∀ (k0_h14 : k0_cond14 v823 v918 = 1#1), ∀ (r : Fin 8), ∀ a, (k0_off51 i v823 (BitVec.ofNat 32 (16 * r.val))) a + S16.size a ≤ S81920.size a := fun i v211 v213 v823 v918 k0_hw12 k0_h6 k0_h14 r => k0_hw12.2 k0_h6 k0_h14 r

def k0_off52 (v5 : BitVec 32) (v7 : BitVec 32) (k0_t2 : Fin (k0_t2_loop v5 v7).trips) (k0_t5 : Fin (k0_t5_loop v5 v7 k0_t2).trips) (c0_i32_300 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c1_i32_74 : BitVec 32 := 1#32
  let arg17 : BitVec 32 := Scf.iv v154 c1_i32_74 k0_t5
  let c16_i32_89 : BitVec 32 := 16#32
  let v205 : BitVec 32 := Scalar.muli arg17 c16_i32_89
  let c8_i32 : BitVec 32 := 8#32
  let v1015 : BitVec 32 := Scalar.addi v205 c8_i32
  let c128_i32_299 : BitVec 32 := 128#32
  let v1016 : BitVec 32 := Scalar.muli v1015 c128_i32_299
  let v1017 : BitVec 32 := Scalar.addi v108 v1016
  let v1018 : BitVec 32 := Scalar.addi v1017 c0_i32_300
  let v1019 : Index := Scalar.indexCast v1018
  ![v1019.toNat]
def k0_off53 (i : grid0.Coords) (v918 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v918 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond15 (v918 : BitVec 32) (v1013 : BitVec 32) : BitVec 1 :=
  let v1014 : BitVec 1 := Scalar.cmpi .ne v1013 v918
  let c0_i32_322 : BitVec 32 := 0#32
  let v1071 : BitVec 1 := Scalar.cmpi .sge v918 c0_i32_322
  let v1072 : BitVec 1 := Scalar.andi v1014 v1071
  let v1073 : BitVec 32 := Scalar.extui v1072
  let c0_i32_323 : BitVec 32 := 0#32
  let v1074 : BitVec 1 := Scalar.cmpi .ne v1073 c0_i32_323
  v1074

def k0_off54 (i : grid0.Coords) (v918 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v918 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk13 (i : grid0.Coords) (v211 : BitVec 32) (v213 : BitVec 32) (v918 : BitVec 32) (v1013 : BitVec 32) : Prop :=
  (∀ (k0_h6 : k0_cond6 v211 v213 = 1#1), ∀ (k0_h15 : k0_cond15 v918 v1013 = 1#1), ∀ (r : Fin 8), ∀ a, (k0_off53 i v918 (BitVec.ofNat 32 (16 * r.val))) a + S16.size a ≤ S81920.size a) ∧
  (∀ (k0_h6 : k0_cond6 v211 v213 = 1#1), ∀ (k0_h15 : k0_cond15 v918 v1013 = 1#1), ∀ (r : Fin 8), ∀ a, (k0_off54 i v918 (BitVec.ofNat 32 (16 * r.val))) a + S16.size a ≤ S81920.size a)
theorem k0_off53_inb : ∀ (i : grid0.Coords) (v211 : BitVec 32) (v213 : BitVec 32) (v918 : BitVec 32) (v1013 : BitVec 32) (k0_hw13 : k0_chk13 i v211 v213 v918 v1013), ∀ (k0_h6 : k0_cond6 v211 v213 = 1#1), ∀ (k0_h15 : k0_cond15 v918 v1013 = 1#1), ∀ (r : Fin 8), ∀ a, (k0_off53 i v918 (BitVec.ofNat 32 (16 * r.val))) a + S16.size a ≤ S81920.size a := fun i v211 v213 v918 v1013 k0_hw13 k0_h6 k0_h15 r => k0_hw13.1 k0_h6 k0_h15 r
theorem k0_off54_inb : ∀ (i : grid0.Coords) (v211 : BitVec 32) (v213 : BitVec 32) (v918 : BitVec 32) (v1013 : BitVec 32) (k0_hw13 : k0_chk13 i v211 v213 v918 v1013), ∀ (k0_h6 : k0_cond6 v211 v213 = 1#1), ∀ (k0_h15 : k0_cond15 v918 v1013 = 1#1), ∀ (r : Fin 8), ∀ a, (k0_off54 i v918 (BitVec.ofNat 32 (16 * r.val))) a + S16.size a ≤ S81920.size a := fun i v211 v213 v918 v1013 k0_hw13 k0_h6 k0_h15 r => k0_hw13.2 k0_h6 k0_h15 r

def k0_off55 (v5 : BitVec 32) (v7 : BitVec 32) (k0_t2 : Fin (k0_t2_loop v5 v7).trips) (k0_t5 : Fin (k0_t5_loop v5 v7 k0_t2).trips) (c0_i32_325 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c1_i32_74 : BitVec 32 := 1#32
  let arg17 : BitVec 32 := Scf.iv v154 c1_i32_74 k0_t5
  let c16_i32_89 : BitVec 32 := 16#32
  let v205 : BitVec 32 := Scalar.muli arg17 c16_i32_89
  let c9_i32 : BitVec 32 := 9#32
  let v1110 : BitVec 32 := Scalar.addi v205 c9_i32
  let c128_i32_324 : BitVec 32 := 128#32
  let v1111 : BitVec 32 := Scalar.muli v1110 c128_i32_324
  let v1112 : BitVec 32 := Scalar.addi v108 v1111
  let v1113 : BitVec 32 := Scalar.addi v1112 c0_i32_325
  let v1114 : Index := Scalar.indexCast v1113
  ![v1114.toNat]
def k0_off56 (i : grid0.Coords) (v1013 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1013 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond16 (v1013 : BitVec 32) (v1108 : BitVec 32) : BitVec 1 :=
  let v1109 : BitVec 1 := Scalar.cmpi .ne v1108 v1013
  let c0_i32_347 : BitVec 32 := 0#32
  let v1166 : BitVec 1 := Scalar.cmpi .sge v1013 c0_i32_347
  let v1167 : BitVec 1 := Scalar.andi v1109 v1166
  let v1168 : BitVec 32 := Scalar.extui v1167
  let c0_i32_348 : BitVec 32 := 0#32
  let v1169 : BitVec 1 := Scalar.cmpi .ne v1168 c0_i32_348
  v1169

def k0_off57 (i : grid0.Coords) (v1013 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1013 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk14 (i : grid0.Coords) (v211 : BitVec 32) (v213 : BitVec 32) (v1013 : BitVec 32) (v1108 : BitVec 32) : Prop :=
  (∀ (k0_h6 : k0_cond6 v211 v213 = 1#1), ∀ (k0_h16 : k0_cond16 v1013 v1108 = 1#1), ∀ (r : Fin 8), ∀ a, (k0_off56 i v1013 (BitVec.ofNat 32 (16 * r.val))) a + S16.size a ≤ S81920.size a) ∧
  (∀ (k0_h6 : k0_cond6 v211 v213 = 1#1), ∀ (k0_h16 : k0_cond16 v1013 v1108 = 1#1), ∀ (r : Fin 8), ∀ a, (k0_off57 i v1013 (BitVec.ofNat 32 (16 * r.val))) a + S16.size a ≤ S81920.size a)
theorem k0_off56_inb : ∀ (i : grid0.Coords) (v211 : BitVec 32) (v213 : BitVec 32) (v1013 : BitVec 32) (v1108 : BitVec 32) (k0_hw14 : k0_chk14 i v211 v213 v1013 v1108), ∀ (k0_h6 : k0_cond6 v211 v213 = 1#1), ∀ (k0_h16 : k0_cond16 v1013 v1108 = 1#1), ∀ (r : Fin 8), ∀ a, (k0_off56 i v1013 (BitVec.ofNat 32 (16 * r.val))) a + S16.size a ≤ S81920.size a := fun i v211 v213 v1013 v1108 k0_hw14 k0_h6 k0_h16 r => k0_hw14.1 k0_h6 k0_h16 r
theorem k0_off57_inb : ∀ (i : grid0.Coords) (v211 : BitVec 32) (v213 : BitVec 32) (v1013 : BitVec 32) (v1108 : BitVec 32) (k0_hw14 : k0_chk14 i v211 v213 v1013 v1108), ∀ (k0_h6 : k0_cond6 v211 v213 = 1#1), ∀ (k0_h16 : k0_cond16 v1013 v1108 = 1#1), ∀ (r : Fin 8), ∀ a, (k0_off57 i v1013 (BitVec.ofNat 32 (16 * r.val))) a + S16.size a ≤ S81920.size a := fun i v211 v213 v1013 v1108 k0_hw14 k0_h6 k0_h16 r => k0_hw14.2 k0_h6 k0_h16 r

def k0_off58 (v5 : BitVec 32) (v7 : BitVec 32) (k0_t2 : Fin (k0_t2_loop v5 v7).trips) (k0_t5 : Fin (k0_t5_loop v5 v7 k0_t2).trips) (c0_i32_350 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c1_i32_74 : BitVec 32 := 1#32
  let arg17 : BitVec 32 := Scf.iv v154 c1_i32_74 k0_t5
  let c16_i32_89 : BitVec 32 := 16#32
  let v205 : BitVec 32 := Scalar.muli arg17 c16_i32_89
  let c10_i32 : BitVec 32 := 10#32
  let v1205 : BitVec 32 := Scalar.addi v205 c10_i32
  let c128_i32_349 : BitVec 32 := 128#32
  let v1206 : BitVec 32 := Scalar.muli v1205 c128_i32_349
  let v1207 : BitVec 32 := Scalar.addi v108 v1206
  let v1208 : BitVec 32 := Scalar.addi v1207 c0_i32_350
  let v1209 : Index := Scalar.indexCast v1208
  ![v1209.toNat]
def k0_off59 (i : grid0.Coords) (v1108 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1108 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond17 (v1108 : BitVec 32) (v1203 : BitVec 32) : BitVec 1 :=
  let v1204 : BitVec 1 := Scalar.cmpi .ne v1203 v1108
  let c0_i32_372 : BitVec 32 := 0#32
  let v1261 : BitVec 1 := Scalar.cmpi .sge v1108 c0_i32_372
  let v1262 : BitVec 1 := Scalar.andi v1204 v1261
  let v1263 : BitVec 32 := Scalar.extui v1262
  let c0_i32_373 : BitVec 32 := 0#32
  let v1264 : BitVec 1 := Scalar.cmpi .ne v1263 c0_i32_373
  v1264

def k0_off60 (i : grid0.Coords) (v1108 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1108 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk15 (i : grid0.Coords) (v211 : BitVec 32) (v213 : BitVec 32) (v1108 : BitVec 32) (v1203 : BitVec 32) : Prop :=
  (∀ (k0_h6 : k0_cond6 v211 v213 = 1#1), ∀ (k0_h17 : k0_cond17 v1108 v1203 = 1#1), ∀ (r : Fin 8), ∀ a, (k0_off59 i v1108 (BitVec.ofNat 32 (16 * r.val))) a + S16.size a ≤ S81920.size a) ∧
  (∀ (k0_h6 : k0_cond6 v211 v213 = 1#1), ∀ (k0_h17 : k0_cond17 v1108 v1203 = 1#1), ∀ (r : Fin 8), ∀ a, (k0_off60 i v1108 (BitVec.ofNat 32 (16 * r.val))) a + S16.size a ≤ S81920.size a)
theorem k0_off59_inb : ∀ (i : grid0.Coords) (v211 : BitVec 32) (v213 : BitVec 32) (v1108 : BitVec 32) (v1203 : BitVec 32) (k0_hw15 : k0_chk15 i v211 v213 v1108 v1203), ∀ (k0_h6 : k0_cond6 v211 v213 = 1#1), ∀ (k0_h17 : k0_cond17 v1108 v1203 = 1#1), ∀ (r : Fin 8), ∀ a, (k0_off59 i v1108 (BitVec.ofNat 32 (16 * r.val))) a + S16.size a ≤ S81920.size a := fun i v211 v213 v1108 v1203 k0_hw15 k0_h6 k0_h17 r => k0_hw15.1 k0_h6 k0_h17 r
theorem k0_off60_inb : ∀ (i : grid0.Coords) (v211 : BitVec 32) (v213 : BitVec 32) (v1108 : BitVec 32) (v1203 : BitVec 32) (k0_hw15 : k0_chk15 i v211 v213 v1108 v1203), ∀ (k0_h6 : k0_cond6 v211 v213 = 1#1), ∀ (k0_h17 : k0_cond17 v1108 v1203 = 1#1), ∀ (r : Fin 8), ∀ a, (k0_off60 i v1108 (BitVec.ofNat 32 (16 * r.val))) a + S16.size a ≤ S81920.size a := fun i v211 v213 v1108 v1203 k0_hw15 k0_h6 k0_h17 r => k0_hw15.2 k0_h6 k0_h17 r

def k0_off61 (v5 : BitVec 32) (v7 : BitVec 32) (k0_t2 : Fin (k0_t2_loop v5 v7).trips) (k0_t5 : Fin (k0_t5_loop v5 v7 k0_t2).trips) (c0_i32_375 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c1_i32_74 : BitVec 32 := 1#32
  let arg17 : BitVec 32 := Scf.iv v154 c1_i32_74 k0_t5
  let c16_i32_89 : BitVec 32 := 16#32
  let v205 : BitVec 32 := Scalar.muli arg17 c16_i32_89
  let c11_i32 : BitVec 32 := 11#32
  let v1300 : BitVec 32 := Scalar.addi v205 c11_i32
  let c128_i32_374 : BitVec 32 := 128#32
  let v1301 : BitVec 32 := Scalar.muli v1300 c128_i32_374
  let v1302 : BitVec 32 := Scalar.addi v108 v1301
  let v1303 : BitVec 32 := Scalar.addi v1302 c0_i32_375
  let v1304 : Index := Scalar.indexCast v1303
  ![v1304.toNat]
def k0_off62 (i : grid0.Coords) (v1203 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1203 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond18 (v1203 : BitVec 32) (v1298 : BitVec 32) : BitVec 1 :=
  let v1299 : BitVec 1 := Scalar.cmpi .ne v1298 v1203
  let c0_i32_397 : BitVec 32 := 0#32
  let v1356 : BitVec 1 := Scalar.cmpi .sge v1203 c0_i32_397
  let v1357 : BitVec 1 := Scalar.andi v1299 v1356
  let v1358 : BitVec 32 := Scalar.extui v1357
  let c0_i32_398 : BitVec 32 := 0#32
  let v1359 : BitVec 1 := Scalar.cmpi .ne v1358 c0_i32_398
  v1359

def k0_off63 (i : grid0.Coords) (v1203 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1203 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk16 (i : grid0.Coords) (v211 : BitVec 32) (v213 : BitVec 32) (v1203 : BitVec 32) (v1298 : BitVec 32) : Prop :=
  (∀ (k0_h6 : k0_cond6 v211 v213 = 1#1), ∀ (k0_h18 : k0_cond18 v1203 v1298 = 1#1), ∀ (r : Fin 8), ∀ a, (k0_off62 i v1203 (BitVec.ofNat 32 (16 * r.val))) a + S16.size a ≤ S81920.size a) ∧
  (∀ (k0_h6 : k0_cond6 v211 v213 = 1#1), ∀ (k0_h18 : k0_cond18 v1203 v1298 = 1#1), ∀ (r : Fin 8), ∀ a, (k0_off63 i v1203 (BitVec.ofNat 32 (16 * r.val))) a + S16.size a ≤ S81920.size a)
theorem k0_off62_inb : ∀ (i : grid0.Coords) (v211 : BitVec 32) (v213 : BitVec 32) (v1203 : BitVec 32) (v1298 : BitVec 32) (k0_hw16 : k0_chk16 i v211 v213 v1203 v1298), ∀ (k0_h6 : k0_cond6 v211 v213 = 1#1), ∀ (k0_h18 : k0_cond18 v1203 v1298 = 1#1), ∀ (r : Fin 8), ∀ a, (k0_off62 i v1203 (BitVec.ofNat 32 (16 * r.val))) a + S16.size a ≤ S81920.size a := fun i v211 v213 v1203 v1298 k0_hw16 k0_h6 k0_h18 r => k0_hw16.1 k0_h6 k0_h18 r
theorem k0_off63_inb : ∀ (i : grid0.Coords) (v211 : BitVec 32) (v213 : BitVec 32) (v1203 : BitVec 32) (v1298 : BitVec 32) (k0_hw16 : k0_chk16 i v211 v213 v1203 v1298), ∀ (k0_h6 : k0_cond6 v211 v213 = 1#1), ∀ (k0_h18 : k0_cond18 v1203 v1298 = 1#1), ∀ (r : Fin 8), ∀ a, (k0_off63 i v1203 (BitVec.ofNat 32 (16 * r.val))) a + S16.size a ≤ S81920.size a := fun i v211 v213 v1203 v1298 k0_hw16 k0_h6 k0_h18 r => k0_hw16.2 k0_h6 k0_h18 r

def k0_off64 (v5 : BitVec 32) (v7 : BitVec 32) (k0_t2 : Fin (k0_t2_loop v5 v7).trips) (k0_t5 : Fin (k0_t5_loop v5 v7 k0_t2).trips) (c0_i32_400 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c1_i32_74 : BitVec 32 := 1#32
  let arg17 : BitVec 32 := Scf.iv v154 c1_i32_74 k0_t5
  let c16_i32_89 : BitVec 32 := 16#32
  let v205 : BitVec 32 := Scalar.muli arg17 c16_i32_89
  let c12_i32 : BitVec 32 := 12#32
  let v1395 : BitVec 32 := Scalar.addi v205 c12_i32
  let c128_i32_399 : BitVec 32 := 128#32
  let v1396 : BitVec 32 := Scalar.muli v1395 c128_i32_399
  let v1397 : BitVec 32 := Scalar.addi v108 v1396
  let v1398 : BitVec 32 := Scalar.addi v1397 c0_i32_400
  let v1399 : Index := Scalar.indexCast v1398
  ![v1399.toNat]
def k0_off65 (i : grid0.Coords) (v1298 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1298 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond19 (v1298 : BitVec 32) (v1393 : BitVec 32) : BitVec 1 :=
  let v1394 : BitVec 1 := Scalar.cmpi .ne v1393 v1298
  let c0_i32_422 : BitVec 32 := 0#32
  let v1451 : BitVec 1 := Scalar.cmpi .sge v1298 c0_i32_422
  let v1452 : BitVec 1 := Scalar.andi v1394 v1451
  let v1453 : BitVec 32 := Scalar.extui v1452
  let c0_i32_423 : BitVec 32 := 0#32
  let v1454 : BitVec 1 := Scalar.cmpi .ne v1453 c0_i32_423
  v1454

def k0_off66 (i : grid0.Coords) (v1298 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1298 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk17 (i : grid0.Coords) (v211 : BitVec 32) (v213 : BitVec 32) (v1298 : BitVec 32) (v1393 : BitVec 32) : Prop :=
  (∀ (k0_h6 : k0_cond6 v211 v213 = 1#1), ∀ (k0_h19 : k0_cond19 v1298 v1393 = 1#1), ∀ (r : Fin 8), ∀ a, (k0_off65 i v1298 (BitVec.ofNat 32 (16 * r.val))) a + S16.size a ≤ S81920.size a) ∧
  (∀ (k0_h6 : k0_cond6 v211 v213 = 1#1), ∀ (k0_h19 : k0_cond19 v1298 v1393 = 1#1), ∀ (r : Fin 8), ∀ a, (k0_off66 i v1298 (BitVec.ofNat 32 (16 * r.val))) a + S16.size a ≤ S81920.size a)
theorem k0_off65_inb : ∀ (i : grid0.Coords) (v211 : BitVec 32) (v213 : BitVec 32) (v1298 : BitVec 32) (v1393 : BitVec 32) (k0_hw17 : k0_chk17 i v211 v213 v1298 v1393), ∀ (k0_h6 : k0_cond6 v211 v213 = 1#1), ∀ (k0_h19 : k0_cond19 v1298 v1393 = 1#1), ∀ (r : Fin 8), ∀ a, (k0_off65 i v1298 (BitVec.ofNat 32 (16 * r.val))) a + S16.size a ≤ S81920.size a := fun i v211 v213 v1298 v1393 k0_hw17 k0_h6 k0_h19 r => k0_hw17.1 k0_h6 k0_h19 r
theorem k0_off66_inb : ∀ (i : grid0.Coords) (v211 : BitVec 32) (v213 : BitVec 32) (v1298 : BitVec 32) (v1393 : BitVec 32) (k0_hw17 : k0_chk17 i v211 v213 v1298 v1393), ∀ (k0_h6 : k0_cond6 v211 v213 = 1#1), ∀ (k0_h19 : k0_cond19 v1298 v1393 = 1#1), ∀ (r : Fin 8), ∀ a, (k0_off66 i v1298 (BitVec.ofNat 32 (16 * r.val))) a + S16.size a ≤ S81920.size a := fun i v211 v213 v1298 v1393 k0_hw17 k0_h6 k0_h19 r => k0_hw17.2 k0_h6 k0_h19 r

def k0_off67 (v5 : BitVec 32) (v7 : BitVec 32) (k0_t2 : Fin (k0_t2_loop v5 v7).trips) (k0_t5 : Fin (k0_t5_loop v5 v7 k0_t2).trips) (c0_i32_425 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c1_i32_74 : BitVec 32 := 1#32
  let arg17 : BitVec 32 := Scf.iv v154 c1_i32_74 k0_t5
  let c16_i32_89 : BitVec 32 := 16#32
  let v205 : BitVec 32 := Scalar.muli arg17 c16_i32_89
  let c13_i32 : BitVec 32 := 13#32
  let v1490 : BitVec 32 := Scalar.addi v205 c13_i32
  let c128_i32_424 : BitVec 32 := 128#32
  let v1491 : BitVec 32 := Scalar.muli v1490 c128_i32_424
  let v1492 : BitVec 32 := Scalar.addi v108 v1491
  let v1493 : BitVec 32 := Scalar.addi v1492 c0_i32_425
  let v1494 : Index := Scalar.indexCast v1493
  ![v1494.toNat]
def k0_off68 (i : grid0.Coords) (v1393 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1393 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond20 (v1393 : BitVec 32) (v1488 : BitVec 32) : BitVec 1 :=
  let v1489 : BitVec 1 := Scalar.cmpi .ne v1488 v1393
  let c0_i32_447 : BitVec 32 := 0#32
  let v1546 : BitVec 1 := Scalar.cmpi .sge v1393 c0_i32_447
  let v1547 : BitVec 1 := Scalar.andi v1489 v1546
  let v1548 : BitVec 32 := Scalar.extui v1547
  let c0_i32_448 : BitVec 32 := 0#32
  let v1549 : BitVec 1 := Scalar.cmpi .ne v1548 c0_i32_448
  v1549

def k0_off69 (i : grid0.Coords) (v1393 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1393 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk18 (i : grid0.Coords) (v211 : BitVec 32) (v213 : BitVec 32) (v1393 : BitVec 32) (v1488 : BitVec 32) : Prop :=
  (∀ (k0_h6 : k0_cond6 v211 v213 = 1#1), ∀ (k0_h20 : k0_cond20 v1393 v1488 = 1#1), ∀ (r : Fin 8), ∀ a, (k0_off68 i v1393 (BitVec.ofNat 32 (16 * r.val))) a + S16.size a ≤ S81920.size a) ∧
  (∀ (k0_h6 : k0_cond6 v211 v213 = 1#1), ∀ (k0_h20 : k0_cond20 v1393 v1488 = 1#1), ∀ (r : Fin 8), ∀ a, (k0_off69 i v1393 (BitVec.ofNat 32 (16 * r.val))) a + S16.size a ≤ S81920.size a)
theorem k0_off68_inb : ∀ (i : grid0.Coords) (v211 : BitVec 32) (v213 : BitVec 32) (v1393 : BitVec 32) (v1488 : BitVec 32) (k0_hw18 : k0_chk18 i v211 v213 v1393 v1488), ∀ (k0_h6 : k0_cond6 v211 v213 = 1#1), ∀ (k0_h20 : k0_cond20 v1393 v1488 = 1#1), ∀ (r : Fin 8), ∀ a, (k0_off68 i v1393 (BitVec.ofNat 32 (16 * r.val))) a + S16.size a ≤ S81920.size a := fun i v211 v213 v1393 v1488 k0_hw18 k0_h6 k0_h20 r => k0_hw18.1 k0_h6 k0_h20 r
theorem k0_off69_inb : ∀ (i : grid0.Coords) (v211 : BitVec 32) (v213 : BitVec 32) (v1393 : BitVec 32) (v1488 : BitVec 32) (k0_hw18 : k0_chk18 i v211 v213 v1393 v1488), ∀ (k0_h6 : k0_cond6 v211 v213 = 1#1), ∀ (k0_h20 : k0_cond20 v1393 v1488 = 1#1), ∀ (r : Fin 8), ∀ a, (k0_off69 i v1393 (BitVec.ofNat 32 (16 * r.val))) a + S16.size a ≤ S81920.size a := fun i v211 v213 v1393 v1488 k0_hw18 k0_h6 k0_h20 r => k0_hw18.2 k0_h6 k0_h20 r

def k0_off70 (v5 : BitVec 32) (v7 : BitVec 32) (k0_t2 : Fin (k0_t2_loop v5 v7).trips) (k0_t5 : Fin (k0_t5_loop v5 v7 k0_t2).trips) (c0_i32_450 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c1_i32_74 : BitVec 32 := 1#32
  let arg17 : BitVec 32 := Scf.iv v154 c1_i32_74 k0_t5
  let c16_i32_89 : BitVec 32 := 16#32
  let v205 : BitVec 32 := Scalar.muli arg17 c16_i32_89
  let c14_i32 : BitVec 32 := 14#32
  let v1585 : BitVec 32 := Scalar.addi v205 c14_i32
  let c128_i32_449 : BitVec 32 := 128#32
  let v1586 : BitVec 32 := Scalar.muli v1585 c128_i32_449
  let v1587 : BitVec 32 := Scalar.addi v108 v1586
  let v1588 : BitVec 32 := Scalar.addi v1587 c0_i32_450
  let v1589 : Index := Scalar.indexCast v1588
  ![v1589.toNat]
def k0_off71 (i : grid0.Coords) (v1488 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1488 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond21 (v1488 : BitVec 32) (v1583 : BitVec 32) : BitVec 1 :=
  let v1584 : BitVec 1 := Scalar.cmpi .ne v1583 v1488
  let c0_i32_472 : BitVec 32 := 0#32
  let v1641 : BitVec 1 := Scalar.cmpi .sge v1488 c0_i32_472
  let v1642 : BitVec 1 := Scalar.andi v1584 v1641
  let v1643 : BitVec 32 := Scalar.extui v1642
  let c0_i32_473 : BitVec 32 := 0#32
  let v1644 : BitVec 1 := Scalar.cmpi .ne v1643 c0_i32_473
  v1644

def k0_off72 (i : grid0.Coords) (v1488 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1488 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk19 (i : grid0.Coords) (v211 : BitVec 32) (v213 : BitVec 32) (v1488 : BitVec 32) (v1583 : BitVec 32) : Prop :=
  (∀ (k0_h6 : k0_cond6 v211 v213 = 1#1), ∀ (k0_h21 : k0_cond21 v1488 v1583 = 1#1), ∀ (r : Fin 8), ∀ a, (k0_off71 i v1488 (BitVec.ofNat 32 (16 * r.val))) a + S16.size a ≤ S81920.size a) ∧
  (∀ (k0_h6 : k0_cond6 v211 v213 = 1#1), ∀ (k0_h21 : k0_cond21 v1488 v1583 = 1#1), ∀ (r : Fin 8), ∀ a, (k0_off72 i v1488 (BitVec.ofNat 32 (16 * r.val))) a + S16.size a ≤ S81920.size a)
theorem k0_off71_inb : ∀ (i : grid0.Coords) (v211 : BitVec 32) (v213 : BitVec 32) (v1488 : BitVec 32) (v1583 : BitVec 32) (k0_hw19 : k0_chk19 i v211 v213 v1488 v1583), ∀ (k0_h6 : k0_cond6 v211 v213 = 1#1), ∀ (k0_h21 : k0_cond21 v1488 v1583 = 1#1), ∀ (r : Fin 8), ∀ a, (k0_off71 i v1488 (BitVec.ofNat 32 (16 * r.val))) a + S16.size a ≤ S81920.size a := fun i v211 v213 v1488 v1583 k0_hw19 k0_h6 k0_h21 r => k0_hw19.1 k0_h6 k0_h21 r
theorem k0_off72_inb : ∀ (i : grid0.Coords) (v211 : BitVec 32) (v213 : BitVec 32) (v1488 : BitVec 32) (v1583 : BitVec 32) (k0_hw19 : k0_chk19 i v211 v213 v1488 v1583), ∀ (k0_h6 : k0_cond6 v211 v213 = 1#1), ∀ (k0_h21 : k0_cond21 v1488 v1583 = 1#1), ∀ (r : Fin 8), ∀ a, (k0_off72 i v1488 (BitVec.ofNat 32 (16 * r.val))) a + S16.size a ≤ S81920.size a := fun i v211 v213 v1488 v1583 k0_hw19 k0_h6 k0_h21 r => k0_hw19.2 k0_h6 k0_h21 r

def k0_off73 (v5 : BitVec 32) (v7 : BitVec 32) (k0_t2 : Fin (k0_t2_loop v5 v7).trips) (k0_t5 : Fin (k0_t5_loop v5 v7 k0_t2).trips) (c0_i32_475 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c1_i32_74 : BitVec 32 := 1#32
  let arg17 : BitVec 32 := Scf.iv v154 c1_i32_74 k0_t5
  let c16_i32_89 : BitVec 32 := 16#32
  let v205 : BitVec 32 := Scalar.muli arg17 c16_i32_89
  let c15_i32 : BitVec 32 := 15#32
  let v1680 : BitVec 32 := Scalar.addi v205 c15_i32
  let c128_i32_474 : BitVec 32 := 128#32
  let v1681 : BitVec 32 := Scalar.muli v1680 c128_i32_474
  let v1682 : BitVec 32 := Scalar.addi v108 v1681
  let v1683 : BitVec 32 := Scalar.addi v1682 c0_i32_475
  let v1684 : Index := Scalar.indexCast v1683
  ![v1684.toNat]

def k0_chk4 (v5 : BitVec 32) (v7 : BitVec 32) (k0_t2 : Fin (k0_t2_loop v5 v7).trips) (k0_t5 : Fin (k0_t5_loop v5 v7 k0_t2).trips) (v211 : BitVec 32) (v213 : BitVec 32) : Prop :=
  (∀ (k0_h5 : k0_cond5 v211 v213 = 1#1), ∀ (r₁ : Fin 16) (r₂ : Fin 8), ∀ a, (k0_off27 v5 v7 k0_t2 k0_t5 (BitVec.ofNat 32 r₁.val) (BitVec.ofNat 32 (16 * r₂.val))) a + S16.size a ≤ S40960.size a) ∧
  (∀ (k0_h6 : k0_cond6 v211 v213 = 1#1), ∀ (r : Fin 8), ∀ a, (k0_off28 v5 v7 k0_t2 k0_t5 (BitVec.ofNat 32 (16 * r.val))) a + S16.size a ≤ S40960.size a) ∧
  (∀ (k0_h6 : k0_cond6 v211 v213 = 1#1), ∀ (r : Fin 8), ∀ a, (k0_off31 v5 v7 k0_t2 k0_t5 (BitVec.ofNat 32 (16 * r.val))) a + S16.size a ≤ S40960.size a) ∧
  (∀ (k0_h6 : k0_cond6 v211 v213 = 1#1), ∀ (r : Fin 8), ∀ a, (k0_off34 v5 v7 k0_t2 k0_t5 (BitVec.ofNat 32 (16 * r.val))) a + S16.size a ≤ S40960.size a) ∧
  (∀ (k0_h6 : k0_cond6 v211 v213 = 1#1), ∀ (r : Fin 8), ∀ a, (k0_off37 v5 v7 k0_t2 k0_t5 (BitVec.ofNat 32 (16 * r.val))) a + S16.size a ≤ S40960.size a) ∧
  (∀ (k0_h6 : k0_cond6 v211 v213 = 1#1), ∀ (r : Fin 8), ∀ a, (k0_off40 v5 v7 k0_t2 k0_t5 (BitVec.ofNat 32 (16 * r.val))) a + S16.size a ≤ S40960.size a) ∧
  (∀ (k0_h6 : k0_cond6 v211 v213 = 1#1), ∀ (r : Fin 8), ∀ a, (k0_off43 v5 v7 k0_t2 k0_t5 (BitVec.ofNat 32 (16 * r.val))) a + S16.size a ≤ S40960.size a) ∧
  (∀ (k0_h6 : k0_cond6 v211 v213 = 1#1), ∀ (r : Fin 8), ∀ a, (k0_off46 v5 v7 k0_t2 k0_t5 (BitVec.ofNat 32 (16 * r.val))) a + S16.size a ≤ S40960.size a) ∧
  (∀ (k0_h6 : k0_cond6 v211 v213 = 1#1), ∀ (r : Fin 8), ∀ a, (k0_off49 v5 v7 k0_t2 k0_t5 (BitVec.ofNat 32 (16 * r.val))) a + S16.size a ≤ S40960.size a) ∧
  (∀ (k0_h6 : k0_cond6 v211 v213 = 1#1), ∀ (r : Fin 8), ∀ a, (k0_off52 v5 v7 k0_t2 k0_t5 (BitVec.ofNat 32 (16 * r.val))) a + S16.size a ≤ S40960.size a) ∧
  (∀ (k0_h6 : k0_cond6 v211 v213 = 1#1), ∀ (r : Fin 8), ∀ a, (k0_off55 v5 v7 k0_t2 k0_t5 (BitVec.ofNat 32 (16 * r.val))) a + S16.size a ≤ S40960.size a) ∧
  (∀ (k0_h6 : k0_cond6 v211 v213 = 1#1), ∀ (r : Fin 8), ∀ a, (k0_off58 v5 v7 k0_t2 k0_t5 (BitVec.ofNat 32 (16 * r.val))) a + S16.size a ≤ S40960.size a) ∧
  (∀ (k0_h6 : k0_cond6 v211 v213 = 1#1), ∀ (r : Fin 8), ∀ a, (k0_off61 v5 v7 k0_t2 k0_t5 (BitVec.ofNat 32 (16 * r.val))) a + S16.size a ≤ S40960.size a) ∧
  (∀ (k0_h6 : k0_cond6 v211 v213 = 1#1), ∀ (r : Fin 8), ∀ a, (k0_off64 v5 v7 k0_t2 k0_t5 (BitVec.ofNat 32 (16 * r.val))) a + S16.size a ≤ S40960.size a) ∧
  (∀ (k0_h6 : k0_cond6 v211 v213 = 1#1), ∀ (r : Fin 8), ∀ a, (k0_off67 v5 v7 k0_t2 k0_t5 (BitVec.ofNat 32 (16 * r.val))) a + S16.size a ≤ S40960.size a) ∧
  (∀ (k0_h6 : k0_cond6 v211 v213 = 1#1), ∀ (r : Fin 8), ∀ a, (k0_off70 v5 v7 k0_t2 k0_t5 (BitVec.ofNat 32 (16 * r.val))) a + S16.size a ≤ S40960.size a) ∧
  (∀ (k0_h6 : k0_cond6 v211 v213 = 1#1), ∀ (r : Fin 8), ∀ a, (k0_off73 v5 v7 k0_t2 k0_t5 (BitVec.ofNat 32 (16 * r.val))) a + S16.size a ≤ S40960.size a)
theorem k0_off27_inb : ∀ (v5 : BitVec 32) (v7 : BitVec 32) (k0_t2 : Fin (k0_t2_loop v5 v7).trips) (k0_t5 : Fin (k0_t5_loop v5 v7 k0_t2).trips) (v211 : BitVec 32) (v213 : BitVec 32) (k0_hw4 : k0_chk4 v5 v7 k0_t2 k0_t5 v211 v213), ∀ (k0_h5 : k0_cond5 v211 v213 = 1#1), ∀ (r₁ : Fin 16) (r₂ : Fin 8), ∀ a, (k0_off27 v5 v7 k0_t2 k0_t5 (BitVec.ofNat 32 r₁.val) (BitVec.ofNat 32 (16 * r₂.val))) a + S16.size a ≤ S40960.size a := fun v5 v7 k0_t2 k0_t5 v211 v213 k0_hw4 k0_h5 r₁ r₂ => k0_hw4.1 k0_h5 r₁ r₂
theorem k0_off28_inb : ∀ (v5 : BitVec 32) (v7 : BitVec 32) (k0_t2 : Fin (k0_t2_loop v5 v7).trips) (k0_t5 : Fin (k0_t5_loop v5 v7 k0_t2).trips) (v211 : BitVec 32) (v213 : BitVec 32) (k0_hw4 : k0_chk4 v5 v7 k0_t2 k0_t5 v211 v213), ∀ (k0_h6 : k0_cond6 v211 v213 = 1#1), ∀ (r : Fin 8), ∀ a, (k0_off28 v5 v7 k0_t2 k0_t5 (BitVec.ofNat 32 (16 * r.val))) a + S16.size a ≤ S40960.size a := fun v5 v7 k0_t2 k0_t5 v211 v213 k0_hw4 k0_h6 r => k0_hw4.2.1 k0_h6 r
theorem k0_off31_inb : ∀ (v5 : BitVec 32) (v7 : BitVec 32) (k0_t2 : Fin (k0_t2_loop v5 v7).trips) (k0_t5 : Fin (k0_t5_loop v5 v7 k0_t2).trips) (v211 : BitVec 32) (v213 : BitVec 32) (k0_hw4 : k0_chk4 v5 v7 k0_t2 k0_t5 v211 v213), ∀ (k0_h6 : k0_cond6 v211 v213 = 1#1), ∀ (r : Fin 8), ∀ a, (k0_off31 v5 v7 k0_t2 k0_t5 (BitVec.ofNat 32 (16 * r.val))) a + S16.size a ≤ S40960.size a := fun v5 v7 k0_t2 k0_t5 v211 v213 k0_hw4 k0_h6 r => k0_hw4.2.2.1 k0_h6 r
theorem k0_off34_inb : ∀ (v5 : BitVec 32) (v7 : BitVec 32) (k0_t2 : Fin (k0_t2_loop v5 v7).trips) (k0_t5 : Fin (k0_t5_loop v5 v7 k0_t2).trips) (v211 : BitVec 32) (v213 : BitVec 32) (k0_hw4 : k0_chk4 v5 v7 k0_t2 k0_t5 v211 v213), ∀ (k0_h6 : k0_cond6 v211 v213 = 1#1), ∀ (r : Fin 8), ∀ a, (k0_off34 v5 v7 k0_t2 k0_t5 (BitVec.ofNat 32 (16 * r.val))) a + S16.size a ≤ S40960.size a := fun v5 v7 k0_t2 k0_t5 v211 v213 k0_hw4 k0_h6 r => k0_hw4.2.2.2.1 k0_h6 r
theorem k0_off37_inb : ∀ (v5 : BitVec 32) (v7 : BitVec 32) (k0_t2 : Fin (k0_t2_loop v5 v7).trips) (k0_t5 : Fin (k0_t5_loop v5 v7 k0_t2).trips) (v211 : BitVec 32) (v213 : BitVec 32) (k0_hw4 : k0_chk4 v5 v7 k0_t2 k0_t5 v211 v213), ∀ (k0_h6 : k0_cond6 v211 v213 = 1#1), ∀ (r : Fin 8), ∀ a, (k0_off37 v5 v7 k0_t2 k0_t5 (BitVec.ofNat 32 (16 * r.val))) a + S16.size a ≤ S40960.size a := fun v5 v7 k0_t2 k0_t5 v211 v213 k0_hw4 k0_h6 r => k0_hw4.2.2.2.2.1 k0_h6 r
theorem k0_off40_inb : ∀ (v5 : BitVec 32) (v7 : BitVec 32) (k0_t2 : Fin (k0_t2_loop v5 v7).trips) (k0_t5 : Fin (k0_t5_loop v5 v7 k0_t2).trips) (v211 : BitVec 32) (v213 : BitVec 32) (k0_hw4 : k0_chk4 v5 v7 k0_t2 k0_t5 v211 v213), ∀ (k0_h6 : k0_cond6 v211 v213 = 1#1), ∀ (r : Fin 8), ∀ a, (k0_off40 v5 v7 k0_t2 k0_t5 (BitVec.ofNat 32 (16 * r.val))) a + S16.size a ≤ S40960.size a := fun v5 v7 k0_t2 k0_t5 v211 v213 k0_hw4 k0_h6 r => k0_hw4.2.2.2.2.2.1 k0_h6 r
theorem k0_off43_inb : ∀ (v5 : BitVec 32) (v7 : BitVec 32) (k0_t2 : Fin (k0_t2_loop v5 v7).trips) (k0_t5 : Fin (k0_t5_loop v5 v7 k0_t2).trips) (v211 : BitVec 32) (v213 : BitVec 32) (k0_hw4 : k0_chk4 v5 v7 k0_t2 k0_t5 v211 v213), ∀ (k0_h6 : k0_cond6 v211 v213 = 1#1), ∀ (r : Fin 8), ∀ a, (k0_off43 v5 v7 k0_t2 k0_t5 (BitVec.ofNat 32 (16 * r.val))) a + S16.size a ≤ S40960.size a := fun v5 v7 k0_t2 k0_t5 v211 v213 k0_hw4 k0_h6 r => k0_hw4.2.2.2.2.2.2.1 k0_h6 r
theorem k0_off46_inb : ∀ (v5 : BitVec 32) (v7 : BitVec 32) (k0_t2 : Fin (k0_t2_loop v5 v7).trips) (k0_t5 : Fin (k0_t5_loop v5 v7 k0_t2).trips) (v211 : BitVec 32) (v213 : BitVec 32) (k0_hw4 : k0_chk4 v5 v7 k0_t2 k0_t5 v211 v213), ∀ (k0_h6 : k0_cond6 v211 v213 = 1#1), ∀ (r : Fin 8), ∀ a, (k0_off46 v5 v7 k0_t2 k0_t5 (BitVec.ofNat 32 (16 * r.val))) a + S16.size a ≤ S40960.size a := fun v5 v7 k0_t2 k0_t5 v211 v213 k0_hw4 k0_h6 r => k0_hw4.2.2.2.2.2.2.2.1 k0_h6 r
theorem k0_off49_inb : ∀ (v5 : BitVec 32) (v7 : BitVec 32) (k0_t2 : Fin (k0_t2_loop v5 v7).trips) (k0_t5 : Fin (k0_t5_loop v5 v7 k0_t2).trips) (v211 : BitVec 32) (v213 : BitVec 32) (k0_hw4 : k0_chk4 v5 v7 k0_t2 k0_t5 v211 v213), ∀ (k0_h6 : k0_cond6 v211 v213 = 1#1), ∀ (r : Fin 8), ∀ a, (k0_off49 v5 v7 k0_t2 k0_t5 (BitVec.ofNat 32 (16 * r.val))) a + S16.size a ≤ S40960.size a := fun v5 v7 k0_t2 k0_t5 v211 v213 k0_hw4 k0_h6 r => k0_hw4.2.2.2.2.2.2.2.2.1 k0_h6 r
theorem k0_off52_inb : ∀ (v5 : BitVec 32) (v7 : BitVec 32) (k0_t2 : Fin (k0_t2_loop v5 v7).trips) (k0_t5 : Fin (k0_t5_loop v5 v7 k0_t2).trips) (v211 : BitVec 32) (v213 : BitVec 32) (k0_hw4 : k0_chk4 v5 v7 k0_t2 k0_t5 v211 v213), ∀ (k0_h6 : k0_cond6 v211 v213 = 1#1), ∀ (r : Fin 8), ∀ a, (k0_off52 v5 v7 k0_t2 k0_t5 (BitVec.ofNat 32 (16 * r.val))) a + S16.size a ≤ S40960.size a := fun v5 v7 k0_t2 k0_t5 v211 v213 k0_hw4 k0_h6 r => k0_hw4.2.2.2.2.2.2.2.2.2.1 k0_h6 r
theorem k0_off55_inb : ∀ (v5 : BitVec 32) (v7 : BitVec 32) (k0_t2 : Fin (k0_t2_loop v5 v7).trips) (k0_t5 : Fin (k0_t5_loop v5 v7 k0_t2).trips) (v211 : BitVec 32) (v213 : BitVec 32) (k0_hw4 : k0_chk4 v5 v7 k0_t2 k0_t5 v211 v213), ∀ (k0_h6 : k0_cond6 v211 v213 = 1#1), ∀ (r : Fin 8), ∀ a, (k0_off55 v5 v7 k0_t2 k0_t5 (BitVec.ofNat 32 (16 * r.val))) a + S16.size a ≤ S40960.size a := fun v5 v7 k0_t2 k0_t5 v211 v213 k0_hw4 k0_h6 r => k0_hw4.2.2.2.2.2.2.2.2.2.2.1 k0_h6 r
theorem k0_off58_inb : ∀ (v5 : BitVec 32) (v7 : BitVec 32) (k0_t2 : Fin (k0_t2_loop v5 v7).trips) (k0_t5 : Fin (k0_t5_loop v5 v7 k0_t2).trips) (v211 : BitVec 32) (v213 : BitVec 32) (k0_hw4 : k0_chk4 v5 v7 k0_t2 k0_t5 v211 v213), ∀ (k0_h6 : k0_cond6 v211 v213 = 1#1), ∀ (r : Fin 8), ∀ a, (k0_off58 v5 v7 k0_t2 k0_t5 (BitVec.ofNat 32 (16 * r.val))) a + S16.size a ≤ S40960.size a := fun v5 v7 k0_t2 k0_t5 v211 v213 k0_hw4 k0_h6 r => k0_hw4.2.2.2.2.2.2.2.2.2.2.2.1 k0_h6 r
theorem k0_off61_inb : ∀ (v5 : BitVec 32) (v7 : BitVec 32) (k0_t2 : Fin (k0_t2_loop v5 v7).trips) (k0_t5 : Fin (k0_t5_loop v5 v7 k0_t2).trips) (v211 : BitVec 32) (v213 : BitVec 32) (k0_hw4 : k0_chk4 v5 v7 k0_t2 k0_t5 v211 v213), ∀ (k0_h6 : k0_cond6 v211 v213 = 1#1), ∀ (r : Fin 8), ∀ a, (k0_off61 v5 v7 k0_t2 k0_t5 (BitVec.ofNat 32 (16 * r.val))) a + S16.size a ≤ S40960.size a := fun v5 v7 k0_t2 k0_t5 v211 v213 k0_hw4 k0_h6 r => k0_hw4.2.2.2.2.2.2.2.2.2.2.2.2.1 k0_h6 r
theorem k0_off64_inb : ∀ (v5 : BitVec 32) (v7 : BitVec 32) (k0_t2 : Fin (k0_t2_loop v5 v7).trips) (k0_t5 : Fin (k0_t5_loop v5 v7 k0_t2).trips) (v211 : BitVec 32) (v213 : BitVec 32) (k0_hw4 : k0_chk4 v5 v7 k0_t2 k0_t5 v211 v213), ∀ (k0_h6 : k0_cond6 v211 v213 = 1#1), ∀ (r : Fin 8), ∀ a, (k0_off64 v5 v7 k0_t2 k0_t5 (BitVec.ofNat 32 (16 * r.val))) a + S16.size a ≤ S40960.size a := fun v5 v7 k0_t2 k0_t5 v211 v213 k0_hw4 k0_h6 r => k0_hw4.2.2.2.2.2.2.2.2.2.2.2.2.2.1 k0_h6 r
theorem k0_off67_inb : ∀ (v5 : BitVec 32) (v7 : BitVec 32) (k0_t2 : Fin (k0_t2_loop v5 v7).trips) (k0_t5 : Fin (k0_t5_loop v5 v7 k0_t2).trips) (v211 : BitVec 32) (v213 : BitVec 32) (k0_hw4 : k0_chk4 v5 v7 k0_t2 k0_t5 v211 v213), ∀ (k0_h6 : k0_cond6 v211 v213 = 1#1), ∀ (r : Fin 8), ∀ a, (k0_off67 v5 v7 k0_t2 k0_t5 (BitVec.ofNat 32 (16 * r.val))) a + S16.size a ≤ S40960.size a := fun v5 v7 k0_t2 k0_t5 v211 v213 k0_hw4 k0_h6 r => k0_hw4.2.2.2.2.2.2.2.2.2.2.2.2.2.2.1 k0_h6 r
theorem k0_off70_inb : ∀ (v5 : BitVec 32) (v7 : BitVec 32) (k0_t2 : Fin (k0_t2_loop v5 v7).trips) (k0_t5 : Fin (k0_t5_loop v5 v7 k0_t2).trips) (v211 : BitVec 32) (v213 : BitVec 32) (k0_hw4 : k0_chk4 v5 v7 k0_t2 k0_t5 v211 v213), ∀ (k0_h6 : k0_cond6 v211 v213 = 1#1), ∀ (r : Fin 8), ∀ a, (k0_off70 v5 v7 k0_t2 k0_t5 (BitVec.ofNat 32 (16 * r.val))) a + S16.size a ≤ S40960.size a := fun v5 v7 k0_t2 k0_t5 v211 v213 k0_hw4 k0_h6 r => k0_hw4.2.2.2.2.2.2.2.2.2.2.2.2.2.2.2.1 k0_h6 r
theorem k0_off73_inb : ∀ (v5 : BitVec 32) (v7 : BitVec 32) (k0_t2 : Fin (k0_t2_loop v5 v7).trips) (k0_t5 : Fin (k0_t5_loop v5 v7 k0_t2).trips) (v211 : BitVec 32) (v213 : BitVec 32) (k0_hw4 : k0_chk4 v5 v7 k0_t2 k0_t5 v211 v213), ∀ (k0_h6 : k0_cond6 v211 v213 = 1#1), ∀ (r : Fin 8), ∀ a, (k0_off73 v5 v7 k0_t2 k0_t5 (BitVec.ofNat 32 (16 * r.val))) a + S16.size a ≤ S40960.size a := fun v5 v7 k0_t2 k0_t5 v211 v213 k0_hw4 k0_h6 r => k0_hw4.2.2.2.2.2.2.2.2.2.2.2.2.2.2.2.2 k0_h6 r

def k0_off74 (i : grid0.Coords) (v1583 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1583 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond22 (v1583 : BitVec 32) (v1678 : BitVec 32) : BitVec 1 :=
  let v1679 : BitVec 1 := Scalar.cmpi .ne v1678 v1583
  let c0_i32_497 : BitVec 32 := 0#32
  let v1736 : BitVec 1 := Scalar.cmpi .sge v1583 c0_i32_497
  let v1737 : BitVec 1 := Scalar.andi v1679 v1736
  let v1738 : BitVec 32 := Scalar.extui v1737
  let c0_i32_498 : BitVec 32 := 0#32
  let v1739 : BitVec 1 := Scalar.cmpi .ne v1738 c0_i32_498
  v1739

def k0_off75 (i : grid0.Coords) (v1583 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1583 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk20 (i : grid0.Coords) (v211 : BitVec 32) (v213 : BitVec 32) (v1583 : BitVec 32) (v1678 : BitVec 32) : Prop :=
  (∀ (k0_h6 : k0_cond6 v211 v213 = 1#1), ∀ (k0_h22 : k0_cond22 v1583 v1678 = 1#1), ∀ (r : Fin 8), ∀ a, (k0_off74 i v1583 (BitVec.ofNat 32 (16 * r.val))) a + S16.size a ≤ S81920.size a) ∧
  (∀ (k0_h6 : k0_cond6 v211 v213 = 1#1), ∀ (k0_h22 : k0_cond22 v1583 v1678 = 1#1), ∀ (r : Fin 8), ∀ a, (k0_off75 i v1583 (BitVec.ofNat 32 (16 * r.val))) a + S16.size a ≤ S81920.size a)
theorem k0_off74_inb : ∀ (i : grid0.Coords) (v211 : BitVec 32) (v213 : BitVec 32) (v1583 : BitVec 32) (v1678 : BitVec 32) (k0_hw20 : k0_chk20 i v211 v213 v1583 v1678), ∀ (k0_h6 : k0_cond6 v211 v213 = 1#1), ∀ (k0_h22 : k0_cond22 v1583 v1678 = 1#1), ∀ (r : Fin 8), ∀ a, (k0_off74 i v1583 (BitVec.ofNat 32 (16 * r.val))) a + S16.size a ≤ S81920.size a := fun i v211 v213 v1583 v1678 k0_hw20 k0_h6 k0_h22 r => k0_hw20.1 k0_h6 k0_h22 r
theorem k0_off75_inb : ∀ (i : grid0.Coords) (v211 : BitVec 32) (v213 : BitVec 32) (v1583 : BitVec 32) (v1678 : BitVec 32) (k0_hw20 : k0_chk20 i v211 v213 v1583 v1678), ∀ (k0_h6 : k0_cond6 v211 v213 = 1#1), ∀ (k0_h22 : k0_cond22 v1583 v1678 = 1#1), ∀ (r : Fin 8), ∀ a, (k0_off75 i v1583 (BitVec.ofNat 32 (16 * r.val))) a + S16.size a ≤ S81920.size a := fun i v211 v213 v1583 v1678 k0_hw20 k0_h6 k0_h22 r => k0_hw20.2 k0_h6 k0_h22 r

@[reducible] def k0_t6_loop (v5 : BitVec 32) (v7 : BitVec 32) (k0_t2 : Fin (k0_t2_loop v5 v7).trips) : Scf.Loop 32 :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c0_i32_66 : BitVec 32 := 0#32
  let v156 : BitVec 1 := Scalar.cmpi .sgt v107 c0_i32_66
  let v157 : BitVec 32 := Scalar.extui v156
  let c0_i32_67 : BitVec 32 := 0#32
  let v158 : BitVec 1 := Scalar.cmpi .slt v107 c0_i32_67
  let v159 : BitVec 32 := Scalar.extui v158
  let v160 : BitVec 32 := Scalar.subi v157 v159
  let c16_i32_65 : BitVec 32 := 16#32
  let c0_i32_68 : BitVec 32 := 0#32
  let v161 : BitVec 1 := Scalar.cmpi .sgt c16_i32_65 c0_i32_68
  let v162 : BitVec 32 := Scalar.extui v161
  let c0_i32_69 : BitVec 32 := 0#32
  let v163 : BitVec 1 := Scalar.cmpi .slt c16_i32_65 c0_i32_69
  let v164 : BitVec 32 := Scalar.extui v163
  let v165 : BitVec 32 := Scalar.subi v162 v164
  let v166 : BitVec 1 := Scalar.cmpi .ne v160 v165
  let v167 : BitVec 32 := Scalar.remsi v107 c16_i32_65
  let c0_i32_70 : BitVec 32 := 0#32
  let v168 : BitVec 1 := Scalar.cmpi .ne v167 c0_i32_70
  let v169 : BitVec 1 := Scalar.andi v166 v168
  let v155 : BitVec 32 := Scalar.divsi v107 c16_i32_65
  let c1_i32_71 : BitVec 32 := 1#32
  let v170 : BitVec 32 := Scalar.subi v155 c1_i32_71
  let v171 : BitVec 32 := Scalar.select v169 v170 v155
  let v172 : BitVec 32 := Scalar.subi v171 v154
  let c1_i32_73 : BitVec 32 := 1#32
  let v174 : BitVec 32 := Scalar.divsi v172 c1_i32_73
  let v175 : BitVec 32 := Scalar.muli v174 c1_i32_73
  let v176 : BitVec 32 := Scalar.addi v154 v175
  let v173 : BitVec 32 := Scalar.addi v154 v172
  let c1_i32_75 : BitVec 32 := 1#32
  ⟨v176, v173, c1_i32_75⟩
def k0_off76 (v5 : BitVec 32) (v7 : BitVec 32) (k0_t2 : Fin (k0_t2_loop v5 v7).trips) (k0_t6 : Fin (k0_t6_loop v5 v7 k0_t2).trips) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c176_i32_44 : BitVec 32 := 176#32
  let v109 : BitVec 32 := Scalar.muli v80 c176_i32_44
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c0_i32_66 : BitVec 32 := 0#32
  let v156 : BitVec 1 := Scalar.cmpi .sgt v107 c0_i32_66
  let v157 : BitVec 32 := Scalar.extui v156
  let c0_i32_67 : BitVec 32 := 0#32
  let v158 : BitVec 1 := Scalar.cmpi .slt v107 c0_i32_67
  let v159 : BitVec 32 := Scalar.extui v158
  let v160 : BitVec 32 := Scalar.subi v157 v159
  let c16_i32_65 : BitVec 32 := 16#32
  let c0_i32_68 : BitVec 32 := 0#32
  let v161 : BitVec 1 := Scalar.cmpi .sgt c16_i32_65 c0_i32_68
  let v162 : BitVec 32 := Scalar.extui v161
  let c0_i32_69 : BitVec 32 := 0#32
  let v163 : BitVec 1 := Scalar.cmpi .slt c16_i32_65 c0_i32_69
  let v164 : BitVec 32 := Scalar.extui v163
  let v165 : BitVec 32 := Scalar.subi v162 v164
  let v166 : BitVec 1 := Scalar.cmpi .ne v160 v165
  let v167 : BitVec 32 := Scalar.remsi v107 c16_i32_65
  let c0_i32_70 : BitVec 32 := 0#32
  let v168 : BitVec 1 := Scalar.cmpi .ne v167 c0_i32_70
  let v169 : BitVec 1 := Scalar.andi v166 v168
  let v155 : BitVec 32 := Scalar.divsi v107 c16_i32_65
  let c1_i32_71 : BitVec 32 := 1#32
  let v170 : BitVec 32 := Scalar.subi v155 c1_i32_71
  let v171 : BitVec 32 := Scalar.select v169 v170 v155
  let v172 : BitVec 32 := Scalar.subi v171 v154
  let c1_i32_73 : BitVec 32 := 1#32
  let v174 : BitVec 32 := Scalar.divsi v172 c1_i32_73
  let v175 : BitVec 32 := Scalar.muli v174 c1_i32_73
  let v176 : BitVec 32 := Scalar.addi v154 v175
  let c1_i32_75 : BitVec 32 := 1#32
  let arg17 : BitVec 32 := Scf.iv v176 c1_i32_75 k0_t6
  let c16_i32_89 : BitVec 32 := 16#32
  let v205 : BitVec 32 := Scalar.muli arg17 c16_i32_89
  let v206 : BitVec 32 := Scalar.addi v109 v205
  let v207 : Index := Scalar.indexCast v206
  ![v207.toNat]
def k0_off77 (v5 : BitVec 32) (v7 : BitVec 32) (k0_t2 : Fin (k0_t2_loop v5 v7).trips) (k0_t6 : Fin (k0_t6_loop v5 v7 k0_t2).trips) (c0_i32_94 : BitVec 32) (c0_i32_95 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c0_i32_66 : BitVec 32 := 0#32
  let v156 : BitVec 1 := Scalar.cmpi .sgt v107 c0_i32_66
  let v157 : BitVec 32 := Scalar.extui v156
  let c0_i32_67 : BitVec 32 := 0#32
  let v158 : BitVec 1 := Scalar.cmpi .slt v107 c0_i32_67
  let v159 : BitVec 32 := Scalar.extui v158
  let v160 : BitVec 32 := Scalar.subi v157 v159
  let c16_i32_65 : BitVec 32 := 16#32
  let c0_i32_68 : BitVec 32 := 0#32
  let v161 : BitVec 1 := Scalar.cmpi .sgt c16_i32_65 c0_i32_68
  let v162 : BitVec 32 := Scalar.extui v161
  let c0_i32_69 : BitVec 32 := 0#32
  let v163 : BitVec 1 := Scalar.cmpi .slt c16_i32_65 c0_i32_69
  let v164 : BitVec 32 := Scalar.extui v163
  let v165 : BitVec 32 := Scalar.subi v162 v164
  let v166 : BitVec 1 := Scalar.cmpi .ne v160 v165
  let v167 : BitVec 32 := Scalar.remsi v107 c16_i32_65
  let c0_i32_70 : BitVec 32 := 0#32
  let v168 : BitVec 1 := Scalar.cmpi .ne v167 c0_i32_70
  let v169 : BitVec 1 := Scalar.andi v166 v168
  let v155 : BitVec 32 := Scalar.divsi v107 c16_i32_65
  let c1_i32_71 : BitVec 32 := 1#32
  let v170 : BitVec 32 := Scalar.subi v155 c1_i32_71
  let v171 : BitVec 32 := Scalar.select v169 v170 v155
  let v172 : BitVec 32 := Scalar.subi v171 v154
  let c1_i32_73 : BitVec 32 := 1#32
  let v174 : BitVec 32 := Scalar.divsi v172 c1_i32_73
  let v175 : BitVec 32 := Scalar.muli v174 c1_i32_73
  let v176 : BitVec 32 := Scalar.addi v154 v175
  let c1_i32_75 : BitVec 32 := 1#32
  let arg17 : BitVec 32 := Scf.iv v176 c1_i32_75 k0_t6
  let c16_i32_89 : BitVec 32 := 16#32
  let v205 : BitVec 32 := Scalar.muli arg17 c16_i32_89
  let v220 : BitVec 32 := Scalar.addi v205 c0_i32_94
  let c128_i32 : BitVec 32 := 128#32
  let v221 : BitVec 32 := Scalar.muli v220 c128_i32
  let v222 : BitVec 32 := Scalar.addi v108 v221
  let v223 : BitVec 32 := Scalar.addi v222 c0_i32_95
  let v224 : Index := Scalar.indexCast v223
  ![v224.toNat]
def k0_cond23 (v211 : BitVec 32) (v213 : BitVec 32) : BitVec 1 :=
  let v214 : BitVec 1 := Scalar.cmpi .eq v213 v211
  let v215 : BitVec 32 := Scalar.extui v214
  let c0_i32_91 : BitVec 32 := 0#32
  let v216 : BitVec 1 := Scalar.cmpi .ne v215 c0_i32_91
  v216

def k0_off78 (v5 : BitVec 32) (v7 : BitVec 32) (k0_t2 : Fin (k0_t2_loop v5 v7).trips) (k0_t6 : Fin (k0_t6_loop v5 v7 k0_t2).trips) (c0_i32_104 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c0_i32_66 : BitVec 32 := 0#32
  let v156 : BitVec 1 := Scalar.cmpi .sgt v107 c0_i32_66
  let v157 : BitVec 32 := Scalar.extui v156
  let c0_i32_67 : BitVec 32 := 0#32
  let v158 : BitVec 1 := Scalar.cmpi .slt v107 c0_i32_67
  let v159 : BitVec 32 := Scalar.extui v158
  let v160 : BitVec 32 := Scalar.subi v157 v159
  let c16_i32_65 : BitVec 32 := 16#32
  let c0_i32_68 : BitVec 32 := 0#32
  let v161 : BitVec 1 := Scalar.cmpi .sgt c16_i32_65 c0_i32_68
  let v162 : BitVec 32 := Scalar.extui v161
  let c0_i32_69 : BitVec 32 := 0#32
  let v163 : BitVec 1 := Scalar.cmpi .slt c16_i32_65 c0_i32_69
  let v164 : BitVec 32 := Scalar.extui v163
  let v165 : BitVec 32 := Scalar.subi v162 v164
  let v166 : BitVec 1 := Scalar.cmpi .ne v160 v165
  let v167 : BitVec 32 := Scalar.remsi v107 c16_i32_65
  let c0_i32_70 : BitVec 32 := 0#32
  let v168 : BitVec 1 := Scalar.cmpi .ne v167 c0_i32_70
  let v169 : BitVec 1 := Scalar.andi v166 v168
  let v155 : BitVec 32 := Scalar.divsi v107 c16_i32_65
  let c1_i32_71 : BitVec 32 := 1#32
  let v170 : BitVec 32 := Scalar.subi v155 c1_i32_71
  let v171 : BitVec 32 := Scalar.select v169 v170 v155
  let v172 : BitVec 32 := Scalar.subi v171 v154
  let c1_i32_73 : BitVec 32 := 1#32
  let v174 : BitVec 32 := Scalar.divsi v172 c1_i32_73
  let v175 : BitVec 32 := Scalar.muli v174 c1_i32_73
  let v176 : BitVec 32 := Scalar.addi v154 v175
  let c1_i32_75 : BitVec 32 := 1#32
  let arg17 : BitVec 32 := Scf.iv v176 c1_i32_75 k0_t6
  let c16_i32_89 : BitVec 32 := 16#32
  let v205 : BitVec 32 := Scalar.muli arg17 c16_i32_89
  let c0_i32_103 : BitVec 32 := 0#32
  let v255 : BitVec 32 := Scalar.addi v205 c0_i32_103
  let c128_i32 : BitVec 32 := 128#32
  let v256 : BitVec 32 := Scalar.muli v255 c128_i32
  let v257 : BitVec 32 := Scalar.addi v108 v256
  let v258 : BitVec 32 := Scalar.addi v257 c0_i32_104
  let v259 : Index := Scalar.indexCast v258
  ![v259.toNat]
def k0_cond24 (v211 : BitVec 32) (v213 : BitVec 32) : BitVec 1 :=
  let v217 : BitVec 1 := Scalar.cmpi .ne v213 v211
  let v218 : BitVec 32 := Scalar.extui v217
  let c0_i32_92 : BitVec 32 := 0#32
  let v219 : BitVec 1 := Scalar.cmpi .ne v218 c0_i32_92
  v219

def k0_off79 (i : grid0.Coords) (v211 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v211 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond25 (v211 : BitVec 32) (v253 : BitVec 32) : BitVec 1 :=
  let v254 : BitVec 1 := Scalar.cmpi .ne v253 v211
  let c0_i32_120 : BitVec 32 := 0#32
  let v311 : BitVec 1 := Scalar.cmpi .sge v211 c0_i32_120
  let v312 : BitVec 1 := Scalar.andi v254 v311
  let v313 : BitVec 32 := Scalar.extui v312
  let c0_i32_121 : BitVec 32 := 0#32
  let v314 : BitVec 1 := Scalar.cmpi .ne v313 c0_i32_121
  v314

def k0_off80 (i : grid0.Coords) (v211 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v211 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk22 (i : grid0.Coords) (v211 : BitVec 32) (v213 : BitVec 32) (v253 : BitVec 32) : Prop :=
  (∀ (k0_h24 : k0_cond24 v211 v213 = 1#1), ∀ (k0_h25 : k0_cond25 v211 v253 = 1#1), ∀ (r : Fin 8), ∀ a, (k0_off79 i v211 (BitVec.ofNat 32 (16 * r.val))) a + S16.size a ≤ S81920.size a) ∧
  (∀ (k0_h24 : k0_cond24 v211 v213 = 1#1), ∀ (k0_h25 : k0_cond25 v211 v253 = 1#1), ∀ (r : Fin 8), ∀ a, (k0_off80 i v211 (BitVec.ofNat 32 (16 * r.val))) a + S16.size a ≤ S81920.size a)
theorem k0_off79_inb : ∀ (i : grid0.Coords) (v211 : BitVec 32) (v213 : BitVec 32) (v253 : BitVec 32) (k0_hw22 : k0_chk22 i v211 v213 v253), ∀ (k0_h24 : k0_cond24 v211 v213 = 1#1), ∀ (k0_h25 : k0_cond25 v211 v253 = 1#1), ∀ (r : Fin 8), ∀ a, (k0_off79 i v211 (BitVec.ofNat 32 (16 * r.val))) a + S16.size a ≤ S81920.size a := fun i v211 v213 v253 k0_hw22 k0_h24 k0_h25 r => k0_hw22.1 k0_h24 k0_h25 r
theorem k0_off80_inb : ∀ (i : grid0.Coords) (v211 : BitVec 32) (v213 : BitVec 32) (v253 : BitVec 32) (k0_hw22 : k0_chk22 i v211 v213 v253), ∀ (k0_h24 : k0_cond24 v211 v213 = 1#1), ∀ (k0_h25 : k0_cond25 v211 v253 = 1#1), ∀ (r : Fin 8), ∀ a, (k0_off80 i v211 (BitVec.ofNat 32 (16 * r.val))) a + S16.size a ≤ S81920.size a := fun i v211 v213 v253 k0_hw22 k0_h24 k0_h25 r => k0_hw22.2 k0_h24 k0_h25 r

def k0_off81 (v5 : BitVec 32) (v7 : BitVec 32) (k0_t2 : Fin (k0_t2_loop v5 v7).trips) (k0_t6 : Fin (k0_t6_loop v5 v7 k0_t2).trips) (c0_i32_124 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c0_i32_66 : BitVec 32 := 0#32
  let v156 : BitVec 1 := Scalar.cmpi .sgt v107 c0_i32_66
  let v157 : BitVec 32 := Scalar.extui v156
  let c0_i32_67 : BitVec 32 := 0#32
  let v158 : BitVec 1 := Scalar.cmpi .slt v107 c0_i32_67
  let v159 : BitVec 32 := Scalar.extui v158
  let v160 : BitVec 32 := Scalar.subi v157 v159
  let c16_i32_65 : BitVec 32 := 16#32
  let c0_i32_68 : BitVec 32 := 0#32
  let v161 : BitVec 1 := Scalar.cmpi .sgt c16_i32_65 c0_i32_68
  let v162 : BitVec 32 := Scalar.extui v161
  let c0_i32_69 : BitVec 32 := 0#32
  let v163 : BitVec 1 := Scalar.cmpi .slt c16_i32_65 c0_i32_69
  let v164 : BitVec 32 := Scalar.extui v163
  let v165 : BitVec 32 := Scalar.subi v162 v164
  let v166 : BitVec 1 := Scalar.cmpi .ne v160 v165
  let v167 : BitVec 32 := Scalar.remsi v107 c16_i32_65
  let c0_i32_70 : BitVec 32 := 0#32
  let v168 : BitVec 1 := Scalar.cmpi .ne v167 c0_i32_70
  let v169 : BitVec 1 := Scalar.andi v166 v168
  let v155 : BitVec 32 := Scalar.divsi v107 c16_i32_65
  let c1_i32_71 : BitVec 32 := 1#32
  let v170 : BitVec 32 := Scalar.subi v155 c1_i32_71
  let v171 : BitVec 32 := Scalar.select v169 v170 v155
  let v172 : BitVec 32 := Scalar.subi v171 v154
  let c1_i32_73 : BitVec 32 := 1#32
  let v174 : BitVec 32 := Scalar.divsi v172 c1_i32_73
  let v175 : BitVec 32 := Scalar.muli v174 c1_i32_73
  let v176 : BitVec 32 := Scalar.addi v154 v175
  let c1_i32_75 : BitVec 32 := 1#32
  let arg17 : BitVec 32 := Scf.iv v176 c1_i32_75 k0_t6
  let c16_i32_89 : BitVec 32 := 16#32
  let v205 : BitVec 32 := Scalar.muli arg17 c16_i32_89
  let c1_i32_122 : BitVec 32 := 1#32
  let v350 : BitVec 32 := Scalar.addi v205 c1_i32_122
  let c128_i32_123 : BitVec 32 := 128#32
  let v351 : BitVec 32 := Scalar.muli v350 c128_i32_123
  let v352 : BitVec 32 := Scalar.addi v108 v351
  let v353 : BitVec 32 := Scalar.addi v352 c0_i32_124
  let v354 : Index := Scalar.indexCast v353
  ![v354.toNat]
def k0_off82 (i : grid0.Coords) (v253 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v253 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond26 (v253 : BitVec 32) (v348 : BitVec 32) : BitVec 1 :=
  let v349 : BitVec 1 := Scalar.cmpi .ne v348 v253
  let c0_i32_146 : BitVec 32 := 0#32
  let v406 : BitVec 1 := Scalar.cmpi .sge v253 c0_i32_146
  let v407 : BitVec 1 := Scalar.andi v349 v406
  let v408 : BitVec 32 := Scalar.extui v407
  let c0_i32_147 : BitVec 32 := 0#32
  let v409 : BitVec 1 := Scalar.cmpi .ne v408 c0_i32_147
  v409

def k0_off83 (i : grid0.Coords) (v253 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v253 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk23 (i : grid0.Coords) (v211 : BitVec 32) (v213 : BitVec 32) (v253 : BitVec 32) (v348 : BitVec 32) : Prop :=
  (∀ (k0_h24 : k0_cond24 v211 v213 = 1#1), ∀ (k0_h26 : k0_cond26 v253 v348 = 1#1), ∀ (r : Fin 8), ∀ a, (k0_off82 i v253 (BitVec.ofNat 32 (16 * r.val))) a + S16.size a ≤ S81920.size a) ∧
  (∀ (k0_h24 : k0_cond24 v211 v213 = 1#1), ∀ (k0_h26 : k0_cond26 v253 v348 = 1#1), ∀ (r : Fin 8), ∀ a, (k0_off83 i v253 (BitVec.ofNat 32 (16 * r.val))) a + S16.size a ≤ S81920.size a)
theorem k0_off82_inb : ∀ (i : grid0.Coords) (v211 : BitVec 32) (v213 : BitVec 32) (v253 : BitVec 32) (v348 : BitVec 32) (k0_hw23 : k0_chk23 i v211 v213 v253 v348), ∀ (k0_h24 : k0_cond24 v211 v213 = 1#1), ∀ (k0_h26 : k0_cond26 v253 v348 = 1#1), ∀ (r : Fin 8), ∀ a, (k0_off82 i v253 (BitVec.ofNat 32 (16 * r.val))) a + S16.size a ≤ S81920.size a := fun i v211 v213 v253 v348 k0_hw23 k0_h24 k0_h26 r => k0_hw23.1 k0_h24 k0_h26 r
theorem k0_off83_inb : ∀ (i : grid0.Coords) (v211 : BitVec 32) (v213 : BitVec 32) (v253 : BitVec 32) (v348 : BitVec 32) (k0_hw23 : k0_chk23 i v211 v213 v253 v348), ∀ (k0_h24 : k0_cond24 v211 v213 = 1#1), ∀ (k0_h26 : k0_cond26 v253 v348 = 1#1), ∀ (r : Fin 8), ∀ a, (k0_off83 i v253 (BitVec.ofNat 32 (16 * r.val))) a + S16.size a ≤ S81920.size a := fun i v211 v213 v253 v348 k0_hw23 k0_h24 k0_h26 r => k0_hw23.2 k0_h24 k0_h26 r

def k0_off84 (v5 : BitVec 32) (v7 : BitVec 32) (k0_t2 : Fin (k0_t2_loop v5 v7).trips) (k0_t6 : Fin (k0_t6_loop v5 v7 k0_t2).trips) (c0_i32_150 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c0_i32_66 : BitVec 32 := 0#32
  let v156 : BitVec 1 := Scalar.cmpi .sgt v107 c0_i32_66
  let v157 : BitVec 32 := Scalar.extui v156
  let c0_i32_67 : BitVec 32 := 0#32
  let v158 : BitVec 1 := Scalar.cmpi .slt v107 c0_i32_67
  let v159 : BitVec 32 := Scalar.extui v158
  let v160 : BitVec 32 := Scalar.subi v157 v159
  let c16_i32_65 : BitVec 32 := 16#32
  let c0_i32_68 : BitVec 32 := 0#32
  let v161 : BitVec 1 := Scalar.cmpi .sgt c16_i32_65 c0_i32_68
  let v162 : BitVec 32 := Scalar.extui v161
  let c0_i32_69 : BitVec 32 := 0#32
  let v163 : BitVec 1 := Scalar.cmpi .slt c16_i32_65 c0_i32_69
  let v164 : BitVec 32 := Scalar.extui v163
  let v165 : BitVec 32 := Scalar.subi v162 v164
  let v166 : BitVec 1 := Scalar.cmpi .ne v160 v165
  let v167 : BitVec 32 := Scalar.remsi v107 c16_i32_65
  let c0_i32_70 : BitVec 32 := 0#32
  let v168 : BitVec 1 := Scalar.cmpi .ne v167 c0_i32_70
  let v169 : BitVec 1 := Scalar.andi v166 v168
  let v155 : BitVec 32 := Scalar.divsi v107 c16_i32_65
  let c1_i32_71 : BitVec 32 := 1#32
  let v170 : BitVec 32 := Scalar.subi v155 c1_i32_71
  let v171 : BitVec 32 := Scalar.select v169 v170 v155
  let v172 : BitVec 32 := Scalar.subi v171 v154
  let c1_i32_73 : BitVec 32 := 1#32
  let v174 : BitVec 32 := Scalar.divsi v172 c1_i32_73
  let v175 : BitVec 32 := Scalar.muli v174 c1_i32_73
  let v176 : BitVec 32 := Scalar.addi v154 v175
  let c1_i32_75 : BitVec 32 := 1#32
  let arg17 : BitVec 32 := Scf.iv v176 c1_i32_75 k0_t6
  let c16_i32_89 : BitVec 32 := 16#32
  let v205 : BitVec 32 := Scalar.muli arg17 c16_i32_89
  let c2_i32_148 : BitVec 32 := 2#32
  let v445 : BitVec 32 := Scalar.addi v205 c2_i32_148
  let c128_i32_149 : BitVec 32 := 128#32
  let v446 : BitVec 32 := Scalar.muli v445 c128_i32_149
  let v447 : BitVec 32 := Scalar.addi v108 v446
  let v448 : BitVec 32 := Scalar.addi v447 c0_i32_150
  let v449 : Index := Scalar.indexCast v448
  ![v449.toNat]
def k0_off85 (i : grid0.Coords) (v348 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v348 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond27 (v348 : BitVec 32) (v443 : BitVec 32) : BitVec 1 :=
  let v444 : BitVec 1 := Scalar.cmpi .ne v443 v348
  let c0_i32_172 : BitVec 32 := 0#32
  let v501 : BitVec 1 := Scalar.cmpi .sge v348 c0_i32_172
  let v502 : BitVec 1 := Scalar.andi v444 v501
  let v503 : BitVec 32 := Scalar.extui v502
  let c0_i32_173 : BitVec 32 := 0#32
  let v504 : BitVec 1 := Scalar.cmpi .ne v503 c0_i32_173
  v504

def k0_off86 (i : grid0.Coords) (v348 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v348 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk24 (i : grid0.Coords) (v211 : BitVec 32) (v213 : BitVec 32) (v348 : BitVec 32) (v443 : BitVec 32) : Prop :=
  (∀ (k0_h24 : k0_cond24 v211 v213 = 1#1), ∀ (k0_h27 : k0_cond27 v348 v443 = 1#1), ∀ (r : Fin 8), ∀ a, (k0_off85 i v348 (BitVec.ofNat 32 (16 * r.val))) a + S16.size a ≤ S81920.size a) ∧
  (∀ (k0_h24 : k0_cond24 v211 v213 = 1#1), ∀ (k0_h27 : k0_cond27 v348 v443 = 1#1), ∀ (r : Fin 8), ∀ a, (k0_off86 i v348 (BitVec.ofNat 32 (16 * r.val))) a + S16.size a ≤ S81920.size a)
theorem k0_off85_inb : ∀ (i : grid0.Coords) (v211 : BitVec 32) (v213 : BitVec 32) (v348 : BitVec 32) (v443 : BitVec 32) (k0_hw24 : k0_chk24 i v211 v213 v348 v443), ∀ (k0_h24 : k0_cond24 v211 v213 = 1#1), ∀ (k0_h27 : k0_cond27 v348 v443 = 1#1), ∀ (r : Fin 8), ∀ a, (k0_off85 i v348 (BitVec.ofNat 32 (16 * r.val))) a + S16.size a ≤ S81920.size a := fun i v211 v213 v348 v443 k0_hw24 k0_h24 k0_h27 r => k0_hw24.1 k0_h24 k0_h27 r
theorem k0_off86_inb : ∀ (i : grid0.Coords) (v211 : BitVec 32) (v213 : BitVec 32) (v348 : BitVec 32) (v443 : BitVec 32) (k0_hw24 : k0_chk24 i v211 v213 v348 v443), ∀ (k0_h24 : k0_cond24 v211 v213 = 1#1), ∀ (k0_h27 : k0_cond27 v348 v443 = 1#1), ∀ (r : Fin 8), ∀ a, (k0_off86 i v348 (BitVec.ofNat 32 (16 * r.val))) a + S16.size a ≤ S81920.size a := fun i v211 v213 v348 v443 k0_hw24 k0_h24 k0_h27 r => k0_hw24.2 k0_h24 k0_h27 r

def k0_off87 (v5 : BitVec 32) (v7 : BitVec 32) (k0_t2 : Fin (k0_t2_loop v5 v7).trips) (k0_t6 : Fin (k0_t6_loop v5 v7 k0_t2).trips) (c0_i32_175 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c0_i32_66 : BitVec 32 := 0#32
  let v156 : BitVec 1 := Scalar.cmpi .sgt v107 c0_i32_66
  let v157 : BitVec 32 := Scalar.extui v156
  let c0_i32_67 : BitVec 32 := 0#32
  let v158 : BitVec 1 := Scalar.cmpi .slt v107 c0_i32_67
  let v159 : BitVec 32 := Scalar.extui v158
  let v160 : BitVec 32 := Scalar.subi v157 v159
  let c16_i32_65 : BitVec 32 := 16#32
  let c0_i32_68 : BitVec 32 := 0#32
  let v161 : BitVec 1 := Scalar.cmpi .sgt c16_i32_65 c0_i32_68
  let v162 : BitVec 32 := Scalar.extui v161
  let c0_i32_69 : BitVec 32 := 0#32
  let v163 : BitVec 1 := Scalar.cmpi .slt c16_i32_65 c0_i32_69
  let v164 : BitVec 32 := Scalar.extui v163
  let v165 : BitVec 32 := Scalar.subi v162 v164
  let v166 : BitVec 1 := Scalar.cmpi .ne v160 v165
  let v167 : BitVec 32 := Scalar.remsi v107 c16_i32_65
  let c0_i32_70 : BitVec 32 := 0#32
  let v168 : BitVec 1 := Scalar.cmpi .ne v167 c0_i32_70
  let v169 : BitVec 1 := Scalar.andi v166 v168
  let v155 : BitVec 32 := Scalar.divsi v107 c16_i32_65
  let c1_i32_71 : BitVec 32 := 1#32
  let v170 : BitVec 32 := Scalar.subi v155 c1_i32_71
  let v171 : BitVec 32 := Scalar.select v169 v170 v155
  let v172 : BitVec 32 := Scalar.subi v171 v154
  let c1_i32_73 : BitVec 32 := 1#32
  let v174 : BitVec 32 := Scalar.divsi v172 c1_i32_73
  let v175 : BitVec 32 := Scalar.muli v174 c1_i32_73
  let v176 : BitVec 32 := Scalar.addi v154 v175
  let c1_i32_75 : BitVec 32 := 1#32
  let arg17 : BitVec 32 := Scf.iv v176 c1_i32_75 k0_t6
  let c16_i32_89 : BitVec 32 := 16#32
  let v205 : BitVec 32 := Scalar.muli arg17 c16_i32_89
  let c3_i32 : BitVec 32 := 3#32
  let v540 : BitVec 32 := Scalar.addi v205 c3_i32
  let c128_i32_174 : BitVec 32 := 128#32
  let v541 : BitVec 32 := Scalar.muli v540 c128_i32_174
  let v542 : BitVec 32 := Scalar.addi v108 v541
  let v543 : BitVec 32 := Scalar.addi v542 c0_i32_175
  let v544 : Index := Scalar.indexCast v543
  ![v544.toNat]
def k0_off88 (i : grid0.Coords) (v443 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v443 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond28 (v443 : BitVec 32) (v538 : BitVec 32) : BitVec 1 :=
  let v539 : BitVec 1 := Scalar.cmpi .ne v538 v443
  let c0_i32_197 : BitVec 32 := 0#32
  let v596 : BitVec 1 := Scalar.cmpi .sge v443 c0_i32_197
  let v597 : BitVec 1 := Scalar.andi v539 v596
  let v598 : BitVec 32 := Scalar.extui v597
  let c0_i32_198 : BitVec 32 := 0#32
  let v599 : BitVec 1 := Scalar.cmpi .ne v598 c0_i32_198
  v599

def k0_off89 (i : grid0.Coords) (v443 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v443 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk25 (i : grid0.Coords) (v211 : BitVec 32) (v213 : BitVec 32) (v443 : BitVec 32) (v538 : BitVec 32) : Prop :=
  (∀ (k0_h24 : k0_cond24 v211 v213 = 1#1), ∀ (k0_h28 : k0_cond28 v443 v538 = 1#1), ∀ (r : Fin 8), ∀ a, (k0_off88 i v443 (BitVec.ofNat 32 (16 * r.val))) a + S16.size a ≤ S81920.size a) ∧
  (∀ (k0_h24 : k0_cond24 v211 v213 = 1#1), ∀ (k0_h28 : k0_cond28 v443 v538 = 1#1), ∀ (r : Fin 8), ∀ a, (k0_off89 i v443 (BitVec.ofNat 32 (16 * r.val))) a + S16.size a ≤ S81920.size a)
theorem k0_off88_inb : ∀ (i : grid0.Coords) (v211 : BitVec 32) (v213 : BitVec 32) (v443 : BitVec 32) (v538 : BitVec 32) (k0_hw25 : k0_chk25 i v211 v213 v443 v538), ∀ (k0_h24 : k0_cond24 v211 v213 = 1#1), ∀ (k0_h28 : k0_cond28 v443 v538 = 1#1), ∀ (r : Fin 8), ∀ a, (k0_off88 i v443 (BitVec.ofNat 32 (16 * r.val))) a + S16.size a ≤ S81920.size a := fun i v211 v213 v443 v538 k0_hw25 k0_h24 k0_h28 r => k0_hw25.1 k0_h24 k0_h28 r
theorem k0_off89_inb : ∀ (i : grid0.Coords) (v211 : BitVec 32) (v213 : BitVec 32) (v443 : BitVec 32) (v538 : BitVec 32) (k0_hw25 : k0_chk25 i v211 v213 v443 v538), ∀ (k0_h24 : k0_cond24 v211 v213 = 1#1), ∀ (k0_h28 : k0_cond28 v443 v538 = 1#1), ∀ (r : Fin 8), ∀ a, (k0_off89 i v443 (BitVec.ofNat 32 (16 * r.val))) a + S16.size a ≤ S81920.size a := fun i v211 v213 v443 v538 k0_hw25 k0_h24 k0_h28 r => k0_hw25.2 k0_h24 k0_h28 r

def k0_off90 (v5 : BitVec 32) (v7 : BitVec 32) (k0_t2 : Fin (k0_t2_loop v5 v7).trips) (k0_t6 : Fin (k0_t6_loop v5 v7 k0_t2).trips) (c0_i32_200 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c0_i32_66 : BitVec 32 := 0#32
  let v156 : BitVec 1 := Scalar.cmpi .sgt v107 c0_i32_66
  let v157 : BitVec 32 := Scalar.extui v156
  let c0_i32_67 : BitVec 32 := 0#32
  let v158 : BitVec 1 := Scalar.cmpi .slt v107 c0_i32_67
  let v159 : BitVec 32 := Scalar.extui v158
  let v160 : BitVec 32 := Scalar.subi v157 v159
  let c16_i32_65 : BitVec 32 := 16#32
  let c0_i32_68 : BitVec 32 := 0#32
  let v161 : BitVec 1 := Scalar.cmpi .sgt c16_i32_65 c0_i32_68
  let v162 : BitVec 32 := Scalar.extui v161
  let c0_i32_69 : BitVec 32 := 0#32
  let v163 : BitVec 1 := Scalar.cmpi .slt c16_i32_65 c0_i32_69
  let v164 : BitVec 32 := Scalar.extui v163
  let v165 : BitVec 32 := Scalar.subi v162 v164
  let v166 : BitVec 1 := Scalar.cmpi .ne v160 v165
  let v167 : BitVec 32 := Scalar.remsi v107 c16_i32_65
  let c0_i32_70 : BitVec 32 := 0#32
  let v168 : BitVec 1 := Scalar.cmpi .ne v167 c0_i32_70
  let v169 : BitVec 1 := Scalar.andi v166 v168
  let v155 : BitVec 32 := Scalar.divsi v107 c16_i32_65
  let c1_i32_71 : BitVec 32 := 1#32
  let v170 : BitVec 32 := Scalar.subi v155 c1_i32_71
  let v171 : BitVec 32 := Scalar.select v169 v170 v155
  let v172 : BitVec 32 := Scalar.subi v171 v154
  let c1_i32_73 : BitVec 32 := 1#32
  let v174 : BitVec 32 := Scalar.divsi v172 c1_i32_73
  let v175 : BitVec 32 := Scalar.muli v174 c1_i32_73
  let v176 : BitVec 32 := Scalar.addi v154 v175
  let c1_i32_75 : BitVec 32 := 1#32
  let arg17 : BitVec 32 := Scf.iv v176 c1_i32_75 k0_t6
  let c16_i32_89 : BitVec 32 := 16#32
  let v205 : BitVec 32 := Scalar.muli arg17 c16_i32_89
  let c4_i32 : BitVec 32 := 4#32
  let v635 : BitVec 32 := Scalar.addi v205 c4_i32
  let c128_i32_199 : BitVec 32 := 128#32
  let v636 : BitVec 32 := Scalar.muli v635 c128_i32_199
  let v637 : BitVec 32 := Scalar.addi v108 v636
  let v638 : BitVec 32 := Scalar.addi v637 c0_i32_200
  let v639 : Index := Scalar.indexCast v638
  ![v639.toNat]
def k0_off91 (i : grid0.Coords) (v538 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v538 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond29 (v538 : BitVec 32) (v633 : BitVec 32) : BitVec 1 :=
  let v634 : BitVec 1 := Scalar.cmpi .ne v633 v538
  let c0_i32_222 : BitVec 32 := 0#32
  let v691 : BitVec 1 := Scalar.cmpi .sge v538 c0_i32_222
  let v692 : BitVec 1 := Scalar.andi v634 v691
  let v693 : BitVec 32 := Scalar.extui v692
  let c0_i32_223 : BitVec 32 := 0#32
  let v694 : BitVec 1 := Scalar.cmpi .ne v693 c0_i32_223
  v694

def k0_off92 (i : grid0.Coords) (v538 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v538 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk26 (i : grid0.Coords) (v211 : BitVec 32) (v213 : BitVec 32) (v538 : BitVec 32) (v633 : BitVec 32) : Prop :=
  (∀ (k0_h24 : k0_cond24 v211 v213 = 1#1), ∀ (k0_h29 : k0_cond29 v538 v633 = 1#1), ∀ (r : Fin 8), ∀ a, (k0_off91 i v538 (BitVec.ofNat 32 (16 * r.val))) a + S16.size a ≤ S81920.size a) ∧
  (∀ (k0_h24 : k0_cond24 v211 v213 = 1#1), ∀ (k0_h29 : k0_cond29 v538 v633 = 1#1), ∀ (r : Fin 8), ∀ a, (k0_off92 i v538 (BitVec.ofNat 32 (16 * r.val))) a + S16.size a ≤ S81920.size a)
theorem k0_off91_inb : ∀ (i : grid0.Coords) (v211 : BitVec 32) (v213 : BitVec 32) (v538 : BitVec 32) (v633 : BitVec 32) (k0_hw26 : k0_chk26 i v211 v213 v538 v633), ∀ (k0_h24 : k0_cond24 v211 v213 = 1#1), ∀ (k0_h29 : k0_cond29 v538 v633 = 1#1), ∀ (r : Fin 8), ∀ a, (k0_off91 i v538 (BitVec.ofNat 32 (16 * r.val))) a + S16.size a ≤ S81920.size a := fun i v211 v213 v538 v633 k0_hw26 k0_h24 k0_h29 r => k0_hw26.1 k0_h24 k0_h29 r
theorem k0_off92_inb : ∀ (i : grid0.Coords) (v211 : BitVec 32) (v213 : BitVec 32) (v538 : BitVec 32) (v633 : BitVec 32) (k0_hw26 : k0_chk26 i v211 v213 v538 v633), ∀ (k0_h24 : k0_cond24 v211 v213 = 1#1), ∀ (k0_h29 : k0_cond29 v538 v633 = 1#1), ∀ (r : Fin 8), ∀ a, (k0_off92 i v538 (BitVec.ofNat 32 (16 * r.val))) a + S16.size a ≤ S81920.size a := fun i v211 v213 v538 v633 k0_hw26 k0_h24 k0_h29 r => k0_hw26.2 k0_h24 k0_h29 r

def k0_off93 (v5 : BitVec 32) (v7 : BitVec 32) (k0_t2 : Fin (k0_t2_loop v5 v7).trips) (k0_t6 : Fin (k0_t6_loop v5 v7 k0_t2).trips) (c0_i32_225 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c0_i32_66 : BitVec 32 := 0#32
  let v156 : BitVec 1 := Scalar.cmpi .sgt v107 c0_i32_66
  let v157 : BitVec 32 := Scalar.extui v156
  let c0_i32_67 : BitVec 32 := 0#32
  let v158 : BitVec 1 := Scalar.cmpi .slt v107 c0_i32_67
  let v159 : BitVec 32 := Scalar.extui v158
  let v160 : BitVec 32 := Scalar.subi v157 v159
  let c16_i32_65 : BitVec 32 := 16#32
  let c0_i32_68 : BitVec 32 := 0#32
  let v161 : BitVec 1 := Scalar.cmpi .sgt c16_i32_65 c0_i32_68
  let v162 : BitVec 32 := Scalar.extui v161
  let c0_i32_69 : BitVec 32 := 0#32
  let v163 : BitVec 1 := Scalar.cmpi .slt c16_i32_65 c0_i32_69
  let v164 : BitVec 32 := Scalar.extui v163
  let v165 : BitVec 32 := Scalar.subi v162 v164
  let v166 : BitVec 1 := Scalar.cmpi .ne v160 v165
  let v167 : BitVec 32 := Scalar.remsi v107 c16_i32_65
  let c0_i32_70 : BitVec 32 := 0#32
  let v168 : BitVec 1 := Scalar.cmpi .ne v167 c0_i32_70
  let v169 : BitVec 1 := Scalar.andi v166 v168
  let v155 : BitVec 32 := Scalar.divsi v107 c16_i32_65
  let c1_i32_71 : BitVec 32 := 1#32
  let v170 : BitVec 32 := Scalar.subi v155 c1_i32_71
  let v171 : BitVec 32 := Scalar.select v169 v170 v155
  let v172 : BitVec 32 := Scalar.subi v171 v154
  let c1_i32_73 : BitVec 32 := 1#32
  let v174 : BitVec 32 := Scalar.divsi v172 c1_i32_73
  let v175 : BitVec 32 := Scalar.muli v174 c1_i32_73
  let v176 : BitVec 32 := Scalar.addi v154 v175
  let c1_i32_75 : BitVec 32 := 1#32
  let arg17 : BitVec 32 := Scf.iv v176 c1_i32_75 k0_t6
  let c16_i32_89 : BitVec 32 := 16#32
  let v205 : BitVec 32 := Scalar.muli arg17 c16_i32_89
  let c5_i32 : BitVec 32 := 5#32
  let v730 : BitVec 32 := Scalar.addi v205 c5_i32
  let c128_i32_224 : BitVec 32 := 128#32
  let v731 : BitVec 32 := Scalar.muli v730 c128_i32_224
  let v732 : BitVec 32 := Scalar.addi v108 v731
  let v733 : BitVec 32 := Scalar.addi v732 c0_i32_225
  let v734 : Index := Scalar.indexCast v733
  ![v734.toNat]
def k0_off94 (i : grid0.Coords) (v633 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v633 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond30 (v633 : BitVec 32) (v728 : BitVec 32) : BitVec 1 :=
  let v729 : BitVec 1 := Scalar.cmpi .ne v728 v633
  let c0_i32_247 : BitVec 32 := 0#32
  let v786 : BitVec 1 := Scalar.cmpi .sge v633 c0_i32_247
  let v787 : BitVec 1 := Scalar.andi v729 v786
  let v788 : BitVec 32 := Scalar.extui v787
  let c0_i32_248 : BitVec 32 := 0#32
  let v789 : BitVec 1 := Scalar.cmpi .ne v788 c0_i32_248
  v789

def k0_off95 (i : grid0.Coords) (v633 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v633 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk27 (i : grid0.Coords) (v211 : BitVec 32) (v213 : BitVec 32) (v633 : BitVec 32) (v728 : BitVec 32) : Prop :=
  (∀ (k0_h24 : k0_cond24 v211 v213 = 1#1), ∀ (k0_h30 : k0_cond30 v633 v728 = 1#1), ∀ (r : Fin 8), ∀ a, (k0_off94 i v633 (BitVec.ofNat 32 (16 * r.val))) a + S16.size a ≤ S81920.size a) ∧
  (∀ (k0_h24 : k0_cond24 v211 v213 = 1#1), ∀ (k0_h30 : k0_cond30 v633 v728 = 1#1), ∀ (r : Fin 8), ∀ a, (k0_off95 i v633 (BitVec.ofNat 32 (16 * r.val))) a + S16.size a ≤ S81920.size a)
theorem k0_off94_inb : ∀ (i : grid0.Coords) (v211 : BitVec 32) (v213 : BitVec 32) (v633 : BitVec 32) (v728 : BitVec 32) (k0_hw27 : k0_chk27 i v211 v213 v633 v728), ∀ (k0_h24 : k0_cond24 v211 v213 = 1#1), ∀ (k0_h30 : k0_cond30 v633 v728 = 1#1), ∀ (r : Fin 8), ∀ a, (k0_off94 i v633 (BitVec.ofNat 32 (16 * r.val))) a + S16.size a ≤ S81920.size a := fun i v211 v213 v633 v728 k0_hw27 k0_h24 k0_h30 r => k0_hw27.1 k0_h24 k0_h30 r
theorem k0_off95_inb : ∀ (i : grid0.Coords) (v211 : BitVec 32) (v213 : BitVec 32) (v633 : BitVec 32) (v728 : BitVec 32) (k0_hw27 : k0_chk27 i v211 v213 v633 v728), ∀ (k0_h24 : k0_cond24 v211 v213 = 1#1), ∀ (k0_h30 : k0_cond30 v633 v728 = 1#1), ∀ (r : Fin 8), ∀ a, (k0_off95 i v633 (BitVec.ofNat 32 (16 * r.val))) a + S16.size a ≤ S81920.size a := fun i v211 v213 v633 v728 k0_hw27 k0_h24 k0_h30 r => k0_hw27.2 k0_h24 k0_h30 r

def k0_off96 (v5 : BitVec 32) (v7 : BitVec 32) (k0_t2 : Fin (k0_t2_loop v5 v7).trips) (k0_t6 : Fin (k0_t6_loop v5 v7 k0_t2).trips) (c0_i32_250 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c0_i32_66 : BitVec 32 := 0#32
  let v156 : BitVec 1 := Scalar.cmpi .sgt v107 c0_i32_66
  let v157 : BitVec 32 := Scalar.extui v156
  let c0_i32_67 : BitVec 32 := 0#32
  let v158 : BitVec 1 := Scalar.cmpi .slt v107 c0_i32_67
  let v159 : BitVec 32 := Scalar.extui v158
  let v160 : BitVec 32 := Scalar.subi v157 v159
  let c16_i32_65 : BitVec 32 := 16#32
  let c0_i32_68 : BitVec 32 := 0#32
  let v161 : BitVec 1 := Scalar.cmpi .sgt c16_i32_65 c0_i32_68
  let v162 : BitVec 32 := Scalar.extui v161
  let c0_i32_69 : BitVec 32 := 0#32
  let v163 : BitVec 1 := Scalar.cmpi .slt c16_i32_65 c0_i32_69
  let v164 : BitVec 32 := Scalar.extui v163
  let v165 : BitVec 32 := Scalar.subi v162 v164
  let v166 : BitVec 1 := Scalar.cmpi .ne v160 v165
  let v167 : BitVec 32 := Scalar.remsi v107 c16_i32_65
  let c0_i32_70 : BitVec 32 := 0#32
  let v168 : BitVec 1 := Scalar.cmpi .ne v167 c0_i32_70
  let v169 : BitVec 1 := Scalar.andi v166 v168
  let v155 : BitVec 32 := Scalar.divsi v107 c16_i32_65
  let c1_i32_71 : BitVec 32 := 1#32
  let v170 : BitVec 32 := Scalar.subi v155 c1_i32_71
  let v171 : BitVec 32 := Scalar.select v169 v170 v155
  let v172 : BitVec 32 := Scalar.subi v171 v154
  let c1_i32_73 : BitVec 32 := 1#32
  let v174 : BitVec 32 := Scalar.divsi v172 c1_i32_73
  let v175 : BitVec 32 := Scalar.muli v174 c1_i32_73
  let v176 : BitVec 32 := Scalar.addi v154 v175
  let c1_i32_75 : BitVec 32 := 1#32
  let arg17 : BitVec 32 := Scf.iv v176 c1_i32_75 k0_t6
  let c16_i32_89 : BitVec 32 := 16#32
  let v205 : BitVec 32 := Scalar.muli arg17 c16_i32_89
  let c6_i32 : BitVec 32 := 6#32
  let v825 : BitVec 32 := Scalar.addi v205 c6_i32
  let c128_i32_249 : BitVec 32 := 128#32
  let v826 : BitVec 32 := Scalar.muli v825 c128_i32_249
  let v827 : BitVec 32 := Scalar.addi v108 v826
  let v828 : BitVec 32 := Scalar.addi v827 c0_i32_250
  let v829 : Index := Scalar.indexCast v828
  ![v829.toNat]
def k0_off97 (i : grid0.Coords) (v728 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v728 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond31 (v728 : BitVec 32) (v823 : BitVec 32) : BitVec 1 :=
  let v824 : BitVec 1 := Scalar.cmpi .ne v823 v728
  let c0_i32_272 : BitVec 32 := 0#32
  let v881 : BitVec 1 := Scalar.cmpi .sge v728 c0_i32_272
  let v882 : BitVec 1 := Scalar.andi v824 v881
  let v883 : BitVec 32 := Scalar.extui v882
  let c0_i32_273 : BitVec 32 := 0#32
  let v884 : BitVec 1 := Scalar.cmpi .ne v883 c0_i32_273
  v884

def k0_off98 (i : grid0.Coords) (v728 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v728 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk28 (i : grid0.Coords) (v211 : BitVec 32) (v213 : BitVec 32) (v728 : BitVec 32) (v823 : BitVec 32) : Prop :=
  (∀ (k0_h24 : k0_cond24 v211 v213 = 1#1), ∀ (k0_h31 : k0_cond31 v728 v823 = 1#1), ∀ (r : Fin 8), ∀ a, (k0_off97 i v728 (BitVec.ofNat 32 (16 * r.val))) a + S16.size a ≤ S81920.size a) ∧
  (∀ (k0_h24 : k0_cond24 v211 v213 = 1#1), ∀ (k0_h31 : k0_cond31 v728 v823 = 1#1), ∀ (r : Fin 8), ∀ a, (k0_off98 i v728 (BitVec.ofNat 32 (16 * r.val))) a + S16.size a ≤ S81920.size a)
theorem k0_off97_inb : ∀ (i : grid0.Coords) (v211 : BitVec 32) (v213 : BitVec 32) (v728 : BitVec 32) (v823 : BitVec 32) (k0_hw28 : k0_chk28 i v211 v213 v728 v823), ∀ (k0_h24 : k0_cond24 v211 v213 = 1#1), ∀ (k0_h31 : k0_cond31 v728 v823 = 1#1), ∀ (r : Fin 8), ∀ a, (k0_off97 i v728 (BitVec.ofNat 32 (16 * r.val))) a + S16.size a ≤ S81920.size a := fun i v211 v213 v728 v823 k0_hw28 k0_h24 k0_h31 r => k0_hw28.1 k0_h24 k0_h31 r
theorem k0_off98_inb : ∀ (i : grid0.Coords) (v211 : BitVec 32) (v213 : BitVec 32) (v728 : BitVec 32) (v823 : BitVec 32) (k0_hw28 : k0_chk28 i v211 v213 v728 v823), ∀ (k0_h24 : k0_cond24 v211 v213 = 1#1), ∀ (k0_h31 : k0_cond31 v728 v823 = 1#1), ∀ (r : Fin 8), ∀ a, (k0_off98 i v728 (BitVec.ofNat 32 (16 * r.val))) a + S16.size a ≤ S81920.size a := fun i v211 v213 v728 v823 k0_hw28 k0_h24 k0_h31 r => k0_hw28.2 k0_h24 k0_h31 r

def k0_off99 (v5 : BitVec 32) (v7 : BitVec 32) (k0_t2 : Fin (k0_t2_loop v5 v7).trips) (k0_t6 : Fin (k0_t6_loop v5 v7 k0_t2).trips) (c0_i32_275 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c0_i32_66 : BitVec 32 := 0#32
  let v156 : BitVec 1 := Scalar.cmpi .sgt v107 c0_i32_66
  let v157 : BitVec 32 := Scalar.extui v156
  let c0_i32_67 : BitVec 32 := 0#32
  let v158 : BitVec 1 := Scalar.cmpi .slt v107 c0_i32_67
  let v159 : BitVec 32 := Scalar.extui v158
  let v160 : BitVec 32 := Scalar.subi v157 v159
  let c16_i32_65 : BitVec 32 := 16#32
  let c0_i32_68 : BitVec 32 := 0#32
  let v161 : BitVec 1 := Scalar.cmpi .sgt c16_i32_65 c0_i32_68
  let v162 : BitVec 32 := Scalar.extui v161
  let c0_i32_69 : BitVec 32 := 0#32
  let v163 : BitVec 1 := Scalar.cmpi .slt c16_i32_65 c0_i32_69
  let v164 : BitVec 32 := Scalar.extui v163
  let v165 : BitVec 32 := Scalar.subi v162 v164
  let v166 : BitVec 1 := Scalar.cmpi .ne v160 v165
  let v167 : BitVec 32 := Scalar.remsi v107 c16_i32_65
  let c0_i32_70 : BitVec 32 := 0#32
  let v168 : BitVec 1 := Scalar.cmpi .ne v167 c0_i32_70
  let v169 : BitVec 1 := Scalar.andi v166 v168
  let v155 : BitVec 32 := Scalar.divsi v107 c16_i32_65
  let c1_i32_71 : BitVec 32 := 1#32
  let v170 : BitVec 32 := Scalar.subi v155 c1_i32_71
  let v171 : BitVec 32 := Scalar.select v169 v170 v155
  let v172 : BitVec 32 := Scalar.subi v171 v154
  let c1_i32_73 : BitVec 32 := 1#32
  let v174 : BitVec 32 := Scalar.divsi v172 c1_i32_73
  let v175 : BitVec 32 := Scalar.muli v174 c1_i32_73
  let v176 : BitVec 32 := Scalar.addi v154 v175
  let c1_i32_75 : BitVec 32 := 1#32
  let arg17 : BitVec 32 := Scf.iv v176 c1_i32_75 k0_t6
  let c16_i32_89 : BitVec 32 := 16#32
  let v205 : BitVec 32 := Scalar.muli arg17 c16_i32_89
  let c7_i32 : BitVec 32 := 7#32
  let v920 : BitVec 32 := Scalar.addi v205 c7_i32
  let c128_i32_274 : BitVec 32 := 128#32
  let v921 : BitVec 32 := Scalar.muli v920 c128_i32_274
  let v922 : BitVec 32 := Scalar.addi v108 v921
  let v923 : BitVec 32 := Scalar.addi v922 c0_i32_275
  let v924 : Index := Scalar.indexCast v923
  ![v924.toNat]
def k0_off100 (i : grid0.Coords) (v823 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v823 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond32 (v823 : BitVec 32) (v918 : BitVec 32) : BitVec 1 :=
  let v919 : BitVec 1 := Scalar.cmpi .ne v918 v823
  let c0_i32_297 : BitVec 32 := 0#32
  let v976 : BitVec 1 := Scalar.cmpi .sge v823 c0_i32_297
  let v977 : BitVec 1 := Scalar.andi v919 v976
  let v978 : BitVec 32 := Scalar.extui v977
  let c0_i32_298 : BitVec 32 := 0#32
  let v979 : BitVec 1 := Scalar.cmpi .ne v978 c0_i32_298
  v979

def k0_off101 (i : grid0.Coords) (v823 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v823 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk29 (i : grid0.Coords) (v211 : BitVec 32) (v213 : BitVec 32) (v823 : BitVec 32) (v918 : BitVec 32) : Prop :=
  (∀ (k0_h24 : k0_cond24 v211 v213 = 1#1), ∀ (k0_h32 : k0_cond32 v823 v918 = 1#1), ∀ (r : Fin 8), ∀ a, (k0_off100 i v823 (BitVec.ofNat 32 (16 * r.val))) a + S16.size a ≤ S81920.size a) ∧
  (∀ (k0_h24 : k0_cond24 v211 v213 = 1#1), ∀ (k0_h32 : k0_cond32 v823 v918 = 1#1), ∀ (r : Fin 8), ∀ a, (k0_off101 i v823 (BitVec.ofNat 32 (16 * r.val))) a + S16.size a ≤ S81920.size a)
theorem k0_off100_inb : ∀ (i : grid0.Coords) (v211 : BitVec 32) (v213 : BitVec 32) (v823 : BitVec 32) (v918 : BitVec 32) (k0_hw29 : k0_chk29 i v211 v213 v823 v918), ∀ (k0_h24 : k0_cond24 v211 v213 = 1#1), ∀ (k0_h32 : k0_cond32 v823 v918 = 1#1), ∀ (r : Fin 8), ∀ a, (k0_off100 i v823 (BitVec.ofNat 32 (16 * r.val))) a + S16.size a ≤ S81920.size a := fun i v211 v213 v823 v918 k0_hw29 k0_h24 k0_h32 r => k0_hw29.1 k0_h24 k0_h32 r
theorem k0_off101_inb : ∀ (i : grid0.Coords) (v211 : BitVec 32) (v213 : BitVec 32) (v823 : BitVec 32) (v918 : BitVec 32) (k0_hw29 : k0_chk29 i v211 v213 v823 v918), ∀ (k0_h24 : k0_cond24 v211 v213 = 1#1), ∀ (k0_h32 : k0_cond32 v823 v918 = 1#1), ∀ (r : Fin 8), ∀ a, (k0_off101 i v823 (BitVec.ofNat 32 (16 * r.val))) a + S16.size a ≤ S81920.size a := fun i v211 v213 v823 v918 k0_hw29 k0_h24 k0_h32 r => k0_hw29.2 k0_h24 k0_h32 r

def k0_off102 (v5 : BitVec 32) (v7 : BitVec 32) (k0_t2 : Fin (k0_t2_loop v5 v7).trips) (k0_t6 : Fin (k0_t6_loop v5 v7 k0_t2).trips) (c0_i32_300 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c0_i32_66 : BitVec 32 := 0#32
  let v156 : BitVec 1 := Scalar.cmpi .sgt v107 c0_i32_66
  let v157 : BitVec 32 := Scalar.extui v156
  let c0_i32_67 : BitVec 32 := 0#32
  let v158 : BitVec 1 := Scalar.cmpi .slt v107 c0_i32_67
  let v159 : BitVec 32 := Scalar.extui v158
  let v160 : BitVec 32 := Scalar.subi v157 v159
  let c16_i32_65 : BitVec 32 := 16#32
  let c0_i32_68 : BitVec 32 := 0#32
  let v161 : BitVec 1 := Scalar.cmpi .sgt c16_i32_65 c0_i32_68
  let v162 : BitVec 32 := Scalar.extui v161
  let c0_i32_69 : BitVec 32 := 0#32
  let v163 : BitVec 1 := Scalar.cmpi .slt c16_i32_65 c0_i32_69
  let v164 : BitVec 32 := Scalar.extui v163
  let v165 : BitVec 32 := Scalar.subi v162 v164
  let v166 : BitVec 1 := Scalar.cmpi .ne v160 v165
  let v167 : BitVec 32 := Scalar.remsi v107 c16_i32_65
  let c0_i32_70 : BitVec 32 := 0#32
  let v168 : BitVec 1 := Scalar.cmpi .ne v167 c0_i32_70
  let v169 : BitVec 1 := Scalar.andi v166 v168
  let v155 : BitVec 32 := Scalar.divsi v107 c16_i32_65
  let c1_i32_71 : BitVec 32 := 1#32
  let v170 : BitVec 32 := Scalar.subi v155 c1_i32_71
  let v171 : BitVec 32 := Scalar.select v169 v170 v155
  let v172 : BitVec 32 := Scalar.subi v171 v154
  let c1_i32_73 : BitVec 32 := 1#32
  let v174 : BitVec 32 := Scalar.divsi v172 c1_i32_73
  let v175 : BitVec 32 := Scalar.muli v174 c1_i32_73
  let v176 : BitVec 32 := Scalar.addi v154 v175
  let c1_i32_75 : BitVec 32 := 1#32
  let arg17 : BitVec 32 := Scf.iv v176 c1_i32_75 k0_t6
  let c16_i32_89 : BitVec 32 := 16#32
  let v205 : BitVec 32 := Scalar.muli arg17 c16_i32_89
  let c8_i32 : BitVec 32 := 8#32
  let v1015 : BitVec 32 := Scalar.addi v205 c8_i32
  let c128_i32_299 : BitVec 32 := 128#32
  let v1016 : BitVec 32 := Scalar.muli v1015 c128_i32_299
  let v1017 : BitVec 32 := Scalar.addi v108 v1016
  let v1018 : BitVec 32 := Scalar.addi v1017 c0_i32_300
  let v1019 : Index := Scalar.indexCast v1018
  ![v1019.toNat]
def k0_off103 (i : grid0.Coords) (v918 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v918 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond33 (v918 : BitVec 32) (v1013 : BitVec 32) : BitVec 1 :=
  let v1014 : BitVec 1 := Scalar.cmpi .ne v1013 v918
  let c0_i32_322 : BitVec 32 := 0#32
  let v1071 : BitVec 1 := Scalar.cmpi .sge v918 c0_i32_322
  let v1072 : BitVec 1 := Scalar.andi v1014 v1071
  let v1073 : BitVec 32 := Scalar.extui v1072
  let c0_i32_323 : BitVec 32 := 0#32
  let v1074 : BitVec 1 := Scalar.cmpi .ne v1073 c0_i32_323
  v1074

def k0_off104 (i : grid0.Coords) (v918 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v918 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk30 (i : grid0.Coords) (v211 : BitVec 32) (v213 : BitVec 32) (v918 : BitVec 32) (v1013 : BitVec 32) : Prop :=
  (∀ (k0_h24 : k0_cond24 v211 v213 = 1#1), ∀ (k0_h33 : k0_cond33 v918 v1013 = 1#1), ∀ (r : Fin 8), ∀ a, (k0_off103 i v918 (BitVec.ofNat 32 (16 * r.val))) a + S16.size a ≤ S81920.size a) ∧
  (∀ (k0_h24 : k0_cond24 v211 v213 = 1#1), ∀ (k0_h33 : k0_cond33 v918 v1013 = 1#1), ∀ (r : Fin 8), ∀ a, (k0_off104 i v918 (BitVec.ofNat 32 (16 * r.val))) a + S16.size a ≤ S81920.size a)
theorem k0_off103_inb : ∀ (i : grid0.Coords) (v211 : BitVec 32) (v213 : BitVec 32) (v918 : BitVec 32) (v1013 : BitVec 32) (k0_hw30 : k0_chk30 i v211 v213 v918 v1013), ∀ (k0_h24 : k0_cond24 v211 v213 = 1#1), ∀ (k0_h33 : k0_cond33 v918 v1013 = 1#1), ∀ (r : Fin 8), ∀ a, (k0_off103 i v918 (BitVec.ofNat 32 (16 * r.val))) a + S16.size a ≤ S81920.size a := fun i v211 v213 v918 v1013 k0_hw30 k0_h24 k0_h33 r => k0_hw30.1 k0_h24 k0_h33 r
theorem k0_off104_inb : ∀ (i : grid0.Coords) (v211 : BitVec 32) (v213 : BitVec 32) (v918 : BitVec 32) (v1013 : BitVec 32) (k0_hw30 : k0_chk30 i v211 v213 v918 v1013), ∀ (k0_h24 : k0_cond24 v211 v213 = 1#1), ∀ (k0_h33 : k0_cond33 v918 v1013 = 1#1), ∀ (r : Fin 8), ∀ a, (k0_off104 i v918 (BitVec.ofNat 32 (16 * r.val))) a + S16.size a ≤ S81920.size a := fun i v211 v213 v918 v1013 k0_hw30 k0_h24 k0_h33 r => k0_hw30.2 k0_h24 k0_h33 r

def k0_off105 (v5 : BitVec 32) (v7 : BitVec 32) (k0_t2 : Fin (k0_t2_loop v5 v7).trips) (k0_t6 : Fin (k0_t6_loop v5 v7 k0_t2).trips) (c0_i32_325 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c0_i32_66 : BitVec 32 := 0#32
  let v156 : BitVec 1 := Scalar.cmpi .sgt v107 c0_i32_66
  let v157 : BitVec 32 := Scalar.extui v156
  let c0_i32_67 : BitVec 32 := 0#32
  let v158 : BitVec 1 := Scalar.cmpi .slt v107 c0_i32_67
  let v159 : BitVec 32 := Scalar.extui v158
  let v160 : BitVec 32 := Scalar.subi v157 v159
  let c16_i32_65 : BitVec 32 := 16#32
  let c0_i32_68 : BitVec 32 := 0#32
  let v161 : BitVec 1 := Scalar.cmpi .sgt c16_i32_65 c0_i32_68
  let v162 : BitVec 32 := Scalar.extui v161
  let c0_i32_69 : BitVec 32 := 0#32
  let v163 : BitVec 1 := Scalar.cmpi .slt c16_i32_65 c0_i32_69
  let v164 : BitVec 32 := Scalar.extui v163
  let v165 : BitVec 32 := Scalar.subi v162 v164
  let v166 : BitVec 1 := Scalar.cmpi .ne v160 v165
  let v167 : BitVec 32 := Scalar.remsi v107 c16_i32_65
  let c0_i32_70 : BitVec 32 := 0#32
  let v168 : BitVec 1 := Scalar.cmpi .ne v167 c0_i32_70
  let v169 : BitVec 1 := Scalar.andi v166 v168
  let v155 : BitVec 32 := Scalar.divsi v107 c16_i32_65
  let c1_i32_71 : BitVec 32 := 1#32
  let v170 : BitVec 32 := Scalar.subi v155 c1_i32_71
  let v171 : BitVec 32 := Scalar.select v169 v170 v155
  let v172 : BitVec 32 := Scalar.subi v171 v154
  let c1_i32_73 : BitVec 32 := 1#32
  let v174 : BitVec 32 := Scalar.divsi v172 c1_i32_73
  let v175 : BitVec 32 := Scalar.muli v174 c1_i32_73
  let v176 : BitVec 32 := Scalar.addi v154 v175
  let c1_i32_75 : BitVec 32 := 1#32
  let arg17 : BitVec 32 := Scf.iv v176 c1_i32_75 k0_t6
  let c16_i32_89 : BitVec 32 := 16#32
  let v205 : BitVec 32 := Scalar.muli arg17 c16_i32_89
  let c9_i32 : BitVec 32 := 9#32
  let v1110 : BitVec 32 := Scalar.addi v205 c9_i32
  let c128_i32_324 : BitVec 32 := 128#32
  let v1111 : BitVec 32 := Scalar.muli v1110 c128_i32_324
  let v1112 : BitVec 32 := Scalar.addi v108 v1111
  let v1113 : BitVec 32 := Scalar.addi v1112 c0_i32_325
  let v1114 : Index := Scalar.indexCast v1113
  ![v1114.toNat]
def k0_off106 (i : grid0.Coords) (v1013 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1013 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond34 (v1013 : BitVec 32) (v1108 : BitVec 32) : BitVec 1 :=
  let v1109 : BitVec 1 := Scalar.cmpi .ne v1108 v1013
  let c0_i32_347 : BitVec 32 := 0#32
  let v1166 : BitVec 1 := Scalar.cmpi .sge v1013 c0_i32_347
  let v1167 : BitVec 1 := Scalar.andi v1109 v1166
  let v1168 : BitVec 32 := Scalar.extui v1167
  let c0_i32_348 : BitVec 32 := 0#32
  let v1169 : BitVec 1 := Scalar.cmpi .ne v1168 c0_i32_348
  v1169

def k0_off107 (i : grid0.Coords) (v1013 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1013 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk31 (i : grid0.Coords) (v211 : BitVec 32) (v213 : BitVec 32) (v1013 : BitVec 32) (v1108 : BitVec 32) : Prop :=
  (∀ (k0_h24 : k0_cond24 v211 v213 = 1#1), ∀ (k0_h34 : k0_cond34 v1013 v1108 = 1#1), ∀ (r : Fin 8), ∀ a, (k0_off106 i v1013 (BitVec.ofNat 32 (16 * r.val))) a + S16.size a ≤ S81920.size a) ∧
  (∀ (k0_h24 : k0_cond24 v211 v213 = 1#1), ∀ (k0_h34 : k0_cond34 v1013 v1108 = 1#1), ∀ (r : Fin 8), ∀ a, (k0_off107 i v1013 (BitVec.ofNat 32 (16 * r.val))) a + S16.size a ≤ S81920.size a)
theorem k0_off106_inb : ∀ (i : grid0.Coords) (v211 : BitVec 32) (v213 : BitVec 32) (v1013 : BitVec 32) (v1108 : BitVec 32) (k0_hw31 : k0_chk31 i v211 v213 v1013 v1108), ∀ (k0_h24 : k0_cond24 v211 v213 = 1#1), ∀ (k0_h34 : k0_cond34 v1013 v1108 = 1#1), ∀ (r : Fin 8), ∀ a, (k0_off106 i v1013 (BitVec.ofNat 32 (16 * r.val))) a + S16.size a ≤ S81920.size a := fun i v211 v213 v1013 v1108 k0_hw31 k0_h24 k0_h34 r => k0_hw31.1 k0_h24 k0_h34 r
theorem k0_off107_inb : ∀ (i : grid0.Coords) (v211 : BitVec 32) (v213 : BitVec 32) (v1013 : BitVec 32) (v1108 : BitVec 32) (k0_hw31 : k0_chk31 i v211 v213 v1013 v1108), ∀ (k0_h24 : k0_cond24 v211 v213 = 1#1), ∀ (k0_h34 : k0_cond34 v1013 v1108 = 1#1), ∀ (r : Fin 8), ∀ a, (k0_off107 i v1013 (BitVec.ofNat 32 (16 * r.val))) a + S16.size a ≤ S81920.size a := fun i v211 v213 v1013 v1108 k0_hw31 k0_h24 k0_h34 r => k0_hw31.2 k0_h24 k0_h34 r

def k0_off108 (v5 : BitVec 32) (v7 : BitVec 32) (k0_t2 : Fin (k0_t2_loop v5 v7).trips) (k0_t6 : Fin (k0_t6_loop v5 v7 k0_t2).trips) (c0_i32_350 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c0_i32_66 : BitVec 32 := 0#32
  let v156 : BitVec 1 := Scalar.cmpi .sgt v107 c0_i32_66
  let v157 : BitVec 32 := Scalar.extui v156
  let c0_i32_67 : BitVec 32 := 0#32
  let v158 : BitVec 1 := Scalar.cmpi .slt v107 c0_i32_67
  let v159 : BitVec 32 := Scalar.extui v158
  let v160 : BitVec 32 := Scalar.subi v157 v159
  let c16_i32_65 : BitVec 32 := 16#32
  let c0_i32_68 : BitVec 32 := 0#32
  let v161 : BitVec 1 := Scalar.cmpi .sgt c16_i32_65 c0_i32_68
  let v162 : BitVec 32 := Scalar.extui v161
  let c0_i32_69 : BitVec 32 := 0#32
  let v163 : BitVec 1 := Scalar.cmpi .slt c16_i32_65 c0_i32_69
  let v164 : BitVec 32 := Scalar.extui v163
  let v165 : BitVec 32 := Scalar.subi v162 v164
  let v166 : BitVec 1 := Scalar.cmpi .ne v160 v165
  let v167 : BitVec 32 := Scalar.remsi v107 c16_i32_65
  let c0_i32_70 : BitVec 32 := 0#32
  let v168 : BitVec 1 := Scalar.cmpi .ne v167 c0_i32_70
  let v169 : BitVec 1 := Scalar.andi v166 v168
  let v155 : BitVec 32 := Scalar.divsi v107 c16_i32_65
  let c1_i32_71 : BitVec 32 := 1#32
  let v170 : BitVec 32 := Scalar.subi v155 c1_i32_71
  let v171 : BitVec 32 := Scalar.select v169 v170 v155
  let v172 : BitVec 32 := Scalar.subi v171 v154
  let c1_i32_73 : BitVec 32 := 1#32
  let v174 : BitVec 32 := Scalar.divsi v172 c1_i32_73
  let v175 : BitVec 32 := Scalar.muli v174 c1_i32_73
  let v176 : BitVec 32 := Scalar.addi v154 v175
  let c1_i32_75 : BitVec 32 := 1#32
  let arg17 : BitVec 32 := Scf.iv v176 c1_i32_75 k0_t6
  let c16_i32_89 : BitVec 32 := 16#32
  let v205 : BitVec 32 := Scalar.muli arg17 c16_i32_89
  let c10_i32 : BitVec 32 := 10#32
  let v1205 : BitVec 32 := Scalar.addi v205 c10_i32
  let c128_i32_349 : BitVec 32 := 128#32
  let v1206 : BitVec 32 := Scalar.muli v1205 c128_i32_349
  let v1207 : BitVec 32 := Scalar.addi v108 v1206
  let v1208 : BitVec 32 := Scalar.addi v1207 c0_i32_350
  let v1209 : Index := Scalar.indexCast v1208
  ![v1209.toNat]
def k0_off109 (i : grid0.Coords) (v1108 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1108 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond35 (v1108 : BitVec 32) (v1203 : BitVec 32) : BitVec 1 :=
  let v1204 : BitVec 1 := Scalar.cmpi .ne v1203 v1108
  let c0_i32_372 : BitVec 32 := 0#32
  let v1261 : BitVec 1 := Scalar.cmpi .sge v1108 c0_i32_372
  let v1262 : BitVec 1 := Scalar.andi v1204 v1261
  let v1263 : BitVec 32 := Scalar.extui v1262
  let c0_i32_373 : BitVec 32 := 0#32
  let v1264 : BitVec 1 := Scalar.cmpi .ne v1263 c0_i32_373
  v1264

def k0_off110 (i : grid0.Coords) (v1108 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1108 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk32 (i : grid0.Coords) (v211 : BitVec 32) (v213 : BitVec 32) (v1108 : BitVec 32) (v1203 : BitVec 32) : Prop :=
  (∀ (k0_h24 : k0_cond24 v211 v213 = 1#1), ∀ (k0_h35 : k0_cond35 v1108 v1203 = 1#1), ∀ (r : Fin 8), ∀ a, (k0_off109 i v1108 (BitVec.ofNat 32 (16 * r.val))) a + S16.size a ≤ S81920.size a) ∧
  (∀ (k0_h24 : k0_cond24 v211 v213 = 1#1), ∀ (k0_h35 : k0_cond35 v1108 v1203 = 1#1), ∀ (r : Fin 8), ∀ a, (k0_off110 i v1108 (BitVec.ofNat 32 (16 * r.val))) a + S16.size a ≤ S81920.size a)
theorem k0_off109_inb : ∀ (i : grid0.Coords) (v211 : BitVec 32) (v213 : BitVec 32) (v1108 : BitVec 32) (v1203 : BitVec 32) (k0_hw32 : k0_chk32 i v211 v213 v1108 v1203), ∀ (k0_h24 : k0_cond24 v211 v213 = 1#1), ∀ (k0_h35 : k0_cond35 v1108 v1203 = 1#1), ∀ (r : Fin 8), ∀ a, (k0_off109 i v1108 (BitVec.ofNat 32 (16 * r.val))) a + S16.size a ≤ S81920.size a := fun i v211 v213 v1108 v1203 k0_hw32 k0_h24 k0_h35 r => k0_hw32.1 k0_h24 k0_h35 r
theorem k0_off110_inb : ∀ (i : grid0.Coords) (v211 : BitVec 32) (v213 : BitVec 32) (v1108 : BitVec 32) (v1203 : BitVec 32) (k0_hw32 : k0_chk32 i v211 v213 v1108 v1203), ∀ (k0_h24 : k0_cond24 v211 v213 = 1#1), ∀ (k0_h35 : k0_cond35 v1108 v1203 = 1#1), ∀ (r : Fin 8), ∀ a, (k0_off110 i v1108 (BitVec.ofNat 32 (16 * r.val))) a + S16.size a ≤ S81920.size a := fun i v211 v213 v1108 v1203 k0_hw32 k0_h24 k0_h35 r => k0_hw32.2 k0_h24 k0_h35 r

def k0_off111 (v5 : BitVec 32) (v7 : BitVec 32) (k0_t2 : Fin (k0_t2_loop v5 v7).trips) (k0_t6 : Fin (k0_t6_loop v5 v7 k0_t2).trips) (c0_i32_375 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c0_i32_66 : BitVec 32 := 0#32
  let v156 : BitVec 1 := Scalar.cmpi .sgt v107 c0_i32_66
  let v157 : BitVec 32 := Scalar.extui v156
  let c0_i32_67 : BitVec 32 := 0#32
  let v158 : BitVec 1 := Scalar.cmpi .slt v107 c0_i32_67
  let v159 : BitVec 32 := Scalar.extui v158
  let v160 : BitVec 32 := Scalar.subi v157 v159
  let c16_i32_65 : BitVec 32 := 16#32
  let c0_i32_68 : BitVec 32 := 0#32
  let v161 : BitVec 1 := Scalar.cmpi .sgt c16_i32_65 c0_i32_68
  let v162 : BitVec 32 := Scalar.extui v161
  let c0_i32_69 : BitVec 32 := 0#32
  let v163 : BitVec 1 := Scalar.cmpi .slt c16_i32_65 c0_i32_69
  let v164 : BitVec 32 := Scalar.extui v163
  let v165 : BitVec 32 := Scalar.subi v162 v164
  let v166 : BitVec 1 := Scalar.cmpi .ne v160 v165
  let v167 : BitVec 32 := Scalar.remsi v107 c16_i32_65
  let c0_i32_70 : BitVec 32 := 0#32
  let v168 : BitVec 1 := Scalar.cmpi .ne v167 c0_i32_70
  let v169 : BitVec 1 := Scalar.andi v166 v168
  let v155 : BitVec 32 := Scalar.divsi v107 c16_i32_65
  let c1_i32_71 : BitVec 32 := 1#32
  let v170 : BitVec 32 := Scalar.subi v155 c1_i32_71
  let v171 : BitVec 32 := Scalar.select v169 v170 v155
  let v172 : BitVec 32 := Scalar.subi v171 v154
  let c1_i32_73 : BitVec 32 := 1#32
  let v174 : BitVec 32 := Scalar.divsi v172 c1_i32_73
  let v175 : BitVec 32 := Scalar.muli v174 c1_i32_73
  let v176 : BitVec 32 := Scalar.addi v154 v175
  let c1_i32_75 : BitVec 32 := 1#32
  let arg17 : BitVec 32 := Scf.iv v176 c1_i32_75 k0_t6
  let c16_i32_89 : BitVec 32 := 16#32
  let v205 : BitVec 32 := Scalar.muli arg17 c16_i32_89
  let c11_i32 : BitVec 32 := 11#32
  let v1300 : BitVec 32 := Scalar.addi v205 c11_i32
  let c128_i32_374 : BitVec 32 := 128#32
  let v1301 : BitVec 32 := Scalar.muli v1300 c128_i32_374
  let v1302 : BitVec 32 := Scalar.addi v108 v1301
  let v1303 : BitVec 32 := Scalar.addi v1302 c0_i32_375
  let v1304 : Index := Scalar.indexCast v1303
  ![v1304.toNat]
def k0_off112 (i : grid0.Coords) (v1203 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1203 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond36 (v1203 : BitVec 32) (v1298 : BitVec 32) : BitVec 1 :=
  let v1299 : BitVec 1 := Scalar.cmpi .ne v1298 v1203
  let c0_i32_397 : BitVec 32 := 0#32
  let v1356 : BitVec 1 := Scalar.cmpi .sge v1203 c0_i32_397
  let v1357 : BitVec 1 := Scalar.andi v1299 v1356
  let v1358 : BitVec 32 := Scalar.extui v1357
  let c0_i32_398 : BitVec 32 := 0#32
  let v1359 : BitVec 1 := Scalar.cmpi .ne v1358 c0_i32_398
  v1359

def k0_off113 (i : grid0.Coords) (v1203 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1203 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk33 (i : grid0.Coords) (v211 : BitVec 32) (v213 : BitVec 32) (v1203 : BitVec 32) (v1298 : BitVec 32) : Prop :=
  (∀ (k0_h24 : k0_cond24 v211 v213 = 1#1), ∀ (k0_h36 : k0_cond36 v1203 v1298 = 1#1), ∀ (r : Fin 8), ∀ a, (k0_off112 i v1203 (BitVec.ofNat 32 (16 * r.val))) a + S16.size a ≤ S81920.size a) ∧
  (∀ (k0_h24 : k0_cond24 v211 v213 = 1#1), ∀ (k0_h36 : k0_cond36 v1203 v1298 = 1#1), ∀ (r : Fin 8), ∀ a, (k0_off113 i v1203 (BitVec.ofNat 32 (16 * r.val))) a + S16.size a ≤ S81920.size a)
theorem k0_off112_inb : ∀ (i : grid0.Coords) (v211 : BitVec 32) (v213 : BitVec 32) (v1203 : BitVec 32) (v1298 : BitVec 32) (k0_hw33 : k0_chk33 i v211 v213 v1203 v1298), ∀ (k0_h24 : k0_cond24 v211 v213 = 1#1), ∀ (k0_h36 : k0_cond36 v1203 v1298 = 1#1), ∀ (r : Fin 8), ∀ a, (k0_off112 i v1203 (BitVec.ofNat 32 (16 * r.val))) a + S16.size a ≤ S81920.size a := fun i v211 v213 v1203 v1298 k0_hw33 k0_h24 k0_h36 r => k0_hw33.1 k0_h24 k0_h36 r
theorem k0_off113_inb : ∀ (i : grid0.Coords) (v211 : BitVec 32) (v213 : BitVec 32) (v1203 : BitVec 32) (v1298 : BitVec 32) (k0_hw33 : k0_chk33 i v211 v213 v1203 v1298), ∀ (k0_h24 : k0_cond24 v211 v213 = 1#1), ∀ (k0_h36 : k0_cond36 v1203 v1298 = 1#1), ∀ (r : Fin 8), ∀ a, (k0_off113 i v1203 (BitVec.ofNat 32 (16 * r.val))) a + S16.size a ≤ S81920.size a := fun i v211 v213 v1203 v1298 k0_hw33 k0_h24 k0_h36 r => k0_hw33.2 k0_h24 k0_h36 r

def k0_off114 (v5 : BitVec 32) (v7 : BitVec 32) (k0_t2 : Fin (k0_t2_loop v5 v7).trips) (k0_t6 : Fin (k0_t6_loop v5 v7 k0_t2).trips) (c0_i32_400 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c0_i32_66 : BitVec 32 := 0#32
  let v156 : BitVec 1 := Scalar.cmpi .sgt v107 c0_i32_66
  let v157 : BitVec 32 := Scalar.extui v156
  let c0_i32_67 : BitVec 32 := 0#32
  let v158 : BitVec 1 := Scalar.cmpi .slt v107 c0_i32_67
  let v159 : BitVec 32 := Scalar.extui v158
  let v160 : BitVec 32 := Scalar.subi v157 v159
  let c16_i32_65 : BitVec 32 := 16#32
  let c0_i32_68 : BitVec 32 := 0#32
  let v161 : BitVec 1 := Scalar.cmpi .sgt c16_i32_65 c0_i32_68
  let v162 : BitVec 32 := Scalar.extui v161
  let c0_i32_69 : BitVec 32 := 0#32
  let v163 : BitVec 1 := Scalar.cmpi .slt c16_i32_65 c0_i32_69
  let v164 : BitVec 32 := Scalar.extui v163
  let v165 : BitVec 32 := Scalar.subi v162 v164
  let v166 : BitVec 1 := Scalar.cmpi .ne v160 v165
  let v167 : BitVec 32 := Scalar.remsi v107 c16_i32_65
  let c0_i32_70 : BitVec 32 := 0#32
  let v168 : BitVec 1 := Scalar.cmpi .ne v167 c0_i32_70
  let v169 : BitVec 1 := Scalar.andi v166 v168
  let v155 : BitVec 32 := Scalar.divsi v107 c16_i32_65
  let c1_i32_71 : BitVec 32 := 1#32
  let v170 : BitVec 32 := Scalar.subi v155 c1_i32_71
  let v171 : BitVec 32 := Scalar.select v169 v170 v155
  let v172 : BitVec 32 := Scalar.subi v171 v154
  let c1_i32_73 : BitVec 32 := 1#32
  let v174 : BitVec 32 := Scalar.divsi v172 c1_i32_73
  let v175 : BitVec 32 := Scalar.muli v174 c1_i32_73
  let v176 : BitVec 32 := Scalar.addi v154 v175
  let c1_i32_75 : BitVec 32 := 1#32
  let arg17 : BitVec 32 := Scf.iv v176 c1_i32_75 k0_t6
  let c16_i32_89 : BitVec 32 := 16#32
  let v205 : BitVec 32 := Scalar.muli arg17 c16_i32_89
  let c12_i32 : BitVec 32 := 12#32
  let v1395 : BitVec 32 := Scalar.addi v205 c12_i32
  let c128_i32_399 : BitVec 32 := 128#32
  let v1396 : BitVec 32 := Scalar.muli v1395 c128_i32_399
  let v1397 : BitVec 32 := Scalar.addi v108 v1396
  let v1398 : BitVec 32 := Scalar.addi v1397 c0_i32_400
  let v1399 : Index := Scalar.indexCast v1398
  ![v1399.toNat]
def k0_off115 (i : grid0.Coords) (v1298 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1298 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond37 (v1298 : BitVec 32) (v1393 : BitVec 32) : BitVec 1 :=
  let v1394 : BitVec 1 := Scalar.cmpi .ne v1393 v1298
  let c0_i32_422 : BitVec 32 := 0#32
  let v1451 : BitVec 1 := Scalar.cmpi .sge v1298 c0_i32_422
  let v1452 : BitVec 1 := Scalar.andi v1394 v1451
  let v1453 : BitVec 32 := Scalar.extui v1452
  let c0_i32_423 : BitVec 32 := 0#32
  let v1454 : BitVec 1 := Scalar.cmpi .ne v1453 c0_i32_423
  v1454

def k0_off116 (i : grid0.Coords) (v1298 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1298 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk34 (i : grid0.Coords) (v211 : BitVec 32) (v213 : BitVec 32) (v1298 : BitVec 32) (v1393 : BitVec 32) : Prop :=
  (∀ (k0_h24 : k0_cond24 v211 v213 = 1#1), ∀ (k0_h37 : k0_cond37 v1298 v1393 = 1#1), ∀ (r : Fin 8), ∀ a, (k0_off115 i v1298 (BitVec.ofNat 32 (16 * r.val))) a + S16.size a ≤ S81920.size a) ∧
  (∀ (k0_h24 : k0_cond24 v211 v213 = 1#1), ∀ (k0_h37 : k0_cond37 v1298 v1393 = 1#1), ∀ (r : Fin 8), ∀ a, (k0_off116 i v1298 (BitVec.ofNat 32 (16 * r.val))) a + S16.size a ≤ S81920.size a)
theorem k0_off115_inb : ∀ (i : grid0.Coords) (v211 : BitVec 32) (v213 : BitVec 32) (v1298 : BitVec 32) (v1393 : BitVec 32) (k0_hw34 : k0_chk34 i v211 v213 v1298 v1393), ∀ (k0_h24 : k0_cond24 v211 v213 = 1#1), ∀ (k0_h37 : k0_cond37 v1298 v1393 = 1#1), ∀ (r : Fin 8), ∀ a, (k0_off115 i v1298 (BitVec.ofNat 32 (16 * r.val))) a + S16.size a ≤ S81920.size a := fun i v211 v213 v1298 v1393 k0_hw34 k0_h24 k0_h37 r => k0_hw34.1 k0_h24 k0_h37 r
theorem k0_off116_inb : ∀ (i : grid0.Coords) (v211 : BitVec 32) (v213 : BitVec 32) (v1298 : BitVec 32) (v1393 : BitVec 32) (k0_hw34 : k0_chk34 i v211 v213 v1298 v1393), ∀ (k0_h24 : k0_cond24 v211 v213 = 1#1), ∀ (k0_h37 : k0_cond37 v1298 v1393 = 1#1), ∀ (r : Fin 8), ∀ a, (k0_off116 i v1298 (BitVec.ofNat 32 (16 * r.val))) a + S16.size a ≤ S81920.size a := fun i v211 v213 v1298 v1393 k0_hw34 k0_h24 k0_h37 r => k0_hw34.2 k0_h24 k0_h37 r

def k0_off117 (v5 : BitVec 32) (v7 : BitVec 32) (k0_t2 : Fin (k0_t2_loop v5 v7).trips) (k0_t6 : Fin (k0_t6_loop v5 v7 k0_t2).trips) (c0_i32_425 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c0_i32_66 : BitVec 32 := 0#32
  let v156 : BitVec 1 := Scalar.cmpi .sgt v107 c0_i32_66
  let v157 : BitVec 32 := Scalar.extui v156
  let c0_i32_67 : BitVec 32 := 0#32
  let v158 : BitVec 1 := Scalar.cmpi .slt v107 c0_i32_67
  let v159 : BitVec 32 := Scalar.extui v158
  let v160 : BitVec 32 := Scalar.subi v157 v159
  let c16_i32_65 : BitVec 32 := 16#32
  let c0_i32_68 : BitVec 32 := 0#32
  let v161 : BitVec 1 := Scalar.cmpi .sgt c16_i32_65 c0_i32_68
  let v162 : BitVec 32 := Scalar.extui v161
  let c0_i32_69 : BitVec 32 := 0#32
  let v163 : BitVec 1 := Scalar.cmpi .slt c16_i32_65 c0_i32_69
  let v164 : BitVec 32 := Scalar.extui v163
  let v165 : BitVec 32 := Scalar.subi v162 v164
  let v166 : BitVec 1 := Scalar.cmpi .ne v160 v165
  let v167 : BitVec 32 := Scalar.remsi v107 c16_i32_65
  let c0_i32_70 : BitVec 32 := 0#32
  let v168 : BitVec 1 := Scalar.cmpi .ne v167 c0_i32_70
  let v169 : BitVec 1 := Scalar.andi v166 v168
  let v155 : BitVec 32 := Scalar.divsi v107 c16_i32_65
  let c1_i32_71 : BitVec 32 := 1#32
  let v170 : BitVec 32 := Scalar.subi v155 c1_i32_71
  let v171 : BitVec 32 := Scalar.select v169 v170 v155
  let v172 : BitVec 32 := Scalar.subi v171 v154
  let c1_i32_73 : BitVec 32 := 1#32
  let v174 : BitVec 32 := Scalar.divsi v172 c1_i32_73
  let v175 : BitVec 32 := Scalar.muli v174 c1_i32_73
  let v176 : BitVec 32 := Scalar.addi v154 v175
  let c1_i32_75 : BitVec 32 := 1#32
  let arg17 : BitVec 32 := Scf.iv v176 c1_i32_75 k0_t6
  let c16_i32_89 : BitVec 32 := 16#32
  let v205 : BitVec 32 := Scalar.muli arg17 c16_i32_89
  let c13_i32 : BitVec 32 := 13#32
  let v1490 : BitVec 32 := Scalar.addi v205 c13_i32
  let c128_i32_424 : BitVec 32 := 128#32
  let v1491 : BitVec 32 := Scalar.muli v1490 c128_i32_424
  let v1492 : BitVec 32 := Scalar.addi v108 v1491
  let v1493 : BitVec 32 := Scalar.addi v1492 c0_i32_425
  let v1494 : Index := Scalar.indexCast v1493
  ![v1494.toNat]
def k0_off118 (i : grid0.Coords) (v1393 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1393 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond38 (v1393 : BitVec 32) (v1488 : BitVec 32) : BitVec 1 :=
  let v1489 : BitVec 1 := Scalar.cmpi .ne v1488 v1393
  let c0_i32_447 : BitVec 32 := 0#32
  let v1546 : BitVec 1 := Scalar.cmpi .sge v1393 c0_i32_447
  let v1547 : BitVec 1 := Scalar.andi v1489 v1546
  let v1548 : BitVec 32 := Scalar.extui v1547
  let c0_i32_448 : BitVec 32 := 0#32
  let v1549 : BitVec 1 := Scalar.cmpi .ne v1548 c0_i32_448
  v1549

def k0_off119 (i : grid0.Coords) (v1393 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1393 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk35 (i : grid0.Coords) (v211 : BitVec 32) (v213 : BitVec 32) (v1393 : BitVec 32) (v1488 : BitVec 32) : Prop :=
  (∀ (k0_h24 : k0_cond24 v211 v213 = 1#1), ∀ (k0_h38 : k0_cond38 v1393 v1488 = 1#1), ∀ (r : Fin 8), ∀ a, (k0_off118 i v1393 (BitVec.ofNat 32 (16 * r.val))) a + S16.size a ≤ S81920.size a) ∧
  (∀ (k0_h24 : k0_cond24 v211 v213 = 1#1), ∀ (k0_h38 : k0_cond38 v1393 v1488 = 1#1), ∀ (r : Fin 8), ∀ a, (k0_off119 i v1393 (BitVec.ofNat 32 (16 * r.val))) a + S16.size a ≤ S81920.size a)
theorem k0_off118_inb : ∀ (i : grid0.Coords) (v211 : BitVec 32) (v213 : BitVec 32) (v1393 : BitVec 32) (v1488 : BitVec 32) (k0_hw35 : k0_chk35 i v211 v213 v1393 v1488), ∀ (k0_h24 : k0_cond24 v211 v213 = 1#1), ∀ (k0_h38 : k0_cond38 v1393 v1488 = 1#1), ∀ (r : Fin 8), ∀ a, (k0_off118 i v1393 (BitVec.ofNat 32 (16 * r.val))) a + S16.size a ≤ S81920.size a := fun i v211 v213 v1393 v1488 k0_hw35 k0_h24 k0_h38 r => k0_hw35.1 k0_h24 k0_h38 r
theorem k0_off119_inb : ∀ (i : grid0.Coords) (v211 : BitVec 32) (v213 : BitVec 32) (v1393 : BitVec 32) (v1488 : BitVec 32) (k0_hw35 : k0_chk35 i v211 v213 v1393 v1488), ∀ (k0_h24 : k0_cond24 v211 v213 = 1#1), ∀ (k0_h38 : k0_cond38 v1393 v1488 = 1#1), ∀ (r : Fin 8), ∀ a, (k0_off119 i v1393 (BitVec.ofNat 32 (16 * r.val))) a + S16.size a ≤ S81920.size a := fun i v211 v213 v1393 v1488 k0_hw35 k0_h24 k0_h38 r => k0_hw35.2 k0_h24 k0_h38 r

def k0_off120 (v5 : BitVec 32) (v7 : BitVec 32) (k0_t2 : Fin (k0_t2_loop v5 v7).trips) (k0_t6 : Fin (k0_t6_loop v5 v7 k0_t2).trips) (c0_i32_450 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c0_i32_66 : BitVec 32 := 0#32
  let v156 : BitVec 1 := Scalar.cmpi .sgt v107 c0_i32_66
  let v157 : BitVec 32 := Scalar.extui v156
  let c0_i32_67 : BitVec 32 := 0#32
  let v158 : BitVec 1 := Scalar.cmpi .slt v107 c0_i32_67
  let v159 : BitVec 32 := Scalar.extui v158
  let v160 : BitVec 32 := Scalar.subi v157 v159
  let c16_i32_65 : BitVec 32 := 16#32
  let c0_i32_68 : BitVec 32 := 0#32
  let v161 : BitVec 1 := Scalar.cmpi .sgt c16_i32_65 c0_i32_68
  let v162 : BitVec 32 := Scalar.extui v161
  let c0_i32_69 : BitVec 32 := 0#32
  let v163 : BitVec 1 := Scalar.cmpi .slt c16_i32_65 c0_i32_69
  let v164 : BitVec 32 := Scalar.extui v163
  let v165 : BitVec 32 := Scalar.subi v162 v164
  let v166 : BitVec 1 := Scalar.cmpi .ne v160 v165
  let v167 : BitVec 32 := Scalar.remsi v107 c16_i32_65
  let c0_i32_70 : BitVec 32 := 0#32
  let v168 : BitVec 1 := Scalar.cmpi .ne v167 c0_i32_70
  let v169 : BitVec 1 := Scalar.andi v166 v168
  let v155 : BitVec 32 := Scalar.divsi v107 c16_i32_65
  let c1_i32_71 : BitVec 32 := 1#32
  let v170 : BitVec 32 := Scalar.subi v155 c1_i32_71
  let v171 : BitVec 32 := Scalar.select v169 v170 v155
  let v172 : BitVec 32 := Scalar.subi v171 v154
  let c1_i32_73 : BitVec 32 := 1#32
  let v174 : BitVec 32 := Scalar.divsi v172 c1_i32_73
  let v175 : BitVec 32 := Scalar.muli v174 c1_i32_73
  let v176 : BitVec 32 := Scalar.addi v154 v175
  let c1_i32_75 : BitVec 32 := 1#32
  let arg17 : BitVec 32 := Scf.iv v176 c1_i32_75 k0_t6
  let c16_i32_89 : BitVec 32 := 16#32
  let v205 : BitVec 32 := Scalar.muli arg17 c16_i32_89
  let c14_i32 : BitVec 32 := 14#32
  let v1585 : BitVec 32 := Scalar.addi v205 c14_i32
  let c128_i32_449 : BitVec 32 := 128#32
  let v1586 : BitVec 32 := Scalar.muli v1585 c128_i32_449
  let v1587 : BitVec 32 := Scalar.addi v108 v1586
  let v1588 : BitVec 32 := Scalar.addi v1587 c0_i32_450
  let v1589 : Index := Scalar.indexCast v1588
  ![v1589.toNat]
def k0_off121 (i : grid0.Coords) (v1488 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1488 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond39 (v1488 : BitVec 32) (v1583 : BitVec 32) : BitVec 1 :=
  let v1584 : BitVec 1 := Scalar.cmpi .ne v1583 v1488
  let c0_i32_472 : BitVec 32 := 0#32
  let v1641 : BitVec 1 := Scalar.cmpi .sge v1488 c0_i32_472
  let v1642 : BitVec 1 := Scalar.andi v1584 v1641
  let v1643 : BitVec 32 := Scalar.extui v1642
  let c0_i32_473 : BitVec 32 := 0#32
  let v1644 : BitVec 1 := Scalar.cmpi .ne v1643 c0_i32_473
  v1644

def k0_off122 (i : grid0.Coords) (v1488 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1488 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk36 (i : grid0.Coords) (v211 : BitVec 32) (v213 : BitVec 32) (v1488 : BitVec 32) (v1583 : BitVec 32) : Prop :=
  (∀ (k0_h24 : k0_cond24 v211 v213 = 1#1), ∀ (k0_h39 : k0_cond39 v1488 v1583 = 1#1), ∀ (r : Fin 8), ∀ a, (k0_off121 i v1488 (BitVec.ofNat 32 (16 * r.val))) a + S16.size a ≤ S81920.size a) ∧
  (∀ (k0_h24 : k0_cond24 v211 v213 = 1#1), ∀ (k0_h39 : k0_cond39 v1488 v1583 = 1#1), ∀ (r : Fin 8), ∀ a, (k0_off122 i v1488 (BitVec.ofNat 32 (16 * r.val))) a + S16.size a ≤ S81920.size a)
theorem k0_off121_inb : ∀ (i : grid0.Coords) (v211 : BitVec 32) (v213 : BitVec 32) (v1488 : BitVec 32) (v1583 : BitVec 32) (k0_hw36 : k0_chk36 i v211 v213 v1488 v1583), ∀ (k0_h24 : k0_cond24 v211 v213 = 1#1), ∀ (k0_h39 : k0_cond39 v1488 v1583 = 1#1), ∀ (r : Fin 8), ∀ a, (k0_off121 i v1488 (BitVec.ofNat 32 (16 * r.val))) a + S16.size a ≤ S81920.size a := fun i v211 v213 v1488 v1583 k0_hw36 k0_h24 k0_h39 r => k0_hw36.1 k0_h24 k0_h39 r
theorem k0_off122_inb : ∀ (i : grid0.Coords) (v211 : BitVec 32) (v213 : BitVec 32) (v1488 : BitVec 32) (v1583 : BitVec 32) (k0_hw36 : k0_chk36 i v211 v213 v1488 v1583), ∀ (k0_h24 : k0_cond24 v211 v213 = 1#1), ∀ (k0_h39 : k0_cond39 v1488 v1583 = 1#1), ∀ (r : Fin 8), ∀ a, (k0_off122 i v1488 (BitVec.ofNat 32 (16 * r.val))) a + S16.size a ≤ S81920.size a := fun i v211 v213 v1488 v1583 k0_hw36 k0_h24 k0_h39 r => k0_hw36.2 k0_h24 k0_h39 r

def k0_off123 (v5 : BitVec 32) (v7 : BitVec 32) (k0_t2 : Fin (k0_t2_loop v5 v7).trips) (k0_t6 : Fin (k0_t6_loop v5 v7 k0_t2).trips) (c0_i32_475 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c0_i32_66 : BitVec 32 := 0#32
  let v156 : BitVec 1 := Scalar.cmpi .sgt v107 c0_i32_66
  let v157 : BitVec 32 := Scalar.extui v156
  let c0_i32_67 : BitVec 32 := 0#32
  let v158 : BitVec 1 := Scalar.cmpi .slt v107 c0_i32_67
  let v159 : BitVec 32 := Scalar.extui v158
  let v160 : BitVec 32 := Scalar.subi v157 v159
  let c16_i32_65 : BitVec 32 := 16#32
  let c0_i32_68 : BitVec 32 := 0#32
  let v161 : BitVec 1 := Scalar.cmpi .sgt c16_i32_65 c0_i32_68
  let v162 : BitVec 32 := Scalar.extui v161
  let c0_i32_69 : BitVec 32 := 0#32
  let v163 : BitVec 1 := Scalar.cmpi .slt c16_i32_65 c0_i32_69
  let v164 : BitVec 32 := Scalar.extui v163
  let v165 : BitVec 32 := Scalar.subi v162 v164
  let v166 : BitVec 1 := Scalar.cmpi .ne v160 v165
  let v167 : BitVec 32 := Scalar.remsi v107 c16_i32_65
  let c0_i32_70 : BitVec 32 := 0#32
  let v168 : BitVec 1 := Scalar.cmpi .ne v167 c0_i32_70
  let v169 : BitVec 1 := Scalar.andi v166 v168
  let v155 : BitVec 32 := Scalar.divsi v107 c16_i32_65
  let c1_i32_71 : BitVec 32 := 1#32
  let v170 : BitVec 32 := Scalar.subi v155 c1_i32_71
  let v171 : BitVec 32 := Scalar.select v169 v170 v155
  let v172 : BitVec 32 := Scalar.subi v171 v154
  let c1_i32_73 : BitVec 32 := 1#32
  let v174 : BitVec 32 := Scalar.divsi v172 c1_i32_73
  let v175 : BitVec 32 := Scalar.muli v174 c1_i32_73
  let v176 : BitVec 32 := Scalar.addi v154 v175
  let c1_i32_75 : BitVec 32 := 1#32
  let arg17 : BitVec 32 := Scf.iv v176 c1_i32_75 k0_t6
  let c16_i32_89 : BitVec 32 := 16#32
  let v205 : BitVec 32 := Scalar.muli arg17 c16_i32_89
  let c15_i32 : BitVec 32 := 15#32
  let v1680 : BitVec 32 := Scalar.addi v205 c15_i32
  let c128_i32_474 : BitVec 32 := 128#32
  let v1681 : BitVec 32 := Scalar.muli v1680 c128_i32_474
  let v1682 : BitVec 32 := Scalar.addi v108 v1681
  let v1683 : BitVec 32 := Scalar.addi v1682 c0_i32_475
  let v1684 : Index := Scalar.indexCast v1683
  ![v1684.toNat]

def k0_chk21 (v5 : BitVec 32) (v7 : BitVec 32) (k0_t2 : Fin (k0_t2_loop v5 v7).trips) (k0_t6 : Fin (k0_t6_loop v5 v7 k0_t2).trips) (v211 : BitVec 32) (v213 : BitVec 32) : Prop :=
  (∀ (k0_h23 : k0_cond23 v211 v213 = 1#1), ∀ (r₁ : Fin 16) (r₂ : Fin 8), ∀ a, (k0_off77 v5 v7 k0_t2 k0_t6 (BitVec.ofNat 32 r₁.val) (BitVec.ofNat 32 (16 * r₂.val))) a + S16.size a ≤ S40960.size a) ∧
  (∀ (k0_h24 : k0_cond24 v211 v213 = 1#1), ∀ (r : Fin 8), ∀ a, (k0_off78 v5 v7 k0_t2 k0_t6 (BitVec.ofNat 32 (16 * r.val))) a + S16.size a ≤ S40960.size a) ∧
  (∀ (k0_h24 : k0_cond24 v211 v213 = 1#1), ∀ (r : Fin 8), ∀ a, (k0_off81 v5 v7 k0_t2 k0_t6 (BitVec.ofNat 32 (16 * r.val))) a + S16.size a ≤ S40960.size a) ∧
  (∀ (k0_h24 : k0_cond24 v211 v213 = 1#1), ∀ (r : Fin 8), ∀ a, (k0_off84 v5 v7 k0_t2 k0_t6 (BitVec.ofNat 32 (16 * r.val))) a + S16.size a ≤ S40960.size a) ∧
  (∀ (k0_h24 : k0_cond24 v211 v213 = 1#1), ∀ (r : Fin 8), ∀ a, (k0_off87 v5 v7 k0_t2 k0_t6 (BitVec.ofNat 32 (16 * r.val))) a + S16.size a ≤ S40960.size a) ∧
  (∀ (k0_h24 : k0_cond24 v211 v213 = 1#1), ∀ (r : Fin 8), ∀ a, (k0_off90 v5 v7 k0_t2 k0_t6 (BitVec.ofNat 32 (16 * r.val))) a + S16.size a ≤ S40960.size a) ∧
  (∀ (k0_h24 : k0_cond24 v211 v213 = 1#1), ∀ (r : Fin 8), ∀ a, (k0_off93 v5 v7 k0_t2 k0_t6 (BitVec.ofNat 32 (16 * r.val))) a + S16.size a ≤ S40960.size a) ∧
  (∀ (k0_h24 : k0_cond24 v211 v213 = 1#1), ∀ (r : Fin 8), ∀ a, (k0_off96 v5 v7 k0_t2 k0_t6 (BitVec.ofNat 32 (16 * r.val))) a + S16.size a ≤ S40960.size a) ∧
  (∀ (k0_h24 : k0_cond24 v211 v213 = 1#1), ∀ (r : Fin 8), ∀ a, (k0_off99 v5 v7 k0_t2 k0_t6 (BitVec.ofNat 32 (16 * r.val))) a + S16.size a ≤ S40960.size a) ∧
  (∀ (k0_h24 : k0_cond24 v211 v213 = 1#1), ∀ (r : Fin 8), ∀ a, (k0_off102 v5 v7 k0_t2 k0_t6 (BitVec.ofNat 32 (16 * r.val))) a + S16.size a ≤ S40960.size a) ∧
  (∀ (k0_h24 : k0_cond24 v211 v213 = 1#1), ∀ (r : Fin 8), ∀ a, (k0_off105 v5 v7 k0_t2 k0_t6 (BitVec.ofNat 32 (16 * r.val))) a + S16.size a ≤ S40960.size a) ∧
  (∀ (k0_h24 : k0_cond24 v211 v213 = 1#1), ∀ (r : Fin 8), ∀ a, (k0_off108 v5 v7 k0_t2 k0_t6 (BitVec.ofNat 32 (16 * r.val))) a + S16.size a ≤ S40960.size a) ∧
  (∀ (k0_h24 : k0_cond24 v211 v213 = 1#1), ∀ (r : Fin 8), ∀ a, (k0_off111 v5 v7 k0_t2 k0_t6 (BitVec.ofNat 32 (16 * r.val))) a + S16.size a ≤ S40960.size a) ∧
  (∀ (k0_h24 : k0_cond24 v211 v213 = 1#1), ∀ (r : Fin 8), ∀ a, (k0_off114 v5 v7 k0_t2 k0_t6 (BitVec.ofNat 32 (16 * r.val))) a + S16.size a ≤ S40960.size a) ∧
  (∀ (k0_h24 : k0_cond24 v211 v213 = 1#1), ∀ (r : Fin 8), ∀ a, (k0_off117 v5 v7 k0_t2 k0_t6 (BitVec.ofNat 32 (16 * r.val))) a + S16.size a ≤ S40960.size a) ∧
  (∀ (k0_h24 : k0_cond24 v211 v213 = 1#1), ∀ (r : Fin 8), ∀ a, (k0_off120 v5 v7 k0_t2 k0_t6 (BitVec.ofNat 32 (16 * r.val))) a + S16.size a ≤ S40960.size a) ∧
  (∀ (k0_h24 : k0_cond24 v211 v213 = 1#1), ∀ (r : Fin 8), ∀ a, (k0_off123 v5 v7 k0_t2 k0_t6 (BitVec.ofNat 32 (16 * r.val))) a + S16.size a ≤ S40960.size a)
theorem k0_off77_inb : ∀ (v5 : BitVec 32) (v7 : BitVec 32) (k0_t2 : Fin (k0_t2_loop v5 v7).trips) (k0_t6 : Fin (k0_t6_loop v5 v7 k0_t2).trips) (v211 : BitVec 32) (v213 : BitVec 32) (k0_hw21 : k0_chk21 v5 v7 k0_t2 k0_t6 v211 v213), ∀ (k0_h23 : k0_cond23 v211 v213 = 1#1), ∀ (r₁ : Fin 16) (r₂ : Fin 8), ∀ a, (k0_off77 v5 v7 k0_t2 k0_t6 (BitVec.ofNat 32 r₁.val) (BitVec.ofNat 32 (16 * r₂.val))) a + S16.size a ≤ S40960.size a := fun v5 v7 k0_t2 k0_t6 v211 v213 k0_hw21 k0_h23 r₁ r₂ => k0_hw21.1 k0_h23 r₁ r₂
theorem k0_off78_inb : ∀ (v5 : BitVec 32) (v7 : BitVec 32) (k0_t2 : Fin (k0_t2_loop v5 v7).trips) (k0_t6 : Fin (k0_t6_loop v5 v7 k0_t2).trips) (v211 : BitVec 32) (v213 : BitVec 32) (k0_hw21 : k0_chk21 v5 v7 k0_t2 k0_t6 v211 v213), ∀ (k0_h24 : k0_cond24 v211 v213 = 1#1), ∀ (r : Fin 8), ∀ a, (k0_off78 v5 v7 k0_t2 k0_t6 (BitVec.ofNat 32 (16 * r.val))) a + S16.size a ≤ S40960.size a := fun v5 v7 k0_t2 k0_t6 v211 v213 k0_hw21 k0_h24 r => k0_hw21.2.1 k0_h24 r
theorem k0_off81_inb : ∀ (v5 : BitVec 32) (v7 : BitVec 32) (k0_t2 : Fin (k0_t2_loop v5 v7).trips) (k0_t6 : Fin (k0_t6_loop v5 v7 k0_t2).trips) (v211 : BitVec 32) (v213 : BitVec 32) (k0_hw21 : k0_chk21 v5 v7 k0_t2 k0_t6 v211 v213), ∀ (k0_h24 : k0_cond24 v211 v213 = 1#1), ∀ (r : Fin 8), ∀ a, (k0_off81 v5 v7 k0_t2 k0_t6 (BitVec.ofNat 32 (16 * r.val))) a + S16.size a ≤ S40960.size a := fun v5 v7 k0_t2 k0_t6 v211 v213 k0_hw21 k0_h24 r => k0_hw21.2.2.1 k0_h24 r
theorem k0_off84_inb : ∀ (v5 : BitVec 32) (v7 : BitVec 32) (k0_t2 : Fin (k0_t2_loop v5 v7).trips) (k0_t6 : Fin (k0_t6_loop v5 v7 k0_t2).trips) (v211 : BitVec 32) (v213 : BitVec 32) (k0_hw21 : k0_chk21 v5 v7 k0_t2 k0_t6 v211 v213), ∀ (k0_h24 : k0_cond24 v211 v213 = 1#1), ∀ (r : Fin 8), ∀ a, (k0_off84 v5 v7 k0_t2 k0_t6 (BitVec.ofNat 32 (16 * r.val))) a + S16.size a ≤ S40960.size a := fun v5 v7 k0_t2 k0_t6 v211 v213 k0_hw21 k0_h24 r => k0_hw21.2.2.2.1 k0_h24 r
theorem k0_off87_inb : ∀ (v5 : BitVec 32) (v7 : BitVec 32) (k0_t2 : Fin (k0_t2_loop v5 v7).trips) (k0_t6 : Fin (k0_t6_loop v5 v7 k0_t2).trips) (v211 : BitVec 32) (v213 : BitVec 32) (k0_hw21 : k0_chk21 v5 v7 k0_t2 k0_t6 v211 v213), ∀ (k0_h24 : k0_cond24 v211 v213 = 1#1), ∀ (r : Fin 8), ∀ a, (k0_off87 v5 v7 k0_t2 k0_t6 (BitVec.ofNat 32 (16 * r.val))) a + S16.size a ≤ S40960.size a := fun v5 v7 k0_t2 k0_t6 v211 v213 k0_hw21 k0_h24 r => k0_hw21.2.2.2.2.1 k0_h24 r
theorem k0_off90_inb : ∀ (v5 : BitVec 32) (v7 : BitVec 32) (k0_t2 : Fin (k0_t2_loop v5 v7).trips) (k0_t6 : Fin (k0_t6_loop v5 v7 k0_t2).trips) (v211 : BitVec 32) (v213 : BitVec 32) (k0_hw21 : k0_chk21 v5 v7 k0_t2 k0_t6 v211 v213), ∀ (k0_h24 : k0_cond24 v211 v213 = 1#1), ∀ (r : Fin 8), ∀ a, (k0_off90 v5 v7 k0_t2 k0_t6 (BitVec.ofNat 32 (16 * r.val))) a + S16.size a ≤ S40960.size a := fun v5 v7 k0_t2 k0_t6 v211 v213 k0_hw21 k0_h24 r => k0_hw21.2.2.2.2.2.1 k0_h24 r
theorem k0_off93_inb : ∀ (v5 : BitVec 32) (v7 : BitVec 32) (k0_t2 : Fin (k0_t2_loop v5 v7).trips) (k0_t6 : Fin (k0_t6_loop v5 v7 k0_t2).trips) (v211 : BitVec 32) (v213 : BitVec 32) (k0_hw21 : k0_chk21 v5 v7 k0_t2 k0_t6 v211 v213), ∀ (k0_h24 : k0_cond24 v211 v213 = 1#1), ∀ (r : Fin 8), ∀ a, (k0_off93 v5 v7 k0_t2 k0_t6 (BitVec.ofNat 32 (16 * r.val))) a + S16.size a ≤ S40960.size a := fun v5 v7 k0_t2 k0_t6 v211 v213 k0_hw21 k0_h24 r => k0_hw21.2.2.2.2.2.2.1 k0_h24 r
theorem k0_off96_inb : ∀ (v5 : BitVec 32) (v7 : BitVec 32) (k0_t2 : Fin (k0_t2_loop v5 v7).trips) (k0_t6 : Fin (k0_t6_loop v5 v7 k0_t2).trips) (v211 : BitVec 32) (v213 : BitVec 32) (k0_hw21 : k0_chk21 v5 v7 k0_t2 k0_t6 v211 v213), ∀ (k0_h24 : k0_cond24 v211 v213 = 1#1), ∀ (r : Fin 8), ∀ a, (k0_off96 v5 v7 k0_t2 k0_t6 (BitVec.ofNat 32 (16 * r.val))) a + S16.size a ≤ S40960.size a := fun v5 v7 k0_t2 k0_t6 v211 v213 k0_hw21 k0_h24 r => k0_hw21.2.2.2.2.2.2.2.1 k0_h24 r
theorem k0_off99_inb : ∀ (v5 : BitVec 32) (v7 : BitVec 32) (k0_t2 : Fin (k0_t2_loop v5 v7).trips) (k0_t6 : Fin (k0_t6_loop v5 v7 k0_t2).trips) (v211 : BitVec 32) (v213 : BitVec 32) (k0_hw21 : k0_chk21 v5 v7 k0_t2 k0_t6 v211 v213), ∀ (k0_h24 : k0_cond24 v211 v213 = 1#1), ∀ (r : Fin 8), ∀ a, (k0_off99 v5 v7 k0_t2 k0_t6 (BitVec.ofNat 32 (16 * r.val))) a + S16.size a ≤ S40960.size a := fun v5 v7 k0_t2 k0_t6 v211 v213 k0_hw21 k0_h24 r => k0_hw21.2.2.2.2.2.2.2.2.1 k0_h24 r
theorem k0_off102_inb : ∀ (v5 : BitVec 32) (v7 : BitVec 32) (k0_t2 : Fin (k0_t2_loop v5 v7).trips) (k0_t6 : Fin (k0_t6_loop v5 v7 k0_t2).trips) (v211 : BitVec 32) (v213 : BitVec 32) (k0_hw21 : k0_chk21 v5 v7 k0_t2 k0_t6 v211 v213), ∀ (k0_h24 : k0_cond24 v211 v213 = 1#1), ∀ (r : Fin 8), ∀ a, (k0_off102 v5 v7 k0_t2 k0_t6 (BitVec.ofNat 32 (16 * r.val))) a + S16.size a ≤ S40960.size a := fun v5 v7 k0_t2 k0_t6 v211 v213 k0_hw21 k0_h24 r => k0_hw21.2.2.2.2.2.2.2.2.2.1 k0_h24 r
theorem k0_off105_inb : ∀ (v5 : BitVec 32) (v7 : BitVec 32) (k0_t2 : Fin (k0_t2_loop v5 v7).trips) (k0_t6 : Fin (k0_t6_loop v5 v7 k0_t2).trips) (v211 : BitVec 32) (v213 : BitVec 32) (k0_hw21 : k0_chk21 v5 v7 k0_t2 k0_t6 v211 v213), ∀ (k0_h24 : k0_cond24 v211 v213 = 1#1), ∀ (r : Fin 8), ∀ a, (k0_off105 v5 v7 k0_t2 k0_t6 (BitVec.ofNat 32 (16 * r.val))) a + S16.size a ≤ S40960.size a := fun v5 v7 k0_t2 k0_t6 v211 v213 k0_hw21 k0_h24 r => k0_hw21.2.2.2.2.2.2.2.2.2.2.1 k0_h24 r
theorem k0_off108_inb : ∀ (v5 : BitVec 32) (v7 : BitVec 32) (k0_t2 : Fin (k0_t2_loop v5 v7).trips) (k0_t6 : Fin (k0_t6_loop v5 v7 k0_t2).trips) (v211 : BitVec 32) (v213 : BitVec 32) (k0_hw21 : k0_chk21 v5 v7 k0_t2 k0_t6 v211 v213), ∀ (k0_h24 : k0_cond24 v211 v213 = 1#1), ∀ (r : Fin 8), ∀ a, (k0_off108 v5 v7 k0_t2 k0_t6 (BitVec.ofNat 32 (16 * r.val))) a + S16.size a ≤ S40960.size a := fun v5 v7 k0_t2 k0_t6 v211 v213 k0_hw21 k0_h24 r => k0_hw21.2.2.2.2.2.2.2.2.2.2.2.1 k0_h24 r
theorem k0_off111_inb : ∀ (v5 : BitVec 32) (v7 : BitVec 32) (k0_t2 : Fin (k0_t2_loop v5 v7).trips) (k0_t6 : Fin (k0_t6_loop v5 v7 k0_t2).trips) (v211 : BitVec 32) (v213 : BitVec 32) (k0_hw21 : k0_chk21 v5 v7 k0_t2 k0_t6 v211 v213), ∀ (k0_h24 : k0_cond24 v211 v213 = 1#1), ∀ (r : Fin 8), ∀ a, (k0_off111 v5 v7 k0_t2 k0_t6 (BitVec.ofNat 32 (16 * r.val))) a + S16.size a ≤ S40960.size a := fun v5 v7 k0_t2 k0_t6 v211 v213 k0_hw21 k0_h24 r => k0_hw21.2.2.2.2.2.2.2.2.2.2.2.2.1 k0_h24 r
theorem k0_off114_inb : ∀ (v5 : BitVec 32) (v7 : BitVec 32) (k0_t2 : Fin (k0_t2_loop v5 v7).trips) (k0_t6 : Fin (k0_t6_loop v5 v7 k0_t2).trips) (v211 : BitVec 32) (v213 : BitVec 32) (k0_hw21 : k0_chk21 v5 v7 k0_t2 k0_t6 v211 v213), ∀ (k0_h24 : k0_cond24 v211 v213 = 1#1), ∀ (r : Fin 8), ∀ a, (k0_off114 v5 v7 k0_t2 k0_t6 (BitVec.ofNat 32 (16 * r.val))) a + S16.size a ≤ S40960.size a := fun v5 v7 k0_t2 k0_t6 v211 v213 k0_hw21 k0_h24 r => k0_hw21.2.2.2.2.2.2.2.2.2.2.2.2.2.1 k0_h24 r
theorem k0_off117_inb : ∀ (v5 : BitVec 32) (v7 : BitVec 32) (k0_t2 : Fin (k0_t2_loop v5 v7).trips) (k0_t6 : Fin (k0_t6_loop v5 v7 k0_t2).trips) (v211 : BitVec 32) (v213 : BitVec 32) (k0_hw21 : k0_chk21 v5 v7 k0_t2 k0_t6 v211 v213), ∀ (k0_h24 : k0_cond24 v211 v213 = 1#1), ∀ (r : Fin 8), ∀ a, (k0_off117 v5 v7 k0_t2 k0_t6 (BitVec.ofNat 32 (16 * r.val))) a + S16.size a ≤ S40960.size a := fun v5 v7 k0_t2 k0_t6 v211 v213 k0_hw21 k0_h24 r => k0_hw21.2.2.2.2.2.2.2.2.2.2.2.2.2.2.1 k0_h24 r
theorem k0_off120_inb : ∀ (v5 : BitVec 32) (v7 : BitVec 32) (k0_t2 : Fin (k0_t2_loop v5 v7).trips) (k0_t6 : Fin (k0_t6_loop v5 v7 k0_t2).trips) (v211 : BitVec 32) (v213 : BitVec 32) (k0_hw21 : k0_chk21 v5 v7 k0_t2 k0_t6 v211 v213), ∀ (k0_h24 : k0_cond24 v211 v213 = 1#1), ∀ (r : Fin 8), ∀ a, (k0_off120 v5 v7 k0_t2 k0_t6 (BitVec.ofNat 32 (16 * r.val))) a + S16.size a ≤ S40960.size a := fun v5 v7 k0_t2 k0_t6 v211 v213 k0_hw21 k0_h24 r => k0_hw21.2.2.2.2.2.2.2.2.2.2.2.2.2.2.2.1 k0_h24 r
theorem k0_off123_inb : ∀ (v5 : BitVec 32) (v7 : BitVec 32) (k0_t2 : Fin (k0_t2_loop v5 v7).trips) (k0_t6 : Fin (k0_t6_loop v5 v7 k0_t2).trips) (v211 : BitVec 32) (v213 : BitVec 32) (k0_hw21 : k0_chk21 v5 v7 k0_t2 k0_t6 v211 v213), ∀ (k0_h24 : k0_cond24 v211 v213 = 1#1), ∀ (r : Fin 8), ∀ a, (k0_off123 v5 v7 k0_t2 k0_t6 (BitVec.ofNat 32 (16 * r.val))) a + S16.size a ≤ S40960.size a := fun v5 v7 k0_t2 k0_t6 v211 v213 k0_hw21 k0_h24 r => k0_hw21.2.2.2.2.2.2.2.2.2.2.2.2.2.2.2.2 k0_h24 r

def k0_off124 (i : grid0.Coords) (v1583 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1583 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond40 (v1583 : BitVec 32) (v1678 : BitVec 32) : BitVec 1 :=
  let v1679 : BitVec 1 := Scalar.cmpi .ne v1678 v1583
  let c0_i32_497 : BitVec 32 := 0#32
  let v1736 : BitVec 1 := Scalar.cmpi .sge v1583 c0_i32_497
  let v1737 : BitVec 1 := Scalar.andi v1679 v1736
  let v1738 : BitVec 32 := Scalar.extui v1737
  let c0_i32_498 : BitVec 32 := 0#32
  let v1739 : BitVec 1 := Scalar.cmpi .ne v1738 c0_i32_498
  v1739

def k0_off125 (i : grid0.Coords) (v1583 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1583 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk37 (i : grid0.Coords) (v211 : BitVec 32) (v213 : BitVec 32) (v1583 : BitVec 32) (v1678 : BitVec 32) : Prop :=
  (∀ (k0_h24 : k0_cond24 v211 v213 = 1#1), ∀ (k0_h40 : k0_cond40 v1583 v1678 = 1#1), ∀ (r : Fin 8), ∀ a, (k0_off124 i v1583 (BitVec.ofNat 32 (16 * r.val))) a + S16.size a ≤ S81920.size a) ∧
  (∀ (k0_h24 : k0_cond24 v211 v213 = 1#1), ∀ (k0_h40 : k0_cond40 v1583 v1678 = 1#1), ∀ (r : Fin 8), ∀ a, (k0_off125 i v1583 (BitVec.ofNat 32 (16 * r.val))) a + S16.size a ≤ S81920.size a)
theorem k0_off124_inb : ∀ (i : grid0.Coords) (v211 : BitVec 32) (v213 : BitVec 32) (v1583 : BitVec 32) (v1678 : BitVec 32) (k0_hw37 : k0_chk37 i v211 v213 v1583 v1678), ∀ (k0_h24 : k0_cond24 v211 v213 = 1#1), ∀ (k0_h40 : k0_cond40 v1583 v1678 = 1#1), ∀ (r : Fin 8), ∀ a, (k0_off124 i v1583 (BitVec.ofNat 32 (16 * r.val))) a + S16.size a ≤ S81920.size a := fun i v211 v213 v1583 v1678 k0_hw37 k0_h24 k0_h40 r => k0_hw37.1 k0_h24 k0_h40 r
theorem k0_off125_inb : ∀ (i : grid0.Coords) (v211 : BitVec 32) (v213 : BitVec 32) (v1583 : BitVec 32) (v1678 : BitVec 32) (k0_hw37 : k0_chk37 i v211 v213 v1583 v1678), ∀ (k0_h24 : k0_cond24 v211 v213 = 1#1), ∀ (k0_h40 : k0_cond40 v1583 v1678 = 1#1), ∀ (r : Fin 8), ∀ a, (k0_off125 i v1583 (BitVec.ofNat 32 (16 * r.val))) a + S16.size a ≤ S81920.size a := fun i v211 v213 v1583 v1678 k0_hw37 k0_h24 k0_h40 r => k0_hw37.2 k0_h24 k0_h40 r

@[reducible] def k0_t7_loop (v5 : BitVec 32) (v7 : BitVec 32) (k0_t2 : Fin (k0_t2_loop v5 v7).trips) : Scf.Loop 32 :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_77 : BitVec 32 := 0#32
  let v180 : BitVec 1 := Scalar.cmpi .sgt v107 c0_i32_77
  let v181 : BitVec 32 := Scalar.extui v180
  let c0_i32_78 : BitVec 32 := 0#32
  let v182 : BitVec 1 := Scalar.cmpi .slt v107 c0_i32_78
  let v183 : BitVec 32 := Scalar.extui v182
  let v184 : BitVec 32 := Scalar.subi v181 v183
  let c16_i32_76 : BitVec 32 := 16#32
  let c0_i32_79 : BitVec 32 := 0#32
  let v185 : BitVec 1 := Scalar.cmpi .sgt c16_i32_76 c0_i32_79
  let v186 : BitVec 32 := Scalar.extui v185
  let c0_i32_80 : BitVec 32 := 0#32
  let v187 : BitVec 1 := Scalar.cmpi .slt c16_i32_76 c0_i32_80
  let v188 : BitVec 32 := Scalar.extui v187
  let v189 : BitVec 32 := Scalar.subi v186 v188
  let v190 : BitVec 1 := Scalar.cmpi .ne v184 v189
  let v191 : BitVec 32 := Scalar.remsi v107 c16_i32_76
  let c0_i32_81 : BitVec 32 := 0#32
  let v192 : BitVec 1 := Scalar.cmpi .ne v191 c0_i32_81
  let v193 : BitVec 1 := Scalar.andi v190 v192
  let v179 : BitVec 32 := Scalar.divsi v107 c16_i32_76
  let c1_i32_82 : BitVec 32 := 1#32
  let v194 : BitVec 32 := Scalar.subi v179 c1_i32_82
  let v195 : BitVec 32 := Scalar.select v193 v194 v179
  let c16_i32_83 : BitVec 32 := 16#32
  let v196 : BitVec 32 := Scalar.muli v195 c16_i32_83
  let v197 : BitVec 32 := Scalar.maxsi v130 v196
  let v198 : BitVec 32 := Scalar.subi v107 v197
  let c1_i32_85 : BitVec 32 := 1#32
  let v200 : BitVec 32 := Scalar.divsi v198 c1_i32_85
  let v201 : BitVec 32 := Scalar.muli v200 c1_i32_85
  let v202 : BitVec 32 := Scalar.addi v197 v201
  let c1_i32_86 : BitVec 32 := 1#32
  ⟨v197, v202, c1_i32_86⟩
def k0_off126 (v5 : BitVec 32) (v7 : BitVec 32) (k0_t2 : Fin (k0_t2_loop v5 v7).trips) (k0_t7 : Fin (k0_t7_loop v5 v7 k0_t2).trips) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c176_i32_44 : BitVec 32 := 176#32
  let v109 : BitVec 32 := Scalar.muli v80 c176_i32_44
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_77 : BitVec 32 := 0#32
  let v180 : BitVec 1 := Scalar.cmpi .sgt v107 c0_i32_77
  let v181 : BitVec 32 := Scalar.extui v180
  let c0_i32_78 : BitVec 32 := 0#32
  let v182 : BitVec 1 := Scalar.cmpi .slt v107 c0_i32_78
  let v183 : BitVec 32 := Scalar.extui v182
  let v184 : BitVec 32 := Scalar.subi v181 v183
  let c16_i32_76 : BitVec 32 := 16#32
  let c0_i32_79 : BitVec 32 := 0#32
  let v185 : BitVec 1 := Scalar.cmpi .sgt c16_i32_76 c0_i32_79
  let v186 : BitVec 32 := Scalar.extui v185
  let c0_i32_80 : BitVec 32 := 0#32
  let v187 : BitVec 1 := Scalar.cmpi .slt c16_i32_76 c0_i32_80
  let v188 : BitVec 32 := Scalar.extui v187
  let v189 : BitVec 32 := Scalar.subi v186 v188
  let v190 : BitVec 1 := Scalar.cmpi .ne v184 v189
  let v191 : BitVec 32 := Scalar.remsi v107 c16_i32_76
  let c0_i32_81 : BitVec 32 := 0#32
  let v192 : BitVec 1 := Scalar.cmpi .ne v191 c0_i32_81
  let v193 : BitVec 1 := Scalar.andi v190 v192
  let v179 : BitVec 32 := Scalar.divsi v107 c16_i32_76
  let c1_i32_82 : BitVec 32 := 1#32
  let v194 : BitVec 32 := Scalar.subi v179 c1_i32_82
  let v195 : BitVec 32 := Scalar.select v193 v194 v179
  let c16_i32_83 : BitVec 32 := 16#32
  let v196 : BitVec 32 := Scalar.muli v195 c16_i32_83
  let v197 : BitVec 32 := Scalar.maxsi v130 v196
  let c1_i32_86 : BitVec 32 := 1#32
  let arg17 : BitVec 32 := Scf.iv v197 c1_i32_86 k0_t7
  let v205 : BitVec 32 := Scalar.addi v109 arg17
  let v206 : Index := Scalar.indexCast v205
  ![v206.toNat]
def k0_off127 (i : grid0.Coords) (v212 : BitVec 32) (c0_i32_146 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_144 : BitVec 32 := 320#32
  let v412 : BitVec 32 := Scalar.muli v1 c320_i32_144
  let v413 : BitVec 32 := Scalar.subi v212 v412
  let c256_i32 : BitVec 32 := 256#32
  let v416 : BitVec 32 := Scalar.muli v413 c256_i32
  let v417 : BitVec 32 := Scalar.addi v416 c0_i32_146
  let v418 : Index := Scalar.indexCast v417
  ![v418.toNat]
def k0_cond41 (v210 : BitVec 32) (v212 : BitVec 32) : BitVec 1 :=
  let v213 : BitVec 1 := Scalar.cmpi .ne v210 v212
  let c0_i32_90 : BitVec 32 := 0#32
  let v214 : BitVec 1 := Scalar.cmpi .sge v212 c0_i32_90
  let v215 : BitVec 1 := Scalar.andi v213 v214
  let v216 : BitVec 32 := Scalar.extui v215
  let c0_i32_91 : BitVec 32 := 0#32
  let v217 : BitVec 1 := Scalar.cmpi .ne v216 c0_i32_91
  v217

def k0_off128 (i : grid0.Coords) (v212 : BitVec 32) (c0_i32_150 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_144 : BitVec 32 := 320#32
  let v412 : BitVec 32 := Scalar.muli v1 c320_i32_144
  let v413 : BitVec 32 := Scalar.subi v212 v412
  let c256_i32_148 : BitVec 32 := 256#32
  let v424 : BitVec 32 := Scalar.muli v413 c256_i32_148
  let c128_i32_149 : BitVec 32 := 128#32
  let v425 : BitVec 32 := Scalar.addi v424 c128_i32_149
  let v426 : BitVec 32 := Scalar.addi v425 c0_i32_150
  let v427 : Index := Scalar.indexCast v426
  ![v427.toNat]

def k0_chk38 (i : grid0.Coords) (v210 : BitVec 32) (v212 : BitVec 32) : Prop :=
  (∀ (k0_h41 : k0_cond41 v210 v212 = 1#1), ∀ (r : Fin 8), ∀ a, (k0_off127 i v212 (BitVec.ofNat 32 (16 * r.val))) a + S16.size a ≤ S81920.size a) ∧
  (∀ (k0_h41 : k0_cond41 v210 v212 = 1#1), ∀ (r : Fin 8), ∀ a, (k0_off128 i v212 (BitVec.ofNat 32 (16 * r.val))) a + S16.size a ≤ S81920.size a)
theorem k0_off127_inb : ∀ (i : grid0.Coords) (v210 : BitVec 32) (v212 : BitVec 32) (k0_hw38 : k0_chk38 i v210 v212), ∀ (k0_h41 : k0_cond41 v210 v212 = 1#1), ∀ (r : Fin 8), ∀ a, (k0_off127 i v212 (BitVec.ofNat 32 (16 * r.val))) a + S16.size a ≤ S81920.size a := fun i v210 v212 k0_hw38 k0_h41 r => k0_hw38.1 k0_h41 r
theorem k0_off128_inb : ∀ (i : grid0.Coords) (v210 : BitVec 32) (v212 : BitVec 32) (k0_hw38 : k0_chk38 i v210 v212), ∀ (k0_h41 : k0_cond41 v210 v212 = 1#1), ∀ (r : Fin 8), ∀ a, (k0_off128 i v212 (BitVec.ofNat 32 (16 * r.val))) a + S16.size a ≤ S81920.size a := fun i v210 v212 k0_hw38 k0_h41 r => k0_hw38.2 k0_h41 r

def k0_off129 (v5 : BitVec 32) (v7 : BitVec 32) (k0_t2 : Fin (k0_t2_loop v5 v7).trips) (k0_t7 : Fin (k0_t7_loop v5 v7 k0_t2).trips) (c0_i32_92 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_77 : BitVec 32 := 0#32
  let v180 : BitVec 1 := Scalar.cmpi .sgt v107 c0_i32_77
  let v181 : BitVec 32 := Scalar.extui v180
  let c0_i32_78 : BitVec 32 := 0#32
  let v182 : BitVec 1 := Scalar.cmpi .slt v107 c0_i32_78
  let v183 : BitVec 32 := Scalar.extui v182
  let v184 : BitVec 32 := Scalar.subi v181 v183
  let c16_i32_76 : BitVec 32 := 16#32
  let c0_i32_79 : BitVec 32 := 0#32
  let v185 : BitVec 1 := Scalar.cmpi .sgt c16_i32_76 c0_i32_79
  let v186 : BitVec 32 := Scalar.extui v185
  let c0_i32_80 : BitVec 32 := 0#32
  let v187 : BitVec 1 := Scalar.cmpi .slt c16_i32_76 c0_i32_80
  let v188 : BitVec 32 := Scalar.extui v187
  let v189 : BitVec 32 := Scalar.subi v186 v188
  let v190 : BitVec 1 := Scalar.cmpi .ne v184 v189
  let v191 : BitVec 32 := Scalar.remsi v107 c16_i32_76
  let c0_i32_81 : BitVec 32 := 0#32
  let v192 : BitVec 1 := Scalar.cmpi .ne v191 c0_i32_81
  let v193 : BitVec 1 := Scalar.andi v190 v192
  let v179 : BitVec 32 := Scalar.divsi v107 c16_i32_76
  let c1_i32_82 : BitVec 32 := 1#32
  let v194 : BitVec 32 := Scalar.subi v179 c1_i32_82
  let v195 : BitVec 32 := Scalar.select v193 v194 v179
  let c16_i32_83 : BitVec 32 := 16#32
  let v196 : BitVec 32 := Scalar.muli v195 c16_i32_83
  let v197 : BitVec 32 := Scalar.maxsi v130 v196
  let c1_i32_86 : BitVec 32 := 1#32
  let arg17 : BitVec 32 := Scf.iv v197 c1_i32_86 k0_t7
  let c128_i32 : BitVec 32 := 128#32
  let v218 : BitVec 32 := Scalar.muli arg17 c128_i32
  let v219 : BitVec 32 := Scalar.addi v108 v218
  let v220 : BitVec 32 := Scalar.addi v219 c0_i32_92
  let v221 : Index := Scalar.indexCast v220
  ![v221.toNat]
@[reducible] def k0_t8_loop (v5 : BitVec 32) (v7 : BitVec 32) (k0_t2 : Fin (k0_t2_loop v5 v7).trips) : Scf.Loop 32 :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_77 : BitVec 32 := 0#32
  let v180 : BitVec 1 := Scalar.cmpi .sgt v107 c0_i32_77
  let v181 : BitVec 32 := Scalar.extui v180
  let c0_i32_78 : BitVec 32 := 0#32
  let v182 : BitVec 1 := Scalar.cmpi .slt v107 c0_i32_78
  let v183 : BitVec 32 := Scalar.extui v182
  let v184 : BitVec 32 := Scalar.subi v181 v183
  let c16_i32_76 : BitVec 32 := 16#32
  let c0_i32_79 : BitVec 32 := 0#32
  let v185 : BitVec 1 := Scalar.cmpi .sgt c16_i32_76 c0_i32_79
  let v186 : BitVec 32 := Scalar.extui v185
  let c0_i32_80 : BitVec 32 := 0#32
  let v187 : BitVec 1 := Scalar.cmpi .slt c16_i32_76 c0_i32_80
  let v188 : BitVec 32 := Scalar.extui v187
  let v189 : BitVec 32 := Scalar.subi v186 v188
  let v190 : BitVec 1 := Scalar.cmpi .ne v184 v189
  let v191 : BitVec 32 := Scalar.remsi v107 c16_i32_76
  let c0_i32_81 : BitVec 32 := 0#32
  let v192 : BitVec 1 := Scalar.cmpi .ne v191 c0_i32_81
  let v193 : BitVec 1 := Scalar.andi v190 v192
  let v179 : BitVec 32 := Scalar.divsi v107 c16_i32_76
  let c1_i32_82 : BitVec 32 := 1#32
  let v194 : BitVec 32 := Scalar.subi v179 c1_i32_82
  let v195 : BitVec 32 := Scalar.select v193 v194 v179
  let c16_i32_83 : BitVec 32 := 16#32
  let v196 : BitVec 32 := Scalar.muli v195 c16_i32_83
  let v197 : BitVec 32 := Scalar.maxsi v130 v196
  let v198 : BitVec 32 := Scalar.subi v107 v197
  let c1_i32_85 : BitVec 32 := 1#32
  let v200 : BitVec 32 := Scalar.divsi v198 c1_i32_85
  let v201 : BitVec 32 := Scalar.muli v200 c1_i32_85
  let v202 : BitVec 32 := Scalar.addi v197 v201
  let v199 : BitVec 32 := Scalar.addi v197 v198
  let c1_i32_87 : BitVec 32 := 1#32
  ⟨v202, v199, c1_i32_87⟩
def k0_off130 (v5 : BitVec 32) (v7 : BitVec 32) (k0_t2 : Fin (k0_t2_loop v5 v7).trips) (k0_t8 : Fin (k0_t8_loop v5 v7 k0_t2).trips) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c176_i32_44 : BitVec 32 := 176#32
  let v109 : BitVec 32 := Scalar.muli v80 c176_i32_44
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_77 : BitVec 32 := 0#32
  let v180 : BitVec 1 := Scalar.cmpi .sgt v107 c0_i32_77
  let v181 : BitVec 32 := Scalar.extui v180
  let c0_i32_78 : BitVec 32 := 0#32
  let v182 : BitVec 1 := Scalar.cmpi .slt v107 c0_i32_78
  let v183 : BitVec 32 := Scalar.extui v182
  let v184 : BitVec 32 := Scalar.subi v181 v183
  let c16_i32_76 : BitVec 32 := 16#32
  let c0_i32_79 : BitVec 32 := 0#32
  let v185 : BitVec 1 := Scalar.cmpi .sgt c16_i32_76 c0_i32_79
  let v186 : BitVec 32 := Scalar.extui v185
  let c0_i32_80 : BitVec 32 := 0#32
  let v187 : BitVec 1 := Scalar.cmpi .slt c16_i32_76 c0_i32_80
  let v188 : BitVec 32 := Scalar.extui v187
  let v189 : BitVec 32 := Scalar.subi v186 v188
  let v190 : BitVec 1 := Scalar.cmpi .ne v184 v189
  let v191 : BitVec 32 := Scalar.remsi v107 c16_i32_76
  let c0_i32_81 : BitVec 32 := 0#32
  let v192 : BitVec 1 := Scalar.cmpi .ne v191 c0_i32_81
  let v193 : BitVec 1 := Scalar.andi v190 v192
  let v179 : BitVec 32 := Scalar.divsi v107 c16_i32_76
  let c1_i32_82 : BitVec 32 := 1#32
  let v194 : BitVec 32 := Scalar.subi v179 c1_i32_82
  let v195 : BitVec 32 := Scalar.select v193 v194 v179
  let c16_i32_83 : BitVec 32 := 16#32
  let v196 : BitVec 32 := Scalar.muli v195 c16_i32_83
  let v197 : BitVec 32 := Scalar.maxsi v130 v196
  let v198 : BitVec 32 := Scalar.subi v107 v197
  let c1_i32_85 : BitVec 32 := 1#32
  let v200 : BitVec 32 := Scalar.divsi v198 c1_i32_85
  let v201 : BitVec 32 := Scalar.muli v200 c1_i32_85
  let v202 : BitVec 32 := Scalar.addi v197 v201
  let c1_i32_87 : BitVec 32 := 1#32
  let arg17 : BitVec 32 := Scf.iv v202 c1_i32_87 k0_t8
  let v205 : BitVec 32 := Scalar.addi v109 arg17
  let v206 : Index := Scalar.indexCast v205
  ![v206.toNat]
def k0_off131 (i : grid0.Coords) (v212 : BitVec 32) (c0_i32_146 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_144 : BitVec 32 := 320#32
  let v412 : BitVec 32 := Scalar.muli v1 c320_i32_144
  let v413 : BitVec 32 := Scalar.subi v212 v412
  let c256_i32 : BitVec 32 := 256#32
  let v416 : BitVec 32 := Scalar.muli v413 c256_i32
  let v417 : BitVec 32 := Scalar.addi v416 c0_i32_146
  let v418 : Index := Scalar.indexCast v417
  ![v418.toNat]
def k0_cond42 (v210 : BitVec 32) (v212 : BitVec 32) : BitVec 1 :=
  let v213 : BitVec 1 := Scalar.cmpi .ne v210 v212
  let c0_i32_90 : BitVec 32 := 0#32
  let v214 : BitVec 1 := Scalar.cmpi .sge v212 c0_i32_90
  let v215 : BitVec 1 := Scalar.andi v213 v214
  let v216 : BitVec 32 := Scalar.extui v215
  let c0_i32_91 : BitVec 32 := 0#32
  let v217 : BitVec 1 := Scalar.cmpi .ne v216 c0_i32_91
  v217

def k0_off132 (i : grid0.Coords) (v212 : BitVec 32) (c0_i32_150 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_144 : BitVec 32 := 320#32
  let v412 : BitVec 32 := Scalar.muli v1 c320_i32_144
  let v413 : BitVec 32 := Scalar.subi v212 v412
  let c256_i32_148 : BitVec 32 := 256#32
  let v424 : BitVec 32 := Scalar.muli v413 c256_i32_148
  let c128_i32_149 : BitVec 32 := 128#32
  let v425 : BitVec 32 := Scalar.addi v424 c128_i32_149
  let v426 : BitVec 32 := Scalar.addi v425 c0_i32_150
  let v427 : Index := Scalar.indexCast v426
  ![v427.toNat]

def k0_chk39 (i : grid0.Coords) (v210 : BitVec 32) (v212 : BitVec 32) : Prop :=
  (∀ (k0_h42 : k0_cond42 v210 v212 = 1#1), ∀ (r : Fin 8), ∀ a, (k0_off131 i v212 (BitVec.ofNat 32 (16 * r.val))) a + S16.size a ≤ S81920.size a) ∧
  (∀ (k0_h42 : k0_cond42 v210 v212 = 1#1), ∀ (r : Fin 8), ∀ a, (k0_off132 i v212 (BitVec.ofNat 32 (16 * r.val))) a + S16.size a ≤ S81920.size a)
theorem k0_off131_inb : ∀ (i : grid0.Coords) (v210 : BitVec 32) (v212 : BitVec 32) (k0_hw39 : k0_chk39 i v210 v212), ∀ (k0_h42 : k0_cond42 v210 v212 = 1#1), ∀ (r : Fin 8), ∀ a, (k0_off131 i v212 (BitVec.ofNat 32 (16 * r.val))) a + S16.size a ≤ S81920.size a := fun i v210 v212 k0_hw39 k0_h42 r => k0_hw39.1 k0_h42 r
theorem k0_off132_inb : ∀ (i : grid0.Coords) (v210 : BitVec 32) (v212 : BitVec 32) (k0_hw39 : k0_chk39 i v210 v212), ∀ (k0_h42 : k0_cond42 v210 v212 = 1#1), ∀ (r : Fin 8), ∀ a, (k0_off132 i v212 (BitVec.ofNat 32 (16 * r.val))) a + S16.size a ≤ S81920.size a := fun i v210 v212 k0_hw39 k0_h42 r => k0_hw39.2 k0_h42 r

def k0_off133 (v5 : BitVec 32) (v7 : BitVec 32) (k0_t2 : Fin (k0_t2_loop v5 v7).trips) (k0_t8 : Fin (k0_t8_loop v5 v7 k0_t2).trips) (c0_i32_92 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c1_i32_22 : BitVec 32 := 1#32
  let arg15 : BitVec 32 := Scf.iv v25 c1_i32_22 k0_t2
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_77 : BitVec 32 := 0#32
  let v180 : BitVec 1 := Scalar.cmpi .sgt v107 c0_i32_77
  let v181 : BitVec 32 := Scalar.extui v180
  let c0_i32_78 : BitVec 32 := 0#32
  let v182 : BitVec 1 := Scalar.cmpi .slt v107 c0_i32_78
  let v183 : BitVec 32 := Scalar.extui v182
  let v184 : BitVec 32 := Scalar.subi v181 v183
  let c16_i32_76 : BitVec 32 := 16#32
  let c0_i32_79 : BitVec 32 := 0#32
  let v185 : BitVec 1 := Scalar.cmpi .sgt c16_i32_76 c0_i32_79
  let v186 : BitVec 32 := Scalar.extui v185
  let c0_i32_80 : BitVec 32 := 0#32
  let v187 : BitVec 1 := Scalar.cmpi .slt c16_i32_76 c0_i32_80
  let v188 : BitVec 32 := Scalar.extui v187
  let v189 : BitVec 32 := Scalar.subi v186 v188
  let v190 : BitVec 1 := Scalar.cmpi .ne v184 v189
  let v191 : BitVec 32 := Scalar.remsi v107 c16_i32_76
  let c0_i32_81 : BitVec 32 := 0#32
  let v192 : BitVec 1 := Scalar.cmpi .ne v191 c0_i32_81
  let v193 : BitVec 1 := Scalar.andi v190 v192
  let v179 : BitVec 32 := Scalar.divsi v107 c16_i32_76
  let c1_i32_82 : BitVec 32 := 1#32
  let v194 : BitVec 32 := Scalar.subi v179 c1_i32_82
  let v195 : BitVec 32 := Scalar.select v193 v194 v179
  let c16_i32_83 : BitVec 32 := 16#32
  let v196 : BitVec 32 := Scalar.muli v195 c16_i32_83
  let v197 : BitVec 32 := Scalar.maxsi v130 v196
  let v198 : BitVec 32 := Scalar.subi v107 v197
  let c1_i32_85 : BitVec 32 := 1#32
  let v200 : BitVec 32 := Scalar.divsi v198 c1_i32_85
  let v201 : BitVec 32 := Scalar.muli v200 c1_i32_85
  let v202 : BitVec 32 := Scalar.addi v197 v201
  let c1_i32_87 : BitVec 32 := 1#32
  let arg17 : BitVec 32 := Scf.iv v202 c1_i32_87 k0_t8
  let c128_i32 : BitVec 32 := 128#32
  let v218 : BitVec 32 := Scalar.muli arg17 c128_i32
  let v219 : BitVec 32 := Scalar.addi v108 v218
  let v220 : BitVec 32 := Scalar.addi v219 c0_i32_92
  let v221 : Index := Scalar.indexCast v220
  ![v221.toNat]
@[reducible] def k0_t9_loop (v5 : BitVec 32) (v7 : BitVec 32) : Scf.Loop 32 :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let v54 : BitVec 32 := Scalar.addi v25 v53
  let c1_i32_23 : BitVec 32 := 1#32
  ⟨v57, v54, c1_i32_23⟩
def k0_off134 (v5 : BitVec 32) (v7 : BitVec 32) (k0_t9 : Fin (k0_t9_loop v5 v7).trips) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c2_i32_91 : BitVec 32 := 2#32
  let v207 : BitVec 32 := Scalar.addi arg15 c2_i32_91
  let c1_i32_92 : BitVec 32 := 1#32
  let v208 : BitVec 32 := Scalar.subi v207 c1_i32_92
  let c2_i32_93 : BitVec 32 := 2#32
  let c0_i32_94 : BitVec 32 := 0#32
  let v209 : BitVec 1 := Scalar.cmpi .eq c2_i32_93 c0_i32_94
  let c1_i32_95 : BitVec 32 := 1#32
  let v210 : BitVec 32 := Scalar.select v209 c1_i32_95 c2_i32_93
  let v211 : BitVec 32 := Scalar.remsi v208 v210
  let c0_i32_97 : BitVec 32 := 0#32
  let v213 : BitVec 1 := Scalar.cmpi .slt v211 c0_i32_97
  let c0_i32_98 : BitVec 32 := 0#32
  let v214 : BitVec 1 := Scalar.cmpi .slt v210 c0_i32_98
  let v215 : BitVec 1 := Scalar.xori v213 v214
  let c0_i32_96 : BitVec 32 := 0#32
  let v212 : BitVec 1 := Scalar.cmpi .ne v211 c0_i32_96
  let v216 : BitVec 1 := Scalar.andi v215 v212
  let v217 : BitVec 32 := Scalar.addi v211 v210
  let v218 : BitVec 32 := Scalar.select v216 v217 v211
  let c20480_i32_100 : BitVec 32 := 20480#32
  let v220 : BitVec 32 := Scalar.muli v218 c20480_i32_100
  ![v220.toNat]
def k0_cond43 (v5 : BitVec 32) (v7 : BitVec 32) (k0_t9 : Fin (k0_t9_loop v5 v7).trips) : BitVec 1 :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c2_i32_37 : BitVec 32 := 2#32
  let v82 : BitVec 32 := Scalar.addi arg15 c2_i32_37
  let c1_i32_38 : BitVec 32 := 1#32
  let v83 : BitVec 32 := Scalar.subi v82 c1_i32_38
  let v84 : BitVec 1 := Scalar.cmpi .slt v83 v44
  let v85 : BitVec 32 := Scalar.extui v84
  let c0_i32_39 : BitVec 32 := 0#32
  let v86 : BitVec 1 := Scalar.cmpi .ne v85 c0_i32_39
  v86

def k0_off135 (v5 : BitVec 32) (v7 : BitVec 32) (k0_t9 : Fin (k0_t9_loop v5 v7).trips) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c2_i32_89 : BitVec 32 := 2#32
  let v205 : BitVec 32 := Scalar.addi arg15 c2_i32_89
  let c1_i32_90 : BitVec 32 := 1#32
  let v206 : BitVec 32 := Scalar.subi v205 c1_i32_90
  let c20480_i32_99 : BitVec 32 := 20480#32
  let v219 : BitVec 32 := Scalar.muli v206 c20480_i32_99
  ![v219.toNat]
def k0_off136 (v5 : BitVec 32) (v7 : BitVec 32) (k0_t9 : Fin (k0_t9_loop v5 v7).trips) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c2_i32_91 : BitVec 32 := 2#32
  let v207 : BitVec 32 := Scalar.addi arg15 c2_i32_91
  let c1_i32_92 : BitVec 32 := 1#32
  let v208 : BitVec 32 := Scalar.subi v207 c1_i32_92
  let c2_i32_93 : BitVec 32 := 2#32
  let c0_i32_94 : BitVec 32 := 0#32
  let v209 : BitVec 1 := Scalar.cmpi .eq c2_i32_93 c0_i32_94
  let c1_i32_95 : BitVec 32 := 1#32
  let v210 : BitVec 32 := Scalar.select v209 c1_i32_95 c2_i32_93
  let v211 : BitVec 32 := Scalar.remsi v208 v210
  let c0_i32_97 : BitVec 32 := 0#32
  let v213 : BitVec 1 := Scalar.cmpi .slt v211 c0_i32_97
  let c0_i32_98 : BitVec 32 := 0#32
  let v214 : BitVec 1 := Scalar.cmpi .slt v210 c0_i32_98
  let v215 : BitVec 1 := Scalar.xori v213 v214
  let c0_i32_96 : BitVec 32 := 0#32
  let v212 : BitVec 1 := Scalar.cmpi .ne v211 c0_i32_96
  let v216 : BitVec 1 := Scalar.andi v215 v212
  let v217 : BitVec 32 := Scalar.addi v211 v210
  let v218 : BitVec 32 := Scalar.select v216 v217 v211
  ![v218.toNat]
def k0_off137 (v5 : BitVec 32) (v7 : BitVec 32) (k0_t9 : Fin (k0_t9_loop v5 v7).trips) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c2_i32_91 : BitVec 32 := 2#32
  let v207 : BitVec 32 := Scalar.addi arg15 c2_i32_91
  let c1_i32_92 : BitVec 32 := 1#32
  let v208 : BitVec 32 := Scalar.subi v207 c1_i32_92
  let c2_i32_93 : BitVec 32 := 2#32
  let c0_i32_94 : BitVec 32 := 0#32
  let v209 : BitVec 1 := Scalar.cmpi .eq c2_i32_93 c0_i32_94
  let c1_i32_95 : BitVec 32 := 1#32
  let v210 : BitVec 32 := Scalar.select v209 c1_i32_95 c2_i32_93
  let v211 : BitVec 32 := Scalar.remsi v208 v210
  let c0_i32_97 : BitVec 32 := 0#32
  let v213 : BitVec 1 := Scalar.cmpi .slt v211 c0_i32_97
  let c0_i32_98 : BitVec 32 := 0#32
  let v214 : BitVec 1 := Scalar.cmpi .slt v210 c0_i32_98
  let v215 : BitVec 1 := Scalar.xori v213 v214
  let c0_i32_96 : BitVec 32 := 0#32
  let v212 : BitVec 1 := Scalar.cmpi .ne v211 c0_i32_96
  let v216 : BitVec 1 := Scalar.andi v215 v212
  let v217 : BitVec 32 := Scalar.addi v211 v210
  let v218 : BitVec 32 := Scalar.select v216 v217 v211
  let c176_i32_102 : BitVec 32 := 176#32
  let v228 : BitVec 32 := Scalar.muli v218 c176_i32_102
  ![v228.toNat]
def k0_off138 (v5 : BitVec 32) (v7 : BitVec 32) (k0_t9 : Fin (k0_t9_loop v5 v7).trips) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c2_i32_89 : BitVec 32 := 2#32
  let v205 : BitVec 32 := Scalar.addi arg15 c2_i32_89
  let c1_i32_90 : BitVec 32 := 1#32
  let v206 : BitVec 32 := Scalar.subi v205 c1_i32_90
  let c160_i32_101 : BitVec 32 := 160#32
  let v227 : BitVec 32 := Scalar.muli v206 c160_i32_101
  ![v227.toNat]
def k0_off139 (v5 : BitVec 32) (v7 : BitVec 32) (k0_t9 : Fin (k0_t9_loop v5 v7).trips) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_40 : BitVec 32 := 20480#32
  let v88 : BitVec 32 := Scalar.muli v80 c20480_i32_40
  ![v88.toNat]
def k0_off140 (v5 : BitVec 32) (v7 : BitVec 32) (k0_t9 : Fin (k0_t9_loop v5 v7).trips) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c20480_i32 : BitVec 32 := 20480#32
  let v87 : BitVec 32 := Scalar.muli arg15 c20480_i32
  ![v87.toNat]
def k0_off141 (v5 : BitVec 32) (v7 : BitVec 32) (k0_t9 : Fin (k0_t9_loop v5 v7).trips) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  ![v80.toNat]
def k0_off142 (v5 : BitVec 32) (v7 : BitVec 32) (k0_t9 : Fin (k0_t9_loop v5 v7).trips) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c176_i32 : BitVec 32 := 176#32
  let v96 : BitVec 32 := Scalar.muli v80 c176_i32
  ![v96.toNat]
def k0_off143 (v5 : BitVec 32) (v7 : BitVec 32) (k0_t9 : Fin (k0_t9_loop v5 v7).trips) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c160_i32_41 : BitVec 32 := 160#32
  let v95 : BitVec 32 := Scalar.muli arg15 c160_i32_41
  ![v95.toNat]
@[reducible] def k0_t10_loop (v5 : BitVec 32) (v7 : BitVec 32) (k0_t9 : Fin (k0_t9_loop v5 v7).trips) : Scf.Loop 32 :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c160_i32_36 : BitVec 32 := 160#32
  let v81 : BitVec 32 := Scalar.muli arg15 c160_i32_36
  let v103 : BitVec 32 := Scalar.maxsi v5 v81
  let v104 : BitVec 32 := Scalar.subi v103 v81
  let c160_i32_42 : BitVec 32 := 160#32
  let v105 : BitVec 32 := Scalar.addi v81 c160_i32_42
  let v106 : BitVec 32 := Scalar.minsi v7 v105
  let v107 : BitVec 32 := Scalar.subi v106 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let v131 : BitVec 32 := Scalar.subi v130 v104
  let c1_i32_55 : BitVec 32 := 1#32
  let v133 : BitVec 32 := Scalar.divsi v131 c1_i32_55
  let v134 : BitVec 32 := Scalar.muli v133 c1_i32_55
  let v135 : BitVec 32 := Scalar.addi v104 v134
  let c1_i32_56 : BitVec 32 := 1#32
  ⟨v104, v135, c1_i32_56⟩
def k0_off144 (v5 : BitVec 32) (v7 : BitVec 32) (k0_t9 : Fin (k0_t9_loop v5 v7).trips) (k0_t10 : Fin (k0_t10_loop v5 v7 k0_t9).trips) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c176_i32_44 : BitVec 32 := 176#32
  let v109 : BitVec 32 := Scalar.muli v80 c176_i32_44
  let c160_i32_36 : BitVec 32 := 160#32
  let v81 : BitVec 32 := Scalar.muli arg15 c160_i32_36
  let v103 : BitVec 32 := Scalar.maxsi v5 v81
  let v104 : BitVec 32 := Scalar.subi v103 v81
  let c1_i32_56 : BitVec 32 := 1#32
  let arg17 : BitVec 32 := Scf.iv v104 c1_i32_56 k0_t10
  let v205 : BitVec 32 := Scalar.addi v109 arg17
  let v206 : Index := Scalar.indexCast v205
  ![v206.toNat]
def k0_off145 (i : grid0.Coords) (v212 : BitVec 32) (c0_i32_146 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_144 : BitVec 32 := 320#32
  let v412 : BitVec 32 := Scalar.muli v1 c320_i32_144
  let v413 : BitVec 32 := Scalar.subi v212 v412
  let c256_i32 : BitVec 32 := 256#32
  let v416 : BitVec 32 := Scalar.muli v413 c256_i32
  let v417 : BitVec 32 := Scalar.addi v416 c0_i32_146
  let v418 : Index := Scalar.indexCast v417
  ![v418.toNat]
def k0_cond44 (v210 : BitVec 32) (v212 : BitVec 32) : BitVec 1 :=
  let v213 : BitVec 1 := Scalar.cmpi .ne v210 v212
  let c0_i32_90 : BitVec 32 := 0#32
  let v214 : BitVec 1 := Scalar.cmpi .sge v212 c0_i32_90
  let v215 : BitVec 1 := Scalar.andi v213 v214
  let v216 : BitVec 32 := Scalar.extui v215
  let c0_i32_91 : BitVec 32 := 0#32
  let v217 : BitVec 1 := Scalar.cmpi .ne v216 c0_i32_91
  v217

def k0_off146 (i : grid0.Coords) (v212 : BitVec 32) (c0_i32_150 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_144 : BitVec 32 := 320#32
  let v412 : BitVec 32 := Scalar.muli v1 c320_i32_144
  let v413 : BitVec 32 := Scalar.subi v212 v412
  let c256_i32_148 : BitVec 32 := 256#32
  let v424 : BitVec 32 := Scalar.muli v413 c256_i32_148
  let c128_i32_149 : BitVec 32 := 128#32
  let v425 : BitVec 32 := Scalar.addi v424 c128_i32_149
  let v426 : BitVec 32 := Scalar.addi v425 c0_i32_150
  let v427 : Index := Scalar.indexCast v426
  ![v427.toNat]

def k0_chk40 (i : grid0.Coords) (v210 : BitVec 32) (v212 : BitVec 32) : Prop :=
  (∀ (k0_h44 : k0_cond44 v210 v212 = 1#1), ∀ (r : Fin 8), ∀ a, (k0_off145 i v212 (BitVec.ofNat 32 (16 * r.val))) a + S16.size a ≤ S81920.size a) ∧
  (∀ (k0_h44 : k0_cond44 v210 v212 = 1#1), ∀ (r : Fin 8), ∀ a, (k0_off146 i v212 (BitVec.ofNat 32 (16 * r.val))) a + S16.size a ≤ S81920.size a)
theorem k0_off145_inb : ∀ (i : grid0.Coords) (v210 : BitVec 32) (v212 : BitVec 32) (k0_hw40 : k0_chk40 i v210 v212), ∀ (k0_h44 : k0_cond44 v210 v212 = 1#1), ∀ (r : Fin 8), ∀ a, (k0_off145 i v212 (BitVec.ofNat 32 (16 * r.val))) a + S16.size a ≤ S81920.size a := fun i v210 v212 k0_hw40 k0_h44 r => k0_hw40.1 k0_h44 r
theorem k0_off146_inb : ∀ (i : grid0.Coords) (v210 : BitVec 32) (v212 : BitVec 32) (k0_hw40 : k0_chk40 i v210 v212), ∀ (k0_h44 : k0_cond44 v210 v212 = 1#1), ∀ (r : Fin 8), ∀ a, (k0_off146 i v212 (BitVec.ofNat 32 (16 * r.val))) a + S16.size a ≤ S81920.size a := fun i v210 v212 k0_hw40 k0_h44 r => k0_hw40.2 k0_h44 r

def k0_off147 (v5 : BitVec 32) (v7 : BitVec 32) (k0_t9 : Fin (k0_t9_loop v5 v7).trips) (k0_t10 : Fin (k0_t10_loop v5 v7 k0_t9).trips) (c0_i32_92 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let v103 : BitVec 32 := Scalar.maxsi v5 v81
  let v104 : BitVec 32 := Scalar.subi v103 v81
  let c1_i32_56 : BitVec 32 := 1#32
  let arg17 : BitVec 32 := Scf.iv v104 c1_i32_56 k0_t10
  let c128_i32 : BitVec 32 := 128#32
  let v218 : BitVec 32 := Scalar.muli arg17 c128_i32
  let v219 : BitVec 32 := Scalar.addi v108 v218
  let v220 : BitVec 32 := Scalar.addi v219 c0_i32_92
  let v221 : Index := Scalar.indexCast v220
  ![v221.toNat]
@[reducible] def k0_t11_loop (v5 : BitVec 32) (v7 : BitVec 32) (k0_t9 : Fin (k0_t9_loop v5 v7).trips) : Scf.Loop 32 :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c160_i32_36 : BitVec 32 := 160#32
  let v81 : BitVec 32 := Scalar.muli arg15 c160_i32_36
  let v103 : BitVec 32 := Scalar.maxsi v5 v81
  let v104 : BitVec 32 := Scalar.subi v103 v81
  let c160_i32_42 : BitVec 32 := 160#32
  let v105 : BitVec 32 := Scalar.addi v81 c160_i32_42
  let v106 : BitVec 32 := Scalar.minsi v7 v105
  let v107 : BitVec 32 := Scalar.subi v106 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let v131 : BitVec 32 := Scalar.subi v130 v104
  let c1_i32_55 : BitVec 32 := 1#32
  let v133 : BitVec 32 := Scalar.divsi v131 c1_i32_55
  let v134 : BitVec 32 := Scalar.muli v133 c1_i32_55
  let v135 : BitVec 32 := Scalar.addi v104 v134
  let v132 : BitVec 32 := Scalar.addi v104 v131
  let c1_i32_57 : BitVec 32 := 1#32
  ⟨v135, v132, c1_i32_57⟩
def k0_off148 (v5 : BitVec 32) (v7 : BitVec 32) (k0_t9 : Fin (k0_t9_loop v5 v7).trips) (k0_t11 : Fin (k0_t11_loop v5 v7 k0_t9).trips) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c176_i32_44 : BitVec 32 := 176#32
  let v109 : BitVec 32 := Scalar.muli v80 c176_i32_44
  let c160_i32_36 : BitVec 32 := 160#32
  let v81 : BitVec 32 := Scalar.muli arg15 c160_i32_36
  let v103 : BitVec 32 := Scalar.maxsi v5 v81
  let v104 : BitVec 32 := Scalar.subi v103 v81
  let c160_i32_42 : BitVec 32 := 160#32
  let v105 : BitVec 32 := Scalar.addi v81 c160_i32_42
  let v106 : BitVec 32 := Scalar.minsi v7 v105
  let v107 : BitVec 32 := Scalar.subi v106 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let v131 : BitVec 32 := Scalar.subi v130 v104
  let c1_i32_55 : BitVec 32 := 1#32
  let v133 : BitVec 32 := Scalar.divsi v131 c1_i32_55
  let v134 : BitVec 32 := Scalar.muli v133 c1_i32_55
  let v135 : BitVec 32 := Scalar.addi v104 v134
  let c1_i32_57 : BitVec 32 := 1#32
  let arg17 : BitVec 32 := Scf.iv v135 c1_i32_57 k0_t11
  let v205 : BitVec 32 := Scalar.addi v109 arg17
  let v206 : Index := Scalar.indexCast v205
  ![v206.toNat]
def k0_off149 (i : grid0.Coords) (v212 : BitVec 32) (c0_i32_146 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_144 : BitVec 32 := 320#32
  let v412 : BitVec 32 := Scalar.muli v1 c320_i32_144
  let v413 : BitVec 32 := Scalar.subi v212 v412
  let c256_i32 : BitVec 32 := 256#32
  let v416 : BitVec 32 := Scalar.muli v413 c256_i32
  let v417 : BitVec 32 := Scalar.addi v416 c0_i32_146
  let v418 : Index := Scalar.indexCast v417
  ![v418.toNat]
def k0_cond45 (v210 : BitVec 32) (v212 : BitVec 32) : BitVec 1 :=
  let v213 : BitVec 1 := Scalar.cmpi .ne v210 v212
  let c0_i32_90 : BitVec 32 := 0#32
  let v214 : BitVec 1 := Scalar.cmpi .sge v212 c0_i32_90
  let v215 : BitVec 1 := Scalar.andi v213 v214
  let v216 : BitVec 32 := Scalar.extui v215
  let c0_i32_91 : BitVec 32 := 0#32
  let v217 : BitVec 1 := Scalar.cmpi .ne v216 c0_i32_91
  v217

def k0_off150 (i : grid0.Coords) (v212 : BitVec 32) (c0_i32_150 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_144 : BitVec 32 := 320#32
  let v412 : BitVec 32 := Scalar.muli v1 c320_i32_144
  let v413 : BitVec 32 := Scalar.subi v212 v412
  let c256_i32_148 : BitVec 32 := 256#32
  let v424 : BitVec 32 := Scalar.muli v413 c256_i32_148
  let c128_i32_149 : BitVec 32 := 128#32
  let v425 : BitVec 32 := Scalar.addi v424 c128_i32_149
  let v426 : BitVec 32 := Scalar.addi v425 c0_i32_150
  let v427 : Index := Scalar.indexCast v426
  ![v427.toNat]

def k0_chk41 (i : grid0.Coords) (v210 : BitVec 32) (v212 : BitVec 32) : Prop :=
  (∀ (k0_h45 : k0_cond45 v210 v212 = 1#1), ∀ (r : Fin 8), ∀ a, (k0_off149 i v212 (BitVec.ofNat 32 (16 * r.val))) a + S16.size a ≤ S81920.size a) ∧
  (∀ (k0_h45 : k0_cond45 v210 v212 = 1#1), ∀ (r : Fin 8), ∀ a, (k0_off150 i v212 (BitVec.ofNat 32 (16 * r.val))) a + S16.size a ≤ S81920.size a)
theorem k0_off149_inb : ∀ (i : grid0.Coords) (v210 : BitVec 32) (v212 : BitVec 32) (k0_hw41 : k0_chk41 i v210 v212), ∀ (k0_h45 : k0_cond45 v210 v212 = 1#1), ∀ (r : Fin 8), ∀ a, (k0_off149 i v212 (BitVec.ofNat 32 (16 * r.val))) a + S16.size a ≤ S81920.size a := fun i v210 v212 k0_hw41 k0_h45 r => k0_hw41.1 k0_h45 r
theorem k0_off150_inb : ∀ (i : grid0.Coords) (v210 : BitVec 32) (v212 : BitVec 32) (k0_hw41 : k0_chk41 i v210 v212), ∀ (k0_h45 : k0_cond45 v210 v212 = 1#1), ∀ (r : Fin 8), ∀ a, (k0_off150 i v212 (BitVec.ofNat 32 (16 * r.val))) a + S16.size a ≤ S81920.size a := fun i v210 v212 k0_hw41 k0_h45 r => k0_hw41.2 k0_h45 r

def k0_off151 (v5 : BitVec 32) (v7 : BitVec 32) (k0_t9 : Fin (k0_t9_loop v5 v7).trips) (k0_t11 : Fin (k0_t11_loop v5 v7 k0_t9).trips) (c0_i32_92 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let v103 : BitVec 32 := Scalar.maxsi v5 v81
  let v104 : BitVec 32 := Scalar.subi v103 v81
  let c160_i32_42 : BitVec 32 := 160#32
  let v105 : BitVec 32 := Scalar.addi v81 c160_i32_42
  let v106 : BitVec 32 := Scalar.minsi v7 v105
  let v107 : BitVec 32 := Scalar.subi v106 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let v131 : BitVec 32 := Scalar.subi v130 v104
  let c1_i32_55 : BitVec 32 := 1#32
  let v133 : BitVec 32 := Scalar.divsi v131 c1_i32_55
  let v134 : BitVec 32 := Scalar.muli v133 c1_i32_55
  let v135 : BitVec 32 := Scalar.addi v104 v134
  let c1_i32_57 : BitVec 32 := 1#32
  let arg17 : BitVec 32 := Scf.iv v135 c1_i32_57 k0_t11
  let c128_i32 : BitVec 32 := 128#32
  let v218 : BitVec 32 := Scalar.muli arg17 c128_i32
  let v219 : BitVec 32 := Scalar.addi v108 v218
  let v220 : BitVec 32 := Scalar.addi v219 c0_i32_92
  let v221 : Index := Scalar.indexCast v220
  ![v221.toNat]
@[reducible] def k0_t12_loop (v5 : BitVec 32) (v7 : BitVec 32) (k0_t9 : Fin (k0_t9_loop v5 v7).trips) : Scf.Loop 32 :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c0_i32_66 : BitVec 32 := 0#32
  let v156 : BitVec 1 := Scalar.cmpi .sgt v107 c0_i32_66
  let v157 : BitVec 32 := Scalar.extui v156
  let c0_i32_67 : BitVec 32 := 0#32
  let v158 : BitVec 1 := Scalar.cmpi .slt v107 c0_i32_67
  let v159 : BitVec 32 := Scalar.extui v158
  let v160 : BitVec 32 := Scalar.subi v157 v159
  let c16_i32_65 : BitVec 32 := 16#32
  let c0_i32_68 : BitVec 32 := 0#32
  let v161 : BitVec 1 := Scalar.cmpi .sgt c16_i32_65 c0_i32_68
  let v162 : BitVec 32 := Scalar.extui v161
  let c0_i32_69 : BitVec 32 := 0#32
  let v163 : BitVec 1 := Scalar.cmpi .slt c16_i32_65 c0_i32_69
  let v164 : BitVec 32 := Scalar.extui v163
  let v165 : BitVec 32 := Scalar.subi v162 v164
  let v166 : BitVec 1 := Scalar.cmpi .ne v160 v165
  let v167 : BitVec 32 := Scalar.remsi v107 c16_i32_65
  let c0_i32_70 : BitVec 32 := 0#32
  let v168 : BitVec 1 := Scalar.cmpi .ne v167 c0_i32_70
  let v169 : BitVec 1 := Scalar.andi v166 v168
  let v155 : BitVec 32 := Scalar.divsi v107 c16_i32_65
  let c1_i32_71 : BitVec 32 := 1#32
  let v170 : BitVec 32 := Scalar.subi v155 c1_i32_71
  let v171 : BitVec 32 := Scalar.select v169 v170 v155
  let v172 : BitVec 32 := Scalar.subi v171 v154
  let c1_i32_73 : BitVec 32 := 1#32
  let v174 : BitVec 32 := Scalar.divsi v172 c1_i32_73
  let v175 : BitVec 32 := Scalar.muli v174 c1_i32_73
  let v176 : BitVec 32 := Scalar.addi v154 v175
  let c1_i32_74 : BitVec 32 := 1#32
  ⟨v154, v176, c1_i32_74⟩
def k0_off152 (v5 : BitVec 32) (v7 : BitVec 32) (k0_t9 : Fin (k0_t9_loop v5 v7).trips) (k0_t12 : Fin (k0_t12_loop v5 v7 k0_t9).trips) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c176_i32_44 : BitVec 32 := 176#32
  let v109 : BitVec 32 := Scalar.muli v80 c176_i32_44
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c1_i32_74 : BitVec 32 := 1#32
  let arg17 : BitVec 32 := Scf.iv v154 c1_i32_74 k0_t12
  let c16_i32_89 : BitVec 32 := 16#32
  let v205 : BitVec 32 := Scalar.muli arg17 c16_i32_89
  let v206 : BitVec 32 := Scalar.addi v109 v205
  let v207 : Index := Scalar.indexCast v206
  ![v207.toNat]
def k0_off153 (v5 : BitVec 32) (v7 : BitVec 32) (k0_t9 : Fin (k0_t9_loop v5 v7).trips) (k0_t12 : Fin (k0_t12_loop v5 v7 k0_t9).trips) (c0_i32_94 : BitVec 32) (c0_i32_95 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c1_i32_74 : BitVec 32 := 1#32
  let arg17 : BitVec 32 := Scf.iv v154 c1_i32_74 k0_t12
  let c16_i32_89 : BitVec 32 := 16#32
  let v205 : BitVec 32 := Scalar.muli arg17 c16_i32_89
  let v220 : BitVec 32 := Scalar.addi v205 c0_i32_94
  let c128_i32 : BitVec 32 := 128#32
  let v221 : BitVec 32 := Scalar.muli v220 c128_i32
  let v222 : BitVec 32 := Scalar.addi v108 v221
  let v223 : BitVec 32 := Scalar.addi v222 c0_i32_95
  let v224 : Index := Scalar.indexCast v223
  ![v224.toNat]
def k0_cond46 (v211 : BitVec 32) (v213 : BitVec 32) : BitVec 1 :=
  let v214 : BitVec 1 := Scalar.cmpi .eq v213 v211
  let v215 : BitVec 32 := Scalar.extui v214
  let c0_i32_91 : BitVec 32 := 0#32
  let v216 : BitVec 1 := Scalar.cmpi .ne v215 c0_i32_91
  v216

def k0_off154 (v5 : BitVec 32) (v7 : BitVec 32) (k0_t9 : Fin (k0_t9_loop v5 v7).trips) (k0_t12 : Fin (k0_t12_loop v5 v7 k0_t9).trips) (c0_i32_104 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c1_i32_74 : BitVec 32 := 1#32
  let arg17 : BitVec 32 := Scf.iv v154 c1_i32_74 k0_t12
  let c16_i32_89 : BitVec 32 := 16#32
  let v205 : BitVec 32 := Scalar.muli arg17 c16_i32_89
  let c0_i32_103 : BitVec 32 := 0#32
  let v255 : BitVec 32 := Scalar.addi v205 c0_i32_103
  let c128_i32 : BitVec 32 := 128#32
  let v256 : BitVec 32 := Scalar.muli v255 c128_i32
  let v257 : BitVec 32 := Scalar.addi v108 v256
  let v258 : BitVec 32 := Scalar.addi v257 c0_i32_104
  let v259 : Index := Scalar.indexCast v258
  ![v259.toNat]
def k0_cond47 (v211 : BitVec 32) (v213 : BitVec 32) : BitVec 1 :=
  let v217 : BitVec 1 := Scalar.cmpi .ne v213 v211
  let v218 : BitVec 32 := Scalar.extui v217
  let c0_i32_92 : BitVec 32 := 0#32
  let v219 : BitVec 1 := Scalar.cmpi .ne v218 c0_i32_92
  v219

def k0_off155 (i : grid0.Coords) (v211 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v211 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond48 (v211 : BitVec 32) (v253 : BitVec 32) : BitVec 1 :=
  let v254 : BitVec 1 := Scalar.cmpi .ne v253 v211
  let c0_i32_120 : BitVec 32 := 0#32
  let v311 : BitVec 1 := Scalar.cmpi .sge v211 c0_i32_120
  let v312 : BitVec 1 := Scalar.andi v254 v311
  let v313 : BitVec 32 := Scalar.extui v312
  let c0_i32_121 : BitVec 32 := 0#32
  let v314 : BitVec 1 := Scalar.cmpi .ne v313 c0_i32_121
  v314

def k0_off156 (i : grid0.Coords) (v211 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v211 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk43 (i : grid0.Coords) (v211 : BitVec 32) (v213 : BitVec 32) (v253 : BitVec 32) : Prop :=
  (∀ (k0_h47 : k0_cond47 v211 v213 = 1#1), ∀ (k0_h48 : k0_cond48 v211 v253 = 1#1), ∀ (r : Fin 8), ∀ a, (k0_off155 i v211 (BitVec.ofNat 32 (16 * r.val))) a + S16.size a ≤ S81920.size a) ∧
  (∀ (k0_h47 : k0_cond47 v211 v213 = 1#1), ∀ (k0_h48 : k0_cond48 v211 v253 = 1#1), ∀ (r : Fin 8), ∀ a, (k0_off156 i v211 (BitVec.ofNat 32 (16 * r.val))) a + S16.size a ≤ S81920.size a)
theorem k0_off155_inb : ∀ (i : grid0.Coords) (v211 : BitVec 32) (v213 : BitVec 32) (v253 : BitVec 32) (k0_hw43 : k0_chk43 i v211 v213 v253), ∀ (k0_h47 : k0_cond47 v211 v213 = 1#1), ∀ (k0_h48 : k0_cond48 v211 v253 = 1#1), ∀ (r : Fin 8), ∀ a, (k0_off155 i v211 (BitVec.ofNat 32 (16 * r.val))) a + S16.size a ≤ S81920.size a := fun i v211 v213 v253 k0_hw43 k0_h47 k0_h48 r => k0_hw43.1 k0_h47 k0_h48 r
theorem k0_off156_inb : ∀ (i : grid0.Coords) (v211 : BitVec 32) (v213 : BitVec 32) (v253 : BitVec 32) (k0_hw43 : k0_chk43 i v211 v213 v253), ∀ (k0_h47 : k0_cond47 v211 v213 = 1#1), ∀ (k0_h48 : k0_cond48 v211 v253 = 1#1), ∀ (r : Fin 8), ∀ a, (k0_off156 i v211 (BitVec.ofNat 32 (16 * r.val))) a + S16.size a ≤ S81920.size a := fun i v211 v213 v253 k0_hw43 k0_h47 k0_h48 r => k0_hw43.2 k0_h47 k0_h48 r

def k0_off157 (v5 : BitVec 32) (v7 : BitVec 32) (k0_t9 : Fin (k0_t9_loop v5 v7).trips) (k0_t12 : Fin (k0_t12_loop v5 v7 k0_t9).trips) (c0_i32_124 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c1_i32_74 : BitVec 32 := 1#32
  let arg17 : BitVec 32 := Scf.iv v154 c1_i32_74 k0_t12
  let c16_i32_89 : BitVec 32 := 16#32
  let v205 : BitVec 32 := Scalar.muli arg17 c16_i32_89
  let c1_i32_122 : BitVec 32 := 1#32
  let v350 : BitVec 32 := Scalar.addi v205 c1_i32_122
  let c128_i32_123 : BitVec 32 := 128#32
  let v351 : BitVec 32 := Scalar.muli v350 c128_i32_123
  let v352 : BitVec 32 := Scalar.addi v108 v351
  let v353 : BitVec 32 := Scalar.addi v352 c0_i32_124
  let v354 : Index := Scalar.indexCast v353
  ![v354.toNat]
def k0_off158 (i : grid0.Coords) (v253 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v253 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond49 (v253 : BitVec 32) (v348 : BitVec 32) : BitVec 1 :=
  let v349 : BitVec 1 := Scalar.cmpi .ne v348 v253
  let c0_i32_146 : BitVec 32 := 0#32
  let v406 : BitVec 1 := Scalar.cmpi .sge v253 c0_i32_146
  let v407 : BitVec 1 := Scalar.andi v349 v406
  let v408 : BitVec 32 := Scalar.extui v407
  let c0_i32_147 : BitVec 32 := 0#32
  let v409 : BitVec 1 := Scalar.cmpi .ne v408 c0_i32_147
  v409

def k0_off159 (i : grid0.Coords) (v253 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v253 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk44 (i : grid0.Coords) (v211 : BitVec 32) (v213 : BitVec 32) (v253 : BitVec 32) (v348 : BitVec 32) : Prop :=
  (∀ (k0_h47 : k0_cond47 v211 v213 = 1#1), ∀ (k0_h49 : k0_cond49 v253 v348 = 1#1), ∀ (r : Fin 8), ∀ a, (k0_off158 i v253 (BitVec.ofNat 32 (16 * r.val))) a + S16.size a ≤ S81920.size a) ∧
  (∀ (k0_h47 : k0_cond47 v211 v213 = 1#1), ∀ (k0_h49 : k0_cond49 v253 v348 = 1#1), ∀ (r : Fin 8), ∀ a, (k0_off159 i v253 (BitVec.ofNat 32 (16 * r.val))) a + S16.size a ≤ S81920.size a)
theorem k0_off158_inb : ∀ (i : grid0.Coords) (v211 : BitVec 32) (v213 : BitVec 32) (v253 : BitVec 32) (v348 : BitVec 32) (k0_hw44 : k0_chk44 i v211 v213 v253 v348), ∀ (k0_h47 : k0_cond47 v211 v213 = 1#1), ∀ (k0_h49 : k0_cond49 v253 v348 = 1#1), ∀ (r : Fin 8), ∀ a, (k0_off158 i v253 (BitVec.ofNat 32 (16 * r.val))) a + S16.size a ≤ S81920.size a := fun i v211 v213 v253 v348 k0_hw44 k0_h47 k0_h49 r => k0_hw44.1 k0_h47 k0_h49 r
theorem k0_off159_inb : ∀ (i : grid0.Coords) (v211 : BitVec 32) (v213 : BitVec 32) (v253 : BitVec 32) (v348 : BitVec 32) (k0_hw44 : k0_chk44 i v211 v213 v253 v348), ∀ (k0_h47 : k0_cond47 v211 v213 = 1#1), ∀ (k0_h49 : k0_cond49 v253 v348 = 1#1), ∀ (r : Fin 8), ∀ a, (k0_off159 i v253 (BitVec.ofNat 32 (16 * r.val))) a + S16.size a ≤ S81920.size a := fun i v211 v213 v253 v348 k0_hw44 k0_h47 k0_h49 r => k0_hw44.2 k0_h47 k0_h49 r

def k0_off160 (v5 : BitVec 32) (v7 : BitVec 32) (k0_t9 : Fin (k0_t9_loop v5 v7).trips) (k0_t12 : Fin (k0_t12_loop v5 v7 k0_t9).trips) (c0_i32_150 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c1_i32_74 : BitVec 32 := 1#32
  let arg17 : BitVec 32 := Scf.iv v154 c1_i32_74 k0_t12
  let c16_i32_89 : BitVec 32 := 16#32
  let v205 : BitVec 32 := Scalar.muli arg17 c16_i32_89
  let c2_i32_148 : BitVec 32 := 2#32
  let v445 : BitVec 32 := Scalar.addi v205 c2_i32_148
  let c128_i32_149 : BitVec 32 := 128#32
  let v446 : BitVec 32 := Scalar.muli v445 c128_i32_149
  let v447 : BitVec 32 := Scalar.addi v108 v446
  let v448 : BitVec 32 := Scalar.addi v447 c0_i32_150
  let v449 : Index := Scalar.indexCast v448
  ![v449.toNat]
def k0_off161 (i : grid0.Coords) (v348 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v348 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond50 (v348 : BitVec 32) (v443 : BitVec 32) : BitVec 1 :=
  let v444 : BitVec 1 := Scalar.cmpi .ne v443 v348
  let c0_i32_172 : BitVec 32 := 0#32
  let v501 : BitVec 1 := Scalar.cmpi .sge v348 c0_i32_172
  let v502 : BitVec 1 := Scalar.andi v444 v501
  let v503 : BitVec 32 := Scalar.extui v502
  let c0_i32_173 : BitVec 32 := 0#32
  let v504 : BitVec 1 := Scalar.cmpi .ne v503 c0_i32_173
  v504

def k0_off162 (i : grid0.Coords) (v348 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v348 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk45 (i : grid0.Coords) (v211 : BitVec 32) (v213 : BitVec 32) (v348 : BitVec 32) (v443 : BitVec 32) : Prop :=
  (∀ (k0_h47 : k0_cond47 v211 v213 = 1#1), ∀ (k0_h50 : k0_cond50 v348 v443 = 1#1), ∀ (r : Fin 8), ∀ a, (k0_off161 i v348 (BitVec.ofNat 32 (16 * r.val))) a + S16.size a ≤ S81920.size a) ∧
  (∀ (k0_h47 : k0_cond47 v211 v213 = 1#1), ∀ (k0_h50 : k0_cond50 v348 v443 = 1#1), ∀ (r : Fin 8), ∀ a, (k0_off162 i v348 (BitVec.ofNat 32 (16 * r.val))) a + S16.size a ≤ S81920.size a)
theorem k0_off161_inb : ∀ (i : grid0.Coords) (v211 : BitVec 32) (v213 : BitVec 32) (v348 : BitVec 32) (v443 : BitVec 32) (k0_hw45 : k0_chk45 i v211 v213 v348 v443), ∀ (k0_h47 : k0_cond47 v211 v213 = 1#1), ∀ (k0_h50 : k0_cond50 v348 v443 = 1#1), ∀ (r : Fin 8), ∀ a, (k0_off161 i v348 (BitVec.ofNat 32 (16 * r.val))) a + S16.size a ≤ S81920.size a := fun i v211 v213 v348 v443 k0_hw45 k0_h47 k0_h50 r => k0_hw45.1 k0_h47 k0_h50 r
theorem k0_off162_inb : ∀ (i : grid0.Coords) (v211 : BitVec 32) (v213 : BitVec 32) (v348 : BitVec 32) (v443 : BitVec 32) (k0_hw45 : k0_chk45 i v211 v213 v348 v443), ∀ (k0_h47 : k0_cond47 v211 v213 = 1#1), ∀ (k0_h50 : k0_cond50 v348 v443 = 1#1), ∀ (r : Fin 8), ∀ a, (k0_off162 i v348 (BitVec.ofNat 32 (16 * r.val))) a + S16.size a ≤ S81920.size a := fun i v211 v213 v348 v443 k0_hw45 k0_h47 k0_h50 r => k0_hw45.2 k0_h47 k0_h50 r

def k0_off163 (v5 : BitVec 32) (v7 : BitVec 32) (k0_t9 : Fin (k0_t9_loop v5 v7).trips) (k0_t12 : Fin (k0_t12_loop v5 v7 k0_t9).trips) (c0_i32_175 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c1_i32_74 : BitVec 32 := 1#32
  let arg17 : BitVec 32 := Scf.iv v154 c1_i32_74 k0_t12
  let c16_i32_89 : BitVec 32 := 16#32
  let v205 : BitVec 32 := Scalar.muli arg17 c16_i32_89
  let c3_i32 : BitVec 32 := 3#32
  let v540 : BitVec 32 := Scalar.addi v205 c3_i32
  let c128_i32_174 : BitVec 32 := 128#32
  let v541 : BitVec 32 := Scalar.muli v540 c128_i32_174
  let v542 : BitVec 32 := Scalar.addi v108 v541
  let v543 : BitVec 32 := Scalar.addi v542 c0_i32_175
  let v544 : Index := Scalar.indexCast v543
  ![v544.toNat]
def k0_off164 (i : grid0.Coords) (v443 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v443 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond51 (v443 : BitVec 32) (v538 : BitVec 32) : BitVec 1 :=
  let v539 : BitVec 1 := Scalar.cmpi .ne v538 v443
  let c0_i32_197 : BitVec 32 := 0#32
  let v596 : BitVec 1 := Scalar.cmpi .sge v443 c0_i32_197
  let v597 : BitVec 1 := Scalar.andi v539 v596
  let v598 : BitVec 32 := Scalar.extui v597
  let c0_i32_198 : BitVec 32 := 0#32
  let v599 : BitVec 1 := Scalar.cmpi .ne v598 c0_i32_198
  v599

def k0_off165 (i : grid0.Coords) (v443 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v443 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk46 (i : grid0.Coords) (v211 : BitVec 32) (v213 : BitVec 32) (v443 : BitVec 32) (v538 : BitVec 32) : Prop :=
  (∀ (k0_h47 : k0_cond47 v211 v213 = 1#1), ∀ (k0_h51 : k0_cond51 v443 v538 = 1#1), ∀ (r : Fin 8), ∀ a, (k0_off164 i v443 (BitVec.ofNat 32 (16 * r.val))) a + S16.size a ≤ S81920.size a) ∧
  (∀ (k0_h47 : k0_cond47 v211 v213 = 1#1), ∀ (k0_h51 : k0_cond51 v443 v538 = 1#1), ∀ (r : Fin 8), ∀ a, (k0_off165 i v443 (BitVec.ofNat 32 (16 * r.val))) a + S16.size a ≤ S81920.size a)
theorem k0_off164_inb : ∀ (i : grid0.Coords) (v211 : BitVec 32) (v213 : BitVec 32) (v443 : BitVec 32) (v538 : BitVec 32) (k0_hw46 : k0_chk46 i v211 v213 v443 v538), ∀ (k0_h47 : k0_cond47 v211 v213 = 1#1), ∀ (k0_h51 : k0_cond51 v443 v538 = 1#1), ∀ (r : Fin 8), ∀ a, (k0_off164 i v443 (BitVec.ofNat 32 (16 * r.val))) a + S16.size a ≤ S81920.size a := fun i v211 v213 v443 v538 k0_hw46 k0_h47 k0_h51 r => k0_hw46.1 k0_h47 k0_h51 r
theorem k0_off165_inb : ∀ (i : grid0.Coords) (v211 : BitVec 32) (v213 : BitVec 32) (v443 : BitVec 32) (v538 : BitVec 32) (k0_hw46 : k0_chk46 i v211 v213 v443 v538), ∀ (k0_h47 : k0_cond47 v211 v213 = 1#1), ∀ (k0_h51 : k0_cond51 v443 v538 = 1#1), ∀ (r : Fin 8), ∀ a, (k0_off165 i v443 (BitVec.ofNat 32 (16 * r.val))) a + S16.size a ≤ S81920.size a := fun i v211 v213 v443 v538 k0_hw46 k0_h47 k0_h51 r => k0_hw46.2 k0_h47 k0_h51 r

def k0_off166 (v5 : BitVec 32) (v7 : BitVec 32) (k0_t9 : Fin (k0_t9_loop v5 v7).trips) (k0_t12 : Fin (k0_t12_loop v5 v7 k0_t9).trips) (c0_i32_200 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c1_i32_74 : BitVec 32 := 1#32
  let arg17 : BitVec 32 := Scf.iv v154 c1_i32_74 k0_t12
  let c16_i32_89 : BitVec 32 := 16#32
  let v205 : BitVec 32 := Scalar.muli arg17 c16_i32_89
  let c4_i32 : BitVec 32 := 4#32
  let v635 : BitVec 32 := Scalar.addi v205 c4_i32
  let c128_i32_199 : BitVec 32 := 128#32
  let v636 : BitVec 32 := Scalar.muli v635 c128_i32_199
  let v637 : BitVec 32 := Scalar.addi v108 v636
  let v638 : BitVec 32 := Scalar.addi v637 c0_i32_200
  let v639 : Index := Scalar.indexCast v638
  ![v639.toNat]
def k0_off167 (i : grid0.Coords) (v538 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v538 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond52 (v538 : BitVec 32) (v633 : BitVec 32) : BitVec 1 :=
  let v634 : BitVec 1 := Scalar.cmpi .ne v633 v538
  let c0_i32_222 : BitVec 32 := 0#32
  let v691 : BitVec 1 := Scalar.cmpi .sge v538 c0_i32_222
  let v692 : BitVec 1 := Scalar.andi v634 v691
  let v693 : BitVec 32 := Scalar.extui v692
  let c0_i32_223 : BitVec 32 := 0#32
  let v694 : BitVec 1 := Scalar.cmpi .ne v693 c0_i32_223
  v694

def k0_off168 (i : grid0.Coords) (v538 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v538 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk47 (i : grid0.Coords) (v211 : BitVec 32) (v213 : BitVec 32) (v538 : BitVec 32) (v633 : BitVec 32) : Prop :=
  (∀ (k0_h47 : k0_cond47 v211 v213 = 1#1), ∀ (k0_h52 : k0_cond52 v538 v633 = 1#1), ∀ (r : Fin 8), ∀ a, (k0_off167 i v538 (BitVec.ofNat 32 (16 * r.val))) a + S16.size a ≤ S81920.size a) ∧
  (∀ (k0_h47 : k0_cond47 v211 v213 = 1#1), ∀ (k0_h52 : k0_cond52 v538 v633 = 1#1), ∀ (r : Fin 8), ∀ a, (k0_off168 i v538 (BitVec.ofNat 32 (16 * r.val))) a + S16.size a ≤ S81920.size a)
theorem k0_off167_inb : ∀ (i : grid0.Coords) (v211 : BitVec 32) (v213 : BitVec 32) (v538 : BitVec 32) (v633 : BitVec 32) (k0_hw47 : k0_chk47 i v211 v213 v538 v633), ∀ (k0_h47 : k0_cond47 v211 v213 = 1#1), ∀ (k0_h52 : k0_cond52 v538 v633 = 1#1), ∀ (r : Fin 8), ∀ a, (k0_off167 i v538 (BitVec.ofNat 32 (16 * r.val))) a + S16.size a ≤ S81920.size a := fun i v211 v213 v538 v633 k0_hw47 k0_h47 k0_h52 r => k0_hw47.1 k0_h47 k0_h52 r
theorem k0_off168_inb : ∀ (i : grid0.Coords) (v211 : BitVec 32) (v213 : BitVec 32) (v538 : BitVec 32) (v633 : BitVec 32) (k0_hw47 : k0_chk47 i v211 v213 v538 v633), ∀ (k0_h47 : k0_cond47 v211 v213 = 1#1), ∀ (k0_h52 : k0_cond52 v538 v633 = 1#1), ∀ (r : Fin 8), ∀ a, (k0_off168 i v538 (BitVec.ofNat 32 (16 * r.val))) a + S16.size a ≤ S81920.size a := fun i v211 v213 v538 v633 k0_hw47 k0_h47 k0_h52 r => k0_hw47.2 k0_h47 k0_h52 r

def k0_off169 (v5 : BitVec 32) (v7 : BitVec 32) (k0_t9 : Fin (k0_t9_loop v5 v7).trips) (k0_t12 : Fin (k0_t12_loop v5 v7 k0_t9).trips) (c0_i32_225 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c1_i32_74 : BitVec 32 := 1#32
  let arg17 : BitVec 32 := Scf.iv v154 c1_i32_74 k0_t12
  let c16_i32_89 : BitVec 32 := 16#32
  let v205 : BitVec 32 := Scalar.muli arg17 c16_i32_89
  let c5_i32 : BitVec 32 := 5#32
  let v730 : BitVec 32 := Scalar.addi v205 c5_i32
  let c128_i32_224 : BitVec 32 := 128#32
  let v731 : BitVec 32 := Scalar.muli v730 c128_i32_224
  let v732 : BitVec 32 := Scalar.addi v108 v731
  let v733 : BitVec 32 := Scalar.addi v732 c0_i32_225
  let v734 : Index := Scalar.indexCast v733
  ![v734.toNat]
def k0_off170 (i : grid0.Coords) (v633 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v633 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond53 (v633 : BitVec 32) (v728 : BitVec 32) : BitVec 1 :=
  let v729 : BitVec 1 := Scalar.cmpi .ne v728 v633
  let c0_i32_247 : BitVec 32 := 0#32
  let v786 : BitVec 1 := Scalar.cmpi .sge v633 c0_i32_247
  let v787 : BitVec 1 := Scalar.andi v729 v786
  let v788 : BitVec 32 := Scalar.extui v787
  let c0_i32_248 : BitVec 32 := 0#32
  let v789 : BitVec 1 := Scalar.cmpi .ne v788 c0_i32_248
  v789

def k0_off171 (i : grid0.Coords) (v633 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v633 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk48 (i : grid0.Coords) (v211 : BitVec 32) (v213 : BitVec 32) (v633 : BitVec 32) (v728 : BitVec 32) : Prop :=
  (∀ (k0_h47 : k0_cond47 v211 v213 = 1#1), ∀ (k0_h53 : k0_cond53 v633 v728 = 1#1), ∀ (r : Fin 8), ∀ a, (k0_off170 i v633 (BitVec.ofNat 32 (16 * r.val))) a + S16.size a ≤ S81920.size a) ∧
  (∀ (k0_h47 : k0_cond47 v211 v213 = 1#1), ∀ (k0_h53 : k0_cond53 v633 v728 = 1#1), ∀ (r : Fin 8), ∀ a, (k0_off171 i v633 (BitVec.ofNat 32 (16 * r.val))) a + S16.size a ≤ S81920.size a)
theorem k0_off170_inb : ∀ (i : grid0.Coords) (v211 : BitVec 32) (v213 : BitVec 32) (v633 : BitVec 32) (v728 : BitVec 32) (k0_hw48 : k0_chk48 i v211 v213 v633 v728), ∀ (k0_h47 : k0_cond47 v211 v213 = 1#1), ∀ (k0_h53 : k0_cond53 v633 v728 = 1#1), ∀ (r : Fin 8), ∀ a, (k0_off170 i v633 (BitVec.ofNat 32 (16 * r.val))) a + S16.size a ≤ S81920.size a := fun i v211 v213 v633 v728 k0_hw48 k0_h47 k0_h53 r => k0_hw48.1 k0_h47 k0_h53 r
theorem k0_off171_inb : ∀ (i : grid0.Coords) (v211 : BitVec 32) (v213 : BitVec 32) (v633 : BitVec 32) (v728 : BitVec 32) (k0_hw48 : k0_chk48 i v211 v213 v633 v728), ∀ (k0_h47 : k0_cond47 v211 v213 = 1#1), ∀ (k0_h53 : k0_cond53 v633 v728 = 1#1), ∀ (r : Fin 8), ∀ a, (k0_off171 i v633 (BitVec.ofNat 32 (16 * r.val))) a + S16.size a ≤ S81920.size a := fun i v211 v213 v633 v728 k0_hw48 k0_h47 k0_h53 r => k0_hw48.2 k0_h47 k0_h53 r

def k0_off172 (v5 : BitVec 32) (v7 : BitVec 32) (k0_t9 : Fin (k0_t9_loop v5 v7).trips) (k0_t12 : Fin (k0_t12_loop v5 v7 k0_t9).trips) (c0_i32_250 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c1_i32_74 : BitVec 32 := 1#32
  let arg17 : BitVec 32 := Scf.iv v154 c1_i32_74 k0_t12
  let c16_i32_89 : BitVec 32 := 16#32
  let v205 : BitVec 32 := Scalar.muli arg17 c16_i32_89
  let c6_i32 : BitVec 32 := 6#32
  let v825 : BitVec 32 := Scalar.addi v205 c6_i32
  let c128_i32_249 : BitVec 32 := 128#32
  let v826 : BitVec 32 := Scalar.muli v825 c128_i32_249
  let v827 : BitVec 32 := Scalar.addi v108 v826
  let v828 : BitVec 32 := Scalar.addi v827 c0_i32_250
  let v829 : Index := Scalar.indexCast v828
  ![v829.toNat]
def k0_off173 (i : grid0.Coords) (v728 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v728 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond54 (v728 : BitVec 32) (v823 : BitVec 32) : BitVec 1 :=
  let v824 : BitVec 1 := Scalar.cmpi .ne v823 v728
  let c0_i32_272 : BitVec 32 := 0#32
  let v881 : BitVec 1 := Scalar.cmpi .sge v728 c0_i32_272
  let v882 : BitVec 1 := Scalar.andi v824 v881
  let v883 : BitVec 32 := Scalar.extui v882
  let c0_i32_273 : BitVec 32 := 0#32
  let v884 : BitVec 1 := Scalar.cmpi .ne v883 c0_i32_273
  v884

def k0_off174 (i : grid0.Coords) (v728 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v728 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk49 (i : grid0.Coords) (v211 : BitVec 32) (v213 : BitVec 32) (v728 : BitVec 32) (v823 : BitVec 32) : Prop :=
  (∀ (k0_h47 : k0_cond47 v211 v213 = 1#1), ∀ (k0_h54 : k0_cond54 v728 v823 = 1#1), ∀ (r : Fin 8), ∀ a, (k0_off173 i v728 (BitVec.ofNat 32 (16 * r.val))) a + S16.size a ≤ S81920.size a) ∧
  (∀ (k0_h47 : k0_cond47 v211 v213 = 1#1), ∀ (k0_h54 : k0_cond54 v728 v823 = 1#1), ∀ (r : Fin 8), ∀ a, (k0_off174 i v728 (BitVec.ofNat 32 (16 * r.val))) a + S16.size a ≤ S81920.size a)
theorem k0_off173_inb : ∀ (i : grid0.Coords) (v211 : BitVec 32) (v213 : BitVec 32) (v728 : BitVec 32) (v823 : BitVec 32) (k0_hw49 : k0_chk49 i v211 v213 v728 v823), ∀ (k0_h47 : k0_cond47 v211 v213 = 1#1), ∀ (k0_h54 : k0_cond54 v728 v823 = 1#1), ∀ (r : Fin 8), ∀ a, (k0_off173 i v728 (BitVec.ofNat 32 (16 * r.val))) a + S16.size a ≤ S81920.size a := fun i v211 v213 v728 v823 k0_hw49 k0_h47 k0_h54 r => k0_hw49.1 k0_h47 k0_h54 r
theorem k0_off174_inb : ∀ (i : grid0.Coords) (v211 : BitVec 32) (v213 : BitVec 32) (v728 : BitVec 32) (v823 : BitVec 32) (k0_hw49 : k0_chk49 i v211 v213 v728 v823), ∀ (k0_h47 : k0_cond47 v211 v213 = 1#1), ∀ (k0_h54 : k0_cond54 v728 v823 = 1#1), ∀ (r : Fin 8), ∀ a, (k0_off174 i v728 (BitVec.ofNat 32 (16 * r.val))) a + S16.size a ≤ S81920.size a := fun i v211 v213 v728 v823 k0_hw49 k0_h47 k0_h54 r => k0_hw49.2 k0_h47 k0_h54 r

def k0_off175 (v5 : BitVec 32) (v7 : BitVec 32) (k0_t9 : Fin (k0_t9_loop v5 v7).trips) (k0_t12 : Fin (k0_t12_loop v5 v7 k0_t9).trips) (c0_i32_275 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c1_i32_74 : BitVec 32 := 1#32
  let arg17 : BitVec 32 := Scf.iv v154 c1_i32_74 k0_t12
  let c16_i32_89 : BitVec 32 := 16#32
  let v205 : BitVec 32 := Scalar.muli arg17 c16_i32_89
  let c7_i32 : BitVec 32 := 7#32
  let v920 : BitVec 32 := Scalar.addi v205 c7_i32
  let c128_i32_274 : BitVec 32 := 128#32
  let v921 : BitVec 32 := Scalar.muli v920 c128_i32_274
  let v922 : BitVec 32 := Scalar.addi v108 v921
  let v923 : BitVec 32 := Scalar.addi v922 c0_i32_275
  let v924 : Index := Scalar.indexCast v923
  ![v924.toNat]
def k0_off176 (i : grid0.Coords) (v823 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v823 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond55 (v823 : BitVec 32) (v918 : BitVec 32) : BitVec 1 :=
  let v919 : BitVec 1 := Scalar.cmpi .ne v918 v823
  let c0_i32_297 : BitVec 32 := 0#32
  let v976 : BitVec 1 := Scalar.cmpi .sge v823 c0_i32_297
  let v977 : BitVec 1 := Scalar.andi v919 v976
  let v978 : BitVec 32 := Scalar.extui v977
  let c0_i32_298 : BitVec 32 := 0#32
  let v979 : BitVec 1 := Scalar.cmpi .ne v978 c0_i32_298
  v979

def k0_off177 (i : grid0.Coords) (v823 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v823 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk50 (i : grid0.Coords) (v211 : BitVec 32) (v213 : BitVec 32) (v823 : BitVec 32) (v918 : BitVec 32) : Prop :=
  (∀ (k0_h47 : k0_cond47 v211 v213 = 1#1), ∀ (k0_h55 : k0_cond55 v823 v918 = 1#1), ∀ (r : Fin 8), ∀ a, (k0_off176 i v823 (BitVec.ofNat 32 (16 * r.val))) a + S16.size a ≤ S81920.size a) ∧
  (∀ (k0_h47 : k0_cond47 v211 v213 = 1#1), ∀ (k0_h55 : k0_cond55 v823 v918 = 1#1), ∀ (r : Fin 8), ∀ a, (k0_off177 i v823 (BitVec.ofNat 32 (16 * r.val))) a + S16.size a ≤ S81920.size a)
theorem k0_off176_inb : ∀ (i : grid0.Coords) (v211 : BitVec 32) (v213 : BitVec 32) (v823 : BitVec 32) (v918 : BitVec 32) (k0_hw50 : k0_chk50 i v211 v213 v823 v918), ∀ (k0_h47 : k0_cond47 v211 v213 = 1#1), ∀ (k0_h55 : k0_cond55 v823 v918 = 1#1), ∀ (r : Fin 8), ∀ a, (k0_off176 i v823 (BitVec.ofNat 32 (16 * r.val))) a + S16.size a ≤ S81920.size a := fun i v211 v213 v823 v918 k0_hw50 k0_h47 k0_h55 r => k0_hw50.1 k0_h47 k0_h55 r
theorem k0_off177_inb : ∀ (i : grid0.Coords) (v211 : BitVec 32) (v213 : BitVec 32) (v823 : BitVec 32) (v918 : BitVec 32) (k0_hw50 : k0_chk50 i v211 v213 v823 v918), ∀ (k0_h47 : k0_cond47 v211 v213 = 1#1), ∀ (k0_h55 : k0_cond55 v823 v918 = 1#1), ∀ (r : Fin 8), ∀ a, (k0_off177 i v823 (BitVec.ofNat 32 (16 * r.val))) a + S16.size a ≤ S81920.size a := fun i v211 v213 v823 v918 k0_hw50 k0_h47 k0_h55 r => k0_hw50.2 k0_h47 k0_h55 r

def k0_off178 (v5 : BitVec 32) (v7 : BitVec 32) (k0_t9 : Fin (k0_t9_loop v5 v7).trips) (k0_t12 : Fin (k0_t12_loop v5 v7 k0_t9).trips) (c0_i32_300 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c1_i32_74 : BitVec 32 := 1#32
  let arg17 : BitVec 32 := Scf.iv v154 c1_i32_74 k0_t12
  let c16_i32_89 : BitVec 32 := 16#32
  let v205 : BitVec 32 := Scalar.muli arg17 c16_i32_89
  let c8_i32 : BitVec 32 := 8#32
  let v1015 : BitVec 32 := Scalar.addi v205 c8_i32
  let c128_i32_299 : BitVec 32 := 128#32
  let v1016 : BitVec 32 := Scalar.muli v1015 c128_i32_299
  let v1017 : BitVec 32 := Scalar.addi v108 v1016
  let v1018 : BitVec 32 := Scalar.addi v1017 c0_i32_300
  let v1019 : Index := Scalar.indexCast v1018
  ![v1019.toNat]
def k0_off179 (i : grid0.Coords) (v918 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v918 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond56 (v918 : BitVec 32) (v1013 : BitVec 32) : BitVec 1 :=
  let v1014 : BitVec 1 := Scalar.cmpi .ne v1013 v918
  let c0_i32_322 : BitVec 32 := 0#32
  let v1071 : BitVec 1 := Scalar.cmpi .sge v918 c0_i32_322
  let v1072 : BitVec 1 := Scalar.andi v1014 v1071
  let v1073 : BitVec 32 := Scalar.extui v1072
  let c0_i32_323 : BitVec 32 := 0#32
  let v1074 : BitVec 1 := Scalar.cmpi .ne v1073 c0_i32_323
  v1074

def k0_off180 (i : grid0.Coords) (v918 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v918 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk51 (i : grid0.Coords) (v211 : BitVec 32) (v213 : BitVec 32) (v918 : BitVec 32) (v1013 : BitVec 32) : Prop :=
  (∀ (k0_h47 : k0_cond47 v211 v213 = 1#1), ∀ (k0_h56 : k0_cond56 v918 v1013 = 1#1), ∀ (r : Fin 8), ∀ a, (k0_off179 i v918 (BitVec.ofNat 32 (16 * r.val))) a + S16.size a ≤ S81920.size a) ∧
  (∀ (k0_h47 : k0_cond47 v211 v213 = 1#1), ∀ (k0_h56 : k0_cond56 v918 v1013 = 1#1), ∀ (r : Fin 8), ∀ a, (k0_off180 i v918 (BitVec.ofNat 32 (16 * r.val))) a + S16.size a ≤ S81920.size a)
theorem k0_off179_inb : ∀ (i : grid0.Coords) (v211 : BitVec 32) (v213 : BitVec 32) (v918 : BitVec 32) (v1013 : BitVec 32) (k0_hw51 : k0_chk51 i v211 v213 v918 v1013), ∀ (k0_h47 : k0_cond47 v211 v213 = 1#1), ∀ (k0_h56 : k0_cond56 v918 v1013 = 1#1), ∀ (r : Fin 8), ∀ a, (k0_off179 i v918 (BitVec.ofNat 32 (16 * r.val))) a + S16.size a ≤ S81920.size a := fun i v211 v213 v918 v1013 k0_hw51 k0_h47 k0_h56 r => k0_hw51.1 k0_h47 k0_h56 r
theorem k0_off180_inb : ∀ (i : grid0.Coords) (v211 : BitVec 32) (v213 : BitVec 32) (v918 : BitVec 32) (v1013 : BitVec 32) (k0_hw51 : k0_chk51 i v211 v213 v918 v1013), ∀ (k0_h47 : k0_cond47 v211 v213 = 1#1), ∀ (k0_h56 : k0_cond56 v918 v1013 = 1#1), ∀ (r : Fin 8), ∀ a, (k0_off180 i v918 (BitVec.ofNat 32 (16 * r.val))) a + S16.size a ≤ S81920.size a := fun i v211 v213 v918 v1013 k0_hw51 k0_h47 k0_h56 r => k0_hw51.2 k0_h47 k0_h56 r

def k0_off181 (v5 : BitVec 32) (v7 : BitVec 32) (k0_t9 : Fin (k0_t9_loop v5 v7).trips) (k0_t12 : Fin (k0_t12_loop v5 v7 k0_t9).trips) (c0_i32_325 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c1_i32_74 : BitVec 32 := 1#32
  let arg17 : BitVec 32 := Scf.iv v154 c1_i32_74 k0_t12
  let c16_i32_89 : BitVec 32 := 16#32
  let v205 : BitVec 32 := Scalar.muli arg17 c16_i32_89
  let c9_i32 : BitVec 32 := 9#32
  let v1110 : BitVec 32 := Scalar.addi v205 c9_i32
  let c128_i32_324 : BitVec 32 := 128#32
  let v1111 : BitVec 32 := Scalar.muli v1110 c128_i32_324
  let v1112 : BitVec 32 := Scalar.addi v108 v1111
  let v1113 : BitVec 32 := Scalar.addi v1112 c0_i32_325
  let v1114 : Index := Scalar.indexCast v1113
  ![v1114.toNat]
def k0_off182 (i : grid0.Coords) (v1013 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1013 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond57 (v1013 : BitVec 32) (v1108 : BitVec 32) : BitVec 1 :=
  let v1109 : BitVec 1 := Scalar.cmpi .ne v1108 v1013
  let c0_i32_347 : BitVec 32 := 0#32
  let v1166 : BitVec 1 := Scalar.cmpi .sge v1013 c0_i32_347
  let v1167 : BitVec 1 := Scalar.andi v1109 v1166
  let v1168 : BitVec 32 := Scalar.extui v1167
  let c0_i32_348 : BitVec 32 := 0#32
  let v1169 : BitVec 1 := Scalar.cmpi .ne v1168 c0_i32_348
  v1169

def k0_off183 (i : grid0.Coords) (v1013 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1013 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk52 (i : grid0.Coords) (v211 : BitVec 32) (v213 : BitVec 32) (v1013 : BitVec 32) (v1108 : BitVec 32) : Prop :=
  (∀ (k0_h47 : k0_cond47 v211 v213 = 1#1), ∀ (k0_h57 : k0_cond57 v1013 v1108 = 1#1), ∀ (r : Fin 8), ∀ a, (k0_off182 i v1013 (BitVec.ofNat 32 (16 * r.val))) a + S16.size a ≤ S81920.size a) ∧
  (∀ (k0_h47 : k0_cond47 v211 v213 = 1#1), ∀ (k0_h57 : k0_cond57 v1013 v1108 = 1#1), ∀ (r : Fin 8), ∀ a, (k0_off183 i v1013 (BitVec.ofNat 32 (16 * r.val))) a + S16.size a ≤ S81920.size a)
theorem k0_off182_inb : ∀ (i : grid0.Coords) (v211 : BitVec 32) (v213 : BitVec 32) (v1013 : BitVec 32) (v1108 : BitVec 32) (k0_hw52 : k0_chk52 i v211 v213 v1013 v1108), ∀ (k0_h47 : k0_cond47 v211 v213 = 1#1), ∀ (k0_h57 : k0_cond57 v1013 v1108 = 1#1), ∀ (r : Fin 8), ∀ a, (k0_off182 i v1013 (BitVec.ofNat 32 (16 * r.val))) a + S16.size a ≤ S81920.size a := fun i v211 v213 v1013 v1108 k0_hw52 k0_h47 k0_h57 r => k0_hw52.1 k0_h47 k0_h57 r
theorem k0_off183_inb : ∀ (i : grid0.Coords) (v211 : BitVec 32) (v213 : BitVec 32) (v1013 : BitVec 32) (v1108 : BitVec 32) (k0_hw52 : k0_chk52 i v211 v213 v1013 v1108), ∀ (k0_h47 : k0_cond47 v211 v213 = 1#1), ∀ (k0_h57 : k0_cond57 v1013 v1108 = 1#1), ∀ (r : Fin 8), ∀ a, (k0_off183 i v1013 (BitVec.ofNat 32 (16 * r.val))) a + S16.size a ≤ S81920.size a := fun i v211 v213 v1013 v1108 k0_hw52 k0_h47 k0_h57 r => k0_hw52.2 k0_h47 k0_h57 r

def k0_off184 (v5 : BitVec 32) (v7 : BitVec 32) (k0_t9 : Fin (k0_t9_loop v5 v7).trips) (k0_t12 : Fin (k0_t12_loop v5 v7 k0_t9).trips) (c0_i32_350 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c1_i32_74 : BitVec 32 := 1#32
  let arg17 : BitVec 32 := Scf.iv v154 c1_i32_74 k0_t12
  let c16_i32_89 : BitVec 32 := 16#32
  let v205 : BitVec 32 := Scalar.muli arg17 c16_i32_89
  let c10_i32 : BitVec 32 := 10#32
  let v1205 : BitVec 32 := Scalar.addi v205 c10_i32
  let c128_i32_349 : BitVec 32 := 128#32
  let v1206 : BitVec 32 := Scalar.muli v1205 c128_i32_349
  let v1207 : BitVec 32 := Scalar.addi v108 v1206
  let v1208 : BitVec 32 := Scalar.addi v1207 c0_i32_350
  let v1209 : Index := Scalar.indexCast v1208
  ![v1209.toNat]
def k0_off185 (i : grid0.Coords) (v1108 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1108 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond58 (v1108 : BitVec 32) (v1203 : BitVec 32) : BitVec 1 :=
  let v1204 : BitVec 1 := Scalar.cmpi .ne v1203 v1108
  let c0_i32_372 : BitVec 32 := 0#32
  let v1261 : BitVec 1 := Scalar.cmpi .sge v1108 c0_i32_372
  let v1262 : BitVec 1 := Scalar.andi v1204 v1261
  let v1263 : BitVec 32 := Scalar.extui v1262
  let c0_i32_373 : BitVec 32 := 0#32
  let v1264 : BitVec 1 := Scalar.cmpi .ne v1263 c0_i32_373
  v1264

def k0_off186 (i : grid0.Coords) (v1108 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1108 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk53 (i : grid0.Coords) (v211 : BitVec 32) (v213 : BitVec 32) (v1108 : BitVec 32) (v1203 : BitVec 32) : Prop :=
  (∀ (k0_h47 : k0_cond47 v211 v213 = 1#1), ∀ (k0_h58 : k0_cond58 v1108 v1203 = 1#1), ∀ (r : Fin 8), ∀ a, (k0_off185 i v1108 (BitVec.ofNat 32 (16 * r.val))) a + S16.size a ≤ S81920.size a) ∧
  (∀ (k0_h47 : k0_cond47 v211 v213 = 1#1), ∀ (k0_h58 : k0_cond58 v1108 v1203 = 1#1), ∀ (r : Fin 8), ∀ a, (k0_off186 i v1108 (BitVec.ofNat 32 (16 * r.val))) a + S16.size a ≤ S81920.size a)
theorem k0_off185_inb : ∀ (i : grid0.Coords) (v211 : BitVec 32) (v213 : BitVec 32) (v1108 : BitVec 32) (v1203 : BitVec 32) (k0_hw53 : k0_chk53 i v211 v213 v1108 v1203), ∀ (k0_h47 : k0_cond47 v211 v213 = 1#1), ∀ (k0_h58 : k0_cond58 v1108 v1203 = 1#1), ∀ (r : Fin 8), ∀ a, (k0_off185 i v1108 (BitVec.ofNat 32 (16 * r.val))) a + S16.size a ≤ S81920.size a := fun i v211 v213 v1108 v1203 k0_hw53 k0_h47 k0_h58 r => k0_hw53.1 k0_h47 k0_h58 r
theorem k0_off186_inb : ∀ (i : grid0.Coords) (v211 : BitVec 32) (v213 : BitVec 32) (v1108 : BitVec 32) (v1203 : BitVec 32) (k0_hw53 : k0_chk53 i v211 v213 v1108 v1203), ∀ (k0_h47 : k0_cond47 v211 v213 = 1#1), ∀ (k0_h58 : k0_cond58 v1108 v1203 = 1#1), ∀ (r : Fin 8), ∀ a, (k0_off186 i v1108 (BitVec.ofNat 32 (16 * r.val))) a + S16.size a ≤ S81920.size a := fun i v211 v213 v1108 v1203 k0_hw53 k0_h47 k0_h58 r => k0_hw53.2 k0_h47 k0_h58 r

def k0_off187 (v5 : BitVec 32) (v7 : BitVec 32) (k0_t9 : Fin (k0_t9_loop v5 v7).trips) (k0_t12 : Fin (k0_t12_loop v5 v7 k0_t9).trips) (c0_i32_375 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c1_i32_74 : BitVec 32 := 1#32
  let arg17 : BitVec 32 := Scf.iv v154 c1_i32_74 k0_t12
  let c16_i32_89 : BitVec 32 := 16#32
  let v205 : BitVec 32 := Scalar.muli arg17 c16_i32_89
  let c11_i32 : BitVec 32 := 11#32
  let v1300 : BitVec 32 := Scalar.addi v205 c11_i32
  let c128_i32_374 : BitVec 32 := 128#32
  let v1301 : BitVec 32 := Scalar.muli v1300 c128_i32_374
  let v1302 : BitVec 32 := Scalar.addi v108 v1301
  let v1303 : BitVec 32 := Scalar.addi v1302 c0_i32_375
  let v1304 : Index := Scalar.indexCast v1303
  ![v1304.toNat]
def k0_off188 (i : grid0.Coords) (v1203 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1203 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond59 (v1203 : BitVec 32) (v1298 : BitVec 32) : BitVec 1 :=
  let v1299 : BitVec 1 := Scalar.cmpi .ne v1298 v1203
  let c0_i32_397 : BitVec 32 := 0#32
  let v1356 : BitVec 1 := Scalar.cmpi .sge v1203 c0_i32_397
  let v1357 : BitVec 1 := Scalar.andi v1299 v1356
  let v1358 : BitVec 32 := Scalar.extui v1357
  let c0_i32_398 : BitVec 32 := 0#32
  let v1359 : BitVec 1 := Scalar.cmpi .ne v1358 c0_i32_398
  v1359

def k0_off189 (i : grid0.Coords) (v1203 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1203 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk54 (i : grid0.Coords) (v211 : BitVec 32) (v213 : BitVec 32) (v1203 : BitVec 32) (v1298 : BitVec 32) : Prop :=
  (∀ (k0_h47 : k0_cond47 v211 v213 = 1#1), ∀ (k0_h59 : k0_cond59 v1203 v1298 = 1#1), ∀ (r : Fin 8), ∀ a, (k0_off188 i v1203 (BitVec.ofNat 32 (16 * r.val))) a + S16.size a ≤ S81920.size a) ∧
  (∀ (k0_h47 : k0_cond47 v211 v213 = 1#1), ∀ (k0_h59 : k0_cond59 v1203 v1298 = 1#1), ∀ (r : Fin 8), ∀ a, (k0_off189 i v1203 (BitVec.ofNat 32 (16 * r.val))) a + S16.size a ≤ S81920.size a)
theorem k0_off188_inb : ∀ (i : grid0.Coords) (v211 : BitVec 32) (v213 : BitVec 32) (v1203 : BitVec 32) (v1298 : BitVec 32) (k0_hw54 : k0_chk54 i v211 v213 v1203 v1298), ∀ (k0_h47 : k0_cond47 v211 v213 = 1#1), ∀ (k0_h59 : k0_cond59 v1203 v1298 = 1#1), ∀ (r : Fin 8), ∀ a, (k0_off188 i v1203 (BitVec.ofNat 32 (16 * r.val))) a + S16.size a ≤ S81920.size a := fun i v211 v213 v1203 v1298 k0_hw54 k0_h47 k0_h59 r => k0_hw54.1 k0_h47 k0_h59 r
theorem k0_off189_inb : ∀ (i : grid0.Coords) (v211 : BitVec 32) (v213 : BitVec 32) (v1203 : BitVec 32) (v1298 : BitVec 32) (k0_hw54 : k0_chk54 i v211 v213 v1203 v1298), ∀ (k0_h47 : k0_cond47 v211 v213 = 1#1), ∀ (k0_h59 : k0_cond59 v1203 v1298 = 1#1), ∀ (r : Fin 8), ∀ a, (k0_off189 i v1203 (BitVec.ofNat 32 (16 * r.val))) a + S16.size a ≤ S81920.size a := fun i v211 v213 v1203 v1298 k0_hw54 k0_h47 k0_h59 r => k0_hw54.2 k0_h47 k0_h59 r

def k0_off190 (v5 : BitVec 32) (v7 : BitVec 32) (k0_t9 : Fin (k0_t9_loop v5 v7).trips) (k0_t12 : Fin (k0_t12_loop v5 v7 k0_t9).trips) (c0_i32_400 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c1_i32_74 : BitVec 32 := 1#32
  let arg17 : BitVec 32 := Scf.iv v154 c1_i32_74 k0_t12
  let c16_i32_89 : BitVec 32 := 16#32
  let v205 : BitVec 32 := Scalar.muli arg17 c16_i32_89
  let c12_i32 : BitVec 32 := 12#32
  let v1395 : BitVec 32 := Scalar.addi v205 c12_i32
  let c128_i32_399 : BitVec 32 := 128#32
  let v1396 : BitVec 32 := Scalar.muli v1395 c128_i32_399
  let v1397 : BitVec 32 := Scalar.addi v108 v1396
  let v1398 : BitVec 32 := Scalar.addi v1397 c0_i32_400
  let v1399 : Index := Scalar.indexCast v1398
  ![v1399.toNat]
def k0_off191 (i : grid0.Coords) (v1298 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1298 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond60 (v1298 : BitVec 32) (v1393 : BitVec 32) : BitVec 1 :=
  let v1394 : BitVec 1 := Scalar.cmpi .ne v1393 v1298
  let c0_i32_422 : BitVec 32 := 0#32
  let v1451 : BitVec 1 := Scalar.cmpi .sge v1298 c0_i32_422
  let v1452 : BitVec 1 := Scalar.andi v1394 v1451
  let v1453 : BitVec 32 := Scalar.extui v1452
  let c0_i32_423 : BitVec 32 := 0#32
  let v1454 : BitVec 1 := Scalar.cmpi .ne v1453 c0_i32_423
  v1454

def k0_off192 (i : grid0.Coords) (v1298 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1298 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk55 (i : grid0.Coords) (v211 : BitVec 32) (v213 : BitVec 32) (v1298 : BitVec 32) (v1393 : BitVec 32) : Prop :=
  (∀ (k0_h47 : k0_cond47 v211 v213 = 1#1), ∀ (k0_h60 : k0_cond60 v1298 v1393 = 1#1), ∀ (r : Fin 8), ∀ a, (k0_off191 i v1298 (BitVec.ofNat 32 (16 * r.val))) a + S16.size a ≤ S81920.size a) ∧
  (∀ (k0_h47 : k0_cond47 v211 v213 = 1#1), ∀ (k0_h60 : k0_cond60 v1298 v1393 = 1#1), ∀ (r : Fin 8), ∀ a, (k0_off192 i v1298 (BitVec.ofNat 32 (16 * r.val))) a + S16.size a ≤ S81920.size a)
theorem k0_off191_inb : ∀ (i : grid0.Coords) (v211 : BitVec 32) (v213 : BitVec 32) (v1298 : BitVec 32) (v1393 : BitVec 32) (k0_hw55 : k0_chk55 i v211 v213 v1298 v1393), ∀ (k0_h47 : k0_cond47 v211 v213 = 1#1), ∀ (k0_h60 : k0_cond60 v1298 v1393 = 1#1), ∀ (r : Fin 8), ∀ a, (k0_off191 i v1298 (BitVec.ofNat 32 (16 * r.val))) a + S16.size a ≤ S81920.size a := fun i v211 v213 v1298 v1393 k0_hw55 k0_h47 k0_h60 r => k0_hw55.1 k0_h47 k0_h60 r
theorem k0_off192_inb : ∀ (i : grid0.Coords) (v211 : BitVec 32) (v213 : BitVec 32) (v1298 : BitVec 32) (v1393 : BitVec 32) (k0_hw55 : k0_chk55 i v211 v213 v1298 v1393), ∀ (k0_h47 : k0_cond47 v211 v213 = 1#1), ∀ (k0_h60 : k0_cond60 v1298 v1393 = 1#1), ∀ (r : Fin 8), ∀ a, (k0_off192 i v1298 (BitVec.ofNat 32 (16 * r.val))) a + S16.size a ≤ S81920.size a := fun i v211 v213 v1298 v1393 k0_hw55 k0_h47 k0_h60 r => k0_hw55.2 k0_h47 k0_h60 r

def k0_off193 (v5 : BitVec 32) (v7 : BitVec 32) (k0_t9 : Fin (k0_t9_loop v5 v7).trips) (k0_t12 : Fin (k0_t12_loop v5 v7 k0_t9).trips) (c0_i32_425 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c1_i32_74 : BitVec 32 := 1#32
  let arg17 : BitVec 32 := Scf.iv v154 c1_i32_74 k0_t12
  let c16_i32_89 : BitVec 32 := 16#32
  let v205 : BitVec 32 := Scalar.muli arg17 c16_i32_89
  let c13_i32 : BitVec 32 := 13#32
  let v1490 : BitVec 32 := Scalar.addi v205 c13_i32
  let c128_i32_424 : BitVec 32 := 128#32
  let v1491 : BitVec 32 := Scalar.muli v1490 c128_i32_424
  let v1492 : BitVec 32 := Scalar.addi v108 v1491
  let v1493 : BitVec 32 := Scalar.addi v1492 c0_i32_425
  let v1494 : Index := Scalar.indexCast v1493
  ![v1494.toNat]
def k0_off194 (i : grid0.Coords) (v1393 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1393 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond61 (v1393 : BitVec 32) (v1488 : BitVec 32) : BitVec 1 :=
  let v1489 : BitVec 1 := Scalar.cmpi .ne v1488 v1393
  let c0_i32_447 : BitVec 32 := 0#32
  let v1546 : BitVec 1 := Scalar.cmpi .sge v1393 c0_i32_447
  let v1547 : BitVec 1 := Scalar.andi v1489 v1546
  let v1548 : BitVec 32 := Scalar.extui v1547
  let c0_i32_448 : BitVec 32 := 0#32
  let v1549 : BitVec 1 := Scalar.cmpi .ne v1548 c0_i32_448
  v1549

def k0_off195 (i : grid0.Coords) (v1393 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1393 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk56 (i : grid0.Coords) (v211 : BitVec 32) (v213 : BitVec 32) (v1393 : BitVec 32) (v1488 : BitVec 32) : Prop :=
  (∀ (k0_h47 : k0_cond47 v211 v213 = 1#1), ∀ (k0_h61 : k0_cond61 v1393 v1488 = 1#1), ∀ (r : Fin 8), ∀ a, (k0_off194 i v1393 (BitVec.ofNat 32 (16 * r.val))) a + S16.size a ≤ S81920.size a) ∧
  (∀ (k0_h47 : k0_cond47 v211 v213 = 1#1), ∀ (k0_h61 : k0_cond61 v1393 v1488 = 1#1), ∀ (r : Fin 8), ∀ a, (k0_off195 i v1393 (BitVec.ofNat 32 (16 * r.val))) a + S16.size a ≤ S81920.size a)
theorem k0_off194_inb : ∀ (i : grid0.Coords) (v211 : BitVec 32) (v213 : BitVec 32) (v1393 : BitVec 32) (v1488 : BitVec 32) (k0_hw56 : k0_chk56 i v211 v213 v1393 v1488), ∀ (k0_h47 : k0_cond47 v211 v213 = 1#1), ∀ (k0_h61 : k0_cond61 v1393 v1488 = 1#1), ∀ (r : Fin 8), ∀ a, (k0_off194 i v1393 (BitVec.ofNat 32 (16 * r.val))) a + S16.size a ≤ S81920.size a := fun i v211 v213 v1393 v1488 k0_hw56 k0_h47 k0_h61 r => k0_hw56.1 k0_h47 k0_h61 r
theorem k0_off195_inb : ∀ (i : grid0.Coords) (v211 : BitVec 32) (v213 : BitVec 32) (v1393 : BitVec 32) (v1488 : BitVec 32) (k0_hw56 : k0_chk56 i v211 v213 v1393 v1488), ∀ (k0_h47 : k0_cond47 v211 v213 = 1#1), ∀ (k0_h61 : k0_cond61 v1393 v1488 = 1#1), ∀ (r : Fin 8), ∀ a, (k0_off195 i v1393 (BitVec.ofNat 32 (16 * r.val))) a + S16.size a ≤ S81920.size a := fun i v211 v213 v1393 v1488 k0_hw56 k0_h47 k0_h61 r => k0_hw56.2 k0_h47 k0_h61 r

def k0_off196 (v5 : BitVec 32) (v7 : BitVec 32) (k0_t9 : Fin (k0_t9_loop v5 v7).trips) (k0_t12 : Fin (k0_t12_loop v5 v7 k0_t9).trips) (c0_i32_450 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c1_i32_74 : BitVec 32 := 1#32
  let arg17 : BitVec 32 := Scf.iv v154 c1_i32_74 k0_t12
  let c16_i32_89 : BitVec 32 := 16#32
  let v205 : BitVec 32 := Scalar.muli arg17 c16_i32_89
  let c14_i32 : BitVec 32 := 14#32
  let v1585 : BitVec 32 := Scalar.addi v205 c14_i32
  let c128_i32_449 : BitVec 32 := 128#32
  let v1586 : BitVec 32 := Scalar.muli v1585 c128_i32_449
  let v1587 : BitVec 32 := Scalar.addi v108 v1586
  let v1588 : BitVec 32 := Scalar.addi v1587 c0_i32_450
  let v1589 : Index := Scalar.indexCast v1588
  ![v1589.toNat]
def k0_off197 (i : grid0.Coords) (v1488 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1488 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond62 (v1488 : BitVec 32) (v1583 : BitVec 32) : BitVec 1 :=
  let v1584 : BitVec 1 := Scalar.cmpi .ne v1583 v1488
  let c0_i32_472 : BitVec 32 := 0#32
  let v1641 : BitVec 1 := Scalar.cmpi .sge v1488 c0_i32_472
  let v1642 : BitVec 1 := Scalar.andi v1584 v1641
  let v1643 : BitVec 32 := Scalar.extui v1642
  let c0_i32_473 : BitVec 32 := 0#32
  let v1644 : BitVec 1 := Scalar.cmpi .ne v1643 c0_i32_473
  v1644

def k0_off198 (i : grid0.Coords) (v1488 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1488 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk57 (i : grid0.Coords) (v211 : BitVec 32) (v213 : BitVec 32) (v1488 : BitVec 32) (v1583 : BitVec 32) : Prop :=
  (∀ (k0_h47 : k0_cond47 v211 v213 = 1#1), ∀ (k0_h62 : k0_cond62 v1488 v1583 = 1#1), ∀ (r : Fin 8), ∀ a, (k0_off197 i v1488 (BitVec.ofNat 32 (16 * r.val))) a + S16.size a ≤ S81920.size a) ∧
  (∀ (k0_h47 : k0_cond47 v211 v213 = 1#1), ∀ (k0_h62 : k0_cond62 v1488 v1583 = 1#1), ∀ (r : Fin 8), ∀ a, (k0_off198 i v1488 (BitVec.ofNat 32 (16 * r.val))) a + S16.size a ≤ S81920.size a)
theorem k0_off197_inb : ∀ (i : grid0.Coords) (v211 : BitVec 32) (v213 : BitVec 32) (v1488 : BitVec 32) (v1583 : BitVec 32) (k0_hw57 : k0_chk57 i v211 v213 v1488 v1583), ∀ (k0_h47 : k0_cond47 v211 v213 = 1#1), ∀ (k0_h62 : k0_cond62 v1488 v1583 = 1#1), ∀ (r : Fin 8), ∀ a, (k0_off197 i v1488 (BitVec.ofNat 32 (16 * r.val))) a + S16.size a ≤ S81920.size a := fun i v211 v213 v1488 v1583 k0_hw57 k0_h47 k0_h62 r => k0_hw57.1 k0_h47 k0_h62 r
theorem k0_off198_inb : ∀ (i : grid0.Coords) (v211 : BitVec 32) (v213 : BitVec 32) (v1488 : BitVec 32) (v1583 : BitVec 32) (k0_hw57 : k0_chk57 i v211 v213 v1488 v1583), ∀ (k0_h47 : k0_cond47 v211 v213 = 1#1), ∀ (k0_h62 : k0_cond62 v1488 v1583 = 1#1), ∀ (r : Fin 8), ∀ a, (k0_off198 i v1488 (BitVec.ofNat 32 (16 * r.val))) a + S16.size a ≤ S81920.size a := fun i v211 v213 v1488 v1583 k0_hw57 k0_h47 k0_h62 r => k0_hw57.2 k0_h47 k0_h62 r

def k0_off199 (v5 : BitVec 32) (v7 : BitVec 32) (k0_t9 : Fin (k0_t9_loop v5 v7).trips) (k0_t12 : Fin (k0_t12_loop v5 v7 k0_t9).trips) (c0_i32_475 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c1_i32_74 : BitVec 32 := 1#32
  let arg17 : BitVec 32 := Scf.iv v154 c1_i32_74 k0_t12
  let c16_i32_89 : BitVec 32 := 16#32
  let v205 : BitVec 32 := Scalar.muli arg17 c16_i32_89
  let c15_i32 : BitVec 32 := 15#32
  let v1680 : BitVec 32 := Scalar.addi v205 c15_i32
  let c128_i32_474 : BitVec 32 := 128#32
  let v1681 : BitVec 32 := Scalar.muli v1680 c128_i32_474
  let v1682 : BitVec 32 := Scalar.addi v108 v1681
  let v1683 : BitVec 32 := Scalar.addi v1682 c0_i32_475
  let v1684 : Index := Scalar.indexCast v1683
  ![v1684.toNat]

def k0_chk42 (v5 : BitVec 32) (v7 : BitVec 32) (k0_t9 : Fin (k0_t9_loop v5 v7).trips) (k0_t12 : Fin (k0_t12_loop v5 v7 k0_t9).trips) (v211 : BitVec 32) (v213 : BitVec 32) : Prop :=
  (∀ (k0_h46 : k0_cond46 v211 v213 = 1#1), ∀ (r₁ : Fin 16) (r₂ : Fin 8), ∀ a, (k0_off153 v5 v7 k0_t9 k0_t12 (BitVec.ofNat 32 r₁.val) (BitVec.ofNat 32 (16 * r₂.val))) a + S16.size a ≤ S40960.size a) ∧
  (∀ (k0_h47 : k0_cond47 v211 v213 = 1#1), ∀ (r : Fin 8), ∀ a, (k0_off154 v5 v7 k0_t9 k0_t12 (BitVec.ofNat 32 (16 * r.val))) a + S16.size a ≤ S40960.size a) ∧
  (∀ (k0_h47 : k0_cond47 v211 v213 = 1#1), ∀ (r : Fin 8), ∀ a, (k0_off157 v5 v7 k0_t9 k0_t12 (BitVec.ofNat 32 (16 * r.val))) a + S16.size a ≤ S40960.size a) ∧
  (∀ (k0_h47 : k0_cond47 v211 v213 = 1#1), ∀ (r : Fin 8), ∀ a, (k0_off160 v5 v7 k0_t9 k0_t12 (BitVec.ofNat 32 (16 * r.val))) a + S16.size a ≤ S40960.size a) ∧
  (∀ (k0_h47 : k0_cond47 v211 v213 = 1#1), ∀ (r : Fin 8), ∀ a, (k0_off163 v5 v7 k0_t9 k0_t12 (BitVec.ofNat 32 (16 * r.val))) a + S16.size a ≤ S40960.size a) ∧
  (∀ (k0_h47 : k0_cond47 v211 v213 = 1#1), ∀ (r : Fin 8), ∀ a, (k0_off166 v5 v7 k0_t9 k0_t12 (BitVec.ofNat 32 (16 * r.val))) a + S16.size a ≤ S40960.size a) ∧
  (∀ (k0_h47 : k0_cond47 v211 v213 = 1#1), ∀ (r : Fin 8), ∀ a, (k0_off169 v5 v7 k0_t9 k0_t12 (BitVec.ofNat 32 (16 * r.val))) a + S16.size a ≤ S40960.size a) ∧
  (∀ (k0_h47 : k0_cond47 v211 v213 = 1#1), ∀ (r : Fin 8), ∀ a, (k0_off172 v5 v7 k0_t9 k0_t12 (BitVec.ofNat 32 (16 * r.val))) a + S16.size a ≤ S40960.size a) ∧
  (∀ (k0_h47 : k0_cond47 v211 v213 = 1#1), ∀ (r : Fin 8), ∀ a, (k0_off175 v5 v7 k0_t9 k0_t12 (BitVec.ofNat 32 (16 * r.val))) a + S16.size a ≤ S40960.size a) ∧
  (∀ (k0_h47 : k0_cond47 v211 v213 = 1#1), ∀ (r : Fin 8), ∀ a, (k0_off178 v5 v7 k0_t9 k0_t12 (BitVec.ofNat 32 (16 * r.val))) a + S16.size a ≤ S40960.size a) ∧
  (∀ (k0_h47 : k0_cond47 v211 v213 = 1#1), ∀ (r : Fin 8), ∀ a, (k0_off181 v5 v7 k0_t9 k0_t12 (BitVec.ofNat 32 (16 * r.val))) a + S16.size a ≤ S40960.size a) ∧
  (∀ (k0_h47 : k0_cond47 v211 v213 = 1#1), ∀ (r : Fin 8), ∀ a, (k0_off184 v5 v7 k0_t9 k0_t12 (BitVec.ofNat 32 (16 * r.val))) a + S16.size a ≤ S40960.size a) ∧
  (∀ (k0_h47 : k0_cond47 v211 v213 = 1#1), ∀ (r : Fin 8), ∀ a, (k0_off187 v5 v7 k0_t9 k0_t12 (BitVec.ofNat 32 (16 * r.val))) a + S16.size a ≤ S40960.size a) ∧
  (∀ (k0_h47 : k0_cond47 v211 v213 = 1#1), ∀ (r : Fin 8), ∀ a, (k0_off190 v5 v7 k0_t9 k0_t12 (BitVec.ofNat 32 (16 * r.val))) a + S16.size a ≤ S40960.size a) ∧
  (∀ (k0_h47 : k0_cond47 v211 v213 = 1#1), ∀ (r : Fin 8), ∀ a, (k0_off193 v5 v7 k0_t9 k0_t12 (BitVec.ofNat 32 (16 * r.val))) a + S16.size a ≤ S40960.size a) ∧
  (∀ (k0_h47 : k0_cond47 v211 v213 = 1#1), ∀ (r : Fin 8), ∀ a, (k0_off196 v5 v7 k0_t9 k0_t12 (BitVec.ofNat 32 (16 * r.val))) a + S16.size a ≤ S40960.size a) ∧
  (∀ (k0_h47 : k0_cond47 v211 v213 = 1#1), ∀ (r : Fin 8), ∀ a, (k0_off199 v5 v7 k0_t9 k0_t12 (BitVec.ofNat 32 (16 * r.val))) a + S16.size a ≤ S40960.size a)
theorem k0_off153_inb : ∀ (v5 : BitVec 32) (v7 : BitVec 32) (k0_t9 : Fin (k0_t9_loop v5 v7).trips) (k0_t12 : Fin (k0_t12_loop v5 v7 k0_t9).trips) (v211 : BitVec 32) (v213 : BitVec 32) (k0_hw42 : k0_chk42 v5 v7 k0_t9 k0_t12 v211 v213), ∀ (k0_h46 : k0_cond46 v211 v213 = 1#1), ∀ (r₁ : Fin 16) (r₂ : Fin 8), ∀ a, (k0_off153 v5 v7 k0_t9 k0_t12 (BitVec.ofNat 32 r₁.val) (BitVec.ofNat 32 (16 * r₂.val))) a + S16.size a ≤ S40960.size a := fun v5 v7 k0_t9 k0_t12 v211 v213 k0_hw42 k0_h46 r₁ r₂ => k0_hw42.1 k0_h46 r₁ r₂
theorem k0_off154_inb : ∀ (v5 : BitVec 32) (v7 : BitVec 32) (k0_t9 : Fin (k0_t9_loop v5 v7).trips) (k0_t12 : Fin (k0_t12_loop v5 v7 k0_t9).trips) (v211 : BitVec 32) (v213 : BitVec 32) (k0_hw42 : k0_chk42 v5 v7 k0_t9 k0_t12 v211 v213), ∀ (k0_h47 : k0_cond47 v211 v213 = 1#1), ∀ (r : Fin 8), ∀ a, (k0_off154 v5 v7 k0_t9 k0_t12 (BitVec.ofNat 32 (16 * r.val))) a + S16.size a ≤ S40960.size a := fun v5 v7 k0_t9 k0_t12 v211 v213 k0_hw42 k0_h47 r => k0_hw42.2.1 k0_h47 r
theorem k0_off157_inb : ∀ (v5 : BitVec 32) (v7 : BitVec 32) (k0_t9 : Fin (k0_t9_loop v5 v7).trips) (k0_t12 : Fin (k0_t12_loop v5 v7 k0_t9).trips) (v211 : BitVec 32) (v213 : BitVec 32) (k0_hw42 : k0_chk42 v5 v7 k0_t9 k0_t12 v211 v213), ∀ (k0_h47 : k0_cond47 v211 v213 = 1#1), ∀ (r : Fin 8), ∀ a, (k0_off157 v5 v7 k0_t9 k0_t12 (BitVec.ofNat 32 (16 * r.val))) a + S16.size a ≤ S40960.size a := fun v5 v7 k0_t9 k0_t12 v211 v213 k0_hw42 k0_h47 r => k0_hw42.2.2.1 k0_h47 r
theorem k0_off160_inb : ∀ (v5 : BitVec 32) (v7 : BitVec 32) (k0_t9 : Fin (k0_t9_loop v5 v7).trips) (k0_t12 : Fin (k0_t12_loop v5 v7 k0_t9).trips) (v211 : BitVec 32) (v213 : BitVec 32) (k0_hw42 : k0_chk42 v5 v7 k0_t9 k0_t12 v211 v213), ∀ (k0_h47 : k0_cond47 v211 v213 = 1#1), ∀ (r : Fin 8), ∀ a, (k0_off160 v5 v7 k0_t9 k0_t12 (BitVec.ofNat 32 (16 * r.val))) a + S16.size a ≤ S40960.size a := fun v5 v7 k0_t9 k0_t12 v211 v213 k0_hw42 k0_h47 r => k0_hw42.2.2.2.1 k0_h47 r
theorem k0_off163_inb : ∀ (v5 : BitVec 32) (v7 : BitVec 32) (k0_t9 : Fin (k0_t9_loop v5 v7).trips) (k0_t12 : Fin (k0_t12_loop v5 v7 k0_t9).trips) (v211 : BitVec 32) (v213 : BitVec 32) (k0_hw42 : k0_chk42 v5 v7 k0_t9 k0_t12 v211 v213), ∀ (k0_h47 : k0_cond47 v211 v213 = 1#1), ∀ (r : Fin 8), ∀ a, (k0_off163 v5 v7 k0_t9 k0_t12 (BitVec.ofNat 32 (16 * r.val))) a + S16.size a ≤ S40960.size a := fun v5 v7 k0_t9 k0_t12 v211 v213 k0_hw42 k0_h47 r => k0_hw42.2.2.2.2.1 k0_h47 r
theorem k0_off166_inb : ∀ (v5 : BitVec 32) (v7 : BitVec 32) (k0_t9 : Fin (k0_t9_loop v5 v7).trips) (k0_t12 : Fin (k0_t12_loop v5 v7 k0_t9).trips) (v211 : BitVec 32) (v213 : BitVec 32) (k0_hw42 : k0_chk42 v5 v7 k0_t9 k0_t12 v211 v213), ∀ (k0_h47 : k0_cond47 v211 v213 = 1#1), ∀ (r : Fin 8), ∀ a, (k0_off166 v5 v7 k0_t9 k0_t12 (BitVec.ofNat 32 (16 * r.val))) a + S16.size a ≤ S40960.size a := fun v5 v7 k0_t9 k0_t12 v211 v213 k0_hw42 k0_h47 r => k0_hw42.2.2.2.2.2.1 k0_h47 r
theorem k0_off169_inb : ∀ (v5 : BitVec 32) (v7 : BitVec 32) (k0_t9 : Fin (k0_t9_loop v5 v7).trips) (k0_t12 : Fin (k0_t12_loop v5 v7 k0_t9).trips) (v211 : BitVec 32) (v213 : BitVec 32) (k0_hw42 : k0_chk42 v5 v7 k0_t9 k0_t12 v211 v213), ∀ (k0_h47 : k0_cond47 v211 v213 = 1#1), ∀ (r : Fin 8), ∀ a, (k0_off169 v5 v7 k0_t9 k0_t12 (BitVec.ofNat 32 (16 * r.val))) a + S16.size a ≤ S40960.size a := fun v5 v7 k0_t9 k0_t12 v211 v213 k0_hw42 k0_h47 r => k0_hw42.2.2.2.2.2.2.1 k0_h47 r
theorem k0_off172_inb : ∀ (v5 : BitVec 32) (v7 : BitVec 32) (k0_t9 : Fin (k0_t9_loop v5 v7).trips) (k0_t12 : Fin (k0_t12_loop v5 v7 k0_t9).trips) (v211 : BitVec 32) (v213 : BitVec 32) (k0_hw42 : k0_chk42 v5 v7 k0_t9 k0_t12 v211 v213), ∀ (k0_h47 : k0_cond47 v211 v213 = 1#1), ∀ (r : Fin 8), ∀ a, (k0_off172 v5 v7 k0_t9 k0_t12 (BitVec.ofNat 32 (16 * r.val))) a + S16.size a ≤ S40960.size a := fun v5 v7 k0_t9 k0_t12 v211 v213 k0_hw42 k0_h47 r => k0_hw42.2.2.2.2.2.2.2.1 k0_h47 r
theorem k0_off175_inb : ∀ (v5 : BitVec 32) (v7 : BitVec 32) (k0_t9 : Fin (k0_t9_loop v5 v7).trips) (k0_t12 : Fin (k0_t12_loop v5 v7 k0_t9).trips) (v211 : BitVec 32) (v213 : BitVec 32) (k0_hw42 : k0_chk42 v5 v7 k0_t9 k0_t12 v211 v213), ∀ (k0_h47 : k0_cond47 v211 v213 = 1#1), ∀ (r : Fin 8), ∀ a, (k0_off175 v5 v7 k0_t9 k0_t12 (BitVec.ofNat 32 (16 * r.val))) a + S16.size a ≤ S40960.size a := fun v5 v7 k0_t9 k0_t12 v211 v213 k0_hw42 k0_h47 r => k0_hw42.2.2.2.2.2.2.2.2.1 k0_h47 r
theorem k0_off178_inb : ∀ (v5 : BitVec 32) (v7 : BitVec 32) (k0_t9 : Fin (k0_t9_loop v5 v7).trips) (k0_t12 : Fin (k0_t12_loop v5 v7 k0_t9).trips) (v211 : BitVec 32) (v213 : BitVec 32) (k0_hw42 : k0_chk42 v5 v7 k0_t9 k0_t12 v211 v213), ∀ (k0_h47 : k0_cond47 v211 v213 = 1#1), ∀ (r : Fin 8), ∀ a, (k0_off178 v5 v7 k0_t9 k0_t12 (BitVec.ofNat 32 (16 * r.val))) a + S16.size a ≤ S40960.size a := fun v5 v7 k0_t9 k0_t12 v211 v213 k0_hw42 k0_h47 r => k0_hw42.2.2.2.2.2.2.2.2.2.1 k0_h47 r
theorem k0_off181_inb : ∀ (v5 : BitVec 32) (v7 : BitVec 32) (k0_t9 : Fin (k0_t9_loop v5 v7).trips) (k0_t12 : Fin (k0_t12_loop v5 v7 k0_t9).trips) (v211 : BitVec 32) (v213 : BitVec 32) (k0_hw42 : k0_chk42 v5 v7 k0_t9 k0_t12 v211 v213), ∀ (k0_h47 : k0_cond47 v211 v213 = 1#1), ∀ (r : Fin 8), ∀ a, (k0_off181 v5 v7 k0_t9 k0_t12 (BitVec.ofNat 32 (16 * r.val))) a + S16.size a ≤ S40960.size a := fun v5 v7 k0_t9 k0_t12 v211 v213 k0_hw42 k0_h47 r => k0_hw42.2.2.2.2.2.2.2.2.2.2.1 k0_h47 r
theorem k0_off184_inb : ∀ (v5 : BitVec 32) (v7 : BitVec 32) (k0_t9 : Fin (k0_t9_loop v5 v7).trips) (k0_t12 : Fin (k0_t12_loop v5 v7 k0_t9).trips) (v211 : BitVec 32) (v213 : BitVec 32) (k0_hw42 : k0_chk42 v5 v7 k0_t9 k0_t12 v211 v213), ∀ (k0_h47 : k0_cond47 v211 v213 = 1#1), ∀ (r : Fin 8), ∀ a, (k0_off184 v5 v7 k0_t9 k0_t12 (BitVec.ofNat 32 (16 * r.val))) a + S16.size a ≤ S40960.size a := fun v5 v7 k0_t9 k0_t12 v211 v213 k0_hw42 k0_h47 r => k0_hw42.2.2.2.2.2.2.2.2.2.2.2.1 k0_h47 r
theorem k0_off187_inb : ∀ (v5 : BitVec 32) (v7 : BitVec 32) (k0_t9 : Fin (k0_t9_loop v5 v7).trips) (k0_t12 : Fin (k0_t12_loop v5 v7 k0_t9).trips) (v211 : BitVec 32) (v213 : BitVec 32) (k0_hw42 : k0_chk42 v5 v7 k0_t9 k0_t12 v211 v213), ∀ (k0_h47 : k0_cond47 v211 v213 = 1#1), ∀ (r : Fin 8), ∀ a, (k0_off187 v5 v7 k0_t9 k0_t12 (BitVec.ofNat 32 (16 * r.val))) a + S16.size a ≤ S40960.size a := fun v5 v7 k0_t9 k0_t12 v211 v213 k0_hw42 k0_h47 r => k0_hw42.2.2.2.2.2.2.2.2.2.2.2.2.1 k0_h47 r
theorem k0_off190_inb : ∀ (v5 : BitVec 32) (v7 : BitVec 32) (k0_t9 : Fin (k0_t9_loop v5 v7).trips) (k0_t12 : Fin (k0_t12_loop v5 v7 k0_t9).trips) (v211 : BitVec 32) (v213 : BitVec 32) (k0_hw42 : k0_chk42 v5 v7 k0_t9 k0_t12 v211 v213), ∀ (k0_h47 : k0_cond47 v211 v213 = 1#1), ∀ (r : Fin 8), ∀ a, (k0_off190 v5 v7 k0_t9 k0_t12 (BitVec.ofNat 32 (16 * r.val))) a + S16.size a ≤ S40960.size a := fun v5 v7 k0_t9 k0_t12 v211 v213 k0_hw42 k0_h47 r => k0_hw42.2.2.2.2.2.2.2.2.2.2.2.2.2.1 k0_h47 r
theorem k0_off193_inb : ∀ (v5 : BitVec 32) (v7 : BitVec 32) (k0_t9 : Fin (k0_t9_loop v5 v7).trips) (k0_t12 : Fin (k0_t12_loop v5 v7 k0_t9).trips) (v211 : BitVec 32) (v213 : BitVec 32) (k0_hw42 : k0_chk42 v5 v7 k0_t9 k0_t12 v211 v213), ∀ (k0_h47 : k0_cond47 v211 v213 = 1#1), ∀ (r : Fin 8), ∀ a, (k0_off193 v5 v7 k0_t9 k0_t12 (BitVec.ofNat 32 (16 * r.val))) a + S16.size a ≤ S40960.size a := fun v5 v7 k0_t9 k0_t12 v211 v213 k0_hw42 k0_h47 r => k0_hw42.2.2.2.2.2.2.2.2.2.2.2.2.2.2.1 k0_h47 r
theorem k0_off196_inb : ∀ (v5 : BitVec 32) (v7 : BitVec 32) (k0_t9 : Fin (k0_t9_loop v5 v7).trips) (k0_t12 : Fin (k0_t12_loop v5 v7 k0_t9).trips) (v211 : BitVec 32) (v213 : BitVec 32) (k0_hw42 : k0_chk42 v5 v7 k0_t9 k0_t12 v211 v213), ∀ (k0_h47 : k0_cond47 v211 v213 = 1#1), ∀ (r : Fin 8), ∀ a, (k0_off196 v5 v7 k0_t9 k0_t12 (BitVec.ofNat 32 (16 * r.val))) a + S16.size a ≤ S40960.size a := fun v5 v7 k0_t9 k0_t12 v211 v213 k0_hw42 k0_h47 r => k0_hw42.2.2.2.2.2.2.2.2.2.2.2.2.2.2.2.1 k0_h47 r
theorem k0_off199_inb : ∀ (v5 : BitVec 32) (v7 : BitVec 32) (k0_t9 : Fin (k0_t9_loop v5 v7).trips) (k0_t12 : Fin (k0_t12_loop v5 v7 k0_t9).trips) (v211 : BitVec 32) (v213 : BitVec 32) (k0_hw42 : k0_chk42 v5 v7 k0_t9 k0_t12 v211 v213), ∀ (k0_h47 : k0_cond47 v211 v213 = 1#1), ∀ (r : Fin 8), ∀ a, (k0_off199 v5 v7 k0_t9 k0_t12 (BitVec.ofNat 32 (16 * r.val))) a + S16.size a ≤ S40960.size a := fun v5 v7 k0_t9 k0_t12 v211 v213 k0_hw42 k0_h47 r => k0_hw42.2.2.2.2.2.2.2.2.2.2.2.2.2.2.2.2 k0_h47 r

def k0_off200 (i : grid0.Coords) (v1583 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1583 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond63 (v1583 : BitVec 32) (v1678 : BitVec 32) : BitVec 1 :=
  let v1679 : BitVec 1 := Scalar.cmpi .ne v1678 v1583
  let c0_i32_497 : BitVec 32 := 0#32
  let v1736 : BitVec 1 := Scalar.cmpi .sge v1583 c0_i32_497
  let v1737 : BitVec 1 := Scalar.andi v1679 v1736
  let v1738 : BitVec 32 := Scalar.extui v1737
  let c0_i32_498 : BitVec 32 := 0#32
  let v1739 : BitVec 1 := Scalar.cmpi .ne v1738 c0_i32_498
  v1739

def k0_off201 (i : grid0.Coords) (v1583 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1583 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk58 (i : grid0.Coords) (v211 : BitVec 32) (v213 : BitVec 32) (v1583 : BitVec 32) (v1678 : BitVec 32) : Prop :=
  (∀ (k0_h47 : k0_cond47 v211 v213 = 1#1), ∀ (k0_h63 : k0_cond63 v1583 v1678 = 1#1), ∀ (r : Fin 8), ∀ a, (k0_off200 i v1583 (BitVec.ofNat 32 (16 * r.val))) a + S16.size a ≤ S81920.size a) ∧
  (∀ (k0_h47 : k0_cond47 v211 v213 = 1#1), ∀ (k0_h63 : k0_cond63 v1583 v1678 = 1#1), ∀ (r : Fin 8), ∀ a, (k0_off201 i v1583 (BitVec.ofNat 32 (16 * r.val))) a + S16.size a ≤ S81920.size a)
theorem k0_off200_inb : ∀ (i : grid0.Coords) (v211 : BitVec 32) (v213 : BitVec 32) (v1583 : BitVec 32) (v1678 : BitVec 32) (k0_hw58 : k0_chk58 i v211 v213 v1583 v1678), ∀ (k0_h47 : k0_cond47 v211 v213 = 1#1), ∀ (k0_h63 : k0_cond63 v1583 v1678 = 1#1), ∀ (r : Fin 8), ∀ a, (k0_off200 i v1583 (BitVec.ofNat 32 (16 * r.val))) a + S16.size a ≤ S81920.size a := fun i v211 v213 v1583 v1678 k0_hw58 k0_h47 k0_h63 r => k0_hw58.1 k0_h47 k0_h63 r
theorem k0_off201_inb : ∀ (i : grid0.Coords) (v211 : BitVec 32) (v213 : BitVec 32) (v1583 : BitVec 32) (v1678 : BitVec 32) (k0_hw58 : k0_chk58 i v211 v213 v1583 v1678), ∀ (k0_h47 : k0_cond47 v211 v213 = 1#1), ∀ (k0_h63 : k0_cond63 v1583 v1678 = 1#1), ∀ (r : Fin 8), ∀ a, (k0_off201 i v1583 (BitVec.ofNat 32 (16 * r.val))) a + S16.size a ≤ S81920.size a := fun i v211 v213 v1583 v1678 k0_hw58 k0_h47 k0_h63 r => k0_hw58.2 k0_h47 k0_h63 r

@[reducible] def k0_t13_loop (v5 : BitVec 32) (v7 : BitVec 32) (k0_t9 : Fin (k0_t9_loop v5 v7).trips) : Scf.Loop 32 :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c0_i32_66 : BitVec 32 := 0#32
  let v156 : BitVec 1 := Scalar.cmpi .sgt v107 c0_i32_66
  let v157 : BitVec 32 := Scalar.extui v156
  let c0_i32_67 : BitVec 32 := 0#32
  let v158 : BitVec 1 := Scalar.cmpi .slt v107 c0_i32_67
  let v159 : BitVec 32 := Scalar.extui v158
  let v160 : BitVec 32 := Scalar.subi v157 v159
  let c16_i32_65 : BitVec 32 := 16#32
  let c0_i32_68 : BitVec 32 := 0#32
  let v161 : BitVec 1 := Scalar.cmpi .sgt c16_i32_65 c0_i32_68
  let v162 : BitVec 32 := Scalar.extui v161
  let c0_i32_69 : BitVec 32 := 0#32
  let v163 : BitVec 1 := Scalar.cmpi .slt c16_i32_65 c0_i32_69
  let v164 : BitVec 32 := Scalar.extui v163
  let v165 : BitVec 32 := Scalar.subi v162 v164
  let v166 : BitVec 1 := Scalar.cmpi .ne v160 v165
  let v167 : BitVec 32 := Scalar.remsi v107 c16_i32_65
  let c0_i32_70 : BitVec 32 := 0#32
  let v168 : BitVec 1 := Scalar.cmpi .ne v167 c0_i32_70
  let v169 : BitVec 1 := Scalar.andi v166 v168
  let v155 : BitVec 32 := Scalar.divsi v107 c16_i32_65
  let c1_i32_71 : BitVec 32 := 1#32
  let v170 : BitVec 32 := Scalar.subi v155 c1_i32_71
  let v171 : BitVec 32 := Scalar.select v169 v170 v155
  let v172 : BitVec 32 := Scalar.subi v171 v154
  let c1_i32_73 : BitVec 32 := 1#32
  let v174 : BitVec 32 := Scalar.divsi v172 c1_i32_73
  let v175 : BitVec 32 := Scalar.muli v174 c1_i32_73
  let v176 : BitVec 32 := Scalar.addi v154 v175
  let v173 : BitVec 32 := Scalar.addi v154 v172
  let c1_i32_75 : BitVec 32 := 1#32
  ⟨v176, v173, c1_i32_75⟩
def k0_off202 (v5 : BitVec 32) (v7 : BitVec 32) (k0_t9 : Fin (k0_t9_loop v5 v7).trips) (k0_t13 : Fin (k0_t13_loop v5 v7 k0_t9).trips) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c176_i32_44 : BitVec 32 := 176#32
  let v109 : BitVec 32 := Scalar.muli v80 c176_i32_44
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c0_i32_66 : BitVec 32 := 0#32
  let v156 : BitVec 1 := Scalar.cmpi .sgt v107 c0_i32_66
  let v157 : BitVec 32 := Scalar.extui v156
  let c0_i32_67 : BitVec 32 := 0#32
  let v158 : BitVec 1 := Scalar.cmpi .slt v107 c0_i32_67
  let v159 : BitVec 32 := Scalar.extui v158
  let v160 : BitVec 32 := Scalar.subi v157 v159
  let c16_i32_65 : BitVec 32 := 16#32
  let c0_i32_68 : BitVec 32 := 0#32
  let v161 : BitVec 1 := Scalar.cmpi .sgt c16_i32_65 c0_i32_68
  let v162 : BitVec 32 := Scalar.extui v161
  let c0_i32_69 : BitVec 32 := 0#32
  let v163 : BitVec 1 := Scalar.cmpi .slt c16_i32_65 c0_i32_69
  let v164 : BitVec 32 := Scalar.extui v163
  let v165 : BitVec 32 := Scalar.subi v162 v164
  let v166 : BitVec 1 := Scalar.cmpi .ne v160 v165
  let v167 : BitVec 32 := Scalar.remsi v107 c16_i32_65
  let c0_i32_70 : BitVec 32 := 0#32
  let v168 : BitVec 1 := Scalar.cmpi .ne v167 c0_i32_70
  let v169 : BitVec 1 := Scalar.andi v166 v168
  let v155 : BitVec 32 := Scalar.divsi v107 c16_i32_65
  let c1_i32_71 : BitVec 32 := 1#32
  let v170 : BitVec 32 := Scalar.subi v155 c1_i32_71
  let v171 : BitVec 32 := Scalar.select v169 v170 v155
  let v172 : BitVec 32 := Scalar.subi v171 v154
  let c1_i32_73 : BitVec 32 := 1#32
  let v174 : BitVec 32 := Scalar.divsi v172 c1_i32_73
  let v175 : BitVec 32 := Scalar.muli v174 c1_i32_73
  let v176 : BitVec 32 := Scalar.addi v154 v175
  let c1_i32_75 : BitVec 32 := 1#32
  let arg17 : BitVec 32 := Scf.iv v176 c1_i32_75 k0_t13
  let c16_i32_89 : BitVec 32 := 16#32
  let v205 : BitVec 32 := Scalar.muli arg17 c16_i32_89
  let v206 : BitVec 32 := Scalar.addi v109 v205
  let v207 : Index := Scalar.indexCast v206
  ![v207.toNat]
def k0_off203 (v5 : BitVec 32) (v7 : BitVec 32) (k0_t9 : Fin (k0_t9_loop v5 v7).trips) (k0_t13 : Fin (k0_t13_loop v5 v7 k0_t9).trips) (c0_i32_94 : BitVec 32) (c0_i32_95 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c0_i32_66 : BitVec 32 := 0#32
  let v156 : BitVec 1 := Scalar.cmpi .sgt v107 c0_i32_66
  let v157 : BitVec 32 := Scalar.extui v156
  let c0_i32_67 : BitVec 32 := 0#32
  let v158 : BitVec 1 := Scalar.cmpi .slt v107 c0_i32_67
  let v159 : BitVec 32 := Scalar.extui v158
  let v160 : BitVec 32 := Scalar.subi v157 v159
  let c16_i32_65 : BitVec 32 := 16#32
  let c0_i32_68 : BitVec 32 := 0#32
  let v161 : BitVec 1 := Scalar.cmpi .sgt c16_i32_65 c0_i32_68
  let v162 : BitVec 32 := Scalar.extui v161
  let c0_i32_69 : BitVec 32 := 0#32
  let v163 : BitVec 1 := Scalar.cmpi .slt c16_i32_65 c0_i32_69
  let v164 : BitVec 32 := Scalar.extui v163
  let v165 : BitVec 32 := Scalar.subi v162 v164
  let v166 : BitVec 1 := Scalar.cmpi .ne v160 v165
  let v167 : BitVec 32 := Scalar.remsi v107 c16_i32_65
  let c0_i32_70 : BitVec 32 := 0#32
  let v168 : BitVec 1 := Scalar.cmpi .ne v167 c0_i32_70
  let v169 : BitVec 1 := Scalar.andi v166 v168
  let v155 : BitVec 32 := Scalar.divsi v107 c16_i32_65
  let c1_i32_71 : BitVec 32 := 1#32
  let v170 : BitVec 32 := Scalar.subi v155 c1_i32_71
  let v171 : BitVec 32 := Scalar.select v169 v170 v155
  let v172 : BitVec 32 := Scalar.subi v171 v154
  let c1_i32_73 : BitVec 32 := 1#32
  let v174 : BitVec 32 := Scalar.divsi v172 c1_i32_73
  let v175 : BitVec 32 := Scalar.muli v174 c1_i32_73
  let v176 : BitVec 32 := Scalar.addi v154 v175
  let c1_i32_75 : BitVec 32 := 1#32
  let arg17 : BitVec 32 := Scf.iv v176 c1_i32_75 k0_t13
  let c16_i32_89 : BitVec 32 := 16#32
  let v205 : BitVec 32 := Scalar.muli arg17 c16_i32_89
  let v220 : BitVec 32 := Scalar.addi v205 c0_i32_94
  let c128_i32 : BitVec 32 := 128#32
  let v221 : BitVec 32 := Scalar.muli v220 c128_i32
  let v222 : BitVec 32 := Scalar.addi v108 v221
  let v223 : BitVec 32 := Scalar.addi v222 c0_i32_95
  let v224 : Index := Scalar.indexCast v223
  ![v224.toNat]
def k0_cond64 (v211 : BitVec 32) (v213 : BitVec 32) : BitVec 1 :=
  let v214 : BitVec 1 := Scalar.cmpi .eq v213 v211
  let v215 : BitVec 32 := Scalar.extui v214
  let c0_i32_91 : BitVec 32 := 0#32
  let v216 : BitVec 1 := Scalar.cmpi .ne v215 c0_i32_91
  v216

def k0_off204 (v5 : BitVec 32) (v7 : BitVec 32) (k0_t9 : Fin (k0_t9_loop v5 v7).trips) (k0_t13 : Fin (k0_t13_loop v5 v7 k0_t9).trips) (c0_i32_104 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c0_i32_66 : BitVec 32 := 0#32
  let v156 : BitVec 1 := Scalar.cmpi .sgt v107 c0_i32_66
  let v157 : BitVec 32 := Scalar.extui v156
  let c0_i32_67 : BitVec 32 := 0#32
  let v158 : BitVec 1 := Scalar.cmpi .slt v107 c0_i32_67
  let v159 : BitVec 32 := Scalar.extui v158
  let v160 : BitVec 32 := Scalar.subi v157 v159
  let c16_i32_65 : BitVec 32 := 16#32
  let c0_i32_68 : BitVec 32 := 0#32
  let v161 : BitVec 1 := Scalar.cmpi .sgt c16_i32_65 c0_i32_68
  let v162 : BitVec 32 := Scalar.extui v161
  let c0_i32_69 : BitVec 32 := 0#32
  let v163 : BitVec 1 := Scalar.cmpi .slt c16_i32_65 c0_i32_69
  let v164 : BitVec 32 := Scalar.extui v163
  let v165 : BitVec 32 := Scalar.subi v162 v164
  let v166 : BitVec 1 := Scalar.cmpi .ne v160 v165
  let v167 : BitVec 32 := Scalar.remsi v107 c16_i32_65
  let c0_i32_70 : BitVec 32 := 0#32
  let v168 : BitVec 1 := Scalar.cmpi .ne v167 c0_i32_70
  let v169 : BitVec 1 := Scalar.andi v166 v168
  let v155 : BitVec 32 := Scalar.divsi v107 c16_i32_65
  let c1_i32_71 : BitVec 32 := 1#32
  let v170 : BitVec 32 := Scalar.subi v155 c1_i32_71
  let v171 : BitVec 32 := Scalar.select v169 v170 v155
  let v172 : BitVec 32 := Scalar.subi v171 v154
  let c1_i32_73 : BitVec 32 := 1#32
  let v174 : BitVec 32 := Scalar.divsi v172 c1_i32_73
  let v175 : BitVec 32 := Scalar.muli v174 c1_i32_73
  let v176 : BitVec 32 := Scalar.addi v154 v175
  let c1_i32_75 : BitVec 32 := 1#32
  let arg17 : BitVec 32 := Scf.iv v176 c1_i32_75 k0_t13
  let c16_i32_89 : BitVec 32 := 16#32
  let v205 : BitVec 32 := Scalar.muli arg17 c16_i32_89
  let c0_i32_103 : BitVec 32 := 0#32
  let v255 : BitVec 32 := Scalar.addi v205 c0_i32_103
  let c128_i32 : BitVec 32 := 128#32
  let v256 : BitVec 32 := Scalar.muli v255 c128_i32
  let v257 : BitVec 32 := Scalar.addi v108 v256
  let v258 : BitVec 32 := Scalar.addi v257 c0_i32_104
  let v259 : Index := Scalar.indexCast v258
  ![v259.toNat]
def k0_cond65 (v211 : BitVec 32) (v213 : BitVec 32) : BitVec 1 :=
  let v217 : BitVec 1 := Scalar.cmpi .ne v213 v211
  let v218 : BitVec 32 := Scalar.extui v217
  let c0_i32_92 : BitVec 32 := 0#32
  let v219 : BitVec 1 := Scalar.cmpi .ne v218 c0_i32_92
  v219

def k0_off205 (i : grid0.Coords) (v211 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v211 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond66 (v211 : BitVec 32) (v253 : BitVec 32) : BitVec 1 :=
  let v254 : BitVec 1 := Scalar.cmpi .ne v253 v211
  let c0_i32_120 : BitVec 32 := 0#32
  let v311 : BitVec 1 := Scalar.cmpi .sge v211 c0_i32_120
  let v312 : BitVec 1 := Scalar.andi v254 v311
  let v313 : BitVec 32 := Scalar.extui v312
  let c0_i32_121 : BitVec 32 := 0#32
  let v314 : BitVec 1 := Scalar.cmpi .ne v313 c0_i32_121
  v314

def k0_off206 (i : grid0.Coords) (v211 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v211 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk60 (i : grid0.Coords) (v211 : BitVec 32) (v213 : BitVec 32) (v253 : BitVec 32) : Prop :=
  (∀ (k0_h65 : k0_cond65 v211 v213 = 1#1), ∀ (k0_h66 : k0_cond66 v211 v253 = 1#1), ∀ (r : Fin 8), ∀ a, (k0_off205 i v211 (BitVec.ofNat 32 (16 * r.val))) a + S16.size a ≤ S81920.size a) ∧
  (∀ (k0_h65 : k0_cond65 v211 v213 = 1#1), ∀ (k0_h66 : k0_cond66 v211 v253 = 1#1), ∀ (r : Fin 8), ∀ a, (k0_off206 i v211 (BitVec.ofNat 32 (16 * r.val))) a + S16.size a ≤ S81920.size a)
theorem k0_off205_inb : ∀ (i : grid0.Coords) (v211 : BitVec 32) (v213 : BitVec 32) (v253 : BitVec 32) (k0_hw60 : k0_chk60 i v211 v213 v253), ∀ (k0_h65 : k0_cond65 v211 v213 = 1#1), ∀ (k0_h66 : k0_cond66 v211 v253 = 1#1), ∀ (r : Fin 8), ∀ a, (k0_off205 i v211 (BitVec.ofNat 32 (16 * r.val))) a + S16.size a ≤ S81920.size a := fun i v211 v213 v253 k0_hw60 k0_h65 k0_h66 r => k0_hw60.1 k0_h65 k0_h66 r
theorem k0_off206_inb : ∀ (i : grid0.Coords) (v211 : BitVec 32) (v213 : BitVec 32) (v253 : BitVec 32) (k0_hw60 : k0_chk60 i v211 v213 v253), ∀ (k0_h65 : k0_cond65 v211 v213 = 1#1), ∀ (k0_h66 : k0_cond66 v211 v253 = 1#1), ∀ (r : Fin 8), ∀ a, (k0_off206 i v211 (BitVec.ofNat 32 (16 * r.val))) a + S16.size a ≤ S81920.size a := fun i v211 v213 v253 k0_hw60 k0_h65 k0_h66 r => k0_hw60.2 k0_h65 k0_h66 r

def k0_off207 (v5 : BitVec 32) (v7 : BitVec 32) (k0_t9 : Fin (k0_t9_loop v5 v7).trips) (k0_t13 : Fin (k0_t13_loop v5 v7 k0_t9).trips) (c0_i32_124 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c0_i32_66 : BitVec 32 := 0#32
  let v156 : BitVec 1 := Scalar.cmpi .sgt v107 c0_i32_66
  let v157 : BitVec 32 := Scalar.extui v156
  let c0_i32_67 : BitVec 32 := 0#32
  let v158 : BitVec 1 := Scalar.cmpi .slt v107 c0_i32_67
  let v159 : BitVec 32 := Scalar.extui v158
  let v160 : BitVec 32 := Scalar.subi v157 v159
  let c16_i32_65 : BitVec 32 := 16#32
  let c0_i32_68 : BitVec 32 := 0#32
  let v161 : BitVec 1 := Scalar.cmpi .sgt c16_i32_65 c0_i32_68
  let v162 : BitVec 32 := Scalar.extui v161
  let c0_i32_69 : BitVec 32 := 0#32
  let v163 : BitVec 1 := Scalar.cmpi .slt c16_i32_65 c0_i32_69
  let v164 : BitVec 32 := Scalar.extui v163
  let v165 : BitVec 32 := Scalar.subi v162 v164
  let v166 : BitVec 1 := Scalar.cmpi .ne v160 v165
  let v167 : BitVec 32 := Scalar.remsi v107 c16_i32_65
  let c0_i32_70 : BitVec 32 := 0#32
  let v168 : BitVec 1 := Scalar.cmpi .ne v167 c0_i32_70
  let v169 : BitVec 1 := Scalar.andi v166 v168
  let v155 : BitVec 32 := Scalar.divsi v107 c16_i32_65
  let c1_i32_71 : BitVec 32 := 1#32
  let v170 : BitVec 32 := Scalar.subi v155 c1_i32_71
  let v171 : BitVec 32 := Scalar.select v169 v170 v155
  let v172 : BitVec 32 := Scalar.subi v171 v154
  let c1_i32_73 : BitVec 32 := 1#32
  let v174 : BitVec 32 := Scalar.divsi v172 c1_i32_73
  let v175 : BitVec 32 := Scalar.muli v174 c1_i32_73
  let v176 : BitVec 32 := Scalar.addi v154 v175
  let c1_i32_75 : BitVec 32 := 1#32
  let arg17 : BitVec 32 := Scf.iv v176 c1_i32_75 k0_t13
  let c16_i32_89 : BitVec 32 := 16#32
  let v205 : BitVec 32 := Scalar.muli arg17 c16_i32_89
  let c1_i32_122 : BitVec 32 := 1#32
  let v350 : BitVec 32 := Scalar.addi v205 c1_i32_122
  let c128_i32_123 : BitVec 32 := 128#32
  let v351 : BitVec 32 := Scalar.muli v350 c128_i32_123
  let v352 : BitVec 32 := Scalar.addi v108 v351
  let v353 : BitVec 32 := Scalar.addi v352 c0_i32_124
  let v354 : Index := Scalar.indexCast v353
  ![v354.toNat]
def k0_off208 (i : grid0.Coords) (v253 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v253 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond67 (v253 : BitVec 32) (v348 : BitVec 32) : BitVec 1 :=
  let v349 : BitVec 1 := Scalar.cmpi .ne v348 v253
  let c0_i32_146 : BitVec 32 := 0#32
  let v406 : BitVec 1 := Scalar.cmpi .sge v253 c0_i32_146
  let v407 : BitVec 1 := Scalar.andi v349 v406
  let v408 : BitVec 32 := Scalar.extui v407
  let c0_i32_147 : BitVec 32 := 0#32
  let v409 : BitVec 1 := Scalar.cmpi .ne v408 c0_i32_147
  v409

def k0_off209 (i : grid0.Coords) (v253 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v253 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk61 (i : grid0.Coords) (v211 : BitVec 32) (v213 : BitVec 32) (v253 : BitVec 32) (v348 : BitVec 32) : Prop :=
  (∀ (k0_h65 : k0_cond65 v211 v213 = 1#1), ∀ (k0_h67 : k0_cond67 v253 v348 = 1#1), ∀ (r : Fin 8), ∀ a, (k0_off208 i v253 (BitVec.ofNat 32 (16 * r.val))) a + S16.size a ≤ S81920.size a) ∧
  (∀ (k0_h65 : k0_cond65 v211 v213 = 1#1), ∀ (k0_h67 : k0_cond67 v253 v348 = 1#1), ∀ (r : Fin 8), ∀ a, (k0_off209 i v253 (BitVec.ofNat 32 (16 * r.val))) a + S16.size a ≤ S81920.size a)
theorem k0_off208_inb : ∀ (i : grid0.Coords) (v211 : BitVec 32) (v213 : BitVec 32) (v253 : BitVec 32) (v348 : BitVec 32) (k0_hw61 : k0_chk61 i v211 v213 v253 v348), ∀ (k0_h65 : k0_cond65 v211 v213 = 1#1), ∀ (k0_h67 : k0_cond67 v253 v348 = 1#1), ∀ (r : Fin 8), ∀ a, (k0_off208 i v253 (BitVec.ofNat 32 (16 * r.val))) a + S16.size a ≤ S81920.size a := fun i v211 v213 v253 v348 k0_hw61 k0_h65 k0_h67 r => k0_hw61.1 k0_h65 k0_h67 r
theorem k0_off209_inb : ∀ (i : grid0.Coords) (v211 : BitVec 32) (v213 : BitVec 32) (v253 : BitVec 32) (v348 : BitVec 32) (k0_hw61 : k0_chk61 i v211 v213 v253 v348), ∀ (k0_h65 : k0_cond65 v211 v213 = 1#1), ∀ (k0_h67 : k0_cond67 v253 v348 = 1#1), ∀ (r : Fin 8), ∀ a, (k0_off209 i v253 (BitVec.ofNat 32 (16 * r.val))) a + S16.size a ≤ S81920.size a := fun i v211 v213 v253 v348 k0_hw61 k0_h65 k0_h67 r => k0_hw61.2 k0_h65 k0_h67 r

def k0_off210 (v5 : BitVec 32) (v7 : BitVec 32) (k0_t9 : Fin (k0_t9_loop v5 v7).trips) (k0_t13 : Fin (k0_t13_loop v5 v7 k0_t9).trips) (c0_i32_150 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c0_i32_66 : BitVec 32 := 0#32
  let v156 : BitVec 1 := Scalar.cmpi .sgt v107 c0_i32_66
  let v157 : BitVec 32 := Scalar.extui v156
  let c0_i32_67 : BitVec 32 := 0#32
  let v158 : BitVec 1 := Scalar.cmpi .slt v107 c0_i32_67
  let v159 : BitVec 32 := Scalar.extui v158
  let v160 : BitVec 32 := Scalar.subi v157 v159
  let c16_i32_65 : BitVec 32 := 16#32
  let c0_i32_68 : BitVec 32 := 0#32
  let v161 : BitVec 1 := Scalar.cmpi .sgt c16_i32_65 c0_i32_68
  let v162 : BitVec 32 := Scalar.extui v161
  let c0_i32_69 : BitVec 32 := 0#32
  let v163 : BitVec 1 := Scalar.cmpi .slt c16_i32_65 c0_i32_69
  let v164 : BitVec 32 := Scalar.extui v163
  let v165 : BitVec 32 := Scalar.subi v162 v164
  let v166 : BitVec 1 := Scalar.cmpi .ne v160 v165
  let v167 : BitVec 32 := Scalar.remsi v107 c16_i32_65
  let c0_i32_70 : BitVec 32 := 0#32
  let v168 : BitVec 1 := Scalar.cmpi .ne v167 c0_i32_70
  let v169 : BitVec 1 := Scalar.andi v166 v168
  let v155 : BitVec 32 := Scalar.divsi v107 c16_i32_65
  let c1_i32_71 : BitVec 32 := 1#32
  let v170 : BitVec 32 := Scalar.subi v155 c1_i32_71
  let v171 : BitVec 32 := Scalar.select v169 v170 v155
  let v172 : BitVec 32 := Scalar.subi v171 v154
  let c1_i32_73 : BitVec 32 := 1#32
  let v174 : BitVec 32 := Scalar.divsi v172 c1_i32_73
  let v175 : BitVec 32 := Scalar.muli v174 c1_i32_73
  let v176 : BitVec 32 := Scalar.addi v154 v175
  let c1_i32_75 : BitVec 32 := 1#32
  let arg17 : BitVec 32 := Scf.iv v176 c1_i32_75 k0_t13
  let c16_i32_89 : BitVec 32 := 16#32
  let v205 : BitVec 32 := Scalar.muli arg17 c16_i32_89
  let c2_i32_148 : BitVec 32 := 2#32
  let v445 : BitVec 32 := Scalar.addi v205 c2_i32_148
  let c128_i32_149 : BitVec 32 := 128#32
  let v446 : BitVec 32 := Scalar.muli v445 c128_i32_149
  let v447 : BitVec 32 := Scalar.addi v108 v446
  let v448 : BitVec 32 := Scalar.addi v447 c0_i32_150
  let v449 : Index := Scalar.indexCast v448
  ![v449.toNat]
def k0_off211 (i : grid0.Coords) (v348 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v348 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond68 (v348 : BitVec 32) (v443 : BitVec 32) : BitVec 1 :=
  let v444 : BitVec 1 := Scalar.cmpi .ne v443 v348
  let c0_i32_172 : BitVec 32 := 0#32
  let v501 : BitVec 1 := Scalar.cmpi .sge v348 c0_i32_172
  let v502 : BitVec 1 := Scalar.andi v444 v501
  let v503 : BitVec 32 := Scalar.extui v502
  let c0_i32_173 : BitVec 32 := 0#32
  let v504 : BitVec 1 := Scalar.cmpi .ne v503 c0_i32_173
  v504

def k0_off212 (i : grid0.Coords) (v348 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v348 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk62 (i : grid0.Coords) (v211 : BitVec 32) (v213 : BitVec 32) (v348 : BitVec 32) (v443 : BitVec 32) : Prop :=
  (∀ (k0_h65 : k0_cond65 v211 v213 = 1#1), ∀ (k0_h68 : k0_cond68 v348 v443 = 1#1), ∀ (r : Fin 8), ∀ a, (k0_off211 i v348 (BitVec.ofNat 32 (16 * r.val))) a + S16.size a ≤ S81920.size a) ∧
  (∀ (k0_h65 : k0_cond65 v211 v213 = 1#1), ∀ (k0_h68 : k0_cond68 v348 v443 = 1#1), ∀ (r : Fin 8), ∀ a, (k0_off212 i v348 (BitVec.ofNat 32 (16 * r.val))) a + S16.size a ≤ S81920.size a)
theorem k0_off211_inb : ∀ (i : grid0.Coords) (v211 : BitVec 32) (v213 : BitVec 32) (v348 : BitVec 32) (v443 : BitVec 32) (k0_hw62 : k0_chk62 i v211 v213 v348 v443), ∀ (k0_h65 : k0_cond65 v211 v213 = 1#1), ∀ (k0_h68 : k0_cond68 v348 v443 = 1#1), ∀ (r : Fin 8), ∀ a, (k0_off211 i v348 (BitVec.ofNat 32 (16 * r.val))) a + S16.size a ≤ S81920.size a := fun i v211 v213 v348 v443 k0_hw62 k0_h65 k0_h68 r => k0_hw62.1 k0_h65 k0_h68 r
theorem k0_off212_inb : ∀ (i : grid0.Coords) (v211 : BitVec 32) (v213 : BitVec 32) (v348 : BitVec 32) (v443 : BitVec 32) (k0_hw62 : k0_chk62 i v211 v213 v348 v443), ∀ (k0_h65 : k0_cond65 v211 v213 = 1#1), ∀ (k0_h68 : k0_cond68 v348 v443 = 1#1), ∀ (r : Fin 8), ∀ a, (k0_off212 i v348 (BitVec.ofNat 32 (16 * r.val))) a + S16.size a ≤ S81920.size a := fun i v211 v213 v348 v443 k0_hw62 k0_h65 k0_h68 r => k0_hw62.2 k0_h65 k0_h68 r

def k0_off213 (v5 : BitVec 32) (v7 : BitVec 32) (k0_t9 : Fin (k0_t9_loop v5 v7).trips) (k0_t13 : Fin (k0_t13_loop v5 v7 k0_t9).trips) (c0_i32_175 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c0_i32_66 : BitVec 32 := 0#32
  let v156 : BitVec 1 := Scalar.cmpi .sgt v107 c0_i32_66
  let v157 : BitVec 32 := Scalar.extui v156
  let c0_i32_67 : BitVec 32 := 0#32
  let v158 : BitVec 1 := Scalar.cmpi .slt v107 c0_i32_67
  let v159 : BitVec 32 := Scalar.extui v158
  let v160 : BitVec 32 := Scalar.subi v157 v159
  let c16_i32_65 : BitVec 32 := 16#32
  let c0_i32_68 : BitVec 32 := 0#32
  let v161 : BitVec 1 := Scalar.cmpi .sgt c16_i32_65 c0_i32_68
  let v162 : BitVec 32 := Scalar.extui v161
  let c0_i32_69 : BitVec 32 := 0#32
  let v163 : BitVec 1 := Scalar.cmpi .slt c16_i32_65 c0_i32_69
  let v164 : BitVec 32 := Scalar.extui v163
  let v165 : BitVec 32 := Scalar.subi v162 v164
  let v166 : BitVec 1 := Scalar.cmpi .ne v160 v165
  let v167 : BitVec 32 := Scalar.remsi v107 c16_i32_65
  let c0_i32_70 : BitVec 32 := 0#32
  let v168 : BitVec 1 := Scalar.cmpi .ne v167 c0_i32_70
  let v169 : BitVec 1 := Scalar.andi v166 v168
  let v155 : BitVec 32 := Scalar.divsi v107 c16_i32_65
  let c1_i32_71 : BitVec 32 := 1#32
  let v170 : BitVec 32 := Scalar.subi v155 c1_i32_71
  let v171 : BitVec 32 := Scalar.select v169 v170 v155
  let v172 : BitVec 32 := Scalar.subi v171 v154
  let c1_i32_73 : BitVec 32 := 1#32
  let v174 : BitVec 32 := Scalar.divsi v172 c1_i32_73
  let v175 : BitVec 32 := Scalar.muli v174 c1_i32_73
  let v176 : BitVec 32 := Scalar.addi v154 v175
  let c1_i32_75 : BitVec 32 := 1#32
  let arg17 : BitVec 32 := Scf.iv v176 c1_i32_75 k0_t13
  let c16_i32_89 : BitVec 32 := 16#32
  let v205 : BitVec 32 := Scalar.muli arg17 c16_i32_89
  let c3_i32 : BitVec 32 := 3#32
  let v540 : BitVec 32 := Scalar.addi v205 c3_i32
  let c128_i32_174 : BitVec 32 := 128#32
  let v541 : BitVec 32 := Scalar.muli v540 c128_i32_174
  let v542 : BitVec 32 := Scalar.addi v108 v541
  let v543 : BitVec 32 := Scalar.addi v542 c0_i32_175
  let v544 : Index := Scalar.indexCast v543
  ![v544.toNat]
def k0_off214 (i : grid0.Coords) (v443 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v443 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond69 (v443 : BitVec 32) (v538 : BitVec 32) : BitVec 1 :=
  let v539 : BitVec 1 := Scalar.cmpi .ne v538 v443
  let c0_i32_197 : BitVec 32 := 0#32
  let v596 : BitVec 1 := Scalar.cmpi .sge v443 c0_i32_197
  let v597 : BitVec 1 := Scalar.andi v539 v596
  let v598 : BitVec 32 := Scalar.extui v597
  let c0_i32_198 : BitVec 32 := 0#32
  let v599 : BitVec 1 := Scalar.cmpi .ne v598 c0_i32_198
  v599

def k0_off215 (i : grid0.Coords) (v443 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v443 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk63 (i : grid0.Coords) (v211 : BitVec 32) (v213 : BitVec 32) (v443 : BitVec 32) (v538 : BitVec 32) : Prop :=
  (∀ (k0_h65 : k0_cond65 v211 v213 = 1#1), ∀ (k0_h69 : k0_cond69 v443 v538 = 1#1), ∀ (r : Fin 8), ∀ a, (k0_off214 i v443 (BitVec.ofNat 32 (16 * r.val))) a + S16.size a ≤ S81920.size a) ∧
  (∀ (k0_h65 : k0_cond65 v211 v213 = 1#1), ∀ (k0_h69 : k0_cond69 v443 v538 = 1#1), ∀ (r : Fin 8), ∀ a, (k0_off215 i v443 (BitVec.ofNat 32 (16 * r.val))) a + S16.size a ≤ S81920.size a)
theorem k0_off214_inb : ∀ (i : grid0.Coords) (v211 : BitVec 32) (v213 : BitVec 32) (v443 : BitVec 32) (v538 : BitVec 32) (k0_hw63 : k0_chk63 i v211 v213 v443 v538), ∀ (k0_h65 : k0_cond65 v211 v213 = 1#1), ∀ (k0_h69 : k0_cond69 v443 v538 = 1#1), ∀ (r : Fin 8), ∀ a, (k0_off214 i v443 (BitVec.ofNat 32 (16 * r.val))) a + S16.size a ≤ S81920.size a := fun i v211 v213 v443 v538 k0_hw63 k0_h65 k0_h69 r => k0_hw63.1 k0_h65 k0_h69 r
theorem k0_off215_inb : ∀ (i : grid0.Coords) (v211 : BitVec 32) (v213 : BitVec 32) (v443 : BitVec 32) (v538 : BitVec 32) (k0_hw63 : k0_chk63 i v211 v213 v443 v538), ∀ (k0_h65 : k0_cond65 v211 v213 = 1#1), ∀ (k0_h69 : k0_cond69 v443 v538 = 1#1), ∀ (r : Fin 8), ∀ a, (k0_off215 i v443 (BitVec.ofNat 32 (16 * r.val))) a + S16.size a ≤ S81920.size a := fun i v211 v213 v443 v538 k0_hw63 k0_h65 k0_h69 r => k0_hw63.2 k0_h65 k0_h69 r

def k0_off216 (v5 : BitVec 32) (v7 : BitVec 32) (k0_t9 : Fin (k0_t9_loop v5 v7).trips) (k0_t13 : Fin (k0_t13_loop v5 v7 k0_t9).trips) (c0_i32_200 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c0_i32_66 : BitVec 32 := 0#32
  let v156 : BitVec 1 := Scalar.cmpi .sgt v107 c0_i32_66
  let v157 : BitVec 32 := Scalar.extui v156
  let c0_i32_67 : BitVec 32 := 0#32
  let v158 : BitVec 1 := Scalar.cmpi .slt v107 c0_i32_67
  let v159 : BitVec 32 := Scalar.extui v158
  let v160 : BitVec 32 := Scalar.subi v157 v159
  let c16_i32_65 : BitVec 32 := 16#32
  let c0_i32_68 : BitVec 32 := 0#32
  let v161 : BitVec 1 := Scalar.cmpi .sgt c16_i32_65 c0_i32_68
  let v162 : BitVec 32 := Scalar.extui v161
  let c0_i32_69 : BitVec 32 := 0#32
  let v163 : BitVec 1 := Scalar.cmpi .slt c16_i32_65 c0_i32_69
  let v164 : BitVec 32 := Scalar.extui v163
  let v165 : BitVec 32 := Scalar.subi v162 v164
  let v166 : BitVec 1 := Scalar.cmpi .ne v160 v165
  let v167 : BitVec 32 := Scalar.remsi v107 c16_i32_65
  let c0_i32_70 : BitVec 32 := 0#32
  let v168 : BitVec 1 := Scalar.cmpi .ne v167 c0_i32_70
  let v169 : BitVec 1 := Scalar.andi v166 v168
  let v155 : BitVec 32 := Scalar.divsi v107 c16_i32_65
  let c1_i32_71 : BitVec 32 := 1#32
  let v170 : BitVec 32 := Scalar.subi v155 c1_i32_71
  let v171 : BitVec 32 := Scalar.select v169 v170 v155
  let v172 : BitVec 32 := Scalar.subi v171 v154
  let c1_i32_73 : BitVec 32 := 1#32
  let v174 : BitVec 32 := Scalar.divsi v172 c1_i32_73
  let v175 : BitVec 32 := Scalar.muli v174 c1_i32_73
  let v176 : BitVec 32 := Scalar.addi v154 v175
  let c1_i32_75 : BitVec 32 := 1#32
  let arg17 : BitVec 32 := Scf.iv v176 c1_i32_75 k0_t13
  let c16_i32_89 : BitVec 32 := 16#32
  let v205 : BitVec 32 := Scalar.muli arg17 c16_i32_89
  let c4_i32 : BitVec 32 := 4#32
  let v635 : BitVec 32 := Scalar.addi v205 c4_i32
  let c128_i32_199 : BitVec 32 := 128#32
  let v636 : BitVec 32 := Scalar.muli v635 c128_i32_199
  let v637 : BitVec 32 := Scalar.addi v108 v636
  let v638 : BitVec 32 := Scalar.addi v637 c0_i32_200
  let v639 : Index := Scalar.indexCast v638
  ![v639.toNat]
def k0_off217 (i : grid0.Coords) (v538 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v538 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond70 (v538 : BitVec 32) (v633 : BitVec 32) : BitVec 1 :=
  let v634 : BitVec 1 := Scalar.cmpi .ne v633 v538
  let c0_i32_222 : BitVec 32 := 0#32
  let v691 : BitVec 1 := Scalar.cmpi .sge v538 c0_i32_222
  let v692 : BitVec 1 := Scalar.andi v634 v691
  let v693 : BitVec 32 := Scalar.extui v692
  let c0_i32_223 : BitVec 32 := 0#32
  let v694 : BitVec 1 := Scalar.cmpi .ne v693 c0_i32_223
  v694

def k0_off218 (i : grid0.Coords) (v538 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v538 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk64 (i : grid0.Coords) (v211 : BitVec 32) (v213 : BitVec 32) (v538 : BitVec 32) (v633 : BitVec 32) : Prop :=
  (∀ (k0_h65 : k0_cond65 v211 v213 = 1#1), ∀ (k0_h70 : k0_cond70 v538 v633 = 1#1), ∀ (r : Fin 8), ∀ a, (k0_off217 i v538 (BitVec.ofNat 32 (16 * r.val))) a + S16.size a ≤ S81920.size a) ∧
  (∀ (k0_h65 : k0_cond65 v211 v213 = 1#1), ∀ (k0_h70 : k0_cond70 v538 v633 = 1#1), ∀ (r : Fin 8), ∀ a, (k0_off218 i v538 (BitVec.ofNat 32 (16 * r.val))) a + S16.size a ≤ S81920.size a)
theorem k0_off217_inb : ∀ (i : grid0.Coords) (v211 : BitVec 32) (v213 : BitVec 32) (v538 : BitVec 32) (v633 : BitVec 32) (k0_hw64 : k0_chk64 i v211 v213 v538 v633), ∀ (k0_h65 : k0_cond65 v211 v213 = 1#1), ∀ (k0_h70 : k0_cond70 v538 v633 = 1#1), ∀ (r : Fin 8), ∀ a, (k0_off217 i v538 (BitVec.ofNat 32 (16 * r.val))) a + S16.size a ≤ S81920.size a := fun i v211 v213 v538 v633 k0_hw64 k0_h65 k0_h70 r => k0_hw64.1 k0_h65 k0_h70 r
theorem k0_off218_inb : ∀ (i : grid0.Coords) (v211 : BitVec 32) (v213 : BitVec 32) (v538 : BitVec 32) (v633 : BitVec 32) (k0_hw64 : k0_chk64 i v211 v213 v538 v633), ∀ (k0_h65 : k0_cond65 v211 v213 = 1#1), ∀ (k0_h70 : k0_cond70 v538 v633 = 1#1), ∀ (r : Fin 8), ∀ a, (k0_off218 i v538 (BitVec.ofNat 32 (16 * r.val))) a + S16.size a ≤ S81920.size a := fun i v211 v213 v538 v633 k0_hw64 k0_h65 k0_h70 r => k0_hw64.2 k0_h65 k0_h70 r

def k0_off219 (v5 : BitVec 32) (v7 : BitVec 32) (k0_t9 : Fin (k0_t9_loop v5 v7).trips) (k0_t13 : Fin (k0_t13_loop v5 v7 k0_t9).trips) (c0_i32_225 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c0_i32_66 : BitVec 32 := 0#32
  let v156 : BitVec 1 := Scalar.cmpi .sgt v107 c0_i32_66
  let v157 : BitVec 32 := Scalar.extui v156
  let c0_i32_67 : BitVec 32 := 0#32
  let v158 : BitVec 1 := Scalar.cmpi .slt v107 c0_i32_67
  let v159 : BitVec 32 := Scalar.extui v158
  let v160 : BitVec 32 := Scalar.subi v157 v159
  let c16_i32_65 : BitVec 32 := 16#32
  let c0_i32_68 : BitVec 32 := 0#32
  let v161 : BitVec 1 := Scalar.cmpi .sgt c16_i32_65 c0_i32_68
  let v162 : BitVec 32 := Scalar.extui v161
  let c0_i32_69 : BitVec 32 := 0#32
  let v163 : BitVec 1 := Scalar.cmpi .slt c16_i32_65 c0_i32_69
  let v164 : BitVec 32 := Scalar.extui v163
  let v165 : BitVec 32 := Scalar.subi v162 v164
  let v166 : BitVec 1 := Scalar.cmpi .ne v160 v165
  let v167 : BitVec 32 := Scalar.remsi v107 c16_i32_65
  let c0_i32_70 : BitVec 32 := 0#32
  let v168 : BitVec 1 := Scalar.cmpi .ne v167 c0_i32_70
  let v169 : BitVec 1 := Scalar.andi v166 v168
  let v155 : BitVec 32 := Scalar.divsi v107 c16_i32_65
  let c1_i32_71 : BitVec 32 := 1#32
  let v170 : BitVec 32 := Scalar.subi v155 c1_i32_71
  let v171 : BitVec 32 := Scalar.select v169 v170 v155
  let v172 : BitVec 32 := Scalar.subi v171 v154
  let c1_i32_73 : BitVec 32 := 1#32
  let v174 : BitVec 32 := Scalar.divsi v172 c1_i32_73
  let v175 : BitVec 32 := Scalar.muli v174 c1_i32_73
  let v176 : BitVec 32 := Scalar.addi v154 v175
  let c1_i32_75 : BitVec 32 := 1#32
  let arg17 : BitVec 32 := Scf.iv v176 c1_i32_75 k0_t13
  let c16_i32_89 : BitVec 32 := 16#32
  let v205 : BitVec 32 := Scalar.muli arg17 c16_i32_89
  let c5_i32 : BitVec 32 := 5#32
  let v730 : BitVec 32 := Scalar.addi v205 c5_i32
  let c128_i32_224 : BitVec 32 := 128#32
  let v731 : BitVec 32 := Scalar.muli v730 c128_i32_224
  let v732 : BitVec 32 := Scalar.addi v108 v731
  let v733 : BitVec 32 := Scalar.addi v732 c0_i32_225
  let v734 : Index := Scalar.indexCast v733
  ![v734.toNat]
def k0_off220 (i : grid0.Coords) (v633 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v633 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond71 (v633 : BitVec 32) (v728 : BitVec 32) : BitVec 1 :=
  let v729 : BitVec 1 := Scalar.cmpi .ne v728 v633
  let c0_i32_247 : BitVec 32 := 0#32
  let v786 : BitVec 1 := Scalar.cmpi .sge v633 c0_i32_247
  let v787 : BitVec 1 := Scalar.andi v729 v786
  let v788 : BitVec 32 := Scalar.extui v787
  let c0_i32_248 : BitVec 32 := 0#32
  let v789 : BitVec 1 := Scalar.cmpi .ne v788 c0_i32_248
  v789

def k0_off221 (i : grid0.Coords) (v633 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v633 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk65 (i : grid0.Coords) (v211 : BitVec 32) (v213 : BitVec 32) (v633 : BitVec 32) (v728 : BitVec 32) : Prop :=
  (∀ (k0_h65 : k0_cond65 v211 v213 = 1#1), ∀ (k0_h71 : k0_cond71 v633 v728 = 1#1), ∀ (r : Fin 8), ∀ a, (k0_off220 i v633 (BitVec.ofNat 32 (16 * r.val))) a + S16.size a ≤ S81920.size a) ∧
  (∀ (k0_h65 : k0_cond65 v211 v213 = 1#1), ∀ (k0_h71 : k0_cond71 v633 v728 = 1#1), ∀ (r : Fin 8), ∀ a, (k0_off221 i v633 (BitVec.ofNat 32 (16 * r.val))) a + S16.size a ≤ S81920.size a)
theorem k0_off220_inb : ∀ (i : grid0.Coords) (v211 : BitVec 32) (v213 : BitVec 32) (v633 : BitVec 32) (v728 : BitVec 32) (k0_hw65 : k0_chk65 i v211 v213 v633 v728), ∀ (k0_h65 : k0_cond65 v211 v213 = 1#1), ∀ (k0_h71 : k0_cond71 v633 v728 = 1#1), ∀ (r : Fin 8), ∀ a, (k0_off220 i v633 (BitVec.ofNat 32 (16 * r.val))) a + S16.size a ≤ S81920.size a := fun i v211 v213 v633 v728 k0_hw65 k0_h65 k0_h71 r => k0_hw65.1 k0_h65 k0_h71 r
theorem k0_off221_inb : ∀ (i : grid0.Coords) (v211 : BitVec 32) (v213 : BitVec 32) (v633 : BitVec 32) (v728 : BitVec 32) (k0_hw65 : k0_chk65 i v211 v213 v633 v728), ∀ (k0_h65 : k0_cond65 v211 v213 = 1#1), ∀ (k0_h71 : k0_cond71 v633 v728 = 1#1), ∀ (r : Fin 8), ∀ a, (k0_off221 i v633 (BitVec.ofNat 32 (16 * r.val))) a + S16.size a ≤ S81920.size a := fun i v211 v213 v633 v728 k0_hw65 k0_h65 k0_h71 r => k0_hw65.2 k0_h65 k0_h71 r

def k0_off222 (v5 : BitVec 32) (v7 : BitVec 32) (k0_t9 : Fin (k0_t9_loop v5 v7).trips) (k0_t13 : Fin (k0_t13_loop v5 v7 k0_t9).trips) (c0_i32_250 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c0_i32_66 : BitVec 32 := 0#32
  let v156 : BitVec 1 := Scalar.cmpi .sgt v107 c0_i32_66
  let v157 : BitVec 32 := Scalar.extui v156
  let c0_i32_67 : BitVec 32 := 0#32
  let v158 : BitVec 1 := Scalar.cmpi .slt v107 c0_i32_67
  let v159 : BitVec 32 := Scalar.extui v158
  let v160 : BitVec 32 := Scalar.subi v157 v159
  let c16_i32_65 : BitVec 32 := 16#32
  let c0_i32_68 : BitVec 32 := 0#32
  let v161 : BitVec 1 := Scalar.cmpi .sgt c16_i32_65 c0_i32_68
  let v162 : BitVec 32 := Scalar.extui v161
  let c0_i32_69 : BitVec 32 := 0#32
  let v163 : BitVec 1 := Scalar.cmpi .slt c16_i32_65 c0_i32_69
  let v164 : BitVec 32 := Scalar.extui v163
  let v165 : BitVec 32 := Scalar.subi v162 v164
  let v166 : BitVec 1 := Scalar.cmpi .ne v160 v165
  let v167 : BitVec 32 := Scalar.remsi v107 c16_i32_65
  let c0_i32_70 : BitVec 32 := 0#32
  let v168 : BitVec 1 := Scalar.cmpi .ne v167 c0_i32_70
  let v169 : BitVec 1 := Scalar.andi v166 v168
  let v155 : BitVec 32 := Scalar.divsi v107 c16_i32_65
  let c1_i32_71 : BitVec 32 := 1#32
  let v170 : BitVec 32 := Scalar.subi v155 c1_i32_71
  let v171 : BitVec 32 := Scalar.select v169 v170 v155
  let v172 : BitVec 32 := Scalar.subi v171 v154
  let c1_i32_73 : BitVec 32 := 1#32
  let v174 : BitVec 32 := Scalar.divsi v172 c1_i32_73
  let v175 : BitVec 32 := Scalar.muli v174 c1_i32_73
  let v176 : BitVec 32 := Scalar.addi v154 v175
  let c1_i32_75 : BitVec 32 := 1#32
  let arg17 : BitVec 32 := Scf.iv v176 c1_i32_75 k0_t13
  let c16_i32_89 : BitVec 32 := 16#32
  let v205 : BitVec 32 := Scalar.muli arg17 c16_i32_89
  let c6_i32 : BitVec 32 := 6#32
  let v825 : BitVec 32 := Scalar.addi v205 c6_i32
  let c128_i32_249 : BitVec 32 := 128#32
  let v826 : BitVec 32 := Scalar.muli v825 c128_i32_249
  let v827 : BitVec 32 := Scalar.addi v108 v826
  let v828 : BitVec 32 := Scalar.addi v827 c0_i32_250
  let v829 : Index := Scalar.indexCast v828
  ![v829.toNat]
def k0_off223 (i : grid0.Coords) (v728 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v728 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond72 (v728 : BitVec 32) (v823 : BitVec 32) : BitVec 1 :=
  let v824 : BitVec 1 := Scalar.cmpi .ne v823 v728
  let c0_i32_272 : BitVec 32 := 0#32
  let v881 : BitVec 1 := Scalar.cmpi .sge v728 c0_i32_272
  let v882 : BitVec 1 := Scalar.andi v824 v881
  let v883 : BitVec 32 := Scalar.extui v882
  let c0_i32_273 : BitVec 32 := 0#32
  let v884 : BitVec 1 := Scalar.cmpi .ne v883 c0_i32_273
  v884

def k0_off224 (i : grid0.Coords) (v728 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v728 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk66 (i : grid0.Coords) (v211 : BitVec 32) (v213 : BitVec 32) (v728 : BitVec 32) (v823 : BitVec 32) : Prop :=
  (∀ (k0_h65 : k0_cond65 v211 v213 = 1#1), ∀ (k0_h72 : k0_cond72 v728 v823 = 1#1), ∀ (r : Fin 8), ∀ a, (k0_off223 i v728 (BitVec.ofNat 32 (16 * r.val))) a + S16.size a ≤ S81920.size a) ∧
  (∀ (k0_h65 : k0_cond65 v211 v213 = 1#1), ∀ (k0_h72 : k0_cond72 v728 v823 = 1#1), ∀ (r : Fin 8), ∀ a, (k0_off224 i v728 (BitVec.ofNat 32 (16 * r.val))) a + S16.size a ≤ S81920.size a)
theorem k0_off223_inb : ∀ (i : grid0.Coords) (v211 : BitVec 32) (v213 : BitVec 32) (v728 : BitVec 32) (v823 : BitVec 32) (k0_hw66 : k0_chk66 i v211 v213 v728 v823), ∀ (k0_h65 : k0_cond65 v211 v213 = 1#1), ∀ (k0_h72 : k0_cond72 v728 v823 = 1#1), ∀ (r : Fin 8), ∀ a, (k0_off223 i v728 (BitVec.ofNat 32 (16 * r.val))) a + S16.size a ≤ S81920.size a := fun i v211 v213 v728 v823 k0_hw66 k0_h65 k0_h72 r => k0_hw66.1 k0_h65 k0_h72 r
theorem k0_off224_inb : ∀ (i : grid0.Coords) (v211 : BitVec 32) (v213 : BitVec 32) (v728 : BitVec 32) (v823 : BitVec 32) (k0_hw66 : k0_chk66 i v211 v213 v728 v823), ∀ (k0_h65 : k0_cond65 v211 v213 = 1#1), ∀ (k0_h72 : k0_cond72 v728 v823 = 1#1), ∀ (r : Fin 8), ∀ a, (k0_off224 i v728 (BitVec.ofNat 32 (16 * r.val))) a + S16.size a ≤ S81920.size a := fun i v211 v213 v728 v823 k0_hw66 k0_h65 k0_h72 r => k0_hw66.2 k0_h65 k0_h72 r

def k0_off225 (v5 : BitVec 32) (v7 : BitVec 32) (k0_t9 : Fin (k0_t9_loop v5 v7).trips) (k0_t13 : Fin (k0_t13_loop v5 v7 k0_t9).trips) (c0_i32_275 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c0_i32_66 : BitVec 32 := 0#32
  let v156 : BitVec 1 := Scalar.cmpi .sgt v107 c0_i32_66
  let v157 : BitVec 32 := Scalar.extui v156
  let c0_i32_67 : BitVec 32 := 0#32
  let v158 : BitVec 1 := Scalar.cmpi .slt v107 c0_i32_67
  let v159 : BitVec 32 := Scalar.extui v158
  let v160 : BitVec 32 := Scalar.subi v157 v159
  let c16_i32_65 : BitVec 32 := 16#32
  let c0_i32_68 : BitVec 32 := 0#32
  let v161 : BitVec 1 := Scalar.cmpi .sgt c16_i32_65 c0_i32_68
  let v162 : BitVec 32 := Scalar.extui v161
  let c0_i32_69 : BitVec 32 := 0#32
  let v163 : BitVec 1 := Scalar.cmpi .slt c16_i32_65 c0_i32_69
  let v164 : BitVec 32 := Scalar.extui v163
  let v165 : BitVec 32 := Scalar.subi v162 v164
  let v166 : BitVec 1 := Scalar.cmpi .ne v160 v165
  let v167 : BitVec 32 := Scalar.remsi v107 c16_i32_65
  let c0_i32_70 : BitVec 32 := 0#32
  let v168 : BitVec 1 := Scalar.cmpi .ne v167 c0_i32_70
  let v169 : BitVec 1 := Scalar.andi v166 v168
  let v155 : BitVec 32 := Scalar.divsi v107 c16_i32_65
  let c1_i32_71 : BitVec 32 := 1#32
  let v170 : BitVec 32 := Scalar.subi v155 c1_i32_71
  let v171 : BitVec 32 := Scalar.select v169 v170 v155
  let v172 : BitVec 32 := Scalar.subi v171 v154
  let c1_i32_73 : BitVec 32 := 1#32
  let v174 : BitVec 32 := Scalar.divsi v172 c1_i32_73
  let v175 : BitVec 32 := Scalar.muli v174 c1_i32_73
  let v176 : BitVec 32 := Scalar.addi v154 v175
  let c1_i32_75 : BitVec 32 := 1#32
  let arg17 : BitVec 32 := Scf.iv v176 c1_i32_75 k0_t13
  let c16_i32_89 : BitVec 32 := 16#32
  let v205 : BitVec 32 := Scalar.muli arg17 c16_i32_89
  let c7_i32 : BitVec 32 := 7#32
  let v920 : BitVec 32 := Scalar.addi v205 c7_i32
  let c128_i32_274 : BitVec 32 := 128#32
  let v921 : BitVec 32 := Scalar.muli v920 c128_i32_274
  let v922 : BitVec 32 := Scalar.addi v108 v921
  let v923 : BitVec 32 := Scalar.addi v922 c0_i32_275
  let v924 : Index := Scalar.indexCast v923
  ![v924.toNat]
def k0_off226 (i : grid0.Coords) (v823 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v823 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond73 (v823 : BitVec 32) (v918 : BitVec 32) : BitVec 1 :=
  let v919 : BitVec 1 := Scalar.cmpi .ne v918 v823
  let c0_i32_297 : BitVec 32 := 0#32
  let v976 : BitVec 1 := Scalar.cmpi .sge v823 c0_i32_297
  let v977 : BitVec 1 := Scalar.andi v919 v976
  let v978 : BitVec 32 := Scalar.extui v977
  let c0_i32_298 : BitVec 32 := 0#32
  let v979 : BitVec 1 := Scalar.cmpi .ne v978 c0_i32_298
  v979

def k0_off227 (i : grid0.Coords) (v823 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v823 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk67 (i : grid0.Coords) (v211 : BitVec 32) (v213 : BitVec 32) (v823 : BitVec 32) (v918 : BitVec 32) : Prop :=
  (∀ (k0_h65 : k0_cond65 v211 v213 = 1#1), ∀ (k0_h73 : k0_cond73 v823 v918 = 1#1), ∀ (r : Fin 8), ∀ a, (k0_off226 i v823 (BitVec.ofNat 32 (16 * r.val))) a + S16.size a ≤ S81920.size a) ∧
  (∀ (k0_h65 : k0_cond65 v211 v213 = 1#1), ∀ (k0_h73 : k0_cond73 v823 v918 = 1#1), ∀ (r : Fin 8), ∀ a, (k0_off227 i v823 (BitVec.ofNat 32 (16 * r.val))) a + S16.size a ≤ S81920.size a)
theorem k0_off226_inb : ∀ (i : grid0.Coords) (v211 : BitVec 32) (v213 : BitVec 32) (v823 : BitVec 32) (v918 : BitVec 32) (k0_hw67 : k0_chk67 i v211 v213 v823 v918), ∀ (k0_h65 : k0_cond65 v211 v213 = 1#1), ∀ (k0_h73 : k0_cond73 v823 v918 = 1#1), ∀ (r : Fin 8), ∀ a, (k0_off226 i v823 (BitVec.ofNat 32 (16 * r.val))) a + S16.size a ≤ S81920.size a := fun i v211 v213 v823 v918 k0_hw67 k0_h65 k0_h73 r => k0_hw67.1 k0_h65 k0_h73 r
theorem k0_off227_inb : ∀ (i : grid0.Coords) (v211 : BitVec 32) (v213 : BitVec 32) (v823 : BitVec 32) (v918 : BitVec 32) (k0_hw67 : k0_chk67 i v211 v213 v823 v918), ∀ (k0_h65 : k0_cond65 v211 v213 = 1#1), ∀ (k0_h73 : k0_cond73 v823 v918 = 1#1), ∀ (r : Fin 8), ∀ a, (k0_off227 i v823 (BitVec.ofNat 32 (16 * r.val))) a + S16.size a ≤ S81920.size a := fun i v211 v213 v823 v918 k0_hw67 k0_h65 k0_h73 r => k0_hw67.2 k0_h65 k0_h73 r

def k0_off228 (v5 : BitVec 32) (v7 : BitVec 32) (k0_t9 : Fin (k0_t9_loop v5 v7).trips) (k0_t13 : Fin (k0_t13_loop v5 v7 k0_t9).trips) (c0_i32_300 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c0_i32_66 : BitVec 32 := 0#32
  let v156 : BitVec 1 := Scalar.cmpi .sgt v107 c0_i32_66
  let v157 : BitVec 32 := Scalar.extui v156
  let c0_i32_67 : BitVec 32 := 0#32
  let v158 : BitVec 1 := Scalar.cmpi .slt v107 c0_i32_67
  let v159 : BitVec 32 := Scalar.extui v158
  let v160 : BitVec 32 := Scalar.subi v157 v159
  let c16_i32_65 : BitVec 32 := 16#32
  let c0_i32_68 : BitVec 32 := 0#32
  let v161 : BitVec 1 := Scalar.cmpi .sgt c16_i32_65 c0_i32_68
  let v162 : BitVec 32 := Scalar.extui v161
  let c0_i32_69 : BitVec 32 := 0#32
  let v163 : BitVec 1 := Scalar.cmpi .slt c16_i32_65 c0_i32_69
  let v164 : BitVec 32 := Scalar.extui v163
  let v165 : BitVec 32 := Scalar.subi v162 v164
  let v166 : BitVec 1 := Scalar.cmpi .ne v160 v165
  let v167 : BitVec 32 := Scalar.remsi v107 c16_i32_65
  let c0_i32_70 : BitVec 32 := 0#32
  let v168 : BitVec 1 := Scalar.cmpi .ne v167 c0_i32_70
  let v169 : BitVec 1 := Scalar.andi v166 v168
  let v155 : BitVec 32 := Scalar.divsi v107 c16_i32_65
  let c1_i32_71 : BitVec 32 := 1#32
  let v170 : BitVec 32 := Scalar.subi v155 c1_i32_71
  let v171 : BitVec 32 := Scalar.select v169 v170 v155
  let v172 : BitVec 32 := Scalar.subi v171 v154
  let c1_i32_73 : BitVec 32 := 1#32
  let v174 : BitVec 32 := Scalar.divsi v172 c1_i32_73
  let v175 : BitVec 32 := Scalar.muli v174 c1_i32_73
  let v176 : BitVec 32 := Scalar.addi v154 v175
  let c1_i32_75 : BitVec 32 := 1#32
  let arg17 : BitVec 32 := Scf.iv v176 c1_i32_75 k0_t13
  let c16_i32_89 : BitVec 32 := 16#32
  let v205 : BitVec 32 := Scalar.muli arg17 c16_i32_89
  let c8_i32 : BitVec 32 := 8#32
  let v1015 : BitVec 32 := Scalar.addi v205 c8_i32
  let c128_i32_299 : BitVec 32 := 128#32
  let v1016 : BitVec 32 := Scalar.muli v1015 c128_i32_299
  let v1017 : BitVec 32 := Scalar.addi v108 v1016
  let v1018 : BitVec 32 := Scalar.addi v1017 c0_i32_300
  let v1019 : Index := Scalar.indexCast v1018
  ![v1019.toNat]
def k0_off229 (i : grid0.Coords) (v918 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v918 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond74 (v918 : BitVec 32) (v1013 : BitVec 32) : BitVec 1 :=
  let v1014 : BitVec 1 := Scalar.cmpi .ne v1013 v918
  let c0_i32_322 : BitVec 32 := 0#32
  let v1071 : BitVec 1 := Scalar.cmpi .sge v918 c0_i32_322
  let v1072 : BitVec 1 := Scalar.andi v1014 v1071
  let v1073 : BitVec 32 := Scalar.extui v1072
  let c0_i32_323 : BitVec 32 := 0#32
  let v1074 : BitVec 1 := Scalar.cmpi .ne v1073 c0_i32_323
  v1074

def k0_off230 (i : grid0.Coords) (v918 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v918 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk68 (i : grid0.Coords) (v211 : BitVec 32) (v213 : BitVec 32) (v918 : BitVec 32) (v1013 : BitVec 32) : Prop :=
  (∀ (k0_h65 : k0_cond65 v211 v213 = 1#1), ∀ (k0_h74 : k0_cond74 v918 v1013 = 1#1), ∀ (r : Fin 8), ∀ a, (k0_off229 i v918 (BitVec.ofNat 32 (16 * r.val))) a + S16.size a ≤ S81920.size a) ∧
  (∀ (k0_h65 : k0_cond65 v211 v213 = 1#1), ∀ (k0_h74 : k0_cond74 v918 v1013 = 1#1), ∀ (r : Fin 8), ∀ a, (k0_off230 i v918 (BitVec.ofNat 32 (16 * r.val))) a + S16.size a ≤ S81920.size a)
theorem k0_off229_inb : ∀ (i : grid0.Coords) (v211 : BitVec 32) (v213 : BitVec 32) (v918 : BitVec 32) (v1013 : BitVec 32) (k0_hw68 : k0_chk68 i v211 v213 v918 v1013), ∀ (k0_h65 : k0_cond65 v211 v213 = 1#1), ∀ (k0_h74 : k0_cond74 v918 v1013 = 1#1), ∀ (r : Fin 8), ∀ a, (k0_off229 i v918 (BitVec.ofNat 32 (16 * r.val))) a + S16.size a ≤ S81920.size a := fun i v211 v213 v918 v1013 k0_hw68 k0_h65 k0_h74 r => k0_hw68.1 k0_h65 k0_h74 r
theorem k0_off230_inb : ∀ (i : grid0.Coords) (v211 : BitVec 32) (v213 : BitVec 32) (v918 : BitVec 32) (v1013 : BitVec 32) (k0_hw68 : k0_chk68 i v211 v213 v918 v1013), ∀ (k0_h65 : k0_cond65 v211 v213 = 1#1), ∀ (k0_h74 : k0_cond74 v918 v1013 = 1#1), ∀ (r : Fin 8), ∀ a, (k0_off230 i v918 (BitVec.ofNat 32 (16 * r.val))) a + S16.size a ≤ S81920.size a := fun i v211 v213 v918 v1013 k0_hw68 k0_h65 k0_h74 r => k0_hw68.2 k0_h65 k0_h74 r

def k0_off231 (v5 : BitVec 32) (v7 : BitVec 32) (k0_t9 : Fin (k0_t9_loop v5 v7).trips) (k0_t13 : Fin (k0_t13_loop v5 v7 k0_t9).trips) (c0_i32_325 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c0_i32_66 : BitVec 32 := 0#32
  let v156 : BitVec 1 := Scalar.cmpi .sgt v107 c0_i32_66
  let v157 : BitVec 32 := Scalar.extui v156
  let c0_i32_67 : BitVec 32 := 0#32
  let v158 : BitVec 1 := Scalar.cmpi .slt v107 c0_i32_67
  let v159 : BitVec 32 := Scalar.extui v158
  let v160 : BitVec 32 := Scalar.subi v157 v159
  let c16_i32_65 : BitVec 32 := 16#32
  let c0_i32_68 : BitVec 32 := 0#32
  let v161 : BitVec 1 := Scalar.cmpi .sgt c16_i32_65 c0_i32_68
  let v162 : BitVec 32 := Scalar.extui v161
  let c0_i32_69 : BitVec 32 := 0#32
  let v163 : BitVec 1 := Scalar.cmpi .slt c16_i32_65 c0_i32_69
  let v164 : BitVec 32 := Scalar.extui v163
  let v165 : BitVec 32 := Scalar.subi v162 v164
  let v166 : BitVec 1 := Scalar.cmpi .ne v160 v165
  let v167 : BitVec 32 := Scalar.remsi v107 c16_i32_65
  let c0_i32_70 : BitVec 32 := 0#32
  let v168 : BitVec 1 := Scalar.cmpi .ne v167 c0_i32_70
  let v169 : BitVec 1 := Scalar.andi v166 v168
  let v155 : BitVec 32 := Scalar.divsi v107 c16_i32_65
  let c1_i32_71 : BitVec 32 := 1#32
  let v170 : BitVec 32 := Scalar.subi v155 c1_i32_71
  let v171 : BitVec 32 := Scalar.select v169 v170 v155
  let v172 : BitVec 32 := Scalar.subi v171 v154
  let c1_i32_73 : BitVec 32 := 1#32
  let v174 : BitVec 32 := Scalar.divsi v172 c1_i32_73
  let v175 : BitVec 32 := Scalar.muli v174 c1_i32_73
  let v176 : BitVec 32 := Scalar.addi v154 v175
  let c1_i32_75 : BitVec 32 := 1#32
  let arg17 : BitVec 32 := Scf.iv v176 c1_i32_75 k0_t13
  let c16_i32_89 : BitVec 32 := 16#32
  let v205 : BitVec 32 := Scalar.muli arg17 c16_i32_89
  let c9_i32 : BitVec 32 := 9#32
  let v1110 : BitVec 32 := Scalar.addi v205 c9_i32
  let c128_i32_324 : BitVec 32 := 128#32
  let v1111 : BitVec 32 := Scalar.muli v1110 c128_i32_324
  let v1112 : BitVec 32 := Scalar.addi v108 v1111
  let v1113 : BitVec 32 := Scalar.addi v1112 c0_i32_325
  let v1114 : Index := Scalar.indexCast v1113
  ![v1114.toNat]
def k0_off232 (i : grid0.Coords) (v1013 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1013 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond75 (v1013 : BitVec 32) (v1108 : BitVec 32) : BitVec 1 :=
  let v1109 : BitVec 1 := Scalar.cmpi .ne v1108 v1013
  let c0_i32_347 : BitVec 32 := 0#32
  let v1166 : BitVec 1 := Scalar.cmpi .sge v1013 c0_i32_347
  let v1167 : BitVec 1 := Scalar.andi v1109 v1166
  let v1168 : BitVec 32 := Scalar.extui v1167
  let c0_i32_348 : BitVec 32 := 0#32
  let v1169 : BitVec 1 := Scalar.cmpi .ne v1168 c0_i32_348
  v1169

def k0_off233 (i : grid0.Coords) (v1013 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1013 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk69 (i : grid0.Coords) (v211 : BitVec 32) (v213 : BitVec 32) (v1013 : BitVec 32) (v1108 : BitVec 32) : Prop :=
  (∀ (k0_h65 : k0_cond65 v211 v213 = 1#1), ∀ (k0_h75 : k0_cond75 v1013 v1108 = 1#1), ∀ (r : Fin 8), ∀ a, (k0_off232 i v1013 (BitVec.ofNat 32 (16 * r.val))) a + S16.size a ≤ S81920.size a) ∧
  (∀ (k0_h65 : k0_cond65 v211 v213 = 1#1), ∀ (k0_h75 : k0_cond75 v1013 v1108 = 1#1), ∀ (r : Fin 8), ∀ a, (k0_off233 i v1013 (BitVec.ofNat 32 (16 * r.val))) a + S16.size a ≤ S81920.size a)
theorem k0_off232_inb : ∀ (i : grid0.Coords) (v211 : BitVec 32) (v213 : BitVec 32) (v1013 : BitVec 32) (v1108 : BitVec 32) (k0_hw69 : k0_chk69 i v211 v213 v1013 v1108), ∀ (k0_h65 : k0_cond65 v211 v213 = 1#1), ∀ (k0_h75 : k0_cond75 v1013 v1108 = 1#1), ∀ (r : Fin 8), ∀ a, (k0_off232 i v1013 (BitVec.ofNat 32 (16 * r.val))) a + S16.size a ≤ S81920.size a := fun i v211 v213 v1013 v1108 k0_hw69 k0_h65 k0_h75 r => k0_hw69.1 k0_h65 k0_h75 r
theorem k0_off233_inb : ∀ (i : grid0.Coords) (v211 : BitVec 32) (v213 : BitVec 32) (v1013 : BitVec 32) (v1108 : BitVec 32) (k0_hw69 : k0_chk69 i v211 v213 v1013 v1108), ∀ (k0_h65 : k0_cond65 v211 v213 = 1#1), ∀ (k0_h75 : k0_cond75 v1013 v1108 = 1#1), ∀ (r : Fin 8), ∀ a, (k0_off233 i v1013 (BitVec.ofNat 32 (16 * r.val))) a + S16.size a ≤ S81920.size a := fun i v211 v213 v1013 v1108 k0_hw69 k0_h65 k0_h75 r => k0_hw69.2 k0_h65 k0_h75 r

def k0_off234 (v5 : BitVec 32) (v7 : BitVec 32) (k0_t9 : Fin (k0_t9_loop v5 v7).trips) (k0_t13 : Fin (k0_t13_loop v5 v7 k0_t9).trips) (c0_i32_350 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c0_i32_66 : BitVec 32 := 0#32
  let v156 : BitVec 1 := Scalar.cmpi .sgt v107 c0_i32_66
  let v157 : BitVec 32 := Scalar.extui v156
  let c0_i32_67 : BitVec 32 := 0#32
  let v158 : BitVec 1 := Scalar.cmpi .slt v107 c0_i32_67
  let v159 : BitVec 32 := Scalar.extui v158
  let v160 : BitVec 32 := Scalar.subi v157 v159
  let c16_i32_65 : BitVec 32 := 16#32
  let c0_i32_68 : BitVec 32 := 0#32
  let v161 : BitVec 1 := Scalar.cmpi .sgt c16_i32_65 c0_i32_68
  let v162 : BitVec 32 := Scalar.extui v161
  let c0_i32_69 : BitVec 32 := 0#32
  let v163 : BitVec 1 := Scalar.cmpi .slt c16_i32_65 c0_i32_69
  let v164 : BitVec 32 := Scalar.extui v163
  let v165 : BitVec 32 := Scalar.subi v162 v164
  let v166 : BitVec 1 := Scalar.cmpi .ne v160 v165
  let v167 : BitVec 32 := Scalar.remsi v107 c16_i32_65
  let c0_i32_70 : BitVec 32 := 0#32
  let v168 : BitVec 1 := Scalar.cmpi .ne v167 c0_i32_70
  let v169 : BitVec 1 := Scalar.andi v166 v168
  let v155 : BitVec 32 := Scalar.divsi v107 c16_i32_65
  let c1_i32_71 : BitVec 32 := 1#32
  let v170 : BitVec 32 := Scalar.subi v155 c1_i32_71
  let v171 : BitVec 32 := Scalar.select v169 v170 v155
  let v172 : BitVec 32 := Scalar.subi v171 v154
  let c1_i32_73 : BitVec 32 := 1#32
  let v174 : BitVec 32 := Scalar.divsi v172 c1_i32_73
  let v175 : BitVec 32 := Scalar.muli v174 c1_i32_73
  let v176 : BitVec 32 := Scalar.addi v154 v175
  let c1_i32_75 : BitVec 32 := 1#32
  let arg17 : BitVec 32 := Scf.iv v176 c1_i32_75 k0_t13
  let c16_i32_89 : BitVec 32 := 16#32
  let v205 : BitVec 32 := Scalar.muli arg17 c16_i32_89
  let c10_i32 : BitVec 32 := 10#32
  let v1205 : BitVec 32 := Scalar.addi v205 c10_i32
  let c128_i32_349 : BitVec 32 := 128#32
  let v1206 : BitVec 32 := Scalar.muli v1205 c128_i32_349
  let v1207 : BitVec 32 := Scalar.addi v108 v1206
  let v1208 : BitVec 32 := Scalar.addi v1207 c0_i32_350
  let v1209 : Index := Scalar.indexCast v1208
  ![v1209.toNat]
def k0_off235 (i : grid0.Coords) (v1108 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1108 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond76 (v1108 : BitVec 32) (v1203 : BitVec 32) : BitVec 1 :=
  let v1204 : BitVec 1 := Scalar.cmpi .ne v1203 v1108
  let c0_i32_372 : BitVec 32 := 0#32
  let v1261 : BitVec 1 := Scalar.cmpi .sge v1108 c0_i32_372
  let v1262 : BitVec 1 := Scalar.andi v1204 v1261
  let v1263 : BitVec 32 := Scalar.extui v1262
  let c0_i32_373 : BitVec 32 := 0#32
  let v1264 : BitVec 1 := Scalar.cmpi .ne v1263 c0_i32_373
  v1264

def k0_off236 (i : grid0.Coords) (v1108 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1108 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk70 (i : grid0.Coords) (v211 : BitVec 32) (v213 : BitVec 32) (v1108 : BitVec 32) (v1203 : BitVec 32) : Prop :=
  (∀ (k0_h65 : k0_cond65 v211 v213 = 1#1), ∀ (k0_h76 : k0_cond76 v1108 v1203 = 1#1), ∀ (r : Fin 8), ∀ a, (k0_off235 i v1108 (BitVec.ofNat 32 (16 * r.val))) a + S16.size a ≤ S81920.size a) ∧
  (∀ (k0_h65 : k0_cond65 v211 v213 = 1#1), ∀ (k0_h76 : k0_cond76 v1108 v1203 = 1#1), ∀ (r : Fin 8), ∀ a, (k0_off236 i v1108 (BitVec.ofNat 32 (16 * r.val))) a + S16.size a ≤ S81920.size a)
theorem k0_off235_inb : ∀ (i : grid0.Coords) (v211 : BitVec 32) (v213 : BitVec 32) (v1108 : BitVec 32) (v1203 : BitVec 32) (k0_hw70 : k0_chk70 i v211 v213 v1108 v1203), ∀ (k0_h65 : k0_cond65 v211 v213 = 1#1), ∀ (k0_h76 : k0_cond76 v1108 v1203 = 1#1), ∀ (r : Fin 8), ∀ a, (k0_off235 i v1108 (BitVec.ofNat 32 (16 * r.val))) a + S16.size a ≤ S81920.size a := fun i v211 v213 v1108 v1203 k0_hw70 k0_h65 k0_h76 r => k0_hw70.1 k0_h65 k0_h76 r
theorem k0_off236_inb : ∀ (i : grid0.Coords) (v211 : BitVec 32) (v213 : BitVec 32) (v1108 : BitVec 32) (v1203 : BitVec 32) (k0_hw70 : k0_chk70 i v211 v213 v1108 v1203), ∀ (k0_h65 : k0_cond65 v211 v213 = 1#1), ∀ (k0_h76 : k0_cond76 v1108 v1203 = 1#1), ∀ (r : Fin 8), ∀ a, (k0_off236 i v1108 (BitVec.ofNat 32 (16 * r.val))) a + S16.size a ≤ S81920.size a := fun i v211 v213 v1108 v1203 k0_hw70 k0_h65 k0_h76 r => k0_hw70.2 k0_h65 k0_h76 r

def k0_off237 (v5 : BitVec 32) (v7 : BitVec 32) (k0_t9 : Fin (k0_t9_loop v5 v7).trips) (k0_t13 : Fin (k0_t13_loop v5 v7 k0_t9).trips) (c0_i32_375 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c0_i32_66 : BitVec 32 := 0#32
  let v156 : BitVec 1 := Scalar.cmpi .sgt v107 c0_i32_66
  let v157 : BitVec 32 := Scalar.extui v156
  let c0_i32_67 : BitVec 32 := 0#32
  let v158 : BitVec 1 := Scalar.cmpi .slt v107 c0_i32_67
  let v159 : BitVec 32 := Scalar.extui v158
  let v160 : BitVec 32 := Scalar.subi v157 v159
  let c16_i32_65 : BitVec 32 := 16#32
  let c0_i32_68 : BitVec 32 := 0#32
  let v161 : BitVec 1 := Scalar.cmpi .sgt c16_i32_65 c0_i32_68
  let v162 : BitVec 32 := Scalar.extui v161
  let c0_i32_69 : BitVec 32 := 0#32
  let v163 : BitVec 1 := Scalar.cmpi .slt c16_i32_65 c0_i32_69
  let v164 : BitVec 32 := Scalar.extui v163
  let v165 : BitVec 32 := Scalar.subi v162 v164
  let v166 : BitVec 1 := Scalar.cmpi .ne v160 v165
  let v167 : BitVec 32 := Scalar.remsi v107 c16_i32_65
  let c0_i32_70 : BitVec 32 := 0#32
  let v168 : BitVec 1 := Scalar.cmpi .ne v167 c0_i32_70
  let v169 : BitVec 1 := Scalar.andi v166 v168
  let v155 : BitVec 32 := Scalar.divsi v107 c16_i32_65
  let c1_i32_71 : BitVec 32 := 1#32
  let v170 : BitVec 32 := Scalar.subi v155 c1_i32_71
  let v171 : BitVec 32 := Scalar.select v169 v170 v155
  let v172 : BitVec 32 := Scalar.subi v171 v154
  let c1_i32_73 : BitVec 32 := 1#32
  let v174 : BitVec 32 := Scalar.divsi v172 c1_i32_73
  let v175 : BitVec 32 := Scalar.muli v174 c1_i32_73
  let v176 : BitVec 32 := Scalar.addi v154 v175
  let c1_i32_75 : BitVec 32 := 1#32
  let arg17 : BitVec 32 := Scf.iv v176 c1_i32_75 k0_t13
  let c16_i32_89 : BitVec 32 := 16#32
  let v205 : BitVec 32 := Scalar.muli arg17 c16_i32_89
  let c11_i32 : BitVec 32 := 11#32
  let v1300 : BitVec 32 := Scalar.addi v205 c11_i32
  let c128_i32_374 : BitVec 32 := 128#32
  let v1301 : BitVec 32 := Scalar.muli v1300 c128_i32_374
  let v1302 : BitVec 32 := Scalar.addi v108 v1301
  let v1303 : BitVec 32 := Scalar.addi v1302 c0_i32_375
  let v1304 : Index := Scalar.indexCast v1303
  ![v1304.toNat]
def k0_off238 (i : grid0.Coords) (v1203 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1203 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond77 (v1203 : BitVec 32) (v1298 : BitVec 32) : BitVec 1 :=
  let v1299 : BitVec 1 := Scalar.cmpi .ne v1298 v1203
  let c0_i32_397 : BitVec 32 := 0#32
  let v1356 : BitVec 1 := Scalar.cmpi .sge v1203 c0_i32_397
  let v1357 : BitVec 1 := Scalar.andi v1299 v1356
  let v1358 : BitVec 32 := Scalar.extui v1357
  let c0_i32_398 : BitVec 32 := 0#32
  let v1359 : BitVec 1 := Scalar.cmpi .ne v1358 c0_i32_398
  v1359

def k0_off239 (i : grid0.Coords) (v1203 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1203 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk71 (i : grid0.Coords) (v211 : BitVec 32) (v213 : BitVec 32) (v1203 : BitVec 32) (v1298 : BitVec 32) : Prop :=
  (∀ (k0_h65 : k0_cond65 v211 v213 = 1#1), ∀ (k0_h77 : k0_cond77 v1203 v1298 = 1#1), ∀ (r : Fin 8), ∀ a, (k0_off238 i v1203 (BitVec.ofNat 32 (16 * r.val))) a + S16.size a ≤ S81920.size a) ∧
  (∀ (k0_h65 : k0_cond65 v211 v213 = 1#1), ∀ (k0_h77 : k0_cond77 v1203 v1298 = 1#1), ∀ (r : Fin 8), ∀ a, (k0_off239 i v1203 (BitVec.ofNat 32 (16 * r.val))) a + S16.size a ≤ S81920.size a)
theorem k0_off238_inb : ∀ (i : grid0.Coords) (v211 : BitVec 32) (v213 : BitVec 32) (v1203 : BitVec 32) (v1298 : BitVec 32) (k0_hw71 : k0_chk71 i v211 v213 v1203 v1298), ∀ (k0_h65 : k0_cond65 v211 v213 = 1#1), ∀ (k0_h77 : k0_cond77 v1203 v1298 = 1#1), ∀ (r : Fin 8), ∀ a, (k0_off238 i v1203 (BitVec.ofNat 32 (16 * r.val))) a + S16.size a ≤ S81920.size a := fun i v211 v213 v1203 v1298 k0_hw71 k0_h65 k0_h77 r => k0_hw71.1 k0_h65 k0_h77 r
theorem k0_off239_inb : ∀ (i : grid0.Coords) (v211 : BitVec 32) (v213 : BitVec 32) (v1203 : BitVec 32) (v1298 : BitVec 32) (k0_hw71 : k0_chk71 i v211 v213 v1203 v1298), ∀ (k0_h65 : k0_cond65 v211 v213 = 1#1), ∀ (k0_h77 : k0_cond77 v1203 v1298 = 1#1), ∀ (r : Fin 8), ∀ a, (k0_off239 i v1203 (BitVec.ofNat 32 (16 * r.val))) a + S16.size a ≤ S81920.size a := fun i v211 v213 v1203 v1298 k0_hw71 k0_h65 k0_h77 r => k0_hw71.2 k0_h65 k0_h77 r

def k0_off240 (v5 : BitVec 32) (v7 : BitVec 32) (k0_t9 : Fin (k0_t9_loop v5 v7).trips) (k0_t13 : Fin (k0_t13_loop v5 v7 k0_t9).trips) (c0_i32_400 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c0_i32_66 : BitVec 32 := 0#32
  let v156 : BitVec 1 := Scalar.cmpi .sgt v107 c0_i32_66
  let v157 : BitVec 32 := Scalar.extui v156
  let c0_i32_67 : BitVec 32 := 0#32
  let v158 : BitVec 1 := Scalar.cmpi .slt v107 c0_i32_67
  let v159 : BitVec 32 := Scalar.extui v158
  let v160 : BitVec 32 := Scalar.subi v157 v159
  let c16_i32_65 : BitVec 32 := 16#32
  let c0_i32_68 : BitVec 32 := 0#32
  let v161 : BitVec 1 := Scalar.cmpi .sgt c16_i32_65 c0_i32_68
  let v162 : BitVec 32 := Scalar.extui v161
  let c0_i32_69 : BitVec 32 := 0#32
  let v163 : BitVec 1 := Scalar.cmpi .slt c16_i32_65 c0_i32_69
  let v164 : BitVec 32 := Scalar.extui v163
  let v165 : BitVec 32 := Scalar.subi v162 v164
  let v166 : BitVec 1 := Scalar.cmpi .ne v160 v165
  let v167 : BitVec 32 := Scalar.remsi v107 c16_i32_65
  let c0_i32_70 : BitVec 32 := 0#32
  let v168 : BitVec 1 := Scalar.cmpi .ne v167 c0_i32_70
  let v169 : BitVec 1 := Scalar.andi v166 v168
  let v155 : BitVec 32 := Scalar.divsi v107 c16_i32_65
  let c1_i32_71 : BitVec 32 := 1#32
  let v170 : BitVec 32 := Scalar.subi v155 c1_i32_71
  let v171 : BitVec 32 := Scalar.select v169 v170 v155
  let v172 : BitVec 32 := Scalar.subi v171 v154
  let c1_i32_73 : BitVec 32 := 1#32
  let v174 : BitVec 32 := Scalar.divsi v172 c1_i32_73
  let v175 : BitVec 32 := Scalar.muli v174 c1_i32_73
  let v176 : BitVec 32 := Scalar.addi v154 v175
  let c1_i32_75 : BitVec 32 := 1#32
  let arg17 : BitVec 32 := Scf.iv v176 c1_i32_75 k0_t13
  let c16_i32_89 : BitVec 32 := 16#32
  let v205 : BitVec 32 := Scalar.muli arg17 c16_i32_89
  let c12_i32 : BitVec 32 := 12#32
  let v1395 : BitVec 32 := Scalar.addi v205 c12_i32
  let c128_i32_399 : BitVec 32 := 128#32
  let v1396 : BitVec 32 := Scalar.muli v1395 c128_i32_399
  let v1397 : BitVec 32 := Scalar.addi v108 v1396
  let v1398 : BitVec 32 := Scalar.addi v1397 c0_i32_400
  let v1399 : Index := Scalar.indexCast v1398
  ![v1399.toNat]
def k0_off241 (i : grid0.Coords) (v1298 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1298 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond78 (v1298 : BitVec 32) (v1393 : BitVec 32) : BitVec 1 :=
  let v1394 : BitVec 1 := Scalar.cmpi .ne v1393 v1298
  let c0_i32_422 : BitVec 32 := 0#32
  let v1451 : BitVec 1 := Scalar.cmpi .sge v1298 c0_i32_422
  let v1452 : BitVec 1 := Scalar.andi v1394 v1451
  let v1453 : BitVec 32 := Scalar.extui v1452
  let c0_i32_423 : BitVec 32 := 0#32
  let v1454 : BitVec 1 := Scalar.cmpi .ne v1453 c0_i32_423
  v1454

def k0_off242 (i : grid0.Coords) (v1298 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1298 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk72 (i : grid0.Coords) (v211 : BitVec 32) (v213 : BitVec 32) (v1298 : BitVec 32) (v1393 : BitVec 32) : Prop :=
  (∀ (k0_h65 : k0_cond65 v211 v213 = 1#1), ∀ (k0_h78 : k0_cond78 v1298 v1393 = 1#1), ∀ (r : Fin 8), ∀ a, (k0_off241 i v1298 (BitVec.ofNat 32 (16 * r.val))) a + S16.size a ≤ S81920.size a) ∧
  (∀ (k0_h65 : k0_cond65 v211 v213 = 1#1), ∀ (k0_h78 : k0_cond78 v1298 v1393 = 1#1), ∀ (r : Fin 8), ∀ a, (k0_off242 i v1298 (BitVec.ofNat 32 (16 * r.val))) a + S16.size a ≤ S81920.size a)
theorem k0_off241_inb : ∀ (i : grid0.Coords) (v211 : BitVec 32) (v213 : BitVec 32) (v1298 : BitVec 32) (v1393 : BitVec 32) (k0_hw72 : k0_chk72 i v211 v213 v1298 v1393), ∀ (k0_h65 : k0_cond65 v211 v213 = 1#1), ∀ (k0_h78 : k0_cond78 v1298 v1393 = 1#1), ∀ (r : Fin 8), ∀ a, (k0_off241 i v1298 (BitVec.ofNat 32 (16 * r.val))) a + S16.size a ≤ S81920.size a := fun i v211 v213 v1298 v1393 k0_hw72 k0_h65 k0_h78 r => k0_hw72.1 k0_h65 k0_h78 r
theorem k0_off242_inb : ∀ (i : grid0.Coords) (v211 : BitVec 32) (v213 : BitVec 32) (v1298 : BitVec 32) (v1393 : BitVec 32) (k0_hw72 : k0_chk72 i v211 v213 v1298 v1393), ∀ (k0_h65 : k0_cond65 v211 v213 = 1#1), ∀ (k0_h78 : k0_cond78 v1298 v1393 = 1#1), ∀ (r : Fin 8), ∀ a, (k0_off242 i v1298 (BitVec.ofNat 32 (16 * r.val))) a + S16.size a ≤ S81920.size a := fun i v211 v213 v1298 v1393 k0_hw72 k0_h65 k0_h78 r => k0_hw72.2 k0_h65 k0_h78 r

def k0_off243 (v5 : BitVec 32) (v7 : BitVec 32) (k0_t9 : Fin (k0_t9_loop v5 v7).trips) (k0_t13 : Fin (k0_t13_loop v5 v7 k0_t9).trips) (c0_i32_425 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c0_i32_66 : BitVec 32 := 0#32
  let v156 : BitVec 1 := Scalar.cmpi .sgt v107 c0_i32_66
  let v157 : BitVec 32 := Scalar.extui v156
  let c0_i32_67 : BitVec 32 := 0#32
  let v158 : BitVec 1 := Scalar.cmpi .slt v107 c0_i32_67
  let v159 : BitVec 32 := Scalar.extui v158
  let v160 : BitVec 32 := Scalar.subi v157 v159
  let c16_i32_65 : BitVec 32 := 16#32
  let c0_i32_68 : BitVec 32 := 0#32
  let v161 : BitVec 1 := Scalar.cmpi .sgt c16_i32_65 c0_i32_68
  let v162 : BitVec 32 := Scalar.extui v161
  let c0_i32_69 : BitVec 32 := 0#32
  let v163 : BitVec 1 := Scalar.cmpi .slt c16_i32_65 c0_i32_69
  let v164 : BitVec 32 := Scalar.extui v163
  let v165 : BitVec 32 := Scalar.subi v162 v164
  let v166 : BitVec 1 := Scalar.cmpi .ne v160 v165
  let v167 : BitVec 32 := Scalar.remsi v107 c16_i32_65
  let c0_i32_70 : BitVec 32 := 0#32
  let v168 : BitVec 1 := Scalar.cmpi .ne v167 c0_i32_70
  let v169 : BitVec 1 := Scalar.andi v166 v168
  let v155 : BitVec 32 := Scalar.divsi v107 c16_i32_65
  let c1_i32_71 : BitVec 32 := 1#32
  let v170 : BitVec 32 := Scalar.subi v155 c1_i32_71
  let v171 : BitVec 32 := Scalar.select v169 v170 v155
  let v172 : BitVec 32 := Scalar.subi v171 v154
  let c1_i32_73 : BitVec 32 := 1#32
  let v174 : BitVec 32 := Scalar.divsi v172 c1_i32_73
  let v175 : BitVec 32 := Scalar.muli v174 c1_i32_73
  let v176 : BitVec 32 := Scalar.addi v154 v175
  let c1_i32_75 : BitVec 32 := 1#32
  let arg17 : BitVec 32 := Scf.iv v176 c1_i32_75 k0_t13
  let c16_i32_89 : BitVec 32 := 16#32
  let v205 : BitVec 32 := Scalar.muli arg17 c16_i32_89
  let c13_i32 : BitVec 32 := 13#32
  let v1490 : BitVec 32 := Scalar.addi v205 c13_i32
  let c128_i32_424 : BitVec 32 := 128#32
  let v1491 : BitVec 32 := Scalar.muli v1490 c128_i32_424
  let v1492 : BitVec 32 := Scalar.addi v108 v1491
  let v1493 : BitVec 32 := Scalar.addi v1492 c0_i32_425
  let v1494 : Index := Scalar.indexCast v1493
  ![v1494.toNat]
def k0_off244 (i : grid0.Coords) (v1393 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1393 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond79 (v1393 : BitVec 32) (v1488 : BitVec 32) : BitVec 1 :=
  let v1489 : BitVec 1 := Scalar.cmpi .ne v1488 v1393
  let c0_i32_447 : BitVec 32 := 0#32
  let v1546 : BitVec 1 := Scalar.cmpi .sge v1393 c0_i32_447
  let v1547 : BitVec 1 := Scalar.andi v1489 v1546
  let v1548 : BitVec 32 := Scalar.extui v1547
  let c0_i32_448 : BitVec 32 := 0#32
  let v1549 : BitVec 1 := Scalar.cmpi .ne v1548 c0_i32_448
  v1549

def k0_off245 (i : grid0.Coords) (v1393 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1393 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk73 (i : grid0.Coords) (v211 : BitVec 32) (v213 : BitVec 32) (v1393 : BitVec 32) (v1488 : BitVec 32) : Prop :=
  (∀ (k0_h65 : k0_cond65 v211 v213 = 1#1), ∀ (k0_h79 : k0_cond79 v1393 v1488 = 1#1), ∀ (r : Fin 8), ∀ a, (k0_off244 i v1393 (BitVec.ofNat 32 (16 * r.val))) a + S16.size a ≤ S81920.size a) ∧
  (∀ (k0_h65 : k0_cond65 v211 v213 = 1#1), ∀ (k0_h79 : k0_cond79 v1393 v1488 = 1#1), ∀ (r : Fin 8), ∀ a, (k0_off245 i v1393 (BitVec.ofNat 32 (16 * r.val))) a + S16.size a ≤ S81920.size a)
theorem k0_off244_inb : ∀ (i : grid0.Coords) (v211 : BitVec 32) (v213 : BitVec 32) (v1393 : BitVec 32) (v1488 : BitVec 32) (k0_hw73 : k0_chk73 i v211 v213 v1393 v1488), ∀ (k0_h65 : k0_cond65 v211 v213 = 1#1), ∀ (k0_h79 : k0_cond79 v1393 v1488 = 1#1), ∀ (r : Fin 8), ∀ a, (k0_off244 i v1393 (BitVec.ofNat 32 (16 * r.val))) a + S16.size a ≤ S81920.size a := fun i v211 v213 v1393 v1488 k0_hw73 k0_h65 k0_h79 r => k0_hw73.1 k0_h65 k0_h79 r
theorem k0_off245_inb : ∀ (i : grid0.Coords) (v211 : BitVec 32) (v213 : BitVec 32) (v1393 : BitVec 32) (v1488 : BitVec 32) (k0_hw73 : k0_chk73 i v211 v213 v1393 v1488), ∀ (k0_h65 : k0_cond65 v211 v213 = 1#1), ∀ (k0_h79 : k0_cond79 v1393 v1488 = 1#1), ∀ (r : Fin 8), ∀ a, (k0_off245 i v1393 (BitVec.ofNat 32 (16 * r.val))) a + S16.size a ≤ S81920.size a := fun i v211 v213 v1393 v1488 k0_hw73 k0_h65 k0_h79 r => k0_hw73.2 k0_h65 k0_h79 r

def k0_off246 (v5 : BitVec 32) (v7 : BitVec 32) (k0_t9 : Fin (k0_t9_loop v5 v7).trips) (k0_t13 : Fin (k0_t13_loop v5 v7 k0_t9).trips) (c0_i32_450 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c0_i32_66 : BitVec 32 := 0#32
  let v156 : BitVec 1 := Scalar.cmpi .sgt v107 c0_i32_66
  let v157 : BitVec 32 := Scalar.extui v156
  let c0_i32_67 : BitVec 32 := 0#32
  let v158 : BitVec 1 := Scalar.cmpi .slt v107 c0_i32_67
  let v159 : BitVec 32 := Scalar.extui v158
  let v160 : BitVec 32 := Scalar.subi v157 v159
  let c16_i32_65 : BitVec 32 := 16#32
  let c0_i32_68 : BitVec 32 := 0#32
  let v161 : BitVec 1 := Scalar.cmpi .sgt c16_i32_65 c0_i32_68
  let v162 : BitVec 32 := Scalar.extui v161
  let c0_i32_69 : BitVec 32 := 0#32
  let v163 : BitVec 1 := Scalar.cmpi .slt c16_i32_65 c0_i32_69
  let v164 : BitVec 32 := Scalar.extui v163
  let v165 : BitVec 32 := Scalar.subi v162 v164
  let v166 : BitVec 1 := Scalar.cmpi .ne v160 v165
  let v167 : BitVec 32 := Scalar.remsi v107 c16_i32_65
  let c0_i32_70 : BitVec 32 := 0#32
  let v168 : BitVec 1 := Scalar.cmpi .ne v167 c0_i32_70
  let v169 : BitVec 1 := Scalar.andi v166 v168
  let v155 : BitVec 32 := Scalar.divsi v107 c16_i32_65
  let c1_i32_71 : BitVec 32 := 1#32
  let v170 : BitVec 32 := Scalar.subi v155 c1_i32_71
  let v171 : BitVec 32 := Scalar.select v169 v170 v155
  let v172 : BitVec 32 := Scalar.subi v171 v154
  let c1_i32_73 : BitVec 32 := 1#32
  let v174 : BitVec 32 := Scalar.divsi v172 c1_i32_73
  let v175 : BitVec 32 := Scalar.muli v174 c1_i32_73
  let v176 : BitVec 32 := Scalar.addi v154 v175
  let c1_i32_75 : BitVec 32 := 1#32
  let arg17 : BitVec 32 := Scf.iv v176 c1_i32_75 k0_t13
  let c16_i32_89 : BitVec 32 := 16#32
  let v205 : BitVec 32 := Scalar.muli arg17 c16_i32_89
  let c14_i32 : BitVec 32 := 14#32
  let v1585 : BitVec 32 := Scalar.addi v205 c14_i32
  let c128_i32_449 : BitVec 32 := 128#32
  let v1586 : BitVec 32 := Scalar.muli v1585 c128_i32_449
  let v1587 : BitVec 32 := Scalar.addi v108 v1586
  let v1588 : BitVec 32 := Scalar.addi v1587 c0_i32_450
  let v1589 : Index := Scalar.indexCast v1588
  ![v1589.toNat]
def k0_off247 (i : grid0.Coords) (v1488 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1488 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond80 (v1488 : BitVec 32) (v1583 : BitVec 32) : BitVec 1 :=
  let v1584 : BitVec 1 := Scalar.cmpi .ne v1583 v1488
  let c0_i32_472 : BitVec 32 := 0#32
  let v1641 : BitVec 1 := Scalar.cmpi .sge v1488 c0_i32_472
  let v1642 : BitVec 1 := Scalar.andi v1584 v1641
  let v1643 : BitVec 32 := Scalar.extui v1642
  let c0_i32_473 : BitVec 32 := 0#32
  let v1644 : BitVec 1 := Scalar.cmpi .ne v1643 c0_i32_473
  v1644

def k0_off248 (i : grid0.Coords) (v1488 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1488 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk74 (i : grid0.Coords) (v211 : BitVec 32) (v213 : BitVec 32) (v1488 : BitVec 32) (v1583 : BitVec 32) : Prop :=
  (∀ (k0_h65 : k0_cond65 v211 v213 = 1#1), ∀ (k0_h80 : k0_cond80 v1488 v1583 = 1#1), ∀ (r : Fin 8), ∀ a, (k0_off247 i v1488 (BitVec.ofNat 32 (16 * r.val))) a + S16.size a ≤ S81920.size a) ∧
  (∀ (k0_h65 : k0_cond65 v211 v213 = 1#1), ∀ (k0_h80 : k0_cond80 v1488 v1583 = 1#1), ∀ (r : Fin 8), ∀ a, (k0_off248 i v1488 (BitVec.ofNat 32 (16 * r.val))) a + S16.size a ≤ S81920.size a)
theorem k0_off247_inb : ∀ (i : grid0.Coords) (v211 : BitVec 32) (v213 : BitVec 32) (v1488 : BitVec 32) (v1583 : BitVec 32) (k0_hw74 : k0_chk74 i v211 v213 v1488 v1583), ∀ (k0_h65 : k0_cond65 v211 v213 = 1#1), ∀ (k0_h80 : k0_cond80 v1488 v1583 = 1#1), ∀ (r : Fin 8), ∀ a, (k0_off247 i v1488 (BitVec.ofNat 32 (16 * r.val))) a + S16.size a ≤ S81920.size a := fun i v211 v213 v1488 v1583 k0_hw74 k0_h65 k0_h80 r => k0_hw74.1 k0_h65 k0_h80 r
theorem k0_off248_inb : ∀ (i : grid0.Coords) (v211 : BitVec 32) (v213 : BitVec 32) (v1488 : BitVec 32) (v1583 : BitVec 32) (k0_hw74 : k0_chk74 i v211 v213 v1488 v1583), ∀ (k0_h65 : k0_cond65 v211 v213 = 1#1), ∀ (k0_h80 : k0_cond80 v1488 v1583 = 1#1), ∀ (r : Fin 8), ∀ a, (k0_off248 i v1488 (BitVec.ofNat 32 (16 * r.val))) a + S16.size a ≤ S81920.size a := fun i v211 v213 v1488 v1583 k0_hw74 k0_h65 k0_h80 r => k0_hw74.2 k0_h65 k0_h80 r

def k0_off249 (v5 : BitVec 32) (v7 : BitVec 32) (k0_t9 : Fin (k0_t9_loop v5 v7).trips) (k0_t13 : Fin (k0_t13_loop v5 v7 k0_t9).trips) (c0_i32_475 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_59 : BitVec 32 := 0#32
  let v139 : BitVec 1 := Scalar.cmpi .sgt v130 c0_i32_59
  let v140 : BitVec 32 := Scalar.extui v139
  let c0_i32_60 : BitVec 32 := 0#32
  let v141 : BitVec 1 := Scalar.cmpi .slt v130 c0_i32_60
  let v142 : BitVec 32 := Scalar.extui v141
  let v143 : BitVec 32 := Scalar.subi v140 v142
  let c16_i32_58 : BitVec 32 := 16#32
  let c0_i32_61 : BitVec 32 := 0#32
  let v144 : BitVec 1 := Scalar.cmpi .sgt c16_i32_58 c0_i32_61
  let v145 : BitVec 32 := Scalar.extui v144
  let c0_i32_62 : BitVec 32 := 0#32
  let v146 : BitVec 1 := Scalar.cmpi .slt c16_i32_58 c0_i32_62
  let v147 : BitVec 32 := Scalar.extui v146
  let v148 : BitVec 32 := Scalar.subi v145 v147
  let v149 : BitVec 1 := Scalar.cmpi .ne v143 v148
  let v150 : BitVec 32 := Scalar.remsi v130 c16_i32_58
  let c0_i32_63 : BitVec 32 := 0#32
  let v151 : BitVec 1 := Scalar.cmpi .ne v150 c0_i32_63
  let v152 : BitVec 1 := Scalar.andi v149 v151
  let v138 : BitVec 32 := Scalar.divsi v130 c16_i32_58
  let c1_i32_64 : BitVec 32 := 1#32
  let v153 : BitVec 32 := Scalar.subi v138 c1_i32_64
  let v154 : BitVec 32 := Scalar.select v152 v153 v138
  let c0_i32_66 : BitVec 32 := 0#32
  let v156 : BitVec 1 := Scalar.cmpi .sgt v107 c0_i32_66
  let v157 : BitVec 32 := Scalar.extui v156
  let c0_i32_67 : BitVec 32 := 0#32
  let v158 : BitVec 1 := Scalar.cmpi .slt v107 c0_i32_67
  let v159 : BitVec 32 := Scalar.extui v158
  let v160 : BitVec 32 := Scalar.subi v157 v159
  let c16_i32_65 : BitVec 32 := 16#32
  let c0_i32_68 : BitVec 32 := 0#32
  let v161 : BitVec 1 := Scalar.cmpi .sgt c16_i32_65 c0_i32_68
  let v162 : BitVec 32 := Scalar.extui v161
  let c0_i32_69 : BitVec 32 := 0#32
  let v163 : BitVec 1 := Scalar.cmpi .slt c16_i32_65 c0_i32_69
  let v164 : BitVec 32 := Scalar.extui v163
  let v165 : BitVec 32 := Scalar.subi v162 v164
  let v166 : BitVec 1 := Scalar.cmpi .ne v160 v165
  let v167 : BitVec 32 := Scalar.remsi v107 c16_i32_65
  let c0_i32_70 : BitVec 32 := 0#32
  let v168 : BitVec 1 := Scalar.cmpi .ne v167 c0_i32_70
  let v169 : BitVec 1 := Scalar.andi v166 v168
  let v155 : BitVec 32 := Scalar.divsi v107 c16_i32_65
  let c1_i32_71 : BitVec 32 := 1#32
  let v170 : BitVec 32 := Scalar.subi v155 c1_i32_71
  let v171 : BitVec 32 := Scalar.select v169 v170 v155
  let v172 : BitVec 32 := Scalar.subi v171 v154
  let c1_i32_73 : BitVec 32 := 1#32
  let v174 : BitVec 32 := Scalar.divsi v172 c1_i32_73
  let v175 : BitVec 32 := Scalar.muli v174 c1_i32_73
  let v176 : BitVec 32 := Scalar.addi v154 v175
  let c1_i32_75 : BitVec 32 := 1#32
  let arg17 : BitVec 32 := Scf.iv v176 c1_i32_75 k0_t13
  let c16_i32_89 : BitVec 32 := 16#32
  let v205 : BitVec 32 := Scalar.muli arg17 c16_i32_89
  let c15_i32 : BitVec 32 := 15#32
  let v1680 : BitVec 32 := Scalar.addi v205 c15_i32
  let c128_i32_474 : BitVec 32 := 128#32
  let v1681 : BitVec 32 := Scalar.muli v1680 c128_i32_474
  let v1682 : BitVec 32 := Scalar.addi v108 v1681
  let v1683 : BitVec 32 := Scalar.addi v1682 c0_i32_475
  let v1684 : Index := Scalar.indexCast v1683
  ![v1684.toNat]

def k0_chk59 (v5 : BitVec 32) (v7 : BitVec 32) (k0_t9 : Fin (k0_t9_loop v5 v7).trips) (k0_t13 : Fin (k0_t13_loop v5 v7 k0_t9).trips) (v211 : BitVec 32) (v213 : BitVec 32) : Prop :=
  (∀ (k0_h64 : k0_cond64 v211 v213 = 1#1), ∀ (r₁ : Fin 16) (r₂ : Fin 8), ∀ a, (k0_off203 v5 v7 k0_t9 k0_t13 (BitVec.ofNat 32 r₁.val) (BitVec.ofNat 32 (16 * r₂.val))) a + S16.size a ≤ S40960.size a) ∧
  (∀ (k0_h65 : k0_cond65 v211 v213 = 1#1), ∀ (r : Fin 8), ∀ a, (k0_off204 v5 v7 k0_t9 k0_t13 (BitVec.ofNat 32 (16 * r.val))) a + S16.size a ≤ S40960.size a) ∧
  (∀ (k0_h65 : k0_cond65 v211 v213 = 1#1), ∀ (r : Fin 8), ∀ a, (k0_off207 v5 v7 k0_t9 k0_t13 (BitVec.ofNat 32 (16 * r.val))) a + S16.size a ≤ S40960.size a) ∧
  (∀ (k0_h65 : k0_cond65 v211 v213 = 1#1), ∀ (r : Fin 8), ∀ a, (k0_off210 v5 v7 k0_t9 k0_t13 (BitVec.ofNat 32 (16 * r.val))) a + S16.size a ≤ S40960.size a) ∧
  (∀ (k0_h65 : k0_cond65 v211 v213 = 1#1), ∀ (r : Fin 8), ∀ a, (k0_off213 v5 v7 k0_t9 k0_t13 (BitVec.ofNat 32 (16 * r.val))) a + S16.size a ≤ S40960.size a) ∧
  (∀ (k0_h65 : k0_cond65 v211 v213 = 1#1), ∀ (r : Fin 8), ∀ a, (k0_off216 v5 v7 k0_t9 k0_t13 (BitVec.ofNat 32 (16 * r.val))) a + S16.size a ≤ S40960.size a) ∧
  (∀ (k0_h65 : k0_cond65 v211 v213 = 1#1), ∀ (r : Fin 8), ∀ a, (k0_off219 v5 v7 k0_t9 k0_t13 (BitVec.ofNat 32 (16 * r.val))) a + S16.size a ≤ S40960.size a) ∧
  (∀ (k0_h65 : k0_cond65 v211 v213 = 1#1), ∀ (r : Fin 8), ∀ a, (k0_off222 v5 v7 k0_t9 k0_t13 (BitVec.ofNat 32 (16 * r.val))) a + S16.size a ≤ S40960.size a) ∧
  (∀ (k0_h65 : k0_cond65 v211 v213 = 1#1), ∀ (r : Fin 8), ∀ a, (k0_off225 v5 v7 k0_t9 k0_t13 (BitVec.ofNat 32 (16 * r.val))) a + S16.size a ≤ S40960.size a) ∧
  (∀ (k0_h65 : k0_cond65 v211 v213 = 1#1), ∀ (r : Fin 8), ∀ a, (k0_off228 v5 v7 k0_t9 k0_t13 (BitVec.ofNat 32 (16 * r.val))) a + S16.size a ≤ S40960.size a) ∧
  (∀ (k0_h65 : k0_cond65 v211 v213 = 1#1), ∀ (r : Fin 8), ∀ a, (k0_off231 v5 v7 k0_t9 k0_t13 (BitVec.ofNat 32 (16 * r.val))) a + S16.size a ≤ S40960.size a) ∧
  (∀ (k0_h65 : k0_cond65 v211 v213 = 1#1), ∀ (r : Fin 8), ∀ a, (k0_off234 v5 v7 k0_t9 k0_t13 (BitVec.ofNat 32 (16 * r.val))) a + S16.size a ≤ S40960.size a) ∧
  (∀ (k0_h65 : k0_cond65 v211 v213 = 1#1), ∀ (r : Fin 8), ∀ a, (k0_off237 v5 v7 k0_t9 k0_t13 (BitVec.ofNat 32 (16 * r.val))) a + S16.size a ≤ S40960.size a) ∧
  (∀ (k0_h65 : k0_cond65 v211 v213 = 1#1), ∀ (r : Fin 8), ∀ a, (k0_off240 v5 v7 k0_t9 k0_t13 (BitVec.ofNat 32 (16 * r.val))) a + S16.size a ≤ S40960.size a) ∧
  (∀ (k0_h65 : k0_cond65 v211 v213 = 1#1), ∀ (r : Fin 8), ∀ a, (k0_off243 v5 v7 k0_t9 k0_t13 (BitVec.ofNat 32 (16 * r.val))) a + S16.size a ≤ S40960.size a) ∧
  (∀ (k0_h65 : k0_cond65 v211 v213 = 1#1), ∀ (r : Fin 8), ∀ a, (k0_off246 v5 v7 k0_t9 k0_t13 (BitVec.ofNat 32 (16 * r.val))) a + S16.size a ≤ S40960.size a) ∧
  (∀ (k0_h65 : k0_cond65 v211 v213 = 1#1), ∀ (r : Fin 8), ∀ a, (k0_off249 v5 v7 k0_t9 k0_t13 (BitVec.ofNat 32 (16 * r.val))) a + S16.size a ≤ S40960.size a)
theorem k0_off203_inb : ∀ (v5 : BitVec 32) (v7 : BitVec 32) (k0_t9 : Fin (k0_t9_loop v5 v7).trips) (k0_t13 : Fin (k0_t13_loop v5 v7 k0_t9).trips) (v211 : BitVec 32) (v213 : BitVec 32) (k0_hw59 : k0_chk59 v5 v7 k0_t9 k0_t13 v211 v213), ∀ (k0_h64 : k0_cond64 v211 v213 = 1#1), ∀ (r₁ : Fin 16) (r₂ : Fin 8), ∀ a, (k0_off203 v5 v7 k0_t9 k0_t13 (BitVec.ofNat 32 r₁.val) (BitVec.ofNat 32 (16 * r₂.val))) a + S16.size a ≤ S40960.size a := fun v5 v7 k0_t9 k0_t13 v211 v213 k0_hw59 k0_h64 r₁ r₂ => k0_hw59.1 k0_h64 r₁ r₂
theorem k0_off204_inb : ∀ (v5 : BitVec 32) (v7 : BitVec 32) (k0_t9 : Fin (k0_t9_loop v5 v7).trips) (k0_t13 : Fin (k0_t13_loop v5 v7 k0_t9).trips) (v211 : BitVec 32) (v213 : BitVec 32) (k0_hw59 : k0_chk59 v5 v7 k0_t9 k0_t13 v211 v213), ∀ (k0_h65 : k0_cond65 v211 v213 = 1#1), ∀ (r : Fin 8), ∀ a, (k0_off204 v5 v7 k0_t9 k0_t13 (BitVec.ofNat 32 (16 * r.val))) a + S16.size a ≤ S40960.size a := fun v5 v7 k0_t9 k0_t13 v211 v213 k0_hw59 k0_h65 r => k0_hw59.2.1 k0_h65 r
theorem k0_off207_inb : ∀ (v5 : BitVec 32) (v7 : BitVec 32) (k0_t9 : Fin (k0_t9_loop v5 v7).trips) (k0_t13 : Fin (k0_t13_loop v5 v7 k0_t9).trips) (v211 : BitVec 32) (v213 : BitVec 32) (k0_hw59 : k0_chk59 v5 v7 k0_t9 k0_t13 v211 v213), ∀ (k0_h65 : k0_cond65 v211 v213 = 1#1), ∀ (r : Fin 8), ∀ a, (k0_off207 v5 v7 k0_t9 k0_t13 (BitVec.ofNat 32 (16 * r.val))) a + S16.size a ≤ S40960.size a := fun v5 v7 k0_t9 k0_t13 v211 v213 k0_hw59 k0_h65 r => k0_hw59.2.2.1 k0_h65 r
theorem k0_off210_inb : ∀ (v5 : BitVec 32) (v7 : BitVec 32) (k0_t9 : Fin (k0_t9_loop v5 v7).trips) (k0_t13 : Fin (k0_t13_loop v5 v7 k0_t9).trips) (v211 : BitVec 32) (v213 : BitVec 32) (k0_hw59 : k0_chk59 v5 v7 k0_t9 k0_t13 v211 v213), ∀ (k0_h65 : k0_cond65 v211 v213 = 1#1), ∀ (r : Fin 8), ∀ a, (k0_off210 v5 v7 k0_t9 k0_t13 (BitVec.ofNat 32 (16 * r.val))) a + S16.size a ≤ S40960.size a := fun v5 v7 k0_t9 k0_t13 v211 v213 k0_hw59 k0_h65 r => k0_hw59.2.2.2.1 k0_h65 r
theorem k0_off213_inb : ∀ (v5 : BitVec 32) (v7 : BitVec 32) (k0_t9 : Fin (k0_t9_loop v5 v7).trips) (k0_t13 : Fin (k0_t13_loop v5 v7 k0_t9).trips) (v211 : BitVec 32) (v213 : BitVec 32) (k0_hw59 : k0_chk59 v5 v7 k0_t9 k0_t13 v211 v213), ∀ (k0_h65 : k0_cond65 v211 v213 = 1#1), ∀ (r : Fin 8), ∀ a, (k0_off213 v5 v7 k0_t9 k0_t13 (BitVec.ofNat 32 (16 * r.val))) a + S16.size a ≤ S40960.size a := fun v5 v7 k0_t9 k0_t13 v211 v213 k0_hw59 k0_h65 r => k0_hw59.2.2.2.2.1 k0_h65 r
theorem k0_off216_inb : ∀ (v5 : BitVec 32) (v7 : BitVec 32) (k0_t9 : Fin (k0_t9_loop v5 v7).trips) (k0_t13 : Fin (k0_t13_loop v5 v7 k0_t9).trips) (v211 : BitVec 32) (v213 : BitVec 32) (k0_hw59 : k0_chk59 v5 v7 k0_t9 k0_t13 v211 v213), ∀ (k0_h65 : k0_cond65 v211 v213 = 1#1), ∀ (r : Fin 8), ∀ a, (k0_off216 v5 v7 k0_t9 k0_t13 (BitVec.ofNat 32 (16 * r.val))) a + S16.size a ≤ S40960.size a := fun v5 v7 k0_t9 k0_t13 v211 v213 k0_hw59 k0_h65 r => k0_hw59.2.2.2.2.2.1 k0_h65 r
theorem k0_off219_inb : ∀ (v5 : BitVec 32) (v7 : BitVec 32) (k0_t9 : Fin (k0_t9_loop v5 v7).trips) (k0_t13 : Fin (k0_t13_loop v5 v7 k0_t9).trips) (v211 : BitVec 32) (v213 : BitVec 32) (k0_hw59 : k0_chk59 v5 v7 k0_t9 k0_t13 v211 v213), ∀ (k0_h65 : k0_cond65 v211 v213 = 1#1), ∀ (r : Fin 8), ∀ a, (k0_off219 v5 v7 k0_t9 k0_t13 (BitVec.ofNat 32 (16 * r.val))) a + S16.size a ≤ S40960.size a := fun v5 v7 k0_t9 k0_t13 v211 v213 k0_hw59 k0_h65 r => k0_hw59.2.2.2.2.2.2.1 k0_h65 r
theorem k0_off222_inb : ∀ (v5 : BitVec 32) (v7 : BitVec 32) (k0_t9 : Fin (k0_t9_loop v5 v7).trips) (k0_t13 : Fin (k0_t13_loop v5 v7 k0_t9).trips) (v211 : BitVec 32) (v213 : BitVec 32) (k0_hw59 : k0_chk59 v5 v7 k0_t9 k0_t13 v211 v213), ∀ (k0_h65 : k0_cond65 v211 v213 = 1#1), ∀ (r : Fin 8), ∀ a, (k0_off222 v5 v7 k0_t9 k0_t13 (BitVec.ofNat 32 (16 * r.val))) a + S16.size a ≤ S40960.size a := fun v5 v7 k0_t9 k0_t13 v211 v213 k0_hw59 k0_h65 r => k0_hw59.2.2.2.2.2.2.2.1 k0_h65 r
theorem k0_off225_inb : ∀ (v5 : BitVec 32) (v7 : BitVec 32) (k0_t9 : Fin (k0_t9_loop v5 v7).trips) (k0_t13 : Fin (k0_t13_loop v5 v7 k0_t9).trips) (v211 : BitVec 32) (v213 : BitVec 32) (k0_hw59 : k0_chk59 v5 v7 k0_t9 k0_t13 v211 v213), ∀ (k0_h65 : k0_cond65 v211 v213 = 1#1), ∀ (r : Fin 8), ∀ a, (k0_off225 v5 v7 k0_t9 k0_t13 (BitVec.ofNat 32 (16 * r.val))) a + S16.size a ≤ S40960.size a := fun v5 v7 k0_t9 k0_t13 v211 v213 k0_hw59 k0_h65 r => k0_hw59.2.2.2.2.2.2.2.2.1 k0_h65 r
theorem k0_off228_inb : ∀ (v5 : BitVec 32) (v7 : BitVec 32) (k0_t9 : Fin (k0_t9_loop v5 v7).trips) (k0_t13 : Fin (k0_t13_loop v5 v7 k0_t9).trips) (v211 : BitVec 32) (v213 : BitVec 32) (k0_hw59 : k0_chk59 v5 v7 k0_t9 k0_t13 v211 v213), ∀ (k0_h65 : k0_cond65 v211 v213 = 1#1), ∀ (r : Fin 8), ∀ a, (k0_off228 v5 v7 k0_t9 k0_t13 (BitVec.ofNat 32 (16 * r.val))) a + S16.size a ≤ S40960.size a := fun v5 v7 k0_t9 k0_t13 v211 v213 k0_hw59 k0_h65 r => k0_hw59.2.2.2.2.2.2.2.2.2.1 k0_h65 r
theorem k0_off231_inb : ∀ (v5 : BitVec 32) (v7 : BitVec 32) (k0_t9 : Fin (k0_t9_loop v5 v7).trips) (k0_t13 : Fin (k0_t13_loop v5 v7 k0_t9).trips) (v211 : BitVec 32) (v213 : BitVec 32) (k0_hw59 : k0_chk59 v5 v7 k0_t9 k0_t13 v211 v213), ∀ (k0_h65 : k0_cond65 v211 v213 = 1#1), ∀ (r : Fin 8), ∀ a, (k0_off231 v5 v7 k0_t9 k0_t13 (BitVec.ofNat 32 (16 * r.val))) a + S16.size a ≤ S40960.size a := fun v5 v7 k0_t9 k0_t13 v211 v213 k0_hw59 k0_h65 r => k0_hw59.2.2.2.2.2.2.2.2.2.2.1 k0_h65 r
theorem k0_off234_inb : ∀ (v5 : BitVec 32) (v7 : BitVec 32) (k0_t9 : Fin (k0_t9_loop v5 v7).trips) (k0_t13 : Fin (k0_t13_loop v5 v7 k0_t9).trips) (v211 : BitVec 32) (v213 : BitVec 32) (k0_hw59 : k0_chk59 v5 v7 k0_t9 k0_t13 v211 v213), ∀ (k0_h65 : k0_cond65 v211 v213 = 1#1), ∀ (r : Fin 8), ∀ a, (k0_off234 v5 v7 k0_t9 k0_t13 (BitVec.ofNat 32 (16 * r.val))) a + S16.size a ≤ S40960.size a := fun v5 v7 k0_t9 k0_t13 v211 v213 k0_hw59 k0_h65 r => k0_hw59.2.2.2.2.2.2.2.2.2.2.2.1 k0_h65 r
theorem k0_off237_inb : ∀ (v5 : BitVec 32) (v7 : BitVec 32) (k0_t9 : Fin (k0_t9_loop v5 v7).trips) (k0_t13 : Fin (k0_t13_loop v5 v7 k0_t9).trips) (v211 : BitVec 32) (v213 : BitVec 32) (k0_hw59 : k0_chk59 v5 v7 k0_t9 k0_t13 v211 v213), ∀ (k0_h65 : k0_cond65 v211 v213 = 1#1), ∀ (r : Fin 8), ∀ a, (k0_off237 v5 v7 k0_t9 k0_t13 (BitVec.ofNat 32 (16 * r.val))) a + S16.size a ≤ S40960.size a := fun v5 v7 k0_t9 k0_t13 v211 v213 k0_hw59 k0_h65 r => k0_hw59.2.2.2.2.2.2.2.2.2.2.2.2.1 k0_h65 r
theorem k0_off240_inb : ∀ (v5 : BitVec 32) (v7 : BitVec 32) (k0_t9 : Fin (k0_t9_loop v5 v7).trips) (k0_t13 : Fin (k0_t13_loop v5 v7 k0_t9).trips) (v211 : BitVec 32) (v213 : BitVec 32) (k0_hw59 : k0_chk59 v5 v7 k0_t9 k0_t13 v211 v213), ∀ (k0_h65 : k0_cond65 v211 v213 = 1#1), ∀ (r : Fin 8), ∀ a, (k0_off240 v5 v7 k0_t9 k0_t13 (BitVec.ofNat 32 (16 * r.val))) a + S16.size a ≤ S40960.size a := fun v5 v7 k0_t9 k0_t13 v211 v213 k0_hw59 k0_h65 r => k0_hw59.2.2.2.2.2.2.2.2.2.2.2.2.2.1 k0_h65 r
theorem k0_off243_inb : ∀ (v5 : BitVec 32) (v7 : BitVec 32) (k0_t9 : Fin (k0_t9_loop v5 v7).trips) (k0_t13 : Fin (k0_t13_loop v5 v7 k0_t9).trips) (v211 : BitVec 32) (v213 : BitVec 32) (k0_hw59 : k0_chk59 v5 v7 k0_t9 k0_t13 v211 v213), ∀ (k0_h65 : k0_cond65 v211 v213 = 1#1), ∀ (r : Fin 8), ∀ a, (k0_off243 v5 v7 k0_t9 k0_t13 (BitVec.ofNat 32 (16 * r.val))) a + S16.size a ≤ S40960.size a := fun v5 v7 k0_t9 k0_t13 v211 v213 k0_hw59 k0_h65 r => k0_hw59.2.2.2.2.2.2.2.2.2.2.2.2.2.2.1 k0_h65 r
theorem k0_off246_inb : ∀ (v5 : BitVec 32) (v7 : BitVec 32) (k0_t9 : Fin (k0_t9_loop v5 v7).trips) (k0_t13 : Fin (k0_t13_loop v5 v7 k0_t9).trips) (v211 : BitVec 32) (v213 : BitVec 32) (k0_hw59 : k0_chk59 v5 v7 k0_t9 k0_t13 v211 v213), ∀ (k0_h65 : k0_cond65 v211 v213 = 1#1), ∀ (r : Fin 8), ∀ a, (k0_off246 v5 v7 k0_t9 k0_t13 (BitVec.ofNat 32 (16 * r.val))) a + S16.size a ≤ S40960.size a := fun v5 v7 k0_t9 k0_t13 v211 v213 k0_hw59 k0_h65 r => k0_hw59.2.2.2.2.2.2.2.2.2.2.2.2.2.2.2.1 k0_h65 r
theorem k0_off249_inb : ∀ (v5 : BitVec 32) (v7 : BitVec 32) (k0_t9 : Fin (k0_t9_loop v5 v7).trips) (k0_t13 : Fin (k0_t13_loop v5 v7 k0_t9).trips) (v211 : BitVec 32) (v213 : BitVec 32) (k0_hw59 : k0_chk59 v5 v7 k0_t9 k0_t13 v211 v213), ∀ (k0_h65 : k0_cond65 v211 v213 = 1#1), ∀ (r : Fin 8), ∀ a, (k0_off249 v5 v7 k0_t9 k0_t13 (BitVec.ofNat 32 (16 * r.val))) a + S16.size a ≤ S40960.size a := fun v5 v7 k0_t9 k0_t13 v211 v213 k0_hw59 k0_h65 r => k0_hw59.2.2.2.2.2.2.2.2.2.2.2.2.2.2.2.2 k0_h65 r

def k0_off250 (i : grid0.Coords) (v1583 : BitVec 32) (c0_i32_518 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1583 v1822
  let c256_i32 : BitVec 32 := 256#32
  let v1826 : BitVec 32 := Scalar.muli v1823 c256_i32
  let v1827 : BitVec 32 := Scalar.addi v1826 c0_i32_518
  let v1828 : Index := Scalar.indexCast v1827
  ![v1828.toNat]
def k0_cond81 (v1583 : BitVec 32) (v1678 : BitVec 32) : BitVec 1 :=
  let v1679 : BitVec 1 := Scalar.cmpi .ne v1678 v1583
  let c0_i32_497 : BitVec 32 := 0#32
  let v1736 : BitVec 1 := Scalar.cmpi .sge v1583 c0_i32_497
  let v1737 : BitVec 1 := Scalar.andi v1679 v1736
  let v1738 : BitVec 32 := Scalar.extui v1737
  let c0_i32_498 : BitVec 32 := 0#32
  let v1739 : BitVec 1 := Scalar.cmpi .ne v1738 c0_i32_498
  v1739

def k0_off251 (i : grid0.Coords) (v1583 : BitVec 32) (c0_i32_522 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_516 : BitVec 32 := 320#32
  let v1822 : BitVec 32 := Scalar.muli v1 c320_i32_516
  let v1823 : BitVec 32 := Scalar.subi v1583 v1822
  let c256_i32_520 : BitVec 32 := 256#32
  let v1834 : BitVec 32 := Scalar.muli v1823 c256_i32_520
  let c128_i32_521 : BitVec 32 := 128#32
  let v1835 : BitVec 32 := Scalar.addi v1834 c128_i32_521
  let v1836 : BitVec 32 := Scalar.addi v1835 c0_i32_522
  let v1837 : Index := Scalar.indexCast v1836
  ![v1837.toNat]

def k0_chk75 (i : grid0.Coords) (v211 : BitVec 32) (v213 : BitVec 32) (v1583 : BitVec 32) (v1678 : BitVec 32) : Prop :=
  (∀ (k0_h65 : k0_cond65 v211 v213 = 1#1), ∀ (k0_h81 : k0_cond81 v1583 v1678 = 1#1), ∀ (r : Fin 8), ∀ a, (k0_off250 i v1583 (BitVec.ofNat 32 (16 * r.val))) a + S16.size a ≤ S81920.size a) ∧
  (∀ (k0_h65 : k0_cond65 v211 v213 = 1#1), ∀ (k0_h81 : k0_cond81 v1583 v1678 = 1#1), ∀ (r : Fin 8), ∀ a, (k0_off251 i v1583 (BitVec.ofNat 32 (16 * r.val))) a + S16.size a ≤ S81920.size a)
theorem k0_off250_inb : ∀ (i : grid0.Coords) (v211 : BitVec 32) (v213 : BitVec 32) (v1583 : BitVec 32) (v1678 : BitVec 32) (k0_hw75 : k0_chk75 i v211 v213 v1583 v1678), ∀ (k0_h65 : k0_cond65 v211 v213 = 1#1), ∀ (k0_h81 : k0_cond81 v1583 v1678 = 1#1), ∀ (r : Fin 8), ∀ a, (k0_off250 i v1583 (BitVec.ofNat 32 (16 * r.val))) a + S16.size a ≤ S81920.size a := fun i v211 v213 v1583 v1678 k0_hw75 k0_h65 k0_h81 r => k0_hw75.1 k0_h65 k0_h81 r
theorem k0_off251_inb : ∀ (i : grid0.Coords) (v211 : BitVec 32) (v213 : BitVec 32) (v1583 : BitVec 32) (v1678 : BitVec 32) (k0_hw75 : k0_chk75 i v211 v213 v1583 v1678), ∀ (k0_h65 : k0_cond65 v211 v213 = 1#1), ∀ (k0_h81 : k0_cond81 v1583 v1678 = 1#1), ∀ (r : Fin 8), ∀ a, (k0_off251 i v1583 (BitVec.ofNat 32 (16 * r.val))) a + S16.size a ≤ S81920.size a := fun i v211 v213 v1583 v1678 k0_hw75 k0_h65 k0_h81 r => k0_hw75.2 k0_h65 k0_h81 r

@[reducible] def k0_t14_loop (v5 : BitVec 32) (v7 : BitVec 32) (k0_t9 : Fin (k0_t9_loop v5 v7).trips) : Scf.Loop 32 :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_77 : BitVec 32 := 0#32
  let v180 : BitVec 1 := Scalar.cmpi .sgt v107 c0_i32_77
  let v181 : BitVec 32 := Scalar.extui v180
  let c0_i32_78 : BitVec 32 := 0#32
  let v182 : BitVec 1 := Scalar.cmpi .slt v107 c0_i32_78
  let v183 : BitVec 32 := Scalar.extui v182
  let v184 : BitVec 32 := Scalar.subi v181 v183
  let c16_i32_76 : BitVec 32 := 16#32
  let c0_i32_79 : BitVec 32 := 0#32
  let v185 : BitVec 1 := Scalar.cmpi .sgt c16_i32_76 c0_i32_79
  let v186 : BitVec 32 := Scalar.extui v185
  let c0_i32_80 : BitVec 32 := 0#32
  let v187 : BitVec 1 := Scalar.cmpi .slt c16_i32_76 c0_i32_80
  let v188 : BitVec 32 := Scalar.extui v187
  let v189 : BitVec 32 := Scalar.subi v186 v188
  let v190 : BitVec 1 := Scalar.cmpi .ne v184 v189
  let v191 : BitVec 32 := Scalar.remsi v107 c16_i32_76
  let c0_i32_81 : BitVec 32 := 0#32
  let v192 : BitVec 1 := Scalar.cmpi .ne v191 c0_i32_81
  let v193 : BitVec 1 := Scalar.andi v190 v192
  let v179 : BitVec 32 := Scalar.divsi v107 c16_i32_76
  let c1_i32_82 : BitVec 32 := 1#32
  let v194 : BitVec 32 := Scalar.subi v179 c1_i32_82
  let v195 : BitVec 32 := Scalar.select v193 v194 v179
  let c16_i32_83 : BitVec 32 := 16#32
  let v196 : BitVec 32 := Scalar.muli v195 c16_i32_83
  let v197 : BitVec 32 := Scalar.maxsi v130 v196
  let v198 : BitVec 32 := Scalar.subi v107 v197
  let c1_i32_85 : BitVec 32 := 1#32
  let v200 : BitVec 32 := Scalar.divsi v198 c1_i32_85
  let v201 : BitVec 32 := Scalar.muli v200 c1_i32_85
  let v202 : BitVec 32 := Scalar.addi v197 v201
  let c1_i32_86 : BitVec 32 := 1#32
  ⟨v197, v202, c1_i32_86⟩
def k0_off252 (v5 : BitVec 32) (v7 : BitVec 32) (k0_t9 : Fin (k0_t9_loop v5 v7).trips) (k0_t14 : Fin (k0_t14_loop v5 v7 k0_t9).trips) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c176_i32_44 : BitVec 32 := 176#32
  let v109 : BitVec 32 := Scalar.muli v80 c176_i32_44
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_77 : BitVec 32 := 0#32
  let v180 : BitVec 1 := Scalar.cmpi .sgt v107 c0_i32_77
  let v181 : BitVec 32 := Scalar.extui v180
  let c0_i32_78 : BitVec 32 := 0#32
  let v182 : BitVec 1 := Scalar.cmpi .slt v107 c0_i32_78
  let v183 : BitVec 32 := Scalar.extui v182
  let v184 : BitVec 32 := Scalar.subi v181 v183
  let c16_i32_76 : BitVec 32 := 16#32
  let c0_i32_79 : BitVec 32 := 0#32
  let v185 : BitVec 1 := Scalar.cmpi .sgt c16_i32_76 c0_i32_79
  let v186 : BitVec 32 := Scalar.extui v185
  let c0_i32_80 : BitVec 32 := 0#32
  let v187 : BitVec 1 := Scalar.cmpi .slt c16_i32_76 c0_i32_80
  let v188 : BitVec 32 := Scalar.extui v187
  let v189 : BitVec 32 := Scalar.subi v186 v188
  let v190 : BitVec 1 := Scalar.cmpi .ne v184 v189
  let v191 : BitVec 32 := Scalar.remsi v107 c16_i32_76
  let c0_i32_81 : BitVec 32 := 0#32
  let v192 : BitVec 1 := Scalar.cmpi .ne v191 c0_i32_81
  let v193 : BitVec 1 := Scalar.andi v190 v192
  let v179 : BitVec 32 := Scalar.divsi v107 c16_i32_76
  let c1_i32_82 : BitVec 32 := 1#32
  let v194 : BitVec 32 := Scalar.subi v179 c1_i32_82
  let v195 : BitVec 32 := Scalar.select v193 v194 v179
  let c16_i32_83 : BitVec 32 := 16#32
  let v196 : BitVec 32 := Scalar.muli v195 c16_i32_83
  let v197 : BitVec 32 := Scalar.maxsi v130 v196
  let c1_i32_86 : BitVec 32 := 1#32
  let arg17 : BitVec 32 := Scf.iv v197 c1_i32_86 k0_t14
  let v205 : BitVec 32 := Scalar.addi v109 arg17
  let v206 : Index := Scalar.indexCast v205
  ![v206.toNat]
def k0_off253 (i : grid0.Coords) (v212 : BitVec 32) (c0_i32_146 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_144 : BitVec 32 := 320#32
  let v412 : BitVec 32 := Scalar.muli v1 c320_i32_144
  let v413 : BitVec 32 := Scalar.subi v212 v412
  let c256_i32 : BitVec 32 := 256#32
  let v416 : BitVec 32 := Scalar.muli v413 c256_i32
  let v417 : BitVec 32 := Scalar.addi v416 c0_i32_146
  let v418 : Index := Scalar.indexCast v417
  ![v418.toNat]
def k0_cond82 (v210 : BitVec 32) (v212 : BitVec 32) : BitVec 1 :=
  let v213 : BitVec 1 := Scalar.cmpi .ne v210 v212
  let c0_i32_90 : BitVec 32 := 0#32
  let v214 : BitVec 1 := Scalar.cmpi .sge v212 c0_i32_90
  let v215 : BitVec 1 := Scalar.andi v213 v214
  let v216 : BitVec 32 := Scalar.extui v215
  let c0_i32_91 : BitVec 32 := 0#32
  let v217 : BitVec 1 := Scalar.cmpi .ne v216 c0_i32_91
  v217

def k0_off254 (i : grid0.Coords) (v212 : BitVec 32) (c0_i32_150 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_144 : BitVec 32 := 320#32
  let v412 : BitVec 32 := Scalar.muli v1 c320_i32_144
  let v413 : BitVec 32 := Scalar.subi v212 v412
  let c256_i32_148 : BitVec 32 := 256#32
  let v424 : BitVec 32 := Scalar.muli v413 c256_i32_148
  let c128_i32_149 : BitVec 32 := 128#32
  let v425 : BitVec 32 := Scalar.addi v424 c128_i32_149
  let v426 : BitVec 32 := Scalar.addi v425 c0_i32_150
  let v427 : Index := Scalar.indexCast v426
  ![v427.toNat]

def k0_chk76 (i : grid0.Coords) (v210 : BitVec 32) (v212 : BitVec 32) : Prop :=
  (∀ (k0_h82 : k0_cond82 v210 v212 = 1#1), ∀ (r : Fin 8), ∀ a, (k0_off253 i v212 (BitVec.ofNat 32 (16 * r.val))) a + S16.size a ≤ S81920.size a) ∧
  (∀ (k0_h82 : k0_cond82 v210 v212 = 1#1), ∀ (r : Fin 8), ∀ a, (k0_off254 i v212 (BitVec.ofNat 32 (16 * r.val))) a + S16.size a ≤ S81920.size a)
theorem k0_off253_inb : ∀ (i : grid0.Coords) (v210 : BitVec 32) (v212 : BitVec 32) (k0_hw76 : k0_chk76 i v210 v212), ∀ (k0_h82 : k0_cond82 v210 v212 = 1#1), ∀ (r : Fin 8), ∀ a, (k0_off253 i v212 (BitVec.ofNat 32 (16 * r.val))) a + S16.size a ≤ S81920.size a := fun i v210 v212 k0_hw76 k0_h82 r => k0_hw76.1 k0_h82 r
theorem k0_off254_inb : ∀ (i : grid0.Coords) (v210 : BitVec 32) (v212 : BitVec 32) (k0_hw76 : k0_chk76 i v210 v212), ∀ (k0_h82 : k0_cond82 v210 v212 = 1#1), ∀ (r : Fin 8), ∀ a, (k0_off254 i v212 (BitVec.ofNat 32 (16 * r.val))) a + S16.size a ≤ S81920.size a := fun i v210 v212 k0_hw76 k0_h82 r => k0_hw76.2 k0_h82 r

def k0_off255 (v5 : BitVec 32) (v7 : BitVec 32) (k0_t9 : Fin (k0_t9_loop v5 v7).trips) (k0_t14 : Fin (k0_t14_loop v5 v7 k0_t9).trips) (c0_i32_92 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_77 : BitVec 32 := 0#32
  let v180 : BitVec 1 := Scalar.cmpi .sgt v107 c0_i32_77
  let v181 : BitVec 32 := Scalar.extui v180
  let c0_i32_78 : BitVec 32 := 0#32
  let v182 : BitVec 1 := Scalar.cmpi .slt v107 c0_i32_78
  let v183 : BitVec 32 := Scalar.extui v182
  let v184 : BitVec 32 := Scalar.subi v181 v183
  let c16_i32_76 : BitVec 32 := 16#32
  let c0_i32_79 : BitVec 32 := 0#32
  let v185 : BitVec 1 := Scalar.cmpi .sgt c16_i32_76 c0_i32_79
  let v186 : BitVec 32 := Scalar.extui v185
  let c0_i32_80 : BitVec 32 := 0#32
  let v187 : BitVec 1 := Scalar.cmpi .slt c16_i32_76 c0_i32_80
  let v188 : BitVec 32 := Scalar.extui v187
  let v189 : BitVec 32 := Scalar.subi v186 v188
  let v190 : BitVec 1 := Scalar.cmpi .ne v184 v189
  let v191 : BitVec 32 := Scalar.remsi v107 c16_i32_76
  let c0_i32_81 : BitVec 32 := 0#32
  let v192 : BitVec 1 := Scalar.cmpi .ne v191 c0_i32_81
  let v193 : BitVec 1 := Scalar.andi v190 v192
  let v179 : BitVec 32 := Scalar.divsi v107 c16_i32_76
  let c1_i32_82 : BitVec 32 := 1#32
  let v194 : BitVec 32 := Scalar.subi v179 c1_i32_82
  let v195 : BitVec 32 := Scalar.select v193 v194 v179
  let c16_i32_83 : BitVec 32 := 16#32
  let v196 : BitVec 32 := Scalar.muli v195 c16_i32_83
  let v197 : BitVec 32 := Scalar.maxsi v130 v196
  let c1_i32_86 : BitVec 32 := 1#32
  let arg17 : BitVec 32 := Scf.iv v197 c1_i32_86 k0_t14
  let c128_i32 : BitVec 32 := 128#32
  let v218 : BitVec 32 := Scalar.muli arg17 c128_i32
  let v219 : BitVec 32 := Scalar.addi v108 v218
  let v220 : BitVec 32 := Scalar.addi v219 c0_i32_92
  let v221 : Index := Scalar.indexCast v220
  ![v221.toNat]
@[reducible] def k0_t15_loop (v5 : BitVec 32) (v7 : BitVec 32) (k0_t9 : Fin (k0_t9_loop v5 v7).trips) : Scf.Loop 32 :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_77 : BitVec 32 := 0#32
  let v180 : BitVec 1 := Scalar.cmpi .sgt v107 c0_i32_77
  let v181 : BitVec 32 := Scalar.extui v180
  let c0_i32_78 : BitVec 32 := 0#32
  let v182 : BitVec 1 := Scalar.cmpi .slt v107 c0_i32_78
  let v183 : BitVec 32 := Scalar.extui v182
  let v184 : BitVec 32 := Scalar.subi v181 v183
  let c16_i32_76 : BitVec 32 := 16#32
  let c0_i32_79 : BitVec 32 := 0#32
  let v185 : BitVec 1 := Scalar.cmpi .sgt c16_i32_76 c0_i32_79
  let v186 : BitVec 32 := Scalar.extui v185
  let c0_i32_80 : BitVec 32 := 0#32
  let v187 : BitVec 1 := Scalar.cmpi .slt c16_i32_76 c0_i32_80
  let v188 : BitVec 32 := Scalar.extui v187
  let v189 : BitVec 32 := Scalar.subi v186 v188
  let v190 : BitVec 1 := Scalar.cmpi .ne v184 v189
  let v191 : BitVec 32 := Scalar.remsi v107 c16_i32_76
  let c0_i32_81 : BitVec 32 := 0#32
  let v192 : BitVec 1 := Scalar.cmpi .ne v191 c0_i32_81
  let v193 : BitVec 1 := Scalar.andi v190 v192
  let v179 : BitVec 32 := Scalar.divsi v107 c16_i32_76
  let c1_i32_82 : BitVec 32 := 1#32
  let v194 : BitVec 32 := Scalar.subi v179 c1_i32_82
  let v195 : BitVec 32 := Scalar.select v193 v194 v179
  let c16_i32_83 : BitVec 32 := 16#32
  let v196 : BitVec 32 := Scalar.muli v195 c16_i32_83
  let v197 : BitVec 32 := Scalar.maxsi v130 v196
  let v198 : BitVec 32 := Scalar.subi v107 v197
  let c1_i32_85 : BitVec 32 := 1#32
  let v200 : BitVec 32 := Scalar.divsi v198 c1_i32_85
  let v201 : BitVec 32 := Scalar.muli v200 c1_i32_85
  let v202 : BitVec 32 := Scalar.addi v197 v201
  let v199 : BitVec 32 := Scalar.addi v197 v198
  let c1_i32_87 : BitVec 32 := 1#32
  ⟨v202, v199, c1_i32_87⟩
def k0_off256 (v5 : BitVec 32) (v7 : BitVec 32) (k0_t9 : Fin (k0_t9_loop v5 v7).trips) (k0_t15 : Fin (k0_t15_loop v5 v7 k0_t9).trips) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c176_i32_44 : BitVec 32 := 176#32
  let v109 : BitVec 32 := Scalar.muli v80 c176_i32_44
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_77 : BitVec 32 := 0#32
  let v180 : BitVec 1 := Scalar.cmpi .sgt v107 c0_i32_77
  let v181 : BitVec 32 := Scalar.extui v180
  let c0_i32_78 : BitVec 32 := 0#32
  let v182 : BitVec 1 := Scalar.cmpi .slt v107 c0_i32_78
  let v183 : BitVec 32 := Scalar.extui v182
  let v184 : BitVec 32 := Scalar.subi v181 v183
  let c16_i32_76 : BitVec 32 := 16#32
  let c0_i32_79 : BitVec 32 := 0#32
  let v185 : BitVec 1 := Scalar.cmpi .sgt c16_i32_76 c0_i32_79
  let v186 : BitVec 32 := Scalar.extui v185
  let c0_i32_80 : BitVec 32 := 0#32
  let v187 : BitVec 1 := Scalar.cmpi .slt c16_i32_76 c0_i32_80
  let v188 : BitVec 32 := Scalar.extui v187
  let v189 : BitVec 32 := Scalar.subi v186 v188
  let v190 : BitVec 1 := Scalar.cmpi .ne v184 v189
  let v191 : BitVec 32 := Scalar.remsi v107 c16_i32_76
  let c0_i32_81 : BitVec 32 := 0#32
  let v192 : BitVec 1 := Scalar.cmpi .ne v191 c0_i32_81
  let v193 : BitVec 1 := Scalar.andi v190 v192
  let v179 : BitVec 32 := Scalar.divsi v107 c16_i32_76
  let c1_i32_82 : BitVec 32 := 1#32
  let v194 : BitVec 32 := Scalar.subi v179 c1_i32_82
  let v195 : BitVec 32 := Scalar.select v193 v194 v179
  let c16_i32_83 : BitVec 32 := 16#32
  let v196 : BitVec 32 := Scalar.muli v195 c16_i32_83
  let v197 : BitVec 32 := Scalar.maxsi v130 v196
  let v198 : BitVec 32 := Scalar.subi v107 v197
  let c1_i32_85 : BitVec 32 := 1#32
  let v200 : BitVec 32 := Scalar.divsi v198 c1_i32_85
  let v201 : BitVec 32 := Scalar.muli v200 c1_i32_85
  let v202 : BitVec 32 := Scalar.addi v197 v201
  let c1_i32_87 : BitVec 32 := 1#32
  let arg17 : BitVec 32 := Scf.iv v202 c1_i32_87 k0_t15
  let v205 : BitVec 32 := Scalar.addi v109 arg17
  let v206 : Index := Scalar.indexCast v205
  ![v206.toNat]
def k0_off257 (i : grid0.Coords) (v212 : BitVec 32) (c0_i32_146 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_144 : BitVec 32 := 320#32
  let v412 : BitVec 32 := Scalar.muli v1 c320_i32_144
  let v413 : BitVec 32 := Scalar.subi v212 v412
  let c256_i32 : BitVec 32 := 256#32
  let v416 : BitVec 32 := Scalar.muli v413 c256_i32
  let v417 : BitVec 32 := Scalar.addi v416 c0_i32_146
  let v418 : Index := Scalar.indexCast v417
  ![v418.toNat]
def k0_cond83 (v210 : BitVec 32) (v212 : BitVec 32) : BitVec 1 :=
  let v213 : BitVec 1 := Scalar.cmpi .ne v210 v212
  let c0_i32_90 : BitVec 32 := 0#32
  let v214 : BitVec 1 := Scalar.cmpi .sge v212 c0_i32_90
  let v215 : BitVec 1 := Scalar.andi v213 v214
  let v216 : BitVec 32 := Scalar.extui v215
  let c0_i32_91 : BitVec 32 := 0#32
  let v217 : BitVec 1 := Scalar.cmpi .ne v216 c0_i32_91
  v217

def k0_off258 (i : grid0.Coords) (v212 : BitVec 32) (c0_i32_150 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_144 : BitVec 32 := 320#32
  let v412 : BitVec 32 := Scalar.muli v1 c320_i32_144
  let v413 : BitVec 32 := Scalar.subi v212 v412
  let c256_i32_148 : BitVec 32 := 256#32
  let v424 : BitVec 32 := Scalar.muli v413 c256_i32_148
  let c128_i32_149 : BitVec 32 := 128#32
  let v425 : BitVec 32 := Scalar.addi v424 c128_i32_149
  let v426 : BitVec 32 := Scalar.addi v425 c0_i32_150
  let v427 : Index := Scalar.indexCast v426
  ![v427.toNat]

def k0_chk77 (i : grid0.Coords) (v210 : BitVec 32) (v212 : BitVec 32) : Prop :=
  (∀ (k0_h83 : k0_cond83 v210 v212 = 1#1), ∀ (r : Fin 8), ∀ a, (k0_off257 i v212 (BitVec.ofNat 32 (16 * r.val))) a + S16.size a ≤ S81920.size a) ∧
  (∀ (k0_h83 : k0_cond83 v210 v212 = 1#1), ∀ (r : Fin 8), ∀ a, (k0_off258 i v212 (BitVec.ofNat 32 (16 * r.val))) a + S16.size a ≤ S81920.size a)
theorem k0_off257_inb : ∀ (i : grid0.Coords) (v210 : BitVec 32) (v212 : BitVec 32) (k0_hw77 : k0_chk77 i v210 v212), ∀ (k0_h83 : k0_cond83 v210 v212 = 1#1), ∀ (r : Fin 8), ∀ a, (k0_off257 i v212 (BitVec.ofNat 32 (16 * r.val))) a + S16.size a ≤ S81920.size a := fun i v210 v212 k0_hw77 k0_h83 r => k0_hw77.1 k0_h83 r
theorem k0_off258_inb : ∀ (i : grid0.Coords) (v210 : BitVec 32) (v212 : BitVec 32) (k0_hw77 : k0_chk77 i v210 v212), ∀ (k0_h83 : k0_cond83 v210 v212 = 1#1), ∀ (r : Fin 8), ∀ a, (k0_off258 i v212 (BitVec.ofNat 32 (16 * r.val))) a + S16.size a ≤ S81920.size a := fun i v210 v212 k0_hw77 k0_h83 r => k0_hw77.2 k0_h83 r

def k0_off259 (v5 : BitVec 32) (v7 : BitVec 32) (k0_t9 : Fin (k0_t9_loop v5 v7).trips) (k0_t15 : Fin (k0_t15_loop v5 v7 k0_t9).trips) (c0_i32_92 : BitVec 32) : Fin 1 → Nat :=
  let c0_i32 : BitVec 32 := 0#32
  let v10 : BitVec 1 := Scalar.cmpi .sgt v5 c0_i32
  let v11 : BitVec 32 := Scalar.extui v10
  let c0_i32_0 : BitVec 32 := 0#32
  let v12 : BitVec 1 := Scalar.cmpi .slt v5 c0_i32_0
  let v13 : BitVec 32 := Scalar.extui v12
  let v14 : BitVec 32 := Scalar.subi v11 v13
  let c160_i32 : BitVec 32 := 160#32
  let c0_i32_1 : BitVec 32 := 0#32
  let v15 : BitVec 1 := Scalar.cmpi .sgt c160_i32 c0_i32_1
  let v16 : BitVec 32 := Scalar.extui v15
  let c0_i32_2 : BitVec 32 := 0#32
  let v17 : BitVec 1 := Scalar.cmpi .slt c160_i32 c0_i32_2
  let v18 : BitVec 32 := Scalar.extui v17
  let v19 : BitVec 32 := Scalar.subi v16 v18
  let v20 : BitVec 1 := Scalar.cmpi .ne v14 v19
  let v21 : BitVec 32 := Scalar.remsi v5 c160_i32
  let c0_i32_3 : BitVec 32 := 0#32
  let v22 : BitVec 1 := Scalar.cmpi .ne v21 c0_i32_3
  let v23 : BitVec 1 := Scalar.andi v20 v22
  let v9 : BitVec 32 := Scalar.divsi v5 c160_i32
  let c1_i32 : BitVec 32 := 1#32
  let v24 : BitVec 32 := Scalar.subi v9 c1_i32
  let v25 : BitVec 32 := Scalar.select v23 v24 v9
  let c160_i32_4 : BitVec 32 := 160#32
  let v26 : BitVec 32 := Scalar.addi v7 c160_i32_4
  let c1_i32_5 : BitVec 32 := 1#32
  let v27 : BitVec 32 := Scalar.subi v26 c1_i32_5
  let c0_i32_7 : BitVec 32 := 0#32
  let v29 : BitVec 1 := Scalar.cmpi .sgt v27 c0_i32_7
  let v30 : BitVec 32 := Scalar.extui v29
  let c0_i32_8 : BitVec 32 := 0#32
  let v31 : BitVec 1 := Scalar.cmpi .slt v27 c0_i32_8
  let v32 : BitVec 32 := Scalar.extui v31
  let v33 : BitVec 32 := Scalar.subi v30 v32
  let c160_i32_6 : BitVec 32 := 160#32
  let c0_i32_9 : BitVec 32 := 0#32
  let v34 : BitVec 1 := Scalar.cmpi .sgt c160_i32_6 c0_i32_9
  let v35 : BitVec 32 := Scalar.extui v34
  let c0_i32_10 : BitVec 32 := 0#32
  let v36 : BitVec 1 := Scalar.cmpi .slt c160_i32_6 c0_i32_10
  let v37 : BitVec 32 := Scalar.extui v36
  let v38 : BitVec 32 := Scalar.subi v35 v37
  let v39 : BitVec 1 := Scalar.cmpi .ne v33 v38
  let v40 : BitVec 32 := Scalar.remsi v27 c160_i32_6
  let c0_i32_11 : BitVec 32 := 0#32
  let v41 : BitVec 1 := Scalar.cmpi .ne v40 c0_i32_11
  let v42 : BitVec 1 := Scalar.andi v39 v41
  let v28 : BitVec 32 := Scalar.divsi v27 c160_i32_6
  let c1_i32_12 : BitVec 32 := 1#32
  let v43 : BitVec 32 := Scalar.subi v28 c1_i32_12
  let v44 : BitVec 32 := Scalar.select v42 v43 v28
  let v53 : BitVec 32 := Scalar.subi v44 v25
  let c1_i32_21 : BitVec 32 := 1#32
  let v55 : BitVec 32 := Scalar.divsi v53 c1_i32_21
  let v56 : BitVec 32 := Scalar.muli v55 c1_i32_21
  let v57 : BitVec 32 := Scalar.addi v25 v56
  let c1_i32_23 : BitVec 32 := 1#32
  let arg15 : BitVec 32 := Scf.iv v57 c1_i32_23 k0_t9
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg15 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c20480_i32_43 : BitVec 32 := 20480#32
  let v108 : BitVec 32 := Scalar.muli v80 c20480_i32_43
  let c160_i32_36 : BitVec 32 := 160#32
  let v81 : BitVec 32 := Scalar.muli arg15 c160_i32_36
  let c160_i32_42 : BitVec 32 := 160#32
  let v105 : BitVec 32 := Scalar.addi v81 c160_i32_42
  let v106 : BitVec 32 := Scalar.minsi v7 v105
  let v107 : BitVec 32 := Scalar.subi v106 v81
  let v103 : BitVec 32 := Scalar.maxsi v5 v81
  let v104 : BitVec 32 := Scalar.subi v103 v81
  let c16_i32 : BitVec 32 := 16#32
  let v110 : BitVec 32 := Scalar.addi v104 c16_i32
  let c1_i32_45 : BitVec 32 := 1#32
  let v111 : BitVec 32 := Scalar.subi v110 c1_i32_45
  let c0_i32_47 : BitVec 32 := 0#32
  let v113 : BitVec 1 := Scalar.cmpi .sgt v111 c0_i32_47
  let v114 : BitVec 32 := Scalar.extui v113
  let c0_i32_48 : BitVec 32 := 0#32
  let v115 : BitVec 1 := Scalar.cmpi .slt v111 c0_i32_48
  let v116 : BitVec 32 := Scalar.extui v115
  let v117 : BitVec 32 := Scalar.subi v114 v116
  let c16_i32_46 : BitVec 32 := 16#32
  let c0_i32_49 : BitVec 32 := 0#32
  let v118 : BitVec 1 := Scalar.cmpi .sgt c16_i32_46 c0_i32_49
  let v119 : BitVec 32 := Scalar.extui v118
  let c0_i32_50 : BitVec 32 := 0#32
  let v120 : BitVec 1 := Scalar.cmpi .slt c16_i32_46 c0_i32_50
  let v121 : BitVec 32 := Scalar.extui v120
  let v122 : BitVec 32 := Scalar.subi v119 v121
  let v123 : BitVec 1 := Scalar.cmpi .ne v117 v122
  let v124 : BitVec 32 := Scalar.remsi v111 c16_i32_46
  let c0_i32_51 : BitVec 32 := 0#32
  let v125 : BitVec 1 := Scalar.cmpi .ne v124 c0_i32_51
  let v126 : BitVec 1 := Scalar.andi v123 v125
  let v112 : BitVec 32 := Scalar.divsi v111 c16_i32_46
  let c1_i32_52 : BitVec 32 := 1#32
  let v127 : BitVec 32 := Scalar.subi v112 c1_i32_52
  let v128 : BitVec 32 := Scalar.select v126 v127 v112
  let c16_i32_53 : BitVec 32 := 16#32
  let v129 : BitVec 32 := Scalar.muli v128 c16_i32_53
  let v130 : BitVec 32 := Scalar.minsi v107 v129
  let c0_i32_77 : BitVec 32 := 0#32
  let v180 : BitVec 1 := Scalar.cmpi .sgt v107 c0_i32_77
  let v181 : BitVec 32 := Scalar.extui v180
  let c0_i32_78 : BitVec 32 := 0#32
  let v182 : BitVec 1 := Scalar.cmpi .slt v107 c0_i32_78
  let v183 : BitVec 32 := Scalar.extui v182
  let v184 : BitVec 32 := Scalar.subi v181 v183
  let c16_i32_76 : BitVec 32 := 16#32
  let c0_i32_79 : BitVec 32 := 0#32
  let v185 : BitVec 1 := Scalar.cmpi .sgt c16_i32_76 c0_i32_79
  let v186 : BitVec 32 := Scalar.extui v185
  let c0_i32_80 : BitVec 32 := 0#32
  let v187 : BitVec 1 := Scalar.cmpi .slt c16_i32_76 c0_i32_80
  let v188 : BitVec 32 := Scalar.extui v187
  let v189 : BitVec 32 := Scalar.subi v186 v188
  let v190 : BitVec 1 := Scalar.cmpi .ne v184 v189
  let v191 : BitVec 32 := Scalar.remsi v107 c16_i32_76
  let c0_i32_81 : BitVec 32 := 0#32
  let v192 : BitVec 1 := Scalar.cmpi .ne v191 c0_i32_81
  let v193 : BitVec 1 := Scalar.andi v190 v192
  let v179 : BitVec 32 := Scalar.divsi v107 c16_i32_76
  let c1_i32_82 : BitVec 32 := 1#32
  let v194 : BitVec 32 := Scalar.subi v179 c1_i32_82
  let v195 : BitVec 32 := Scalar.select v193 v194 v179
  let c16_i32_83 : BitVec 32 := 16#32
  let v196 : BitVec 32 := Scalar.muli v195 c16_i32_83
  let v197 : BitVec 32 := Scalar.maxsi v130 v196
  let v198 : BitVec 32 := Scalar.subi v107 v197
  let c1_i32_85 : BitVec 32 := 1#32
  let v200 : BitVec 32 := Scalar.divsi v198 c1_i32_85
  let v201 : BitVec 32 := Scalar.muli v200 c1_i32_85
  let v202 : BitVec 32 := Scalar.addi v197 v201
  let c1_i32_87 : BitVec 32 := 1#32
  let arg17 : BitVec 32 := Scf.iv v202 c1_i32_87 k0_t15
  let c128_i32 : BitVec 32 := 128#32
  let v218 : BitVec 32 := Scalar.muli arg17 c128_i32
  let v219 : BitVec 32 := Scalar.addi v108 v218
  let v220 : BitVec 32 := Scalar.addi v219 c0_i32_92
  let v221 : Index := Scalar.indexCast v220
  ![v221.toNat]

def k0_chk1_0 (v5 : BitVec 32) (v7 : BitVec 32) : Prop :=
  (∀ (k0_h1 : k0_cond1 v5 v7 = 1#1), ∀ a, (k0_off2 v5) a + S20480.size a ≤ S40960.size a) ∧
  (∀ (k0_h1 : k0_cond1 v5 v7 = 1#1), ∀ a, (k0_off3 v5) a + S20480.size a ≤ S40960000.size a) ∧
  (∀ (k0_h1 : k0_cond1 v5 v7 = 1#1), ∀ a, (k0_off4 v5) a + S1.size a ≤ S2.size a) ∧
  (∀ (k0_h1 : k0_cond1 v5 v7 = 1#1), ∀ a, (k0_off5 v5) a + S160.size a ≤ S352.size a) ∧
  (∀ (k0_h1 : k0_cond1 v5 v7 = 1#1), ∀ a, (k0_off6 v5) a + S160.size a ≤ S320000.size a) ∧
  ((k0_t2_loop v5 v7).OK) ∧
  (∀ k0_t2 : Fin (k0_t2_loop v5 v7).trips, ∀ (k0_h2 : k0_cond2 v5 v7 k0_t2 = 1#1), ∀ a, (k0_off8 v5 v7 k0_t2) a + S20480.size a ≤ S40960.size a) ∧
  (∀ k0_t2 : Fin (k0_t2_loop v5 v7).trips, ∀ (k0_h2 : k0_cond2 v5 v7 k0_t2 = 1#1), ∀ a, (k0_off9 v5 v7 k0_t2) a + S20480.size a ≤ S40960000.size a) ∧
  (∀ k0_t2 : Fin (k0_t2_loop v5 v7).trips, ∀ (k0_h2 : k0_cond2 v5 v7 k0_t2 = 1#1), ∀ a, (k0_off10 v5 v7 k0_t2) a + S1.size a ≤ S2.size a) ∧
  (∀ k0_t2 : Fin (k0_t2_loop v5 v7).trips, ∀ (k0_h2 : k0_cond2 v5 v7 k0_t2 = 1#1), ∀ a, (k0_off11 v5 v7 k0_t2) a + S160.size a ≤ S352.size a) ∧
  (∀ k0_t2 : Fin (k0_t2_loop v5 v7).trips, ∀ (k0_h2 : k0_cond2 v5 v7 k0_t2 = 1#1), ∀ a, (k0_off12 v5 v7 k0_t2) a + S160.size a ≤ S320000.size a) ∧
  (∀ k0_t2 : Fin (k0_t2_loop v5 v7).trips, ∀ a, (k0_off13 v5 v7 k0_t2) a + S20480.size a ≤ S40960.size a) ∧
  (∀ k0_t2 : Fin (k0_t2_loop v5 v7).trips, ∀ a, (k0_off14 v5 v7 k0_t2) a + S20480.size a ≤ S40960000.size a) ∧
  (∀ k0_t2 : Fin (k0_t2_loop v5 v7).trips, ∀ a, (k0_off15 v5 v7 k0_t2) a + S1.size a ≤ S2.size a) ∧
  (∀ k0_t2 : Fin (k0_t2_loop v5 v7).trips, ∀ a, (k0_off16 v5 v7 k0_t2) a + S160.size a ≤ S352.size a) ∧
  (∀ k0_t2 : Fin (k0_t2_loop v5 v7).trips, ∀ a, (k0_off17 v5 v7 k0_t2) a + S160.size a ≤ S320000.size a) ∧
  (∀ k0_t2 : Fin (k0_t2_loop v5 v7).trips, (k0_t3_loop v5 v7 k0_t2).OK) ∧
  (∀ (k0_t2 : Fin (k0_t2_loop v5 v7).trips) (k0_t3 : Fin (k0_t3_loop v5 v7 k0_t2).trips), ∀ a, (k0_off18 v5 v7 k0_t2 k0_t3) a + S16.size a ≤ S352.size a) ∧
  (∀ (k0_t2 : Fin (k0_t2_loop v5 v7).trips) (k0_t3 : Fin (k0_t3_loop v5 v7 k0_t2).trips), ∀ (r : Fin 8), ∀ a, (k0_off21 v5 v7 k0_t2 k0_t3 (BitVec.ofNat 32 (16 * r.val))) a + S16.size a ≤ S40960.size a) ∧
  (∀ k0_t2 : Fin (k0_t2_loop v5 v7).trips, (k0_t4_loop v5 v7 k0_t2).OK) ∧
  (∀ (k0_t2 : Fin (k0_t2_loop v5 v7).trips) (k0_t4 : Fin (k0_t4_loop v5 v7 k0_t2).trips), ∀ a, (k0_off22 v5 v7 k0_t2 k0_t4) a + S16.size a ≤ S352.size a) ∧
  (∀ (k0_t2 : Fin (k0_t2_loop v5 v7).trips) (k0_t4 : Fin (k0_t4_loop v5 v7 k0_t2).trips), ∀ (r : Fin 8), ∀ a, (k0_off25 v5 v7 k0_t2 k0_t4 (BitVec.ofNat 32 (16 * r.val))) a + S16.size a ≤ S40960.size a) ∧
  (∀ k0_t2 : Fin (k0_t2_loop v5 v7).trips, (k0_t5_loop v5 v7 k0_t2).OK) ∧
  (∀ (k0_t2 : Fin (k0_t2_loop v5 v7).trips) (k0_t5 : Fin (k0_t5_loop v5 v7 k0_t2).trips), ∀ a, (k0_off26 v5 v7 k0_t2 k0_t5) a + S16.size a ≤ S352.size a) ∧
  (∀ k0_t2 : Fin (k0_t2_loop v5 v7).trips, (k0_t6_loop v5 v7 k0_t2).OK) ∧
  (∀ (k0_t2 : Fin (k0_t2_loop v5 v7).trips) (k0_t6 : Fin (k0_t6_loop v5 v7 k0_t2).trips), ∀ a, (k0_off76 v5 v7 k0_t2 k0_t6) a + S16.size a ≤ S352.size a) ∧
  (∀ k0_t2 : Fin (k0_t2_loop v5 v7).trips, (k0_t7_loop v5 v7 k0_t2).OK) ∧
  (∀ (k0_t2 : Fin (k0_t2_loop v5 v7).trips) (k0_t7 : Fin (k0_t7_loop v5 v7 k0_t2).trips), ∀ a, (k0_off126 v5 v7 k0_t2 k0_t7) a + S16.size a ≤ S352.size a) ∧
  (∀ (k0_t2 : Fin (k0_t2_loop v5 v7).trips) (k0_t7 : Fin (k0_t7_loop v5 v7 k0_t2).trips), ∀ (r : Fin 8), ∀ a, (k0_off129 v5 v7 k0_t2 k0_t7 (BitVec.ofNat 32 (16 * r.val))) a + S16.size a ≤ S40960.size a) ∧
  (∀ k0_t2 : Fin (k0_t2_loop v5 v7).trips, (k0_t8_loop v5 v7 k0_t2).OK) ∧
  (∀ (k0_t2 : Fin (k0_t2_loop v5 v7).trips) (k0_t8 : Fin (k0_t8_loop v5 v7 k0_t2).trips), ∀ a, (k0_off130 v5 v7 k0_t2 k0_t8) a + S16.size a ≤ S352.size a) ∧
  (∀ (k0_t2 : Fin (k0_t2_loop v5 v7).trips) (k0_t8 : Fin (k0_t8_loop v5 v7 k0_t2).trips), ∀ (r : Fin 8), ∀ a, (k0_off133 v5 v7 k0_t2 k0_t8 (BitVec.ofNat 32 (16 * r.val))) a + S16.size a ≤ S40960.size a)
def k0_chk1_1 (v5 : BitVec 32) (v7 : BitVec 32) : Prop :=
  ((k0_t9_loop v5 v7).OK) ∧
  (∀ k0_t9 : Fin (k0_t9_loop v5 v7).trips, ∀ (k0_h43 : k0_cond43 v5 v7 k0_t9 = 1#1), ∀ a, (k0_off134 v5 v7 k0_t9) a + S20480.size a ≤ S40960.size a) ∧
  (∀ k0_t9 : Fin (k0_t9_loop v5 v7).trips, ∀ (k0_h43 : k0_cond43 v5 v7 k0_t9 = 1#1), ∀ a, (k0_off135 v5 v7 k0_t9) a + S20480.size a ≤ S40960000.size a) ∧
  (∀ k0_t9 : Fin (k0_t9_loop v5 v7).trips, ∀ (k0_h43 : k0_cond43 v5 v7 k0_t9 = 1#1), ∀ a, (k0_off136 v5 v7 k0_t9) a + S1.size a ≤ S2.size a) ∧
  (∀ k0_t9 : Fin (k0_t9_loop v5 v7).trips, ∀ (k0_h43 : k0_cond43 v5 v7 k0_t9 = 1#1), ∀ a, (k0_off137 v5 v7 k0_t9) a + S160.size a ≤ S352.size a) ∧
  (∀ k0_t9 : Fin (k0_t9_loop v5 v7).trips, ∀ (k0_h43 : k0_cond43 v5 v7 k0_t9 = 1#1), ∀ a, (k0_off138 v5 v7 k0_t9) a + S160.size a ≤ S320000.size a) ∧
  (∀ k0_t9 : Fin (k0_t9_loop v5 v7).trips, ∀ a, (k0_off139 v5 v7 k0_t9) a + S20480.size a ≤ S40960.size a) ∧
  (∀ k0_t9 : Fin (k0_t9_loop v5 v7).trips, ∀ a, (k0_off140 v5 v7 k0_t9) a + S20480.size a ≤ S40960000.size a) ∧
  (∀ k0_t9 : Fin (k0_t9_loop v5 v7).trips, ∀ a, (k0_off141 v5 v7 k0_t9) a + S1.size a ≤ S2.size a) ∧
  (∀ k0_t9 : Fin (k0_t9_loop v5 v7).trips, ∀ a, (k0_off142 v5 v7 k0_t9) a + S160.size a ≤ S352.size a) ∧
  (∀ k0_t9 : Fin (k0_t9_loop v5 v7).trips, ∀ a, (k0_off143 v5 v7 k0_t9) a + S160.size a ≤ S320000.size a) ∧
  (∀ k0_t9 : Fin (k0_t9_loop v5 v7).trips, (k0_t10_loop v5 v7 k0_t9).OK) ∧
  (∀ (k0_t9 : Fin (k0_t9_loop v5 v7).trips) (k0_t10 : Fin (k0_t10_loop v5 v7 k0_t9).trips), ∀ a, (k0_off144 v5 v7 k0_t9 k0_t10) a + S16.size a ≤ S352.size a) ∧
  (∀ (k0_t9 : Fin (k0_t9_loop v5 v7).trips) (k0_t10 : Fin (k0_t10_loop v5 v7 k0_t9).trips), ∀ (r : Fin 8), ∀ a, (k0_off147 v5 v7 k0_t9 k0_t10 (BitVec.ofNat 32 (16 * r.val))) a + S16.size a ≤ S40960.size a) ∧
  (∀ k0_t9 : Fin (k0_t9_loop v5 v7).trips, (k0_t11_loop v5 v7 k0_t9).OK) ∧
  (∀ (k0_t9 : Fin (k0_t9_loop v5 v7).trips) (k0_t11 : Fin (k0_t11_loop v5 v7 k0_t9).trips), ∀ a, (k0_off148 v5 v7 k0_t9 k0_t11) a + S16.size a ≤ S352.size a) ∧
  (∀ (k0_t9 : Fin (k0_t9_loop v5 v7).trips) (k0_t11 : Fin (k0_t11_loop v5 v7 k0_t9).trips), ∀ (r : Fin 8), ∀ a, (k0_off151 v5 v7 k0_t9 k0_t11 (BitVec.ofNat 32 (16 * r.val))) a + S16.size a ≤ S40960.size a) ∧
  (∀ k0_t9 : Fin (k0_t9_loop v5 v7).trips, (k0_t12_loop v5 v7 k0_t9).OK) ∧
  (∀ (k0_t9 : Fin (k0_t9_loop v5 v7).trips) (k0_t12 : Fin (k0_t12_loop v5 v7 k0_t9).trips), ∀ a, (k0_off152 v5 v7 k0_t9 k0_t12) a + S16.size a ≤ S352.size a) ∧
  (∀ k0_t9 : Fin (k0_t9_loop v5 v7).trips, (k0_t13_loop v5 v7 k0_t9).OK) ∧
  (∀ (k0_t9 : Fin (k0_t9_loop v5 v7).trips) (k0_t13 : Fin (k0_t13_loop v5 v7 k0_t9).trips), ∀ a, (k0_off202 v5 v7 k0_t9 k0_t13) a + S16.size a ≤ S352.size a) ∧
  (∀ k0_t9 : Fin (k0_t9_loop v5 v7).trips, (k0_t14_loop v5 v7 k0_t9).OK) ∧
  (∀ (k0_t9 : Fin (k0_t9_loop v5 v7).trips) (k0_t14 : Fin (k0_t14_loop v5 v7 k0_t9).trips), ∀ a, (k0_off252 v5 v7 k0_t9 k0_t14) a + S16.size a ≤ S352.size a) ∧
  (∀ (k0_t9 : Fin (k0_t9_loop v5 v7).trips) (k0_t14 : Fin (k0_t14_loop v5 v7 k0_t9).trips), ∀ (r : Fin 8), ∀ a, (k0_off255 v5 v7 k0_t9 k0_t14 (BitVec.ofNat 32 (16 * r.val))) a + S16.size a ≤ S40960.size a) ∧
  (∀ k0_t9 : Fin (k0_t9_loop v5 v7).trips, (k0_t15_loop v5 v7 k0_t9).OK) ∧
  (∀ (k0_t9 : Fin (k0_t9_loop v5 v7).trips) (k0_t15 : Fin (k0_t15_loop v5 v7 k0_t9).trips), ∀ a, (k0_off256 v5 v7 k0_t9 k0_t15) a + S16.size a ≤ S352.size a) ∧
  (∀ (k0_t9 : Fin (k0_t9_loop v5 v7).trips) (k0_t15 : Fin (k0_t15_loop v5 v7 k0_t9).trips), ∀ (r : Fin 8), ∀ a, (k0_off259 v5 v7 k0_t9 k0_t15 (BitVec.ofNat 32 (16 * r.val))) a + S16.size a ≤ S40960.size a)
def k0_chk1 (v5 : BitVec 32) (v7 : BitVec 32) : Prop :=
  k0_chk1_0 v5 v7 ∧
  k0_chk1_1 v5 v7
theorem k0_off2_inb : ∀ (v5 : BitVec 32) (v7 : BitVec 32) (k0_hw1 : k0_chk1 v5 v7), ∀ (k0_h1 : k0_cond1 v5 v7 = 1#1), ∀ a, (k0_off2 v5) a + S20480.size a ≤ S40960.size a := fun v5 v7 k0_hw1 k0_h1 => k0_hw1.1.1 k0_h1
theorem k0_off3_inb : ∀ (v5 : BitVec 32) (v7 : BitVec 32) (k0_hw1 : k0_chk1 v5 v7), ∀ (k0_h1 : k0_cond1 v5 v7 = 1#1), ∀ a, (k0_off3 v5) a + S20480.size a ≤ S40960000.size a := fun v5 v7 k0_hw1 k0_h1 => k0_hw1.1.2.1 k0_h1
theorem k0_off4_inb : ∀ (v5 : BitVec 32) (v7 : BitVec 32) (k0_hw1 : k0_chk1 v5 v7), ∀ (k0_h1 : k0_cond1 v5 v7 = 1#1), ∀ a, (k0_off4 v5) a + S1.size a ≤ S2.size a := fun v5 v7 k0_hw1 k0_h1 => k0_hw1.1.2.2.1 k0_h1
theorem k0_off5_inb : ∀ (v5 : BitVec 32) (v7 : BitVec 32) (k0_hw1 : k0_chk1 v5 v7), ∀ (k0_h1 : k0_cond1 v5 v7 = 1#1), ∀ a, (k0_off5 v5) a + S160.size a ≤ S352.size a := fun v5 v7 k0_hw1 k0_h1 => k0_hw1.1.2.2.2.1 k0_h1
theorem k0_off6_inb : ∀ (v5 : BitVec 32) (v7 : BitVec 32) (k0_hw1 : k0_chk1 v5 v7), ∀ (k0_h1 : k0_cond1 v5 v7 = 1#1), ∀ a, (k0_off6 v5) a + S160.size a ≤ S320000.size a := fun v5 v7 k0_hw1 k0_h1 => k0_hw1.1.2.2.2.2.1 k0_h1
theorem k0_t2_ok : ∀ (v5 : BitVec 32) (v7 : BitVec 32) (k0_hw1 : k0_chk1 v5 v7), (k0_t2_loop v5 v7).OK := fun v5 v7 k0_hw1 => k0_hw1.1.2.2.2.2.2.1
theorem k0_off8_inb : ∀ (v5 : BitVec 32) (v7 : BitVec 32) (k0_hw1 : k0_chk1 v5 v7) (k0_t2 : Fin (k0_t2_loop v5 v7).trips), ∀ (k0_h2 : k0_cond2 v5 v7 k0_t2 = 1#1), ∀ a, (k0_off8 v5 v7 k0_t2) a + S20480.size a ≤ S40960.size a := fun v5 v7 k0_hw1 k0_t2 k0_h2 => k0_hw1.1.2.2.2.2.2.2.1 k0_t2 k0_h2
theorem k0_off9_inb : ∀ (v5 : BitVec 32) (v7 : BitVec 32) (k0_hw1 : k0_chk1 v5 v7) (k0_t2 : Fin (k0_t2_loop v5 v7).trips), ∀ (k0_h2 : k0_cond2 v5 v7 k0_t2 = 1#1), ∀ a, (k0_off9 v5 v7 k0_t2) a + S20480.size a ≤ S40960000.size a := fun v5 v7 k0_hw1 k0_t2 k0_h2 => k0_hw1.1.2.2.2.2.2.2.2.1 k0_t2 k0_h2
theorem k0_off10_inb : ∀ (v5 : BitVec 32) (v7 : BitVec 32) (k0_hw1 : k0_chk1 v5 v7) (k0_t2 : Fin (k0_t2_loop v5 v7).trips), ∀ (k0_h2 : k0_cond2 v5 v7 k0_t2 = 1#1), ∀ a, (k0_off10 v5 v7 k0_t2) a + S1.size a ≤ S2.size a := fun v5 v7 k0_hw1 k0_t2 k0_h2 => k0_hw1.1.2.2.2.2.2.2.2.2.1 k0_t2 k0_h2
theorem k0_off11_inb : ∀ (v5 : BitVec 32) (v7 : BitVec 32) (k0_hw1 : k0_chk1 v5 v7) (k0_t2 : Fin (k0_t2_loop v5 v7).trips), ∀ (k0_h2 : k0_cond2 v5 v7 k0_t2 = 1#1), ∀ a, (k0_off11 v5 v7 k0_t2) a + S160.size a ≤ S352.size a := fun v5 v7 k0_hw1 k0_t2 k0_h2 => k0_hw1.1.2.2.2.2.2.2.2.2.2.1 k0_t2 k0_h2
theorem k0_off12_inb : ∀ (v5 : BitVec 32) (v7 : BitVec 32) (k0_hw1 : k0_chk1 v5 v7) (k0_t2 : Fin (k0_t2_loop v5 v7).trips), ∀ (k0_h2 : k0_cond2 v5 v7 k0_t2 = 1#1), ∀ a, (k0_off12 v5 v7 k0_t2) a + S160.size a ≤ S320000.size a := fun v5 v7 k0_hw1 k0_t2 k0_h2 => k0_hw1.1.2.2.2.2.2.2.2.2.2.2.1 k0_t2 k0_h2
theorem k0_off13_inb : ∀ (v5 : BitVec 32) (v7 : BitVec 32) (k0_hw1 : k0_chk1 v5 v7) (k0_t2 : Fin (k0_t2_loop v5 v7).trips), ∀ a, (k0_off13 v5 v7 k0_t2) a + S20480.size a ≤ S40960.size a := fun v5 v7 k0_hw1 k0_t2 => k0_hw1.1.2.2.2.2.2.2.2.2.2.2.2.1 k0_t2
theorem k0_off14_inb : ∀ (v5 : BitVec 32) (v7 : BitVec 32) (k0_hw1 : k0_chk1 v5 v7) (k0_t2 : Fin (k0_t2_loop v5 v7).trips), ∀ a, (k0_off14 v5 v7 k0_t2) a + S20480.size a ≤ S40960000.size a := fun v5 v7 k0_hw1 k0_t2 => k0_hw1.1.2.2.2.2.2.2.2.2.2.2.2.2.1 k0_t2
theorem k0_off15_inb : ∀ (v5 : BitVec 32) (v7 : BitVec 32) (k0_hw1 : k0_chk1 v5 v7) (k0_t2 : Fin (k0_t2_loop v5 v7).trips), ∀ a, (k0_off15 v5 v7 k0_t2) a + S1.size a ≤ S2.size a := fun v5 v7 k0_hw1 k0_t2 => k0_hw1.1.2.2.2.2.2.2.2.2.2.2.2.2.2.1 k0_t2
theorem k0_off16_inb : ∀ (v5 : BitVec 32) (v7 : BitVec 32) (k0_hw1 : k0_chk1 v5 v7) (k0_t2 : Fin (k0_t2_loop v5 v7).trips), ∀ a, (k0_off16 v5 v7 k0_t2) a + S160.size a ≤ S352.size a := fun v5 v7 k0_hw1 k0_t2 => k0_hw1.1.2.2.2.2.2.2.2.2.2.2.2.2.2.2.1 k0_t2
theorem k0_off17_inb : ∀ (v5 : BitVec 32) (v7 : BitVec 32) (k0_hw1 : k0_chk1 v5 v7) (k0_t2 : Fin (k0_t2_loop v5 v7).trips), ∀ a, (k0_off17 v5 v7 k0_t2) a + S160.size a ≤ S320000.size a := fun v5 v7 k0_hw1 k0_t2 => k0_hw1.1.2.2.2.2.2.2.2.2.2.2.2.2.2.2.2.1 k0_t2
theorem k0_t3_ok : ∀ (v5 : BitVec 32) (v7 : BitVec 32) (k0_hw1 : k0_chk1 v5 v7) (k0_t2 : Fin (k0_t2_loop v5 v7).trips), (k0_t3_loop v5 v7 k0_t2).OK := fun v5 v7 k0_hw1 k0_t2 => k0_hw1.1.2.2.2.2.2.2.2.2.2.2.2.2.2.2.2.2.1 k0_t2
theorem k0_off18_inb : ∀ (v5 : BitVec 32) (v7 : BitVec 32) (k0_hw1 : k0_chk1 v5 v7) (k0_t2 : Fin (k0_t2_loop v5 v7).trips) (k0_t3 : Fin (k0_t3_loop v5 v7 k0_t2).trips), ∀ a, (k0_off18 v5 v7 k0_t2 k0_t3) a + S16.size a ≤ S352.size a := fun v5 v7 k0_hw1 k0_t2 k0_t3 => k0_hw1.1.2.2.2.2.2.2.2.2.2.2.2.2.2.2.2.2.2.1 k0_t2 k0_t3
theorem k0_off21_inb : ∀ (v5 : BitVec 32) (v7 : BitVec 32) (k0_hw1 : k0_chk1 v5 v7) (k0_t2 : Fin (k0_t2_loop v5 v7).trips) (k0_t3 : Fin (k0_t3_loop v5 v7 k0_t2).trips), ∀ (r : Fin 8), ∀ a, (k0_off21 v5 v7 k0_t2 k0_t3 (BitVec.ofNat 32 (16 * r.val))) a + S16.size a ≤ S40960.size a := fun v5 v7 k0_hw1 k0_t2 k0_t3 r => k0_hw1.1.2.2.2.2.2.2.2.2.2.2.2.2.2.2.2.2.2.2.1 k0_t2 k0_t3 r
theorem k0_t4_ok : ∀ (v5 : BitVec 32) (v7 : BitVec 32) (k0_hw1 : k0_chk1 v5 v7) (k0_t2 : Fin (k0_t2_loop v5 v7).trips), (k0_t4_loop v5 v7 k0_t2).OK := fun v5 v7 k0_hw1 k0_t2 => k0_hw1.1.2.2.2.2.2.2.2.2.2.2.2.2.2.2.2.2.2.2.2.1 k0_t2
theorem k0_off22_inb : ∀ (v5 : BitVec 32) (v7 : BitVec 32) (k0_hw1 : k0_chk1 v5 v7) (k0_t2 : Fin (k0_t2_loop v5 v7).trips) (k0_t4 : Fin (k0_t4_loop v5 v7 k0_t2).trips), ∀ a, (k0_off22 v5 v7 k0_t2 k0_t4) a + S16.size a ≤ S352.size a := fun v5 v7 k0_hw1 k0_t2 k0_t4 => k0_hw1.1.2.2.2.2.2.2.2.2.2.2.2.2.2.2.2.2.2.2.2.2.1 k0_t2 k0_t4
theorem k0_off25_inb : ∀ (v5 : BitVec 32) (v7 : BitVec 32) (k0_hw1 : k0_chk1 v5 v7) (k0_t2 : Fin (k0_t2_loop v5 v7).trips) (k0_t4 : Fin (k0_t4_loop v5 v7 k0_t2).trips), ∀ (r : Fin 8), ∀ a, (k0_off25 v5 v7 k0_t2 k0_t4 (BitVec.ofNat 32 (16 * r.val))) a + S16.size a ≤ S40960.size a := fun v5 v7 k0_hw1 k0_t2 k0_t4 r => k0_hw1.1.2.2.2.2.2.2.2.2.2.2.2.2.2.2.2.2.2.2.2.2.2.1 k0_t2 k0_t4 r
theorem k0_t5_ok : ∀ (v5 : BitVec 32) (v7 : BitVec 32) (k0_hw1 : k0_chk1 v5 v7) (k0_t2 : Fin (k0_t2_loop v5 v7).trips), (k0_t5_loop v5 v7 k0_t2).OK := fun v5 v7 k0_hw1 k0_t2 => k0_hw1.1.2.2.2.2.2.2.2.2.2.2.2.2.2.2.2.2.2.2.2.2.2.2.1 k0_t2
theorem k0_off26_inb : ∀ (v5 : BitVec 32) (v7 : BitVec 32) (k0_hw1 : k0_chk1 v5 v7) (k0_t2 : Fin (k0_t2_loop v5 v7).trips) (k0_t5 : Fin (k0_t5_loop v5 v7 k0_t2).trips), ∀ a, (k0_off26 v5 v7 k0_t2 k0_t5) a + S16.size a ≤ S352.size a := fun v5 v7 k0_hw1 k0_t2 k0_t5 => k0_hw1.1.2.2.2.2.2.2.2.2.2.2.2.2.2.2.2.2.2.2.2.2.2.2.2.1 k0_t2 k0_t5
theorem k0_t6_ok : ∀ (v5 : BitVec 32) (v7 : BitVec 32) (k0_hw1 : k0_chk1 v5 v7) (k0_t2 : Fin (k0_t2_loop v5 v7).trips), (k0_t6_loop v5 v7 k0_t2).OK := fun v5 v7 k0_hw1 k0_t2 => k0_hw1.1.2.2.2.2.2.2.2.2.2.2.2.2.2.2.2.2.2.2.2.2.2.2.2.2.1 k0_t2
theorem k0_off76_inb : ∀ (v5 : BitVec 32) (v7 : BitVec 32) (k0_hw1 : k0_chk1 v5 v7) (k0_t2 : Fin (k0_t2_loop v5 v7).trips) (k0_t6 : Fin (k0_t6_loop v5 v7 k0_t2).trips), ∀ a, (k0_off76 v5 v7 k0_t2 k0_t6) a + S16.size a ≤ S352.size a := fun v5 v7 k0_hw1 k0_t2 k0_t6 => k0_hw1.1.2.2.2.2.2.2.2.2.2.2.2.2.2.2.2.2.2.2.2.2.2.2.2.2.2.1 k0_t2 k0_t6
theorem k0_t7_ok : ∀ (v5 : BitVec 32) (v7 : BitVec 32) (k0_hw1 : k0_chk1 v5 v7) (k0_t2 : Fin (k0_t2_loop v5 v7).trips), (k0_t7_loop v5 v7 k0_t2).OK := fun v5 v7 k0_hw1 k0_t2 => k0_hw1.1.2.2.2.2.2.2.2.2.2.2.2.2.2.2.2.2.2.2.2.2.2.2.2.2.2.2.1 k0_t2
theorem k0_off126_inb : ∀ (v5 : BitVec 32) (v7 : BitVec 32) (k0_hw1 : k0_chk1 v5 v7) (k0_t2 : Fin (k0_t2_loop v5 v7).trips) (k0_t7 : Fin (k0_t7_loop v5 v7 k0_t2).trips), ∀ a, (k0_off126 v5 v7 k0_t2 k0_t7) a + S16.size a ≤ S352.size a := fun v5 v7 k0_hw1 k0_t2 k0_t7 => k0_hw1.1.2.2.2.2.2.2.2.2.2.2.2.2.2.2.2.2.2.2.2.2.2.2.2.2.2.2.2.1 k0_t2 k0_t7
theorem k0_off129_inb : ∀ (v5 : BitVec 32) (v7 : BitVec 32) (k0_hw1 : k0_chk1 v5 v7) (k0_t2 : Fin (k0_t2_loop v5 v7).trips) (k0_t7 : Fin (k0_t7_loop v5 v7 k0_t2).trips), ∀ (r : Fin 8), ∀ a, (k0_off129 v5 v7 k0_t2 k0_t7 (BitVec.ofNat 32 (16 * r.val))) a + S16.size a ≤ S40960.size a := fun v5 v7 k0_hw1 k0_t2 k0_t7 r => k0_hw1.1.2.2.2.2.2.2.2.2.2.2.2.2.2.2.2.2.2.2.2.2.2.2.2.2.2.2.2.2.1 k0_t2 k0_t7 r
theorem k0_t8_ok : ∀ (v5 : BitVec 32) (v7 : BitVec 32) (k0_hw1 : k0_chk1 v5 v7) (k0_t2 : Fin (k0_t2_loop v5 v7).trips), (k0_t8_loop v5 v7 k0_t2).OK := fun v5 v7 k0_hw1 k0_t2 => k0_hw1.1.2.2.2.2.2.2.2.2.2.2.2.2.2.2.2.2.2.2.2.2.2.2.2.2.2.2.2.2.2.1 k0_t2
theorem k0_off130_inb : ∀ (v5 : BitVec 32) (v7 : BitVec 32) (k0_hw1 : k0_chk1 v5 v7) (k0_t2 : Fin (k0_t2_loop v5 v7).trips) (k0_t8 : Fin (k0_t8_loop v5 v7 k0_t2).trips), ∀ a, (k0_off130 v5 v7 k0_t2 k0_t8) a + S16.size a ≤ S352.size a := fun v5 v7 k0_hw1 k0_t2 k0_t8 => k0_hw1.1.2.2.2.2.2.2.2.2.2.2.2.2.2.2.2.2.2.2.2.2.2.2.2.2.2.2.2.2.2.2.1 k0_t2 k0_t8
theorem k0_off133_inb : ∀ (v5 : BitVec 32) (v7 : BitVec 32) (k0_hw1 : k0_chk1 v5 v7) (k0_t2 : Fin (k0_t2_loop v5 v7).trips) (k0_t8 : Fin (k0_t8_loop v5 v7 k0_t2).trips), ∀ (r : Fin 8), ∀ a, (k0_off133 v5 v7 k0_t2 k0_t8 (BitVec.ofNat 32 (16 * r.val))) a + S16.size a ≤ S40960.size a := fun v5 v7 k0_hw1 k0_t2 k0_t8 r => k0_hw1.1.2.2.2.2.2.2.2.2.2.2.2.2.2.2.2.2.2.2.2.2.2.2.2.2.2.2.2.2.2.2.2 k0_t2 k0_t8 r
theorem k0_t9_ok : ∀ (v5 : BitVec 32) (v7 : BitVec 32) (k0_hw1 : k0_chk1 v5 v7), (k0_t9_loop v5 v7).OK := fun v5 v7 k0_hw1 => k0_hw1.2.1
theorem k0_off134_inb : ∀ (v5 : BitVec 32) (v7 : BitVec 32) (k0_hw1 : k0_chk1 v5 v7) (k0_t9 : Fin (k0_t9_loop v5 v7).trips), ∀ (k0_h43 : k0_cond43 v5 v7 k0_t9 = 1#1), ∀ a, (k0_off134 v5 v7 k0_t9) a + S20480.size a ≤ S40960.size a := fun v5 v7 k0_hw1 k0_t9 k0_h43 => k0_hw1.2.2.1 k0_t9 k0_h43
theorem k0_off135_inb : ∀ (v5 : BitVec 32) (v7 : BitVec 32) (k0_hw1 : k0_chk1 v5 v7) (k0_t9 : Fin (k0_t9_loop v5 v7).trips), ∀ (k0_h43 : k0_cond43 v5 v7 k0_t9 = 1#1), ∀ a, (k0_off135 v5 v7 k0_t9) a + S20480.size a ≤ S40960000.size a := fun v5 v7 k0_hw1 k0_t9 k0_h43 => k0_hw1.2.2.2.1 k0_t9 k0_h43
theorem k0_off136_inb : ∀ (v5 : BitVec 32) (v7 : BitVec 32) (k0_hw1 : k0_chk1 v5 v7) (k0_t9 : Fin (k0_t9_loop v5 v7).trips), ∀ (k0_h43 : k0_cond43 v5 v7 k0_t9 = 1#1), ∀ a, (k0_off136 v5 v7 k0_t9) a + S1.size a ≤ S2.size a := fun v5 v7 k0_hw1 k0_t9 k0_h43 => k0_hw1.2.2.2.2.1 k0_t9 k0_h43
theorem k0_off137_inb : ∀ (v5 : BitVec 32) (v7 : BitVec 32) (k0_hw1 : k0_chk1 v5 v7) (k0_t9 : Fin (k0_t9_loop v5 v7).trips), ∀ (k0_h43 : k0_cond43 v5 v7 k0_t9 = 1#1), ∀ a, (k0_off137 v5 v7 k0_t9) a + S160.size a ≤ S352.size a := fun v5 v7 k0_hw1 k0_t9 k0_h43 => k0_hw1.2.2.2.2.2.1 k0_t9 k0_h43
theorem k0_off138_inb : ∀ (v5 : BitVec 32) (v7 : BitVec 32) (k0_hw1 : k0_chk1 v5 v7) (k0_t9 : Fin (k0_t9_loop v5 v7).trips), ∀ (k0_h43 : k0_cond43 v5 v7 k0_t9 = 1#1), ∀ a, (k0_off138 v5 v7 k0_t9) a + S160.size a ≤ S320000.size a := fun v5 v7 k0_hw1 k0_t9 k0_h43 => k0_hw1.2.2.2.2.2.2.1 k0_t9 k0_h43
theorem k0_off139_inb : ∀ (v5 : BitVec 32) (v7 : BitVec 32) (k0_hw1 : k0_chk1 v5 v7) (k0_t9 : Fin (k0_t9_loop v5 v7).trips), ∀ a, (k0_off139 v5 v7 k0_t9) a + S20480.size a ≤ S40960.size a := fun v5 v7 k0_hw1 k0_t9 => k0_hw1.2.2.2.2.2.2.2.1 k0_t9
theorem k0_off140_inb : ∀ (v5 : BitVec 32) (v7 : BitVec 32) (k0_hw1 : k0_chk1 v5 v7) (k0_t9 : Fin (k0_t9_loop v5 v7).trips), ∀ a, (k0_off140 v5 v7 k0_t9) a + S20480.size a ≤ S40960000.size a := fun v5 v7 k0_hw1 k0_t9 => k0_hw1.2.2.2.2.2.2.2.2.1 k0_t9
theorem k0_off141_inb : ∀ (v5 : BitVec 32) (v7 : BitVec 32) (k0_hw1 : k0_chk1 v5 v7) (k0_t9 : Fin (k0_t9_loop v5 v7).trips), ∀ a, (k0_off141 v5 v7 k0_t9) a + S1.size a ≤ S2.size a := fun v5 v7 k0_hw1 k0_t9 => k0_hw1.2.2.2.2.2.2.2.2.2.1 k0_t9
theorem k0_off142_inb : ∀ (v5 : BitVec 32) (v7 : BitVec 32) (k0_hw1 : k0_chk1 v5 v7) (k0_t9 : Fin (k0_t9_loop v5 v7).trips), ∀ a, (k0_off142 v5 v7 k0_t9) a + S160.size a ≤ S352.size a := fun v5 v7 k0_hw1 k0_t9 => k0_hw1.2.2.2.2.2.2.2.2.2.2.1 k0_t9
theorem k0_off143_inb : ∀ (v5 : BitVec 32) (v7 : BitVec 32) (k0_hw1 : k0_chk1 v5 v7) (k0_t9 : Fin (k0_t9_loop v5 v7).trips), ∀ a, (k0_off143 v5 v7 k0_t9) a + S160.size a ≤ S320000.size a := fun v5 v7 k0_hw1 k0_t9 => k0_hw1.2.2.2.2.2.2.2.2.2.2.2.1 k0_t9
theorem k0_t10_ok : ∀ (v5 : BitVec 32) (v7 : BitVec 32) (k0_hw1 : k0_chk1 v5 v7) (k0_t9 : Fin (k0_t9_loop v5 v7).trips), (k0_t10_loop v5 v7 k0_t9).OK := fun v5 v7 k0_hw1 k0_t9 => k0_hw1.2.2.2.2.2.2.2.2.2.2.2.2.1 k0_t9
theorem k0_off144_inb : ∀ (v5 : BitVec 32) (v7 : BitVec 32) (k0_hw1 : k0_chk1 v5 v7) (k0_t9 : Fin (k0_t9_loop v5 v7).trips) (k0_t10 : Fin (k0_t10_loop v5 v7 k0_t9).trips), ∀ a, (k0_off144 v5 v7 k0_t9 k0_t10) a + S16.size a ≤ S352.size a := fun v5 v7 k0_hw1 k0_t9 k0_t10 => k0_hw1.2.2.2.2.2.2.2.2.2.2.2.2.2.1 k0_t9 k0_t10
theorem k0_off147_inb : ∀ (v5 : BitVec 32) (v7 : BitVec 32) (k0_hw1 : k0_chk1 v5 v7) (k0_t9 : Fin (k0_t9_loop v5 v7).trips) (k0_t10 : Fin (k0_t10_loop v5 v7 k0_t9).trips), ∀ (r : Fin 8), ∀ a, (k0_off147 v5 v7 k0_t9 k0_t10 (BitVec.ofNat 32 (16 * r.val))) a + S16.size a ≤ S40960.size a := fun v5 v7 k0_hw1 k0_t9 k0_t10 r => k0_hw1.2.2.2.2.2.2.2.2.2.2.2.2.2.2.1 k0_t9 k0_t10 r
theorem k0_t11_ok : ∀ (v5 : BitVec 32) (v7 : BitVec 32) (k0_hw1 : k0_chk1 v5 v7) (k0_t9 : Fin (k0_t9_loop v5 v7).trips), (k0_t11_loop v5 v7 k0_t9).OK := fun v5 v7 k0_hw1 k0_t9 => k0_hw1.2.2.2.2.2.2.2.2.2.2.2.2.2.2.2.1 k0_t9
theorem k0_off148_inb : ∀ (v5 : BitVec 32) (v7 : BitVec 32) (k0_hw1 : k0_chk1 v5 v7) (k0_t9 : Fin (k0_t9_loop v5 v7).trips) (k0_t11 : Fin (k0_t11_loop v5 v7 k0_t9).trips), ∀ a, (k0_off148 v5 v7 k0_t9 k0_t11) a + S16.size a ≤ S352.size a := fun v5 v7 k0_hw1 k0_t9 k0_t11 => k0_hw1.2.2.2.2.2.2.2.2.2.2.2.2.2.2.2.2.1 k0_t9 k0_t11
theorem k0_off151_inb : ∀ (v5 : BitVec 32) (v7 : BitVec 32) (k0_hw1 : k0_chk1 v5 v7) (k0_t9 : Fin (k0_t9_loop v5 v7).trips) (k0_t11 : Fin (k0_t11_loop v5 v7 k0_t9).trips), ∀ (r : Fin 8), ∀ a, (k0_off151 v5 v7 k0_t9 k0_t11 (BitVec.ofNat 32 (16 * r.val))) a + S16.size a ≤ S40960.size a := fun v5 v7 k0_hw1 k0_t9 k0_t11 r => k0_hw1.2.2.2.2.2.2.2.2.2.2.2.2.2.2.2.2.2.1 k0_t9 k0_t11 r
theorem k0_t12_ok : ∀ (v5 : BitVec 32) (v7 : BitVec 32) (k0_hw1 : k0_chk1 v5 v7) (k0_t9 : Fin (k0_t9_loop v5 v7).trips), (k0_t12_loop v5 v7 k0_t9).OK := fun v5 v7 k0_hw1 k0_t9 => k0_hw1.2.2.2.2.2.2.2.2.2.2.2.2.2.2.2.2.2.2.1 k0_t9
theorem k0_off152_inb : ∀ (v5 : BitVec 32) (v7 : BitVec 32) (k0_hw1 : k0_chk1 v5 v7) (k0_t9 : Fin (k0_t9_loop v5 v7).trips) (k0_t12 : Fin (k0_t12_loop v5 v7 k0_t9).trips), ∀ a, (k0_off152 v5 v7 k0_t9 k0_t12) a + S16.size a ≤ S352.size a := fun v5 v7 k0_hw1 k0_t9 k0_t12 => k0_hw1.2.2.2.2.2.2.2.2.2.2.2.2.2.2.2.2.2.2.2.1 k0_t9 k0_t12
theorem k0_t13_ok : ∀ (v5 : BitVec 32) (v7 : BitVec 32) (k0_hw1 : k0_chk1 v5 v7) (k0_t9 : Fin (k0_t9_loop v5 v7).trips), (k0_t13_loop v5 v7 k0_t9).OK := fun v5 v7 k0_hw1 k0_t9 => k0_hw1.2.2.2.2.2.2.2.2.2.2.2.2.2.2.2.2.2.2.2.2.1 k0_t9
theorem k0_off202_inb : ∀ (v5 : BitVec 32) (v7 : BitVec 32) (k0_hw1 : k0_chk1 v5 v7) (k0_t9 : Fin (k0_t9_loop v5 v7).trips) (k0_t13 : Fin (k0_t13_loop v5 v7 k0_t9).trips), ∀ a, (k0_off202 v5 v7 k0_t9 k0_t13) a + S16.size a ≤ S352.size a := fun v5 v7 k0_hw1 k0_t9 k0_t13 => k0_hw1.2.2.2.2.2.2.2.2.2.2.2.2.2.2.2.2.2.2.2.2.2.1 k0_t9 k0_t13
theorem k0_t14_ok : ∀ (v5 : BitVec 32) (v7 : BitVec 32) (k0_hw1 : k0_chk1 v5 v7) (k0_t9 : Fin (k0_t9_loop v5 v7).trips), (k0_t14_loop v5 v7 k0_t9).OK := fun v5 v7 k0_hw1 k0_t9 => k0_hw1.2.2.2.2.2.2.2.2.2.2.2.2.2.2.2.2.2.2.2.2.2.2.1 k0_t9
theorem k0_off252_inb : ∀ (v5 : BitVec 32) (v7 : BitVec 32) (k0_hw1 : k0_chk1 v5 v7) (k0_t9 : Fin (k0_t9_loop v5 v7).trips) (k0_t14 : Fin (k0_t14_loop v5 v7 k0_t9).trips), ∀ a, (k0_off252 v5 v7 k0_t9 k0_t14) a + S16.size a ≤ S352.size a := fun v5 v7 k0_hw1 k0_t9 k0_t14 => k0_hw1.2.2.2.2.2.2.2.2.2.2.2.2.2.2.2.2.2.2.2.2.2.2.2.1 k0_t9 k0_t14
theorem k0_off255_inb : ∀ (v5 : BitVec 32) (v7 : BitVec 32) (k0_hw1 : k0_chk1 v5 v7) (k0_t9 : Fin (k0_t9_loop v5 v7).trips) (k0_t14 : Fin (k0_t14_loop v5 v7 k0_t9).trips), ∀ (r : Fin 8), ∀ a, (k0_off255 v5 v7 k0_t9 k0_t14 (BitVec.ofNat 32 (16 * r.val))) a + S16.size a ≤ S40960.size a := fun v5 v7 k0_hw1 k0_t9 k0_t14 r => k0_hw1.2.2.2.2.2.2.2.2.2.2.2.2.2.2.2.2.2.2.2.2.2.2.2.2.1 k0_t9 k0_t14 r
theorem k0_t15_ok : ∀ (v5 : BitVec 32) (v7 : BitVec 32) (k0_hw1 : k0_chk1 v5 v7) (k0_t9 : Fin (k0_t9_loop v5 v7).trips), (k0_t15_loop v5 v7 k0_t9).OK := fun v5 v7 k0_hw1 k0_t9 => k0_hw1.2.2.2.2.2.2.2.2.2.2.2.2.2.2.2.2.2.2.2.2.2.2.2.2.2.1 k0_t9
theorem k0_off256_inb : ∀ (v5 : BitVec 32) (v7 : BitVec 32) (k0_hw1 : k0_chk1 v5 v7) (k0_t9 : Fin (k0_t9_loop v5 v7).trips) (k0_t15 : Fin (k0_t15_loop v5 v7 k0_t9).trips), ∀ a, (k0_off256 v5 v7 k0_t9 k0_t15) a + S16.size a ≤ S352.size a := fun v5 v7 k0_hw1 k0_t9 k0_t15 => k0_hw1.2.2.2.2.2.2.2.2.2.2.2.2.2.2.2.2.2.2.2.2.2.2.2.2.2.2.1 k0_t9 k0_t15
theorem k0_off259_inb : ∀ (v5 : BitVec 32) (v7 : BitVec 32) (k0_hw1 : k0_chk1 v5 v7) (k0_t9 : Fin (k0_t9_loop v5 v7).trips) (k0_t15 : Fin (k0_t15_loop v5 v7 k0_t9).trips), ∀ (r : Fin 8), ∀ a, (k0_off259 v5 v7 k0_t9 k0_t15 (BitVec.ofNat 32 (16 * r.val))) a + S16.size a ≤ S40960.size a := fun v5 v7 k0_hw1 k0_t9 k0_t15 r => k0_hw1.2.2.2.2.2.2.2.2.2.2.2.2.2.2.2.2.2.2.2.2.2.2.2.2.2.2.2 k0_t9 k0_t15 r

def k0_off260 (i : grid0.Coords) (v61 : BitVec 32) (c0_i32_41 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_39 : BitVec 32 := 320#32
  let v103 : BitVec 32 := Scalar.muli v1 c320_i32_39
  let v104 : BitVec 32 := Scalar.subi v61 v103
  let c256_i32 : BitVec 32 := 256#32
  let v107 : BitVec 32 := Scalar.muli v104 c256_i32
  let v108 : BitVec 32 := Scalar.addi v107 c0_i32_41
  let v109 : Index := Scalar.indexCast v108
  ![v109.toNat]
def k0_cond84 (v61 : BitVec 32) : BitVec 1 :=
  let c0_i32_25 : BitVec 32 := 0#32
  let v62 : BitVec 1 := Scalar.cmpi .sge v61 c0_i32_25
  let v63 : BitVec 32 := Scalar.extui v62
  let c0_i32_26 : BitVec 32 := 0#32
  let v64 : BitVec 1 := Scalar.cmpi .ne v63 c0_i32_26
  v64

def k0_off261 (i : grid0.Coords) (v61 : BitVec 32) (c0_i32_44 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32_39 : BitVec 32 := 320#32
  let v103 : BitVec 32 := Scalar.muli v1 c320_i32_39
  let v104 : BitVec 32 := Scalar.subi v61 v103
  let c256_i32_43 : BitVec 32 := 256#32
  let v115 : BitVec 32 := Scalar.muli v104 c256_i32_43
  let c128_i32 : BitVec 32 := 128#32
  let v116 : BitVec 32 := Scalar.addi v115 c128_i32
  let v117 : BitVec 32 := Scalar.addi v116 c0_i32_44
  let v118 : Index := Scalar.indexCast v117
  ![v118.toNat]

def k0_chk78 (i : grid0.Coords) (v61 : BitVec 32) : Prop :=
  (∀ (k0_h84 : k0_cond84 v61 = 1#1), ∀ (r : Fin 8), ∀ a, (k0_off260 i v61 (BitVec.ofNat 32 (16 * r.val))) a + S16.size a ≤ S81920.size a) ∧
  (∀ (k0_h84 : k0_cond84 v61 = 1#1), ∀ (r : Fin 8), ∀ a, (k0_off261 i v61 (BitVec.ofNat 32 (16 * r.val))) a + S16.size a ≤ S81920.size a)
theorem k0_off260_inb : ∀ (i : grid0.Coords) (v61 : BitVec 32) (k0_hw78 : k0_chk78 i v61), ∀ (k0_h84 : k0_cond84 v61 = 1#1), ∀ (r : Fin 8), ∀ a, (k0_off260 i v61 (BitVec.ofNat 32 (16 * r.val))) a + S16.size a ≤ S81920.size a := fun i v61 k0_hw78 k0_h84 r => k0_hw78.1 k0_h84 r
theorem k0_off261_inb : ∀ (i : grid0.Coords) (v61 : BitVec 32) (k0_hw78 : k0_chk78 i v61), ∀ (k0_h84 : k0_cond84 v61 = 1#1), ∀ (r : Fin 8), ∀ a, (k0_off261 i v61 (BitVec.ofNat 32 (16 * r.val))) a + S16.size a ≤ S81920.size a := fun i v61 k0_hw78 k0_h84 r => k0_hw78.2 k0_h84 r

def k0_cond85 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v65 : BitVec 1 := Scalar.cmpi .slt v1 c31_i32
  let v66 : BitVec 32 := Scalar.extui v65
  let c0_i32_27 : BitVec 32 := 0#32
  let v67 : BitVec 1 := Scalar.cmpi .ne v66 c0_i32_27
  v67

def k0_off262 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c81920_i32 : BitVec 32 := 81920#32
  let v71 : BitVec 32 := Scalar.muli v1 c81920_i32
  ![v71.toNat]
def k0_cond86 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_28 : BitVec 32 := 31#32
  let v68 : BitVec 1 := Scalar.cmpi .eq v1 c31_i32_28
  let v69 : BitVec 32 := Scalar.extui v68
  let c0_i32_29 : BitVec 32 := 0#32
  let v70 : BitVec 1 := Scalar.cmpi .ne v69 c0_i32_29
  v70

def k0_off263 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c81920_i32 : BitVec 32 := 81920#32
  let v71 : BitVec 32 := Scalar.muli v1 c81920_i32
  ![v71.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S320000x128 : Shape := ⟨2, ![320000, 128]⟩
abbrev S1 : Shape := ⟨1, ![1]⟩
abbrev S320000 : Shape := ⟨1, ![320000]⟩
abbrev S_ : Shape := ⟨0, ![]⟩
abbrev S10000x128 : Shape := ⟨2, ![10000, 128]⟩
abbrev S320000x1 : Shape := ⟨2, ![320000, 1]⟩
abbrev S1x320000 : Shape := ⟨2, ![1, 320000]⟩
abbrev S10000 : Shape := ⟨1, ![10000]⟩
abbrev S10000x1 : Shape := ⟨2, ![10000, 1]⟩
abbrev S10000x320000 : Shape := ⟨2, ![10000, 320000]⟩
abbrev S10000x320000x1 : Shape := ⟨3, ![10000, 320000, 1]⟩
abbrev S1x320000x128 : Shape := ⟨3, ![1, 320000, 128]⟩
abbrev S10000x320000x128 : Shape := ⟨3, ![10000, 320000, 128]⟩
abbrev S10000x256 : Shape := ⟨2, ![10000, 256]⟩

abbrev nBuf : Space → Nat
  | .hbm => 41
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S1, .i32⟩
  | .hbm, ⟨2, _⟩ => ⟨S320000, .i32⟩
  | .hbm, ⟨3, _⟩ => ⟨S_, .f32⟩
  | .hbm, ⟨4, _⟩ => ⟨S10000x128, .f32⟩
  | .hbm, ⟨5, _⟩ => ⟨S320000x1, .i32⟩
  | .hbm, ⟨6, _⟩ => ⟨S10000x128, .f32⟩
  | .hbm, ⟨7, _⟩ => ⟨S1x320000, .i32⟩
  | .hbm, ⟨8, _⟩ => ⟨S10000, .i32⟩
  | .hbm, ⟨9, _⟩ => ⟨S10000x1, .i32⟩
  | .hbm, ⟨10, _⟩ => ⟨S10000x320000, .i32⟩
  | .hbm, ⟨11, _⟩ => ⟨S10000x320000, .i32⟩
  | .hbm, ⟨12, _⟩ => ⟨S10000x320000, .i1⟩
  | .hbm, ⟨13, _⟩ => ⟨S10000x320000x1, .i1⟩
  | .hbm, ⟨14, _⟩ => ⟨S1x320000x128, .f32⟩
  | .hbm, ⟨15, _⟩ => ⟨S_, .f32⟩
  | .hbm, ⟨16, _⟩ => ⟨S_, .f32⟩
  | .hbm, ⟨17, _⟩ => ⟨S10000x320000x128, .i1⟩
  | .hbm, ⟨18, _⟩ => ⟨S10000x320000x128, .f32⟩
  | .hbm, ⟨19, _⟩ => ⟨S10000x320000x128, .f32⟩
  | .hbm, ⟨20, _⟩ => ⟨S10000x320000x128, .f32⟩
  | .hbm, ⟨21, _⟩ => ⟨S_, .f32⟩
  | .hbm, ⟨22, _⟩ => ⟨S10000x128, .f32⟩
  | .hbm, ⟨23, _⟩ => ⟨S_, .f32⟩
  | .hbm, ⟨24, _⟩ => ⟨S320000, .f32⟩
  | .hbm, ⟨25, _⟩ => ⟨S_, .f32⟩
  | .hbm, ⟨26, _⟩ => ⟨S10000, .f32⟩
  | .hbm, ⟨27, _⟩ => ⟨S320000x1, .i32⟩
  | .hbm, ⟨28, _⟩ => ⟨S10000, .f32⟩
  | .hbm, ⟨29, _⟩ => ⟨S10000x1, .f32⟩
  | .hbm, ⟨30, _⟩ => ⟨S_, .f32⟩
  | .hbm, ⟨31, _⟩ => ⟨S10000x1, .f32⟩
  | .hbm, ⟨32, _⟩ => ⟨S10000x1, .i1⟩
  | .hbm, ⟨33, _⟩ => ⟨S_, .f32⟩
  | .hbm, ⟨34, _⟩ => ⟨S10000x128, .f32⟩
  | .hbm, ⟨35, _⟩ => ⟨S10000x128, .i1⟩
  | .hbm, ⟨36, _⟩ => ⟨S10000x128, .f32⟩
  | .hbm, ⟨37, _⟩ => ⟨S10000x256, .f32⟩
  | .hbm, ⟨38, _⟩ => ⟨S_, .f32⟩
  | .hbm, ⟨39, _⟩ => ⟨S10000x256, .f32⟩
  | .hbm, ⟨40, _⟩ => ⟨S10000x256, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_call1_v0 : Ref sig .tc := ⟨.hbm, 35, rfl⟩
abbrev main_v21 : Ref sig .tc := ⟨.hbm, 36, rfl⟩
abbrev main_v22 : Ref sig .tc := ⟨.hbm, 37, rfl⟩
abbrev main_call2_cst : Ref sig .tc := ⟨.hbm, 38, rfl⟩
abbrev main_call2_v0 : Ref sig .tc := ⟨.hbm, 39, rfl⟩
abbrev main_v23 : Ref sig .tc := ⟨.hbm, 40, rfl⟩

abbrev nD : Nat := 1
abbrev τ : Topo := Topo.v7x

variable {F : FTy → Type} [FloatOps F]
-- ==== Proof.Lanes.lean ====
/-
  Vectors of sixteen lanes seen as windows of functions on the naturals, and the words the row loop reads out of them.
-/
module

public import Idealize.ShloMosaic.Lib.Tactic
public import Idealize.ShloMosaic.Lib.Pipeline.Value

@[expose] public section

namespace Cert.Proof.Lanes

open Idealize.ShloMosaic

/-- A one-dimensional array of `n` elements whose element `k` is `g k`. -/
@[reducible] def arr {α : Type} (n : ℕ) (g : ℕ → α) : ((⟨1, ![n]⟩ : Shape).Idx → α) := fun x => g (x 0).val

/-- Sixteen lanes of `g` from position `o`. -/
def sl {α : Type} (g : ℕ → α) (o : ℕ) : ((⟨1, ![16]⟩ : Shape).Idx → α) := fun x => g (o + (x 0).val)

/-- `g` with the sixteen lanes from `o` replaced by those of `v`. -/
def upd {α : Type} (g : ℕ → α) (o : ℕ) (v : (⟨1, ![16]⟩ : Shape).Idx → α) : ℕ → α := fun n =>
  if h : o ≤ n ∧ n < o + 16 then v (fun a => match a with | 0 => ⟨n - o, by show n - o < 16; omega⟩) else g n

/-- `g` read from position `d` on. -/
def shift {α : Type} (g : ℕ → α) (d : ℕ) : ℕ → α := fun n => g (d + n)

theorem sl_shift {α : Type} (g : ℕ → α) (d c : ℕ) : sl (shift g d) c = sl g (d + c) := by
  funext x; simp [sl, shift, Nat.add_assoc]

end Cert.Proof.Lanes
-- ==== Proof.Words.lean ====
module

public import Idealize.ShloMosaic.Lib.Affine
public import Idealize.ShloMosaic.Lib.LoopRemainder

/-! Arithmetic on the index words of the kernel, read as natural numbers. -/

@[expose] public section

namespace Cert.Proof.Words

open Idealize Idealize.ShloMosaic

/-- Division rounding down, as the program spells it. -/
def fd (x c : BitVec 32) : BitVec 32 :=
  Scalar.select (Scalar.andi (Scalar.cmpi .ne (Scalar.subi (Scalar.extui (Scalar.cmpi .sgt x 0#32)) (Scalar.extui (Scalar.cmpi .slt x 0#32)))
    (Scalar.subi (Scalar.extui (Scalar.cmpi .sgt c 0#32)) (Scalar.extui (Scalar.cmpi .slt c 0#32)))) (Scalar.cmpi .ne (Scalar.remsi x c) 0#32))
    (Scalar.subi (Scalar.divsi x c) 1#32) (Scalar.divsi x c)

/-- The remainder by two, as the program spells it. -/
def md (x : BitVec 32) : BitVec 32 :=
  let y := Scalar.select (Scalar.cmpi .eq (2#32 : BitVec 32) 0#32) 1#32 2#32
  Scalar.select (Scalar.andi (Scalar.xori (Scalar.cmpi .slt (Scalar.remsi x y) 0#32) (Scalar.cmpi .slt y 0#32)) (Scalar.cmpi .ne (Scalar.remsi x y) 0#32))
    (Scalar.addi (Scalar.remsi x y) y) (Scalar.remsi x y)

/-- The word is the natural number. -/
structure Is (x : BitVec 32) (n : ℕ) : Prop where
  eq : x = BitVec.ofNat 32 n
  lt : n < 2 ^ 31

variable {x y : BitVec 32} {a b n : ℕ}

theorem Is.int (h : Is x n) : Affine.IsInt x (n : ℤ) := by
  rw [h.eq]; exact Affine.ofNat n ⟨rfl, h.lt⟩

theorem Is.toInt (h : Is x n) : x.toInt = n := by
  have := h.int; unfold Affine.IsInt at this; exact this

theorem Is.of (h : Affine.IsInt x (n : ℤ)) : Is x n := by
  unfold Affine.IsInt at h
  have hlt : (n : ℤ) < 2 ^ 31 := by
    have := @BitVec.toInt_lt 32 x
    rw [h] at this; exact_mod_cast this
  have hn : n < 2 ^ 31 := by exact_mod_cast hlt
  have h' := (⟨rfl, hn⟩ : Is (BitVec.ofNat 32 n) n).toInt
  exact ⟨BitVec.eq_of_toInt_eq (h.trans h'.symm), hn⟩

theorem Is.toNat (h : Is x n) : x.toNat = n := by
  rw [h.eq, BitVec.toNat_ofNat]; exact Nat.mod_eq_of_lt (lt_trans h.lt (by decide))

theorem Is.lit (n : ℕ) (h : n < 2 ^ 31 := by decide) : Is (BitVec.ofNat 32 n) n := ⟨rfl, h⟩

theorem Is.cast (h : Is x n) (e : n = a) : Is x a := e ▸ h

theorem Is.inj (h : Is x a) (h' : Is x b) : a = b := h.toNat.symm.trans h'.toNat

theorem Is.add (hx : Is x a) (hy : Is y b) (h : a + b < 2 ^ 31) : Is (Scalar.addi x y) (a + b) :=
  .of (Affine.addi hx.int hy.int ⟨by push_cast; rfl, by omega, by exact_mod_cast h⟩)

theorem Is.sub (hx : Is x a) (hy : Is y b) (h : b ≤ a) : Is (Scalar.subi x y) (a - b) :=
  .of (Affine.subi hx.int hy.int ⟨by push_cast [h]; rfl, by omega, by have := hx.lt; omega⟩)

theorem Is.mul (hx : Is x a) (hy : Is y b) (h : a * b < 2 ^ 31) : Is (Scalar.muli x y) (a * b) :=
  .of (Affine.muli hx.int hy.int ⟨by push_cast; rfl, by omega, by exact_mod_cast h⟩)

theorem Is.max (hx : Is x a) (hy : Is y b) : Is (Scalar.maxsi x y) (max a b) :=
  .of (Affine.maxsi hx.int hy.int (by omega))

theorem Is.min (hx : Is x a) (hy : Is y b) : Is (Scalar.minsi x y) (min a b) :=
  .of (Affine.minsi hx.int hy.int (by omega))

theorem Is.div (hx : Is x a) (hy : Is y b) (h : 0 < b) : Is (Scalar.divsi x y) (a / b) :=
  .of (Affine.divsi hx.int hy.int ⟨by push_cast; rfl, by omega, by omega⟩)

theorem Is.rem (hx : Is x a) (hy : Is y b) (h : 0 < b) : Is (Scalar.remsi x y) (a % b) :=
  .of (Affine.remsi hx.int hy.int ⟨by push_cast; rfl, by omega, by omega⟩)

theorem Is.iv (hx : Is x a) (t : ℕ) (h : a + t < 2 ^ 31) : Is (Scf.iv x 1#32 t) (a + t) :=
  .of (Affine.iv hx.int (Affine.ofNat 1 ⟨rfl, by decide⟩) t ⟨by omega, by omega, by omega⟩)

theorem Is.fd (hx : Is x a) (hy : Is y b) (h : 0 < b) : Is (fd x y) (a / b) := by
  unfold Words.fd
  refine .of (Affine.select_fails ?_ (Affine.word _) (hx.div hy h).int rfl)
  have h0 := (Is.lit 0).int
  by_cases ha : a = 0
  · refine Affine.andi_fails_right trivial (Affine.ne_fails (hx.rem hy h).int h0 ?_)
    subst ha; simp
  · refine Affine.andi_fails_left (Affine.ne_fails (ea := 1) (eb := 1)
      (Affine.subi (Affine.extui_holds (Affine.sgt_holds hx.int h0 (by omega)) rfl) (Affine.extui_fails (Affine.slt_fails hx.int h0 (by omega)) rfl) ⟨rfl, by decide, by decide⟩)
      (Affine.subi (Affine.extui_holds (Affine.sgt_holds hy.int h0 (by omega)) rfl) (Affine.extui_fails (Affine.slt_fails hy.int h0 (by omega)) rfl) ⟨rfl, by decide, by decide⟩) rfl) trivial

theorem Is.md (hx : Is x a) : Is (md x) (a % 2) := by
  unfold Words.md
  have h0 := (Is.lit 0).int
  have hr := hx.rem (Is.lit 2) (by decide)
  refine .of (Affine.select_fails ?_ (Affine.word _) hr.int rfl)
  exact Affine.andi_fails_left (Affine.xori_ff (Affine.slt_fails hr.int h0 (by omega)) (by decide)) trivial

/-- The upper bound of a counted loop whose number of steps is known at run time. -/
theorem up_eq (lb z : BitVec 32) : Scalar.addi lb (Scalar.muli (Scalar.divsi z 1#32) 1#32) = Scalar.addi lb z := by
  rw [Scalar.muli_divsi_one]

theorem trips_up (hx : Is x a) (hy : Is y n) (h : a + n < 2 ^ 31) :
    Scf.trips x (Scalar.addi x (Scalar.muli (Scalar.divsi y 1#32) 1#32)) 1#32 = n := by
  rw [up_eq]
  have h1 : (1#32 : BitVec 32).toInt = 1 := by decide
  unfold Scf.trips
  rw [h1, (hx.add hy h).toInt, hx.toInt]
  push_cast
  omega

theorem ok_up (hx : Is x a) (hy : Is y n) (h : a + n < 2 ^ 31) :
    Scf.OK x (Scalar.addi x (Scalar.muli (Scalar.divsi y 1#32) 1#32)) 1#32 := by
  have ht := trips_up hx hy h
  refine ⟨by decide, ?_⟩
  have h1 : (1#32 : BitVec 32).toInt = 1 := by decide
  rw [ht, h1, hx.toInt]
  have : ((a : ℤ) + n) < 2 ^ 31 := by exact_mod_cast h
  simpa using this

end Cert.Proof.Words

end
-- ==== Proof.Tile.Fast.lean ====
module

public import proofs.«01_k».proof.Proof.Tile.Block

/-! A block of sixteen rows that all lie in the running segment. -/

@[expose] public section

namespace Cert.Proof.Tile

open Cert.Kernel Cert.Kernel.Gen Cert.Proof.Words Cert.Proof.Lanes
open Idealize.ShloMosaic Idealize.SL.Sem

variable {F : FTy → Type} [FloatOps F]
variable {β : Type} {d : Dev nD} {i : grid0.Coords} {C : Src F} {σ : St F} {X : ℕ → ℕ → F .f32} {M : ℕ → BitVec 32} {lo hi n : ℕ} {xs : ℕ → ℕ → F .f32} {ms : ℕ → BitVec 32}
variable {h2 : a2.IsWhole} {h3 : a3.IsWhole} {h4 : a4.IsWhole} {h5 : a5.IsWhole} {h6 : a6.IsWhole} {h7 : a7.IsWhole} {h8 : a8.IsWhole} {h9 : a9.IsWhole} {h10 : a10.IsWhole} {h11 : a11.IsWhole} {h12 : a12.IsWhole} {m13 m14 : DmaSems sig S2} {s3 s4 s5 : DmaSems sig S_}

/-- The block's maxima without those of its last column stored. -/
def fast7 (f g : ℕ → F .f32) : ℕ → F .f32 :=
  upd (upd (upd (upd (upd (upd (upd f 0 (sl g 0)) 16 (sl g 16)) 32 (sl g 32)) 48 (sl g 48)) 64 (sl g 64)) 80 (sl g 80)) 96 (sl g 96)

theorem fast {v5 v7 : BitVec 32} {t2 v108 t5 v205 v211 v213 hw4 hh5} {Q} (hB : Blk C i X M (kW v5 t2.val) (bW (mW (aW v5 (kW v5 t2.val)) (eW v7 (kW v5 t2.val))) t5.val) n xs ms)
    (hQ : Q ⟨sl σ.sm 112, sl (maxL (xs 8) (xs 9)) 112, sl (maxL (xs 10) (xs 11)) 112, sl (maxL (xs 12) (xs 13)) 112, sl (maxL (xs 14) (xs 15)) 112,
      sl (maxL (maxL (xs 0) (xs 1)) (maxL (xs 2) (xs 3))) 112, sl (maxL (maxL (xs 4) (xs 5)) (maxL (xs 6) (xs 7))) 112⟩
      ⟨σ.acc, sweep σ.ss (fastStep xs σ).ss, fast7 σ.sm (fastStep xs σ).sm, σ.cur⟩) :
    Tr d i C σ (k0_part46 (F := F) i a2 h2 a3 h3 a4 h4 a5 h5 a6 h6 a7 h7 a8 h8 a9 h9 a10 h10 a11 h11 a12 h12 m13 m14 s3 s4 s5 v5 v7 t2 v108 t5 v205 v211 v213 hw4 hh5) Q := by
  simp only [k0_part46, shapeCast_self]
  repeat first
    | ((with_reducible apply Tr.rowB hB); decide; decide)
    | (with_reducible apply Tr.ld10 rfl)
    | (with_reducible apply Tr.ld11 rfl)
    | (with_reducible apply Tr.st10 rfl)
    | (with_reducible apply Tr.st11 rfl)
    | (with_reducible refine Tr.ret (hR _ _ ?_); try simp (disch := decide) only [addf_sl, maximumf_sl, sl_upd_ne, shapeCast_self])
    | (refine Tr.bind fun R hR => ?_; simp only [k0_part19, k0_part20, k0_part21, k0_part22, k0_part23, k0_part24, k0_part25, k0_part26, k0_part27, k0_part28, k0_part29, k0_part30, k0_part31, k0_part32, k0_part33, k0_part34, k0_part35, k0_part36, k0_part37, k0_part38, k0_part39, k0_part40, k0_part41, k0_part42, k0_part43, k0_part44, k0_part45, shapeCast_self]; try simp (disch := decide) only [addf_sl, maximumf_sl, sl_upd_ne, shapeCast_self])
  simp (disch := decide) only [addf_sl, maximumf_sl, sl_upd_ne, shapeCast_self]
  exact Tr.ret hQ

end Cert.Proof.Tile

end
-- ==== Proof.Tile.Frame.lean ====
/-
  The run of the kernel from a memory that meets the precondition: the arguments are unchanged, every semaphore is at zero.
-/
module

public import proofs.«01_k».proof.Proof.Tile.Host

@[expose] public section

noncomputable section

namespace Cert.Proof.Tile

open Cert.Kernel Cert.Kernel.Gen
open Idealize.ShloMosaic

variable {F : FTy → Type} [FloatOps F]
variable (m : (ℓ : Loc nD τ sig) → Buf (Elt F) ℓ)

theorem Vend_eq (d : Dev nD) (g : S2560000.Idx → Elt F .f32) {r : Ref sig .tc} (h : r ≠ main_v19)
    (h' : Proc.devRef (τ := τ) .tc r ≠ o') : Vend m d g (Proc.devRef .tc r) = V3 m d (Proc.devRef .tc r) :=
  (StableHlo.reshape_result_ne (h := h) ..).trans (Function.update_of_ne h' _ _)

theorem frame [hp : Cert.Pre_sorted_in_range.Facts] [∀ e, Nonempty (Elt F e)] (ρ : Dev nD → PrngReg)
    (h : ∀ c : Dev nD, Cert.Pre_sorted_in_range.fn (F := F) (m (c, p')) (m (c, q')) (m (c, g')) = fun _ => 1#1) :
    θ_run Cert.Kernel.defs Cert.Kernel.threads ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine (θ_run _ _ _).mono (fun r hr => ⟨fun d => ?_, hr.2⟩) (run_main m ρ (bounds_ok m fun d => sorted_of_pre _ _ _ (h d)))
  obtain ⟨g, -, e0, e1, e2, -⟩ := hr.1 d
  exact ⟨e0.trans ((Vend_eq m d g (by decide) (by decide)).trans (V3_p m d)), e1.trans ((Vend_eq m d g (by decide) (by decide)).trans (V3_q m d)),
    e2.trans ((Vend_eq m d g (by decide) (by decide)).trans (V3_g m d))⟩

end Cert.Proof.Tile

end
-- ==== Proof.Sums.lean ====
/-
  Sums and maxima of the rows of a segment, among the rows from one bound up to another.
-/
module

public import Mathlib.Data.EReal.Operations
public import Mathlib.Order.Interval.Finset.Nat
public import Mathlib.Algebra.BigOperators.Intervals
public import Idealize.ShloMosaic.Lib.ValueIdxCore

@[expose] public section

noncomputable section

namespace Cert.Proof.Sums

variable (X : ℕ → ℕ → EReal) (M : ℕ → BitVec 32)

/-- The rows from `lo` up to `n` that are of segment `s`. -/
def segRows (lo n s : ℕ) : Finset ℕ := (Finset.Ico lo n).filter fun r => (M r).toNat = s

def segSum (lo n s c : ℕ) : EReal := ∑ r ∈ segRows M lo n s, X r c

def segMax (lo n s c : ℕ) : EReal := (segRows M lo n s).sup fun r => X r c

variable {X M} {lo n s c : ℕ}

theorem segRows_none (h : ∀ r, lo ≤ r → r < n → (M r).toNat ≠ s) : segRows M lo n s = ∅ :=
  Finset.filter_eq_empty_iff.mpr fun r hr => h r (Finset.mem_Ico.mp hr).1 (Finset.mem_Ico.mp hr).2

theorem segSum_none (h : ∀ r, lo ≤ r → r < n → (M r).toNat ≠ s) : segSum X M lo n s c = 0 := by
  unfold segSum; rw [segRows_none h, Finset.sum_empty]

theorem segMax_none (h : ∀ r, lo ≤ r → r < n → (M r).toNat ≠ s) : segMax X M lo n s c = ⊥ := by
  unfold segMax; rw [segRows_none h, Finset.sup_empty]

theorem segRows_succ (h : lo ≤ n) : segRows M lo (n + 1) s = if (M n).toNat = s then insert n (segRows M lo n s) else segRows M lo n s := by
  unfold segRows
  rw [show Finset.Ico lo (n + 1) = insert n (Finset.Ico lo n) from by ext r; simp only [Finset.mem_insert, Finset.mem_Ico]; omega, Finset.filter_insert]

theorem n_notMem : n ∉ segRows M lo n s := fun h => absurd (Finset.mem_Ico.mp (Finset.mem_filter.mp h).1).2 (lt_irrefl n)

theorem segSum_hit (h : lo ≤ n) (hs : (M n).toNat = s) : segSum X M lo (n + 1) s c = segSum X M lo n s c + X n c := by
  unfold segSum; rw [segRows_succ h, if_pos hs, Finset.sum_insert n_notMem, add_comm]

theorem segSum_miss (h : lo ≤ n) (hs : (M n).toNat ≠ s) : segSum X M lo (n + 1) s c = segSum X M lo n s c := by
  unfold segSum; rw [segRows_succ h, if_neg hs]

theorem segMax_hit (h : lo ≤ n) (hs : (M n).toNat = s) : segMax X M lo (n + 1) s c = max (segMax X M lo n s c) (X n c) := by
  unfold segMax; rw [segRows_succ h, if_pos hs, Finset.sup_insert]; exact max_comm _ _

theorem segMax_miss (h : lo ≤ n) (hs : (M n).toNat ≠ s) : segMax X M lo (n + 1) s c = segMax X M lo n s c := by
  unfold segMax; rw [segRows_succ h, if_neg hs]

theorem segSum_run (h : lo ≤ n) : ∀ j, (∀ r, r < j → (M (n + r)).toNat = s) → segSum X M lo (n + j) s c = segSum X M lo n s c + ∑ r ∈ Finset.range j, X (n + r) c
  | 0, _ => by rw [Finset.sum_range_zero]; exact (add_zero _).symm
  | j + 1, hj => by
    rw [← Nat.add_assoc, segSum_hit (by omega) (hj j (by omega)), segSum_run h j fun r hr => hj r (by omega), Finset.sum_range_succ, add_assoc]

theorem segMax_run (h : lo ≤ n) : ∀ j, (∀ r, r < j → (M (n + r)).toNat = s) → segMax X M lo (n + j) s c = max (segMax X M lo n s c) ((Finset.range j).sup fun r => X (n + r) c)
  | 0, _ => by rw [Finset.range_zero, Finset.sup_empty]; exact (max_bot_right _).symm
  | j + 1, hj => by
    rw [← Nat.add_assoc, segMax_hit (by omega) (hj j (by omega)), segMax_run h j fun r hr => hj r (by omega), Finset.range_add_one, Finset.sup_insert, max_assoc]
    exact congrArg _ (max_comm _ _)

theorem segRows_far (h : lo ≤ n) : ∀ j, (∀ r, r < j → (M (n + r)).toNat ≠ s) → segRows M lo (n + j) s = segRows M lo n s
  | 0, _ => rfl
  | j + 1, hj => by
    rw [← Nat.add_assoc, segRows_succ (by omega), if_neg (hj j (by omega)), segRows_far h j fun r hr => hj r (by omega)]

/-- The rows of a segment, when they all lie between the bounds, are those among all of them. -/
theorem segRows_eq {N hi : ℕ} (h : ∀ r, r < N → (M r).toNat = s → lo ≤ r ∧ r < hi) (hN : hi ≤ N) :
    segRows M lo hi s = (Finset.univ.filter fun r : Fin N => (M r.val).toNat = s).map Fin.valEmbedding := by
  ext r
  unfold segRows
  simp only [Finset.mem_filter, Finset.mem_Ico, Finset.mem_map, Finset.mem_univ, true_and, Fin.valEmbedding_apply]
  constructor
  · rintro ⟨⟨h1, h2⟩, h3⟩
    exact ⟨⟨r, by omega⟩, h3, rfl⟩
  · rintro ⟨q, h3, rfl⟩
    exact ⟨h q.val q.isLt h3, h3⟩

open Idealize.ShloMosaic Idealize.ShloMosaic.ValueIdx

/-- The sum of the rows of segment `s` in column `c`. -/
def sumAt (a : (⟨2, ![320000, 128]⟩ : Shape).Idx → EReal) (μ : (⟨1, ![320000]⟩ : Shape).Idx → BitVec 32) (s : ℕ) (c : Fin 128) : EReal :=
  ∑ r ∈ Finset.univ.filter (fun r : Fin 320000 => (μ (ix1 r)).toNat = s), a (ix2 r c)

/-- The maximum of the rows of segment `s` in column `c`. -/
def maxAt (a : (⟨2, ![320000, 128]⟩ : Shape).Idx → EReal) (μ : (⟨1, ![320000]⟩ : Shape).Idx → BitVec 32) (s : ℕ) (c : Fin 128) : EReal :=
  (Finset.univ.filter (fun r : Fin 320000 => (μ (ix1 r)).toNat = s)).sup fun r => a (ix2 r c)

end Cert.Proof.Sums

end
-- ==== Proof.TileI.Base.lean ====
/-
  The vector-subcore task's working state and the rules by which the proof walks through its straight-line pieces.
-/
module

public import proofs.«01_k».proof.KernelIdeal
public import proofs.«01_k».proof.Proof.Gen.KernelIdeal
public import proofs.«01_k».proof.Proof.Lanes
public import Idealize.ShloMosaic.Lib.SparseCore.Quiescent
public import Idealize.ShloMosaic.Lib.SparseCore.Ops
public import Idealize.ShloMosaic.Lib.Transfers
public import Idealize.ShloMosaic.Lib.Tactic
public import Idealize.ShloMosaic.Lib.VecWindow
public import Idealize.ShloMosaic.Lib.WritesUnit

@[expose] public section

noncomputable section

namespace Cert.Proof.TileI

open Cert.KernelIdeal Cert.KernelIdeal.Gen
open Cert.Proof.Lanes
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UU : Type := UH × Counters

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance

variable [FloatOps F]

/-! ## The buffers -/

abbrev a2 : Memref sig .scVector .hbm S40960000 .f32 := Memref.whole main_v17_scv
abbrev a3 : Memref sig .scVector .hbm S320000 .i32 := Memref.whole main_arg2_scv
abbrev a4 : Memref sig .scVector .hbm S32x16 .i32 := Memref.whole main_v16_scv
abbrev a5 : Memref sig .scVector .hbm S2560000 .f32 := Memref.whole main_v18_scv
abbrev a6 : Memref sig .scVector .vmem S40960 .f32 := Memref.whole cc0_scratch0
abbrev a7 : Memref sig .scVector .vmem S352 .i32 := Memref.whole cc0_scratch1
abbrev a8 : Memref sig .scVector .vmem S16 .i32 := Memref.whole cc0_scratch2
abbrev a9 : Memref sig .scVector .vmem S81920 .f32 := Memref.whole cc0_scratch3
abbrev a10 : Memref sig .scVector .vmem S128 .f32 := Memref.whole cc0_scratch4
abbrev a11 : Memref sig .scVector .vmem S128 .f32 := Memref.whole cc0_scratch5
abbrev a12 : Memref sig .scVector .smem S8 .i32 := Memref.whole cc0_scratch6

abbrev cV (i : grid0.Coords) : Fin τ.nSC := (i 0).castLE hcore0
abbrev jV (i : grid0.Coords) : Fin τ.nSub := (i 1).castLE hsub0
abbrev thr (d : Dev nD) (i : grid0.Coords) : Thread nD τ := V d (cV i) (jV i)

/-- What the row loop changes: the accumulator, the running sum and maximum, the current segment. -/
structure St (F : FTy → Type) where
  acc : ℕ → F .f32
  ss : ℕ → F .f32
  sm : ℕ → F .f32
  cur : BitVec 32

/-- What a chunk's row loop reads: the slot in use, its rows and its membership words. -/
structure Src (F : FTy → Type) where
  b : ℕ
  rows : ℕ → F .f32
  mem : ℕ → BitVec 32

/-- The elements of slot `b` of the row buffer, and of the membership buffer. -/
def rowSet (b : ℕ) : Finset S40960.Idx := Finset.univ.filter fun x => b * 20480 ≤ (x 0).val ∧ (x 0).val < (b + 1) * 20480
def memSet (b : ℕ) : Finset S352.Idx := Finset.univ.filter fun x => b * 176 ≤ (x 0).val ∧ (x 0).val < (b + 1) * 176

/-- The one element of the scalar buffer in use. -/
def curSet : Finset S8.Idx := Finset.univ.filter fun x => (x 0).val = 0

/-- The state held by the task on coordinates `i` of device `d`. -/
def own (d : Dev nD) (i : grid0.Coords) (C : Src F) (σ : St F) : sProp 𝕄 :=
  iprop((a6.view.loc (thr d i) ↦[rowSet C.b]{fullShare} (arr 40960 C.rows : S40960.Idx → Elt F .f32))
    ∗ (a7.view.loc (thr d i) ↦[memSet C.b]{fullShare} (arr 352 C.mem : S352.Idx → Elt F .i32))
    ∗ (a9.view.loc (thr d i) ↦{fullShare} (arr 81920 σ.acc : S81920.Idx → Elt F .f32))
    ∗ (a10.view.loc (thr d i) ↦{fullShare} (arr 128 σ.ss : S128.Idx → Elt F .f32))
    ∗ (a11.view.loc (thr d i) ↦{fullShare} (arr 128 σ.sm : S128.Idx → Elt F .f32))
    ∗ (a12.view.loc (thr d i) ↦[curSet]{fullShare} (arr 8 (fun _ => σ.cur) : S8.Idx → Elt F .i32)))

abbrev PT (F : FTy → Type) (i : grid0.Coords) (α : Type) : Type 1 := Prog (TpuEff nD τ sig (Elt F) Λ₀ (.scVector (cV i) (jV i))) α

/-- From state `σ`, the program `p` ends in a state and with a value that `Q` allows. -/
def Tr (d : Dev nD) (i : grid0.Coords) (C : Src F) (σ : St F) {α : Type} (p : PT F i α) (Q : α → St F → Prop) : Prop :=
  own d i C σ ⊢ wp frame (wpE (defs₀ (F := F)) 𝒱₀ (thr d i) none) Set.univ p (fun a => iprop(∃ σ', own d i C σ' ∗ ⌜Q a σ'⌝))

variable {d : Dev nD} {i : grid0.Coords} {C : Src F} {σ : St F} {α β : Type}

theorem Tr.ret {Q : α → St F → Prop} {a : α} (h : Q a σ) : Tr d i C σ (pure a : PT F i α) Q := by
  unfold Tr
  show _ ⊢ wp _ _ _ (Prog.ret a) _
  rw [wp_ret]
  iintro H
  imodintro
  iexists σ
  isplitl [H]
  · iexact H
  · ipureintro; exact h

theorem Tr.mono {p : PT F i α} {Q Q' : α → St F → Prop} (h : Tr d i C σ p Q) (hQ : ∀ a σ', Q a σ' → Q' a σ') : Tr d i C σ p Q' := by
  unfold Tr at *
  refine h.trans (wp_mono frame _ _ fun a => ?_)
  iintro ⟨%σ', H, %hq⟩
  iexists σ'
  isplitl [H]
  · iexact H
  · ipureintro; exact hQ _ _ hq

theorem Tr.bindQ {p : PT F i α} {k : α → PT F i β} {Q : β → St F → Prop}
    (h : Tr d i C σ p (fun a σ' => Tr d i C σ' (k a) Q)) : Tr d i C σ (p >>= k) Q := by
  unfold Tr at *
  rw [wp_bind]
  refine h.trans (wp_mono frame _ _ fun a => ?_)
  iintro ⟨%σ', H, %hq⟩
  iapply hq
  iexact H

/-- A named piece, its continuation kept out of sight while the piece is walked through. -/
theorem Tr.bind {p : PT F i α} {k : α → PT F i β} {Q : β → St F → Prop}
    (h : ∀ R : α → St F → Prop, (∀ a σ', Tr d i C σ' (k a) Q → R a σ') → Tr d i C σ p R) : Tr d i C σ (p >>= k) Q :=
  Tr.bindQ (h _ fun _ _ h => h)

theorem Tr.assume {P : Prop} {hd : Decidable P} {k : PLift P → PT F i β} {Q : β → St F → Prop}
    (h : P) (hk : Tr d i C σ (k ⟨h⟩) Q) : Tr d i C σ ((Prog.lift (TpuEff.assume P hd) : PT F i (PLift P)) >>= k) Q := by
  unfold Tr at *
  exact hk.trans (wp_assume 𝒱₀ (thr d i) none Set.univ (d := hd) (k := k) h)

theorem idx_unit {n : ℕ} {off : Fin 1 → ℕ} {inb : ∀ a, off a + (⟨1, ![16]⟩ : Shape).size a ≤ (⟨1, ![n]⟩ : Shape).size a} {o : ℕ} (ho : off = ![o])
    (x : (⟨1, ![16]⟩ : Shape).Idx) : (((Rect.unit (s := (⟨1, ![n]⟩ : Shape)) off (⟨1, ![16]⟩ : Shape).size inb).toLoadRect.idx x) 0).val = o + (x 0).val := by
  subst ho
  simp [LoadRect.idx_apply]

theorem readAt_sl {κ : Kind} {sp : Space} {n : ℕ} {e : EltTy} (v : View sig κ sp (⟨1, ![n]⟩ : Shape) e) (f : v.ty.Contents (Elt F)) (g : ℕ → Elt F e)
    (hv : v.read (Elt F) f = arr n g) {off : Fin 1 → ℕ} {inb : ∀ a, off a + (⟨1, ![16]⟩ : Shape).size a ≤ (⟨1, ![n]⟩ : Shape).size a} {o : ℕ} (ho : off = ![o]) :
    v.readAt (Elt F) (Rect.unit (s := (⟨1, ![n]⟩ : Shape)) off (⟨1, ![16]⟩ : Shape).size inb).toLoadRect f = sl g o := by
  funext x
  rw [View.readAt_apply, hv]
  show g _ = g _
  rw [idx_unit ho]

theorem write_upd {κ : Kind} {sp : Space} {n : ℕ} {e : EltTy} (v : View sig κ sp (⟨1, ![n]⟩ : Shape) e) (f : v.ty.Contents (Elt F)) (g : ℕ → Elt F e)
    (hf : v.read (Elt F) f = arr n g) {off : Fin 1 → ℕ} {inb : ∀ a, off a + (⟨1, ![16]⟩ : Shape).size a ≤ (⟨1, ![n]⟩ : Shape).size a} {o : ℕ} (ho : off = ![o])
    (w : (⟨1, ![16]⟩ : Shape).Idx → Elt F e) :
    v.read (Elt F) ((v.slice (Rect.unit (s := (⟨1, ![n]⟩ : Shape)) off (⟨1, ![16]⟩ : Shape).size inb)).write (Elt F) f w Finset.univ) = arr n (upd g o w) := by
  funext y
  have key := View.read_writes_cons_unit v f inb w [] y ho
  rw [View.writes_cons, View.writes_nil] at key
  refine key.trans ?_
  have h0 : ∀ a : Fin 1, (![o] : Fin 1 → ℕ) a = o := by intro a; fin_cases a; rfl
  by_cases h : o ≤ (y 0).val ∧ (y 0).val < o + 16
  · rw [dif_pos (fun a => by obtain rfl : a = 0 := Subsingleton.elim _ _; exact h)]
    simp only [arr, upd]
    rw [dif_pos h]
    congr 1
    funext a
    obtain rfl : a = 0 := Subsingleton.elim _ _
    exact Fin.ext (by rw [Rect.unitLocal_val]; rfl)
  · rw [dif_neg (fun hh => h (hh 0)), hf]
    simp only [arr, upd]
    rw [dif_neg h]

theorem setOn_whole' {κ : Kind} (b : Ref sig κ) (M) : (View.whole b : View sig κ _ _ _).setOn M = M := by
  ext x
  unfold View.setOn
  simp [View.whole]

section Rules

variable {off : Fin 1 → ℕ} {o : ℕ} {Q : β → St F → Prop}

theorem foc6 : own d i C σ ⊢ iprop((a6.view.loc (thr d i) ↦[rowSet C.b]{fullShare} (arr 40960 C.rows : S40960.Idx → Elt F .f32))
    ∗ ((a6.view.loc (thr d i) ↦[rowSet C.b]{fullShare} (arr 40960 C.rows : S40960.Idx → Elt F .f32)) -∗ own d i C σ)) := by
  unfold own
  iintro ⟨H6, H7, H9, H10, H11, H12⟩
  isplitl [H6]; · iexact H6
  iintro H
  iframe

theorem foc7 : own d i C σ ⊢ iprop((a7.view.loc (thr d i) ↦[memSet C.b]{fullShare} (arr 352 C.mem : S352.Idx → Elt F .i32))
    ∗ ((a7.view.loc (thr d i) ↦[memSet C.b]{fullShare} (arr 352 C.mem : S352.Idx → Elt F .i32)) -∗ own d i C σ)) := by
  unfold own
  iintro ⟨H6, H7, H9, H10, H11, H12⟩
  isplitl [H7]; · iexact H7
  iintro H
  iframe

theorem foc9 : own d i C σ ⊢ iprop((a9.view.loc (thr d i) ↦{fullShare} (arr 81920 σ.acc : S81920.Idx → Elt F .f32))
    ∗ (∀ g : ℕ → F .f32, (a9.view.loc (thr d i) ↦{fullShare} (arr 81920 g : S81920.Idx → Elt F .f32)) -∗ own d i C { σ with acc := g })) := by
  unfold own
  iintro ⟨H6, H7, H9, H10, H11, H12⟩
  isplitl [H9]; · iexact H9
  iintro %g H
  iframe

theorem foc10 : own d i C σ ⊢ iprop((a10.view.loc (thr d i) ↦{fullShare} (arr 128 σ.ss : S128.Idx → Elt F .f32))
    ∗ (∀ g : ℕ → F .f32, (a10.view.loc (thr d i) ↦{fullShare} (arr 128 g : S128.Idx → Elt F .f32)) -∗ own d i C { σ with ss := g })) := by
  unfold own
  iintro ⟨H6, H7, H9, H10, H11, H12⟩
  isplitl [H10]; · iexact H10
  iintro %g H
  iframe

theorem foc11 : own d i C σ ⊢ iprop((a11.view.loc (thr d i) ↦{fullShare} (arr 128 σ.sm : S128.Idx → Elt F .f32))
    ∗ (∀ g : ℕ → F .f32, (a11.view.loc (thr d i) ↦{fullShare} (arr 128 g : S128.Idx → Elt F .f32)) -∗ own d i C { σ with sm := g })) := by
  unfold own
  iintro ⟨H6, H7, H9, H10, H11, H12⟩
  isplitl [H11]; · iexact H11
  iintro %g H
  iframe

theorem foc12 : own d i C σ ⊢ iprop((a12.view.loc (thr d i) ↦[curSet]{fullShare} (arr 8 (fun _ => σ.cur) : S8.Idx → Elt F .i32))
    ∗ (∀ g : BitVec 32, (a12.view.loc (thr d i) ↦[curSet]{fullShare} (arr 8 (fun _ => g) : S8.Idx → Elt F .i32)) -∗ own d i C { σ with cur := g })) := by
  unfold own
  iintro ⟨H6, H7, H9, H10, H11, H12⟩
  isplitl [H12]; · iexact H12
  iintro %g H
  iframe

/-- A load in the middle of a piece: the buffer is taken out of the state and put back. -/
theorem Tr.ld_of {cs : CoreSpace} {s : Shape} {e : EltTy} {m : Memref sig .scVector cs s e} {r : LoadRect s} {hl : m.view.LoadsAt r}
    {k : (r.shape.Idx → Elt F e) → PT F i β} {Sx : Finset (Idx (m.view.loc (thr d i)))} {f : Buf (Elt F) (m.view.loc (thr d i))} (hS : m.view.setOn r.set ⊆ Sx)
    (hf : own d i C σ ⊢ iprop((m.view.loc (thr d i) ↦[Sx]{fullShare} f) ∗ ((m.view.loc (thr d i) ↦[Sx]{fullShare} f) -∗ own d i C σ)))
    {v : r.shape.Idx → Elt F e} (hv : m.view.readAt (Elt F) r f = v)
    (hk : Tr d i C σ (k v) Q) : Tr d i C σ ((Prog.lift (.load m r hl) : PT F i _) >>= k) Q := by
  unfold Tr at *
  refine hf.trans ?_
  subst hv
  iintro ⟨H, Hback⟩
  iapply (wp_load 𝒱₀ (thr d i) none Set.univ (m := m) (r := r) (hl := hl) (k := k) hS) $$ H
  iintro H
  iapply hk
  iapply Hback
  iexact H

theorem Tr.st_of {cs : CoreSpace} {s : Shape} {e : EltTy} {m : Memref sig .scVector cs s e} {r : Rect s} {w : r.shape.Idx → Elt F e} {hx : (m.access r).Stores Finset.univ}
    {hm} {k : PUnit → PT F i β} {Sx : Finset (Idx ((m.access r).loc (thr d i)))} {f f' : Buf (Elt F) ((m.access r).loc (thr d i))} (hS : (m.access r).setOn Finset.univ ⊆ Sx) {σ' : St F}
    (hf : own d i C σ ⊢ iprop(((m.access r).loc (thr d i) ↦[Sx]{fullShare} f) ∗ (((m.access r).loc (thr d i) ↦[Sx]{fullShare} f') -∗ own d i C σ')))
    (hv : ∀ x ∈ Sx, (m.access r).write (Elt F) f w Finset.univ x = f' x)
    (hk : Tr d i C σ' (k ⟨⟩) Q) : Tr d i C σ ((Prog.lift (.store m r w Finset.univ hx hm) : PT F i _) >>= k) Q := by
  unfold Tr at *
  refine hf.trans ?_
  iintro ⟨H, Hback⟩
  iapply (wp_store 𝒱₀ (thr d i) none Set.univ (m := m) (r := r) (w := w) (Mk := Finset.univ) (hx := hx) (hm := hm) (k := k) hS) $$ H
  iintro H
  iapply hk
  iapply Hback
  iapply (Entails.of_eq (pointsTo_congr hv))
  iexact H

theorem Tr.ld10 {inb : ∀ a, off a + S16.size a ≤ S128.size a} {hl} {k : Vec F S16 .f32 → PT F i β} (ho : off = ![o])
    (hk : Tr d i C σ (k (sl σ.ss o)) Q) :
    Tr d i C σ ((Prog.lift (.load a10 (Rect.unit (s := S128) off S16.size inb).toLoadRect hl) : PT F i _) >>= k) Q :=
  Tr.ld_of (Sx := Finset.univ) (Finset.subset_univ _) (by
    refine foc10.trans ?_
    iintro ⟨H, Hb⟩; isplitl [H]; · iexact H
    iintro H; iapply Hb $$ %σ.ss H) (readAt_sl a10.view _ σ.ss rfl ho) hk

theorem Tr.ld11 {inb : ∀ a, off a + S16.size a ≤ S128.size a} {hl} {k : Vec F S16 .f32 → PT F i β} (ho : off = ![o])
    (hk : Tr d i C σ (k (sl σ.sm o)) Q) :
    Tr d i C σ ((Prog.lift (.load a11 (Rect.unit (s := S128) off S16.size inb).toLoadRect hl) : PT F i _) >>= k) Q :=
  Tr.ld_of (Sx := Finset.univ) (Finset.subset_univ _) (by
    refine foc11.trans ?_
    iintro ⟨H, Hb⟩; isplitl [H]; · iexact H
    iintro H; iapply Hb $$ %σ.sm H) (readAt_sl a11.view _ σ.sm rfl ho) hk

/-- A load whose value the program does not use. -/
theorem Tr.ld9 {inb : ∀ a, off a + S16.size a ≤ S81920.size a} {hl} {k : Vec F S16 .f32 → PT F i β}
    (hk : Tr d i C σ (k (a9.view.readAt (Elt F) (Rect.unit (s := S81920) off S16.size inb).toLoadRect (arr 81920 σ.acc : S81920.Idx → Elt F .f32))) Q) :
    Tr d i C σ ((Prog.lift (.load a9 (Rect.unit (s := S81920) off S16.size inb).toLoadRect hl) : PT F i _) >>= k) Q :=
  Tr.ld_of (Sx := Finset.univ) (Finset.subset_univ _) (by
    refine foc9.trans ?_
    iintro ⟨H, Hb⟩; isplitl [H]; · iexact H
    iintro H; iapply Hb $$ %σ.acc H) rfl hk

theorem Tr.st9 {inb : ∀ a, off a + S16.size a ≤ S81920.size a} {w : Vec F S16 .f32} {hx hm} {k : PUnit → PT F i β} (ho : off = ![o])
    (hk : Tr d i C { σ with acc := upd σ.acc o w } (k ⟨⟩) Q) :
    Tr d i C σ ((Prog.lift (.store a9 (Rect.unit (s := S81920) off S16.size inb) w Finset.univ hx hm) : PT F i _) >>= k) Q :=
  Tr.st_of (m := a9) (Sx := Finset.univ) (f := (arr 81920 σ.acc : S81920.Idx → Elt F .f32)) (f' := (arr 81920 (upd σ.acc o w) : S81920.Idx → Elt F .f32)) (Finset.subset_univ _) (by
    refine foc9.trans ?_
    iintro ⟨H, Hb⟩; isplitl [H]; · iexact H
    iintro H; iapply Hb $$ %(upd σ.acc o w) H) (fun x _ => congrFun (write_upd a9.view _ σ.acc rfl ho w) x) hk

theorem Tr.st10 {inb : ∀ a, off a + S16.size a ≤ S128.size a} {w : Vec F S16 .f32} {hx hm} {k : PUnit → PT F i β} (ho : off = ![o])
    (hk : Tr d i C { σ with ss := upd σ.ss o w } (k ⟨⟩) Q) :
    Tr d i C σ ((Prog.lift (.store a10 (Rect.unit (s := S128) off S16.size inb) w Finset.univ hx hm) : PT F i _) >>= k) Q :=
  Tr.st_of (m := a10) (Sx := Finset.univ) (f := (arr 128 σ.ss : S128.Idx → Elt F .f32)) (f' := (arr 128 (upd σ.ss o w) : S128.Idx → Elt F .f32)) (Finset.subset_univ _) (by
    refine foc10.trans ?_
    iintro ⟨H, Hb⟩; isplitl [H]; · iexact H
    iintro H; iapply Hb $$ %(upd σ.ss o w) H) (fun x _ => congrFun (write_upd a10.view _ σ.ss rfl ho w) x) hk

theorem Tr.st11 {inb : ∀ a, off a + S16.size a ≤ S128.size a} {w : Vec F S16 .f32} {hx hm} {k : PUnit → PT F i β} (ho : off = ![o])
    (hk : Tr d i C { σ with sm := upd σ.sm o w } (k ⟨⟩) Q) :
    Tr d i C σ ((Prog.lift (.store a11 (Rect.unit (s := S128) off S16.size inb) w Finset.univ hx hm) : PT F i _) >>= k) Q :=
  Tr.st_of (m := a11) (Sx := Finset.univ) (f := (arr 128 σ.sm : S128.Idx → Elt F .f32)) (f' := (arr 128 (upd σ.sm o w) : S128.Idx → Elt F .f32)) (Finset.subset_univ _) (by
    refine foc11.trans ?_
    iintro ⟨H, Hb⟩; isplitl [H]; · iexact H
    iintro H; iapply Hb $$ %(upd σ.sm o w) H) (fun x _ => congrFun (write_upd a11.view _ σ.sm rfl ho w) x) hk

theorem Tr.ld6 {inb : ∀ a, off a + S16.size a ≤ S40960.size a} {hl} {k : Vec F S16 .f32 → PT F i β} (ho : off = ![o])
    (h1 : C.b * 20480 ≤ o) (h2 : o + 16 ≤ (C.b + 1) * 20480)
    (hk : Tr d i C σ (k (sl C.rows o)) Q) :
    Tr d i C σ ((Prog.lift (.load a6 (Rect.unit (s := S40960) off S16.size inb).toLoadRect hl) : PT F i _) >>= k) Q :=
  Tr.ld_of (Sx := rowSet C.b) (by
    intro x hx
    rw [show a6.view.setOn _ = _ from setOn_whole' _ _] at hx
    subst ho
    have h := (LoadRect.mem_set _).mp hx 0
    obtain ⟨j, hj, hh⟩ := h
    have hj' : j < 16 := hj
    have hh' : (x 0).val = o + 1 * j := hh
    exact Finset.mem_filter.mpr ⟨Finset.mem_univ _, by omega, by omega⟩) foc6 (readAt_sl a6.view _ C.rows rfl ho) hk

theorem Tr.ld7 {inb : ∀ a, off a + S16.size a ≤ S352.size a} {hl} {k : Vec F S16 .i32 → PT F i β} (ho : off = ![o])
    (h1 : C.b * 176 ≤ o) (h2 : o + 16 ≤ (C.b + 1) * 176)
    (hk : Tr d i C σ (k (sl C.mem o)) Q) :
    Tr d i C σ ((Prog.lift (.load a7 (Rect.unit (s := S352) off S16.size inb).toLoadRect hl) : PT F i _) >>= k) Q :=
  Tr.ld_of (Sx := memSet C.b) (by
    intro x hx
    rw [show a7.view.setOn _ = _ from setOn_whole' _ _] at hx
    subst ho
    have h := (LoadRect.mem_set _).mp hx 0
    obtain ⟨j, hj, hh⟩ := h
    have hj' : j < 16 := hj
    have hh' : (x 0).val = o + 1 * j := hh
    exact Finset.mem_filter.mpr ⟨Finset.mem_univ _, by omega, by omega⟩) foc7 (readAt_sl a7.view _ C.mem rfl ho) hk

theorem Tr.ldcur {h1 : (Rect.unit (s := S8) ![0] S1.size inb_S8_S1_0).shape.numel = 1} {hp} {k : Elt F .i32 → PT F i β}
    (hk : Tr d i C σ (k σ.cur) Q) :
    Tr d i C σ ((smemLoad a12 (Rect.unit (s := S8) ![0] S1.size inb_S8_S1_0) h1 hp : PT F i _) >>= k) Q := by
  have key : Tr d i C σ ((Prog.lift (.load a12 (Rect.unit (s := S8) ![0] S1.size inb_S8_S1_0).toLoadRect (View.loadsAt_rect (View.loads_smem_one hp h1))) : PT F i _)
      >>= fun f => k (f (Shape.Idx.first (h1.symm ▸ Nat.one_pos)))) Q :=
    Tr.ld_of (m := a12) (Sx := curSet) (by
      intro x hx
      rw [show a12.view.setOn _ = _ from setOn_whole' _ _] at hx
      obtain ⟨j, hj, hh⟩ := (LoadRect.mem_set _).mp hx 0
      have hj' : j < 1 := hj
      have hh' : (x 0).val = 0 + 1 * j := hh
      exact Finset.mem_filter.mpr ⟨Finset.mem_univ _, by omega⟩) (by
        refine foc12.trans ?_
        iintro ⟨H, Hb⟩; isplitl [H]; · iexact H
        iintro H; iapply Hb $$ %σ.cur H) (v := fun _ => σ.cur) (by funext x; rfl) hk
  exact key

theorem Tr.stcur {w : BitVec 32} {hx hm} {k : PUnit → PT F i β}
    (hk : Tr d i C { σ with cur := w } (k ⟨⟩) Q) :
    Tr d i C σ ((Prog.lift (.store a12 (Rect.unit (s := S8) ![0] S1.size inb_S8_S1_0) (fun _ => w) Finset.univ hx hm) : PT F i _) >>= k) Q :=
  Tr.st_of (m := a12) (Sx := curSet) (f := (arr 8 (fun _ => σ.cur) : S8.Idx → Elt F .i32)) (f' := (arr 8 (fun _ => w) : S8.Idx → Elt F .i32)) (by
      intro x hx
      rw [View.setOn_univ, show (a12.access (Rect.unit (s := S8) ![0] S1.size inb_S8_S1_0)).set = _ from View.set_slice _ _] at hx
      replace hx : x ∈ a12.view.setOn (Rect.unit (s := S8) ![0] S1.size inb_S8_S1_0).set := hx
      rw [show a12.view.setOn _ = _ from setOn_whole' _ _] at hx
      obtain ⟨j, hj, hh⟩ := (LoadRect.mem_set (Rect.unit (s := S8) ![0] S1.size inb_S8_S1_0).toLoadRect).mp hx 0
      have hj' : j < 1 := hj
      have hh' : (x 0).val = 0 + 1 * j := hh
      exact Finset.mem_filter.mpr ⟨Finset.mem_univ _, by omega⟩) (by
    refine foc12.trans ?_
    iintro ⟨H, Hb⟩; isplitl [H]; · iexact H
    iintro H; iapply Hb $$ %w H) (fun x hx => by
      have hx0 : (x 0).val = 0 := (Finset.mem_filter.mp hx).2
      have e : x = (a12.access (Rect.unit (s := S8) ![0] S1.size inb_S8_S1_0)).emb (fun a => match a with | 0 => ⟨0, Nat.one_pos⟩) := by
        funext (a : Fin 1)
        obtain rfl : a = 0 := Subsingleton.elim _ _
        exact Fin.ext hx0
      rw [e, View.write_emb_of_mem _ _ (Finset.mem_univ _)]
      rfl) hk

/-- A guarded piece followed by a common continuation: the piece, when it runs, leads to `σ₁`. -/
theorem Tr.guard {c : Prop} {hd : Decidable c} {Fh : c → PT F i β} {J : PT F i β} (σ₁ : St F)
    (hF : ∀ h : c, Tr d i C σ₁ J Q → Tr d i C σ (Fh h) Q) (hJ : Tr d i C (if c then σ₁ else σ) J Q) :
    Tr d i C σ (@dite _ c hd Fh fun _ => J) Q := by
  by_cases h : c
  · rw [dif_pos h]
    rw [if_pos h] at hJ
    exact hF h hJ
  · rw [dif_neg h]
    rwa [if_neg h] at hJ

end Rules

end Cert.Proof.TileI

end
-- ==== Proof.TileI.Offs.lean ====
module

public import proofs.«01_k».proof.Proof.TileI.Base
public import proofs.«01_k».proof.Proof.Words

/-! The program's offsets and loop bounds as natural numbers. -/

@[expose] public section

namespace Cert.Proof.TileI

open Idealize Idealize.ShloMosaic Cert.KernelIdeal Cert.KernelIdeal.Gen Cert.Proof.Words

def kW (v5 : BitVec 32) (t : ℕ) : BitVec 32 := Scf.iv (fd v5 160#32) 1#32 t
def aW (v5 k : BitVec 32) : BitVec 32 := Scalar.subi (Scalar.maxsi v5 (Scalar.muli k 160#32)) (Scalar.muli k 160#32)
def eW (v7 k : BitVec 32) : BitVec 32 := Scalar.subi (Scalar.minsi v7 (Scalar.addi (Scalar.muli k 160#32) 160#32)) (Scalar.muli k 160#32)
def mW (a e : BitVec 32) : BitVec 32 := Scalar.minsi e (Scalar.muli (fd (Scalar.subi (Scalar.addi a 16#32) 1#32) 16#32) 16#32)
def gW (m e : BitVec 32) : BitVec 32 := Scalar.maxsi m (Scalar.muli (fd e 16#32) 16#32)
def rowW (k r : BitVec 32) : BitVec 32 := Scalar.addi (Scalar.muli (md k) 20480#32) (Scalar.muli r 128#32)
def memW (k r : BitVec 32) : BitVec 32 := Scalar.addi (Scalar.muli (md k) 176#32) r
def cdW (v7 : BitVec 32) : BitVec 32 := fd (Scalar.subi (Scalar.addi v7 160#32) 1#32) 160#32
/-- The first row of a block. -/
def bW (m : BitVec 32) (t : ℕ) : BitVec 32 := Scalar.muli (Scf.iv (fd m 16#32) 1#32 t) 16#32

/-- The first row of a chunk that is the tile's, in the chunk. -/
def aN (lo k : ℕ) : ℕ := max lo (k * 160) - k * 160
/-- The end of the tile's rows in a chunk. -/
def eN (hi k : ℕ) : ℕ := min hi (k * 160 + 160) - k * 160
/-- The end of the rows taken singly before the first whole block. -/
def mN (a e : ℕ) : ℕ := min e ((a + 16 - 1) / 16 * 16)
/-- The start of the rows taken singly after the last whole block. -/
def gN (m e : ℕ) : ℕ := max m (e / 16 * 16)
/-- The number of chunks up to a row. -/
def cdN (hi : ℕ) : ℕ := (hi + 160 - 1) / 160

/-- The tile's rows. -/
structure Rng (v5 v7 : BitVec 32) (lo hi : ℕ) : Prop where
  h5 : Is v5 lo
  h7 : Is v7 hi
  le : lo ≤ hi
  hi_le : hi ≤ 320000

variable {v5 v7 : BitVec 32} {lo hi : ℕ}

theorem Rng.cd (R : Rng v5 v7 lo hi) : Is (cdW v7) (cdN hi) :=
  Is.fd (((R.h7.add (.lit 160) (by have := R.hi_le; omega))).sub (.lit 1) (by omega)) (.lit 160) (by decide)

theorem Rng.lo160 (R : Rng v5 v7 lo hi) : Is (fd v5 160#32) (lo / 160) := R.h5.fd (.lit 160) (by decide)

theorem Rng.fle (R : Rng v5 v7 lo hi) : lo / 160 ≤ cdN hi ∧ cdN hi ≤ 2000 := by
  have := R.le; have := R.hi_le; unfold cdN; omega

theorem Rng.trips2 (R : Rng v5 v7 lo hi) : (k0_t2_loop v5 v7).trips = cdN hi - lo / 160 := by
  have := R.fle
  exact trips_up R.lo160 (R.cd.sub R.lo160 this.1) (by omega)

theorem Rng.ok2 (R : Rng v5 v7 lo hi) : (k0_t2_loop v5 v7).OK := by
  have := R.fle
  exact ok_up R.lo160 (R.cd.sub R.lo160 this.1) (by omega)

/-- A chunk of the tile's rows. -/
structure Chunk (lo hi k : ℕ) : Prop where
  lo_le : lo / 160 ≤ k
  lt : k < cdN hi
  le : lo ≤ hi
  hi_le : hi ≤ 320000

theorem Rng.chunk (R : Rng v5 v7 lo hi) (t2 : Fin (k0_t2_loop v5 v7).trips) : Chunk lo hi (lo / 160 + t2.val) := by
  have h := t2.isLt
  have h' := R.trips2
  exact ⟨by omega, by omega, R.le, R.hi_le⟩

theorem Rng.k (R : Rng v5 v7 lo hi) {t : ℕ} (h : t ≤ 2000) : Is (kW v5 t) (lo / 160 + t) :=
  R.lo160.iv _ (by have := R.le; have := R.hi_le; omega)

section Chunk
variable {k : ℕ} (H : Chunk lo hi k)
include H

theorem Chunk.k_lt : k < 2000 := by have := H.lt; have := H.hi_le; unfold cdN at *; omega
theorem Chunk.a_le : aN lo k ≤ eN hi k := by
  have := H.lt; have := H.hi_le; have := H.lo_le; have := H.le; unfold cdN aN eN at *; omega
theorem Chunk.e_le : eN hi k ≤ 160 := by unfold eN; omega
theorem Chunk.a_lo : k * 160 + aN lo k = max lo (k * 160) := by unfold aN; omega
theorem Chunk.e_hi : k * 160 + eN hi k = min hi (k * 160 + 160) := by
  have := H.lt; unfold cdN eN at *; omega
theorem Chunk.m : aN lo k ≤ mN (aN lo k) (eN hi k) ∧ mN (aN lo k) (eN hi k) ≤ eN hi k := by
  have := H.a_le; unfold mN; omega
theorem Chunk.g : mN (aN lo k) (eN hi k) ≤ gN (mN (aN lo k) (eN hi k)) (eN hi k) ∧ gN (mN (aN lo k) (eN hi k)) (eN hi k) ≤ eN hi k := by
  have := H.m; unfold gN; omega
/-- The whole blocks start where the first single rows end, when there is one. -/
theorem Chunk.blk {t : ℕ} (h : t < eN hi k / 16 - mN (aN lo k) (eN hi k) / 16) : mN (aN lo k) (eN hi k) / 16 * 16 = mN (aN lo k) (eN hi k) := by
  unfold mN at *; omega
/-- The blocks end where the last single rows start. -/
theorem Chunk.blk_end : (if eN hi k / 16 - mN (aN lo k) (eN hi k) / 16 = 0 then mN (aN lo k) (eN hi k) else eN hi k / 16 * 16) = gN (mN (aN lo k) (eN hi k)) (eN hi k) := by
  have := H.m; unfold gN; split
  · rename_i h; omega
  · rename_i h; omega

theorem Chunk.a' {w5 kw : BitVec 32} (h5 : Is w5 lo) (hk : Is kw k) : Is (aW w5 kw) (aN lo k) := by
  have := H.k_lt
  have hk := hk.mul (.lit 160) (by omega)
  exact (h5.max hk).sub hk (by omega)
theorem Chunk.e' {w7 kw : BitVec 32} (h7 : Is w7 hi) (hk : Is kw k) : Is (eW w7 kw) (eN hi k) := by
  have := H.k_lt
  have hk := hk.mul (.lit 160) (by omega)
  exact (h7.min (hk.add (.lit 160) (by omega))).sub hk (by have := H.lt; unfold cdN at this; omega)
theorem Chunk.m' {w5 w7 kw : BitVec 32} (h5 : Is w5 lo) (h7 : Is w7 hi) (hk : Is kw k) : Is (mW (aW w5 kw) (eW w7 kw)) (mN (aN lo k) (eN hi k)) := by
  have := H.a_le; have := H.e_le
  refine (H.e' h7 hk).min (Is.mul (Is.fd (((H.a' h5 hk).add (.lit 16) (by omega)).sub (.lit 1) (by omega)) (.lit 16) (by decide)) (.lit 16) (by omega))
theorem Chunk.g' {w5 w7 kw : BitVec 32} (h5 : Is w5 lo) (h7 : Is w7 hi) (hk : Is kw k) :
    Is (gW (mW (aW w5 kw) (eW w7 kw)) (eW w7 kw)) (gN (mN (aN lo k) (eN hi k)) (eN hi k)) := by
  have := H.e_le
  exact (H.m' h5 h7 hk).max (Is.mul (Is.fd (H.e' h7 hk) (.lit 16) (by decide)) (.lit 16) (by omega))
end Chunk

section Loops
variable (R : Rng v5 v7 lo hi) (t2 : Fin (k0_t2_loop v5 v7).trips)
include R

theorem Rng.kt : Is (kW v5 t2.val) (lo / 160 + t2.val) := R.k (by have := (R.chunk t2).k_lt; omega)

theorem Rng.trips3 : (k0_t3_loop v5 v7 t2).trips = mN (aN lo (lo / 160 + t2.val)) (eN hi (lo / 160 + t2.val)) - aN lo (lo / 160 + t2.val) := by
  have H := R.chunk t2; have hm := H.m; have he := H.e_le
  exact trips_up (H.a' R.h5 (R.kt t2)) ((H.m' R.h5 R.h7 (R.kt t2)).sub (H.a' R.h5 (R.kt t2)) hm.1) (by omega)
theorem Rng.ok3 : (k0_t3_loop v5 v7 t2).OK := by
  have H := R.chunk t2; have hm := H.m; have he := H.e_le
  exact ok_up (H.a' R.h5 (R.kt t2)) ((H.m' R.h5 R.h7 (R.kt t2)).sub (H.a' R.h5 (R.kt t2)) hm.1) (by omega)
theorem Rng.trips5 : (k0_t5_loop v5 v7 t2).trips = eN hi (lo / 160 + t2.val) / 16 - mN (aN lo (lo / 160 + t2.val)) (eN hi (lo / 160 + t2.val)) / 16 := by
  have H := R.chunk t2; have hm := H.m; have he := H.e_le
  exact trips_up ((H.m' R.h5 R.h7 (R.kt t2)).fd (.lit 16) (by decide)) (((H.e' R.h7 (R.kt t2)).fd (.lit 16) (by decide)).sub ((H.m' R.h5 R.h7 (R.kt t2)).fd (.lit 16) (by decide)) (by omega)) (by omega)
theorem Rng.ok5 : (k0_t5_loop v5 v7 t2).OK := by
  have H := R.chunk t2; have hm := H.m; have he := H.e_le
  exact ok_up ((H.m' R.h5 R.h7 (R.kt t2)).fd (.lit 16) (by decide)) (((H.e' R.h7 (R.kt t2)).fd (.lit 16) (by decide)).sub ((H.m' R.h5 R.h7 (R.kt t2)).fd (.lit 16) (by decide)) (by omega)) (by omega)
theorem Rng.trips7 : (k0_t7_loop v5 v7 t2).trips = eN hi (lo / 160 + t2.val) - gN (mN (aN lo (lo / 160 + t2.val)) (eN hi (lo / 160 + t2.val))) (eN hi (lo / 160 + t2.val)) := by
  have H := R.chunk t2; have hg := H.g; have he := H.e_le
  exact trips_up (H.g' R.h5 R.h7 (R.kt t2)) ((H.e' R.h7 (R.kt t2)).sub (H.g' R.h5 R.h7 (R.kt t2)) hg.2) (by omega)
theorem Rng.ok7 : (k0_t7_loop v5 v7 t2).OK := by
  have H := R.chunk t2; have hg := H.g; have he := H.e_le
  exact ok_up (H.g' R.h5 R.h7 (R.kt t2)) ((H.e' R.h7 (R.kt t2)).sub (H.g' R.h5 R.h7 (R.kt t2)) hg.2) (by omega)

theorem Rng.row {r : BitVec 32} {n : ℕ} (hr : Is r n) (h : n < 160) : Is (rowW (kW v5 t2.val) r) ((lo / 160 + t2.val) % 2 * 20480 + n * 128) :=
  ((R.kt t2).md.mul (.lit 20480) (by omega)).add (hr.mul (.lit 128) (by omega)) (by omega)
theorem Rng.mem {r : BitVec 32} {n : ℕ} (hr : Is r n) (h : n < 160) : Is (memW (kW v5 t2.val) r) ((lo / 160 + t2.val) % 2 * 176 + n) :=
  ((R.kt t2).md.mul (.lit 176) (by omega)).add hr (by omega)

theorem Rng.r3 (t3 : Fin (k0_t3_loop v5 v7 t2).trips) : aN lo (lo / 160 + t2.val) + t3.val < 160 ∧
    Is (Scf.iv (aW v5 (kW v5 t2.val)) 1#32 t3.val) (aN lo (lo / 160 + t2.val) + t3.val) := by
  have H := R.chunk t2; have := H.m; have := H.e_le; have h3 := t3.isLt; have h3' := R.trips3 t2
  exact ⟨by omega, (H.a' R.h5 (R.kt t2)).iv _ (by omega)⟩
theorem Rng.r7 (t7 : Fin (k0_t7_loop v5 v7 t2).trips) : gN (mN (aN lo (lo / 160 + t2.val)) (eN hi (lo / 160 + t2.val))) (eN hi (lo / 160 + t2.val)) + t7.val < 160 ∧
    Is (Scf.iv (gW (mW (aW v5 (kW v5 t2.val)) (eW v7 (kW v5 t2.val))) (eW v7 (kW v5 t2.val))) 1#32 t7.val)
      (gN (mN (aN lo (lo / 160 + t2.val)) (eN hi (lo / 160 + t2.val))) (eN hi (lo / 160 + t2.val)) + t7.val) := by
  have H := R.chunk t2; have := H.g; have := H.e_le; have h3 := t7.isLt; have h3' := R.trips7 t2
  exact ⟨by omega, (H.g' R.h5 R.h7 (R.kt t2)).iv _ (by omega)⟩
theorem Rng.r5 (t5 : Fin (k0_t5_loop v5 v7 t2).trips) : (mN (aN lo (lo / 160 + t2.val)) (eN hi (lo / 160 + t2.val)) / 16 + t5.val) * 16 + 16 ≤ 160 ∧
    Is (bW (mW (aW v5 (kW v5 t2.val)) (eW v7 (kW v5 t2.val))) t5.val)
      ((mN (aN lo (lo / 160 + t2.val)) (eN hi (lo / 160 + t2.val)) / 16 + t5.val) * 16) := by
  have H := R.chunk t2; have := H.m; have := H.e_le; have h3 := t5.isLt; have h3' := R.trips5 t2
  exact ⟨by omega, (((H.m' R.h5 R.h7 (R.kt t2)).fd (.lit 16) (by decide)).iv _ (by omega)).mul (.lit 16) (by omega)⟩
end Loops

/-- The offset is a sum of words. -/
class RowO (off : Fin 1 → ℕ) (w c : outParam (BitVec 32)) : Prop where
  eq : off = ![(Scalar.addi w c).toNat]

section RowO
variable (t2 : Fin (k0_t2_loop v5 v7).trips) (t3 : Fin (k0_t3_loop v5 v7 t2).trips) (t5 : Fin (k0_t5_loop v5 v7 t2).trips) (t7 : Fin (k0_t7_loop v5 v7 t2).trips) (c r : BitVec 32)
instance : RowO (k0_off18 v5 v7 t2 t3) (Scalar.muli (md (kW v5 t2.val)) 176#32) (Scf.iv (aW v5 (kW v5 t2.val)) 1#32 t3.val) := ⟨rfl⟩
instance : RowO (k0_off26 v5 v7 t2 t5) (Scalar.muli (md (kW v5 t2.val)) 176#32) (bW (mW (aW v5 (kW v5 t2.val)) (eW v7 (kW v5 t2.val))) t5.val) := ⟨rfl⟩
instance : RowO (k0_off126 v5 v7 t2 t7) (Scalar.muli (md (kW v5 t2.val)) 176#32) (Scf.iv (gW (mW (aW v5 (kW v5 t2.val)) (eW v7 (kW v5 t2.val))) (eW v7 (kW v5 t2.val))) 1#32 t7.val) := ⟨rfl⟩
instance : RowO (k0_off21 v5 v7 t2 t3 c) (rowW (kW v5 t2.val) (Scf.iv (aW v5 (kW v5 t2.val)) 1#32 t3.val)) c := ⟨rfl⟩
instance : RowO (k0_off129 v5 v7 t2 t7 c) (rowW (kW v5 t2.val) (Scf.iv (gW (mW (aW v5 (kW v5 t2.val)) (eW v7 (kW v5 t2.val))) (eW v7 (kW v5 t2.val))) 1#32 t7.val)) c := ⟨rfl⟩
instance : RowO (k0_off27 v5 v7 t2 t5 r c) (rowW (kW v5 t2.val) (Scalar.addi (bW (mW (aW v5 (kW v5 t2.val)) (eW v7 (kW v5 t2.val))) t5.val) r)) c := ⟨rfl⟩
instance : RowO (k0_off28 v5 v7 t2 t5 c) (rowW (kW v5 t2.val) (Scalar.addi (bW (mW (aW v5 (kW v5 t2.val)) (eW v7 (kW v5 t2.val))) t5.val) 0#32)) c := ⟨rfl⟩
instance : RowO (k0_off31 v5 v7 t2 t5 c) (rowW (kW v5 t2.val) (Scalar.addi (bW (mW (aW v5 (kW v5 t2.val)) (eW v7 (kW v5 t2.val))) t5.val) 1#32)) c := ⟨rfl⟩
instance : RowO (k0_off34 v5 v7 t2 t5 c) (rowW (kW v5 t2.val) (Scalar.addi (bW (mW (aW v5 (kW v5 t2.val)) (eW v7 (kW v5 t2.val))) t5.val) 2#32)) c := ⟨rfl⟩
instance : RowO (k0_off37 v5 v7 t2 t5 c) (rowW (kW v5 t2.val) (Scalar.addi (bW (mW (aW v5 (kW v5 t2.val)) (eW v7 (kW v5 t2.val))) t5.val) 3#32)) c := ⟨rfl⟩
instance : RowO (k0_off40 v5 v7 t2 t5 c) (rowW (kW v5 t2.val) (Scalar.addi (bW (mW (aW v5 (kW v5 t2.val)) (eW v7 (kW v5 t2.val))) t5.val) 4#32)) c := ⟨rfl⟩
instance : RowO (k0_off43 v5 v7 t2 t5 c) (rowW (kW v5 t2.val) (Scalar.addi (bW (mW (aW v5 (kW v5 t2.val)) (eW v7 (kW v5 t2.val))) t5.val) 5#32)) c := ⟨rfl⟩
instance : RowO (k0_off46 v5 v7 t2 t5 c) (rowW (kW v5 t2.val) (Scalar.addi (bW (mW (aW v5 (kW v5 t2.val)) (eW v7 (kW v5 t2.val))) t5.val) 6#32)) c := ⟨rfl⟩
instance : RowO (k0_off49 v5 v7 t2 t5 c) (rowW (kW v5 t2.val) (Scalar.addi (bW (mW (aW v5 (kW v5 t2.val)) (eW v7 (kW v5 t2.val))) t5.val) 7#32)) c := ⟨rfl⟩
instance : RowO (k0_off52 v5 v7 t2 t5 c) (rowW (kW v5 t2.val) (Scalar.addi (bW (mW (aW v5 (kW v5 t2.val)) (eW v7 (kW v5 t2.val))) t5.val) 8#32)) c := ⟨rfl⟩
instance : RowO (k0_off55 v5 v7 t2 t5 c) (rowW (kW v5 t2.val) (Scalar.addi (bW (mW (aW v5 (kW v5 t2.val)) (eW v7 (kW v5 t2.val))) t5.val) 9#32)) c := ⟨rfl⟩
instance : RowO (k0_off58 v5 v7 t2 t5 c) (rowW (kW v5 t2.val) (Scalar.addi (bW (mW (aW v5 (kW v5 t2.val)) (eW v7 (kW v5 t2.val))) t5.val) 10#32)) c := ⟨rfl⟩
instance : RowO (k0_off61 v5 v7 t2 t5 c) (rowW (kW v5 t2.val) (Scalar.addi (bW (mW (aW v5 (kW v5 t2.val)) (eW v7 (kW v5 t2.val))) t5.val) 11#32)) c := ⟨rfl⟩
instance : RowO (k0_off64 v5 v7 t2 t5 c) (rowW (kW v5 t2.val) (Scalar.addi (bW (mW (aW v5 (kW v5 t2.val)) (eW v7 (kW v5 t2.val))) t5.val) 12#32)) c := ⟨rfl⟩
instance : RowO (k0_off67 v5 v7 t2 t5 c) (rowW (kW v5 t2.val) (Scalar.addi (bW (mW (aW v5 (kW v5 t2.val)) (eW v7 (kW v5 t2.val))) t5.val) 13#32)) c := ⟨rfl⟩
instance : RowO (k0_off70 v5 v7 t2 t5 c) (rowW (kW v5 t2.val) (Scalar.addi (bW (mW (aW v5 (kW v5 t2.val)) (eW v7 (kW v5 t2.val))) t5.val) 14#32)) c := ⟨rfl⟩
instance : RowO (k0_off73 v5 v7 t2 t5 c) (rowW (kW v5 t2.val) (Scalar.addi (bW (mW (aW v5 (kW v5 t2.val)) (eW v7 (kW v5 t2.val))) t5.val) 15#32)) c := ⟨rfl⟩
end RowO

/-! ## The tile's segments -/

/-- The number of the tile. -/
def wid (i : grid0.Coords) : ℕ := 2 * (i 1).val + (i 0).val

theorem wid_lt (i : grid0.Coords) : wid i < 32 := by
  have h1 : (i 1).val < 16 := (i 1).isLt
  have h0 : (i 0).val < 2 := (i 0).isLt
  unfold wid; omega

/-- A segment of the tile. -/
def SegIn (i : grid0.Coords) (v : BitVec 32) : Prop := Is v v.toNat ∧ wid i * 320 ≤ v.toNat ∧ v.toNat < wid i * 320 + 320

/-- What the running segment's word can be. -/
def CurOK (i : grid0.Coords) (v : BitVec 32) : Prop := v = 4294967295#32 ∨ SegIn i v

/-- The condition under which a running segment ends. -/
def gd (a b : BitVec 32) : BitVec 1 :=
  Scalar.cmpi .ne (Scalar.extui (Scalar.andi (Scalar.cmpi .ne a b) (Scalar.cmpi .sge b 0#32))) 0#32

theorem gd_iff (a b : BitVec 32) : gd a b = 1#1 ↔ a ≠ b ∧ 0 ≤ b.toInt := by
  have h1 : Scalar.cmpi .ne a b = BitVec.ofBool (a != b) := rfl
  have h2 : Scalar.cmpi .sge b 0#32 = BitVec.ofBool (BitVec.sle 0#32 b) := rfl
  have h3 : (0 ≤ b.toInt) ↔ (BitVec.sle 0#32 b) = true := by rw [BitVec.sle_iff_toInt_le]; rfl
  rw [h3, gd, h1, h2, ← bne_iff_ne]
  cases (a != b) <;> cases (BitVec.sle 0#32 b) <;> decide

theorem CurOK.seg {i : grid0.Coords} {v : BitVec 32} (h : CurOK i v) (h0 : 0 ≤ v.toInt) : SegIn i v := by
  rcases h with rfl | h
  · exact absurd h0 (by decide)
  · exact h

theorem SegIn.nonneg {i : grid0.Coords} {v : BitVec 32} (h : SegIn i v) : 0 ≤ v.toInt := by
  rw [h.1.toInt]; exact Int.natCast_nonneg _

/-- Where a segment's sums start in the block, and the word that says so. -/
def accN (i : grid0.Coords) (v : BitVec 32) : ℕ := (v.toNat - wid i * 320) * 256
def accW (i : grid0.Coords) (v : BitVec 32) : BitVec 32 :=
  Scalar.muli (Scalar.subi v (Scalar.muli (Scalar.addi (Scalar.muli (BitVec.ofNat 32 (i 1).val) 2#32) (BitVec.ofNat 32 (i 0).val)) 320#32)) 256#32

theorem wid_is (i : grid0.Coords) : Is (Scalar.addi (Scalar.muli (BitVec.ofNat 32 (i 1).val) 2#32) (BitVec.ofNat 32 (i 0).val)) (wid i) := by
  have h1 : (i 1).val < 16 := (i 1).isLt
  have h0 : (i 0).val < 2 := (i 0).isLt
  exact (((Is.lit (i 1).val (by omega)).mul (.lit 2) (by omega)).add (.lit (i 0).val (by omega)) (by omega)).cast (by unfold wid; omega)

theorem SegIn.acc {i : grid0.Coords} {v : BitVec 32} (h : SegIn i v) : Is (accW i v) (accN i v) ∧ accN i v + 256 ≤ 81920 := by
  have := wid_lt i; have := h.2
  exact ⟨Is.mul (h.1.sub ((wid_is i).mul (.lit 320) (by omega)) h.2.1) (.lit 256) (by omega), by unfold accN; omega⟩

theorem SegIn.off {i : grid0.Coords} {v : BitVec 32} (h : SegIn i v) {c : ℕ} (hc : c ≤ 112 := by decide) :
    ![(Scalar.addi (accW i v) (BitVec.ofNat 32 c)).toNat] = ![accN i v + c] := by
  have := h.acc
  rw [(this.1.add (.lit c (by omega)) (by omega)).toNat]

theorem SegIn.off' {i : grid0.Coords} {v : BitVec 32} (h : SegIn i v) {c : ℕ} (hc : c ≤ 112 := by decide) :
    ![(Scalar.addi (Scalar.addi (accW i v) 128#32) (BitVec.ofNat 32 c)).toNat] = ![accN i v + 128 + c] := by
  have := h.acc
  rw [((this.1.add (.lit 128) (by omega)).add (.lit c (by omega)) (by omega)).toNat]

theorem CurOK.inb {i : grid0.Coords} {v : BitVec 32} (h : CurOK i v) {a : BitVec 32} (hg : gd a v = 1#1) (r : Fin 8) :
    ∀ x, (![(Scalar.addi (accW i v) (BitVec.ofNat 32 (16 * r.val))).toNat] : Fin 1 → ℕ) x + S16.size x ≤ S81920.size x := by
  have hs := h.seg ((gd_iff a v).mp hg).2
  rw [hs.off (by omega)]
  intro (x : Fin 1)
  obtain rfl : x = 0 := Subsingleton.elim _ _
  have := hs.acc.2; have := r.isLt
  show accN i v + 16 * r.val + 16 ≤ 81920
  omega

theorem CurOK.inb' {i : grid0.Coords} {v : BitVec 32} (h : CurOK i v) {a : BitVec 32} (hg : gd a v = 1#1) (r : Fin 8) :
    ∀ x, (![(Scalar.addi (Scalar.addi (accW i v) 128#32) (BitVec.ofNat 32 (16 * r.val))).toNat] : Fin 1 → ℕ) x + S16.size x ≤ S81920.size x := by
  have hs := h.seg ((gd_iff a v).mp hg).2
  rw [hs.off' (by omega)]
  intro (x : Fin 1)
  obtain rfl : x = 0 := Subsingleton.elim _ _
  have := hs.acc.2; have := r.isLt
  show accN i v + 128 + 16 * r.val + 16 ≤ 81920
  omega

theorem chk2 {i : grid0.Coords} {v a : BitVec 32} (h : CurOK i v) : k0_chk2 i a v :=
  ⟨fun hg r => h.inb hg r, fun hg r => h.inb' hg r⟩

theorem chk5 {i : grid0.Coords} {v a b : BitVec 32} (h : CurOK i v) : k0_chk5 i v a b :=
  ⟨fun _ hg r => h.inb hg r, fun _ hg r => h.inb' hg r⟩

end Cert.Proof.TileI

end
-- ==== Proof.TileI.Chk.lean ====
/-
  The program's side conditions, and its copies' offsets and guards as natural numbers.
-/
module

public import proofs.«01_k».proof.Proof.TileI.Offs

@[expose] public section

namespace Cert.Proof.TileI

open Idealize Idealize.ShloMosaic Cert.KernelIdeal Cert.KernelIdeal.Gen Cert.Proof.Words

variable {v5 v7 : BitVec 32} {lo hi : ℕ}

/-- A guard on one word being below another. -/
def ltW (a b : BitVec 32) : BitVec 1 := Scalar.cmpi .ne (Scalar.extui (Scalar.cmpi .slt a b)) 0#32

theorem ltW_iff {a b : BitVec 32} {m n : ℕ} (ha : Is a m) (hb : Is b n) : ltW a b = 1#1 ↔ m < n := by
  have h1 : Scalar.cmpi .slt a b = BitVec.ofBool (BitVec.slt a b) := rfl
  have h2 : BitVec.slt a b = decide (m < n) := by
    rw [BitVec.slt_eq_decide, ha.toInt, hb.toInt]
    simp only [Int.ofNat_lt]
  rw [ltW, h1, h2]
  by_cases h : m < n
  · simp only [h, decide_true, iff_true]; decide
  · simp only [h, decide_false, iff_false]; decide

theorem off_of {w : BitVec 32} {n : ℕ} (h : Is w n) : (![w.toNat] : Fin 1 → ℕ) = ![n] := by rw [h.toNat]

theorem inb_of {off : Fin 1 → ℕ} {o w n : ℕ} (h : off = ![o]) (hn : o + w ≤ n) : ∀ a, off a + (⟨1, ![w]⟩ : Shape).size a ≤ (⟨1, ![n]⟩ : Shape).size a := by
  subst h
  intro a
  obtain rfl : a = 0 := Subsingleton.elim _ _
  exact hn

section One
variable (R : Rng v5 v7 lo hi)
include R

theorem Rng.cond1 : k0_cond1 v5 v7 = 1#1 ↔ lo / 160 < cdN hi :=
  ltW_iff (R.lo160.add (.lit 0) (by have := R.fle; omega)) R.cd

theorem Rng.z : Is (Scalar.addi (fd v5 160#32) 0#32) (lo / 160) := R.lo160.add (.lit 0) (by have := R.fle; omega)

theorem Rng.off2 : k0_off2 v5 = ![lo / 160 % 2 * 20480] := off_of (R.z.md.mul (.lit 20480) (by omega))
theorem Rng.off3 : k0_off3 v5 = ![lo / 160 * 20480] := off_of (R.z.mul (.lit 20480) (by have := R.fle; omega))
theorem Rng.off4 : k0_off4 v5 = ![lo / 160 % 2] := off_of R.z.md
theorem Rng.off5 : k0_off5 v5 = ![lo / 160 % 2 * 176] := off_of (R.z.md.mul (.lit 176) (by omega))
theorem Rng.off6 : k0_off6 v5 = ![lo / 160 * 160] := off_of (R.z.mul (.lit 160) (by have := R.fle; omega))

variable (t2 : Fin (k0_t2_loop v5 v7).trips)

theorem Rng.n : Is (Scalar.subi (Scalar.addi (kW v5 t2.val) 2#32) 1#32) (lo / 160 + t2.val + 1) :=
  (((R.kt t2).add (.lit 2) (by have := (R.chunk t2).k_lt; omega)).sub (.lit 1) (by omega)).cast (by omega)

theorem Rng.cond2 : k0_cond2 v5 v7 t2 = 1#1 ↔ lo / 160 + t2.val + 1 < cdN hi := ltW_iff (R.n t2) R.cd

theorem Rng.off8 : k0_off8 v5 v7 t2 = ![(lo / 160 + t2.val + 1) % 2 * 20480] := off_of ((R.n t2).md.mul (.lit 20480) (by omega))
theorem Rng.off9 : k0_off9 v5 v7 t2 = ![(lo / 160 + t2.val + 1) * 20480] := off_of ((R.n t2).mul (.lit 20480) (by have := (R.chunk t2).k_lt; omega))
theorem Rng.off10 : k0_off10 v5 v7 t2 = ![(lo / 160 + t2.val + 1) % 2] := off_of (R.n t2).md
theorem Rng.off11 : k0_off11 v5 v7 t2 = ![(lo / 160 + t2.val + 1) % 2 * 176] := off_of ((R.n t2).md.mul (.lit 176) (by omega))
theorem Rng.off12 : k0_off12 v5 v7 t2 = ![(lo / 160 + t2.val + 1) * 160] := off_of ((R.n t2).mul (.lit 160) (by have := (R.chunk t2).k_lt; omega))
theorem Rng.off13 : k0_off13 v5 v7 t2 = ![(lo / 160 + t2.val) % 2 * 20480] := off_of ((R.kt t2).md.mul (.lit 20480) (by omega))
theorem Rng.off14 : k0_off14 v5 v7 t2 = ![(lo / 160 + t2.val) * 20480] := off_of ((R.kt t2).mul (.lit 20480) (by have := (R.chunk t2).k_lt; omega))
theorem Rng.off15 : k0_off15 v5 v7 t2 = ![(lo / 160 + t2.val) % 2] := off_of (R.kt t2).md
theorem Rng.off16 : k0_off16 v5 v7 t2 = ![(lo / 160 + t2.val) % 2 * 176] := off_of ((R.kt t2).md.mul (.lit 176) (by omega))
theorem Rng.off17 : k0_off17 v5 v7 t2 = ![(lo / 160 + t2.val) * 160] := off_of ((R.kt t2).mul (.lit 160) (by have := (R.chunk t2).k_lt; omega))

theorem Rng.off18 (t3 : Fin (k0_t3_loop v5 v7 t2).trips) : ∃ n, k0_off18 v5 v7 t2 t3 = ![n] ∧ n + 16 ≤ 352 :=
  ⟨_, off_of (R.mem t2 (R.r3 t2 t3).2 (R.r3 t2 t3).1), by have := (R.r3 t2 t3).1; omega⟩
theorem Rng.off26 (t5 : Fin (k0_t5_loop v5 v7 t2).trips) : ∃ n, k0_off26 v5 v7 t2 t5 = ![n] ∧ n + 16 ≤ 352 :=
  ⟨_, off_of (R.mem t2 (R.r5 t2 t5).2 (by have := (R.r5 t2 t5).1; omega)), by have := (R.r5 t2 t5).1; omega⟩
theorem Rng.off126 (t7 : Fin (k0_t7_loop v5 v7 t2).trips) : ∃ n, k0_off126 v5 v7 t2 t7 = ![n] ∧ n + 16 ≤ 352 :=
  ⟨_, off_of (R.mem t2 (R.r7 t2 t7).2 (R.r7 t2 t7).1), by have := (R.r7 t2 t7).1; omega⟩
theorem Rng.off21 (t3 : Fin (k0_t3_loop v5 v7 t2).trips) (r : Fin 8) : ∃ n, k0_off21 v5 v7 t2 t3 (BitVec.ofNat 32 (16 * r.val)) = ![n] ∧ n + 16 ≤ 40960 :=
  ⟨_, off_of ((R.row t2 (R.r3 t2 t3).2 (R.r3 t2 t3).1).add (.lit (16 * r.val) (by omega)) (by have := (R.r3 t2 t3).1; omega)), by have := (R.r3 t2 t3).1; omega⟩
theorem Rng.off129 (t7 : Fin (k0_t7_loop v5 v7 t2).trips) (r : Fin 8) : ∃ n, k0_off129 v5 v7 t2 t7 (BitVec.ofNat 32 (16 * r.val)) = ![n] ∧ n + 16 ≤ 40960 :=
  ⟨_, off_of ((R.row t2 (R.r7 t2 t7).2 (R.r7 t2 t7).1).add (.lit (16 * r.val) (by omega)) (by have := (R.r7 t2 t7).1; omega)), by have := (R.r7 t2 t7).1; omega⟩

end One

theorem inb_ex {off : Fin 1 → ℕ} {w n : ℕ} (h : ∃ o, off = ![o] ∧ o + w ≤ n) : ∀ a, off a + (⟨1, ![w]⟩ : Shape).size a ≤ (⟨1, ![n]⟩ : Shape).size a := by
  obtain ⟨o, h, hn⟩ := h
  exact inb_of h hn

theorem chk1_0 (R : Rng v5 v7 lo hi) : k0_chk1_0 v5 v7 := by
  have hf := R.fle
  refine ⟨fun _ => inb_of R.off2 (by omega), fun h => inb_of R.off3 (by have := R.cond1.mp h; omega), fun _ => inb_of R.off4 (by omega), fun _ => inb_of R.off5 (by omega),
    fun h => inb_of R.off6 (by have := R.cond1.mp h; omega), R.ok2,
    fun t h => inb_of (R.off8 t) (by omega), fun t h => inb_of (R.off9 t) (by have := (R.cond2 t).mp h; omega), fun t _ => inb_of (R.off10 t) (by omega), fun t _ => inb_of (R.off11 t) (by omega),
    fun t h => inb_of (R.off12 t) (by have := (R.cond2 t).mp h; omega),
    fun t => inb_of (R.off13 t) (by omega), fun t => inb_of (R.off14 t) (by have := (R.chunk t).k_lt; omega), fun t => inb_of (R.off15 t) (by omega), fun t => inb_of (R.off16 t) (by omega),
    fun t => inb_of (R.off17 t) (by have := (R.chunk t).k_lt; omega),
    fun t => R.ok3 t, fun t t3 => inb_ex (R.off18 t t3), fun t t3 r => inb_ex (R.off21 t t3 r), fun t => Scf.rem_ok _ _, fun t t4 => (Scf.rem_no_trip _ _ t4).elim, fun t t4 => (Scf.rem_no_trip _ _ t4).elim,
    fun t => R.ok5 t, fun t t5 => inb_ex (R.off26 t t5), fun t => Scf.rem_ok _ _, fun t t6 => (Scf.rem_no_trip _ _ t6).elim,
    fun t => R.ok7 t, fun t t7 => inb_ex (R.off126 t t7), fun t t7 r => inb_ex (R.off129 t t7 r), fun t => Scf.rem_ok _ _, fun t t8 => (Scf.rem_no_trip _ _ t8).elim, fun t t8 => (Scf.rem_no_trip _ _ t8).elim⟩

theorem t9 (t : Fin (k0_t9_loop v5 v7).trips) : False := Scf.rem_no_trip _ _ t

theorem chk1_1 : k0_chk1_1 v5 v7 := by
  unfold k0_chk1_1
  refine ⟨Scf.rem_ok _ _, ?_⟩
  repeat' first | exact fun t => (t9 t).elim | refine And.intro ?_ ?_

theorem chk1 (R : Rng v5 v7 lo hi) : k0_chk1 v5 v7 := ⟨chk1_0 R, chk1_1⟩

/-! ## After the chunks -/

theorem cond84_iff (v : BitVec 32) : k0_cond84 v = 1#1 ↔ 0 ≤ v.toInt := by
  have h2 : Scalar.cmpi .sge v 0#32 = BitVec.ofBool (BitVec.sle 0#32 v) := rfl
  have h3 : (0 ≤ v.toInt) ↔ (BitVec.sle 0#32 v) = true := by rw [BitVec.sle_iff_toInt_le]; rfl
  have h4 : k0_cond84 v = Scalar.cmpi .ne (Scalar.extui (Scalar.cmpi .sge v 0#32)) 0#32 := rfl
  rw [h3, h4, h2]
  cases (BitVec.sle 0#32 v) <;> decide

theorem gd_of_cond84 {v : BitVec 32} (h : k0_cond84 v = 1#1) : gd (v + 1#32) v = 1#1 := by
  refine (gd_iff _ _).mpr ⟨fun e => ?_, (cond84_iff v).mp h⟩
  have := congrArg BitVec.toNat e
  rw [BitVec.toNat_add, show (1#32).toNat = 1 from rfl] at this
  have := v.isLt
  omega

theorem chk78 {i : grid0.Coords} {v : BitVec 32} (h : CurOK i v) : k0_chk78 i v :=
  ⟨fun hg r => h.inb (gd_of_cond84 hg) r, fun hg r => h.inb' (gd_of_cond84 hg) r⟩

theorem cond85_iff (i : grid0.Coords) : k0_cond85 i = 1#1 ↔ wid i < 31 := ltW_iff (wid_is i) (.lit 31)

theorem cond86_iff (i : grid0.Coords) : k0_cond86 i = 1#1 ↔ wid i = 31 := by
  have h4 : k0_cond86 i = Scalar.cmpi .ne (Scalar.extui (Scalar.cmpi .eq (Scalar.addi (Scalar.muli (BitVec.ofNat 32 (i 1).val) 2#32) (BitVec.ofNat 32 (i 0).val)) 31#32)) 0#32 := rfl
  have h := wid_is i
  have h5 : ∀ w : BitVec 32, Scalar.cmpi .ne (Scalar.extui (Scalar.cmpi .eq w 31#32)) 0#32 = 1#1 ↔ w = 31#32 := by
    intro w
    have h1 : Scalar.cmpi .eq w 31#32 = BitVec.ofBool (w == 31#32) := rfl
    rw [h1, ← beq_iff_eq (a := w)]
    generalize (w == 31#32) = b
    revert b
    decide
  rw [h4, h5]
  constructor
  · intro e; rw [e] at h; exact h.inj (.lit 31)
  · intro e
    apply BitVec.eq_of_toNat_eq
    rw [h.toNat, e]; rfl

theorem off262 (i : grid0.Coords) : k0_off262 i = ![wid i * 81920] := off_of ((wid_is i).mul (.lit 81920) (by have := wid_lt i; omega))
theorem off263 (i : grid0.Coords) : k0_off263 i = ![wid i * 81920] := off_of ((wid_is i).mul (.lit 81920) (by have := wid_lt i; omega))

end Cert.Proof.TileI

end
-- ==== Proof.TileI.Step.lean ====
module

public import proofs.«01_k».proof.Proof.TileI.Offs

/-! What the tile does with one row, and the rules that read its text. -/

@[expose] public section

namespace Cert.Proof.TileI

open Cert.KernelIdeal Cert.KernelIdeal.Gen Cert.Proof.Words Cert.Proof.Lanes
open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F]

def addL (a b : ℕ → F .f32) : ℕ → F .f32 := fun n => FloatOps.addf (a n) (b n)
def maxL (a b : ℕ → F .f32) : ℕ → F .f32 := fun n => FloatOps.maximumf (a n) (b n)
def reluL (a : ℕ → F .f32) : ℕ → F .f32 := fun n => FloatOps.maximumf (a n) (Scalar.ofBits .f32 0x00000000#32)
def selL (c : BitVec 1) (a b : ℕ → F .f32) : ℕ → F .f32 := Scalar.select c a b

variable (a b : ℕ → F .f32) (o : ℕ) (c : BitVec 1)

theorem addf_sl : addf (φ := .f32) (s := S16) (sl a o) (sl b o) = sl (addL a b) o := rfl
theorem maximumf_sl : maximumf (φ := .f32) (s := S16) (sl a o) (sl b o) = sl (maxL a b) o := rfl
theorem relu_sl : maximumf (φ := .f32) (s := S16) (sl a o) (broadcast S16 (FloatOps.ofBits .f32 0x00000000#32)) = sl (reluL a) o := rfl
theorem select_sl : (Scalar.select c (sl a o) (sl b o) : FVec F S16 .f32) = sl (selL c a b) o := by
  unfold Scalar.select selL Scalar.select; split <;> rfl

theorem lane_sl (g : ℕ → BitVec 32) (o r : ℕ) (h) (hp) :
    extractAt (s := S1) ![0] (extractStridedSlice (s := S16) S1 ![r] (sl g o) h) hp = g (o + r) := by
  simp [extractAt, extractStridedSlice, sl]

/-- The sixteen stores by which a segment's sums and maxima go into the block, from the first on. -/
def flushN (b : ℕ) (ss sm : ℕ → F .f32) (acc : ℕ → F .f32) : ℕ → ℕ → F .f32
  | 0 => acc
  | j + 1 => upd (upd (flushN b ss sm acc j) (b + 16 * j) (sl (reluL ss) (16 * j))) (b + 128 + 16 * j) (sl (reluL sm) (16 * j))

/-- The block with a segment's sums and maxima stored from `b`. -/
def flush (b : ℕ) (ss sm acc : ℕ → F .f32) : ℕ → F .f32 := flushN b ss sm acc 8

variable {β : Type} {d : Dev nD} {i : grid0.Coords} {C : Src F} {σ : St F} {Q : β → St F → Prop} {off : Fin 1 → ℕ}

/-- The row at `d` of the slot in use. -/
structure RowAt (b : ℕ) (w : BitVec 32) (d : ℕ) : Prop where
  is : Is w d
  lo : b * 20480 ≤ d
  hi : d + 128 ≤ (b + 1) * 20480
  top : d + 128 ≤ 40960

theorem Tr.row {w : BitVec 32} {c dd : ℕ} {inb : ∀ a, off a + S16.size a ≤ S40960.size a} {hl} {k : Vec F S16 .f32 → PT F i β}
    (hw : RowAt C.b w dd) [ho : RowO off w (BitVec.ofNat 32 c)] (hc : c ≤ 112) (hk : Tr d i C σ (k (sl (shift C.rows dd) c)) Q) :
    Tr d i C σ ((Prog.lift (.load a6 (Rect.unit (s := S40960) off S16.size inb).toLoadRect hl) : PT F i _) >>= k) Q := by
  have h1 := hw.lo; have h2 := hw.hi
  refine Tr.ld6 (o := dd + c) ?_ (by omega) (by omega) ?_
  · rw [ho.eq, (hw.is.add (.lit c (by omega)) (by have := hw.top; omega)).toNat]
  · rw [← sl_shift]; exact hk

theorem Tr.dead9 {off : Fin 1 → ℕ} {inb : ∀ a, off a + S16.size a ≤ S81920.size a} {hl} {k : Vec F S16 .f32 → PT F i β} (hk : ∀ v, Tr d i C σ (k v) Q) :
    Tr d i C σ ((Prog.lift (.load a9 (Rect.unit (s := S81920) off S16.size inb).toLoadRect hl) : PT F i _) >>= k) Q :=
  Tr.ld9 (hk _)

/-- An offset in the block where a segment's sums go. -/
class SumO (off : Fin 1 → ℕ) (i : outParam grid0.Coords) (v c : outParam (BitVec 32)) : Prop where
  eq : off = ![(Scalar.addi (accW i v) c).toNat]

/-- An offset in the block where a segment's maxima go. -/
class MaxO (off : Fin 1 → ℕ) (i : outParam grid0.Coords) (v c : outParam (BitVec 32)) : Prop where
  eq : off = ![(Scalar.addi (Scalar.addi (accW i v) 128#32) c).toNat]

section Offs
variable (i : grid0.Coords) (v c : BitVec 32)
instance : SumO (k0_off19 i v c) i v c := ⟨rfl⟩
instance : MaxO (k0_off20 i v c) i v c := ⟨rfl⟩
instance : SumO (k0_off127 i v c) i v c := ⟨rfl⟩
instance : MaxO (k0_off128 i v c) i v c := ⟨rfl⟩
instance : SumO (k0_off260 i v c) i v c := ⟨rfl⟩
instance : MaxO (k0_off261 i v c) i v c := ⟨rfl⟩
instance : SumO (k0_off29 i v c) i v c := ⟨rfl⟩
instance : MaxO (k0_off30 i v c) i v c := ⟨rfl⟩
instance : SumO (k0_off32 i v c) i v c := ⟨rfl⟩
instance : MaxO (k0_off33 i v c) i v c := ⟨rfl⟩
instance : SumO (k0_off35 i v c) i v c := ⟨rfl⟩
instance : MaxO (k0_off36 i v c) i v c := ⟨rfl⟩
instance : SumO (k0_off38 i v c) i v c := ⟨rfl⟩
instance : MaxO (k0_off39 i v c) i v c := ⟨rfl⟩
instance : SumO (k0_off41 i v c) i v c := ⟨rfl⟩
instance : MaxO (k0_off42 i v c) i v c := ⟨rfl⟩
instance : SumO (k0_off44 i v c) i v c := ⟨rfl⟩
instance : MaxO (k0_off45 i v c) i v c := ⟨rfl⟩
instance : SumO (k0_off47 i v c) i v c := ⟨rfl⟩
instance : MaxO (k0_off48 i v c) i v c := ⟨rfl⟩
instance : SumO (k0_off50 i v c) i v c := ⟨rfl⟩
instance : MaxO (k0_off51 i v c) i v c := ⟨rfl⟩
instance : SumO (k0_off53 i v c) i v c := ⟨rfl⟩
instance : MaxO (k0_off54 i v c) i v c := ⟨rfl⟩
instance : SumO (k0_off56 i v c) i v c := ⟨rfl⟩
instance : MaxO (k0_off57 i v c) i v c := ⟨rfl⟩
instance : SumO (k0_off59 i v c) i v c := ⟨rfl⟩
instance : MaxO (k0_off60 i v c) i v c := ⟨rfl⟩
instance : SumO (k0_off62 i v c) i v c := ⟨rfl⟩
instance : MaxO (k0_off63 i v c) i v c := ⟨rfl⟩
instance : SumO (k0_off65 i v c) i v c := ⟨rfl⟩
instance : MaxO (k0_off66 i v c) i v c := ⟨rfl⟩
instance : SumO (k0_off68 i v c) i v c := ⟨rfl⟩
instance : MaxO (k0_off69 i v c) i v c := ⟨rfl⟩
instance : SumO (k0_off71 i v c) i v c := ⟨rfl⟩
instance : MaxO (k0_off72 i v c) i v c := ⟨rfl⟩
instance : SumO (k0_off74 i v c) i v c := ⟨rfl⟩
instance : MaxO (k0_off75 i v c) i v c := ⟨rfl⟩
end Offs

theorem Tr.stSum {v : BitVec 32} {c : ℕ} {inb : ∀ a, off a + S16.size a ≤ S81920.size a} {w : Vec F S16 .f32} {hx hm} {k : PUnit → PT F i β} (hs : SegIn i v)
    [ho : SumO off i v (BitVec.ofNat 32 c)] (hc : c ≤ 112) (hk : Tr d i C { σ with acc := upd σ.acc (accN i v + c) w } (k ⟨⟩) Q) :
    Tr d i C σ ((Prog.lift (.store a9 (Rect.unit (s := S81920) off S16.size inb) w Finset.univ hx hm) : PT F i _) >>= k) Q :=
  Tr.st9 (ho.eq.trans (hs.off hc)) hk

theorem Tr.stMax {v : BitVec 32} {c : ℕ} {inb : ∀ a, off a + S16.size a ≤ S81920.size a} {w : Vec F S16 .f32} {hx hm} {k : PUnit → PT F i β} (hs : SegIn i v)
    [ho : MaxO off i v (BitVec.ofNat 32 c)] (hc : c ≤ 112) (hk : Tr d i C { σ with acc := upd σ.acc (accN i v + 128 + c) w } (k ⟨⟩) Q) :
    Tr d i C σ ((Prog.lift (.store a9 (Rect.unit (s := S81920) off S16.size inb) w Finset.univ hx hm) : PT F i _) >>= k) Q :=
  Tr.st9 (ho.eq.trans (hs.off' hc)) hk

theorem Tr.flushed {c : Prop} {hd : Decidable c} {Fh : c → PT F i β} {J : PT F i β}
    (hF : ∀ h : c, Tr d i C { σ with acc := flush (accN i σ.cur) σ.ss σ.sm σ.acc } J Q → Tr d i C σ (Fh h) Q)
    (hJ : Tr d i C { σ with acc := if c then flush (accN i σ.cur) σ.ss σ.sm σ.acc else σ.acc } J Q) :
    Tr d i C σ (@dite _ c hd Fh fun _ => J) Q := by
  refine Tr.guard { σ with acc := flush (accN i σ.cur) σ.ss σ.sm σ.acc } hF ?_
  split
  · rename_i h; rw [if_pos h] at hJ; exact hJ
  · rename_i h; rw [if_neg h] at hJ; exact hJ

/-- The states agree on what the tile holds of them. -/
structure Eqv (σ τ : St F) : Prop where
  acc : ∀ n, n < 81920 → σ.acc n = τ.acc n
  ss : ∀ n, n < 128 → σ.ss n = τ.ss n
  sm : ∀ n, n < 128 → σ.sm n = τ.sm n
  cur : σ.cur = τ.cur

theorem arr_congr {α : Type} {n : ℕ} {f g : ℕ → α} (h : ∀ k, k < n → f k = g k) : arr n f = arr n g :=
  funext fun x => h _ (x 0).isLt

theorem Eqv.own {σ τ : St F} (h : Eqv σ τ) : own d i C σ = own d i C τ := by
  unfold TileI.own
  rw [arr_congr h.acc, arr_congr h.ss, arr_congr h.sm, h.cur]

theorem Tr.norm {p : PT F i β} {τ : St F} (h : Eqv σ τ) (ht : Tr d i C τ p Q) : Tr d i C σ p Q := by
  unfold Tr at *
  rw [h.own]; exact ht

theorem sl_upd_ne {α : Type} {g : ℕ → α} {o o' : ℕ} {w} (h : o + 16 ≤ o' ∨ o' + 16 ≤ o) : sl (upd g o w) o' = sl g o' := by
  funext x
  have hx : (x 0).val < 16 := (x 0).isLt
  unfold sl upd
  rw [dif_neg]; omega

theorem upd_sl {α : Type} (f g : ℕ → α) (o n : ℕ) : upd f o (sl g o) n = if o ≤ n ∧ n < o + 16 then g n else f n := by
  unfold upd sl
  split
  · rename_i h; exact congrArg g (by show o + (n - o) = n; omega)
  · rfl

/-- Eight slices of `g` stored over `f`. -/
def sweep {α : Type} (f g : ℕ → α) : ℕ → α :=
  upd (upd (upd (upd (upd (upd (upd (upd f 0 (sl g 0)) 16 (sl g 16)) 32 (sl g 32)) 48 (sl g 48)) 64 (sl g 64)) 80 (sl g 80)) 96 (sl g 96)) 112 (sl g 112)

theorem sweep_lt {α : Type} {f g : ℕ → α} {n : ℕ} (h : n < 128) : sweep f g n = g n := by
  unfold sweep
  by_cases h7 : 112 ≤ n; · rw [upd_sl, if_pos (by omega)]
  rw [upd_sl, if_neg (by omega)]
  by_cases h6 : 96 ≤ n; · rw [upd_sl, if_pos (by omega)]
  rw [upd_sl, if_neg (by omega)]
  by_cases h5 : 80 ≤ n; · rw [upd_sl, if_pos (by omega)]
  rw [upd_sl, if_neg (by omega)]
  by_cases h4 : 64 ≤ n; · rw [upd_sl, if_pos (by omega)]
  rw [upd_sl, if_neg (by omega)]
  by_cases h3 : 48 ≤ n; · rw [upd_sl, if_pos (by omega)]
  rw [upd_sl, if_neg (by omega)]
  by_cases h2 : 32 ≤ n; · rw [upd_sl, if_pos (by omega)]
  rw [upd_sl, if_neg (by omega)]
  by_cases h1 : 16 ≤ n; · rw [upd_sl, if_pos (by omega)]
  rw [upd_sl, if_neg (by omega), upd_sl, if_pos (by omega)]

theorem Tr.swept {p : PT F i β} {ss sm acc cur} {gs gm : ℕ → F .f32} (h : Tr d i C ⟨acc, gs, gm, cur⟩ p Q) :
    Tr d i C ⟨acc, sweep ss gs, sweep sm gm, cur⟩ p Q :=
  Tr.norm (τ := ⟨acc, gs, gm, cur⟩) { acc := fun _ _ => rfl, ss := fun n h => sweep_lt (f := ss) (g := gs) (n := n) h, sm := fun n h => sweep_lt (f := sm) (g := gm) (n := n) h, cur := rfl } h

theorem Tr.loop {L : Scf.Loop 32} {γ : Type} {hok : L.OK} {init : γ} {body : Fin L.trips → γ → PT F i γ} {k : γ → PT F i β}
    (I : ℕ → St F → Prop) (h0 : I 0 σ) (hb : ∀ (t : Fin L.trips) acc σ, I t.val σ → Tr d i C σ (body t acc) (fun _ σ' => I (t.val + 1) σ'))
    (hk : ∀ acc σ', I L.trips σ' → Tr d i C σ' (k acc) Q) : Tr d i C σ (Scf.Loop.for L hok init body >>= k) Q := by
  refine Tr.bindQ ?_
  unfold Tr at *
  refine BIBase.Entails.trans ?_ (Scf.wp_for _ _ _ _ _ _ hok init body (fun t _ => iprop(∃ σ', own d i C σ' ∗ ⌜I t σ'⌝)) ?_)
  · iintro H
    isplitl [H]
    · iexists σ; isplitl [H]; · iexact H
      ipureintro; exact h0
    · iintro %acc ⟨%σ', H, %hI⟩
      iexists σ'; isplitl [H]; · iexact H
      ipureintro; exact hk acc σ' hI
  · intro t acc
    iintro ⟨%σ', H, %hI⟩
    iapply (hb t acc σ' hI)
    iexact H

theorem Tr.dead {L : Scf.Loop 32} {γ : Type} {hok : L.OK} {init : γ} {body : Fin L.trips → γ → PT F i γ} {k : γ → PT F i β}
    (h : Fin L.trips → False) (hk : ∀ acc, Tr d i C σ (k acc) Q) : Tr d i C σ (Scf.Loop.for L hok init body >>= k) Q :=
  Tr.loop (fun _ τ => τ = σ) rfl (fun t => (h t).elim) (fun acc _ h => h ▸ hk acc)

/-- The state after a row `x` of segment `seg`. -/
def rowStep (i : grid0.Coords) (seg : BitVec 32) (x : ℕ → F .f32) (σ : St F) : St F where
  acc := if gd seg σ.cur = 1#1 then flush (accN i σ.cur) σ.ss σ.sm σ.acc else σ.acc
  ss := selL (Scalar.cmpi .ne seg σ.cur) x (addL σ.ss x)
  sm := selL (Scalar.cmpi .ne seg σ.cur) x (maxL σ.sm x)
  cur := seg

/-- The state after sixteen rows of the segment that is running, taken as a tree. -/
def fastStep (x : ℕ → ℕ → F .f32) (σ : St F) : St F where
  acc := σ.acc
  ss := addL σ.ss (addL (addL (addL (addL (x 0) (x 1)) (addL (x 2) (x 3))) (addL (addL (x 4) (x 5)) (addL (x 6) (x 7))))
    (addL (addL (addL (x 8) (x 9)) (addL (x 10) (x 11))) (addL (addL (x 12) (x 13)) (addL (x 14) (x 15)))))
  sm := maxL σ.sm (maxL (maxL (maxL (maxL (x 0) (x 1)) (maxL (x 2) (x 3))) (maxL (maxL (x 4) (x 5)) (maxL (x 6) (x 7))))
    (maxL (maxL (maxL (x 8) (x 9)) (maxL (x 10) (x 11))) (maxL (maxL (x 12) (x 13)) (maxL (x 14) (x 15)))))
  cur := σ.cur

/-- The states that the tile can be in after the rows from `lo` up to `n`. -/
inductive Reach (i : grid0.Coords) (X : ℕ → ℕ → F .f32) (M : ℕ → BitVec 32) (lo : ℕ) : ℕ → St F → Prop
  | init (σ : St F) (ha : ∀ n, σ.acc n = FloatOps.ofBits .f32 0x00000000#32) (hc : σ.cur = 4294967295#32) : Reach i X M lo lo σ
  | row {n : ℕ} {σ : St F} (h : Reach i X M lo n σ) : Reach i X M lo (n + 1) (rowStep i (M n) (X n) σ)
  | fast {n : ℕ} {σ : St F} (h : Reach i X M lo n σ) (hc : M (n + 15) = σ.cur) : Reach i X M lo (n + 16) (fastStep (fun r => X (n + r)) σ)

variable {X : ℕ → ℕ → F .f32} {M : ℕ → BitVec 32} {lo hi k : ℕ}

theorem Reach.cast {n m : ℕ} (h : Reach i X M lo n σ) (e : n = m) : Reach i X M lo m σ := e ▸ h

theorem Reach.le {n : ℕ} (h : Reach i X M lo n σ) : lo ≤ n := by induction h <;> omega

theorem Reach.cur {n : ℕ} (h : Reach i X M lo n σ) (hs : ∀ r, lo ≤ r → r < n → SegIn i (M r)) : CurOK i σ.cur := by
  induction h with
  | init σ _ hc => exact .inl hc
  | row h _ => exact .inr (hs _ h.le (by omega))
  | fast h _ ih => exact ih fun r h1 h2 => hs r h1 (by omega)

/-- The slot in use holds chunk `k`. -/
structure Ck (C : Src F) (i : grid0.Coords) (X : ℕ → ℕ → F .f32) (M : ℕ → BitVec 32) (lo hi k : ℕ) : Prop where
  b : C.b = k % 2
  mem : ∀ q, q < 160 → C.mem (k % 2 * 176 + q) = M (k * 160 + q)
  rows : ∀ q, q < 160 → shift C.rows (k % 2 * 20480 + q * 128) = X (k * 160 + q)
  seg : ∀ r, lo ≤ r → r < hi → SegIn i (M r)

end Cert.Proof.TileI

end
-- ==== Proof.TileI.Zero.lean ====
/-
  Clearing the accumulator, and the end of the last segment.
-/
module

public import proofs.«01_k».proof.Proof.TileI.Chk
public import proofs.«01_k».proof.Proof.TileI.Step

@[expose] public section

namespace Cert.Proof.TileI

open Cert.KernelIdeal Cert.KernelIdeal.Gen Cert.Proof.Words Cert.Proof.Lanes
open Idealize.ShloMosaic Idealize.SL.Sem

variable {F : FTy → Type} [FloatOps F]
variable {d : Dev nD} {i : grid0.Coords} {C : Src F} {σ : St F} {α β : Type} {Q : β → St F → Prop}
variable {h2 : a2.IsWhole} {h3 : a3.IsWhole} {h4 : a4.IsWhole} {h5 : a5.IsWhole} {h6 : a6.IsWhole} {h7 : a7.IsWhole} {h8 : a8.IsWhole} {h9 : a9.IsWhole} {h10 : a10.IsWhole} {h11 : a11.IsWhole} {h12 : a12.IsWhole} {m13 m14 : DmaSems sig S2} {s3 s4 s5 : DmaSems sig S_}

/-- The accumulator's words below `n` are zero. -/
def Z (n : ℕ) (σ : St F) : Prop := ∀ m, m < n → σ.acc m = FloatOps.ofBits .f32 0x00000000#32

theorem off7 (t : Fin k0_t1_loop.trips) {c : BitVec 32} {r : ℕ} (hc : c.toNat = r) (hr : r < 256) : k0_off7 t c = ![256 * t.val + r] := by
  have ht : t.val < 320 := Nat.lt_of_lt_of_le t.isLt k0_t1_abs.2.1
  have h : Is (Scalar.addi (Scalar.muli (Scf.iv 0#32 1#32 t.val) 256#32) c) ((0 + t.val) * 256 + r) :=
    (((Is.lit 0).iv t.val (by omega)).mul (.lit 256) (by omega)).add ⟨by rw [← hc, BitVec.ofNat_toNat, BitVec.setWidth_eq], by omega⟩ (by omega)
  exact (off_of h).trans (by rw [Nat.zero_add, Nat.mul_comm])

theorem Tr.zero {t : Fin k0_t1_loop.trips} {c : BitVec 32} {r : ℕ} (hz : Z (256 * t.val + r) σ) {inb : ∀ a, k0_off7 t c a + S16.size a ≤ S81920.size a} {hl hx hm}
    {k : PUnit → PT F i β} {v : FVec F S16 .f32} (hv : v = broadcast S16 (Scalar.ofBits .f32 0x00000000#32)) (hc : c.toNat = r) (hr : r < 256)
    (hk : ∀ σ', Z (256 * t.val + (r + 16)) σ' → Tr d i C σ' (k ⟨⟩) Q) :
    Tr d i C σ ((Prog.lift (.load a9 (Rect.unit (s := S81920) (k0_off7 t c) S16.size inb).toLoadRect hl) : PT F i (Vec F S16 .f32)) >>= fun _ =>
      (Prog.lift (.store a9 (Rect.unit (s := S81920) (k0_off7 t c) S16.size inb) v Finset.univ hx hm) : PT F i _) >>= k) Q := by
  refine Tr.ld9 (Tr.st9 (off7 t hc hr) (hk _ fun m hm => ?_))
  show upd σ.acc _ _ m = _
  subst hv
  unfold upd
  split
  · rfl
  · exact hz m (by omega)

theorem zeroBody {v8 : FVec F S16 .f32} (hv : v8 = broadcast S16 (Scalar.ofBits .f32 0x00000000#32)) {c0 c1 : BitVec 32} {k0_t1} (hz : Z (256 * k0_t1.val) σ) :
    Tr d i C σ (do
      let arg15 : BitVec 32 ← k0_part1 (F := F) i a2 h2 a3 h3 a4 h4 a5 h5 a6 h6 a7 h7 a8 h8 a9 h9 a10 h10 a11 h11 a12 h12 m13 m14 s3 s4 s5 v8 c0 c1 k0_t1
      let v149 : BitVec 32 ← k0_part2 (F := F) i a2 h2 a3 h3 a4 h4 a5 h5 a6 h6 a7 h7 a8 h8 a9 h9 a10 h10 a11 h11 a12 h12 m13 m14 s3 s4 s5 v8 k0_t1 arg15
      let v152 : Vec F S16 .f32 ← Prog.lift (.load a9 (Rect.unit (s := S81920) (k0_off7 k0_t1 208#32) S16.size (k0_off7_inb k0_t1 13)).toLoadRect (View.loadsAt_vmem h_S16))
      have v154 : FVec F S16 .f32 := shapeCast S16 v8 shapeCasts_S16_S16
      Prog.lift (.store a9 (Rect.unit (s := S81920) (k0_off7 k0_t1 208#32) S16.size (k0_off7_inb k0_t1 13)) v154 Finset.univ (View.stores_vmem_bits_univ h_S16 rfl) (.inl rfl))
      let v158 : Vec F S16 .f32 ← Prog.lift (.load a9 (Rect.unit (s := S81920) (k0_off7 k0_t1 224#32) S16.size (k0_off7_inb k0_t1 14)).toLoadRect (View.loadsAt_vmem h_S16))
      have v160 : FVec F S16 .f32 := shapeCast S16 v8 shapeCasts_S16_S16
      Prog.lift (.store a9 (Rect.unit (s := S81920) (k0_off7 k0_t1 224#32) S16.size (k0_off7_inb k0_t1 14)) v160 Finset.univ (View.stores_vmem_bits_univ h_S16 rfl) (.inl rfl))
      let v164 : Vec F S16 .f32 ← Prog.lift (.load a9 (Rect.unit (s := S81920) (k0_off7 k0_t1 240#32) S16.size (k0_off7_inb k0_t1 15)).toLoadRect (View.loadsAt_vmem h_S16))
      have v166 : FVec F S16 .f32 := shapeCast S16 v8 shapeCasts_S16_S16
      Prog.lift (.store a9 (Rect.unit (s := S81920) (k0_off7 k0_t1 240#32) S16.size (k0_off7_inb k0_t1 15)) v166 Finset.univ (View.stores_vmem_bits_univ h_S16 rfl) (.inl rfl))
      pure (0#32)) (fun _ σ' => Z (256 * (k0_t1.val + 1)) σ') := by
  have hs : (shapeCast S16 v8 shapeCasts_S16_S16 : FVec F S16 .f32) = v8 := shapeCast_self _ _
  replace hz : Z (256 * k0_t1.val + 0) σ := hz
  refine Tr.bind fun R hR => ?_
  unfold k0_part1
  iterate 6 refine Tr.zero hz (by first | exact hv | exact hs.trans hv) rfl (by decide) fun σ hz => ?_
  refine Tr.ret (hR _ _ ?_)
  refine Tr.bind fun R hR => ?_
  unfold k0_part2
  iterate 7 refine Tr.zero hz (by first | exact hv | exact hs.trans hv) rfl (by decide) fun σ hz => ?_
  refine Tr.ret (hR _ _ ?_)
  iterate 3 refine Tr.zero hz (by first | exact hv | exact hs.trans hv) rfl (by decide) fun σ hz => ?_
  exact Tr.ret hz

/-- What the tile holds when its last segment has ended. -/
def fin (i : grid0.Coords) (σ : St F) : St F := { σ with acc := if k0_cond84 σ.cur = 1#1 then flush (accN i σ.cur) σ.ss σ.sm σ.acc else σ.acc }

theorem last {v1 v61 : BitVec 32} (hv : v61 = σ.cur) {hw : k0_chk78 i v61} {J : PT F i β} (hc : CurOK i v61) (hJ : Tr d i C (fin i σ) J Q) :
    Tr d i C σ (if hg : k0_cond84 v61 = 1#1 then do
      let ⟨v74, v76, v78, v80, v82, v84, v86, v88, v90, v92, v94, v96, v98, v100, v102, v104, v106, v110⟩ : Σ' (v74 : FVec F S16 .f32) (v76 : FVec F S16 .f32) (v78 : FVec F S16 .f32) (v80 : FVec F S16 .f32) (v82 : FVec F S16 .f32) (v84 : FVec F S16 .f32) (v86 : FVec F S16 .f32) (v88 : FVec F S16 .f32) (v90 : FVec F S16 .f32) (v92 : FVec F S16 .f32) (v94 : FVec F S16 .f32) (v96 : FVec F S16 .f32) (v98 : FVec F S16 .f32) (v100 : FVec F S16 .f32) (v102 : FVec F S16 .f32) (v104 : BitVec 32) (v106 : FVec F S16 .f32), Vec F S16 .f32 ← k0_part517 (F := F) i a2 h2 a3 h3 a4 h4 a5 h5 a6 h6 a7 h7 a8 h8 a9 h9 a10 h10 a11 h11 a12 h12 m13 m14 s3 s4 s5 v1 v61 hw hg
      let ⟨v148, v149⟩ : Σ' (v148 : FVec F S16 .f32), BitVec 32 ← k0_part518 (F := F) i a2 h2 a3 h3 a4 h4 a5 h5 a6 h6 a7 h7 a8 h8 a9 h9 a10 h10 a11 h11 a12 h12 m13 m14 s3 s4 s5 v61 hw hg v74 v76 v88 v90 v92 v104 v106 v110
      let v189 : FVec F S16 .f32 ← k0_part519 (F := F) i a2 h2 a3 h3 a4 h4 a5 h5 a6 h6 a7 h7 a8 h8 a9 h9 a10 h10 a11 h11 a12 h12 m13 m14 s3 s4 s5 v61 hw hg v78 v80 v94 v96 v104 v148 v149
      let ⟨v225, v227⟩ : Σ' (v225 : FVec F S16 .f32), BitVec 32 ← k0_part520 (F := F) i a2 h2 a3 h3 a4 h4 a5 h5 a6 h6 a7 h7 a8 h8 a9 h9 a10 h10 a11 h11 a12 h12 m13 m14 s3 s4 s5 v61 hw hg v82 v84 v86 v98 v100 v104 v189
      let v229 : Vec F S16 .f32 ← Prog.lift (.load a9 (Rect.unit (s := S81920) (k0_off260 i v61 112#32) S16.size (k0_off260_inb i v61 hw hg 7)).toLoadRect (View.loadsAt_vmem h_S16))
      have v231 : FVec F S16 .f32 := shapeCast S16 v225 shapeCasts_S16_S16
      Prog.lift (.store a9 (Rect.unit (s := S81920) (k0_off260 i v61 112#32) S16.size (k0_off260_inb i v61 hw hg 7)) v231 Finset.univ (View.stores_vmem_bits_univ h_S16 rfl) (.inl rfl))
      have cst_83 : F .f32 := Scalar.ofBits .f32 0x00000000#32
      have v232 : FVec F S16 .f32 := broadcast S16 cst_83
      have v233 : FVec F S16 .f32 := maximumf v102 v232
      let v238 : Vec F S16 .f32 ← Prog.lift (.load a9 (Rect.unit (s := S81920) (k0_off261 i v61 112#32) S16.size (k0_off261_inb i v61 hw hg 7)).toLoadRect (View.loadsAt_vmem h_S16))
      have v240 : FVec F S16 .f32 := shapeCast S16 v233 shapeCasts_S16_S16
      Prog.lift (.store a9 (Rect.unit (s := S81920) (k0_off261 i v61 112#32) S16.size (k0_off261_inb i v61 hw hg 7)) v240 Finset.univ (View.stores_vmem_bits_univ h_S16 rfl) (.inl rfl))
      J
    else J) Q := by
  subst hv
  refine Tr.flushed (fun hg hJ => ?_) hJ
  have hs : SegIn i σ.cur := hc.seg ((cond84_iff _).mp hg)
  iterate 4
    refine Tr.bind fun R hR => ?_
    simp only [k0_part517, k0_part518, k0_part519, k0_part520, shapeCast_self]
    try simp only [relu_sl]
    repeat first
      | (with_reducible apply Tr.dead9; intro _)
      | ((with_reducible apply Tr.stSum hs); decide)
      | ((with_reducible apply Tr.stMax hs); decide)
      | (with_reducible apply Tr.ld10 rfl)
      | (with_reducible apply Tr.ld11 rfl)
    with_reducible refine Tr.ret (hR _ _ ?_)
  simp only [relu_sl, shapeCast_self]
  repeat first
    | (with_reducible apply Tr.dead9; intro _)
    | ((with_reducible apply Tr.stSum hs); decide)
    | ((with_reducible apply Tr.stMax hs); decide)
  exact hJ

end Cert.Proof.TileI
-- ==== Proof.TileI.Value.lean ====
/-
  What a tile's accumulator holds at the end, over the extended reals: each segment's sum and maximum, cut off below at zero.
-/
module

public import proofs.«01_k».proof.Proof.Sums
public import proofs.«01_k».proof.Proof.TileI.Zero
public import proofs.«01_k».proof.Proof.TileI.Chk
public import Idealize.ShloMosaic.PureOps.Ideal.Laws

@[expose] public section

noncomputable section

namespace Cert.Proof.TileI

open Cert.KernelIdeal Cert.KernelIdeal.Gen
open Cert.Proof.Words Cert.Proof.Lanes Cert.Proof.Sums
open Idealize.ShloMosaic

theorem flushN_apply (b : ℕ) (ss sm acc : ℕ → EReal) (y : ℕ) : ∀ j, j ≤ 8 → flushN (F := Ideal) b ss sm acc j y =
    if b ≤ y ∧ y < b + 16 * j then max (ss (y - b)) 0
    else if b + 128 ≤ y ∧ y < b + 128 + 16 * j then max (sm (y - (b + 128))) 0 else acc y
  | 0, _ => by
    rw [if_neg (by omega), if_neg (by omega)]; rfl
  | j + 1, hj => by
    have z : (Scalar.ofBits .f32 0x00000000#32 : Ideal .f32) = (0 : EReal) := Ideal.ofBits_zero_f32
    have u : ∀ (g v : ℕ → EReal) (o p : ℕ), upd g o (sl v p) y = if o ≤ y ∧ y < o + 16 then v (p + (y - o)) else g y := fun g v o p => by
      unfold upd sl; split <;> rfl
    show upd (upd (flushN (F := Ideal) b ss sm acc j) (b + 16 * j) (sl (reluL (F := Ideal) ss) (16 * j))) (b + 128 + 16 * j) (sl (reluL (F := Ideal) sm) (16 * j)) y = _
    have r : ∀ (a : ℕ → EReal) (n : ℕ), reluL (F := Ideal) a n = max (a n) 0 := fun a n => by
      show max (a n) (Scalar.ofBits .f32 0x00000000#32 : Ideal .f32) = _
      rw [z]
    rw [u, u, flushN_apply b ss sm acc y j (by omega), r, r]
    by_cases h1 : b + 128 + 16 * j ≤ y ∧ y < b + 128 + 16 * j + 16
    · rw [if_pos h1, if_neg (by omega), if_pos (by omega)]; congr 2; omega
    rw [if_neg h1]
    by_cases h2 : b + 16 * j ≤ y ∧ y < b + 16 * j + 16
    · rw [if_pos h2, if_pos (by omega)]; congr 2; omega
    rw [if_neg h2]
    by_cases h3 : b ≤ y ∧ y < b + 16 * j
    · rw [if_pos h3, if_pos (by omega)]
    rw [if_neg h3]
    by_cases h4 : b + 128 ≤ y ∧ y < b + 128 + 16 * j
    · rw [if_pos h4, if_neg (by omega), if_pos (by omega)]
    rw [if_neg h4, if_neg (by omega), if_neg (by omega)]

theorem flush_apply (b : ℕ) (ss sm acc : ℕ → EReal) (y : ℕ) : flush (F := Ideal) b ss sm acc y =
    if b ≤ y ∧ y < b + 128 then max (ss (y - b)) 0 else if b + 128 ≤ y ∧ y < b + 256 then max (sm (y - (b + 128))) 0 else acc y :=
  flushN_apply b ss sm acc y 8 le_rfl

variable {i : grid0.Coords} {X : ℕ → ℕ → EReal} {M : ℕ → BitVec 32} {lo hi n : ℕ} {σ : St Ideal}

/-- What the accumulator, the running sums and the running maxima are once a row has been taken. -/
structure Kept (i : grid0.Coords) (X : ℕ → ℕ → EReal) (M : ℕ → BitVec 32) (lo n : ℕ) (σ : St Ideal) : Prop where
  lt : lo < n
  cur : σ.cur = M (n - 1)
  ss : ∀ c, σ.ss c = segSum X M lo n σ.cur.toNat c
  sm : ∀ c, σ.sm c = segMax X M lo n σ.cur.toNat c
  sum : ∀ k c, c < 128 → σ.acc (k * 256 + c) = if wid i * 320 + k < σ.cur.toNat then max (segSum X M lo n (wid i * 320 + k) c) 0 else 0
  max : ∀ k c, c < 128 → σ.acc (k * 256 + (c + 128)) = if wid i * 320 + k < σ.cur.toNat then max (segMax X M lo n (wid i * 320 + k) c) 0 else 0

/-- The rows' segments: the tile's own, and in order. -/
structure Ord (i : grid0.Coords) (M : ℕ → BitVec 32) (lo hi : ℕ) : Prop where
  seg : ∀ r, lo ≤ r → r < hi → SegIn i (M r)
  le : ∀ r q, lo ≤ r → r ≤ q → q < hi → (M r).toNat ≤ (M q).toNat

theorem SegIn.eq {a b : BitVec 32} (ha : SegIn i a) (h : a.toNat = b.toNat) : a = b := BitVec.eq_of_toNat_eq h

theorem SegIn.ne_start {a : BitVec 32} (ha : SegIn i a) : a ≠ 4294967295#32 := by
  rintro rfl
  have := ha.1.lt
  revert this; decide

theorem Kept.acc_flush (h : Kept i X M lo n σ) (o : Ord i M lo hi) (hn : n ≤ hi) (k c : ℕ) (hc : c < 128) :
    flush (F := Ideal) (accN i σ.cur) σ.ss σ.sm σ.acc (k * 256 + c) = (if wid i * 320 + k ≤ σ.cur.toNat then Max.max (segSum X M lo n (wid i * 320 + k) c) 0 else 0)
    ∧ flush (F := Ideal) (accN i σ.cur) σ.ss σ.sm σ.acc (k * 256 + (c + 128)) = (if wid i * 320 + k ≤ σ.cur.toNat then Max.max (segMax X M lo n (wid i * 320 + k) c) 0 else 0) := by
  have hs : SegIn i σ.cur := h.cur ▸ o.seg (n - 1) (by have := h.lt; omega) (by have := h.lt; omega)
  have h1 := hs.2.1; have h2 := hs.2.2
  rw [flush_apply, flush_apply]
  obtain ⟨a, ha⟩ : ∃ a, accN i σ.cur = a * 256 ∧ wid i * 320 + a = σ.cur.toNat := ⟨σ.cur.toNat - wid i * 320, rfl, by omega⟩
  rw [ha.1, ← ha.2]
  have n1 : ¬ (a * 256 ≤ k * 256 + (c + 128) ∧ k * 256 + (c + 128) < a * 256 + 128) := by omega
  have n2 : ¬ (a * 256 + 128 ≤ k * 256 + c ∧ k * 256 + c < a * 256 + 256) := by omega
  rw [if_neg n1, if_neg n2]
  by_cases hk : k = a
  · subst hk
    have p1 : k * 256 ≤ k * 256 + c ∧ k * 256 + c < k * 256 + 128 := by omega
    have p2 : k * 256 + 128 ≤ k * 256 + (c + 128) ∧ k * 256 + (c + 128) < k * 256 + 256 := by omega
    have e1 : k * 256 + c - k * 256 = c := by omega
    have e2 : k * 256 + (c + 128) - (k * 256 + 128) = c := by omega
    rw [if_pos p1, if_pos p2, if_pos le_rfl, if_pos le_rfl, e1, e2, h.ss, h.sm, ha.2]
    exact ⟨rfl, rfl⟩
  · have p1 : ¬ (a * 256 ≤ k * 256 + c ∧ k * 256 + c < a * 256 + 128) := by omega
    have p2 : ¬ (a * 256 + 128 ≤ k * 256 + (c + 128) ∧ k * 256 + (c + 128) < a * 256 + 256) := by omega
    rw [if_neg p1, if_neg p2, h.sum k c hc, h.max k c hc, ← ha.2]
    have e : (wid i * 320 + k < wid i * 320 + a) = (wid i * 320 + k ≤ wid i * 320 + a) := propext (by omega)
    constructor <;> simp only [e]

theorem selL_eq (c : BitVec 1) (a b : ℕ → EReal) : selL (F := Ideal) c a b = if c = 1#1 then a else b := by
  unfold selL Scalar.select; rfl

theorem cmpi_ne (a b : BitVec 32) : Scalar.cmpi .ne a b = 1#1 ↔ a ≠ b := by
  have h : Scalar.cmpi .ne a b = BitVec.ofBool (a != b) := rfl
  rw [h, ← bne_iff_ne]
  cases (a != b) <;> decide

theorem inv_first (o : Ord i M lo hi) (hn : lo < hi) (ha : ∀ y, σ.acc y = (0 : EReal)) (hc : σ.cur = 4294967295#32) :
    Kept i X M lo (lo + 1) (rowStep (F := Ideal) i (M lo) (X lo) σ) := by
  have hs := o.seg lo le_rfl hn
  have hg : ¬ gd (M lo) σ.cur = 1#1 := fun h => by
    have := ((gd_iff _ _).mp h).2
    rw [hc] at this; revert this; decide
  have hsel : Scalar.cmpi .ne (M lo) σ.cur = 1#1 := (cmpi_ne _ _).mpr (hc ▸ hs.ne_start)
  have none : ∀ s r, lo ≤ r → r < lo → (M r).toNat ≠ s := fun s r h1 h2 => by omega
  refine ⟨by omega, by rw [Nat.add_sub_cancel]; rfl, fun c => ?_, fun c => ?_, fun k c _ => ?_, fun k c _ => ?_⟩
  · show selL (F := Ideal) _ _ _ c = segSum X M lo (lo + 1) (M lo).toNat c
    rw [selL_eq, if_pos hsel, segSum_hit le_rfl rfl, segSum_none (none _), zero_add]
  · show selL (F := Ideal) _ _ _ c = segMax X M lo (lo + 1) (M lo).toNat c
    rw [selL_eq, if_pos hsel, segMax_hit le_rfl rfl, segMax_none (none _)]
    exact (max_bot_left _).symm
  · show (if gd (M lo) σ.cur = 1#1 then _ else σ.acc) (k * 256 + c) = if wid i * 320 + k < (M lo).toNat then _ else _
    rw [if_neg hg, ha]
    split
    · rw [segSum_miss le_rfl (by omega), segSum_none (none _), max_self]
    · rfl
  · show (if gd (M lo) σ.cur = 1#1 then _ else σ.acc) (k * 256 + (c + 128)) = if wid i * 320 + k < (M lo).toNat then _ else _
    rw [if_neg hg, ha]
    split
    · rw [segMax_miss le_rfl (by omega), segMax_none (none _)]; exact (max_bot_left _).symm
    · rfl

theorem Kept.row (h : Kept i X M lo n σ) (o : Ord i M lo hi) (hn : n < hi) : Kept i X M lo (n + 1) (rowStep (F := Ideal) i (M n) (X n) σ) := by
  have hlt := h.lt
  have hle : σ.cur.toNat ≤ (M n).toNat := h.cur ▸ o.le (n - 1) n (by omega) (by omega) hn
  have hsc : SegIn i σ.cur := h.cur ▸ o.seg (n - 1) (by omega) (by omega)
  by_cases he : M n = σ.cur
  · have hg : ¬ gd (M n) σ.cur = 1#1 := fun h => ((gd_iff _ _).mp h).1 he
    have hsel : ¬ Scalar.cmpi .ne (M n) σ.cur = 1#1 := fun h => (cmpi_ne _ _).mp h he
    have hz : (M n).toNat = σ.cur.toNat := by rw [he]
    refine ⟨by omega, by rw [Nat.add_sub_cancel]; rfl, fun c => ?_, fun c => ?_, fun k c hc => ?_, fun k c hc => ?_⟩
    · show selL (F := Ideal) _ _ _ c = segSum X M lo (n + 1) (M n).toNat c
      rw [selL_eq, if_neg hsel, segSum_hit hlt.le rfl, hz, ← h.ss]; rfl
    · show selL (F := Ideal) _ _ _ c = segMax X M lo (n + 1) (M n).toNat c
      rw [selL_eq, if_neg hsel, segMax_hit hlt.le rfl, hz, ← h.sm]; rfl
    · show (if gd (M n) σ.cur = 1#1 then _ else σ.acc) (k * 256 + c) = if wid i * 320 + k < (M n).toNat then _ else _
      rw [if_neg hg, h.sum k c hc, hz]
      split
      · rw [segSum_miss hlt.le (by omega)]
      · rfl
    · show (if gd (M n) σ.cur = 1#1 then _ else σ.acc) (k * 256 + (c + 128)) = if wid i * 320 + k < (M n).toNat then _ else _
      rw [if_neg hg, h.max k c hc, hz]
      split
      · rw [segMax_miss hlt.le (by omega)]
      · rfl
  · have hg : gd (M n) σ.cur = 1#1 := (gd_iff _ _).mpr ⟨he, hsc.nonneg⟩
    have hsel : Scalar.cmpi .ne (M n) σ.cur = 1#1 := (cmpi_ne _ _).mpr he
    have hz : σ.cur.toNat < (M n).toNat := lt_of_le_of_ne hle fun e => he (BitVec.eq_of_toNat_eq e.symm)
    have far : ∀ s, σ.cur.toNat < s → ∀ r, lo ≤ r → r < n → (M r).toNat ≠ s := fun s h1 r h2 h3 => by
      have := o.le r (n - 1) h2 (by omega) (by omega)
      rw [← h.cur] at this; omega
    refine ⟨by omega, by rw [Nat.add_sub_cancel]; rfl, fun c => ?_, fun c => ?_, fun k c hc => ?_, fun k c hc => ?_⟩
    · show selL (F := Ideal) _ _ _ c = segSum X M lo (n + 1) (M n).toNat c
      rw [selL_eq, if_pos hsel, segSum_hit hlt.le rfl, segSum_none (far _ hz), zero_add]
    · show selL (F := Ideal) _ _ _ c = segMax X M lo (n + 1) (M n).toNat c
      rw [selL_eq, if_pos hsel, segMax_hit hlt.le rfl, segMax_none (far _ hz)]
      exact (max_bot_left _).symm
    · show (if gd (M n) σ.cur = 1#1 then _ else σ.acc) (k * 256 + c) = if wid i * 320 + k < (M n).toNat then _ else _
      rw [if_pos hg, (h.acc_flush o hn.le k c hc).1]
      by_cases h1 : wid i * 320 + k < (M n).toNat
      · rw [if_pos h1, segSum_miss hlt.le (by omega)]
        split
        · rfl
        · rw [segSum_none (far _ (by omega)), max_self]
      · rw [if_neg h1, if_neg (by omega)]
    · show (if gd (M n) σ.cur = 1#1 then _ else σ.acc) (k * 256 + (c + 128)) = if wid i * 320 + k < (M n).toNat then _ else _
      rw [if_pos hg, (h.acc_flush o hn.le k c hc).2]
      by_cases h1 : wid i * 320 + k < (M n).toNat
      · rw [if_pos h1, segMax_miss hlt.le (by omega)]
        split
        · rfl
        · rw [segMax_none (far _ (by omega))]; exact (max_bot_left _).symm
      · rw [if_neg h1, if_neg (by omega)]

theorem Kept.fast (h : Kept i X M lo n σ) (o : Ord i M lo hi) (hn : n + 16 ≤ hi) (hc : M (n + 15) = σ.cur) :
    Kept i X M lo (n + 16) (fastStep (F := Ideal) (fun r => X (n + r)) σ) := by
  have hlt := h.lt
  have same : ∀ r, r < 16 → (M (n + r)).toNat = σ.cur.toNat := fun r hr => by
    have h1 := o.le (n - 1) (n + r) (by omega) (by omega) (by omega)
    have h2 := o.le (n + r) (n + 15) (by omega) (by omega) (by omega)
    rw [← h.cur] at h1; rw [hc] at h2; omega
  have far : ∀ s, s < σ.cur.toNat → ∀ r, r < 16 → (M (n + r)).toNat ≠ s := fun s h1 r hr => by rw [same r hr]; omega
  refine ⟨by omega, hc.symm, fun c => ?_, fun c => ?_, fun k c hk => ?_, fun k c hk => ?_⟩
  · show (_ : EReal) = segSum X M lo (n + 16) σ.cur.toNat c
    rw [segSum_run hlt.le 16 same, ← h.ss]
    simp only [Finset.sum_range_succ, Finset.sum_range_zero, zero_add]
    simp only [fastStep, addL]
    show (_ + ((((_ + _) + (_ + _)) + ((_ + _) + (_ + _))) + (((_ + _) + (_ + _)) + ((_ + _) + (_ + _)))) : EReal) = _
    simp only [add_assoc]
  · show (_ : EReal) = segMax X M lo (n + 16) σ.cur.toNat c
    rw [segMax_run hlt.le 16 same, ← h.sm]
    simp only [Finset.range_add_one, Finset.range_zero, Finset.sup_insert, Finset.sup_empty, max_bot_right]
    simp only [fastStep, maxL]
    show (Max.max _ (Max.max (Max.max (Max.max (Max.max _ _) (Max.max _ _)) (Max.max (Max.max _ _) (Max.max _ _))) (Max.max (Max.max (Max.max _ _) (Max.max _ _)) (Max.max (Max.max _ _) (Max.max _ _)))) : EReal) = _
    simp only [max_assoc, max_comm, max_left_comm]
  · show σ.acc _ = if wid i * 320 + k < σ.cur.toNat then _ else _
    rw [h.sum k c hk]
    split
    · rename_i h1; unfold segSum; rw [segRows_far hlt.le 16 (far _ h1)]
    · rfl
  · show σ.acc _ = if wid i * 320 + k < σ.cur.toNat then _ else _
    rw [h.max k c hk]
    split
    · rename_i h1; unfold segMax; rw [segRows_far hlt.le 16 (far _ h1)]
    · rfl

theorem reach_inv (o : Ord i M lo hi) (h : Reach (F := Ideal) i X M lo n σ) (hn : n ≤ hi) :
    (n = lo ∧ σ.cur = 4294967295#32 ∧ ∀ y, σ.acc y = (0 : EReal)) ∨ Kept i X M lo n σ := by
  induction h with
  | init σ ha hc => exact .inl ⟨rfl, hc, fun y => (ha y).trans Ideal.ofBits_zero_f32⟩
  | @row n σ h ih =>
    rcases ih (by omega) with ⟨rfl, hc, ha⟩ | ih
    · exact .inr (inv_first o (by omega) ha hc)
    · exact .inr (ih.row o (by omega))
  | @fast n σ h hc ih =>
    rcases ih (by omega) with ⟨rfl, hc', ha⟩ | ih
    · exact absurd (hc.trans hc') (o.seg _ (by omega) (by omega)).ne_start
    · exact .inr (ih.fast o (by omega) hc)

/-- The accumulator at the end. -/
theorem reach_fin (o : Ord i M lo hi) (h : Reach (F := Ideal) i X M lo hi σ) (k c : ℕ) (hc : c < 128) :
    (fin i σ).acc (k * 256 + c) = max (segSum X M lo hi (wid i * 320 + k) c) 0
    ∧ (fin i σ).acc (k * 256 + (c + 128)) = max (segMax X M lo hi (wid i * 320 + k) c) 0 := by
  rcases reach_inv o h le_rfl with ⟨rfl, hcur, ha⟩ | hi'
  · have hg : ¬ k0_cond84 σ.cur = 1#1 := fun h => by
      have := (cond84_iff _).mp h
      rw [hcur] at this; revert this; decide
    have none : ∀ s r, hi ≤ r → r < hi → (M r).toNat ≠ s := fun s r h1 h2 => by omega
    unfold fin
    rw [segSum_none (none _), segMax_none (none _)]
    simp only [if_neg hg, ha]
    exact ⟨(max_self _).symm, (max_bot_left _).symm⟩
  · have hlt := hi'.lt
    have hs : SegIn i σ.cur := hi'.cur ▸ o.seg (hi - 1) (by omega) (by omega)
    have hg : k0_cond84 σ.cur = 1#1 := (cond84_iff _).mpr hs.nonneg
    have far : ∀ s, σ.cur.toNat < s → ∀ r, lo ≤ r → r < hi → (M r).toNat ≠ s := fun s h1 r h2 h3 => by
      have := o.le r (hi - 1) h2 (by omega) (by omega)
      rw [← hi'.cur] at this; omega
    obtain ⟨f1, f2⟩ := hi'.acc_flush o le_rfl k c hc
    unfold fin
    simp only [if_pos hg]
    rw [f1, f2]
    by_cases h1 : wid i * 320 + k ≤ σ.cur.toNat
    · rw [if_pos h1, if_pos h1]; exact ⟨rfl, rfl⟩
    · rw [if_neg h1, if_neg h1, segSum_none (far _ (by omega)), segMax_none (far _ (by omega)), max_self]
      exact ⟨rfl, (max_bot_left _).symm⟩

end Cert.Proof.TileI

end
-- ==== Proof.TileI.Dma.lean ====
/-
  The tile's own copies: a chunk's rows and membership words on the way into a slot, the bounds in and the sums out.
-/
module

public import proofs.«01_k».proof.Proof.TileI.Base

@[expose] public section

noncomputable section

namespace Cert.Proof.TileI

open Cert.KernelIdeal Cert.KernelIdeal.Gen
open Cert.Proof.Lanes
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig (HIx 1) (Elt F) ℕ UU ℕ

/-- The counters' place in the algebra. -/
abbrev EC : UEmb Counters (MT nD τ sig (HIx 1) (Elt F) ℕ UU ℕ) := countersEmb

variable {d : Dev nD} {i : grid0.Coords} {α β : Type}

/-- A copy under way: what its wait hands over, and the elements of the source it does not read. -/
def Pend (c : Thread nD τ) (sm : DmaSem sig) (N : ℕ) (ℓ : Loc nD τ sig) (Ss : Finset (Idx ℓ)) (q : PosShare TreeShare) (fs : Buf (Elt F) ℓ) (D : sProp 𝕄) : sProp 𝕄 :=
  iprop(Flight EC c (.dma sm) none N iprop(D ∗ (ℓ ↦[Ss]{q} fs)) ∗ (ℓ ↦[Finset.univ \ Ss]{q} fs))

theorem issue {sp sp' : Space} {s : Shape} {e : EltTy} {src : Memref sig (thr d i).2.kind sp s e} {dst : Memref sig (thr d i).2.kind sp' s e} {sm sm' : DmaSem sig}
    {hsrc : src.view.WordExact} {hdst : dst.view.WordExact} {hsem : DmaTarget.Typed (nD := nD) sp (.dma sm) (.here dst)}
    {k : PUnit → PT F i β} {Q : β → sProp 𝕄} {q : PosShare TreeShare} {fs : Buf (Elt F) (src.view.loc (thr d i))}
    {Ss : Finset (Idx (src.view.loc (thr d i)))} {Sd : Finset (Idx (dst.view.loc (thr d i)))} {fd fd' : Buf (Elt F) (dst.view.loc (thr d i))} {N : ℕ}
    (hm : sm = sm') (hN : dst.view.dmaCredit = N) (hp : 0 < s.numel) (hSs : src.view.set = Ss) (hSd : dst.view.set ⊆ Sd)
    (hv : ∀ x ∈ Sd, dst.view.write (Elt F) fd (src.view.read (Elt F) fs) Finset.univ x = fd' x) :
    iprop((src.view.loc (thr d i) ↦{q} fs) ∗ (dst.view.loc (thr d i) ↦[Sd]{fullShare} fd) ∗ semVal (thr d i, .dma sm') 0)
      ⊢ iprop((Pend (F := F) (thr d i) sm' N (src.view.loc (thr d i)) Ss q fs (dst.view.loc (thr d i) ↦[Sd]{fullShare} fd')
            -∗ wp frame (wpE (defs₀ (F := F)) 𝒱₀ (thr d i) none) Set.univ (k ⟨⟩) Q)
          -∗ wp frame (wpE (defs₀ (F := F)) 𝒱₀ (thr d i) none) Set.univ ((Prog.lift (.enqueueDma src (.here dst) (.dma sm) hsrc hdst hsem) : PT F i _) >>= k) Q) := by
  subst hSs hm
  iintro ⟨Hs, Hd, Hv⟩ Hk
  ihave Hs := (pointsTo_split_subset (Finset.subset_univ _)).1 $$ Hs
  icases Hs with ⟨Hs, Hr⟩
  iapply (wp_dmaLocal EC 𝒱₀ (thr d i) none (none : HIx 1) N (show dst.view.amount (.dma sm) = N from hN) (hN ▸ dst.view.dmaCredit_pos hp) hSd) $$ [Hs Hd Hv]
  · isplitl [Hs]; · iexact Hs
    isplitl [Hd]; · iexact Hd
    iexact Hv
  iintro Hf
  iapply Hk
  unfold Pend
  isplitl [Hf]
  · have e : (dst.view.loc (thr d i) ↦[Sd]{fullShare} (dst.view.write (Elt F) fd (src.view.read (Elt F) fs) Finset.univ) : sProp 𝕄)
        = dst.view.loc (thr d i) ↦[Sd]{fullShare} fd' := pointsTo_congr hv
    rw [← e]
    iexact Hf
  · iexact Hr

theorem await {sp sp' : Space} {s s' : Shape} {e e' : EltTy} {src : Memref sig .scVector sp' s' e'} {dst : Memref sig .scVector sp s e} {sm sm' : DmaSem sig}
    {hsrc : src.view.WordExact} {hdst : dst.view.WordExact} {k : PUnit → PT F i β} {Q : β → sProp 𝕄} {ℓ : Loc nD τ sig} {Ss : Finset (Idx ℓ)}
    {q : PosShare TreeShare} {fs : Buf (Elt F) ℓ} {D : sProp 𝕄} {N : ℕ} {O : CellTallies nD τ sig (HIx 1)} {W : Waits sig (HIx 1)}
    (hm : sm = sm') (hN : dst.view.dmaCredit = N) :
    iprop(Pend (F := F) (thr d i) sm' N ℓ Ss q fs D ∗ (∃ W', ⌜∀ p ∈ W', p ∈ W ∨ p.2 = none⌝ ∗ owes (thr d i) O W') ∗ MayWaits (thr d i) none O)
      ⊢ iprop((iprop(D ∗ (ℓ ↦{q} fs) ∗ semVal (thr d i, .dma sm') 0 ∗ (∃ W', ⌜∀ p ∈ W', p ∈ W ∨ p.2 = none⌝ ∗ owes (thr d i) O W'))
            -∗ wp frame (wpE (defs₀ (F := F)) 𝒱₀ (thr d i) none) Set.univ (k ⟨⟩) Q)
          -∗ wp frame (wpE (defs₀ (F := F)) 𝒱₀ (thr d i) none) Set.univ ((Prog.lift (.waitDma2 sm src dst hsrc hdst) : PT F i _) >>= k) Q) := by
  subst hm
  unfold Pend
  iintro ⟨⟨Hf, Hr⟩, ⟨%W', %hW, HO⟩, Hmw⟩ Hk
  ihave Hmw := (MayWaits.elim (.dma sm)) $$ Hmw
  iapply (wp_waitLocalO EC 𝒱₀ (thr d i) none (none : HIx 1) hN) $$ [Hf HO Hmw]
  · isplitl [Hf]; · iexact Hf
    isplitl [HO]; · iexact HO
    iexact Hmw
  iintro ⟨⟨HD, Hs⟩, Hv, HO⟩
  iapply Hk
  isplitl [HD]; · iexact HD
  isplitl [Hs Hr]
  · iapply (pointsTo_split_subset (Finset.subset_univ Ss)).2
    isplitl [Hs]; · iexact Hs
    iexact Hr
  isplitl [Hv]; · iexact Hv
  iexists _
  isplitr
  swap; · iexact HO
  ipureintro
  intro p hp
  rcases Finset.mem_insert.mp hp with rfl | hp
  · exact .inr rfl
  · exact hW p hp

/-! ## The slots -/

/-- The window of `w` elements from `o` of a one-dimensional array. -/
def win (n o w : ℕ) : Finset (⟨1, ![n]⟩ : Shape).Idx := Finset.univ.filter fun x => o ≤ (x 0).val ∧ (x 0).val < o + w

theorem set_win {n w o : ℕ} {off : Fin 1 → ℕ} {inb : ∀ a, off a + (⟨1, ![w]⟩ : Shape).size a ≤ (⟨1, ![n]⟩ : Shape).size a} (ho : off = ![o]) :
    (Rect.unit (s := (⟨1, ![n]⟩ : Shape)) off (⟨1, ![w]⟩ : Shape).size inb).set = win n o w := by
  subst ho
  ext x
  refine ⟨fun h => ?_, fun h => ?_⟩
  · obtain ⟨j, hj, hh⟩ := (LoadRect.mem_set (Rect.unit (s := (⟨1, ![n]⟩ : Shape)) ![o] (⟨1, ![w]⟩ : Shape).size inb).toLoadRect).mp h 0
    have hj' : j < w := hj
    have hh' : (x 0).val = o + 1 * j := hh
    exact Finset.mem_filter.mpr ⟨Finset.mem_univ _, by omega⟩
  · have h := (Finset.mem_filter.mp h).2
    refine (LoadRect.mem_set (Rect.unit (s := (⟨1, ![n]⟩ : Shape)) ![o] (⟨1, ![w]⟩ : Shape).size inb).toLoadRect).mpr fun a => ?_
    obtain rfl : a = 0 := Subsingleton.elim _ _
    exact ⟨(x 0).val - o, show (x 0).val - o < w by omega, show (x 0).val = o + 1 * ((x 0).val - o) by omega⟩

theorem rowSet_win (b : ℕ) : rowSet b = win 40960 (b * 20480) 20480 := by
  ext x; simp only [rowSet, win, Finset.mem_filter]; exact and_congr_right fun _ => by omega

/-- A window written over: what is there afterwards. -/
theorem write_win {κ : Kind} {sp : Space} {n w : ℕ} {e : EltTy} (v : View sig κ sp (⟨1, ![n]⟩ : Shape) e) (f : v.ty.Contents (Elt F)) (g : ℕ → Elt F e)
    (hf : v.read (Elt F) f = arr n g) {off : Fin 1 → ℕ} {inb : ∀ a, off a + (⟨1, ![w]⟩ : Shape).size a ≤ (⟨1, ![n]⟩ : Shape).size a} {o : ℕ} (ho : off = ![o])
    (u : ℕ → Elt F e) :
    v.read (Elt F) ((v.slice (Rect.unit (s := (⟨1, ![n]⟩ : Shape)) off (⟨1, ![w]⟩ : Shape).size inb)).write (Elt F) f (arr w u) Finset.univ)
      = arr n (fun y => if o ≤ y ∧ y < o + w then u (y - o) else g y) := by
  funext y
  have key := View.read_writes_cons_unit v f inb (arr w u) [] y ho
  rw [View.writes_cons, View.writes_nil] at key
  refine key.trans ?_
  by_cases h : o ≤ (y 0).val ∧ (y 0).val < o + w
  · rw [dif_pos (fun a => by obtain rfl : a = 0 := Subsingleton.elim _ _; exact h)]
    simp only [arr]
    rw [if_pos h]
    rw [Rect.unitLocal_val]; rfl
  · rw [dif_neg (fun hh => h (hh 0)), hf]
    simp only [arr]
    rw [if_neg h]

/-- A window read. -/
theorem read_win {κ : Kind} {sp : Space} {n w : ℕ} {e : EltTy} (v : View sig κ sp (⟨1, ![n]⟩ : Shape) e) (f : v.ty.Contents (Elt F)) (g : ℕ → Elt F e)
    (hf : v.read (Elt F) f = arr n g) {off : Fin 1 → ℕ} {inb : ∀ a, off a + (⟨1, ![w]⟩ : Shape).size a ≤ (⟨1, ![n]⟩ : Shape).size a} {o : ℕ} (ho : off = ![o]) :
    (v.slice (Rect.unit (s := (⟨1, ![n]⟩ : Shape)) off (⟨1, ![w]⟩ : Shape).size inb)).read (Elt F) f = arr w (fun y => g (o + y)) := by
  subst ho
  funext y
  have : (v.slice (Rect.unit (s := (⟨1, ![n]⟩ : Shape)) ![o] (⟨1, ![w]⟩ : Shape).size inb)).read (Elt F) f y
      = v.read (Elt F) f ((Rect.unit (s := (⟨1, ![n]⟩ : Shape)) ![o] (⟨1, ![w]⟩ : Shape).size inb).emb y) := rfl
  rw [this, hf]
  show g _ = g _
  congr 1
  show o + 1 * (y 0).val = o + (y 0).val
  omega

theorem write6 {w o : ℕ} {off : Fin 1 → ℕ} {inb : ∀ a, off a + (⟨1, ![w]⟩ : Shape).size a ≤ S40960.size a} (ho : off = ![o]) (g u : ℕ → F .f32) (x : S40960.Idx) :
    (a6.slice (Rect.unit (s := S40960) off (⟨1, ![w]⟩ : Shape).size inb) (fun _ => rfl)).view.write (Elt F) (arr 40960 g : S40960.Idx → Elt F .f32) (arr w u) Finset.univ x
      = if o ≤ (x 0).val ∧ (x 0).val < o + w then u ((x 0).val - o) else g (x 0).val :=
  congrFun (write_win (F := F) (n := 40960) (w := w) a6.view (arr 40960 g : S40960.Idx → Elt F .f32) g rfl (inb := inb) ho u) x

/-- The semaphore of slot `b`. -/
def slotSem (m : DmaSems sig S2) (b : ℕ) : DmaSem sig :=
  if b = 0 then ((m.slice (Rect.unit (s := S2) ![0] S1.size (by decide))).squeeze S_ squeezes_S1_S_).sem
  else ((m.slice (Rect.unit (s := S2) ![1] S1.size (by decide))).squeeze S_ squeezes_S1_S_).sem

theorem slotSem_eq (m : DmaSems sig S2) {b : ℕ} (hb : b < 2) {off : Fin 1 → ℕ} {inb : ∀ a, off a + S1.size a ≤ S2.size a} (ho : off = ![b]) :
    ((m.slice (Rect.unit (s := S2) off S1.size inb)).squeeze S_ squeezes_S1_S_).sem = slotSem m b := by
  subst ho
  obtain rfl | rfl : b = 0 ∨ b = 1 := by omega
  · rfl
  · rfl

def NR : ℕ := (a6.slice (Rect.unit (s := S40960) ![0] S20480.size (by decide)) (fun _ => rfl)).view.dmaCredit
def NM : ℕ := (a7.slice (Rect.unit (s := S352) ![0] S160.size (by decide)) (fun _ => rfl)).view.dmaCredit

theorem credR {off : Fin 1 → ℕ} {inb} : (a6.slice (Rect.unit (s := S40960) off S20480.size inb) (fun _ => rfl)).view.dmaCredit = NR := by
  unfold NR View.dmaCredit; rfl
theorem credM {off : Fin 1 → ℕ} {inb} : (a7.slice (Rect.unit (s := S352) off S160.size inb) (fun _ => rfl)).view.dmaCredit = NM := by
  unfold NM View.dmaCredit; rfl
theorem posR : 0 < S20480.numel := by decide
theorem posM : 0 < S160.numel := by decide
theorem srcR {off : Fin 1 → ℕ} {inb} {o : ℕ} (ho : off = ![o]) : (a2.slice (Rect.unit (s := S40960000) off S20480.size inb) (fun _ => rfl)).view.set = win 40960000 o 20480 :=
  (View.set_slice_whole _ _).trans (set_win ho)
theorem srcM {off : Fin 1 → ℕ} {inb} {o : ℕ} (ho : off = ![o]) : (a3.slice (Rect.unit (s := S320000) off S160.size inb) (fun _ => rfl)).view.set = win 320000 o 160 :=
  (View.set_slice_whole _ _).trans (set_win ho)

/-- The rows of chunk `k` in slot `b`; its membership words there, over what the slot held. -/
def rowsOf (X : ℕ → F .f32) (b k : ℕ) : ℕ → F .f32 := fun n => X (k * 20480 + (n - b * 20480))
def memOf (M : ℕ → BitVec 32) (b k : ℕ) (g : ℕ → BitVec 32) : ℕ → BitVec 32 := fun n =>
  if b * 176 ≤ n ∧ n < b * 176 + 160 then M (k * 160 + (n - b * 176)) else g n

def PendR (d : Dev nD) (i : grid0.Coords) (m : DmaSems sig S2) (q : PosShare TreeShare) (X : ℕ → F .f32) (b k : ℕ) : sProp 𝕄 :=
  Pend (F := F) (thr d i) (slotSem m b) NR (a2.view.loc (thr d i)) (win 40960000 (k * 20480) 20480) q (arr 40960000 X : S40960000.Idx → Elt F .f32)
    (a6.view.loc (thr d i) ↦[rowSet b]{fullShare} (arr 40960 (rowsOf X b k) : S40960.Idx → Elt F .f32))

def PendM (d : Dev nD) (i : grid0.Coords) (m : DmaSems sig S2) (q : PosShare TreeShare) (M : ℕ → BitVec 32) (b k : ℕ) (g : ℕ → BitVec 32) : sProp 𝕄 :=
  Pend (F := F) (thr d i) (slotSem m b) NM (a3.view.loc (thr d i)) (win 320000 (k * 160) 160) q (arr 320000 M : S320000.Idx → Elt F .i32)
    (a7.view.loc (thr d i) ↦[memSet b]{fullShare} (arr 352 (memOf M b k g) : S352.Idx → Elt F .i32))

section Slots
variable {m : DmaSems sig S2} {q : PosShare TreeShare} {b k : ℕ} {od os oc : Fin 1 → ℕ}

theorem issueR {Q : β → sProp 𝕄} {C : PUnit → PT F i β} {X g : ℕ → F .f32} {i1 i2 i3} {hw hw' ht} (hb : b < 2) (hd : od = ![b * 20480]) (hs : os = ![k * 20480]) (hc : oc = ![b]) :
    iprop((a2.view.loc (thr d i) ↦{q} (arr 40960000 X : S40960000.Idx → Elt F .f32))
        ∗ (a6.view.loc (thr d i) ↦[rowSet b]{fullShare} (arr 40960 g : S40960.Idx → Elt F .f32)) ∗ semVal (thr d i, .dma (slotSem m b)) 0)
      ⊢ iprop((PendR d i m q X b k -∗ wp frame (wpE (defs₀ (F := F)) 𝒱₀ (thr d i) none) Set.univ (C ⟨⟩) Q)
        -∗ wp frame (wpE (defs₀ (F := F)) 𝒱₀ (thr d i) none) Set.univ
          ((Prog.lift (.enqueueDma (a2.slice (Rect.unit (s := S40960000) os S20480.size i1) (fun _ => rfl)) (.here (a6.slice (Rect.unit (s := S40960) od S20480.size i2) (fun _ => rfl)))
            (.dma ((m.slice (Rect.unit (s := S2) oc S1.size i3)).squeeze S_ squeezes_S1_S_).sem) hw hw' ht) : PT F i _) >>= C) Q) := by
  have hSd : (a6.slice (Rect.unit (s := S40960) od S20480.size i2) (fun _ => rfl)).view.set ⊆ rowSet b := by
    rw [rowSet_win]
    exact ((View.set_slice_whole _ _).trans (set_win hd)).subset
  have hv : ∀ x ∈ rowSet b, (a6.slice (Rect.unit (s := S40960) od S20480.size i2) (fun _ => rfl)).view.write (Elt F) (arr 40960 g : S40960.Idx → Elt F .f32)
      ((a2.slice (Rect.unit (s := S40960000) os S20480.size i1) (fun _ => rfl)).view.read (Elt F) (arr 40960000 X : S40960000.Idx → Elt F .f32)) Finset.univ x
      = (arr 40960 (rowsOf X b k) : S40960.Idx → Elt F .f32) x := by
    intro x hx
    have key := write6 (F := F) (w := 20480) (inb := i2) hd g (fun y => X (k * 20480 + y)) x
    have e := read_win (F := F) (n := 40960000) (w := 20480) a2.view (arr 40960000 X : S40960000.Idx → Elt F .f32) X rfl (inb := i1) hs
    rw [rowSet_win] at hx
    have hx := (Finset.mem_filter.mp hx).2
    rw [e]
    refine key.trans ?_
    simp only [arr, rowsOf, if_pos hx]
  exact issue (F := F) (src := a2.slice (Rect.unit (s := S40960000) os S20480.size i1) (fun _ => rfl)) (dst := a6.slice (Rect.unit (s := S40960) od S20480.size i2) (fun _ => rfl))
    (slotSem_eq m hb hc) credR posR (srcR hs) hSd hv

theorem issueM {Q : β → sProp 𝕄} {C : PUnit → PT F i β} {M g : ℕ → BitVec 32} {i1 i2 i3} {hw hw' ht} (hb : b < 2) (hd : od = ![b * 176]) (hs : os = ![k * 160]) (hc : oc = ![b]) :
    iprop((a3.view.loc (thr d i) ↦{q} (arr 320000 M : S320000.Idx → Elt F .i32))
        ∗ (a7.view.loc (thr d i) ↦[memSet b]{fullShare} (arr 352 g : S352.Idx → Elt F .i32)) ∗ semVal (thr d i, .dma (slotSem m b)) 0)
      ⊢ iprop((PendM (F := F) d i m q M b k g -∗ wp frame (wpE (defs₀ (F := F)) 𝒱₀ (thr d i) none) Set.univ (C ⟨⟩) Q)
        -∗ wp frame (wpE (defs₀ (F := F)) 𝒱₀ (thr d i) none) Set.univ
          ((Prog.lift (.enqueueDma (a3.slice (Rect.unit (s := S320000) os S160.size i1) (fun _ => rfl)) (.here (a7.slice (Rect.unit (s := S352) od S160.size i2) (fun _ => rfl)))
            (.dma ((m.slice (Rect.unit (s := S2) oc S1.size i3)).squeeze S_ squeezes_S1_S_).sem) hw hw' ht) : PT F i _) >>= C) Q) := by
  have hSd : (a7.slice (Rect.unit (s := S352) od S160.size i2) (fun _ => rfl)).view.set ⊆ memSet b := by
    intro x hx
    have hx := (((View.set_slice_whole cc0_scratch1 _).trans (set_win hd)).subset hx)
    have hx := (Finset.mem_filter.mp hx).2
    exact Finset.mem_filter.mpr ⟨Finset.mem_univ _, by omega⟩
  have hv : ∀ x ∈ memSet b, (a7.slice (Rect.unit (s := S352) od S160.size i2) (fun _ => rfl)).view.write (Elt F) (arr 352 g : S352.Idx → Elt F .i32)
      ((a3.slice (Rect.unit (s := S320000) os S160.size i1) (fun _ => rfl)).view.read (Elt F) (arr 320000 M : S320000.Idx → Elt F .i32)) Finset.univ x
      = (arr 352 (memOf M b k g) : S352.Idx → Elt F .i32) x := by
    intro x hx
    have key := congrFun (write_win (F := F) a7.view (arr 352 g : S352.Idx → Elt F .i32) g rfl (inb := i2) hd (fun y => M (k * 160 + y))) x
    have e := read_win (F := F) a3.view (arr 320000 M : S320000.Idx → Elt F .i32) M rfl (inb := i1) hs
    rw [e]
    exact key
  exact issue (F := F) (src := a3.slice (Rect.unit (s := S320000) os S160.size i1) (fun _ => rfl)) (dst := a7.slice (Rect.unit (s := S352) od S160.size i2) (fun _ => rfl))
    (slotSem_eq m hb hc) credM posM (srcM hs) hSd hv

variable {O : CellTallies nD τ sig (HIx 1)} {W : Waits sig (HIx 1)}

/-- What the tile owes while it waits on copies of its own. -/
def Ow (d : Dev nD) (i : grid0.Coords) (O : CellTallies nD τ sig (HIx 1)) (W : Waits sig (HIx 1)) : sProp 𝕄 :=
  iprop(∃ W', ⌜∀ p ∈ W', p ∈ W ∨ p.2 = none⌝ ∗ owes (thr d i) O W')

theorem awaitR {Q : β → sProp 𝕄} {C : PUnit → PT F i β} {X : ℕ → F .f32} {i1 i2 i3} {hw hw'} (hb : b < 2) (hc : oc = ![b]) :
    iprop(PendR d i m q X b k ∗ Ow (F := F) d i O W ∗ MayWaits (thr d i) none O)
      ⊢ iprop((iprop((a6.view.loc (thr d i) ↦[rowSet b]{fullShare} (arr 40960 (rowsOf X b k) : S40960.Idx → Elt F .f32))
          ∗ (a2.view.loc (thr d i) ↦{q} (arr 40960000 X : S40960000.Idx → Elt F .f32)) ∗ semVal (thr d i, .dma (slotSem m b)) 0 ∗ Ow (F := F) d i O W)
            -∗ wp frame (wpE (defs₀ (F := F)) 𝒱₀ (thr d i) none) Set.univ (C ⟨⟩) Q)
        -∗ wp frame (wpE (defs₀ (F := F)) 𝒱₀ (thr d i) none) Set.univ
          ((Prog.lift (.waitDma2 ((m.slice (Rect.unit (s := S2) oc S1.size i3)).squeeze S_ squeezes_S1_S_).sem
            (a2.slice (Rect.unit (s := S40960000) os S20480.size i1) (fun _ => rfl)) (a6.slice (Rect.unit (s := S40960) od S20480.size i2) (fun _ => rfl)) hw hw') : PT F i _) >>= C) Q) :=
  await (F := F) (slotSem_eq m hb hc) credR

theorem awaitM {Q : β → sProp 𝕄} {C : PUnit → PT F i β} {M g : ℕ → BitVec 32} {i1 i2 i3} {hw hw'} (hb : b < 2) (hc : oc = ![b]) :
    iprop(PendM (F := F) d i m q M b k g ∗ Ow (F := F) d i O W ∗ MayWaits (thr d i) none O)
      ⊢ iprop((iprop((a7.view.loc (thr d i) ↦[memSet b]{fullShare} (arr 352 (memOf M b k g) : S352.Idx → Elt F .i32))
          ∗ (a3.view.loc (thr d i) ↦{q} (arr 320000 M : S320000.Idx → Elt F .i32)) ∗ semVal (thr d i, .dma (slotSem m b)) 0 ∗ Ow (F := F) d i O W)
            -∗ wp frame (wpE (defs₀ (F := F)) 𝒱₀ (thr d i) none) Set.univ (C ⟨⟩) Q)
        -∗ wp frame (wpE (defs₀ (F := F)) 𝒱₀ (thr d i) none) Set.univ
          ((Prog.lift (.waitDma2 ((m.slice (Rect.unit (s := S2) oc S1.size i3)).squeeze S_ squeezes_S1_S_).sem
            (a3.slice (Rect.unit (s := S320000) os S160.size i1) (fun _ => rfl)) (a7.slice (Rect.unit (s := S352) od S160.size i2) (fun _ => rfl)) hw hw') : PT F i _) >>= C) Q) :=
  await (F := F) (slotSem_eq m hb hc) credM

end Slots

end Cert.Proof.TileI

end
-- ==== Proof.TileI.Lead.lean ====
module

public import proofs.«01_k».proof.Proof.TileI.Step

/-! The rows taken singly before the first whole block of a chunk. -/

@[expose] public section

namespace Cert.Proof.TileI

open Cert.KernelIdeal Cert.KernelIdeal.Gen Cert.Proof.Words Cert.Proof.Lanes
open Idealize.ShloMosaic

variable {F : FTy → Type} [FloatOps F]
variable {d : Dev nD} {i : grid0.Coords} {C : Src F} {σ : St F} {X : ℕ → ℕ → F .f32} {M : ℕ → BitVec 32} {lo hi : ℕ}
variable {h2 : a2.IsWhole} {h3 : a3.IsWhole} {h4 : a4.IsWhole} {h5 : a5.IsWhole} {h6 : a6.IsWhole} {h7 : a7.IsWhole} {h8 : a8.IsWhole} {h9 : a9.IsWhole} {h10 : a10.IsWhole} {h11 : a11.IsWhole} {h12 : a12.IsWhole} {m13 m14 : DmaSems sig S2} {s3 s4 s5 : DmaSems sig S_}

theorem lead {v1 v5 v7 : BitVec 32} {hw1 : k0_chk1 v5 v7} {t2} {v104 v107 v108 v109 : BitVec 32} {Q} (R : Rng v5 v7 lo hi) (H : Ck C i X M lo hi (lo / 160 + t2.val))
    (hσ : Reach i X M lo ((lo / 160 + t2.val) * 160 + aN lo (lo / 160 + t2.val)) σ)
    (hQ : ∀ x σ', Reach i X M lo ((lo / 160 + t2.val) * 160 + mN (aN lo (lo / 160 + t2.val)) (eN hi (lo / 160 + t2.val))) σ' → Q x σ') :
    Tr d i C σ (k0_part258 (F := F) i a2 h2 a3 h3 a4 h4 a5 h5 a6 h6 a7 h7 a8 h8 a9 h9 a10 h10 a11 h11 a12 h12 m13 m14 s3 s4 s5 v1 v5 v7 hw1 t2 v104 v107 v108 v109) Q := by
  have hch := R.chunk t2
  generalize hk : lo / 160 + t2.val = k at *
  simp only [k0_part258]
  refine Tr.loop (fun t σ => Reach i X M lo (k * 160 + aN lo k + t) σ) hσ ?_ ?_
  · intro t3 _ σ hσ
    have hr := R.r3 t2 t3
    rw [hk] at hr
    have hrow := R.row t2 hr.2 hr.1
    have hmem := R.mem t2 hr.2 hr.1
    rw [hk] at hrow hmem
    have hb := H.b
    have hlt : k * 160 + (aN lo k + t3.val) < hi := by
      have ht := t3.isLt; have ht' := R.trips3 t2; rw [hk] at ht'; have := hch.e_hi; have := hch.m; omega
    have hcur := hσ.cur fun r h1 h2 => H.seg r h1 (by omega)
    have hrow : RowAt C.b _ _ := ⟨hrow, by rw [hb]; omega, by rw [hb]; omega, by omega⟩
    refine Tr.bind fun R hR => ?_
    simp only [k0_part7, shapeCast_self]
    refine Tr.ld7 (show k0_off18 v5 v7 t2 t3 = ![k % 2 * 176 + (aN lo k + t3.val)] from ?_) (by rw [hb]; omega) (by rw [hb]; omega) ?_
    · rw [← hmem.toNat]; rfl
    simp only [lane_sl]
    refine Tr.ldcur ?_
    with_reducible apply Tr.assume (chk2 hcur)
    with_reducible apply Tr.flushed
    · intro hg hJ
      have hs : SegIn i σ.cur := hcur.seg ((gd_iff _ _).mp hg).2
      refine Tr.bind fun R hR => ?_
      simp only [k0_part3, shapeCast_self]
      repeat first
        | (with_reducible apply Tr.dead9; intro _)
        | ((with_reducible apply Tr.stSum hs); decide)
        | ((with_reducible apply Tr.stMax hs); decide)
        | (with_reducible apply Tr.ld10 rfl)
        | (with_reducible apply Tr.ld11 rfl)
      with_reducible refine Tr.ret (hR _ _ ?_)
      simp only [relu_sl]
      refine Tr.bind fun R hR => ?_
      simp only [k0_part4, shapeCast_self]
      repeat first
        | (with_reducible apply Tr.dead9; intro _)
        | ((with_reducible apply Tr.stSum hs); decide)
        | ((with_reducible apply Tr.stMax hs); decide)
      with_reducible refine Tr.ret (hR _ _ ?_)
      simp only [relu_sl]
      refine Tr.bind fun R hR => ?_
      simp only [k0_part5, shapeCast_self]
      repeat first
        | (with_reducible apply Tr.dead9; intro _)
        | ((with_reducible apply Tr.stSum hs); decide)
        | ((with_reducible apply Tr.stMax hs); decide)
      with_reducible refine Tr.ret (hR _ _ ?_)
      simp only [relu_sl]
      refine Tr.bind fun R hR => ?_
      simp only [k0_part6, shapeCast_self]
      repeat first
        | (with_reducible apply Tr.dead9; intro _)
        | ((with_reducible apply Tr.stSum hs); decide)
        | ((with_reducible apply Tr.stMax hs); decide)
      with_reducible refine Tr.ret (hR _ _ ?_)
      simp only [relu_sl]
      repeat first
        | (with_reducible apply Tr.dead9; intro _)
        | ((with_reducible apply Tr.stSum hs); decide)
        | ((with_reducible apply Tr.stMax hs); decide)
      exact hJ
    repeat first
      | ((with_reducible apply Tr.row hrow); decide)
      | (with_reducible apply Tr.ld10 rfl)
      | (with_reducible apply Tr.ld11 rfl)
      | (with_reducible apply Tr.st10 rfl)
      | (with_reducible apply Tr.st11 rfl)
    with_reducible refine Tr.ret (hR _ _ ?_)
    simp (disch := decide) only [addf_sl, maximumf_sl, select_sl, sl_upd_ne, shapeCast_self]
    refine Tr.bind fun R hR => ?_
    simp only [k0_part8, shapeCast_self]
    simp (disch := decide) only [addf_sl, maximumf_sl, select_sl, sl_upd_ne, shapeCast_self]
    repeat first
      | ((with_reducible apply Tr.row hrow); decide)
      | (with_reducible apply Tr.ld10 rfl)
      | (with_reducible apply Tr.ld11 rfl)
      | (with_reducible apply Tr.st10 rfl)
      | (with_reducible apply Tr.st11 rfl)
    with_reducible refine Tr.ret (hR _ _ ?_)
    simp (disch := decide) only [addf_sl, maximumf_sl, select_sl, sl_upd_ne, shapeCast_self]
    refine Tr.bind fun R hR => ?_
    simp only [k0_part9, shapeCast_self]
    simp (disch := decide) only [addf_sl, maximumf_sl, select_sl, sl_upd_ne, shapeCast_self]
    repeat first
      | ((with_reducible apply Tr.row hrow); decide)
      | (with_reducible apply Tr.ld10 rfl)
      | (with_reducible apply Tr.ld11 rfl)
      | (with_reducible apply Tr.st10 rfl)
      | (with_reducible apply Tr.st11 rfl)
    with_reducible refine Tr.ret (hR _ _ ?_)
    simp (disch := decide) only [addf_sl, maximumf_sl, select_sl, sl_upd_ne, shapeCast_self]
    refine Tr.bind fun R hR => ?_
    simp only [k0_part10, shapeCast_self]
    simp (disch := decide) only [addf_sl, maximumf_sl, select_sl, sl_upd_ne, shapeCast_self]
    repeat first
      | ((with_reducible apply Tr.row hrow); decide)
      | (with_reducible apply Tr.ld10 rfl)
      | (with_reducible apply Tr.ld11 rfl)
      | (with_reducible apply Tr.st10 rfl)
      | (with_reducible apply Tr.st11 rfl)
    with_reducible refine Tr.ret (hR _ _ ?_)
    simp (disch := decide) only [addf_sl, maximumf_sl, select_sl, sl_upd_ne, shapeCast_self]
    repeat first
      | (with_reducible apply Tr.st11 rfl)
    refine Tr.ldcur ?_
    refine Tr.stcur ?_
    have e : Reach i X M lo (k * 160 + aN lo k + (t3.val + 1)) (rowStep i (C.mem (k % 2 * 176 + (aN lo k + t3.val) + 0)) (shift C.rows (k % 2 * 20480 + (aN lo k + t3.val) * 128)) σ) := by
      have e := (hσ.cast (Nat.add_assoc _ _ _)).row
      rw [← H.mem _ hr.1, ← H.rows _ hr.1] at e
      exact e.cast (by omega)
    refine Tr.norm (τ := rowStep i (C.mem (k % 2 * 176 + (aN lo k + t3.val) + 0)) (shift C.rows (k % 2 * 20480 + (aN lo k + t3.val) * 128)) σ) ⟨fun n _ => ?_, fun n hn => ?_, fun n hn => ?_, ?_⟩ (Tr.ret e)
    · rfl
    · exact sweep_lt hn
    · exact sweep_lt hn
    · rfl
  · intro _ σ hσ
    refine Tr.dead (fun t => Scf.rem_no_trip _ _ t) fun _ => ?_
    refine Tr.ret (hQ _ _ (hσ.cast ?_))
    have ht := R.trips3 t2
    rw [hk] at ht
    have := hch.m
    omega

end Cert.Proof.TileI

end
-- ==== Proof.TileI.Trail.lean ====
module

public import proofs.«01_k».proof.Proof.TileI.Step

/-! The rows taken singly after the last whole block of a chunk. -/

@[expose] public section

namespace Cert.Proof.TileI

open Cert.KernelIdeal Cert.KernelIdeal.Gen Cert.Proof.Words Cert.Proof.Lanes
open Idealize.ShloMosaic Idealize.SL.Sem

variable {F : FTy → Type} [FloatOps F]
variable {d : Dev nD} {i : grid0.Coords} {C : Src F} {σ : St F} {X : ℕ → ℕ → F .f32} {M : ℕ → BitVec 32} {lo hi : ℕ}
variable {h2 : a2.IsWhole} {h3 : a3.IsWhole} {h4 : a4.IsWhole} {h5 : a5.IsWhole} {h6 : a6.IsWhole} {h7 : a7.IsWhole} {h8 : a8.IsWhole} {h9 : a9.IsWhole} {h10 : a10.IsWhole} {h11 : a11.IsWhole} {h12 : a12.IsWhole} {m13 m14 : DmaSems sig S2} {s3 s4 s5 : DmaSems sig S_}

theorem chk38 {v a : BitVec 32} (h : CurOK i v) : k0_chk38 i a v :=
  ⟨fun hg r => h.inb hg r, fun hg r => h.inb' hg r⟩

theorem trail {v1 v5 v7 : BitVec 32} {hw1 : k0_chk1 v5 v7} {t2 t7} {v108 v109 v197 c1_i32_86 : BitVec 32} (R : Rng v5 v7 lo hi) (H : Ck C i X M lo hi (lo / 160 + t2.val))
    (hσ : Reach i X M lo ((lo / 160 + t2.val) * 160 + gN (mN (aN lo (lo / 160 + t2.val)) (eN hi (lo / 160 + t2.val))) (eN hi (lo / 160 + t2.val)) + t7.val) σ) :
    Tr d i C σ (do
      let ⟨arg17, v210, v213, v243, v245, v246⟩ : Σ' (arg17 : BitVec 32) (v210 : BitVec 32) (v213 : BitVec 1) (v243 : FVec F S16 .f32) (v245 : FVec F S16 .f32), Vec F S16 .f32 ← k0_part245 i a2 h2 a3 h3 a4 h4 a5 h5 a6 h6 a7 h7 a8 h8 a9 h9 a10 h10 a11 h11 a12 h12 m13 m14 s3 s4 s5 v1 v5 v7 hw1 t2 v108 v109 v197 c1_i32_86 t7
      let ⟨v283, v287, v289⟩ : Σ' (v283 : FVec F S16 .f32) (v287 : FVec F S16 .f32), FVec F S16 .f32 ← k0_part246 i a2 h2 a3 h3 a4 h4 a5 h5 a6 h6 a7 h7 a8 h8 a9 h9 a10 h10 a11 h11 a12 h12 m13 m14 s3 s4 s5 v5 v7 hw1 t2 v108 t7 arg17 v213 v243 v245 v246
      let ⟨v323, v327⟩ : Σ' (v323 : FVec F S16 .f32), FVec F S16 .f32 ← k0_part247 i a2 h2 a3 h3 a4 h4 a5 h5 a6 h6 a7 h7 a8 h8 a9 h9 a10 h10 a11 h11 a12 h12 m13 m14 s3 s4 s5 v5 v7 hw1 t2 v108 t7 arg17 v213 v283 v287 v289
      let ⟨v374, v375⟩ : Σ' (v374 : FVec F S16 .f32), Vec F S16 .f32 ← k0_part248 i a2 h2 a3 h3 a4 h4 a5 h5 a6 h6 a7 h7 a8 h8 a9 h9 a10 h10 a11 h11 a12 h12 m13 m14 s3 s4 s5 v5 v7 hw1 t2 v108 t7 arg17 v213 v323 v327
      have v376 : FVec F S16 .f32 := shapeCast S16 v375 shapeCasts_S16_S16
      have v377 : FVec F S16 .f32 := shapeCast S16 v374 shapeCasts_S16_S16
      Prog.lift (.store a11 (Rect.unit (s := S128) ![112] S16.size inb_S128_S16_112) v377 Finset.univ (View.stores_vmem_bits_univ h_S16 rfl) (.inl rfl))
      let c0_i32_126 : BitVec 32 := 0#32
      let v378 : Index := Scalar.indexCast c0_i32_126
      let v379 : Elt F .i32 ← smemLoad a12 (Rect.unit (s := S8) ![0] S1.size inb_S8_S1_0) numel1_S1 rfl
      Prog.lift (.store a12 (Rect.unit (s := S8) ![0] S1.size inb_S8_S1_0) (fun _ => v210) Finset.univ (View.stores_smem_one rfl numel1_S1) (.inl rfl))
      let c0_i32_127 : BitVec 32 := 0#32
      pure c0_i32_127)
      (fun _ σ' => Reach i X M lo ((lo / 160 + t2.val) * 160 + gN (mN (aN lo (lo / 160 + t2.val)) (eN hi (lo / 160 + t2.val))) (eN hi (lo / 160 + t2.val)) + (t7.val + 1)) σ') := by
  have hch := R.chunk t2
  have hr := R.r7 t2 t7
  have hrow := R.row t2 hr.2 hr.1
  have hmem := R.mem t2 hr.2 hr.1
  have ht := t7.isLt
  have ht' := R.trips7 t2
  generalize hk : lo / 160 + t2.val = k at *
  have hb := H.b
  have hlt : k * 160 + (gN (mN (aN lo k) (eN hi k)) (eN hi k) + t7.val) < hi := by
    have := hch.e_hi; have := hch.g; omega
  have hcur := hσ.cur fun r h1 h2 => H.seg r h1 (by omega)
  have hrow : RowAt C.b _ _ := ⟨hrow, by rw [hb]; omega, by rw [hb]; omega, by omega⟩
  refine Tr.bind fun R hR => ?_
  simp only [k0_part245, shapeCast_self]
  refine Tr.ld7 (show k0_off126 v5 v7 t2 t7 = ![k % 2 * 176 + (gN (mN (aN lo k) (eN hi k)) (eN hi k) + t7.val)] from ?_) (by rw [hb]; omega) (by rw [hb]; omega) ?_
  · rw [← hmem.toNat]; rfl
  simp only [lane_sl]
  refine Tr.ldcur ?_
  refine Tr.assume (chk38 hcur) ?_
  with_reducible apply Tr.flushed
  · intro hg hJ
    have hs : SegIn i σ.cur := hcur.seg ((gd_iff _ _).mp hg).2
    refine Tr.bind fun R hR => ?_
    simp only [k0_part241, shapeCast_self]
    repeat first
      | (with_reducible apply Tr.dead9; intro _)
      | ((with_reducible apply Tr.stSum hs); decide)
      | ((with_reducible apply Tr.stMax hs); decide)
      | (with_reducible apply Tr.ld10 rfl)
      | (with_reducible apply Tr.ld11 rfl)
    with_reducible refine Tr.ret (hR _ _ ?_)
    simp only [relu_sl]
    refine Tr.bind fun R hR => ?_
    simp only [k0_part242, shapeCast_self]
    repeat first
      | (with_reducible apply Tr.dead9; intro _)
      | ((with_reducible apply Tr.stSum hs); decide)
      | ((with_reducible apply Tr.stMax hs); decide)
    with_reducible refine Tr.ret (hR _ _ ?_)
    simp only [relu_sl]
    refine Tr.bind fun R hR => ?_
    simp only [k0_part243, shapeCast_self]
    repeat first
      | (with_reducible apply Tr.dead9; intro _)
      | ((with_reducible apply Tr.stSum hs); decide)
      | ((with_reducible apply Tr.stMax hs); decide)
    with_reducible refine Tr.ret (hR _ _ ?_)
    simp only [relu_sl]
    refine Tr.bind fun R hR => ?_
    simp only [k0_part244, shapeCast_self]
    repeat first
      | (with_reducible apply Tr.dead9; intro _)
      | ((with_reducible apply Tr.stSum hs); decide)
      | ((with_reducible apply Tr.stMax hs); decide)
    with_reducible refine Tr.ret (hR _ _ ?_)
    simp only [relu_sl]
    repeat first
      | (with_reducible apply Tr.dead9; intro _)
      | ((with_reducible apply Tr.stSum hs); decide)
      | ((with_reducible apply Tr.stMax hs); decide)
    exact hJ
  repeat first
    | ((with_reducible apply Tr.row hrow); decide)
    | (with_reducible apply Tr.ld10 rfl)
    | (with_reducible apply Tr.ld11 rfl)
    | (with_reducible apply Tr.st10 rfl)
    | (with_reducible apply Tr.st11 rfl)
  with_reducible refine Tr.ret (hR _ _ ?_)
  simp (disch := decide) only [addf_sl, maximumf_sl, select_sl, sl_upd_ne, shapeCast_self]
  refine Tr.bind fun R hR => ?_
  simp only [k0_part246, shapeCast_self]
  simp (disch := decide) only [addf_sl, maximumf_sl, select_sl, sl_upd_ne, shapeCast_self]
  repeat first
    | ((with_reducible apply Tr.row hrow); decide)
    | (with_reducible apply Tr.ld10 rfl)
    | (with_reducible apply Tr.ld11 rfl)
    | (with_reducible apply Tr.st10 rfl)
    | (with_reducible apply Tr.st11 rfl)
  with_reducible refine Tr.ret (hR _ _ ?_)
  simp (disch := decide) only [addf_sl, maximumf_sl, select_sl, sl_upd_ne, shapeCast_self]
  refine Tr.bind fun R hR => ?_
  simp only [k0_part247, shapeCast_self]
  simp (disch := decide) only [addf_sl, maximumf_sl, select_sl, sl_upd_ne, shapeCast_self]
  repeat first
    | ((with_reducible apply Tr.row hrow); decide)
    | (with_reducible apply Tr.ld10 rfl)
    | (with_reducible apply Tr.ld11 rfl)
    | (with_reducible apply Tr.st10 rfl)
    | (with_reducible apply Tr.st11 rfl)
  with_reducible refine Tr.ret (hR _ _ ?_)
  simp (disch := decide) only [addf_sl, maximumf_sl, select_sl, sl_upd_ne, shapeCast_self]
  refine Tr.bind fun R hR => ?_
  simp only [k0_part248, shapeCast_self]
  simp (disch := decide) only [addf_sl, maximumf_sl, select_sl, sl_upd_ne, shapeCast_self]
  repeat first
    | ((with_reducible apply Tr.row hrow); decide)
    | (with_reducible apply Tr.ld10 rfl)
    | (with_reducible apply Tr.ld11 rfl)
    | (with_reducible apply Tr.st10 rfl)
    | (with_reducible apply Tr.st11 rfl)
  with_reducible refine Tr.ret (hR _ _ ?_)
  simp (disch := decide) only [addf_sl, maximumf_sl, select_sl, sl_upd_ne, shapeCast_self]
  repeat first
    | (with_reducible apply Tr.st11 rfl)
  refine Tr.ldcur ?_
  refine Tr.stcur ?_
  have e : Reach i X M lo (k * 160 + gN (mN (aN lo k) (eN hi k)) (eN hi k) + (t7.val + 1)) (rowStep i (C.mem (k % 2 * 176 + (gN (mN (aN lo k) (eN hi k)) (eN hi k) + t7.val) + 0)) (shift C.rows (k % 2 * 20480 + (gN (mN (aN lo k) (eN hi k)) (eN hi k) + t7.val) * 128)) σ) := by
    have e := (hσ.cast (Nat.add_assoc _ _ _)).row
    rw [← H.mem _ hr.1, ← H.rows _ hr.1] at e
    exact e.cast (by omega)
  refine Tr.norm (τ := rowStep i (C.mem (k % 2 * 176 + (gN (mN (aN lo k) (eN hi k)) (eN hi k) + t7.val) + 0)) (shift C.rows (k % 2 * 20480 + (gN (mN (aN lo k) (eN hi k)) (eN hi k) + t7.val) * 128)) σ) ⟨fun n _ => ?_, fun n hn => ?_, fun n hn => ?_, ?_⟩ (Tr.ret e)
  · rfl
  · exact sweep_lt hn
  · exact sweep_lt hn
  · rfl

end Cert.Proof.TileI

end
-- ==== Proof.TileI.Block.lean ====
module

public import proofs.«01_k».proof.Proof.TileI.Step

/-! A block of sixteen rows: where its words lie, and the rules that read its text. -/

@[expose] public section

namespace Cert.Proof.TileI

open Cert.KernelIdeal Cert.KernelIdeal.Gen Cert.Proof.Words Cert.Proof.Lanes
open Idealize.ShloMosaic Idealize.SL.Sem

variable {F : FTy → Type} [FloatOps F]
variable {β : Type} {d : Dev nD} {i : grid0.Coords} {C : Src F} {σ τ : St F} {Q : β → St F → Prop}
variable {X : ℕ → ℕ → F .f32} {M : ℕ → BitVec 32} {lo hi n : ℕ} {xs : ℕ → ℕ → F .f32} {ms : ℕ → BitVec 32} {K B : BitVec 32}

/-- The sixteen rows from row `n` on: `xs` holds their entries, `ms` their segments; they lie in the slot in use, from the word `B` on. -/
structure Blk (C : Src F) (i : grid0.Coords) (X : ℕ → ℕ → F .f32) (M : ℕ → BitVec 32) (K B : BitVec 32) (n : ℕ) (xs : ℕ → ℕ → F .f32) (ms : ℕ → BitVec 32) : Prop where
  row : ∀ r, r < 16 → ∃ d, RowAt C.b (rowW K (Scalar.addi B (BitVec.ofNat 32 r))) d ∧ xs r = shift C.rows d
  x : ∀ r, r < 16 → X (n + r) = xs r
  m : ∀ r, r < 16 → M (n + r) = ms r
  seg : ∀ r, r < 16 → SegIn i (ms r)

theorem Tr.rowB {off : Fin 1 → ℕ} {r c : ℕ} {inb : ∀ a, off a + S16.size a ≤ S40960.size a} {hl} {k : Vec F S16 .f32 → PT F i β}
    (hB : Blk C i X M K B n xs ms) [ho : RowO off (rowW K (Scalar.addi B (BitVec.ofNat 32 r))) (BitVec.ofNat 32 c)] (hr : r < 16) (hc : c ≤ 112)
    (hk : Tr d i C σ (k (sl (xs r) c)) Q) :
    Tr d i C σ ((Prog.lift (.load a6 (Rect.unit (s := S40960) off S16.size inb).toLoadRect hl) : PT F i _) >>= k) Q := by
  obtain ⟨dd, h, e⟩ := hB.row r hr
  exact Tr.row h hc (e ▸ hk)

theorem Tr.guardT {c : Prop} {hd : Decidable c} {Fh : c → PT F i β} {J : PT F i β} (h : c) (τ : St F)
    (hF : Tr d i C τ J Q → Tr d i C σ (Fh h) Q) (hJ : Tr d i C τ J Q) : Tr d i C σ (@dite _ c hd Fh fun _ => J) Q :=
  Tr.guard τ (fun _ => hF) (by rw [if_pos h]; exact hJ)

theorem Tr.guardF {c : Prop} {hd : Decidable c} {Fh : c → PT F i β} {J : PT F i β} (h : ¬c)
    (hJ : Tr d i C σ J Q) : Tr d i C σ (@dite _ c hd Fh fun _ => J) Q :=
  Tr.guard σ (fun h' => absurd h' h) (by rw [ite_self]; exact hJ)

/-- The state after the first rows of the block, taken singly. -/
def rowsN (i : grid0.Coords) (xs : ℕ → ℕ → F .f32) (ms : ℕ → BitVec 32) (σ : St F) : ℕ → St F
  | 0 => σ
  | r + 1 => rowStep i (ms r) (xs r) (rowsN i xs ms σ r)

/-- The state `τ` follows `r` rows of the block; `p` is the segment that is running. -/
structure At (i : grid0.Coords) (X : ℕ → ℕ → F .f32) (M : ℕ → BitVec 32) (lo n : ℕ) (xs : ℕ → ℕ → F .f32) (ms : ℕ → BitVec 32) (σ : St F) (r : ℕ) (p : BitVec 32) (τ : St F) : Prop where
  eq : τ = rowsN i xs ms σ r
  reach : Reach i X M lo (n + r) τ
  cur : τ.cur = p
  ok : CurOK i p

theorem At.okp {r : ℕ} {p q : BitVec 32} (h : At i X M lo n xs ms σ r q τ) (e : p = q) : CurOK i p := e ▸ h.ok

theorem At.chk {P : Prop} {r : ℕ} {a p q : BitVec 32} (h : At i X M lo n xs ms σ r q τ) (e : p = q) :
    (P → gd a p = 1#1 → ∀ r : Fin 8, ∀ x, (![(Scalar.addi (accW i p) (BitVec.ofNat 32 (16 * r.val))).toNat] : Fin 1 → ℕ) x + S16.size x ≤ S81920.size x) ∧
    (P → gd a p = 1#1 → ∀ r : Fin 8, ∀ x, (![(Scalar.addi (Scalar.addi (accW i p) 128#32) (BitVec.ofNat 32 (16 * r.val))).toNat] : Fin 1 → ℕ) x + S16.size x ≤ S81920.size x) :=
  ⟨fun _ hg r => (h.okp e).inb hg r, fun _ hg r => (h.okp e).inb' hg r⟩

/-- The end of the running segment, if it ends with the row before row `r` of the block, while the sums and maxima are held apart. -/
theorem Tr.flushRow {c : Prop} {hd : Decidable c} {Fh : c → PT F i β} {J : PT F i β} {r : ℕ} {p q s cur : BitVec 32} {ss sm : ℕ → F .f32}
    (hB : Blk C i X M K B n xs ms) (h : At i X M lo n xs ms σ r q τ) (hr : r < 16) (hc : c = (gd s p = 1#1)) (hp : p = q) (hs : s = ms r)
    (hF : SegIn i p → c → Tr d i C ⟨flush (accN i p) τ.ss τ.sm τ.acc, ss, sm, cur⟩ J Q → ∀ h, Tr d i C ⟨τ.acc, ss, sm, cur⟩ (Fh h) Q)
    (hJ : ∀ τ', At i X M lo n xs ms σ (r + 1) (ms r) τ' → selL (Scalar.cmpi .ne (ms r) q) (xs r) (addL τ.ss (xs r)) = τ'.ss →
      selL (Scalar.cmpi .ne (ms r) q) (xs r) (maxL τ.sm (xs r)) = τ'.sm → Tr d i C ⟨τ'.acc, ss, sm, cur⟩ J Q) :
    Tr d i C ⟨τ.acc, ss, sm, cur⟩ (@dite _ c hd Fh fun _ => J) Q := by
  subst hp hs
  have hJ := hJ (rowStep i (ms r) (xs r) τ) ⟨by rw [h.eq]; rfl, ?_, rfl, .inr (hB.seg r hr)⟩ (by rw [← h.cur]; rfl) (by rw [← h.cur]; rfl)
  · subst hc
    unfold rowStep at hJ
    rw [h.cur] at hJ
    refine Tr.guard ⟨flush (accN i p) τ.ss τ.sm τ.acc, ss, sm, cur⟩ (fun hc hj => hF (h.ok.seg ((gd_iff _ _).mp hc).2) hc hj hc) ?_
    split
    · rename_i hc; rw [if_pos hc] at hJ; exact hJ
    · rename_i hc; rw [if_neg hc] at hJ; exact hJ
  · have e := h.reach.row
    rw [hB.m r hr, hB.x r hr] at e
    exact e

/-- The state after the sixteen rows of the block. -/
theorem Reach.rows16 (hB : Blk C i X M K B n xs ms) (h : Reach i X M lo n σ) : Reach i X M lo (n + 16) (rowsN i xs ms σ 16) := by
  have e : ∀ r, r ≤ 16 → Reach i X M lo (n + r) (rowsN i xs ms σ r) := by
    intro r
    induction r with
    | zero => intro _; exact h
    | succ r ih =>
      intro hr
      have e := (ih (by omega)).row
      rw [hB.m r hr, hB.x r hr] at e
      exact e
  exact e 16 (Nat.le_refl _)

end Cert.Proof.TileI

end
-- ==== Proof.TileI.Fast.lean ====
module

public import proofs.«01_k».proof.Proof.TileI.Block

/-! A block of sixteen rows that all lie in the running segment. -/

@[expose] public section

namespace Cert.Proof.TileI

open Cert.KernelIdeal Cert.KernelIdeal.Gen Cert.Proof.Words Cert.Proof.Lanes
open Idealize.ShloMosaic Idealize.SL.Sem

variable {F : FTy → Type} [FloatOps F]
variable {β : Type} {d : Dev nD} {i : grid0.Coords} {C : Src F} {σ : St F} {X : ℕ → ℕ → F .f32} {M : ℕ → BitVec 32} {lo hi n : ℕ} {xs : ℕ → ℕ → F .f32} {ms : ℕ → BitVec 32}
variable {h2 : a2.IsWhole} {h3 : a3.IsWhole} {h4 : a4.IsWhole} {h5 : a5.IsWhole} {h6 : a6.IsWhole} {h7 : a7.IsWhole} {h8 : a8.IsWhole} {h9 : a9.IsWhole} {h10 : a10.IsWhole} {h11 : a11.IsWhole} {h12 : a12.IsWhole} {m13 m14 : DmaSems sig S2} {s3 s4 s5 : DmaSems sig S_}

/-- The block's maxima without those of its last column stored. -/
def fast7 (f g : ℕ → F .f32) : ℕ → F .f32 :=
  upd (upd (upd (upd (upd (upd (upd f 0 (sl g 0)) 16 (sl g 16)) 32 (sl g 32)) 48 (sl g 48)) 64 (sl g 64)) 80 (sl g 80)) 96 (sl g 96)

theorem fast {v5 v7 : BitVec 32} {t2 v108 t5 v205 v211 v213 hw4 hh5} {Q} (hB : Blk C i X M (kW v5 t2.val) (bW (mW (aW v5 (kW v5 t2.val)) (eW v7 (kW v5 t2.val))) t5.val) n xs ms)
    (hQ : Q ⟨sl σ.sm 112, sl (maxL (xs 8) (xs 9)) 112, sl (maxL (xs 10) (xs 11)) 112, sl (maxL (xs 12) (xs 13)) 112, sl (maxL (xs 14) (xs 15)) 112,
      sl (maxL (maxL (xs 0) (xs 1)) (maxL (xs 2) (xs 3))) 112, sl (maxL (maxL (xs 4) (xs 5)) (maxL (xs 6) (xs 7))) 112⟩
      ⟨σ.acc, sweep σ.ss (fastStep xs σ).ss, fast7 σ.sm (fastStep xs σ).sm, σ.cur⟩) :
    Tr d i C σ (k0_part46 (F := F) i a2 h2 a3 h3 a4 h4 a5 h5 a6 h6 a7 h7 a8 h8 a9 h9 a10 h10 a11 h11 a12 h12 m13 m14 s3 s4 s5 v5 v7 t2 v108 t5 v205 v211 v213 hw4 hh5) Q := by
  simp only [k0_part46, shapeCast_self]
  repeat first
    | ((with_reducible apply Tr.rowB hB); decide; decide)
    | (with_reducible apply Tr.ld10 rfl)
    | (with_reducible apply Tr.ld11 rfl)
    | (with_reducible apply Tr.st10 rfl)
    | (with_reducible apply Tr.st11 rfl)
    | (with_reducible refine Tr.ret (hR _ _ ?_); try simp (disch := decide) only [addf_sl, maximumf_sl, sl_upd_ne, shapeCast_self])
    | (refine Tr.bind fun R hR => ?_; simp only [k0_part19, k0_part20, k0_part21, k0_part22, k0_part23, k0_part24, k0_part25, k0_part26, k0_part27, k0_part28, k0_part29, k0_part30, k0_part31, k0_part32, k0_part33, k0_part34, k0_part35, k0_part36, k0_part37, k0_part38, k0_part39, k0_part40, k0_part41, k0_part42, k0_part43, k0_part44, k0_part45, shapeCast_self]; try simp (disch := decide) only [addf_sl, maximumf_sl, sl_upd_ne, shapeCast_self])
  simp (disch := decide) only [addf_sl, maximumf_sl, sl_upd_ne, shapeCast_self]
  exact Tr.ret hQ

end Cert.Proof.TileI

end
-- ==== Proof.TileI.Loop.lean ====
/-
  The loop over the tile's chunks: while a chunk is summed, the next is on its way into the other slot.
-/
module

public import proofs.«01_k».proof.Proof.TileI.Dma
public import proofs.«01_k».proof.Proof.TileI.Zero
public import proofs.«01_k».proof.Proof.TileI.Lead
public import proofs.«01_k».proof.Proof.TileI.Trail
public import proofs.«01_k».proof.Proof.TileI.Fast

@[expose] public section

noncomputable section

namespace Cert.Proof.TileI

open Cert.KernelIdeal Cert.KernelIdeal.Gen
open Cert.Proof.Lanes Cert.Proof.Words
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig (HIx 1) (Elt F) ℕ UU ℕ

variable {d : Dev nD} {i : grid0.Coords} {C : Src F} {σ : St F} {α β : Type}
variable {h2 : a2.IsWhole} {h3 : a3.IsWhole} {h4 : a4.IsWhole} {h5 : a5.IsWhole} {h6 : a6.IsWhole} {h7 : a7.IsWhole} {h8 : a8.IsWhole} {h9 : a9.IsWhole} {h10 : a10.IsWhole} {h11 : a11.IsWhole} {h12 : a12.IsWhole} {m13 m14 : DmaSems sig S2} {s3 s4 s5 : DmaSems sig S_}

/-- The rest of the tile's resources are untouched by a piece on its state. -/
theorem Tr.use {p : PT F i α} {Q : α → St F → Prop} {Φ : α → sProp 𝕄} (h : Tr d i C σ p Q) :
    own d i C σ ⊢ iprop((∀ a σ', ⌜Q a σ'⌝ -∗ own d i C σ' -∗ Φ a) -∗ wp frame (wpE (defs₀ (F := F)) 𝒱₀ (thr d i) none) Set.univ p Φ) := by
  unfold Tr at h
  refine BIClass.wand_intro ((sep_mono h .rfl).trans ((wp_frame_r frame _ _).trans (wp_mono frame _ _ fun a => ?_)))
  iintro ⟨⟨%σ', H, %hq⟩, Hk⟩
  iapply Hk $$ %a %σ' %hq H

theorem wpPure {a : α} {Q : α → sProp 𝕄} : Q a ⊢ wp frame (wpE (defs₀ (F := F)) 𝒱₀ (thr d i) none) Set.univ (pure a : PT F i α) Q := by
  show _ ⊢ wp _ _ _ (Prog.ret a) _
  rw [wp_ret]
  iintro H
  imodintro
  iexact H

/-- A guarded piece before what follows it. -/
theorem guardW {c : Prop} {hd : Decidable c} {Fh : c → PT F i β} {J : PT F i β} {A B : sProp 𝕄} {Q : β → sProp 𝕄}
    (h1 : ∀ h : c, A ⊢ iprop((B -∗ wp frame (wpE (defs₀ (F := F)) 𝒱₀ (thr d i) none) Set.univ J Q) -∗ wp frame (wpE (defs₀ (F := F)) 𝒱₀ (thr d i) none) Set.univ (Fh h) Q))
    (h2 : ¬c → A ⊢ B) :
    A ⊢ iprop((B -∗ wp frame (wpE (defs₀ (F := F)) 𝒱₀ (thr d i) none) Set.univ J Q)
      -∗ wp frame (wpE (defs₀ (F := F)) 𝒱₀ (thr d i) none) Set.univ (@dite _ c hd Fh fun _ => J) Q) := by
  by_cases h : c
  · rw [dif_pos h]; exact h1 h
  · rw [dif_neg h]
    iintro H Hk
    iapply Hk
    iapply (h2 h)
    iexact H

section Slots
variable (d i) (m13 m14 : DmaSems sig S2) (q : ℕ → PosShare TreeShare) (X : ℕ → F .f32) (M : ℕ → BitVec 32)

/-- Slot `b` at rest: its buffers, its shares of the two tables, its semaphores. -/
def Free (b : ℕ) : sProp 𝕄 :=
  iprop((∃ g : ℕ → F .f32, a6.view.loc (thr d i) ↦[rowSet b]{fullShare} (arr 40960 g : S40960.Idx → Elt F .f32))
    ∗ (∃ g : ℕ → BitVec 32, a7.view.loc (thr d i) ↦[memSet b]{fullShare} (arr 352 g : S352.Idx → Elt F .i32))
    ∗ (a2.view.loc (thr d i) ↦{q b} (arr 40960000 X : S40960000.Idx → Elt F .f32))
    ∗ (a3.view.loc (thr d i) ↦{q b} (arr 320000 M : S320000.Idx → Elt F .i32))
    ∗ semVal (thr d i, .dma (slotSem m13 b)) 0 ∗ semVal (thr d i, .dma (slotSem m14 b)) 0)

/-- A slot at rest but for its buffers. -/
def Side (b : ℕ) : sProp 𝕄 :=
  iprop((a2.view.loc (thr d i) ↦{q b} (arr 40960000 X : S40960000.Idx → Elt F .f32))
    ∗ (a3.view.loc (thr d i) ↦{q b} (arr 320000 M : S320000.Idx → Elt F .i32))
    ∗ semVal (thr d i, .dma (slotSem m13 b)) 0 ∗ semVal (thr d i, .dma (slotSem m14 b)) 0)

/-- The slot of chunk `k`: the chunk is on its way if it is one of the tile's. -/
def Next (hi k : ℕ) : sProp 𝕄 :=
  if k < cdN hi then iprop(PendR d i m13 (q (k % 2)) X (k % 2) k ∗ ∃ g, PendM (F := F) d i m14 (q (k % 2)) M (k % 2) k g)
  else Free d i m13 m14 q X M (k % 2)

/-- The tile's state, without a slot. -/
def work (σ : St F) : sProp 𝕄 :=
  iprop((a9.view.loc (thr d i) ↦{fullShare} (arr 81920 σ.acc : S81920.Idx → Elt F .f32))
    ∗ (a10.view.loc (thr d i) ↦{fullShare} (arr 128 σ.ss : S128.Idx → Elt F .f32))
    ∗ (a11.view.loc (thr d i) ↦{fullShare} (arr 128 σ.sm : S128.Idx → Elt F .f32))
    ∗ (a12.view.loc (thr d i) ↦[curSet]{fullShare} (arr 8 (fun _ => σ.cur) : S8.Idx → Elt F .i32)))
end Slots

variable {q : ℕ → PosShare TreeShare} {X : ℕ → F .f32} {M : ℕ → BitVec 32} {lo hi k : ℕ} {O : CellTallies nD τ sig (HIx 1)} {W : Waits sig (HIx 1)}

theorem Next_pos (hk : k < cdN hi) : Next d i m13 m14 q X M hi k ⊢ iprop(PendR d i m13 (q (k % 2)) X (k % 2) k ∗ ∃ g, PendM (F := F) d i m14 (q (k % 2)) M (k % 2) k g) := by
  unfold Next; rw [if_pos hk]

theorem Next_neg (hk : ¬k < cdN hi) : Next d i m13 m14 q X M hi k ⊢ Free d i m13 m14 q X M (k % 2) := by
  unfold Next; rw [if_neg hk]

/-- A chunk set on its way. -/
theorem send {od os oc od' os' : Fin 1 → ℕ} {i1 i2 i3 i1' i2' i3'} {hw hw' ht hw2 hw2' ht2} {J : PT F i β} {Q : β → sProp 𝕄}
    (hk : k < cdN hi) (hd : od = ![k % 2 * 20480]) (hs : os = ![k * 20480]) (hc : oc = ![k % 2]) (hd' : od' = ![k % 2 * 176]) (hs' : os' = ![k * 160]) :
    Free d i m13 m14 q X M (k % 2) ⊢ iprop((Next d i m13 m14 q X M hi k -∗ wp frame (wpE (defs₀ (F := F)) 𝒱₀ (thr d i) none) Set.univ J Q)
      -∗ wp frame (wpE (defs₀ (F := F)) 𝒱₀ (thr d i) none) Set.univ
        ((Prog.lift (.enqueueDma (a2.slice (Rect.unit (s := S40960000) os S20480.size i1) (fun _ => rfl)) (.here (a6.slice (Rect.unit (s := S40960) od S20480.size i2) (fun _ => rfl)))
            (.dma ((m13.slice (Rect.unit (s := S2) oc S1.size i3)).squeeze S_ squeezes_S1_S_).sem) hw hw' ht) : PT F i _) >>= fun _ =>
          (Prog.lift (.enqueueDma (a3.slice (Rect.unit (s := S320000) os' S160.size i1') (fun _ => rfl)) (.here (a7.slice (Rect.unit (s := S352) od' S160.size i2') (fun _ => rfl)))
            (.dma ((m14.slice (Rect.unit (s := S2) oc S1.size i3')).squeeze S_ squeezes_S1_S_).sem) hw2 hw2' ht2) : PT F i _) >>= fun _ => J) Q) := by
  have hb : k % 2 < 2 := Nat.mod_lt _ (by decide)
  unfold Free Next
  rw [if_pos hk]
  iintro ⟨⟨%g, H6⟩, ⟨%g', H7⟩, H2, H3, Hs, Hs'⟩ Hk
  iapply (issueR (k := k) hb hd hs hc) $$ [H2 H6 Hs]
  · isplitl [H2]; · iexact H2
    isplitl [H6]; · iexact H6
    iexact Hs
  iintro HR
  iapply (issueM (k := k) hb hd' hs' hc) $$ [H3 H7 Hs']
  · isplitl [H3]; · iexact H3
    isplitl [H7]; · iexact H7
    iexact Hs'
  iintro HM
  iapply Hk
  isplitl [HR]; · iexact HR
  iexists g'
  iexact HM

/-- The start of a chunk: the next one set on its way, this one awaited. -/
theorem fetch {v5 v7 : BitVec 32} {hw1 : k0_chk1 v5 v7} {t2} {v25 v44 c1 : BitVec 32} {Φ : _ → sProp 𝕄} (R : Rng v5 v7 lo hi) :
    iprop(Next d i m13 m14 q X M hi (lo / 160 + t2.val) ∗ Free d i m13 m14 q X M ((lo / 160 + t2.val + 1) % 2) ∗ Ow (F := F) d i O W ∗ MayWaits (thr d i) none O)
      ⊢ iprop((∀ x, iprop((a6.view.loc (thr d i) ↦[rowSet ((lo / 160 + t2.val) % 2)]{fullShare} (arr 40960 (rowsOf X ((lo / 160 + t2.val) % 2) (lo / 160 + t2.val)) : S40960.Idx → Elt F .f32))
          ∗ (∃ g, a7.view.loc (thr d i) ↦[memSet ((lo / 160 + t2.val) % 2)]{fullShare} (arr 352 (memOf M ((lo / 160 + t2.val) % 2) (lo / 160 + t2.val) g) : S352.Idx → Elt F .i32))
          ∗ Side d i m13 m14 q X M ((lo / 160 + t2.val) % 2) ∗ Next d i m13 m14 q X M hi (lo / 160 + t2.val + 1) ∗ Ow (F := F) d i O W) -∗ Φ x)
        -∗ wp frame (wpE (defs₀ (F := F)) 𝒱₀ (thr d i) none) Set.univ
          (k0_part257 (F := F) i a2 h2 a3 h3 a4 h4 a5 h5 a6 h6 a7 h7 a8 h8 a9 h9 a10 h10 a11 h11 a12 h12 m13 m14 s3 s4 s5 v5 v7 hw1 v25 v44 c1 t2) Φ) := by
  have hk := (R.chunk t2).lt
  have hb : (lo / 160 + t2.val) % 2 < 2 := Nat.mod_lt _ (by decide)
  simp only [k0_part257]
  iintro ⟨HN, HF, HO, #Hmw⟩ Hk
  iapply (guardW (B := Next d i m13 m14 q X M hi (lo / 160 + t2.val + 1))
    (fun h => send ((R.cond2 t2).mp h) (R.off8 t2) (R.off9 t2) (R.off10 t2) (R.off11 t2) (R.off12 t2)) (fun h => ?_)) $$ HF
  · unfold Next
    rw [if_neg (fun h' => h ((R.cond2 t2).mpr h'))]
  iintro HN'
  ihave HN := (Next_pos hk) $$ HN
  icases HN with ⟨HR, %g, HM⟩
  iapply (awaitR hb (R.off15 t2)) $$ [HR HO]
  · isplitl [HR]; · iexact HR
    isplitl [HO]; · iexact HO
    iexact Hmw
  iintro ⟨H6, H2, Hs, HO⟩
  iapply (awaitM hb (R.off15 t2)) $$ [HM HO]
  · isplitl [HM]; · iexact HM
    isplitl [HO]; · iexact HO
    iexact Hmw
  iintro ⟨H7, H3, Hs', HO⟩
  iapply wpPure
  iapply Hk
  unfold Side
  isplitl [H6]; · iexact H6
  isplitl [H7]; · iexists g; iexact H7
  isplitl [H2 H3 Hs Hs']
  · isplitl [H2]; · iexact H2
    isplitl [H3]; · iexact H3
    isplitl [Hs]; · iexact Hs
    iexact Hs'
  isplitl [HN']; · iexact HN'
  iexact HO

end Cert.Proof.TileI

end
-- ==== Proof.TileI.Slow.lean ====
module

public import proofs.«01_k».proof.Proof.TileI.Fast

/-! The whole blocks of a chunk. -/

@[expose] public section

namespace Cert.Proof.TileI

open Cert.KernelIdeal Cert.KernelIdeal.Gen Cert.Proof.Words Cert.Proof.Lanes
open Idealize.ShloMosaic Idealize.SL.Sem

variable {F : FTy → Type} [FloatOps F]
variable {d : Dev nD} {i : grid0.Coords} {C : Src F} {σ : St F} {X : ℕ → ℕ → F .f32} {M : ℕ → BitVec 32} {lo hi : ℕ}
variable {h2 : a2.IsWhole} {h3 : a3.IsWhole} {h4 : a4.IsWhole} {h5 : a5.IsWhole} {h6 : a6.IsWhole} {h7 : a7.IsWhole} {h8 : a8.IsWhole} {h9 : a9.IsWhole} {h10 : a10.IsWhole} {h11 : a11.IsWhole} {h12 : a12.IsWhole} {m13 m14 : DmaSems sig S2} {s3 s4 s5 : DmaSems sig S_}

theorem cond5_iff (a v : BitVec 32) : k0_cond5 a v = 1#1 ↔ v = a := by
  have h : Scalar.cmpi .eq v a = BitVec.ofBool (v == a) := rfl
  rw [k0_cond5, h, ← beq_iff_eq (a := v)]
  cases (v == a) <;> decide

theorem cond6_iff (a v : BitVec 32) : k0_cond6 a v = 1#1 ↔ v ≠ a := by
  have h : Scalar.cmpi .ne v a = BitVec.ofBool (v != a) := rfl
  rw [k0_cond6, h, ← bne_iff_ne (a := v)]
  cases (v != a) <;> decide

/-- A slice of a row of the block lies in the slots. -/
theorem Blk.inb {K B : BitVec 32} {n : ℕ} {xs ms} (hB : Blk C i X M K B n xs ms) {q r : ℕ} (hq : q < 16) (hr : r < 8) :
    ∀ x, (![(Scalar.addi (rowW K (Scalar.addi B (BitVec.ofNat 32 q))) (BitVec.ofNat 32 (16 * r))).toNat] : Fin 1 → ℕ) x + S16.size x ≤ S40960.size x := by
  obtain ⟨dd, h, -⟩ := hB.row q hq
  have := h.top
  rw [(h.is.add (.lit (16 * r) (by omega)) (by omega)).toNat]
  intro (x : Fin 1)
  obtain rfl : x = 0 := Subsingleton.elim _ _
  show dd + 16 * r + 16 ≤ 40960
  omega

theorem chk4 {v5 v7 : BitVec 32} {t2 t5 n xs ms a v} (hB : Blk C i X M (kW v5 t2.val) (bW (mW (aW v5 (kW v5 t2.val)) (eW v7 (kW v5 t2.val))) t5.val) n xs ms) :
    k0_chk4 v5 v7 t2 t5 a v :=
  ⟨fun _ q r => hB.inb q.isLt r.isLt, fun _ r => hB.inb (q := 0) (by decide) r.isLt, fun _ r => hB.inb (q := 1) (by decide) r.isLt,
    fun _ r => hB.inb (q := 2) (by decide) r.isLt, fun _ r => hB.inb (q := 3) (by decide) r.isLt, fun _ r => hB.inb (q := 4) (by decide) r.isLt,
    fun _ r => hB.inb (q := 5) (by decide) r.isLt, fun _ r => hB.inb (q := 6) (by decide) r.isLt, fun _ r => hB.inb (q := 7) (by decide) r.isLt,
    fun _ r => hB.inb (q := 8) (by decide) r.isLt, fun _ r => hB.inb (q := 9) (by decide) r.isLt, fun _ r => hB.inb (q := 10) (by decide) r.isLt,
    fun _ r => hB.inb (q := 11) (by decide) r.isLt, fun _ r => hB.inb (q := 12) (by decide) r.isLt, fun _ r => hB.inb (q := 13) (by decide) r.isLt,
    fun _ r => hB.inb (q := 14) (by decide) r.isLt, fun _ r => hB.inb (q := 15) (by decide) r.isLt⟩

/-- What follows is held under a name. -/
theorem Tr.name {β : Type} {J : PT F i β} {Q : β → St F → Prop} (h : Tr d i C σ J Q) : ∃ J', J = J' ∧ Tr d i C σ J' Q := ⟨J, rfl, h⟩

theorem flush_eq (b : ℕ) (ss sm acc : ℕ → F .f32) : flush b ss sm acc = upd (upd (upd (upd (upd (upd (upd (upd (upd (upd (upd (upd (upd (upd (upd (upd acc (b + 0) (sl (reluL ss) 0)) (b + 128 + 0) (sl (reluL sm) 0)) (b + 16) (sl (reluL ss) 16)) (b + 128 + 16) (sl (reluL sm) 16)) (b + 32) (sl (reluL ss) 32)) (b + 128 + 32) (sl (reluL sm) 32)) (b + 48) (sl (reluL ss) 48)) (b + 128 + 48) (sl (reluL sm) 48)) (b + 64) (sl (reluL ss) 64)) (b + 128 + 64) (sl (reluL sm) 64)) (b + 80) (sl (reluL ss) 80)) (b + 128 + 80) (sl (reluL sm) 80)) (b + 96) (sl (reluL ss) 96)) (b + 128 + 96) (sl (reluL sm) 96)) (b + 112) (sl (reluL ss) 112)) (b + 128 + 112) (sl (reluL sm) 112) := rfl

theorem Tr.putSum {Q : β → St F → Prop} {off : Fin 1 → ℕ} {v : BitVec 32} {c : ℕ} {inb : ∀ a, off a + S16.size a ≤ S81920.size a} {w : Vec F S16 .f32} {hx hm} {k : PUnit → PT F i β} {acc ss sm : ℕ → F .f32} {cur : BitVec 32} (hs : SegIn i v)
    [ho : SumO off i v (BitVec.ofNat 32 c)] (hc : c ≤ 112) (hk : Tr d i C ⟨upd acc (accN i v + c) w, ss, sm, cur⟩ (k ⟨⟩) Q) :
    Tr d i C ⟨acc, ss, sm, cur⟩ ((Prog.lift (.store a9 (Rect.unit (s := S81920) off S16.size inb) w Finset.univ hx hm) : PT F i _) >>= k) Q :=
  Tr.stSum hs hc hk

theorem Tr.putMax {Q : β → St F → Prop} {off : Fin 1 → ℕ} {v : BitVec 32} {c : ℕ} {inb : ∀ a, off a + S16.size a ≤ S81920.size a} {w : Vec F S16 .f32} {hx hm} {k : PUnit → PT F i β} {acc ss sm : ℕ → F .f32} {cur : BitVec 32} (hs : SegIn i v)
    [ho : MaxO off i v (BitVec.ofNat 32 c)] (hc : c ≤ 112) (hk : Tr d i C ⟨upd acc (accN i v + 128 + c) w, ss, sm, cur⟩ (k ⟨⟩) Q) :
    Tr d i C ⟨acc, ss, sm, cur⟩ ((Prog.lift (.store a9 (Rect.unit (s := S81920) off S16.size inb) w Finset.univ hx hm) : PT F i _) >>= k) Q :=
  Tr.stMax hs hc hk

set_option maxHeartbeats 0 in
theorem blocks {v1 v5 v7 : BitVec 32} {hw1 : k0_chk1 v5 v7} {t2} {v107 v108 v109 v138 : BitVec 32} {v149 v150} {Q} (R : Rng v5 v7 lo hi) (H : Ck C i X M lo hi (lo / 160 + t2.val))
    (hσ : Reach i X M lo ((lo / 160 + t2.val) * 160 + mN (aN lo (lo / 160 + t2.val)) (eN hi (lo / 160 + t2.val))) σ)
    (hQ : ∀ x σ', Reach i X M lo ((lo / 160 + t2.val) * 160 + gN (mN (aN lo (lo / 160 + t2.val)) (eN hi (lo / 160 + t2.val))) (eN hi (lo / 160 + t2.val))) σ' → Q x σ') :
    Tr d i C σ (k0_part259 (F := F) i a2 h2 a3 h3 a4 h4 a5 h5 a6 h6 a7 h7 a8 h8 a9 h9 a10 h10 a11 h11 a12 h12 m13 m14 s3 s4 s5 v1 v5 v7 hw1 t2 v107 v108 v109 v138 v149 v150) Q := by
  have hch := R.chunk t2
  generalize hk : lo / 160 + t2.val = k at *
  unfold k0_part259
  refine Tr.loop (fun t σ => Reach i X M lo (if t = 0 then k * 160 + mN (aN lo k) (eN hi k) else k * 160 + (mN (aN lo k) (eN hi k) / 16 + t) * 16) σ) (hσ.cast (if_pos rfl).symm) ?_ ?_
  · intro t5 _ σ hσ
    have hr := R.r5 t2 t5
    rw [hk] at hr
    have ht := t5.isLt; have ht' := R.trips5 t2; rw [hk] at ht'
    have hblk := hch.blk (t := t5.val) (by omega)
    have hehi := hch.e_hi; have hm := hch.m
    replace hσ : Reach i X M lo (k * 160 + (mN (aN lo k) (eN hi k) / 16 + t5.val) * 16) σ := hσ.cast (by split <;> omega)
    have hcur := hσ.cur fun r h1 h2 => H.seg r h1 (by omega)
    obtain ⟨q, hq⟩ : ∃ q, q = (mN (aN lo k) (eN hi k) / 16 + t5.val) * 16 := ⟨_, rfl⟩
    obtain ⟨n, hn⟩ : ∃ n, n = k * 160 + q := ⟨_, rfl⟩
    have hmem := R.mem t2 hr.2 (by omega)
    rw [← hq] at hr hσ hmem
    rw [← hn] at hσ
    rw [hk] at hmem
    obtain ⟨ms, hms⟩ : ∃ ms : ℕ → BitVec 32, ∀ r, C.mem (k % 2 * 176 + q + r) = ms r := ⟨_, fun _ => rfl⟩
    obtain ⟨xs, hxs⟩ : ∃ xs : ℕ → ℕ → F .f32, ∀ r, X (n + r) = xs r := ⟨_, fun _ => rfl⟩
    have hM : ∀ r, r < 16 → M (n + r) = ms r := fun r hr' => by
      rw [← hms, hn, Nat.add_assoc, Nat.add_assoc, H.mem _ (by omega)]
    have hB : Blk C i X M (kW v5 t2.val) (bW (mW (aW v5 (kW v5 t2.val)) (eW v7 (kW v5 t2.val))) t5.val) n xs ms :=
      { row := fun r hr' => ⟨k % 2 * 20480 + (q + r) * 128, ⟨hk ▸ R.row t2 (hr.2.add (.lit r (by omega)) (by omega)) (by omega), by rw [H.b]; omega, by rw [H.b]; omega, by omega⟩,
          by rw [H.rows _ (by omega), ← hxs, hn, Nat.add_assoc]⟩
        x := fun r _ => hxs r
        m := hM
        seg := fun r hr' => by
          rw [← hM r hr']; exact H.seg _ (by have := hσ.le; omega) (by omega) }
    have hl : ∀ r h hp, extractAt (s := S1) ![0] (extractStridedSlice (s := S16) S1 ![r] (sl C.mem (k % 2 * 176 + q)) h) hp = ms r := fun r h hp => by
      rw [lane_sl, hms]
    refine Tr.ld7 (show k0_off26 v5 v7 t2 t5 = ![k % 2 * 176 + q] from ?_) (by rw [H.b]; omega) (by rw [H.b]; omega) ?_
    · rw [← hmem.toNat]; rfl
    simp only [shapeCast_self, hl]
    refine Tr.ldcur ?_
    refine Tr.assume (chk4 hB) ?_
    have hn16 : k * 160 + (mN (aN lo k) (eN hi k) / 16 + (t5.val + 1)) * 16 = n + 16 := by omega
    simp only [Nat.succ_ne_zero, if_false, Nat.add_eq_zero_iff, Nat.one_ne_zero, and_false, hn16]
    by_cases hc : ms 15 = σ.cur
    · have e : Reach i X M lo (n + 16) (fastStep xs σ) := by
        have e := hσ.fast (by rw [hM 15 (by decide), hc])
        simp only [hxs] at e
        exact e
      refine Tr.guardT ((cond5_iff _ _).mpr hc) (fastStep xs σ) (fun hJ => ?_) ?_
      · refine Tr.bind fun R hR => ?_
        refine fast hB (hR _ _ ?_)
        simp only [maximumf_sl, shapeCast_self]
        with_reducible apply Tr.ld11 rfl
        with_reducible apply Tr.st11 rfl
        refine Tr.norm (τ := fastStep xs σ) ⟨fun n _ => ?_, fun n hn => ?_, fun n hn => ?_, ?_⟩ hJ
        · rfl
        · exact sweep_lt hn
        · exact sweep_lt hn
        · rfl
      · refine Tr.guardF (fun h => absurd hc ((cond6_iff _ _).mp h)) ?_
        exact Tr.ret e
    · refine Tr.guardF (fun h => absurd ((cond5_iff _ _).mp h) hc) ?_
      have h : At i X M lo n xs ms σ 0 σ.cur σ := ⟨rfl, hσ, rfl, hcur⟩
      have hend : ∀ τ, At i X M lo n xs ms σ 16 (ms 15) τ → τ = rowsN i xs ms σ 16 := fun τ h => h.eq
      have e : Reach i X M lo (n + 16) (rowsN i xs ms σ 16) := hσ.rows16 hB
      refine Tr.guardT ((cond6_iff _ _).mpr hc) (rowsN i xs ms σ 16) (fun hJ => ?_) (Tr.ret e)
      obtain ⟨J', hJ', hJ⟩ := hJ.name
      rw [hJ']
      clear hJ'
      have e1 : 1 + 1 = 2 := rfl
      have e2 : 1 + 1 = 2 := rfl
      show Tr d i C ⟨σ.acc, σ.ss, σ.sm, σ.cur⟩ _ _
      repeat first
        | ((with_reducible apply Tr.rowB hB); decide; decide)
        | (with_reducible apply Tr.ld10 rfl)
        | (with_reducible apply Tr.ld11 rfl)
        | (with_reducible apply Tr.st10 rfl)
        | (with_reducible apply Tr.st11 rfl)
        | ((with_reducible apply Tr.assume); on_goal 2 => first | exact h.chk rfl | (refine h.chk ?_; simp only [shapeCast_self, hl]))
        | (with_reducible refine Tr.ret (hR _ _ ?_); try simp only [addf_sl, maximumf_sl, select_sl, shapeCast_self, hl])
        | (simp only [addf_sl, maximumf_sl, select_sl, e1, e2])
        | ((with_reducible apply Tr.flushRow hB h)
           · decide
           · rfl
           · first | rfl | simp only [shapeCast_self, hl]
           · simp only [shapeCast_self, hl]
           · intro hs hc hj hc'
             repeat first
               | (with_reducible apply Tr.dead9; intro _)
               | ((with_reducible apply Tr.putSum hs); decide)
               | ((with_reducible apply Tr.putMax hs); decide)
               | (with_reducible refine Tr.ret (hR _ _ ?_); try simp only [relu_sl])
               | (refine Tr.bind fun R hR => ?_; simp only [k0_part47, k0_part48, k0_part49, k0_part50, k0_part51, k0_part52, k0_part53, k0_part54, k0_part55, k0_part56, k0_part57, k0_part58, k0_part59, k0_part60, k0_part61, k0_part62, k0_part63, k0_part64, k0_part65, k0_part66, k0_part67, k0_part68, k0_part69, k0_part70, k0_part71, k0_part72, k0_part73, k0_part74, k0_part75, k0_part76, k0_part77, k0_part78, k0_part79, k0_part80, k0_part81, k0_part82, k0_part83, k0_part84, k0_part85, k0_part86, k0_part87, k0_part88, k0_part89, k0_part90, k0_part91, k0_part92, k0_part93, k0_part94, shapeCast_self]; try simp only [relu_sl])
             rw [flush_eq] at hj
             with_reducible exact hj
           clear e1 e2
           intro τ h e1 e2
           try simp only [Nat.reduceAdd] at h
           try simp only [e1, e2])
        | (refine Tr.bind fun R hR => ?_; simp only [k0_part95, k0_part96, k0_part97, k0_part98, k0_part99, k0_part100, k0_part101, k0_part102, k0_part103, k0_part104, k0_part105, k0_part106, k0_part107, k0_part108, k0_part109, k0_part110, k0_part111, k0_part112, k0_part113, k0_part114, k0_part115, k0_part116, k0_part117, k0_part118, k0_part119, k0_part120, k0_part121, k0_part122, k0_part123, k0_part124, k0_part125, k0_part126, k0_part127, k0_part128, k0_part129, shapeCast_self, hl]; try simp only [addf_sl, maximumf_sl, select_sl, e1, e2])
        | (refine Tr.ldcur ?_; refine Tr.stcur ?_)
      have hτ := hend _ h
      rw [← hτ] at hJ
      refine Tr.norm ⟨fun n _ => ?_, fun n hn => ?_, fun n hn => ?_, ?_⟩ hJ
      · rfl
      · exact sweep_lt hn
      · exact sweep_lt hn
      · first | exact h.cur.symm | (simp only [shapeCast_self, hl]; exact h.cur.symm)
  · intro _ σ hσ
    refine Tr.dead (fun t => Scf.rem_no_trip _ _ t) fun _ => ?_
    refine Tr.ret (hQ _ _ (hσ.cast ?_))
    have ht := R.trips5 t2
    rw [hk] at ht
    rw [← hch.blk_end, ht]
    have := hch.m
    split <;> omega

end Cert.Proof.TileI

end
-- ==== Proof.TileI.Mid.lean ====
/-
  The tile's rows: the block cleared, the first chunk set on its way, the chunks summed.
-/
module

public import proofs.«01_k».proof.Proof.TileI.Loop
public import proofs.«01_k».proof.Proof.TileI.Slow

@[expose] public section

noncomputable section

namespace Cert.Proof.TileI

open Cert.KernelIdeal Cert.KernelIdeal.Gen
open Cert.Proof.Lanes Cert.Proof.Words
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig (HIx 1) (Elt F) ℕ UU ℕ

variable {d : Dev nD} {i : grid0.Coords} {C : Src F} {σ : St F} {α β : Type}
variable {h2 : a2.IsWhole} {h3 : a3.IsWhole} {h4 : a4.IsWhole} {h5 : a5.IsWhole} {h6 : a6.IsWhole} {h7 : a7.IsWhole} {h8 : a8.IsWhole} {h9 : a9.IsWhole} {h10 : a10.IsWhole} {h11 : a11.IsWhole} {h12 : a12.IsWhole} {m13 m14 : DmaSems sig S2} {s3 s4 s5 : DmaSems sig S_}
variable {q : ℕ → PosShare TreeShare} {X : ℕ → F .f32} {M : ℕ → BitVec 32} {lo hi k b : ℕ} {O : CellTallies nD τ sig (HIx 1)} {W : Waits sig (HIx 1)}

theorem Tr.alone {p : PT F i α} {Q : α → St F → Prop} (h : Tr d i C σ (p >>= pure) Q) : Tr d i C σ p Q := by
  rwa [bind_pure] at h

/-- A piece on the tile's state, before what follows it. -/
theorem Tr.useB {p : PT F i α} {Q : α → St F → Prop} {kk : α → PT F i β} {Φ : β → sProp 𝕄} (h : Tr d i C σ p Q) :
    own d i C σ ⊢ iprop((∀ a σ', ⌜Q a σ'⌝ -∗ own d i C σ' -∗ wp frame (wpE (defs₀ (F := F)) 𝒱₀ (thr d i) none) Set.univ (kk a) Φ)
      -∗ wp frame (wpE (defs₀ (F := F)) 𝒱₀ (thr d i) none) Set.univ (p >>= kk) Φ) := by
  rw [wp_bind]
  exact Tr.use h

theorem taken {g : ℕ → F .f32} {g' : ℕ → BitVec 32} :
    iprop((a6.view.loc (thr d i) ↦[rowSet b]{fullShare} (arr 40960 g : S40960.Idx → Elt F .f32)) ∗ (a7.view.loc (thr d i) ↦[memSet b]{fullShare} (arr 352 g' : S352.Idx → Elt F .i32)) ∗ work d i σ)
      ⊢ own d i ⟨b, g, g'⟩ σ := .rfl

/-- A loop before what follows it. -/
theorem loopB {L : Scf.Loop 32} {γ : Type} {hok : L.OK} {init : γ} {body : Fin L.trips → γ → PT F i γ} {kk : γ → PT F i β} {Φ : β → sProp 𝕄} (I : ℕ → sProp 𝕄)
    (hb : ∀ (t : Fin L.trips) acc, I t.val ⊢ wp frame (wpE (defs₀ (F := F)) 𝒱₀ (thr d i) none) Set.univ (body t acc) (fun _ => I (t.val + 1))) :
    I 0 ⊢ iprop((∀ acc, I L.trips -∗ wp frame (wpE (defs₀ (F := F)) 𝒱₀ (thr d i) none) Set.univ (kk acc) Φ)
      -∗ wp frame (wpE (defs₀ (F := F)) 𝒱₀ (thr d i) none) Set.univ (Scf.Loop.for L hok init body >>= kk) Φ) :=
  Scf.wp_for_bind _ _ _ _ _ _ hok init body (fun t _ => I t) hb

/-- A slot at rest taken up with the tile's state. -/
theorem hold : iprop(Free d i m13 m14 q X M b ∗ work d i σ) ⊢ iprop(∃ C : Src F, ⌜C.b = b⌝ ∗ own d i C σ ∗ Side d i m13 m14 q X M b) := by
  unfold Free Side
  iintro ⟨⟨⟨%g, H6⟩, ⟨%g', H7⟩, H2, H3, Hs, Hs'⟩, Hw⟩
  iexists (⟨b, g, g'⟩ : Src F)
  isplitr; · ipureintro; rfl
  isplitl [H6 H7 Hw]
  · iapply taken
    isplitl [H6]; · iexact H6
    isplitl [H7]; · iexact H7
    iexact Hw
  isplitl [H2]; · iexact H2
  isplitl [H3]; · iexact H3
  isplitl [Hs]; · iexact Hs
  iexact Hs'

/-- The slot put down again. -/
theorem rest (hb : C.b = b) : iprop(own d i C σ ∗ Side d i m13 m14 q X M b) ⊢ iprop(Free d i m13 m14 q X M b ∗ work d i σ) := by
  subst hb
  unfold Free Side
  show iprop((_ ∗ _ ∗ work d i σ) ∗ _) ⊢ _
  iintro ⟨⟨H6, H7, Hw⟩, H2, H3, Hs, Hs'⟩
  isplitr [Hw]
  · isplitl [H6]; · iexists C.rows; iexact H6
    isplitl [H7]; · iexists C.mem; iexact H7
    isplitl [H2]; · iexact H2
    isplitl [H3]; · iexact H3
    isplitl [Hs]; · iexact Hs
    iexact Hs'
  iexact Hw

/-- Both slots, in the order of their use. -/
theorem both : iprop(Free d i m13 m14 q X M (k % 2) ∗ Free d i m13 m14 q X M ((k + 1) % 2)) ⊢ iprop(Free d i m13 m14 q X M 0 ∗ Free d i m13 m14 q X M 1) := by
  rcases Nat.mod_two_eq_zero_or_one k with h | h
  · rw [h, show (k + 1) % 2 = 1 by omega]
  · rw [h, show (k + 1) % 2 = 0 by omega]
    iintro ⟨HA, HB⟩
    isplitl [HB]; · iexact HB
    iexact HA

theorem both' : iprop(Free d i m13 m14 q X M 0 ∗ Free d i m13 m14 q X M 1) ⊢ iprop(Free d i m13 m14 q X M (k % 2) ∗ Free d i m13 m14 q X M ((k + 1) % 2)) := by
  rcases Nat.mod_two_eq_zero_or_one k with h | h
  · rw [h, show (k + 1) % 2 = 1 by omega]
  · rw [h, show (k + 1) % 2 = 0 by omega]
    iintro ⟨HA, HB⟩
    isplitl [HB]; · iexact HB
    iexact HA

theorem ck {g : ℕ → BitVec 32} (hs : ∀ r, lo ≤ r → r < hi → SegIn i (M r)) :
    Ck ⟨k % 2, rowsOf X (k % 2) k, memOf M (k % 2) k g⟩ i (fun r c => X (r * 128 + c)) M lo hi k where
  b := rfl
  mem q hq := by
    show (if _ then _ else _) = _
    rw [if_pos (by omega)]
    exact congrArg M (by omega)
  rows q hq := by
    funext c
    show X (k * 20480 + (k % 2 * 20480 + q * 128 + c - k % 2 * 20480)) = X ((k * 160 + q) * 128 + c)
    exact congrArg X (by omega)
  seg := hs

theorem side_eq {b' : ℕ} (h : b = b') : Side d i m13 m14 q X M b ⊢ Side d i m13 m14 q X M b' := h ▸ .rfl

theorem wp_bind' {p : PT F i α} {kk : α → PT F i β} {A : sProp 𝕄} {B : α → sProp 𝕄} {Φ : β → sProp 𝕄}
    (h : ∀ Ψ : α → sProp 𝕄, A ⊢ iprop((∀ x, B x -∗ Ψ x) -∗ wp frame (wpE (defs₀ (F := F)) 𝒱₀ (thr d i) none) Set.univ p Ψ)) :
    A ⊢ iprop((∀ x, B x -∗ wp frame (wpE (defs₀ (F := F)) 𝒱₀ (thr d i) none) Set.univ (kk x) Φ)
      -∗ wp frame (wpE (defs₀ (F := F)) 𝒱₀ (thr d i) none) Set.univ (p >>= kk) Φ) := by
  rw [wp_bind]
  exact h _

/-- Where the tile stands before chunk `k`. -/
def pos (lo hi k : ℕ) : ℕ := max lo (min hi (k * 160))

set_option maxHeartbeats 400000 in
theorem mid {v1 v5 v7 : BitVec 32} {hw1 : k0_chk1 v5 v7} {v8 : FVec F S16 .f32} {v25 v27 c160 v28 c0 : BitVec 32} {Φ : _ → sProp 𝕄}
    (R : Rng v5 v7 lo hi) (hv : v8 = broadcast S16 (FloatOps.ofBits .f32 0x00000000#32)) (hs : ∀ r, lo ≤ r → r < hi → SegIn i (M r)) :
    iprop(Free d i m13 m14 q X M 0 ∗ Free d i m13 m14 q X M 1 ∗ work d i σ ∗ Ow (F := F) d i O W ∗ MayWaits (thr d i) none O)
      ⊢ iprop((∀ x σ', ⌜Reach i (fun r c => X (r * 128 + c)) M lo hi σ' ∧ x.1 = σ'.cur⌝ -∗ Free d i m13 m14 q X M 0 -∗ Free d i m13 m14 q X M 1 -∗ work d i σ' -∗ Ow (F := F) d i O W -∗ Φ x)
        -∗ wp frame (wpE (defs₀ (F := F)) 𝒱₀ (thr d i) none) Set.univ
          (k0_part522 (F := F) i a2 h2 a3 h3 a4 h4 a5 h5 a6 h6 a7 h7 a8 h8 a9 h9 a10 h10 a11 h11 a12 h12 m13 m14 s3 s4 s5 v1 v5 v7 hw1 v8 v25 v27 c160 v28 c0) Φ) := by
  unfold k0_part522
  dsimp only
  iintro ⟨HA, HB, Hw, HO, #Hmw⟩ Hk
  ihave HAB := (both' (k := lo / 160)) $$ [HA HB]
  · isplitl [HA]; · iexact HA
    iexact HB
  icases HAB with ⟨HA, HB⟩
  iapply (guardW (B := Next d i m13 m14 q X M hi (lo / 160))
    (fun h => send (R.cond1.mp h) R.off2 R.off3 R.off4 R.off5 R.off6) (fun h => ?_)) $$ HA
  · unfold Next
    rw [if_neg (fun h' => h (R.cond1.mpr h'))]
  iintro HN
  ihave HC := (hold (σ := σ)) $$ [HB Hw]
  · isplitl [HB]; · iexact HB
    iexact Hw
  icases HC with ⟨%C, %hC, Hown, HS⟩
  iapply (Tr.useB (Q := fun _ σ' => Z 81920 σ') ?_) $$ Hown
  · refine Tr.alone (Tr.loop (fun t σ => Z (256 * t) σ) (fun m h => absurd h (by omega)) (fun t acc σ h => zeroBody hv h) (fun _ σ' h => Tr.ret ?_))
    exact h
  iintro %_ %σ1 %hz Hown
  iapply (Tr.useB (Q := fun _ σ' => Z 81920 σ') ?_) $$ Hown
  · exact Tr.alone (Tr.ldcur (Tr.ret hz))
  iintro %_ %σ1 %hz Hown
  iapply (Tr.useB (Q := fun _ σ' => Reach i (fun r c => X (r * 128 + c)) M lo lo σ') ?_) $$ Hown
  · refine Tr.alone (Tr.stcur (Tr.norm (τ := ⟨fun _ => FloatOps.ofBits .f32 0x00000000#32, σ1.ss, σ1.sm, 4294967295#32⟩) ⟨hz, fun _ _ => rfl, fun _ _ => rfl, rfl⟩ (Tr.ret ?_)))
    exact .init _ (fun _ => rfl) rfl
  iintro %_ %σ2 %hr Hown
  ihave HC := (rest hC) $$ [Hown HS]
  · isplitl [Hown]; · iexact Hown
    iexact HS
  icases HC with ⟨HB, Hw⟩
  iapply (loopB (fun t => iprop(∃ σ, ⌜Reach i (fun r c => X (r * 128 + c)) M lo (pos lo hi (lo / 160 + t)) σ⌝ ∗ Next d i m13 m14 q X M hi (lo / 160 + t) ∗ Free d i m13 m14 q X M ((lo / 160 + t + 1) % 2) ∗ work d i σ ∗ Ow (F := F) d i O W ∗ MayWaits (thr d i) none O)) ?_) $$ [HN HB Hw HO]
  · intro t2 _
    iintro ⟨%σ, %hσ, HN, HB, Hw, HO, #Hmw⟩
    have hc := R.chunk t2
    iapply (wp_bind' fun Ψ => fetch R) $$ [HN HB HO]
    · isplitl [HN]; · iexact HN
      isplitl [HB]; · iexact HB
      isplitl [HO]; · iexact HO
      iexact Hmw
    iintro %x ⟨H6, ⟨%g, H7⟩, HS, HN, HO⟩
    obtain ⟨v104, v107, v108, v109⟩ := x
    dsimp only
    iapply (Tr.use (C := ⟨(lo / 160 + t2.val) % 2, rowsOf X ((lo / 160 + t2.val) % 2) (lo / 160 + t2.val), memOf M ((lo / 160 + t2.val) % 2) (lo / 160 + t2.val) g⟩) (σ := σ)
      (Q := fun _ σ' => Reach i (fun r c => X (r * 128 + c)) M lo (pos lo hi (lo / 160 + (t2.val + 1))) σ') ?_) $$ [H6 H7 Hw]
    · have H := ck (i := i) (X := X) (M := M) (lo := lo) (hi := hi) (k := lo / 160 + t2.val) (g := g) hs
      refine Tr.bind fun R1 hR1 => ?_
      refine lead R H (hσ.cast ?_) fun x σ' hσ' => hR1 _ _ ?_
      · rw [hc.a_lo]; unfold pos; have h1 := hc.lt; have := hc.le; unfold cdN at h1; omega
      obtain ⟨v130, v138, v149, v150⟩ := x
      dsimp only
      refine Tr.bind fun R2 hR2 => ?_
      refine blocks R H hσ' fun x σ' hσ' => hR2 _ _ ?_
      obtain ⟨v179, v190, v191, c81⟩ := x
      dsimp only
      refine Tr.loop (fun t σ => Reach i (fun r c => X (r * 128 + c)) M lo ((lo / 160 + t2.val) * 160 + gN (mN (aN lo (lo / 160 + t2.val)) (eN hi (lo / 160 + t2.val))) (eN hi (lo / 160 + t2.val)) + t) σ) (hσ'.cast (Nat.add_zero _).symm) (fun t7 _ σ hσ => ?_) fun _ σ' hσ' => ?_
      · exact trail R H hσ
      refine Tr.dead (fun t => Scf.rem_no_trip _ _ t) fun _ => Tr.ret (hσ'.cast ?_)
      rw [R.trips7]
      have := hc.g; have := hc.e_hi; have := hc.lo_le; have := hc.le; unfold pos; omega
    · iapply taken
      isplitl [H6]; · iexact H6
      isplitl [H7]; · iexact H7
      iexact Hw
    iintro %_ %σ' %hσ' Hown
    ihave HC := (rest (C := ⟨(lo / 160 + t2.val) % 2, rowsOf X ((lo / 160 + t2.val) % 2) (lo / 160 + t2.val), memOf M ((lo / 160 + t2.val) % 2) (lo / 160 + t2.val) g⟩) (σ := σ')
      (q := q) (X := X) (M := M) (m13 := m13) (m14 := m14) (b := (lo / 160 + (t2.val + 1) + 1) % 2) (show (lo / 160 + t2.val) % 2 = _ by omega)) $$ [Hown HS]
    · isplitl [Hown]; · iexact Hown
      iapply (side_eq (b := (lo / 160 + t2.val) % 2) (by omega))
      iexact HS
    icases HC with ⟨HB, Hw⟩
    iexists σ'
    isplitr; · ipureintro; exact hσ'
    isplitl [HN]; · iexact HN
    isplitl [HB]; · iexact HB
    isplitl [Hw]; · iexact Hw
    isplitl [HO]; · iexact HO
    iexact Hmw
  · iexists σ2
    isplitr; · ipureintro; exact hr.cast (by unfold pos; have := R.le; omega)
    isplitl [HN]; · iexact HN
    isplitl [HB]; · iexact HB
    isplitl [Hw]; · iexact Hw
    isplitl [HO]; · iexact HO
    iexact Hmw
  iintro %_ ⟨%σ3, %hr3, HN, HB, Hw, HO, _⟩
  have ht : lo / 160 + (k0_t2_loop v5 v7).trips = cdN hi := by have := R.fle; rw [R.trips2]; omega
  ihave HN := (Next_neg (by omega)) $$ HN
  ihave HC := (hold (σ := σ3)) $$ [HB Hw]
  · isplitl [HB]; · iexact HB
    iexact Hw
  icases HC with ⟨%C, %hC, Hown, HS⟩
  have hr3 : Reach i (fun r c => X (r * 128 + c)) M lo hi σ3 := hr3.cast (by rw [ht]; unfold pos cdN; have := R.le; omega)
  have hcur : CurOK i σ3.cur := hr3.cur hs
  iapply (Tr.use (Q := fun x σ' => Reach i (fun r c => X (r * 128 + c)) M lo hi σ' ∧ x.1 = σ'.cur) ?_) $$ Hown
  · refine Tr.dead t9 fun _ => Tr.ldcur ?_
    refine Tr.assume (chk78 hcur) (Tr.ret ⟨hr3, rfl⟩)
  iintro %x %σ4 %hx Hown
  ihave HC := (rest hC) $$ [Hown HS]
  · isplitl [Hown]; · iexact Hown
    iexact HS
  icases HC with ⟨HB, Hw⟩
  ihave HC := (both (k := lo / 160 + (k0_t2_loop v5 v7).trips)) $$ [HN HB]
  · isplitl [HN]; · iexact HN
    iexact HB
  icases HC with ⟨HA, HB⟩
  iapply Hk $$ %x %σ4 %hx HA HB Hw HO

end Cert.Proof.TileI

end
-- ==== Proof.TileI.Body.lean ====
/-
  A tile's whole task: its bounds in, its rows summed, the last segment stored and the block copied out.
-/
module

public import proofs.«01_k».proof.Proof.TileI.Mid

@[expose] public section

noncomputable section

namespace Cert.Proof.TileI

open Cert.KernelIdeal Cert.KernelIdeal.Gen
open Cert.Proof.Lanes Cert.Proof.Words
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig (HIx 1) (Elt F) ℕ UU ℕ

variable {d : Dev nD} {i : grid0.Coords} {C : Src F} {σ : St F} {α β : Type}
variable {h2 : a2.IsWhole} {h3 : a3.IsWhole} {h4 : a4.IsWhole} {h5 : a5.IsWhole} {h6 : a6.IsWhole} {h7 : a7.IsWhole} {h8 : a8.IsWhole} {h9 : a9.IsWhole} {h10 : a10.IsWhole} {h11 : a11.IsWhole} {h12 : a12.IsWhole} {m13 m14 : DmaSems sig S2} {s3 s4 s5 : DmaSems sig S_}
variable {O : CellTallies nD τ sig (HIx 1)} {W : Waits sig (HIx 1)} {lo hi : ℕ} {X : ℕ → F .f32} {M : ℕ → BitVec 32} {q : ℕ → PosShare TreeShare}

/-- Entry `n` of row `w` of the table of bounds. -/
def bIx (w n : ℕ) : S32x16.Idx := fun a => match a with
  | 0 => (⟨w % 32, Nat.mod_lt _ (by decide)⟩ : Fin 32)
  | 1 => (⟨n % 16, Nat.mod_lt _ (by decide)⟩ : Fin 16)

/-- The tile's row of the table. -/
abbrev bRow (i : grid0.Coords) : Memref sig .scVector .hbm S16 .i32 :=
  ((a4.slice (Rect.unit (s := S32x16) (k0_off1 i) S1x16.size (k0_off1_inb i)) (fun _ => rfl)).squeeze S16 squeezes_S1x16_S16)

theorem read_bRow (f : S32x16.Idx → BitVec 32) : (bRow i).view.read (Elt F) (f : S32x16.Idx → Elt F .i32) = (arr 16 (fun n => f (bIx (wid i) n)) : S16.Idx → Elt F .i32) := by
  have hw := wid_lt i
  funext y
  show f ((Rect.unit (s := S32x16) (k0_off1 i) S1x16.size (k0_off1_inb i)).emb (Shape.reshapeEquiv _ y)) = f (bIx (wid i) (y 0).val)
  rw [Shape.reshapeEquiv_cons_one]
  congr 1
  funext a
  apply Fin.ext
  have e := k0_off1_eq i
  have hy : (y 0).val < 16 := (y 0).isLt
  match a with
  | 0 => show k0_off1 i 0 + 1 * 0 = wid i % 32; rw [e]; rw [Nat.mod_eq_of_lt hw]; rfl
  | 1 => show k0_off1 i 1 + 1 * (y 0).val = (y 0).val % 16; rw [e, Nat.mod_eq_of_lt hy]; show 0 + 1 * _ = _; omega

theorem awaitO {sp sp' : Space} {s s' : Shape} {e e' : EltTy} {src : Memref sig .scVector sp' s' e'} {dst : Memref sig .scVector sp s e} {sm sm' : DmaSem sig}
    {hsrc : src.view.WordExact} {hdst : dst.view.WordExact} {k : PUnit → PT F i β} {Q : β → sProp 𝕄} {ℓ : Loc nD τ sig} {Ss : Finset (Idx ℓ)}
    {q : PosShare TreeShare} {fs : Buf (Elt F) ℓ} {D : sProp 𝕄} {N : ℕ} (hm : sm = sm') (hN : dst.view.dmaCredit = N) :
    iprop(Pend (F := F) (thr d i) sm' N ℓ Ss q fs D ∗ Ow (F := F) d i O W ∗ MayWaits (thr d i) none O)
      ⊢ iprop((iprop(D ∗ (ℓ ↦{q} fs) ∗ semVal (thr d i, .dma sm') 0 ∗ Ow (F := F) d i O W)
            -∗ wp frame (wpE (defs₀ (F := F)) 𝒱₀ (thr d i) none) Set.univ (k ⟨⟩) Q)
          -∗ wp frame (wpE (defs₀ (F := F)) 𝒱₀ (thr d i) none) Set.univ ((Prog.lift (.waitDma2 sm src dst hsrc hdst) : PT F i _) >>= k) Q) :=
  await (F := F) hm hN

theorem ldBounds {k : Vec F S16 .i32 → PT F i β} {Q : β → sProp 𝕄} {g : ℕ → BitVec 32} {hl} :
    (a8.view.loc (thr d i) ↦{fullShare} (arr 16 g : S16.Idx → Elt F .i32) : sProp 𝕄)
      ⊢ iprop(((a8.view.loc (thr d i) ↦{fullShare} (arr 16 g : S16.Idx → Elt F .i32) : sProp 𝕄) -∗ wp frame (wpE (defs₀ (F := F)) 𝒱₀ (thr d i) none) Set.univ (k (sl g 0)) Q)
        -∗ wp frame (wpE (defs₀ (F := F)) 𝒱₀ (thr d i) none) Set.univ ((Prog.lift (.load a8 (Rect.unit (s := S16) ![0] S16.size inb_S16_S16_0).toLoadRect hl) : PT F i _) >>= k) Q) := by
  have e : a8.view.readAt (Elt F) (Rect.unit (s := S16) ![0] S16.size inb_S16_S16_0).toLoadRect (arr 16 g : S16.Idx → Elt F .i32) = (sl g 0 : Vec F S16 .i32) := by
    funext y
    show g (0 + 1 * (y 0).val) = g (0 + (y 0).val)
    rw [Nat.one_mul]
  rw [← e]
  exact wp_load 𝒱₀ (thr d i) none Set.univ (Finset.subset_univ _)

/-- The bounds read, and found in range. -/
theorem head {f4 : S32x16.Idx → BitVec 32} {p : PosShare TreeShare} {Φ : _ → sProp 𝕄} (R : Rng (f4 (bIx (wid i) 0)) (f4 (bIx (wid i) 1)) lo hi) :
    iprop((a4.view.loc (thr d i) ↦{p} (f4 : S32x16.Idx → Elt F .i32)) ∗ (∃ f, a8.view.loc (thr d i) ↦{fullShare} f) ∗ semVal (thr d i, .dma s3.sem) 0
        ∗ Ow (F := F) d i O W ∗ MayWaits (thr d i) none O)
      ⊢ iprop((∀ x : (Σ' (v1 : BitVec 32) (v5 : BitVec 32) (v7 : BitVec 32) (k0_hw1 : k0_chk1 v5 v7) (v8 : FVec F S16 .f32) (v25 : BitVec 32) (v27 : BitVec 32) (c160_i32_6 : BitVec 32) (v28 : BitVec 32), BitVec 32),
          ⌜x.2.1 = f4 (bIx (wid i) 0) ∧ x.2.2.1 = f4 (bIx (wid i) 1) ∧ x.2.2.2.2.1 = broadcast S16 (FloatOps.ofBits .f32 0x00000000#32)⌝
          -∗ (a4.view.loc (thr d i) ↦{p} (f4 : S32x16.Idx → Elt F .i32)) -∗ (∃ f, a8.view.loc (thr d i) ↦{fullShare} f) -∗ semVal (thr d i, .dma s3.sem) 0
          -∗ Ow (F := F) d i O W -∗ Φ x)
        -∗ wp frame (wpE (defs₀ (F := F)) 𝒱₀ (thr d i) none) Set.univ
          (k0_part521 (F := F) i a2 h2 a3 h3 a4 h4 a5 h5 a6 h6 a7 h7 a8 h8 a9 h9 a10 h10 a11 h11 a12 h12 m13 m14 s3 s4 s5) Φ) := by
  unfold k0_part521
  dsimp only
  iintro ⟨H4, ⟨%f, H8⟩, Hs, HO, #Hmw⟩ Hk
  iapply (issue (F := F) (d := d) (i := i) (src := bRow i) (dst := a8) (sm' := s3.sem) (N := a8.view.dmaCredit) (q := p) (fs := (f4 : S32x16.Idx → Elt F .i32)) (Ss := (bRow i).view.set) (Sd := Finset.univ)
    (fd := f) (fd' := (arr 16 (fun n => f4 (bIx (wid i) n)) : S16.Idx → Elt F .i32)) rfl rfl (by decide) rfl (Finset.subset_univ _)
    (fun x _ => by rw [read_bRow]; exact congrFun (View.write_whole_univ _ _ _) x)) $$ [H4 H8 Hs]
  · isplitl [H4]; · iexact H4
    isplitl [H8]; · iexact H8
    iexact Hs
  iintro HP
  iapply (awaitO (F := F) (d := d) (i := i) (src := bRow i) (dst := a8) (sm' := s3.sem) rfl rfl) $$ [HP HO]
  · isplitl [HP]; · iexact HP
    isplitl [HO]; · iexact HO
    iexact Hmw
  iintro ⟨H8, H4, Hs, HO⟩
  iapply (ldBounds (F := F) (d := d) (i := i) (g := fun n => f4 (bIx (wid i) n))) $$ H8
  iintro H8
  iapply (wp_assume 𝒱₀ (thr d i) none Set.univ (by simp only [shapeCast_self, lane_sl]; exact chk1 R))
  iapply wpPure
  iapply Hk $$ %_ %(by simp only [shapeCast_self, lane_sl]; exact ⟨trivial, trivial, trivial⟩) H4 [H8] Hs HO
  iexists _
  iexact H8

/-- The last segment stored. -/
theorem lastW {c : Prop} {hd : Decidable c} {Fh : c → PT F i β} {J : PT F i β} {Fh0 : c → PT F i PUnit} {τ' : St F} {Φ : β → sProp 𝕄}
    (h : Tr d i C σ (dite c Fh0 fun _ => pure ⟨⟩) (fun _ σ' => σ' = τ')) (he : ∀ h, Fh h = Fh0 h >>= fun _ => J) :
    own d i C σ ⊢ iprop((own d i C τ' -∗ wp frame (wpE (defs₀ (F := F)) 𝒱₀ (thr d i) none) Set.univ J Φ)
      -∗ wp frame (wpE (defs₀ (F := F)) 𝒱₀ (thr d i) none) Set.univ (dite c Fh fun _ => J) Φ) := by
  have e : (dite c Fh fun _ => J) = ((dite c Fh0 fun _ => pure ⟨⟩ : PT F i PUnit) >>= fun _ => J) := by
    by_cases hc : c
    · rw [dif_pos hc, dif_pos hc]; exact he hc
    · rw [dif_neg hc, dif_neg hc]; rfl
  rw [e]
  iintro H Hk
  iapply (Tr.useB h) $$ H
  iintro %_ %σ' %hσ' H
  subst hσ'
  iapply Hk
  iexact H

/-! ## The block copied out -/

/-- The window of the result that is the tile's. -/
def oWin (i : grid0.Coords) : Finset S2560000.Idx := win 2560000 (wid i * 81920) 81920

/-- The result with the tile's block there. -/
def outF (i : grid0.Coords) (acc : ℕ → F .f32) : ℕ → F .f32 := fun n => acc (n - wid i * 81920)

def SrcO (d : Dev nD) (i : grid0.Coords) (acc : ℕ → F .f32) (g : ℕ → F .f32) : sProp 𝕄 :=
  iprop((a9.view.loc (thr d i) ↦{fullShare} (arr 81920 acc : S81920.Idx → Elt F .f32)) ∗ (a5.view.loc (thr d i) ↦[oWin i]{fullShare} (arr 2560000 g : S2560000.Idx → Elt F .f32)))

theorem putOut {w : ℕ} {so od : Fin 1 → ℕ} {i1 : ∀ a, so a + (⟨1, ![w]⟩ : Shape).size a ≤ S81920.size a} {i2 : ∀ a, od a + (⟨1, ![w]⟩ : Shape).size a ≤ S2560000.size a}
    {s : DmaSem sig} {hw hw' ht hx hx'} {J : PT F i β} {Q : β → sProp 𝕄} {acc g : ℕ → F .f32}
    (hs : so = ![0]) (ho : od = ![wid i * 81920]) (hp : 0 < (⟨1, ![w]⟩ : Shape).numel) (hle : w ≤ 81920) (hall : ∀ x, x < 2560000 → x < wid i * 81920 + 81920 → x < wid i * 81920 + w) :
    iprop(SrcO d i acc g ∗ semVal (thr d i, .dma s) 0 ∗ Ow (F := F) d i O W ∗ MayWaits (thr d i) none O)
      ⊢ iprop((iprop(SrcO d i acc (outF i acc) ∗ semVal (thr d i, .dma s) 0 ∗ Ow (F := F) d i O W) -∗ wp frame (wpE (defs₀ (F := F)) 𝒱₀ (thr d i) none) Set.univ J Q)
        -∗ wp frame (wpE (defs₀ (F := F)) 𝒱₀ (thr d i) none) Set.univ
          ((Prog.lift (.enqueueDma (a9.slice (Rect.unit (s := S81920) so (⟨1, ![w]⟩ : Shape).size i1) (fun _ => rfl)) (.here (a5.slice (Rect.unit (s := S2560000) od (⟨1, ![w]⟩ : Shape).size i2) (fun _ => rfl)))
            (.dma s) hw hw' ht) : PT F i _) >>= fun _ =>
           (Prog.lift (.waitDma2 s (a9.slice (Rect.unit (s := S81920) so (⟨1, ![w]⟩ : Shape).size i1) (fun _ => rfl)) (a5.slice (Rect.unit (s := S2560000) od (⟨1, ![w]⟩ : Shape).size i2) (fun _ => rfl)) hx hx') : PT F i _) >>= fun _ => J) Q) := by
  have hSd : (a5.slice (Rect.unit (s := S2560000) od (⟨1, ![w]⟩ : Shape).size i2) (fun _ => rfl)).view.set ⊆ oWin i := by
    intro x hx
    have hx := (((View.set_slice_whole main_v18_scv _).trans (set_win ho)).subset hx)
    have hx := (Finset.mem_filter.mp hx).2
    exact Finset.mem_filter.mpr ⟨Finset.mem_univ _, by omega⟩
  have hv : ∀ x ∈ oWin i, (a5.slice (Rect.unit (s := S2560000) od (⟨1, ![w]⟩ : Shape).size i2) (fun _ => rfl)).view.write (Elt F) (arr 2560000 g : S2560000.Idx → Elt F .f32)
      ((a9.slice (Rect.unit (s := S81920) so (⟨1, ![w]⟩ : Shape).size i1) (fun _ => rfl)).view.read (Elt F) (arr 81920 acc : S81920.Idx → Elt F .f32)) Finset.univ x
      = (arr 2560000 (outF i acc) : S2560000.Idx → Elt F .f32) x := by
    intro x hx
    have key := congrFun (write_win (F := F) a5.view (arr 2560000 g : S2560000.Idx → Elt F .f32) g rfl (inb := i2) ho (fun y => acc (0 + y))) x
    have e := read_win (F := F) a9.view (arr 81920 acc : S81920.Idx → Elt F .f32) acc rfl (inb := i1) hs
    have hx := (Finset.mem_filter.mp hx).2
    have hx' : (x 0).val < 2560000 := (x 0).isLt
    have := hall _ hx' hx.2
    rw [e]
    refine key.trans ?_
    simp only [arr, outF]
    rw [if_pos ⟨hx.1, this⟩, Nat.zero_add]
  unfold SrcO
  iintro ⟨⟨H9, H5⟩, Hs, HO, #Hmw⟩ Hk
  iapply (issue (F := F) (d := d) (i := i) (src := a9.slice (Rect.unit (s := S81920) so (⟨1, ![w]⟩ : Shape).size i1) (fun _ => rfl)) (dst := a5.slice (Rect.unit (s := S2560000) od (⟨1, ![w]⟩ : Shape).size i2) (fun _ => rfl))
    (sm' := s) (N := (a5.slice (Rect.unit (s := S2560000) od (⟨1, ![w]⟩ : Shape).size i2) (fun _ => rfl)).view.dmaCredit) (q := fullShare)
    (fs := (arr 81920 acc : S81920.Idx → Elt F .f32)) (Ss := (a9.slice (Rect.unit (s := S81920) so (⟨1, ![w]⟩ : Shape).size i1) (fun _ => rfl)).view.set) (Sd := oWin i)
    (fd := (arr 2560000 g : S2560000.Idx → Elt F .f32)) (fd' := (arr 2560000 (outF i acc) : S2560000.Idx → Elt F .f32)) rfl rfl hp rfl hSd hv) $$ [H9 H5 Hs]
  · isplitl [H9]; · iexact H9
    isplitl [H5]; · iexact H5
    iexact Hs
  iintro HP
  iapply (awaitO (F := F) (d := d) (i := i) (src := a9.slice (Rect.unit (s := S81920) so (⟨1, ![w]⟩ : Shape).size i1) (fun _ => rfl)) (dst := a5.slice (Rect.unit (s := S2560000) od (⟨1, ![w]⟩ : Shape).size i2) (fun _ => rfl))
    (sm' := s) rfl rfl) $$ [HP HO]
  · isplitl [HP]; · iexact HP
    isplitl [HO]; · iexact HO
    iexact Hmw
  iintro ⟨H5, H9, Hs, HO⟩
  iapply Hk
  isplitl [H9 H5]
  · isplitl [H9]; · iexact H9
    iexact H5
  isplitl [Hs]; · iexact Hs
  iexact HO

theorem wpB {p : PT F i α} {kk : α → PT F i β} {Φ : β → sProp 𝕄} :
    wp frame (wpE (defs₀ (F := F)) 𝒱₀ (thr d i) none) Set.univ p (fun x => wp frame (wpE (defs₀ (F := F)) 𝒱₀ (thr d i) none) Set.univ (kk x) Φ)
      ⊢ wp frame (wpE (defs₀ (F := F)) 𝒱₀ (thr d i) none) Set.univ (p >>= kk) Φ := by
  rw [wp_bind]

set_option maxHeartbeats 2000000 in
/-- The tile's task. -/
theorem task {f4 : S32x16.Idx → BitVec 32} {p : PosShare TreeShare} {g : ℕ → F .f32} {Φ : PUnit → sProp 𝕄}
    (R : Rng (f4 (bIx (wid i) 0)) (f4 (bIx (wid i) 1)) lo hi) (hs : ∀ r, lo ≤ r → r < hi → SegIn i (M r)) :
    iprop(Free d i m13 m14 q X M 0 ∗ Free d i m13 m14 q X M 1 ∗ work d i σ ∗ (a4.view.loc (thr d i) ↦{p} (f4 : S32x16.Idx → Elt F .i32)) ∗ (∃ f, a8.view.loc (thr d i) ↦{fullShare} f)
        ∗ semVal (thr d i, .dma s3.sem) 0 ∗ semVal (thr d i, .dma s4.sem) 0 ∗ semVal (thr d i, .dma s5.sem) 0
        ∗ (a5.view.loc (thr d i) ↦[oWin i]{fullShare} (arr 2560000 g : S2560000.Idx → Elt F .f32)) ∗ Ow (F := F) d i O W ∗ MayWaits (thr d i) none O)
      ⊢ iprop((∀ σ', ⌜Reach i (fun r c => X (r * 128 + c)) M lo hi σ'⌝ -∗ iprop(Free d i m13 m14 q X M 0 ∗ Free d i m13 m14 q X M 1 ∗ work d i (fin i σ')
          ∗ (a4.view.loc (thr d i) ↦{p} (f4 : S32x16.Idx → Elt F .i32)) ∗ (∃ f, a8.view.loc (thr d i) ↦{fullShare} f)
          ∗ semVal (thr d i, .dma s3.sem) 0 ∗ semVal (thr d i, .dma s4.sem) 0 ∗ semVal (thr d i, .dma s5.sem) 0
          ∗ (a5.view.loc (thr d i) ↦[oWin i]{fullShare} (arr 2560000 (outF i (fin i σ').acc) : S2560000.Idx → Elt F .f32)) ∗ Ow (F := F) d i O W) -∗ Φ ⟨⟩)
        -∗ wp frame (wpE (defs₀ (F := F)) 𝒱₀ (thr d i) none) Set.univ
          (cc0__sc_body (F := F) i a2 h2 a3 h3 a4 h4 a5 h5 a6 h6 a7 h7 a8 h8 a9 h9 a10 h10 a11 h11 a12 h12 m13 m14 s3 s4 s5) Φ) := by
  have hwl := wid_lt i
  unfold cc0__sc_body
  iintro ⟨HA, HB, Hw, H4, H8, Hs3, Hs4, Hs5, H5, HO, #Hmw⟩ Hk
  iapply wpB
  iapply (head (O := O) (W := W) R) $$ [H4 H8 Hs3 HO]
  · isplitl [H4]; · iexact H4
    isplitl [H8]; · iexact H8
    isplitl [Hs3]; · iexact Hs3
    isplitl [HO]; · iexact HO
    iexact Hmw
  iintro %x %hx H4 H8 Hs3 HO
  obtain ⟨v1, v5, v7, hw1, v8, v25, v27, c160, v28, c0⟩ := x
  have R' : Rng v5 v7 lo hi := by
    have e5 : v5 = _ := hx.1
    have e7 : v7 = _ := hx.2.1
    rw [e5, e7]; exact R
  have hv : v8 = _ := hx.2.2
  dsimp only
  iapply wpB
  iapply (mid (σ := σ) (X := X) (M := M) (q := q) (O := O) (W := W) R' hv hs) $$ [HA HB Hw HO]
  · isplitl [HA]; · iexact HA
    isplitl [HB]; · iexact HB
    isplitl [Hw]; · iexact Hw
    isplitl [HO]; · iexact HO
    iexact Hmw
  iintro %x %σ' %hr HA HB Hw HO
  obtain ⟨v61, hw78⟩ := x
  obtain ⟨hr, hv61⟩ := hr
  have hcur : CurOK i v61 := by rw [show v61 = σ'.cur from hv61]; exact hr.cur hs
  dsimp only
  ihave HC := (hold (σ := σ')) $$ [HA Hw]
  · isplitl [HA]; · iexact HA
    iexact Hw
  icases HC with ⟨%C, %hC, Hown, HS⟩
  iapply (lastW (last (h2 := h2) (h3 := h3) (h4 := h4) (h5 := h5) (h6 := h6) (h7 := h7) (h8 := h8) (h9 := h9) (h10 := h10) (h11 := h11) (h12 := h12) (m13 := m13) (m14 := m14) (s3 := s3) (s4 := s4) (s5 := s5)
    (d := d) (C := C) (Q := fun _ τ => τ = fin i σ') (v1 := v1) (v61 := v61) (hw := hw78) (J := (pure PUnit.unit : PT F i PUnit)) hv61 hcur (Tr.ret rfl))
    (fun h => by dsimp only; simp only [bind_assoc, pure_bind])) $$ Hown
  iintro Hown
  ihave HC := (rest hC) $$ [Hown HS]
  · isplitl [Hown]; · iexact Hown
    iexact HS
  icases HC with ⟨HA, Hw⟩
  unfold work
  icases Hw with ⟨H9, Hw⟩
  iapply (guardW (A := iprop(SrcO d i (fin i σ').acc g ∗ semVal (thr d i, .dma s4.sem) 0 ∗ Ow (F := F) d i O W ∗ MayWaits (thr d i) none O))
    (B := iprop(SrcO d i (fin i σ').acc (if wid i < 31 then outF i (fin i σ').acc else g) ∗ semVal (thr d i, .dma s4.sem) 0 ∗ Ow (F := F) d i O W))
    (fun h => by
      rw [if_pos ((cond85_iff i).mp h)]
      exact putOut (w := 81920) rfl (off262 i) (by decide) (by decide) (fun _ _ h => h))
    (fun h => by
      rw [if_neg (fun h' => h ((cond85_iff i).mpr h'))]
      iintro ⟨H, Hs, HO, -⟩
      isplitl [H]; · iexact H
      isplitl [Hs]; · iexact Hs
      iexact HO)) $$ [H9 H5 Hs4 HO]
  · isplitl [H9 H5]
    · unfold SrcO
      isplitl [H9]; · iexact H9
      iexact H5
    isplitl [Hs4]; · iexact Hs4
    isplitl [HO]; · iexact HO
    iexact Hmw
  iintro ⟨Hio, Hs4, HO⟩
  iapply (guardW (A := iprop(SrcO d i (fin i σ').acc (if wid i < 31 then outF i (fin i σ').acc else g) ∗ semVal (thr d i, .dma s5.sem) 0 ∗ Ow (F := F) d i O W ∗ MayWaits (thr d i) none O))
    (B := iprop(SrcO d i (fin i σ').acc (outF i (fin i σ').acc) ∗ semVal (thr d i, .dma s5.sem) 0 ∗ Ow (F := F) d i O W))
    (fun h => by
      have h31 := (cond86_iff i).mp h
      have hall : ∀ x : ℕ, x < 2560000 → x < wid i * 81920 + 81920 → x < wid i * 81920 + 20480 := by
        intro x hx _
        rw [h31]
        exact hx
      exact putOut (w := 20480) rfl (off263 i) (by decide) (by decide) hall)
    (fun h => by
      have h31 : wid i < 31 := by
        have : ¬wid i = 31 := fun h' => h ((cond86_iff i).mpr h')
        omega
      rw [if_pos h31]
      iintro ⟨H, Hs, HO, -⟩
      isplitl [H]; · iexact H
      isplitl [Hs]; · iexact Hs
      iexact HO)) $$ [Hio Hs5 HO]
  · isplitl [Hio]; · iexact Hio
    isplitl [Hs5]; · iexact Hs5
    isplitl [HO]; · iexact HO
    iexact Hmw
  iintro ⟨Hio, Hs5, HO⟩
  unfold SrcO
  icases Hio with ⟨H9, H5⟩
  iapply wpPure
  iapply Hk $$ %σ' %hr
  isplitl [HA]; · iexact HA
  isplitl [HB]; · iexact HB
  isplitl [H9 Hw]
  · isplitl [H9]; · iexact H9
    iexact Hw
  isplitl [H4]; · iexact H4
  isplitl [H8]; · iexact H8
  isplitl [Hs3]; · iexact Hs3
  isplitl [Hs4]; · iexact Hs4
  isplitl [Hs5]; · iexact Hs5
  isplitl [H5]; · iexact H5
  iexact HO

end Cert.Proof.TileI

end
-- ==== Proof.TileI.Launch.lean ====
/-
  What a tile is handed and what it hands back, and its task run on them.
-/
module

public import proofs.«01_k».proof.Proof.TileI.Body

@[expose] public section

noncomputable section

namespace Cert.Proof.TileI

open Cert.KernelIdeal Cert.KernelIdeal.Gen
open Cert.Proof.Lanes Cert.Proof.Words
open Idealize.ShloMosaic
open Idealize.ShloMosaic.SparseCore (S V T)
open Idealize.ShloMosaic.SparseCore.Cfg (HIx Pay mem_ownCells ownCells ownRefs ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig (HIx 1) (Elt F) ℕ UU ℕ

/-! ## Arrays of one dimension as functions on the naturals -/

/-- A one-dimensional array read at any natural. -/
def nat1 {α : Type} {n : ℕ} (hn : 0 < n) (f : (⟨1, ![n]⟩ : Shape).Idx → α) : ℕ → α := fun k => f fun a => match a with | 0 => (⟨k % n, Nat.mod_lt _ hn⟩ : Fin n)

theorem arr_nat1 {α : Type} {n : ℕ} (hn : 0 < n) (f : (⟨1, ![n]⟩ : Shape).Idx → α) : arr n (nat1 hn f) = f := by
  funext x
  show f _ = f x
  congr 1
  funext a
  obtain rfl : a = 0 := Subsingleton.elim _ _
  exact Fin.ext (Nat.mod_eq_of_lt (x 0).isLt)

/-! ## The arrays of the device -/

abbrev xLoc (d : Dev nD) : Loc nD τ sig := (SparseCore.T d).loc main_v17
abbrev gLoc (d : Dev nD) : Loc nD τ sig := (SparseCore.T d).loc main_arg2
abbrev bLoc (d : Dev nD) : Loc nD τ sig := (SparseCore.T d).loc main_v16
abbrev oLoc (d : Dev nD) : Loc nD τ sig := (SparseCore.T d).loc main_v18

/-- What the tiles read: the rows, the membership words, the table of bounds. -/
structure In (F : FTy → Type) where
  x : S40960000.Idx → F .f32
  g : S320000.Idx → BitVec 32
  b : S32x16.Idx → BitVec 32

variable (I : Dev nD → In F)

def rows (d : Dev nD) : ℕ → F .f32 := nat1 (n := 40960000) (by decide) (I d).x
def segs (d : Dev nD) : ℕ → BitVec 32 := nat1 (n := 320000) (by decide) (I d).g
def loOf (d : Dev nD) (i : grid0.Coords) : ℕ := ((I d).b (bIx (wid i) 0)).toNat
def hiOf (d : Dev nD) (i : grid0.Coords) : ℕ := ((I d).b (bIx (wid i) 1)).toNat

/-- The bounds of every tile are in order, and the rows between them are of the tile's segments. -/
def BoundsOK : Prop := ∀ d i, Rng ((I d).b (bIx (wid i) 0)) ((I d).b (bIx (wid i) 1)) (loOf I d i) (hiOf I d i)
  ∧ ∀ r, loOf I d i ≤ r → r < hiOf I d i → SegIn i (segs I d r)

/-- What a tile reads, held at a share. -/
def rd (d : Dev nD) (q : PosShare TreeShare) : sProp 𝕄 :=
  iprop((xLoc d ↦{q} ((I d).x : S40960000.Idx → Elt F .f32)) ∗ (gLoc d ↦{q} ((I d).g : S320000.Idx → Elt F .i32)) ∗ (bLoc d ↦{q} ((I d).b : S32x16.Idx → Elt F .i32)))

/-- The result's block of a tile is what the tile's rows leave in its accumulator. -/
def Res (d : Dev nD) (i : grid0.Coords) (f : S2560000.Idx → F .f32) : Prop :=
  ∃ σ, Reach i (fun r c => rows I d (r * 128 + c)) (segs I d) (loOf I d i) (hiOf I d i) σ ∧ ∀ x ∈ oWin i, f x = outF i (fin i σ).acc (x 0).val

theorem Res.congr {d : Dev nD} {i : grid0.Coords} {f f' : S2560000.Idx → F .f32} (h : Res I d i f) (e : ∀ x ∈ oWin i, f' x = f x) : Res I d i f' := by
  obtain ⟨σ, h1, h2⟩ := h
  exact ⟨σ, h1, fun x hx => (e x hx).trans (h2 x hx)⟩

/-! ## A tile's own buffers and semaphores -/

def bufOf : Fin 7 → Ref sig .scVector := ![cc0_scratch0, cc0_scratch1, cc0_scratch2, cc0_scratch3, cc0_scratch4, cc0_scratch5, cc0_scratch6]
def semOf : Fin 7 → SemLoc sig := ![.dma (slotSem cc0_scratch7 0), .dma (slotSem cc0_scratch7 1), .dma (slotSem cc0_scratch8 0), .dma (slotSem cc0_scratch8 1),
  .dma cc0_scoped0.sem, .dma cc0_scoped1.sem, .dma cc0_scoped2.sem]

theorem bufOf_inj : Function.Injective bufOf := by decide
theorem semOf_inj : Function.Injective semOf := by decide

theorem big7 (Φ : Fin 7 → sProp 𝕄) : bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} from by decide, SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

section Own

variable (d : Dev nD) (c : Fin τ.nSC) (j : Fin τ.nSub)

def bufSet : Finset (DevRef τ sig) := Finset.univ.image fun k : Fin 7 => (Proc.scVector c j : Proc τ).devRef (bufOf k)
def semSet : Finset (GSem nD τ sig) := Finset.univ.image fun k : Fin 7 => ((V d c j, semOf k) : GSem nD τ sig)

theorem own_bufs : (ownBufs (V d c j) : sProp 𝕄)
    = iprop((bigSep Finset.univ fun k : Fin 7 => iprop(∃ f, (V d c j).loc (bufOf k) ↦{fullShare} f))
      ∗ bigSep (ownRefs (τ := τ) (.scVector c j) \ bufSet c j) fun b => iprop(∃ f, ((d, b) : Loc nD τ sig) ↦{fullShare} f)) := by
  unfold ownBufs
  rw [SparseCore.bigSep_sdiff_split' (t := bufSet c j) (s := ownRefs (τ := τ) (.scVector c j)) ?_]
  · unfold bufSet
    rw [SparseCore.bigSep_image_of_injOn (fun a _ b _ e => bufOf_inj (Proc.devRef_injective _ e))]
  · intro b hb
    obtain ⟨k, -, rfl⟩ := Finset.mem_image.mp hb
    refine SparseCore.Cfg.mem_ownRefs_of_owner ?_
    fin_cases k <;> rfl

theorem own_sems : (ownSems0 (V d c j) : sProp 𝕄)
    = iprop((bigSep Finset.univ fun k : Fin 7 => semVal ((V d c j, semOf k) : GSem nD τ sig) 0)
      ∗ bigSep (ownCells (V d c j) \ semSet d c j) fun g => semVal g 0) := by
  unfold ownSems0
  rw [SparseCore.bigSep_sdiff_split' (t := semSet d c j) (s := ownCells (V d c j)) ?_]
  · unfold semSet
    rw [SparseCore.bigSep_image_of_injOn (fun a _ b _ e => semOf_inj (Prod.mk.inj e).2)]
  · intro g hg
    obtain ⟨k, -, rfl⟩ := Finset.mem_image.mp hg
    refine mem_ownCells.mpr ⟨rfl, ?_⟩
    show (semOf k).isScoped .scVector = true
    clear hg
    revert k
    decide

end Own

/-! ## The buffers in the pieces the task uses -/

theorem rowSet_univ : rowSet 0 ∪ rowSet 1 = Finset.univ := by
  ext x
  have h : (x 0).val < 40960 := (x 0).isLt
  simp only [rowSet, Finset.mem_union, Finset.mem_filter, Finset.mem_univ, true_and, iff_true]
  omega
theorem rowSet_disj : Disjoint (rowSet 0) (rowSet 1) := Finset.disjoint_left.mpr fun x h1 h2 => by
  simp only [rowSet, Finset.mem_filter, Finset.mem_univ, true_and] at h1 h2
  omega
theorem memSet_disj : Disjoint (memSet 0) (memSet 1) := Finset.disjoint_left.mpr fun x h1 h2 => by
  simp only [memSet, Finset.mem_filter, Finset.mem_univ, true_and] at h1 h2
  omega
theorem memSet_univ : memSet 0 ∪ memSet 1 = Finset.univ := by
  ext x
  have h : (x 0).val < 352 := (x 0).isLt
  simp only [memSet, Finset.mem_union, Finset.mem_filter, Finset.mem_univ, true_and, iff_true]
  omega

/-- A buffer held on two sets that make it up, at some contents each, is held whole at some contents. -/
theorem two_join {ℓ : Loc nD τ sig} {A B : Finset (Idx ℓ)} (h : Disjoint A B) (hu : A ∪ B = Finset.univ) :
    iprop((∃ f, ℓ ↦[A]{fullShare} f) ∗ (∃ f, ℓ ↦[B]{fullShare} f)) ⊢ (iprop(∃ f, ℓ ↦{fullShare} f) : sProp 𝕄) := by
  iintro ⟨⟨%f, H⟩, %g, H'⟩
  ihave H := (pointsTo_join h) $$ [H H']
  · isplitl [H] <;> iassumption
  rw [hu]
  iexists _; iexact H

theorem two_split {ℓ : Loc nD τ sig} {A B : Finset (Idx ℓ)} (h : Disjoint A B) (hu : A ∪ B = Finset.univ) {f : Buf (Elt F) ℓ} :
    (ℓ ↦{fullShare} f : sProp 𝕄) ⊢ iprop((ℓ ↦[A]{fullShare} f) ∗ (ℓ ↦[B]{fullShare} f)) := by
  have e := (pointsTo_union (Ix := HIx 1) (Name := ℕ) (U := UU) (Lvl := ℕ) (ℓ := ℓ) (f := f) (q := fullShare) h).1
  rw [hu] at e
  exact e

section Task

variable (d : Dev nD) (i : grid0.Coords)

/-- The shares the two slots read by. -/
def slotQ (q : PosShare TreeShare) (b : ℕ) : PosShare TreeShare := if b = 0 then q.left else q.right

theorem halves {ℓ : Loc nD τ sig} {q : PosShare TreeShare} {f : Buf (Elt F) ℓ} :
    (ℓ ↦{q} f : sProp 𝕄) ⊣⊢ iprop((ℓ ↦{slotQ q 0} f) ∗ (ℓ ↦{slotQ q 1} f)) := pointsTo_share (PosShare.mem_left_op_right q)

theorem is_arr {α : Type} {n : ℕ} (hn : 0 < n) (f : (⟨1, ![n]⟩ : Shape).Idx → α) : ∃ g, f = arr n g := ⟨nat1 hn f, (arr_nat1 hn f).symm⟩

/-- A slot's part of what the launch hands the tile. -/
theorem slot_free (q : PosShare TreeShare) (b : ℕ) (f6 : S40960.Idx → F .f32) (f7 : S352.Idx → BitVec 32) :
    iprop((a6.view.loc (thr d i) ↦[rowSet b]{fullShare} (f6 : S40960.Idx → Elt F .f32)) ∗ (a7.view.loc (thr d i) ↦[memSet b]{fullShare} (f7 : S352.Idx → Elt F .i32))
      ∗ (xLoc d ↦{slotQ q b} ((I d).x : S40960000.Idx → Elt F .f32)) ∗ (gLoc d ↦{slotQ q b} ((I d).g : S320000.Idx → Elt F .i32))
      ∗ semVal (thr d i, .dma (slotSem cc0_scratch7 b)) 0 ∗ semVal (thr d i, .dma (slotSem cc0_scratch8 b)) 0)
    ⊢ (Free d i cc0_scratch7 cc0_scratch8 (slotQ q) (rows I d) (segs I d) b : sProp 𝕄) := by
  obtain ⟨g6, rfl⟩ := is_arr (n := 40960) (by decide) f6
  obtain ⟨g7, rfl⟩ := is_arr (n := 352) (by decide) f7
  unfold Free rows segs
  rw [arr_nat1, arr_nat1]
  iintro ⟨H6, H7, Hx, Hg, Hr, Hm⟩
  isplitl [H6]; · iexists g6; iexact H6
  isplitl [H7]; · iexists g7; iexact H7
  isplitl [Hx]; · iexact Hx
  isplitl [Hg]; · iexact Hg
  isplitl [Hr] <;> iassumption

theorem free_slot (q : PosShare TreeShare) (b : ℕ) :
    (Free d i cc0_scratch7 cc0_scratch8 (slotQ q) (rows I d) (segs I d) b : sProp 𝕄)
    ⊢ iprop((∃ f, a6.view.loc (thr d i) ↦[rowSet b]{fullShare} f) ∗ (∃ f, a7.view.loc (thr d i) ↦[memSet b]{fullShare} f)
      ∗ (xLoc d ↦{slotQ q b} ((I d).x : S40960000.Idx → Elt F .f32)) ∗ (gLoc d ↦{slotQ q b} ((I d).g : S320000.Idx → Elt F .i32))
      ∗ semVal (thr d i, .dma (slotSem cc0_scratch7 b)) 0 ∗ semVal (thr d i, .dma (slotSem cc0_scratch8 b)) 0) := by
  unfold Free rows segs
  rw [arr_nat1, arr_nat1]
  iintro ⟨⟨%g6, H6⟩, ⟨%g7, H7⟩, Hx, Hg, Hr, Hm⟩
  isplitl [H6]; · iexists _; iexact H6
  isplitl [H7]; · iexists _; iexact H7
  isplitl [Hx]; · iexact Hx
  isplitl [Hg]; · iexact Hg
  isplitl [Hr] <;> iassumption

/-- The state at the task's start. -/
def st0 (f9 : S81920.Idx → F .f32) (f10 f11 : S128.Idx → F .f32) (f12 : S8.Idx → BitVec 32) : St F :=
  ⟨nat1 (n := 81920) (by decide) f9, nat1 (n := 128) (by decide) f10, nat1 (n := 128) (by decide) f11, nat1 (n := 8) (by decide) f12 0⟩

theorem cur_disj : Disjoint curSet (Finset.univ \ curSet) := Finset.disjoint_sdiff
theorem cur_univ : curSet ∪ (Finset.univ \ curSet) = Finset.univ := Finset.union_sdiff_of_subset (Finset.subset_univ _)

theorem work_in (f9 : S81920.Idx → F .f32) (f10 f11 : S128.Idx → F .f32) (f12 : S8.Idx → BitVec 32) :
    iprop((a9.view.loc (thr d i) ↦{fullShare} (f9 : S81920.Idx → Elt F .f32)) ∗ (a10.view.loc (thr d i) ↦{fullShare} (f10 : S128.Idx → Elt F .f32))
      ∗ (a11.view.loc (thr d i) ↦{fullShare} (f11 : S128.Idx → Elt F .f32)) ∗ (a12.view.loc (thr d i) ↦[curSet]{fullShare} (f12 : S8.Idx → Elt F .i32)))
    ⊢ (work d i (st0 f9 f10 f11 f12) : sProp 𝕄) := by
  unfold work st0
  dsimp only
  rw [arr_nat1, arr_nat1, arr_nat1]
  iintro ⟨H9, H10, H11, H12⟩
  isplitl [H9]; · iexact H9
  isplitl [H10]; · iexact H10
  isplitl [H11]; · iexact H11
  iapply (Entails.of_eq (pointsTo_congr ?_)) $$ H12
  intro x hx
  have h0 : (x 0).val = 0 := (Finset.mem_filter.mp hx).2
  show f12 x = f12 _
  congr 1
  funext (a : Fin 1)
  obtain rfl : a = 0 := Subsingleton.elim _ _
  exact Fin.ext h0

/-- What a tile's task needs is what the launch hands it. -/
theorem tile_body (ok : BoundsOK I) (O : CellTallies nD τ sig (HIx 1)) (W : Waits sig (HIx 1)) (hO : ∀ g, O g none = 0) (q : PosShare TreeShare) (f : S2560000.Idx → F .f32) :
    iprop(levAts (K (F := F)).L (K (F := F)).lev ∗ emp
        ∗ (rd I d q ∗ (oLoc d ↦[oWin i]{fullShare} (f : S2560000.Idx → Elt F .f32)))
        ∗ scopedBufs (thr d i) ∗ scopedSems0 (thr d i) ∗ owes (thr d i) O W)
      ⊢ wp frame (wpE (defs₀ (F := F)) 𝒱₀ (thr d i) none) Set.univ
          (cc0__sc_body (F := F) i a2 (Memref.isWhole_whole _) a3 (Memref.isWhole_whole _) a4 (Memref.isWhole_whole _) a5 (Memref.isWhole_whole _) a6 (Memref.isWhole_whole _)
            a7 (Memref.isWhole_whole _) a8 (Memref.isWhole_whole _) a9 (Memref.isWhole_whole _) a10 (Memref.isWhole_whole _) a11 (Memref.isWhole_whole _) a12 (Memref.isWhole_whole _)
            cc0_scratch7 cc0_scratch8 cc0_scoped0 cc0_scoped1 cc0_scoped2)
          fun _ => iprop((rd I d q ∗ ∃ f : S2560000.Idx → F .f32, ⌜Res I d i f⌝ ∗ (oLoc d ↦[oWin i]{fullShare} (f : S2560000.Idx → Elt F .f32)))
            ∗ scopedBufs (thr d i) ∗ scopedSems0 (thr d i) ∗ ∃ W', ⌜∀ p ∈ W', p ∈ W ∨ p.2 = none⌝ ∗ owes (thr d i) O W') := by
  rw [(K (F := F)).scopedBufs_V facts d (cV i) (jV i), SparseCore.Cfg.scopedSems0_V (Val := Elt F) d (cV i) (jV i), own_bufs, own_sems, big7, big7]
  obtain ⟨g, rfl⟩ := is_arr (n := 2560000) (by decide) f
  unfold rd
  iintro ⟨#Hlv, -, ⟨⟨Hx, Hg, Hb⟩, Ho⟩, ⟨⟨⟨%f6, H6⟩, ⟨%f7, H7⟩, H8, ⟨%f9, H9⟩, ⟨%f10, H10⟩, ⟨%f11, H11⟩, ⟨%f12, H12⟩⟩, Hbufs⟩, ⟨⟨Hr0, Hr1, Hm0, Hm1, Hs3, Hs4, Hs5⟩, Hsems⟩, HO⟩
  ihave H6 := (two_split (F := F) rowSet_disj rowSet_univ) $$ H6
  icases H6 with ⟨H60, H61⟩
  ihave H7 := (two_split (F := F) memSet_disj memSet_univ) $$ H7
  icases H7 with ⟨H70, H71⟩
  ihave H12 := (two_split (F := F) cur_disj cur_univ) $$ H12
  icases H12 with ⟨H12, Hc⟩
  ihave Hx := (halves (F := F)).1 $$ Hx
  icases Hx with ⟨Hx0, Hx1⟩
  ihave Hg := (halves (F := F)).1 $$ Hg
  icases Hg with ⟨Hg0, Hg1⟩
  ihave HA := (slot_free I d i q 0 f6 f7) $$ [H60 H70 Hx0 Hg0 Hr0 Hm0]
  · isplitl [H60]; · iexact H60
    isplitl [H70]; · iexact H70
    isplitl [Hx0]; · iexact Hx0
    isplitl [Hg0]; · iexact Hg0
    isplitl [Hr0]; · iexact Hr0
    iexact Hm0
  ihave HB := (slot_free I d i q 1 f6 f7) $$ [H61 H71 Hx1 Hg1 Hr1 Hm1]
  · isplitl [H61]; · iexact H61
    isplitl [H71]; · iexact H71
    isplitl [Hx1]; · iexact Hx1
    isplitl [Hg1]; · iexact Hg1
    isplitl [Hr1]; · iexact Hr1
    iexact Hm1
  ihave Hw := (work_in d i f9 f10 f11 f12) $$ [H9 H10 H11 H12]
  · isplitl [H9]; · iexact H9
    isplitl [H10]; · iexact H10
    isplitl [H11]; · iexact H11
    iexact H12
  iapply (task (d := d) (i := i) (O := O) (W := W) (ok d i).1 (ok d i).2) $$ [HA HB Hw Hb H8 Hs3 Hs4 Hs5 Ho HO]
  · isplitl [HA]; · iexact HA
    isplitl [HB]; · iexact HB
    isplitl [Hw]; · iexact Hw
    isplitl [Hb]; · iexact Hb
    isplitl [H8]; · iexact H8
    isplitl [Hs3]; · iexact Hs3
    isplitl [Hs4]; · iexact Hs4
    isplitl [Hs5]; · iexact Hs5
    isplitl [Ho]; · iexact Ho
    isplitl [HO]
    · unfold Ow
      iexists W
      isplitr
      · ipureintro; exact fun p hp => .inl hp
      iexact HO
    · iapply ((K (F := F)).mayWaits_none hO); iexact Hlv
  iintro %σ %hσ ⟨HA, HB, Hw, Hb, H8, Hs3, Hs4, Hs5, Ho, HO⟩
  ihave HA := (free_slot I d i q 0) $$ HA
  icases HA with ⟨H60, H70, Hx0, Hg0, Hr0, Hm0⟩
  ihave HB := (free_slot I d i q 1) $$ HB
  icases HB with ⟨H61, H71, Hx1, Hg1, Hr1, Hm1⟩
  unfold work Ow
  icases Hw with ⟨H9, H10, H11, H12⟩
  isplitl [Hx0 Hx1 Hg0 Hg1 Hb Ho]
  · isplitl [Hx0 Hx1 Hg0 Hg1 Hb]
    · isplitl [Hx0 Hx1]
      · iapply (halves (F := F)).2; isplitl [Hx0] <;> iassumption
      isplitl [Hg0 Hg1]
      · iapply (halves (F := F)).2; isplitl [Hg0] <;> iassumption
      iexact Hb
    · iexists _
      isplitr
      rotate_left
      · iexact Ho
      · ipureintro; exact ⟨σ, hσ, fun _ _ => rfl⟩
  isplitl [H60 H61 H70 H71 H8 H9 H10 H11 H12 Hc Hbufs]
  · isplitr [Hbufs]
    · isplitl [H60 H61]
      · iapply (two_join (F := F) rowSet_disj rowSet_univ)
        isplitl [H60]; · iexact H60
        iexact H61
      isplitl [H70 H71]
      · iapply (two_join (F := F) memSet_disj memSet_univ)
        isplitl [H70]; · iexact H70
        iexact H71
      isplitl [H8]; · iexact H8
      isplitl [H9]; · iexists _; iexact H9
      isplitl [H10]; · iexists _; iexact H10
      isplitl [H11]; · iexists _; iexact H11
      iapply (two_join (F := F) cur_disj cur_univ)
      isplitl [H12]
      · iexists _; iexact H12
      · iexists _; iexact Hc
    · iexact Hbufs
  isplitl [Hr0 Hr1 Hm0 Hm1 Hs3 Hs4 Hs5 Hsems]
  · isplitr [Hsems]
    · isplitl [Hr0]; · iexact Hr0
      isplitl [Hr1]; · iexact Hr1
      isplitl [Hm0]; · iexact Hm0
      isplitl [Hm1]; · iexact Hm1
      isplitl [Hs3]; · iexact Hs3
      isplitl [Hs4]; · iexact Hs4
      iexact Hs5
    · iexact Hsems
  iexact HO

end Task

end Cert.Proof.TileI

end
-- ==== Proof.TileI.Main.lean ====
/-
  The launch: what the calls carry, the tiles' obligations, the host's program around the call, and the whole run.
-/
module

public import proofs.«01_k».proof.Proof.TileI.Launch
public import Idealize.ShloMosaic.Lib.Pipeline.Frame

@[expose] public section

noncomputable section

namespace Cert.Proof.TileI

open Cert.KernelIdeal Cert.KernelIdeal.Gen
open Cert.Proof.Lanes Cert.Proof.Words
open Idealize.ShloMosaic
open Idealize.ShloMosaic.SparseCore (S V)
open Idealize.ShloMosaic.SparseCore.Cfg (HIx Pay)
open Idealize.ShloMosaic.StableHlo (held after)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig (HIx 1) (Elt F) ℕ UU ℕ

/-! ## The tiles, by SparseCore and subcore -/

/-- The coordinates of subcore `s` of SparseCore `c`. -/
def at2 (c : Fin (grid0.bound 0)) (s : Fin (grid0.bound 1)) : grid0.Coords :=
  fun | 0 => c | 1 => s | ⟨_ + 2, h⟩ => absurd h (Nat.not_lt.2 (Nat.le_add_left _ _))

theorem wid_at2 (c : Fin (grid0.bound 0)) (s : Fin (grid0.bound 1)) : wid (at2 c s) = 2 * s.val + c.val := rfl

/-- The result's elements a SparseCore's tiles write. -/
def coreWin (c : Fin (grid0.bound 0)) : Finset S2560000.Idx := Finset.univ.biUnion fun s : Fin (grid0.bound 1) => oWin (at2 c s)

theorem mem_oWin {i : grid0.Coords} {x : S2560000.Idx} : x ∈ oWin i ↔ wid i * 81920 ≤ (x 0).val ∧ (x 0).val < wid i * 81920 + 81920 := by
  unfold oWin win
  simp only [Finset.mem_filter, Finset.mem_univ, true_and]

theorem oWin_disj (c : Fin (grid0.bound 0)) : ∀ s ∈ (Finset.univ : Finset (Fin (grid0.bound 1))), ∀ s' ∈ (Finset.univ : Finset (Fin (grid0.bound 1))), s ≠ s' → Disjoint (oWin (at2 c s)) (oWin (at2 c s')) :=
  fun s _ s' _ h => Finset.disjoint_left.mpr fun x h1 h2 => by
    rw [mem_oWin, wid_at2] at h1 h2
    exact h (Fin.ext (by omega))

theorem coreWin_disj : ∀ c ∈ (Finset.univ : Finset (Fin (grid0.bound 0))), ∀ c' ∈ (Finset.univ : Finset (Fin (grid0.bound 0))), c ≠ c' → Disjoint (coreWin c) (coreWin c') :=
  fun c _ c' _ h => Finset.disjoint_left.mpr fun x h1 h2 => by
    obtain ⟨s, -, h1⟩ := Finset.mem_biUnion.mp h1
    obtain ⟨s', -, h2⟩ := Finset.mem_biUnion.mp h2
    rw [mem_oWin, wid_at2] at h1 h2
    have hc : c.val < 2 := c.isLt
    have hc' : c'.val < 2 := c'.isLt
    exact h (Fin.ext (by omega))

theorem coreWin_univ : (Finset.univ : Finset (Fin (grid0.bound 0))).biUnion coreWin = Finset.univ := by
  ext x
  have hx : (x 0).val < 2560000 := (x 0).isLt
  simp only [Finset.mem_univ, iff_true]
  refine Finset.mem_biUnion.mpr ⟨(⟨(x 0).val / 81920 % 2, Nat.mod_lt _ (by decide)⟩ : Fin 2), Finset.mem_univ _,
    Finset.mem_biUnion.mpr ⟨(⟨(x 0).val / 81920 / 2, by omega⟩ : Fin 16), Finset.mem_univ _, ?_⟩⟩
  rw [mem_oWin]
  show (2 * ((x 0).val / 81920 / 2) + (x 0).val / 81920 % 2) * 81920 ≤ (x 0).val ∧ (x 0).val < (2 * ((x 0).val / 81920 / 2) + (x 0).val / 81920 % 2) * 81920 + 81920
  omega

/-! ## What the calls carry -/

section Payload

variable (I : Dev nD → In F)

/-- The share a SparseCore reads by, and a tile. -/
abbrev qC (c : ℕ) : PosShare TreeShare := shareTokN fullShare c
abbrev qT (c s : ℕ) : PosShare TreeShare := shareTokN (qC c) s

abbrev outAny (d : Dev nD) (A : Finset S2560000.Idx) : sProp 𝕄 := iprop(∃ f : S2560000.Idx → F .f32, oLoc d ↦[A]{fullShare} (f : S2560000.Idx → Elt F .f32))

def goP (d : Dev nD) (c : Fin (grid0.bound 0)) (s : Fin (grid0.bound 1)) : sProp 𝕄 :=
  iprop(rd I d (qT c.val s.val) ∗ outAny d (oWin (at2 c s)))
def tdP (d : Dev nD) (c : Fin (grid0.bound 0)) (s : Fin (grid0.bound 1)) : sProp 𝕄 :=
  iprop(rd I d (qT c.val s.val) ∗ ∃ f : S2560000.Idx → F .f32, ⌜Res I d (at2 c s) f⌝ ∗ (oLoc d ↦[oWin (at2 c s)]{fullShare} (f : S2560000.Idx → Elt F .f32)))
def stP (d : Dev nD) (c : Fin (grid0.bound 0)) : sProp 𝕄 := iprop(rd I d (qC c.val) ∗ outAny d (coreWin c))
def dnP (d : Dev nD) (c : Fin (grid0.bound 0)) : sProp 𝕄 :=
  iprop(rd I d (qC c.val) ∗ ∃ f : S2560000.Idx → F .f32, ⌜∀ s, Res I d (at2 c s) f⌝ ∗ (oLoc d ↦[coreWin c]{fullShare} (f : S2560000.Idx → Elt F .f32)))

def P : (K (F := F)).Pay (nD := nD) (Val := Elt F) (Name := ℕ) (U := UU) where
  st := fun q d c => match q with | 0 => stP I d c
  dn := fun q d c => match q with | 0 => dnP I d c
  go := fun q d c s => match q with | 0 => goP I d c s
  td := fun q d c s => match q with | 0 => tdP I d c s
  x := fun _ _ => iprop(emp)

instance P_storable : (P I).IsStorable where
  st q d c := match q with | 0 => (by unfold stP rd; infer_instance : BI.Storable (upEmb : UEmb _ 𝕄) (stP I d c))
  dn q d c := match q with | 0 => (by unfold dnP rd; infer_instance : BI.Storable (upEmb : UEmb _ 𝕄) (dnP I d c))
  go q d c s := match q with | 0 => (by unfold goP rd; infer_instance : BI.Storable (upEmb : UEmb _ 𝕄) (goP I d c s))
  td q d c s := match q with | 0 => (by unfold tdP rd; infer_instance : BI.Storable (upEmb : UEmb _ 𝕄) (tdP I d c s))

theorem rd_split (d : Dev nD) (q : PosShare TreeShare) (n : ℕ) :
    (rd I d q : sProp 𝕄) ⊣⊢ iprop(rd I d (shareDrop q n) ∗ bigSep Finset.univ fun s : Fin n => rd I d (shareTokN q s.val)) := by
  unfold rd
  rw [bigSep_sep', bigSep_sep']
  constructor
  · iintro ⟨Hx, Hg, Hb⟩
    ihave Hx := (pointsTo_toks_split q n) $$ Hx
    ihave Hg := (pointsTo_toks_split q n) $$ Hg
    ihave Hb := (pointsTo_toks_split q n) $$ Hb
    icases Hx with ⟨Hx, Hx'⟩
    icases Hg with ⟨Hg, Hg'⟩
    icases Hb with ⟨Hb, Hb'⟩
    isplitl [Hx Hg Hb]
    · isplitl [Hx]; · iexact Hx
      isplitl [Hg]; · iexact Hg
      iexact Hb
    · isplitl [Hx']; · iexact Hx'
      isplitl [Hg']; · iexact Hg'
      iexact Hb'
  · iintro ⟨⟨Hx, Hg, Hb⟩, Hx', Hg', Hb'⟩
    isplitl [Hx Hx']
    · iapply (pointsTo_toks_join q n)
      isplitl [Hx]; · iexact Hx
      iexact Hx'
    isplitl [Hg Hg']
    · iapply (pointsTo_toks_join q n)
      isplitl [Hg]; · iexact Hg
      iexact Hg'
    · iapply (pointsTo_toks_join q n)
      isplitl [Hb]; · iexact Hb
      iexact Hb'

/-- A buffer held on disjoint sets, each at what is known of it there, is held on their union. -/
theorem join_known {T : Type} [Fintype T] [DecidableEq T] {ℓ : Loc nD τ sig} (A : T → Finset (Idx ℓ)) (R : T → Buf (Elt F) ℓ → Prop)
    (hR : ∀ t f f', R t f → (∀ x ∈ A t, f' x = f x) → R t f')
    (hA : ∀ t ∈ (Finset.univ : Finset T), ∀ t' ∈ (Finset.univ : Finset T), t ≠ t' → Disjoint (A t) (A t')) (f₀ : Buf (Elt F) ℓ) :
    (bigSep Finset.univ fun t : T => iprop(∃ f, ⌜R t f⌝ ∗ (ℓ ↦[A t]{fullShare} f)))
      ⊢ (iprop(∃ f, ⌜∀ t, R t f⌝ ∗ (ℓ ↦[Finset.univ.biUnion A]{fullShare} f)) : sProp 𝕄) := by
  haveI : Nonempty (Buf (Elt F) ℓ) := ⟨f₀⟩
  refine (bigSep_exists_pi Finset.univ (fun t (f : Buf (Elt F) ℓ) => iprop(⌜R t f⌝ ∗ (ℓ ↦[A t]{fullShare} f)))).trans ?_
  iintro ⟨%fs, H⟩
  ihave H := (bigSep_pure_sep (Finset.univ : Finset T) (fun t => R t (fs t)) (fun t => iprop(ℓ ↦[A t]{fullShare} fs t))) $$ H
  icases H with ⟨%hr, H⟩
  ihave H := (pointsTo_biUnion_join Finset.univ A fs f₀ hA) $$ H
  icases H with ⟨%g, %hg, H⟩
  iexists g
  isplitr
  · ipureintro; exact fun t => hR t _ _ (hr t (Finset.mem_univ t)) fun x hx => hg t (Finset.mem_univ t) x hx
  · iexact H

theorem deal {T : Type} [Fintype T] [DecidableEq T] {ℓ : Loc nD τ sig} (A : T → Finset (Idx ℓ))
    (hA : ∀ t ∈ (Finset.univ : Finset T), ∀ t' ∈ (Finset.univ : Finset T), t ≠ t' → Disjoint (A t) (A t')) :
    (iprop(∃ f, ℓ ↦[Finset.univ.biUnion A]{fullShare} f) : sProp 𝕄) ⊢ (bigSep Finset.univ fun t : T => iprop(∃ f, ℓ ↦[A t]{fullShare} f)) := by
  iintro ⟨%f, H⟩
  ihave H := (Entails.of_eq (pointsTo_biUnion Finset.univ A hA)) $$ H
  have h : (bigSep Finset.univ fun t : T => (ℓ ↦[A t]{fullShare} f : sProp 𝕄)) ⊢ bigSep Finset.univ fun t : T => iprop(∃ f, ℓ ↦[A t]{fullShare} f) := by
    refine bigSep_mono fun t _ => ?_
    show (ℓ ↦[A t]{fullShare} f : sProp 𝕄) ⊢ iprop(∃ f, ℓ ↦[A t]{fullShare} f)
    iintro H
    iexists f
    iexact H
  iapply h
  iexact H

theorem vecSplit : (K (F := F)).VecSplit' (P I) 0 := by
  intro d c
  show stP I d c ⊢ |={Set.univ}=> iprop((bigSep Finset.univ fun s : Fin (grid0.bound 1) => goP I d c s)
    ∗ ((bigSep Finset.univ fun s : Fin (grid0.bound 1) => tdP I d c s) -∗ dnP I d c))
  unfold stP goP tdP dnP
  rw [bigSep_sep', bigSep_sep']
  iintro ⟨Hr, %f₀, Ho⟩
  ihave Hr := (rd_split I d (qC c.val) 16).1 $$ Hr
  icases Hr with ⟨Hr, Hrs⟩
  ihave Ho := (deal (F := F) (ℓ := oLoc d) (fun s => oWin (at2 c s)) (oWin_disj c)) $$ [Ho]
  · iexists f₀; iexact Ho
  imodintro
  isplitl [Hrs Ho]
  · isplitl [Hrs]; · iexact Hrs
    iexact Ho
  iintro ⟨Hrs, Ho⟩
  isplitl [Hr Hrs]
  · iapply (rd_split I d (qC c.val) 16).2
    isplitl [Hr]; · iexact Hr
    iexact Hrs
  iapply (join_known (F := F) (ℓ := oLoc d) (fun s => oWin (at2 c s)) (fun s f => Res I d (at2 c s) f) (fun s f f' h e => h.congr I e) (oWin_disj c) f₀)
  iexact Ho

end Payload

/-! ## The tiles' obligation -/

theorem defs₀_vector (c : Fin τ.nSC) (s : Fin τ.nSub) :
    defs₀ (F := F) (.scVector c s) 0 ()
      = SparseCore.onTile hcore0 hsub0 (fun c s => cc0__sc_body (F := F) (at2 c s) a2 (Memref.isWhole_whole _) a3 (Memref.isWhole_whole _) a4 (Memref.isWhole_whole _) a5 (Memref.isWhole_whole _) a6 (Memref.isWhole_whole _)
            a7 (Memref.isWhole_whole _) a8 (Memref.isWhole_whole _) a9 (Memref.isWhole_whole _) a10 (Memref.isWhole_whole _) a11 (Memref.isWhole_whole _) a12 (Memref.isWhole_whole _)
            cc0_scratch7 cc0_scratch8 cc0_scoped0 cc0_scoped1 cc0_scoped2) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  · iexact HO

theorem tile_pay (I : Dev nD → In F) (d : Dev nD) (c : Fin (grid0.bound 0)) (s : Fin (grid0.bound 1)) (ok : BoundsOK I) (O : CellTallies nD τ sig (HIx 1)) (W : Waits sig (HIx 1)) (hO : ∀ g, O g none = 0) :
    iprop(levAts (K (F := F)).L (K (F := F)).lev ∗ emp ∗ goP I d c s ∗ scopedBufs (thr d (at2 c s)) ∗ scopedSems0 (thr d (at2 c s)) ∗ owes (thr d (at2 c s)) O W)
      ⊢ wp frame (wpE (defs₀ (F := F)) 𝒱₀ (thr d (at2 c s)) none) Set.univ
          (cc0__sc_body (F := F) (at2 c s) a2 (Memref.isWhole_whole _) a3 (Memref.isWhole_whole _) a4 (Memref.isWhole_whole _) a5 (Memref.isWhole_whole _) a6 (Memref.isWhole_whole _)
            a7 (Memref.isWhole_whole _) a8 (Memref.isWhole_whole _) a9 (Memref.isWhole_whole _) a10 (Memref.isWhole_whole _) a11 (Memref.isWhole_whole _) a12 (Memref.isWhole_whole _)
            cc0_scratch7 cc0_scratch8 cc0_scoped0 cc0_scoped1 cc0_scoped2)
          fun _ => iprop(tdP I d c s ∗ scopedBufs (thr d (at2 c s)) ∗ scopedSems0 (thr d (at2 c s)) ∗ ∃ W', ⌜∀ p ∈ W', p ∈ W ∨ p.2 = none⌝ ∗ owes (thr d (at2 c s)) O W') := by
  unfold goP tdP
  iintro ⟨Hl, He, ⟨Hr, %f, Ho⟩, Hb, Hs, HO⟩
  iapply (tile_body I d (at2 c s) ok O W hO (qT c.val s.val) f)
  isplitl [Hl]; · iexact Hl
  isplitl [He]; · iexact He
  isplitl [Hr Ho]
  · isplitl [Hr]; · iexact Hr
    iexact Ho
  isplitl [Hb]; · iexact Hb
  isplitl [Hs]; · iexact Hs
  iexact HO

theorem tileObl (I : Dev nD → In F) (ok : BoundsOK I) : (K (F := F)).TileObl (D (F := F)) 𝒱 (P I) v₀ 0 := by
  intro d c i O W hO _ _
  simp only [show (P I).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]
  simp only [SparseCore.onTile, hc, and_self, ↓reduceDIte]
  exact (tile_pay I d ⟨_, hc.1⟩ ⟨_, hc.2⟩ ok O W hO).trans (wp_mono frame _ _ fun _ => obl_post)

/-! ## The ghost state at the launch -/

def u₀ : UU := (initOf (K (F := F)).hsCells (K (F := F)).hsToks, 1)

theorem ownU_split (a : UH) (b : Counters) : (ownU (a, b) : sProp 𝕄) ⊢ iprop(BI.own (EH a) ∗ BI.own (EC b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op b)))

theorem emp_all {J : Type} (s : Finset J) : (bigSep s fun _ => iprop(emp)) = (iprop(emp) : sProp 𝕄) := bigSep_emp_const s

theorem hu₀ (I : Dev nD → In F) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P I).x q thr) := by
  unfold u₀
  iintro Hu
  ihave H := (ownU_split _ _) $$ Hu
  icases H with ⟨HH, -⟩
  imodintro
  isplitl [HH]; · iexact HH
  isplitr; · rw [emp_all]; iempintro
  unfold P
  simp only [emp_all]
  iempintro

/-! ## The host's program -/

/-- The host's operations before the call, in order. -/
def ops : List (HloOp τ sig (Elt F)) :=
  [StableHlo.nullary main_v0 (iotaInDim S33 32 0),
   StableHlo.nullary main_c (constantI S_ 32 320#32),
   StableHlo.unary main_c main_v1 (broadcastInDim S33 ![] bcast_S_S33 : (⟨S_, .i32⟩ : BufTy).Contents (Elt F) → (⟨S33, .i32⟩ : BufTy).Contents (Elt F)),
   StableHlo.binary main_v0 main_v1 main_v2 (muli : (⟨S33, .i32⟩ : BufTy).Contents (Elt F) → (⟨S33, .i32⟩ : BufTy).Contents (Elt F) → (⟨S33, .i32⟩ : BufTy).Contents (Elt F)),
   StableHlo.unary main_arg2 main_v3 (broadcastInDim S1x320000 ![1] bcast_S320000_S1x320000_1 : (⟨S320000, .i32⟩ : BufTy).Contents (Elt F) → (⟨S1x320000, .i32⟩ : BufTy).Contents (Elt F)),
   StableHlo.unary main_v2 main_v4 (broadcastInDim S33x1 ![0] bcast_S33_S33x1_0 : (⟨S33, .i32⟩ : BufTy).Contents (Elt F) → (⟨S33x1, .i32⟩ : BufTy).Contents (Elt F)),
   StableHlo.unary main_v3 main_v5 (broadcastInDim S33x320000 ![0, 1] bcast_S1x320000_S33x320000_0_1 : (⟨S1x320000, .i32⟩ : BufTy).Contents (Elt F) → (⟨S33x320000, .i32⟩ : BufTy).Contents (Elt F)),
   StableHlo.unary main_v4 main_v6 (broadcastInDim S33x320000 ![0, 1] bcast_S33x1_S33x320000_0_1 : (⟨S33x1, .i32⟩ : BufTy).Contents (Elt F) → (⟨S33x320000, .i32⟩ : BufTy).Contents (Elt F)),
   StableHlo.binary main_v5 main_v6 main_v7 (cmpi .slt : (⟨S33x320000, .i32⟩ : BufTy).Contents (Elt F) → (⟨S33x320000, .i32⟩ : BufTy).Contents (Elt F) → (⟨S33x320000, .i1⟩ : BufTy).Contents (Elt F)),
   StableHlo.unary main_v7 main_v8 ((extui 32 · natLt_1_32) : (⟨S33x320000, .i1⟩ : BufTy).Contents (Elt F) → (⟨S33x320000, .i32⟩ : BufTy).Contents (Elt F)),
   StableHlo.nullary main_c_0 (constantI S_ 32 0#32),
   StableHlo.binary main_v8 main_c_0 main_v9 ((fun x v => Host.reduce IntOp.addi x v reducesTo_S33x320000_S33_d1 h_S_) : (⟨S33x320000, .i32⟩ : BufTy).Contents (Elt F) → (⟨S_, .i32⟩ : BufTy).Contents (Elt F) → (⟨S33, .i32⟩ : BufTy).Contents (Elt F)),
   StableHlo.nullary main_c_1 (constantI S_ 32 0#32),
   StableHlo.unary main_c_1 main_v10 (broadcastInDim S32x16 ![] bcast_S_S32x16 : (⟨S_, .i32⟩ : BufTy).Contents (Elt F) → (⟨S32x16, .i32⟩ : BufTy).Contents (Elt F)),
   StableHlo.unary main_v9 main_v11 ((extractStridedSlice S32 ![0] · slices_S33_S32_0) : (⟨S33, .i32⟩ : BufTy).Contents (Elt F) → (⟨S32, .i32⟩ : BufTy).Contents (Elt F)),
   StableHlo.nullary main_c_2 (constantI S_ 32 0#32),
   StableHlo.unary main_c_2 main_v12 (broadcastInDim S1 ![] bcast_S_S1 : (⟨S_, .i32⟩ : BufTy).Contents (Elt F) → (⟨S1, .i32⟩ : BufTy).Contents (Elt F)),
   StableHlo.ternary main_v10 main_v12 main_v11 main_v13 ((fun x i u => Host.scatter scatter_S32x16_S1_S32_0_1_1_0 (fun _ b => b) x i u) : (⟨S32x16, .i32⟩ : BufTy).Contents (Elt F) → (⟨S1, .i32⟩ : BufTy).Contents (Elt F) → (⟨S32, .i32⟩ : BufTy).Contents (Elt F) → (⟨S32x16, .i32⟩ : BufTy).Contents (Elt F)),
   StableHlo.unary main_v9 main_v14 ((extractStridedSlice S32 ![1] · slices_S33_S32_1) : (⟨S33, .i32⟩ : BufTy).Contents (Elt F) → (⟨S32, .i32⟩ : BufTy).Contents (Elt F)),
   StableHlo.nullary main_c_3 (constantI S_ 32 1#32),
   StableHlo.unary main_c_3 main_v15 (broadcastInDim S1 ![] bcast_S_S1 : (⟨S_, .i32⟩ : BufTy).Contents (Elt F) → (⟨S1, .i32⟩ : BufTy).Contents (Elt F)),
   StableHlo.ternary main_v13 main_v15 main_v14 main_v16 ((fun x i u => Host.scatter scatter_S32x16_S1_S32_0_1_1_0 (fun _ b => b) x i u) : (⟨S32x16, .i32⟩ : BufTy).Contents (Elt F) → (⟨S1, .i32⟩ : BufTy).Contents (Elt F) → (⟨S32, .i32⟩ : BufTy).Contents (Elt F) → (⟨S32x16, .i32⟩ : BufTy).Contents (Elt F)),
   StableHlo.reshape main_arg0 main_v17 (rfl : (.f32 : EltTy) = .f32) shapeCasts_S320000x128_S40960000]

/-- The one after it. -/
abbrev opR : HloOp τ sig (Elt F) := StableHlo.reshape main_v18 main_v19 (rfl : (.f32 : EltTy) = .f32) shapeCasts_S2560000_S10000x256

variable (m : (ℓ : Loc nD τ sig) → Buf (Elt F) ℓ) (ρ : Dev nD → PrngReg)

/-- The call and what follows it. -/
def tail (d : Dev nD) : Prog (TpuEff nD τ sig (Elt F) (SparseCore.Sig (ΛP (F := F)) 1) .tc) PUnit := do
  (K (F := F)).run d 0
  hlo rfl opR (fun _ => .ret ⟨⟩)
  pure ⟨⟩

theorem main_eq (d : Dev nD) : main (F := F) d = (StableHlo.seq ops >>= fun _ => tail d) := rfl

abbrev x' : DevRef τ sig := Proc.devRef .tc (main_v17 : Ref sig .tc)
abbrev g' : DevRef τ sig := Proc.devRef .tc (main_arg2 : Ref sig .tc)
abbrev b' : DevRef τ sig := Proc.devRef .tc (main_v16 : Ref sig .tc)
abbrev o' : DevRef τ sig := Proc.devRef .tc (main_v18 : Ref sig .tc)
abbrev p' : DevRef τ sig := Proc.devRef .tc (main_arg0 : Ref sig .tc)
abbrev q' : DevRef τ sig := Proc.devRef .tc (main_arg1 : Ref sig .tc)
abbrev r' : DevRef τ sig := Proc.devRef .tc (main_v19 : Ref sig .tc)

/-- The arrays the call is given, and those the claims speak of. -/
abbrev Scall : Finset (DevRef τ sig) := {x', g', b', o'}
abbrev Sfin : Finset (DevRef τ sig) := {p', q', g', r'}

theorem mem_uc {b : Ref sig .tc} (h : b.isScoped = false) : (Proc.devRef .tc b : DevRef τ sig) ∈ Pipeline.ucRefs τ sig :=
  Finset.mem_filter.mpr ⟨StableHlo.devRef_mem_tcRefs b, fun h' => Bool.false_ne_true (h.symm.trans h')⟩

theorem Scall_sub : Scall ⊆ Pipeline.ucRefs τ sig := by
  intro b hb
  simp only [Scall, Finset.mem_insert, Finset.mem_singleton] at hb
  rcases hb with rfl | rfl | rfl | rfl <;> exact mem_uc rfl

theorem Sfin_sub : Sfin ⊆ Pipeline.ucRefs τ sig := by
  intro b hb
  simp only [Sfin, Finset.mem_insert, Finset.mem_singleton] at hb
  rcases hb with rfl | rfl | rfl | rfl <;> exact mem_uc rfl

theorem held_Scall (d : Dev nD) (W : Valuation τ sig (Elt F)) :
    (held (SparseCore.T d) Scall W : sProp 𝕄)
      = iprop((xLoc d ↦{fullShare} W x') ∗ (gLoc d ↦{fullShare} W g') ∗ (bLoc d ↦{fullShare} W b') ∗ oLoc d ↦{fullShare} W o') := by
  unfold held Scall
  rw [SparseCore.bigSep_insert' (by decide), SparseCore.bigSep_insert' (by decide), SparseCore.bigSep_insert' (by decide), bigSep_singleton]

theorem held_Sfin (d : Dev nD) (W : Valuation τ sig (Elt F)) :
    (held (SparseCore.T d) Sfin W : sProp 𝕄)
      = iprop(((SparseCore.T d).loc main_arg0 ↦{fullShare} W p') ∗ ((SparseCore.T d).loc main_arg1 ↦{fullShare} W q') ∗ ((SparseCore.T d).loc main_arg2 ↦{fullShare} W g')
          ∗ (SparseCore.T d).loc main_v19 ↦{fullShare} W r') := by
  unfold held Sfin
  rw [SparseCore.bigSep_insert' (by decide), SparseCore.bigSep_insert' (by decide), SparseCore.bigSep_insert' (by decide), bigSep_singleton]

/-- The arrays at the launch, and at the call. -/
def V0 (d : Dev nD) : Valuation τ sig (Elt F) := fun b => m (d, b)
def V3 (d : Dev nD) : Valuation τ sig (Elt F) := after ops (V0 m d)

def inp (d : Dev nD) : In F := ⟨V3 m d x', V3 m d g', V3 m d b'⟩

/-- What the claims read at the end. -/
def Vend (d : Dev nD) (g : S2560000.Idx → Elt F .f32) : Valuation τ sig (Elt F) := (opR (F := F)).result (Function.update (V3 m d) o' g)

abbrev FIN (d : Dev nD) : sProp 𝕄 :=
  iprop(∃ g : S2560000.Idx → Elt F .f32, ⌜∀ c s, Res (inp m) d (at2 c s) g⌝ ∗ held (SparseCore.T d) Sfin (Vend m d g))

theorem ops_ok : (ops (F := F)).Forall fun op => op.bufs ⊆ StableHlo.tcRefs τ sig := by
  simp only [ops, List.Forall, StableHlo.nullary_bufs_sub, StableHlo.unary_bufs_sub, StableHlo.binary_bufs_sub, StableHlo.ternary_bufs_sub, StableHlo.reshape_bufs_sub, and_self]

theorem ops_bufs : ∀ op ∈ ops (F := F), op.bufs ⊆ Pipeline.ucRefs τ sig := fun op h =>
  Pipeline.sub_ucRefs op (List.forall_iff_forall_mem.mp ops_ok op h)

theorem ops_fresh : ∀ op ∈ ops (F := F), op.fresh = ∅ := List.forall_iff_forall_mem.mp (by
  simp only [ops, List.Forall]
  exact ⟨rfl, rfl, rfl, rfl, rfl, rfl, rfl, rfl, rfl, rfl, rfl, rfl, rfl, rfl, rfl, rfl, rfl, rfl, rfl, rfl, rfl, rfl, rfl⟩)

theorem opR_bufs : (opR (F := F)).bufs ⊆ Pipeline.ucRefs τ sig := Pipeline.sub_ucRefs _ (StableHlo.reshape_bufs_sub _ _ _ _ _ _)

theorem call_in (d : Dev nD) : iprop((xLoc d ↦{fullShare} V3 m d x') ∗ (gLoc d ↦{fullShare} V3 m d g') ∗ (bLoc d ↦{fullShare} V3 m d b') ∗ oLoc d ↦{fullShare} V3 m d o')
    ⊢ iprop(rd (inp m) d (shareDrop fullShare 2) ∗ (bigSep Finset.univ fun c : Fin ((K (F := F)).nCore 0) => (P (inp m)).st 0 d c)) := by
  show _ ⊢ iprop(rd (inp m) d (shareDrop fullShare 2) ∗ (bigSep Finset.univ fun c : Fin (grid0.bound 0) => stP (inp m) d c))
  unfold stP
  rw [bigSep_sep']
  iintro ⟨Hx, Hg, Hb, Ho⟩
  ihave Hr := (rd_split (inp m) d fullShare 2).1 $$ [Hx Hg Hb]
  · unfold rd
    isplitl [Hx]; · iexact Hx
    isplitl [Hg]; · iexact Hg
    iexact Hb
  icases Hr with ⟨Hr, Hrs⟩
  isplitl [Hr]; · iexact Hr
  isplitl [Hrs]; · iexact Hrs
  iapply (deal (F := F) (ℓ := oLoc d) (fun c => coreWin c) coreWin_disj)
  rw [coreWin_univ]
  iexists _; iexact Ho

theorem call_out (d : Dev nD) (f₀ : S2560000.Idx → Elt F .f32) : iprop(rd (inp m) d (shareDrop fullShare 2) ∗ (bigSep Finset.univ fun c : Fin ((K (F := F)).nCore 0) => (P (inp m)).dn 0 d c))
    ⊢ (iprop(∃ g : S2560000.Idx → Elt F .f32, ⌜∀ c s, Res (inp m) d (at2 c s) g⌝ ∗ (xLoc d ↦{fullShare} V3 m d x') ∗ (gLoc d ↦{fullShare} V3 m d g') ∗ (bLoc d ↦{fullShare} V3 m d b') ∗ oLoc d ↦{fullShare} g) : sProp 𝕄) := by
  show iprop(rd (inp m) d (shareDrop fullShare 2) ∗ (bigSep Finset.univ fun c : Fin (grid0.bound 0) => dnP (inp m) d c)) ⊢ _
  unfold dnP
  rw [bigSep_sep']
  have hj : (bigSep Finset.univ fun c : Fin (grid0.bound 0) => iprop(∃ f : S2560000.Idx → F .f32, ⌜∀ s, Res (inp m) d (at2 c s) f⌝ ∗ (oLoc d ↦[coreWin c]{fullShare} (f : S2560000.Idx → Elt F .f32))))
      ⊢ (iprop(∃ f : S2560000.Idx → F .f32, ⌜∀ c s, Res (inp m) d (at2 c s) f⌝ ∗ (oLoc d ↦[Finset.univ.biUnion coreWin]{fullShare} (f : S2560000.Idx → Elt F .f32))) : sProp 𝕄) :=
    join_known (F := F) (ℓ := oLoc d) (fun c => coreWin c) (fun c f => ∀ s, Res (inp m) d (at2 c s) f)
      (fun c f f' h e s => (h s).congr (inp m) fun x hx => e x (Finset.mem_biUnion.mpr ⟨s, Finset.mem_univ s, hx⟩)) coreWin_disj f₀
  refine (sep_mono .rfl (sep_mono .rfl hj)).trans ?_
  iintro ⟨Hr, Hrs, Ho⟩
  ihave Hr := (rd_split (inp m) d fullShare 2).2 $$ [Hr Hrs]
  · isplitl [Hr]; · iexact Hr
    iexact Hrs
  icases Ho with ⟨%g, %hg, Ho⟩
  unfold rd
  icases Hr with ⟨Hx, Hg, Hb⟩
  iexists g
  isplitr; · ipureintro; exact hg
  isplitl [Hx]; · iexact Hx
  isplitl [Hg]; · iexact Hg
  isplitl [Hb]; · iexact Hb
  rw [coreWin_univ]
  iexact Ho

theorem held_back (d : Dev nD) (g : S2560000.Idx → Elt F .f32) :
    iprop(((xLoc d ↦{fullShare} V3 m d x') ∗ (gLoc d ↦{fullShare} V3 m d g') ∗ (bLoc d ↦{fullShare} V3 m d b') ∗ oLoc d ↦{fullShare} g)
        ∗ held (SparseCore.T d) (Pipeline.ucRefs τ sig \ Scall) (V3 m d))
      ⊢ (held (SparseCore.T d) (Pipeline.ucRefs τ sig) (Function.update (V3 m d) o' g) : sProp 𝕄) := by
  rw [StableHlo.held_sub_split (SparseCore.T d) Scall_sub (Function.update (V3 m d) o' g), held_Scall,
    Function.update_self, Function.update_of_ne (show x' ≠ o' by decide), Function.update_of_ne (show g' ≠ o' by decide),
    Function.update_of_ne (show b' ≠ o' by decide),
    StableHlo.held_congr (SparseCore.T d) (S := Pipeline.ucRefs τ sig \ Scall) (V := Function.update (V3 m d) o' g) (V' := V3 m d) fun b hb =>
      Function.update_of_ne (fun h => (Finset.mem_sdiff.mp hb).2 (by subst h; simp [Scall])) _ _]

theorem held_in (d : Dev nD) : (held d.tc (Pipeline.ucRefs τ sig) (after ops (V0 m d)) : sProp 𝕄)
    ⊢ iprop(((xLoc d ↦{fullShare} V3 m d x') ∗ (gLoc d ↦{fullShare} V3 m d g') ∗ (bLoc d ↦{fullShare} V3 m d b') ∗ oLoc d ↦{fullShare} V3 m d o')
        ∗ held (SparseCore.T d) (Pipeline.ucRefs τ sig \ Scall) (V3 m d)) :=
  Entails.of_eq ((StableHlo.held_sub_split (SparseCore.T d) Scall_sub (V3 m d)).trans (by rw [held_Scall]))

theorem held_out (d : Dev nD) (g : S2560000.Idx → Elt F .f32) :
    (held (SparseCore.T d) (Pipeline.ucRefs τ sig) ((opR (F := F)).result (Function.update (V3 m d) o' g)) : sProp 𝕄)
      ⊢ iprop(held (SparseCore.T d) Sfin (Vend m d g) ∗ held (SparseCore.T d) (Pipeline.ucRefs τ sig \ Sfin) (Vend m d g)) :=
  Entails.of_eq (StableHlo.held_sub_split (SparseCore.T d) Sfin_sub (Vend m d g))

theorem hmain (κ : GSem nD τ sig → ℕ) (d : Dev nD) :
    iprop((K (F := F)).ctx EH (P (inp m)) κ ∗ (K (F := F)).tcSt EH d 0 ∗ (K (F := F)).tcRes m ρ d ∗ emp)
      ⊢ wp frame (wpE ((K (F := F)).defs (D (F := F))) 𝒱 (SparseCore.T d) none) Set.univ (main (F := F) d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) (Pipeline.ucRefs τ sig) (V0 m d) from
    Pipeline.unscopedBufs_held d (V0 m d), main_eq]
  iintro ⟨#Hctx, Hst, ⟨Hb, Hheld, Hts, -⟩, -⟩
  iapply (StableHlo.wp_seq (defs := (K (F := F)).defs (D (F := F))) (𝒱 := 𝒱) (bd := none) (E := Set.univ) d (Pipeline.ucRefs τ sig) (fun _ => tail d) ops ops_bufs ops_fresh (V0 m d)) $$ [Hb Hheld]
  · isplitl [Hb]; · iexact Hb
    iexact Hheld
  iintro ⟨Hb, Hheld⟩
  ihave Hh := (held_in m d) $$ Hheld
  icases Hh with ⟨Hc, Hrest⟩
  ihave Hc := (call_in m d) $$ Hc
  icases Hc with ⟨Hr, Hs⟩
  unfold tail
  simp only [wp_bind, wp_pure]
  iapply ((K (F := F)).wp_run (D (F := F)) 𝒱 (EH := EH) (P := P (inp m)) κ d 0) $$ [Hst Hs Hb Hr Hrest Hts]
  isplitr; · iexact Hctx
  isplitl [Hst]; · iexact Hst
  isplitl [Hs]; · iexact Hs
  iintro ⟨Hst, Hdn⟩
  ihave Hd := (call_out m d (V3 m d o')) $$ [Hr Hdn]
  · isplitl [Hr]; · iexact Hr
    iexact Hdn
  icases Hd with ⟨%g, %hg, Hd⟩
  ihave Hheld := (held_back m d g) $$ [Hd Hrest]
  · isplitl [Hd]; · iexact Hd
    iexact Hrest
  iapply (StableHlo.wp_hlo_within 𝒱 (SparseCore.T d) none Set.univ (op := opR (F := F)) (S := Pipeline.ucRefs τ sig) opR_bufs (V := Function.update (V3 m d) o' g)) $$ [Hb Hheld]
  · isplitl [Hb]; · iexact Hb
    iexact Hheld
  iintro ⟨Hb, Hheld⟩
  ihave Hh := (held_out m d g) $$ Hheld
  icases Hh with ⟨Hf, -⟩
  rw [wp_ret]; imodintro; imodintro
  isplitl [Hst]; · iexact Hst
  isplitl [Hf]
  · iexists g
    isplitr; · ipureintro; exact hg
    iexact Hf
  isplitl [Hb]; · iexact Hb
  iexact Hts

/-- What the claims read of device `d`'s final state. -/
def fq (d : Dev nD) (s' : MemSt nD τ sig (Elt F)) : Prop :=
  ∃ g : S2560000.Idx → Elt F .f32, (∀ c s, Res (inp m) d (at2 c s) g) ∧ s'.mem (d, p') = Vend m d g p' ∧ s'.mem (d, q') = Vend m d g q'
    ∧ s'.mem (d, g') = Vend m d g g' ∧ s'.mem (d, r') = Vend m d g r'

theorem hfin (d : Dev nD) (s' : Phys nD τ sig (Elt F)) : iprop(FIN m d ∗ SI s') ⊢ (⌜fq m d s'.mem⌝ : sProp 𝕄) := by
  iintro ⟨⟨%g, %hg, H⟩, HSI⟩
  ihave H := (Entails.of_eq (held_Sfin d (Vend m d g))) $$ H
  icases H with ⟨H0, H1, H2, H3⟩
  ihave H := (persistent_entails_right (SI_pointsTo_agree (st := s') (ℓ := (SparseCore.T d).loc main_arg0) (I := Finset.univ) (q := fullShare) (f := Vend m d g p'))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := Vend m d g q'))) $$ [HSI H1]
  · isplitl [HSI] <;> iassumption
  icases H with ⟨%h1, HSI, -⟩
  ihave H := (persistent_entails_right (SI_pointsTo_agree (st := s') (ℓ := (SparseCore.T d).loc main_arg2) (I := Finset.univ) (q := fullShare) (f := Vend m d g g'))) $$ [HSI H2]
  · isplitl [HSI] <;> iassumption
  icases H with ⟨%h2, HSI, -⟩
  ihave H := (SI_pointsTo_agree (st := s') (ℓ := (SparseCore.T d).loc main_v19) (I := Finset.univ) (q := fullShare) (f := Vend m d g r')) $$ [HSI H3]
  · isplitl [HSI] <;> iassumption
  icases H with %h3
  ipureintro
  exact ⟨g, hg, funext fun i => h0 i (Finset.mem_univ i), funext fun i => h1 i (Finset.mem_univ i), funext fun i => h2 i (Finset.mem_univ i), funext fun i => h3 i (Finset.mem_univ i)⟩

theorem run_main [∀ e, Nonempty (Elt F e)] (ok : BoundsOK (inp m)) :
    θ_run (Cert.KernelIdeal.defs (F := F)) (Cert.KernelIdeal.threads (F := F)) ⟨m, fun _ => 0, ρ⟩ (fun r => (∀ d, fq m d r.2) ∧ r.2.sem = fun _ => 0) :=
  SparseCore.Cfg.θ_run_sc_quiescent (K := K (F := F)) (D := D (F := F)) (𝒱 := 𝒱) (EH := EH) (P := P (inp m)) (A := ∅) facts v₀
    (fun q hq => match q with | 0 => nomatch hq)
    (fun q _ => match q with | 0 => tileObl (inp m) ok)
    (fun q _ => match q with | 0 => SparseCore.Cfg.VecSplit.of_plain (vecSplit (inp m)))
    m ρ main (fun _ => iprop(emp)) (FIN m) (u₀ (F := F)) (sep_elim_left.trans (hu₀ (inp m))) (hmain m ρ) (fun d s' => fq m d s'.mem) (hfin m) _ (fun _ h hz => ⟨h, hz⟩)

end Cert.Proof.TileI

end
-- ==== Proof.TileI.Host.lean ====
/-
  The table of bounds the host computes, and what the precondition says of it.
-/
module

public import proofs.«01_k».proof.Proof.TileI.Main
public import proofs.«01_k».proof.Pre_sorted_in_range
public import Idealize.ShloMosaic.Lib.Routing.OpsOne
public import Idealize.ShloMosaic.Lib.ReduceAll

@[expose] public section

noncomputable section

namespace Cert.Proof.TileI

open Cert.KernelIdeal Cert.KernelIdeal.Gen
open Cert.Proof.Words
open Idealize.ShloMosaic Idealize.ShloMosaic.ValueIdx
open Idealize.ShloMosaic.StableHlo (after)

variable {F : FTy → Type} [FloatOps F]

/-! ## Counting below a bound in a sorted sequence -/

theorem count_below (f : ℕ → ℕ) (v : ℕ) : ∀ N, (∀ r, r + 1 < N → f r ≤ f (r + 1)) → ∀ q, q < N → (f q < v ↔ q < Nat.count (fun q => f q < v) N)
  | 0, _, q, hq => absurd hq (Nat.not_lt_zero q)
  | N + 1, hs, q, hq => by
    have ih := count_below f v N (fun r hr => hs r (by omega))
    have hle : Nat.count (fun q => f q < v) N ≤ N := Nat.count_le _
    have mono : ∀ k, q + k ≤ N → f q ≤ f (q + k) := by
      intro k
      induction k with
      | zero => intro _; exact le_rfl
      | succ k ihk => intro h; exact (ihk (by omega)).trans (hs (q + k) (by omega))
    rw [Nat.count_succ]
    by_cases h : f N < v
    · rw [if_pos h]
      have hq' : f q < v := by
        have := mono (N - q) (by omega)
        rw [show q + (N - q) = N by omega] at this
        omega
      refine iff_of_true hq' ?_
      by_cases e : q = N
      · subst e
        rcases Nat.eq_zero_or_pos q with rfl | hp
        · omega
        · have := (ih (q - 1) (by omega)).mp (by
            have h1 := hs (q - 1) (by omega)
            rw [Nat.sub_add_cancel hp] at h1
            omega)
          omega
      · have := (ih q (by omega)).mp hq'
        omega
    · rw [if_neg h, Nat.add_zero]
      by_cases e : q = N
      · subst e
        exact iff_of_false h (by omega)
      · exact ih q (by omega)

/-! ## The membership array as the precondition has it -/

/-- The membership array: in order, and below the number of segments. -/
structure Sorted (s : ℕ → BitVec 32) : Prop where
  is : ∀ r, r < 320000 → Is (s r) (s r).toNat
  lt : ∀ r, r < 320000 → (s r).toNat < 10000
  le : ∀ r, r + 1 < 320000 → (s r).toNat ≤ (s (r + 1)).toNat

/-- How many rows are of segments before `320 * j`. -/
def below (s : ℕ → BitVec 32) (j : ℕ) : ℕ := Nat.count (fun q => (s q).toNat < 320 * j) 320000

variable {s : ℕ → BitVec 32}

theorem Sorted.below_iff (h : Sorted s) (j : ℕ) {q : ℕ} (hq : q < 320000) : (s q).toNat < 320 * j ↔ q < below s j :=
  count_below (fun q => (s q).toNat) (320 * j) 320000 h.le q hq

theorem below_le (j : ℕ) : below s j ≤ 320000 := Nat.count_le _

theorem Sorted.below_mono (h : Sorted s) (j : ℕ) : below s j ≤ below s (j + 1) := by
  by_contra hc
  have hb := below_le (s := s) j
  have h1 := (h.below_iff j (q := below s (j + 1)) (by omega)).mpr (by omega)
  have h2 := (h.below_iff (j + 1) (q := below s (j + 1)) (by omega)).mp (by omega)
  omega

/-! ## The table -/

/-- The counts the host makes. -/
def counts (μ : IVec S320000 32) : IVec S33 32 :=
  Host.reduce IntOp.addi (extui 32 (cmpi .slt
      (broadcastInDim S33x320000 ![0, 1] bcast_S1x320000_S33x320000_0_1 (broadcastInDim S1x320000 ![1] bcast_S320000_S1x320000_1 μ))
      (broadcastInDim S33x320000 ![0, 1] bcast_S33x1_S33x320000_0_1 (broadcastInDim S33x1 ![0] bcast_S33_S33x1_0
        (muli (iotaInDim S33 32 0) (broadcastInDim S33 ![] bcast_S_S33 (constantI S_ 32 320#32)))))) natLt_1_32)
    (constantI S_ 32 0#32) reducesTo_S33x320000_S33_d1 h_S_

/-- The table it lays them out in. -/
def table (μ : IVec S320000 32) : IVec S32x16 32 :=
  Host.scatter scatter_S32x16_S1_S32_0_1_1_0 (fun _ b => b)
    (Host.scatter scatter_S32x16_S1_S32_0_1_1_0 (fun _ b => b) (broadcastInDim S32x16 ![] bcast_S_S32x16 (constantI S_ 32 0#32))
      (broadcastInDim S1 ![] bcast_S_S1 (constantI S_ 32 0#32)) (extractStridedSlice S32 ![0] (counts μ) slices_S33_S32_0))
    (broadcastInDim S1 ![] bcast_S_S1 (constantI S_ 32 1#32)) (extractStridedSlice S32 ![1] (counts μ) slices_S33_S32_1)

theorem one_iff {b : Bool} : BitVec.ofBool b = 1#1 ↔ b = true := by cases b <;> decide

theorem is_slt {x y : BitVec 32} {a b : ℕ} (hx : Is x a) (hy : Is y b) : IntOp.cmpi .slt x y = 1#1 ↔ a < b := by
  show BitVec.ofBool (x.slt y) = 1#1 ↔ _
  rw [BitVec.slt_eq_decide, hx.toInt, hy.toInt]
  by_cases h : a < b
  · simp [h]
  · simp [h]

theorem nat1_at (μ : IVec S320000 32) {r : ℕ} (hr : r < 320000) : nat1 (n := 320000) (by decide) μ r = μ (ix1 ⟨r, hr⟩) := by
  refine congrArg μ (funext fun a => ?_)
  obtain rfl : a = 0 := Subsingleton.elim _ _
  exact Fin.ext (Nat.mod_eq_of_lt hr)

theorem counts_apply (μ : IVec S320000 32) (h : Sorted (nat1 (n := 320000) (by decide) μ)) (j : Fin 33) :
    counts μ (ix1 j) = BitVec.ofNat 32 (below (nat1 (n := 320000) (by decide) μ) j.val) := by
  refine Routing.reduce_count (n := 33) (m := 320000) (by decide) _ natLt_1_32 _ h_S_ j (fun q => (nat1 (n := 320000) (by decide) μ q).toNat < 320 * j.val) ?_
  intro q
  have e : μ (ix1 q) = nat1 (n := 320000) (by decide) μ q.val := (nat1_at μ q.isLt).symm
  have hj : Is (IntOp.muli (BitVec.ofNat 32 j.val) 320#32) (320 * j.val) :=
    ((Is.lit j.val (by have := j.isLt; omega)).mul (.lit 320) (by have := j.isLt; omega)).cast (by omega)
  refine Iff.trans ?_ (is_slt (h.is q.val q.isLt) hj)
  rw [← e]
  have hq : ∀ a b, broadcastInDim S33x320000 ![0, 1] bcast_S1x320000_S33x320000_0_1 (broadcastInDim S1x320000 ![1] bcast_S320000_S1x320000_1 μ) (ix2 a b) = μ (ix1 b) := by
    intro a b
    refine congrArg μ (funext fun x => ?_)
    obtain rfl : x = 0 := Subsingleton.elim _ _
    rfl
  show IntOp.cmpi .slt (broadcastInDim S33x320000 ![0, 1] bcast_S1x320000_S33x320000_0_1 (broadcastInDim S1x320000 ![1] bcast_S320000_S1x320000_1 μ) (ix2 j q)) _ = 1#1 ↔ _
  rw [hq]
  rfl

theorem table_apply (μ : IVec S320000 32) (w : Fin 32) (e : Fin 16) :
    table μ (ix2 w e) = if e = 1 then counts μ (ix1 ⟨w.val + 1, by omega⟩) else if e = 0 then counts μ (ix1 ⟨w.val, by omega⟩) else 0#32 := by
  unfold table
  rw [Routing.scatter_col (A := 32) (N := 16) scatter_S32x16_S1_S32_0_1_1_0 rfl rfl _ _ _ (1 : Fin 16) (by decide) rfl w e,
    Routing.scatter_col (A := 32) (N := 16) scatter_S32x16_S1_S32_0_1_1_0 rfl rfl _ _ _ (0 : Fin 16) (by decide) rfl w e]
  have e1 : extractStridedSlice S32 ![1] (counts μ) slices_S33_S32_1 (ix1 w) = counts μ (ix1 ⟨w.val + 1, by omega⟩) := by
    generalize counts μ = f
    refine congrArg f (funext fun a => ?_)
    obtain rfl : a = 0 := Subsingleton.elim _ _
    exact Fin.ext (Nat.add_comm 1 w.val)
  have e0 : extractStridedSlice S32 ![0] (counts μ) slices_S33_S32_0 (ix1 w) = counts μ (ix1 ⟨w.val, by omega⟩) := by
    generalize counts μ = f
    refine congrArg f (funext fun a => ?_)
    obtain rfl : a = 0 := Subsingleton.elim _ _
    exact Fin.ext (Nat.zero_add w.val)
  rw [e1, e0]
  rfl

variable (m : (ℓ : Loc nD τ sig) → Buf (Elt F) ℓ)

theorem V3_b (d : Dev nD) : V3 m d b' = table (m (d, g')) := by
  unfold V3 ops table counts
  after_results_simp
  rfl

theorem V3_g (d : Dev nD) : V3 m d g' = m (d, g') := by
  unfold V3 ops
  after_results_simp
  rfl
theorem V3_p (d : Dev nD) : V3 m d p' = m (d, p') := by
  unfold V3 ops
  after_results_simp
  rfl
theorem V3_q (d : Dev nD) : V3 m d q' = m (d, q') := by
  unfold V3 ops
  after_results_simp
  rfl

theorem bound_at {d : Dev nD} {i : grid0.Coords} (hs : Sorted (nat1 (n := 320000) (by decide) (m (d, g')))) (k : ℕ) (hk : k < 2) :
    (inp m d).b (bIx (wid i) k) = BitVec.ofNat 32 (below (nat1 (n := 320000) (by decide) (m (d, g'))) (wid i + k)) := by
  have hw := wid_lt i
  show V3 m d b' _ = _
  rw [V3_b]
  have e : bIx (wid i) k = ix2 ⟨wid i, hw⟩ ⟨k, by omega⟩ := by
    funext a
    match a with
    | ⟨0, _⟩ => exact Fin.ext (Nat.mod_eq_of_lt hw)
    | ⟨1, _⟩ => exact Fin.ext (Nat.mod_eq_of_lt (by omega))
  rw [e, table_apply]
  match k, hk with
  | 0, _ =>
    refine (if_neg (Fin.ne_of_val_ne (show (0 : ℕ) ≠ 1 from Nat.zero_ne_one))).trans ((if_pos (Fin.ext rfl)).trans ?_)
    exact counts_apply _ hs ⟨wid i, by omega⟩
  | 1, _ =>
    refine (if_pos (Fin.ext rfl)).trans ?_
    exact counts_apply _ hs ⟨wid i + 1, by omega⟩

theorem bound_is {d : Dev nD} {i : grid0.Coords} (hs : Sorted (nat1 (n := 320000) (by decide) (m (d, g')))) (k : ℕ) (hk : k < 2) :
    Is ((inp m d).b (bIx (wid i) k)) (below (nat1 (n := 320000) (by decide) (m (d, g'))) (wid i + k)) :=
  ⟨bound_at m hs k hk, by have := below_le (s := nat1 (n := 320000) (by decide) (m (d, g'))) (wid i + k); omega⟩

theorem segs_eq (d : Dev nD) : segs (inp m) d = nat1 (n := 320000) (by decide) (m (d, g')) := by
  show nat1 _ (V3 m d g') = _
  rw [V3_g]

theorem bounds_ok (h : ∀ d, Sorted (nat1 (n := 320000) (by decide) (m (d, g')))) : BoundsOK (inp m) := by
  intro d i
  have hs := h d
  have hle : ∀ j, below (nat1 (n := 320000) (by decide) (m (d, g'))) j ≤ 320000 := below_le
  have i0 : Is ((inp m d).b (bIx (wid i) 0)) (below (nat1 (n := 320000) (by decide) (m (d, g'))) (wid i)) := bound_is m (i := i) hs 0 (by omega)
  have i1 := bound_is m (i := i) hs 1 (by omega)
  unfold loOf hiOf
  rw [i0.toNat, i1.toNat]
  refine ⟨⟨i0, i1, hs.below_mono _, hle _⟩, fun r h1 h2 => ?_⟩
  have hr : r < 320000 := by have := hle (wid i + 1); omega
  rw [segs_eq]
  refine ⟨hs.is r hr, ?_, ?_⟩
  · have := (hs.below_iff (wid i) hr).not.mpr (by omega)
    omega
  · have := (hs.below_iff (wid i + 1) hr).mpr h2
    omega

/-! ## The precondition read back -/

theorem sorted_of_pre [hp : Cert.Pre_sorted_in_range.Facts] (x : FVec F S320000x128 .f32) (y : IVec S1 32) (μ : IVec S320000 32)
    (h : Cert.Pre_sorted_in_range.fn (F := F) x y μ = fun _ => 1#1) : Sorted (nat1 (n := 320000) (by decide) μ) := by
  have h := congrFun h ix0
  unfold Cert.Pre_sorted_in_range.fn at h
  obtain ⟨h12, h3⟩ := IntOp.andi_eq_one.1 h
  obtain ⟨h1, h2⟩ := IntOp.andi_eq_one.1 h12
  have sub : Subsingleton Cert.Pre_sorted_in_range.S_.Idx := ⟨fun a b => funext fun k => k.elim0⟩
  have g1 := Host.reduce_andi_all _ _ _ _ _ h1
  have g2 := Host.reduce_andi_all _ _ _ _ _ h2
  have g3 := Host.reduce_andi_all _ _ _ _ _ h3
  have at1 : ∀ r (hr : r < 320000), nat1 (n := 320000) (by decide) μ r = μ (ix1 ⟨r, hr⟩) := fun r hr => nat1_at μ hr
  have key : ∀ r, r < 320000 → Is (nat1 (n := 320000) (by decide) μ r) (nat1 (n := 320000) (by decide) μ r).toNat ∧ (nat1 (n := 320000) (by decide) μ r).toNat < 10000 := by
    intro r hr
    have a1 := g1 (ix1 ⟨r, hr⟩)
    have a2 := g2 (ix1 ⟨r, hr⟩)
    rw [at1 r hr]
    change BitVec.ofBool ((0#32 : BitVec 32).sle (μ (ix1 ⟨r, hr⟩))) = 1#1 at a1
    change BitVec.ofBool ((μ (ix1 ⟨r, hr⟩)).slt 10000#32) = 1#1 at a2
    generalize μ (ix1 ⟨r, hr⟩) = w at a1 a2 ⊢
    have b1 : (0 : ℤ) ≤ w.toInt := by
      have := one_iff.mp a1
      simpa [BitVec.sle_eq_decide] using this
    have b2 : w.toInt < 10000 := by
      have := one_iff.mp a2
      simpa [BitVec.slt_eq_decide] using this
    have c := BitVec.toInt_eq_toNat_cond w
    have d := w.isLt
    split at c <;> exact ⟨⟨by simp, by omega⟩, by omega⟩
  refine ⟨fun r hr => (key r hr).1, fun r hr => (key r hr).2, fun r hr => ?_⟩
  have a3 := g3 (ix1 ⟨r, by omega⟩)
  have k1 := key r (by omega)
  have k2 := key (r + 1) hr
  have e1 := k1.1.toInt
  have e2 := k2.1.toInt
  rw [at1 r (by omega)] at e1 ⊢
  rw [at1 (r + 1) hr] at e2 ⊢
  have f1 : extractStridedSlice Cert.Pre_sorted_in_range.S319999 ![0] μ Cert.Pre_sorted_in_range.Facts.slices_S320000_S319999_0 (ix1 ⟨r, by omega⟩) = μ (ix1 ⟨r, by omega⟩) := by
    refine congrArg μ (funext fun a => ?_)
    obtain rfl : a = 0 := Subsingleton.elim _ _
    exact Fin.ext (Nat.zero_add r)
  have f2 : extractStridedSlice Cert.Pre_sorted_in_range.S319999 ![1] μ Cert.Pre_sorted_in_range.Facts.slices_S320000_S319999_1 (ix1 ⟨r, by omega⟩) = μ (ix1 ⟨r + 1, hr⟩) := by
    refine congrArg μ (funext fun a => ?_)
    obtain rfl : a = 0 := Subsingleton.elim _ _
    exact Fin.ext (Nat.add_comm 1 r)
  change BitVec.ofBool ((extractStridedSlice Cert.Pre_sorted_in_range.S319999 ![0] μ Cert.Pre_sorted_in_range.Facts.slices_S320000_S319999_0 (ix1 ⟨r, by omega⟩)).sle
    (extractStridedSlice Cert.Pre_sorted_in_range.S319999 ![1] μ Cert.Pre_sorted_in_range.Facts.slices_S320000_S319999_1 (ix1 ⟨r, by omega⟩))) = 1#1 at a3
  rw [f1, f2] at a3
  have b3 := one_iff.mp a3
  rw [BitVec.sle_eq_decide, decide_eq_true_eq, e1, e2] at b3
  exact_mod_cast b3

end Cert.Proof.TileI

end
-- ==== Proof.TileI.Frame.lean ====
/-
  The run of the kernel from a memory that meets the precondition: the arguments are unchanged, every semaphore is at zero.
-/
module

public import proofs.«01_k».proof.Proof.TileI.Host

@[expose] public section

noncomputable section

namespace Cert.Proof.TileI

open Cert.KernelIdeal Cert.KernelIdeal.Gen
open Idealize.ShloMosaic

variable {F : FTy → Type} [FloatOps F]
variable (m : (ℓ : Loc nD τ sig) → Buf (Elt F) ℓ)

theorem Vend_eq (d : Dev nD) (g : S2560000.Idx → Elt F .f32) {r : Ref sig .tc} (h : r ≠ main_v19)
    (h' : Proc.devRef (τ := τ) .tc r ≠ o') : Vend m d g (Proc.devRef .tc r) = V3 m d (Proc.devRef .tc r) :=
  (StableHlo.reshape_result_ne (h := h) ..).trans (Function.update_of_ne h' _ _)

theorem frame [hp : Cert.Pre_sorted_in_range.Facts] [∀ e, Nonempty (Elt F e)] (ρ : Dev nD → PrngReg)
    (h : ∀ c : Dev nD, Cert.Pre_sorted_in_range.fn (F := F) (m (c, p')) (m (c, q')) (m (c, g')) = fun _ => 1#1) :
    θ_run Cert.KernelIdeal.defs Cert.KernelIdeal.threads ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine (θ_run _ _ _).mono (fun r hr => ⟨fun d => ?_, hr.2⟩) (run_main m ρ (bounds_ok m fun d => sorted_of_pre _ _ _ (h d)))
  obtain ⟨g, -, e0, e1, e2, -⟩ := hr.1 d
  exact ⟨e0.trans ((Vend_eq m d g (by decide) (by decide)).trans (V3_p m d)), e1.trans ((Vend_eq m d g (by decide) (by decide)).trans (V3_q m d)),
    e2.trans ((Vend_eq m d g (by decide) (by decide)).trans (V3_g m d))⟩

end Cert.Proof.TileI

end
-- ==== Proof.TileI.Result.lean ====
/-
  The kernel's result, element by element: the sum, or the maximum, of the rows of its segment, cut off below at zero.
-/
module

public import proofs.«01_k».proof.Proof.TileI.Value
public import proofs.«01_k».proof.Proof.TileI.Frame

@[expose] public section

noncomputable section

namespace Cert.Proof.TileI

open Cert.KernelIdeal Cert.KernelIdeal.Gen
open Cert.Proof.Words Cert.Proof.Lanes Cert.Proof.Sums
open Idealize.ShloMosaic Idealize.ShloMosaic.ValueIdx
open Idealize.ShloMosaic.StableHlo (after)

variable (m : (ℓ : Loc nD τ sig) → Buf (Elt Ideal) ℓ)

theorem V3_x (d : Dev nD) : V3 m d x' = shapeCast S40960000 (m (d, p')) shapeCasts_S320000x128_S40960000 := by
  unfold V3 ops
  after_results_simp
  rfl

theorem rows_at (d : Dev nD) (r : Fin 320000) (c : Fin 128) : rows (inp m) d (r.val * 128 + c.val) = m (d, p') (ix2 r c) := by
  have hr := r.isLt; have hc := c.isLt
  show nat1 _ (V3 m d x') _ = _
  rw [V3_x]
  unfold nat1
  refine shapeCast_apply _ _ _ (ix2 r c) ?_
  rw [Shape.rowMajor_val_two, Shape.rowMajor_val_one]
  show r.val * 128 + c.val = (r.val * 128 + c.val) % 40960000
  rw [Nat.mod_eq_of_lt (by omega)]

theorem Vend_r (d : Dev nD) (g : S2560000.Idx → Elt Ideal .f32) : Vend m d g r' = shapeCast S10000x256 g shapeCasts_S2560000_S10000x256 := by
  unfold Vend
  refine (StableHlo.reshape_result ..).trans ?_
  funext j
  exact congrFun (congrArg (fun f => shapeCast S10000x256 f shapeCasts_S2560000_S10000x256) (Function.update_self o' g (V3 m d))) j

theorem Sorted.mono {s : ℕ → BitVec 32} (h : Sorted s) (r : ℕ) : ∀ k, r + k < 320000 → (s r).toNat ≤ (s (r + k)).toNat
  | 0, _ => le_rfl
  | k + 1, hk => (h.mono r k (by omega)).trans (h.le (r + k) hk)

theorem ord (h : ∀ d, Sorted (nat1 (n := 320000) (by decide) (m (d, g')))) (d : Dev nD) (i : grid0.Coords) :
    Ord i (segs (inp m) d) (loOf (inp m) d i) (hiOf (inp m) d i) where
  seg := (bounds_ok m h d i).2
  le r q h1 h2 h3 := by
    have hhi := (bounds_ok m h d i).1.hi_le
    obtain ⟨k, rfl⟩ := Nat.exists_eq_add_of_le h2
    rw [segs_eq]
    exact (h d).mono r k (by omega)

theorem segRows_tile (h : ∀ d, Sorted (nat1 (n := 320000) (by decide) (m (d, g')))) (d : Dev nD) (i : grid0.Coords) (k : ℕ) (hk : k < 320) :
    segRows (segs (inp m) d) (loOf (inp m) d i) (hiOf (inp m) d i) (wid i * 320 + k)
      = (Finset.univ.filter fun r : Fin 320000 => (m (d, g') (ix1 r)).toNat = wid i * 320 + k).map Fin.valEmbedding := by
  have hs := h d
  rw [segRows_eq (N := 320000) (fun r hr e => ?_) (bounds_ok m h d i).1.hi_le]
  · refine congrArg _ (Finset.filter_congr fun r _ => ?_)
    rw [segs_eq, nat1_at _ r.isLt]
  · rw [segs_eq] at e
    unfold loOf hiOf
    rw [(bound_is m (i := i) hs 0 (by omega)).toNat, (bound_is m (i := i) hs 1 (by omega)).toNat]
    constructor
    · exact Nat.le_of_not_lt fun hc => absurd ((hs.below_iff (wid i + 0) hr).mpr hc) (by omega)
    · exact (hs.below_iff (wid i + 1) hr).mp (by omega)

theorem segSum_tile (h : ∀ d, Sorted (nat1 (n := 320000) (by decide) (m (d, g')))) (d : Dev nD) (i : grid0.Coords) (k : ℕ) (hk : k < 320) (c : Fin 128) :
    segSum (fun r c => rows (inp m) d (r * 128 + c)) (segs (inp m) d) (loOf (inp m) d i) (hiOf (inp m) d i) (wid i * 320 + k) c.val
      = sumAt (m (d, p')) (m (d, g')) (wid i * 320 + k) c := by
  unfold segSum sumAt
  rw [segRows_tile m h d i k hk, Finset.sum_map]
  exact Finset.sum_congr rfl fun r _ => rows_at m d r c

theorem segMax_tile (h : ∀ d, Sorted (nat1 (n := 320000) (by decide) (m (d, g')))) (d : Dev nD) (i : grid0.Coords) (k : ℕ) (hk : k < 320) (c : Fin 128) :
    segMax (fun r c => rows (inp m) d (r * 128 + c)) (segs (inp m) d) (loOf (inp m) d i) (hiOf (inp m) d i) (wid i * 320 + k) c.val
      = maxAt (m (d, p')) (m (d, g')) (wid i * 320 + k) c := by
  unfold segMax maxAt
  rw [segRows_tile m h d i k hk, Finset.sup_map]
  exact Finset.sup_congr rfl fun r _ => rows_at m d r c

/-- The element of the flat result that a tile's accumulator holds. -/
theorem flat_at (d : Dev nD) (g : S2560000.Idx → Elt Ideal .f32) (hg : ∀ c s, Res (inp m) d (at2 c s) g) (s : Fin 10000) (e : Fin 256) :
    ∃ i σ k, wid i * 320 + k = s.val ∧ k < 320 ∧ Reach i (fun r c => rows (inp m) d (r * 128 + c)) (segs (inp m) d) (loOf (inp m) d i) (hiOf (inp m) d i) σ
      ∧ Vend m d g r' (ix2 s e) = (fin i σ).acc (k * 256 + e.val) := by
  have hs := s.isLt; have he := e.isLt
  have hw : wid (at2 ⟨s.val / 320 % 2, by show _ < 2; omega⟩ ⟨s.val / 320 / 2, by show _ < 16; omega⟩) = s.val / 320 := by
    rw [wid_at2]; show 2 * (s.val / 320 / 2) + s.val / 320 % 2 = _; omega
  obtain ⟨σ, h1, h2⟩ := hg ⟨s.val / 320 % 2, by show _ < 2; omega⟩ ⟨s.val / 320 / 2, by show _ < 16; omega⟩
  refine ⟨_, σ, s.val % 320, by rw [hw]; omega, by omega, h1, ?_⟩
  rw [Vend_r, shapeCast_apply g _ _ (ix1 ⟨s.val * 256 + e.val, by omega⟩) (by rw [Shape.rowMajor_val_one, Shape.rowMajor_val_two]; rfl)]
  rw [h2 _ (mem_oWin.mpr (by rw [hw]; show _ ≤ s.val * 256 + e.val ∧ s.val * 256 + e.val < _; omega))]
  unfold outF
  rw [hw]
  refine congrArg _ ?_
  show s.val * 256 + e.val - _ = _
  omega

/-- The kernel's result at a segment and a column. -/
theorem result_at (h : ∀ d, Sorted (nat1 (n := 320000) (by decide) (m (d, g')))) (d : Dev nD) (g : S2560000.Idx → Elt Ideal .f32)
    (hg : ∀ c s, Res (inp m) d (at2 c s) g) (s : Fin 10000) (c : Fin 128) :
    Vend m d g r' (ix2 s ⟨c.val, by omega⟩) = max (sumAt (m (d, p')) (m (d, g')) s.val c) 0
    ∧ Vend m d g r' (ix2 s ⟨c.val + 128, by omega⟩) = max (maxAt (m (d, p')) (m (d, g')) s.val c) 0 := by
  constructor
  · obtain ⟨i, σ, k, hk, hk', hR, e⟩ := flat_at m d g hg s ⟨c.val, by omega⟩
    rw [e, ← hk, ← segSum_tile m h d i k hk' c]
    exact (reach_fin (ord m h d i) hR k c.val c.isLt).1
  · obtain ⟨i, σ, k, hk, hk', hR, e⟩ := flat_at m d g hg s ⟨c.val + 128, by omega⟩
    rw [e, ← hk, ← segMax_tile m h d i k hk' c]
    exact (reach_fin (ord m h d i) hR k c.val c.isLt).2

end Cert.Proof.TileI

end
-- ==== Proof.Reference.lean ====
/-
  The reference's result, element by element: the sum, or the maximum, of the rows of its segment, cut off below at zero.
-/
module

public import proofs.«01_k».proof.Proof.Sums
public import proofs.«01_k».proof.Proof.Gen.ReferenceIdeal
public import Idealize.ShloMosaic.PureOps.Ideal.Laws
public import Idealize.ShloMosaic.Lib.IdealHost
public import Idealize.ShloMosaic.Lib.Routing.OpsPair
public import Idealize.ShloMosaic.Lib.Pipeline.Value

@[expose] public section

noncomputable section

namespace Cert.Proof.Reference

open Cert.ReferenceIdeal Cert.ReferenceIdeal.Gen
open Cert.Proof.Sums
open Idealize.ShloMosaic Idealize.ShloMosaic.ValueIdx

/-! ## The reference's term, in pieces -/

variable (a : FVec Ideal S320000x128 .f32) (μ : IVec S320000 32)

def sums : FVec Ideal S10000x128 .f32 := (Host.scatterAdd (F := Ideal) (φ := .f32) scatter_S10000x128_S320000x1_S320000x128_1_0_0_1 (broadcastInDim S10000x128 ![] bcast_S_S10000x128 (constant (F := Ideal) S_ .f32 0x00000000#32)) (broadcastInDim S320000x1 ![0] bcast_S320000_S320000x1_0 μ) a)

def cnts : FVec Ideal S10000 .f32 := (Host.scatterAdd (F := Ideal) (φ := .f32) scatter_S10000_S320000x1_S320000_n_0_0_1 (broadcastInDim S10000 ![] bcast_S_S10000 (constant (F := Ideal) S_ .f32 0x00000000#32)) (broadcastInDim S320000x1 ![0] bcast_S320000_S320000x1_0 μ) (broadcastInDim S320000 ![] bcast_S_S320000 (constant (F := Ideal) S_ .f32 0x3F800000#32)))

def hits : IVec S10000x320000 1 := (cmpi .eq (broadcastInDim S10000x320000 ![0, 1] bcast_S1x320000_S10000x320000_0_1 (broadcastInDim S1x320000 ![1] bcast_S320000_S1x320000_1 μ)) (broadcastInDim S10000x320000 ![0, 1] bcast_S10000x1_S10000x320000_0_1 (broadcastInDim S10000x1 ![0] bcast_S10000_S10000x1_0 (iotaInDim S10000 32 0))))

def masked : FVec Ideal S10000x320000x128 .f32 := (select (broadcastInDim S10000x320000x128 ![0, 1, 2] bcast_S10000x320000x1_S10000x320000x128_0_1_2 (broadcastInDim S10000x320000x1 ![0, 1] bcast_S10000x320000_S10000x320000x1_0_1 (hits μ))) (broadcastInDim S10000x320000x128 ![0, 1, 2] bcast_S1x320000x128_S10000x320000x128_0_1_2 (broadcastInDim S1x320000x128 ![1, 2] bcast_S320000x128_S1x320000x128_1_2 a)) (broadcastInDim S10000x320000x128 ![] bcast_S_S10000x320000x128 (id (constant (F := Ideal) S_ .f32 0xFF800000#32))))

def maxs : FVec Ideal S10000x128 .f32 := (Host.reduce (FloatOps.maximumf (F := Ideal) (φ := .f32)) (masked a μ) (constant (F := Ideal) S_ .f32 0xFF800000#32) reducesTo_S10000x320000x128_S10000x128_d1 h_S_)

def full : IVec S10000x1 1 := (cmpf .ogt (broadcastInDim S10000x1 ![0] bcast_S10000_S10000x1_0 (cnts μ) : (⟨S10000x1, .f32⟩ : BufTy).Contents (Elt Ideal)) (broadcastInDim S10000x1 ![] bcast_S_S10000x1 (constant (F := Ideal) S_ .f32 0x00000000#32)))

def tops : FVec Ideal S10000x128 .f32 := (select (broadcastInDim S10000x128 ![0, 1] bcast_S10000x1_S10000x128_0_1 (full μ)) (maxs a μ) (broadcastInDim S10000x128 ![] bcast_S_S10000x128 (constant (F := Ideal) S_ .f32 0x00000000#32)))

def whole : FVec Ideal S10000x256 .f32 := maximumf (concatenate S10000x256 1 [⟨S10000x128, (sums a μ)⟩, ⟨S10000x128, tops a μ⟩] concatenates_S10000x128_S10000x128_S10000x256_d1) (broadcastInDim S10000x256 ![] bcast_S_S10000x256 (constant (F := Ideal) S_ .f32 0x00000000#32))

/-! ## The sums -/

theorem zero_f32 : (FloatOps.ofBits .f32 0x00000000#32 : Ideal .f32) = (0 : EReal) := Ideal.ofBits_zero_f32

theorem bot_f32 : (FloatOps.ofBits .f32 0xFF800000#32 : Ideal .f32) = (⊥ : EReal) := by
  show Ideal.ofBits .f32 0xFF800000#32 = ⊥
  simp [Ideal.ofBits, Ideal.ieee]

theorem eta2 {A B : ℕ} (j : (⟨2, ![A, B]⟩ : Shape).Idx) : j = ix2 (j 0) (j 1) := by
  funext x
  match x with
  | ⟨0, _⟩ => rfl
  | ⟨1, _⟩ => rfl

/-- The membership words as a column. -/
abbrev col : IVec S320000x1 32 := broadcastInDim S320000x1 ![0] bcast_S320000_S320000x1_0 μ

theorem col_at (r : Fin 320000) (z : Fin 1) : col μ (ix2 r z) = μ (ix1 r) := by
  refine congrArg μ (funext fun x => ?_)
  obtain rfl : x = 0 := Subsingleton.elim _ _
  rfl

theorem lands2 (j : S320000x128.Idx) (s : Fin 10000) (c : Fin 128) :
    scatter_S10000x128_S320000x1_S320000x128_1_0_0_1.resultIdx? j (col μ) = some (ix2 s c) ↔ (μ (ix1 (j 0))).toInt = s.val ∧ j 1 = c := by
  have w0 : scatter_S10000x128_S320000x1_S320000x128_1_0_0_1.window j 0 = 0 := rfl
  have w1 : scatter_S10000x128_S320000x1_S320000x128_1_0_0_1.window j 1 = (j 1).val := rfl
  have s1 : scatter_S10000x128_S320000x1_S320000x128_1_0_0_1.start j (col μ) 1 = 0 := rfl
  have s0 : scatter_S10000x128_S320000x1_S320000x128_1_0_0_1.start j (col μ) 0 = (μ (ix1 (j 0))).toInt := by
    rw [← col_at μ (j 0) 0]
    refine congrArg (fun q => (col μ q).toInt) (funext fun x => ?_)
    match x with
    | ⟨0, _⟩ => rfl
    | ⟨1, _⟩ => exact Subsingleton.elim (α := Fin 1) _ _
  rw [Routing.resultIdx?_ix2, w0, w1, s1, s0]
  constructor
  · rintro ⟨h1, h2⟩; exact ⟨by omega, Fin.ext (by omega)⟩
  · rintro ⟨h1, h2⟩; exact ⟨by omega, by rw [← h2]; omega⟩

theorem lands1 (j : S320000.Idx) (s : Fin 10000) :
    scatter_S10000_S320000x1_S320000_n_0_0_1.resultIdx? j (col μ) = some (ix1 s) ↔ (μ (ix1 (j 0))).toInt = s.val := by
  have w0 : scatter_S10000_S320000x1_S320000_n_0_0_1.window j 0 = 0 := rfl
  have s0 : scatter_S10000_S320000x1_S320000_n_0_0_1.start j (col μ) 0 = (μ (ix1 (j 0))).toInt := by
    rw [← col_at μ (j 0) 0]
    refine congrArg (fun q => (col μ q).toInt) (funext fun x => ?_)
    match x with
    | ⟨0, _⟩ => rfl
    | ⟨1, _⟩ => exact Subsingleton.elim (α := Fin 1) _ _
  rw [Routing.resultIdx?_ix1, w0, s0]
  omega

variable {a μ}

theorem sums_at (hμ : ∀ r, (μ (ix1 r)).toInt = ((μ (ix1 r)).toNat : ℤ)) (s : Fin 10000) (c : Fin 128) : sums a μ (ix2 s c) = sumAt a μ s.val c := by
  show Ideal.hostScatterAdd _ _ (col μ) a (ix2 s c) = _
  unfold Ideal.hostScatterAdd sumAt
  refine (congrArg (· + _) zero_f32).trans ((zero_add _).trans ?_)
  refine Finset.sum_bij' (fun j _ => j 0) (fun r _ => ix2 r c) ?_ ?_ ?_ ?_ ?_
  · intro j hj
    have := (lands2 μ j s c).mp (Finset.mem_filter.mp hj).2
    exact Finset.mem_filter.mpr ⟨Finset.mem_univ _, by exact_mod_cast (hμ (j 0)).symm.trans this.1⟩
  · intro r hr
    exact Finset.mem_filter.mpr ⟨Finset.mem_univ _, (lands2 μ _ s c).mpr ⟨by show (μ (ix1 r)).toInt = _; rw [hμ, (Finset.mem_filter.mp hr).2], rfl⟩⟩
  · intro j hj
    have := (lands2 μ j s c).mp (Finset.mem_filter.mp hj).2
    rw [← this.2]; exact (eta2 j).symm
  · intro r _; rfl
  · intro j hj
    have := (lands2 μ j s c).mp (Finset.mem_filter.mp hj).2
    rw [← this.2]; exact congrArg a (eta2 j)

theorem cnts_at (hμ : ∀ r, (μ (ix1 r)).toInt = ((μ (ix1 r)).toNat : ℤ)) (s : Fin 10000) :
    cnts μ (ix1 s) = ∑ _r ∈ Finset.univ.filter (fun r : Fin 320000 => (μ (ix1 r)).toNat = s.val), (1 : EReal) := by
  show Ideal.hostScatterAdd _ _ (col μ) _ (ix1 s) = _
  unfold Ideal.hostScatterAdd
  refine (congrArg (· + _) zero_f32).trans ((zero_add _).trans ?_)
  refine Finset.sum_bij' (fun j _ => j 0) (fun r _ => ix1 r) ?_ ?_ ?_ ?_ ?_
  · intro j hj
    have := (lands1 μ j s).mp (Finset.mem_filter.mp hj).2
    exact Finset.mem_filter.mpr ⟨Finset.mem_univ _, by exact_mod_cast (hμ (j 0)).symm.trans this⟩
  · intro r hr
    exact Finset.mem_filter.mpr ⟨Finset.mem_univ _, (lands1 μ _ s).mpr (by show (μ (ix1 r)).toInt = _; rw [hμ, (Finset.mem_filter.mp hr).2])⟩
  · intro j hj
    funext x
    obtain rfl : x = 0 := Subsingleton.elim _ _
    rfl
  · intro r _; rfl
  · intro j hj
    exact Ideal.ofBits_one_f32

/-! ## The maxima -/

theorem foldl_max_le {ι : Type} (f : ι → EReal) (y : EReal) : ∀ (l : List ι) (b : EReal), l.foldl (fun r n => max r (f n)) b ≤ y ↔ b ≤ y ∧ ∀ n ∈ l, f n ≤ y
  | [], b => by simp
  | n :: l, b => by
    rw [List.foldl_cons, foldl_max_le f y l, max_le_iff, List.forall_mem_cons, and_assoc]

theorem reduce_le {s t u : Shape} {axes : List (Fin s.rank)} (x : s.Idx → EReal) (v : u.Idx → EReal) (h : s.ReducesTo axes t) (hu : 0 < u.numel)
    (hv : ∀ i, v i = ⊥) (j : t.Idx) (y : EReal) :
    Host.reduce (FloatOps.maximumf (F := Ideal) (φ := .f32)) x v h hu j ≤ y ↔ ∀ i, h.drop i = j → x i ≤ y := by
  show List.foldl (fun r n => max r (x (s.rowMajor.symm n))) (v (Shape.Idx.first hu)) _ ≤ y ↔ _
  rw [foldl_max_le, hv]
  constructor
  · rintro ⟨-, h1⟩ i hi
    have := h1 (s.rowMajor i) (List.mem_filter.mpr ⟨List.mem_finRange _, decide_eq_true (by rw [Equiv.symm_apply_apply]; exact hi)⟩)
    rwa [Equiv.symm_apply_apply] at this
  · intro h1
    exact ⟨bot_le, fun n hn => h1 _ (of_decide_eq_true (List.mem_filter.mp hn).2)⟩

theorem cmpi_eq (x y : BitVec 32) : IntOp.cmpi .eq x y = 1#1 ↔ x = y := by
  have h : IntOp.cmpi .eq x y = BitVec.ofBool (x == y) := rfl
  rw [h, ← beq_iff_eq (a := x)]
  cases (x == y) <;> decide

theorem toNat_iff (w : BitVec 32) (s : Fin 10000) : w.toNat = s.val ↔ w = BitVec.ofNat 32 s.val := by
  have e : (BitVec.ofNat 32 s.val).toNat = s.val := by rw [BitVec.toNat_ofNat]; exact Nat.mod_eq_of_lt (by have := s.isLt; omega)
  constructor
  · intro h; exact BitVec.eq_of_toNat_eq (h.trans e.symm)
  · intro h; rw [h, e]

theorem masked_at (s : Fin 10000) (r : Fin 320000) (c : Fin 128) : masked a μ (ix3 s r c) = if (μ (ix1 r)).toNat = s.val then a (ix2 r c) else (⊥ : EReal) := by
  have e1 : ∀ f : IVec S10000x320000 1, broadcastInDim S10000x320000x128 ![0, 1, 2] bcast_S10000x320000x1_S10000x320000x128_0_1_2
      (broadcastInDim S10000x320000x1 ![0, 1] bcast_S10000x320000_S10000x320000x1_0_1 f) (ix3 s r c) = f (ix2 s r) := fun f => by
    refine congrArg f (funext fun x => ?_)
    match x with
    | ⟨0, _⟩ => rfl
    | ⟨1, _⟩ => rfl
  have e2 : broadcastInDim S10000x320000 ![0, 1] bcast_S1x320000_S10000x320000_0_1 (broadcastInDim S1x320000 ![1] bcast_S320000_S1x320000_1 μ) (ix2 s r) = μ (ix1 r) := by
    refine congrArg μ (funext fun x => ?_)
    obtain rfl : x = 0 := Subsingleton.elim _ _
    rfl
  have e3 : ∀ f : IVec S10000 32, broadcastInDim S10000x320000 ![0, 1] bcast_S10000x1_S10000x320000_0_1 (broadcastInDim S10000x1 ![0] bcast_S10000_S10000x1_0 f) (ix2 s r) = f (ix1 s) := fun f => by
    refine congrArg f (funext fun x => ?_)
    obtain rfl : x = 0 := Subsingleton.elim _ _
    rfl
  have e4 : broadcastInDim S10000x320000x128 ![0, 1, 2] bcast_S1x320000x128_S10000x320000x128_0_1_2 (broadcastInDim S1x320000x128 ![1, 2] bcast_S320000x128_S1x320000x128_1_2 a) (ix3 s r c)
      = a (ix2 r c) := by
    refine congrArg a (funext fun x => ?_)
    match x with
    | ⟨0, _⟩ => rfl
    | ⟨1, _⟩ => rfl
  unfold masked
  show Scalar.select (broadcastInDim S10000x320000x128 ![0, 1, 2] bcast_S10000x320000x1_S10000x320000x128_0_1_2 (broadcastInDim S10000x320000x1 ![0, 1] bcast_S10000x320000_S10000x320000x1_0_1 (hits μ)) (ix3 s r c))
    (broadcastInDim S10000x320000x128 ![0, 1, 2] bcast_S1x320000x128_S10000x320000x128_0_1_2 (broadcastInDim S1x320000x128 ![1, 2] bcast_S320000x128_S1x320000x128_1_2 a) (ix3 s r c)) (FloatOps.ofBits .f32 0xFF800000#32 : Ideal .f32) = _
  rw [e1, e4, bot_f32]
  show Scalar.select (IntOp.cmpi .eq (broadcastInDim S10000x320000 ![0, 1] bcast_S1x320000_S10000x320000_0_1 (broadcastInDim S1x320000 ![1] bcast_S320000_S1x320000_1 μ) (ix2 s r)) (broadcastInDim S10000x320000 ![0, 1] bcast_S10000x1_S10000x320000_0_1 (broadcastInDim S10000x1 ![0] bcast_S10000_S10000x1_0 (iotaInDim S10000 32 0)) (ix2 s r))) _ _ = _
  rw [e2, e3]
  show (if IntOp.cmpi .eq (μ (ix1 r)) (BitVec.ofNat 32 s.val) = 1#1 then a (ix2 r c) else (⊥ : EReal)) = _
  by_cases h : (μ (ix1 r)).toNat = s.val
  · rw [if_pos h, if_pos ((cmpi_eq _ _).mpr ((toNat_iff _ _).mp h))]
  · rw [if_neg h, if_neg fun q => h ((toNat_iff _ _).mpr ((cmpi_eq _ _).mp q))]

theorem drop_at (i : S10000x320000x128.Idx) (s : Fin 10000) (c : Fin 128) :
    Shape.ReducesTo.drop reducesTo_S10000x320000x128_S10000x128_d1 i = ix2 s c ↔ i 0 = s ∧ i 2 = c := by
  have v0 : (Shape.ReducesTo.drop reducesTo_S10000x320000x128_S10000x128_d1 i 0).val = (i 0).val := rfl
  have v1 : (Shape.ReducesTo.drop reducesTo_S10000x320000x128_S10000x128_d1 i 1).val = (i 2).val := rfl
  constructor
  · intro e
    rw [e] at v0 v1
    exact ⟨Fin.ext v0.symm, Fin.ext v1.symm⟩
  · rintro ⟨e0, e1⟩
    funext x
    match x with
    | ⟨0, _⟩ => exact Fin.ext (v0.trans (congrArg Fin.val e0))
    | ⟨1, _⟩ => exact Fin.ext (v1.trans (congrArg Fin.val e1))

theorem maxs_at (s : Fin 10000) (c : Fin 128) : maxs a μ (ix2 s c) = maxAt a μ s.val c := by
  refine eq_of_forall_ge_iff fun y => ?_
  unfold maxs maxAt
  rw [reduce_le (masked a μ) (constant (F := Ideal) S_ .f32 0xFF800000#32) _ _ (fun _ => bot_f32), Finset.sup_le_iff]
  constructor
  · intro h r hr
    have := h (ix3 s r c) ((drop_at _ s c).mpr ⟨rfl, rfl⟩)
    rwa [masked_at, if_pos (Finset.mem_filter.mp hr).2] at this
  · intro h i hi
    obtain ⟨e0, e2⟩ := (drop_at i s c).mp hi
    have e : i = ix3 s (i 1) c := by
      funext x
      match x with
      | ⟨0, _⟩ => exact e0
      | ⟨1, _⟩ => rfl
      | ⟨2, _⟩ => exact e2
    refine le_of_eq_of_le ((congrArg (masked a μ) e).trans (masked_at s (i 1) c)) ?_
    split
    · rename_i hr
      exact h (i 1) (Finset.mem_filter.mpr ⟨Finset.mem_univ _, hr⟩)
    · exact bot_le

/-! ## The whole -/

theorem whole_at (hμ : ∀ r, (μ (ix1 r)).toInt = ((μ (ix1 r)).toNat : ℤ)) (s : Fin 10000) (c : Fin 128) :
    whole a μ (ix2 s ⟨c.val, by omega⟩) = max (sumAt a μ s.val c) 0 ∧ whole a μ (ix2 s ⟨c.val + 128, by omega⟩) = max (maxAt a μ s.val c) 0 := by
  constructor
  · unfold whole
    show max (concatenate S10000x256 1 [⟨S10000x128, sums a μ⟩, ⟨S10000x128, tops a μ⟩] concatenates_S10000x128_S10000x128_S10000x256_d1 _) (FloatOps.ofBits .f32 0x00000000#32 : Ideal .f32) = _
    rw [concatenate_pair_apply_left 1 (sums a μ) (tops a μ) _ (ix2 s (⟨c.val, by have := c.isLt; omega⟩ : Fin 256)) rfl (ix2 s c) (fun b => by
      match b with
      | ⟨0, _⟩ => rfl
      | ⟨1, _⟩ => rfl), sums_at hμ, zero_f32]
  · unfold whole
    show max (concatenate S10000x256 1 [⟨S10000x128, sums a μ⟩, ⟨S10000x128, tops a μ⟩] concatenates_S10000x128_S10000x128_S10000x256_d1 _) (FloatOps.ofBits .f32 0x00000000#32 : Ideal .f32) = _
    rw [concatenate_pair_apply_right 1 (sums a μ) (tops a μ) _ (ix2 s (⟨c.val + 128, by have := c.isLt; omega⟩ : Fin 256)) rfl rfl (ix2 s c) (fun b hb => by
      match b with
      | ⟨0, _⟩ => rfl
      | ⟨1, _⟩ => exact absurd rfl hb) rfl, zero_f32]
    have e1 : ∀ f : IVec S10000x1 1, broadcastInDim S10000x128 ![0, 1] bcast_S10000x1_S10000x128_0_1 f (ix2 s c) = f (ix2 s 0) := fun f => by
      refine congrArg f (funext fun x => ?_)
      match x with
      | ⟨0, _⟩ => rfl
      | ⟨1, _⟩ => rfl
    have e2 : ∀ f : FVec Ideal S10000 .f32, broadcastInDim S10000x1 ![0] bcast_S10000_S10000x1_0 f (ix2 s (0 : Fin 1)) = f (ix1 s) := fun f => by
      refine congrArg f (funext fun x => ?_)
      obtain rfl : x = 0 := Subsingleton.elim _ _
      rfl
    have e3 : tops a μ (ix2 s c) = if Ideal.cmp .ogt (cnts μ (ix1 s)) (0 : EReal) = 1#1 then maxAt a μ s.val c else (0 : EReal) := by
      unfold tops
      show Scalar.select (broadcastInDim S10000x128 ![0, 1] bcast_S10000x1_S10000x128_0_1 (full μ) (ix2 s c)) (maxs a μ (ix2 s c)) (FloatOps.ofBits .f32 0x00000000#32 : Ideal .f32) = _
      rw [e1, maxs_at, zero_f32]
      have e5 : ∀ (u v : FVec Ideal S10000x1 .f32) j, cmpf .ogt u v j = Ideal.cmp .ogt (u j) (v j) := fun _ _ _ => rfl
      have e4 : full μ (ix2 s (0 : Fin 1)) = Ideal.cmp .ogt (broadcastInDim S10000x1 ![0] bcast_S10000_S10000x1_0 (cnts μ) (ix2 s (0 : Fin 1))) (FloatOps.ofBits .f32 0x00000000#32 : Ideal .f32) := by
        unfold full
        exact e5 _ _ _
      rw [e4]
      show (if _ = 1#1 then maxAt a μ s.val c else (0 : EReal)) = _
      rw [e2, zero_f32]
    rw [e3, cnts_at hμ]
    rcases (Finset.univ.filter (fun r : Fin 320000 => (μ (ix1 r)).toNat = s.val)).eq_empty_or_nonempty with he | ⟨r, hr⟩
    · unfold maxAt
      rw [he, Finset.sup_empty]
      split
      · rfl
      · rw [max_self]; exact (max_bot_left _).symm
    · rw [if_pos]
      have h1 : (1 : EReal) ≤ ∑ _r ∈ Finset.univ.filter (fun r : Fin 320000 => (μ (ix1 r)).toNat = s.val), (1 : EReal) :=
        Finset.single_le_sum (f := fun _ => (1 : EReal)) (fun _ _ => zero_le_one) hr
      have h2 := lt_of_lt_of_le zero_lt_one h1
      generalize (∑ _r ∈ Finset.univ.filter (fun r : Fin 320000 => (μ (ix1 r)).toNat = s.val), (1 : EReal)) = y at h2
      show BitVec.ofBool (decide (0 < y)) = 1#1
      rw [decide_eq_true h2]
      rfl

end Cert.Proof.Reference

end
-- ==== Proof.lean ====
/-
  The proof of the claim. The kernel's run, in both readings of its floats, is that of `Proof/Tile` and `Proof/TileI`; the reference's is
  read off its list of host operations. Both results are, element by element, the same sum or maximum.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_sorted_in_range
public import proofs.«01_k».proof.Proof.Tile.Frame
public import proofs.«01_k».proof.Proof.TileI.Result
public import proofs.«01_k».proof.Proof.Reference
public import Idealize.ShloMosaic.Adequacy
public import Idealize.ShloMosaic.Init

@[expose] public section

noncomputable section

namespace Cert.Proof

open Idealize.ShloMosaic

theorem frame_kernel : Cert.quiescent_Kernel := fun m ρ h => Tile.frame (F := Bits) m ρ h

theorem frame_kernelIdeal : Cert.quiescent_KernelIdeal := fun m ρ h => TileI.frame (F := Ideal) m ρ h

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

open Idealize.ShloMosaic.ValueIdx in
/-- The kernel's result is the reference's term of the same arguments. -/
theorem same (m : (ℓ : Loc Cert.KernelIdeal.nD Cert.KernelIdeal.τ Cert.KernelIdeal.sig) → Buf (Elt Ideal) ℓ)
    (h : ∀ d, TileI.Sorted (TileI.nat1 (n := 320000) (by decide) (m (d, TileI.g')))) (d : Dev Cert.KernelIdeal.nD) (g : Cert.KernelIdeal.S2560000.Idx → Elt Ideal .f32)
    (hg : ∀ c s, TileI.Res (TileI.inp m) d (TileI.at2 c s) g) :
    TileI.Vend m d g TileI.r' = Reference.whole (m (d, TileI.p')) (m (d, TileI.g')) := by
  have hμ : ∀ r : Fin 320000, (m (d, TileI.g') (ix1 r) : BitVec 32).toInt = ((m (d, TileI.g') (ix1 r) : BitVec 32).toNat : ℤ) := fun r => by
    have e : TileI.nat1 (n := 320000) (by decide) (m (d, TileI.g')) r.val = m (d, TileI.g') (ix1 r) :=
      congrArg (m (d, TileI.g')) (funext fun (x : Fin 1) => match x with | 0 => Fin.ext (Nat.mod_eq_of_lt r.isLt))
    rw [← e]
    exact ((h d).is r.val r.isLt).toInt
  refine funext fun (j : (⟨2, ![10000, 256]⟩ : Shape).Idx) => ?_
  rw [Reference.eta2 j]
  generalize j 0 = s
  generalize hk : j 1 = k
  clear hk
  obtain ⟨k, hk⟩ : ∃ q : Fin 256, q = k := ⟨k, rfl⟩
  subst hk
  by_cases hc : k.val < 128
  · exact (TileI.result_at m h d g hg s ⟨k.val, hc⟩).1.trans (Reference.whole_at hμ s ⟨k.val, hc⟩).1.symm
  · have e : k = ⟨k.val - 128 + 128, by have := k.isLt; omega⟩ := Fin.ext (by show k.val = k.val - 128 + 128; omega)
    rw [e]
    exact (TileI.result_at m h d g hg s ⟨k.val - 128, by have := k.isLt; omega⟩).2.trans (Reference.whole_at hμ s ⟨k.val - 128, by have := k.isLt; omega⟩).2.symm

theorem algebraic : Cert.algebraic_KernelIdeal_ReferenceIdeal := fun m g m' g' h hm => by
  have hs := fun d => TileI.sorted_of_pre _ _ _ (h d)
  refine ⟨fun c => Reference.whole (m (c, TileI.p')) (m (c, TileI.g')), (θ_run _ _ _).mono (fun r hr c => ?_) (TileI.run_main m g (TileI.bounds_ok m hs)),
    (θ_run _ _ _).mono (fun r hr c => ⟨(hr c).1.trans ?_, (hr c).2⟩) (Cert.ReferenceIdeal.Value.run m' g')⟩
  · obtain ⟨g0, hg, e0, e1, e2, e3⟩ := hr.1 c
    exact ⟨e3.trans (same m hs c g0 hg), e0.trans ((TileI.Vend_eq m c g0 (by decide) (by decide)).trans (TileI.V3_p m c)),
      e1.trans ((TileI.Vend_eq m c g0 (by decide) (by decide)).trans (TileI.V3_q m c)),
      e2.trans ((TileI.Vend_eq m c g0 (by decide) (by decide)).trans (TileI.V3_g m c))⟩
  · show Reference.whole (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) = _
    rw [(hm c).1, (hm c).2.2]

theorem claim : Cert.Claim := ⟨Cert.Kernel.Gen.facts, Cert.KernelIdeal.Gen.facts, Cert.ReferenceIdeal.Gen.facts, Cert.Pre_sorted_in_range.Gen.facts,
  frame_kernel, frame_kernelIdeal, frame_reference, trivial, algebraic⟩

end Cert.Proof

end
